-- ==== Defs.lean ====
def Pre_Dq (m : (ℓ : Loc Cert.Dq.nD Cert.Dq.τ Cert.Dq.sig) → Buf (Elt Bits) ℓ) : Prop :=
  True

def Pre_DqIdeal (m : (ℓ : Loc Cert.DqIdeal.nD Cert.DqIdeal.τ Cert.DqIdeal.sig) → Buf (Elt Ideal) ℓ) : Prop :=
  True

def Pre_DqIdeal_finite_dq [hPre_finite_dq : Cert.Pre_finite_dq.Facts] (m : (ℓ : Loc Cert.DqIdeal.nD Cert.DqIdeal.τ Cert.DqIdeal.sig) → Buf (Elt Ideal) ℓ) : Prop :=
  ∀ c : Dev Cert.DqIdeal.nD,
    (Cert.Pre_finite_dq.fn (F := Ideal) (m ((c.tc : Thread Cert.DqIdeal.nD Cert.DqIdeal.τ).loc Cert.DqIdeal.main_arg0)) (m ((c.tc : Thread Cert.DqIdeal.nD Cert.DqIdeal.τ).loc Cert.DqIdeal.main_arg1)) (m ((c.tc : Thread Cert.DqIdeal.nD Cert.DqIdeal.τ).loc Cert.DqIdeal.main_arg2))) = (fun _ => 1#1)

def Pre_RefDqIdeal (m : (ℓ : Loc Cert.RefDqIdeal.nD Cert.RefDqIdeal.τ Cert.RefDqIdeal.sig) → Buf (Elt Ideal) ℓ) : Prop :=
  True

def Pre_RefDqIdeal_finite_dq [hPre_finite_dq : Cert.Pre_finite_dq.Facts] (m : (ℓ : Loc Cert.RefDqIdeal.nD Cert.RefDqIdeal.τ Cert.RefDqIdeal.sig) → Buf (Elt Ideal) ℓ) : Prop :=
  ∀ c : Dev Cert.RefDqIdeal.nD,
    (Cert.Pre_finite_dq.fn (F := Ideal) (m ((c.tc : Thread Cert.RefDqIdeal.nD Cert.RefDqIdeal.τ).loc Cert.RefDqIdeal.main_arg0)) (m ((c.tc : Thread Cert.RefDqIdeal.nD Cert.RefDqIdeal.τ).loc Cert.RefDqIdeal.main_arg1)) (m ((c.tc : Thread Cert.RefDqIdeal.nD Cert.RefDqIdeal.τ).loc Cert.RefDqIdeal.main_arg2))) = (fun _ => 1#1)

def Pre_Dkv (m : (ℓ : Loc Cert.Dkv.nD Cert.Dkv.τ Cert.Dkv.sig) → Buf (Elt Bits) ℓ) : Prop :=
  True

def Pre_DkvIdeal (m : (ℓ : Loc Cert.DkvIdeal.nD Cert.DkvIdeal.τ Cert.DkvIdeal.sig) → Buf (Elt Ideal) ℓ) : Prop :=
  True

def Pre_DkvIdeal_finite_dkv [hPre_finite_dkv : Cert.Pre_finite_dkv.Facts] (m : (ℓ : Loc Cert.DkvIdeal.nD Cert.DkvIdeal.τ Cert.DkvIdeal.sig) → Buf (Elt Ideal) ℓ) : Prop :=
  ∀ c : Dev Cert.DkvIdeal.nD,
    (Cert.Pre_finite_dkv.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2)) (m ((c.tc : Thread Cert.DkvIdeal.nD Cert.DkvIdeal.τ).loc Cert.DkvIdeal.main_arg3))) = (fun _ => 1#1)

def Pre_RefDkvIdeal (m : (ℓ : Loc Cert.RefDkvIdeal.nD Cert.RefDkvIdeal.τ Cert.RefDkvIdeal.sig) → Buf (Elt Ideal) ℓ) : Prop :=
  True

def Pre_RefDkvIdeal_finite_dkv [hPre_finite_dkv : Cert.Pre_finite_dkv.Facts] (m : (ℓ : Loc Cert.RefDkvIdeal.nD Cert.RefDkvIdeal.τ Cert.RefDkvIdeal.sig) → Buf (Elt Ideal) ℓ) : Prop :=
  ∀ c : Dev Cert.RefDkvIdeal.nD,
    (Cert.Pre_finite_dkv.fn (F := Ideal) (m ((c.tc : Thread Cert.RefDkvIdeal.nD Cert.RefDkvIdeal.τ).loc Cert.RefDkvIdeal.main_arg0)) (m ((c.tc : Thread Cert.RefDkvIdeal.nD Cert.RefDkvIdeal.τ).loc Cert.RefDkvIdeal.main_arg1)) (m ((c.tc : Thread Cert.RefDkvIdeal.nD Cert.RefDkvIdeal.τ).loc Cert.RefDkvIdeal.main_arg2)) (m ((c.tc : Thread Cert.RefDkvIdeal.nD Cert.RefDkvIdeal.τ).loc Cert.RefDkvIdeal.main_arg3))) = (fun _ => 1#1)

def Pre_MlpOutDx (m : (ℓ : Loc Cert.MlpOutDx.nD Cert.MlpOutDx.τ Cert.MlpOutDx.sig) → Buf (Elt Bits) ℓ) : Prop :=
  True

def Pre_MlpOutDxIdeal (m : (ℓ : Loc Cert.MlpOutDxIdeal.nD Cert.MlpOutDxIdeal.τ Cert.MlpOutDxIdeal.sig) → Buf (Elt Ideal) ℓ) : Prop :=
  True

def Pre_RefMlpOutDxIdeal (m : (ℓ : Loc Cert.RefMlpOutDxIdeal.nD Cert.RefMlpOutDxIdeal.τ Cert.RefMlpOutDxIdeal.sig) → Buf (Elt Ideal) ℓ) : Prop :=
  True

def Pre_MlpOutDw (m : (ℓ : Loc Cert.MlpOutDw.nD Cert.MlpOutDw.τ Cert.MlpOutDw.sig) → Buf (Elt Bits) ℓ) : Prop :=
  True

def Pre_MlpOutDwIdeal (m : (ℓ : Loc Cert.MlpOutDwIdeal.nD Cert.MlpOutDwIdeal.τ Cert.MlpOutDwIdeal.sig) → Buf (Elt Ideal) ℓ) : Prop :=
  True

def Pre_RefMlpOutDwIdeal (m : (ℓ : Loc Cert.RefMlpOutDwIdeal.nD Cert.RefMlpOutDwIdeal.τ Cert.RefMlpOutDwIdeal.sig) → Buf (Elt Ideal) ℓ) : Prop :=
  True

def Pre_MlpInDx (m : (ℓ : Loc Cert.MlpInDx.nD Cert.MlpInDx.τ Cert.MlpInDx.sig) → Buf (Elt Bits) ℓ) : Prop :=
  True

def Pre_MlpInDxIdeal (m : (ℓ : Loc Cert.MlpInDxIdeal.nD Cert.MlpInDxIdeal.τ Cert.MlpInDxIdeal.sig) → Buf (Elt Ideal) ℓ) : Prop :=
  True

def Pre_RefMlpInDxIdeal (m : (ℓ : Loc Cert.RefMlpInDxIdeal.nD Cert.RefMlpInDxIdeal.τ Cert.RefMlpInDxIdeal.sig) → Buf (Elt Ideal) ℓ) : Prop :=
  True

def Pre_MlpInDw (m : (ℓ : Loc Cert.MlpInDw.nD Cert.MlpInDw.τ Cert.MlpInDw.sig) → Buf (Elt Bits) ℓ) : Prop :=
  True

def Pre_MlpInDwIdeal (m : (ℓ : Loc Cert.MlpInDwIdeal.nD Cert.MlpInDwIdeal.τ Cert.MlpInDwIdeal.sig) → Buf (Elt Ideal) ℓ) : Prop :=
  True

def Pre_RefMlpInDwIdeal (m : (ℓ : Loc Cert.RefMlpInDwIdeal.nD Cert.RefMlpInDwIdeal.τ Cert.RefMlpInDwIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_RefMlpInIdeal (m : (ℓ : Loc Cert.RefMlpInIdeal.nD Cert.RefMlpInIdeal.τ Cert.RefMlpInIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_RefMlpOutIdeal (m : (ℓ : Loc Cert.RefMlpOutIdeal.nD Cert.RefMlpOutIdeal.τ Cert.RefMlpOutIdeal.sig) → Buf (Elt Ideal) ℓ) : Prop :=
  True

def Pre_RetProjDx (m : (ℓ : Loc Cert.RetProjDx.nD Cert.RetProjDx.τ Cert.RetProjDx.sig) → Buf (Elt Bits) ℓ) : Prop :=
  True

def Pre_RetProjDxIdeal (m : (ℓ : Loc Cert.RetProjDxIdeal.nD Cert.RetProjDxIdeal.τ Cert.RetProjDxIdeal.sig) → Buf (Elt Ideal) ℓ) : Prop :=
  True

def Pre_RefRetProjDxIdeal (m : (ℓ : Loc Cert.RefRetProjDxIdeal.nD Cert.RefRetProjDxIdeal.τ Cert.RefRetProjDxIdeal.sig) → Buf (Elt Ideal) ℓ) : Prop :=
  True

def Pre_RetProjDw (m : (ℓ : Loc Cert.RetProjDw.nD Cert.RetProjDw.τ Cert.RetProjDw.sig) → Buf (Elt Bits) ℓ) : Prop :=
  True

def Pre_RetProjDwIdeal (m : (ℓ : Loc Cert.RetProjDwIdeal.nD Cert.RetProjDwIdeal.τ Cert.RetProjDwIdeal.sig) → Buf (Elt Ideal) ℓ) : Prop :=
  True

def Pre_RefRetProjDwIdeal (m : (ℓ : Loc Cert.RefRetProjDwIdeal.nD Cert.RefRetProjDwIdeal.τ Cert.RefRetProjDwIdeal.sig) → Buf (Elt Ideal) ℓ) : Prop :=
  True

def Pre_RetOutDx (m : (ℓ : Loc Cert.RetOutDx.nD Cert.RetOutDx.τ Cert.RetOutDx.sig) → Buf (Elt Bits) ℓ) : Prop :=
  True

def Pre_RetOutDxIdeal (m : (ℓ : Loc Cert.RetOutDxIdeal.nD Cert.RetOutDxIdeal.τ Cert.RetOutDxIdeal.sig) → Buf (Elt Ideal) ℓ) : Prop :=
  True

def Pre_RefRetOutDxIdeal (m : (ℓ : Loc Cert.RefRetOutDxIdeal.nD Cert.RefRetOutDxIdeal.τ Cert.RefRetOutDxIdeal.sig) → Buf (Elt Ideal) ℓ) : Prop :=
  True

def Pre_RetOutDw (m : (ℓ : Loc Cert.RetOutDw.nD Cert.RetOutDw.τ Cert.RetOutDw.sig) → Buf (Elt Bits) ℓ) : Prop :=
  True

def Pre_RetOutDwIdeal (m : (ℓ : Loc Cert.RetOutDwIdeal.nD Cert.RetOutDwIdeal.τ Cert.RetOutDwIdeal.sig) → Buf (Elt Ideal) ℓ) : Prop :=
  True

def Pre_RefRetOutDwIdeal (m : (ℓ : Loc Cert.RefRetOutDwIdeal.nD Cert.RefRetOutDwIdeal.τ Cert.RefRetOutDwIdeal.sig) → Buf (Elt Ideal) ℓ) : Prop :=
  True

def Pre_FoxProjDx (m : (ℓ : Loc Cert.FoxProjDx.nD Cert.FoxProjDx.τ Cert.FoxProjDx.sig) → Buf (Elt Bits) ℓ) : Prop :=
  True

def Pre_FoxProjDxIdeal (m : (ℓ : Loc Cert.FoxProjDxIdeal.nD Cert.FoxProjDxIdeal.τ Cert.FoxProjDxIdeal.sig) → Buf (Elt Ideal) ℓ) : Prop :=
  True

def Pre_RefFoxProjDxIdeal (m : (ℓ : Loc Cert.RefFoxProjDxIdeal.nD Cert.RefFoxProjDxIdeal.τ Cert.RefFoxProjDxIdeal.sig) → Buf (Elt Ideal) ℓ) : Prop :=
  True

def Pre_FoxProjDw (m : (ℓ : Loc Cert.FoxProjDw.nD Cert.FoxProjDw.τ Cert.FoxProjDw.sig) → Buf (Elt Bits) ℓ) : Prop :=
  True

def Pre_FoxProjDwIdeal (m : (ℓ : Loc Cert.FoxProjDwIdeal.nD Cert.FoxProjDwIdeal.τ Cert.FoxProjDwIdeal.sig) → Buf (Elt Ideal) ℓ) : Prop :=
  True

def Pre_RefFoxProjDwIdeal (m : (ℓ : Loc Cert.RefFoxProjDwIdeal.nD Cert.RefFoxProjDwIdeal.τ Cert.RefFoxProjDwIdeal.sig) → Buf (Elt Ideal) ℓ) : Prop :=
  True

def Pre_FoxOutDx (m : (ℓ : Loc Cert.FoxOutDx.nD Cert.FoxOutDx.τ Cert.FoxOutDx.sig) → Buf (Elt Bits) ℓ) : Prop :=
  True

def Pre_FoxOutDxIdeal (m : (ℓ : Loc Cert.FoxOutDxIdeal.nD Cert.FoxOutDxIdeal.τ Cert.FoxOutDxIdeal.sig) → Buf (Elt Ideal) ℓ) : Prop :=
  True

def Pre_RefFoxOutDxIdeal (m : (ℓ : Loc Cert.RefFoxOutDxIdeal.nD Cert.RefFoxOutDxIdeal.τ Cert.RefFoxOutDxIdeal.sig) → Buf (Elt Ideal) ℓ) : Prop :=
  True

def Pre_FoxOutDw (m : (ℓ : Loc Cert.FoxOutDw.nD Cert.FoxOutDw.τ Cert.FoxOutDw.sig) → Buf (Elt Bits) ℓ) : Prop :=
  True

def Pre_FoxOutDwIdeal (m : (ℓ : Loc Cert.FoxOutDwIdeal.nD Cert.FoxOutDwIdeal.τ Cert.FoxOutDwIdeal.sig) → Buf (Elt Ideal) ℓ) : Prop :=
  True

def Pre_RefFoxOutDwIdeal (m : (ℓ : Loc Cert.RefFoxOutDwIdeal.nD Cert.RefFoxOutDwIdeal.τ Cert.RefFoxOutDwIdeal.sig) → Buf (Elt Ideal) ℓ) : Prop :=
  True

def Pre_KvProjDx (m : (ℓ : Loc Cert.KvProjDx.nD Cert.KvProjDx.τ Cert.KvProjDx.sig) → Buf (Elt Bits) ℓ) : Prop :=
  True

def Pre_KvProjDxIdeal (m : (ℓ : Loc Cert.KvProjDxIdeal.nD Cert.KvProjDxIdeal.τ Cert.KvProjDxIdeal.sig) → Buf (Elt Ideal) ℓ) : Prop :=
  True

def Pre_RefKvProjDxIdeal (m : (ℓ : Loc Cert.RefKvProjDxIdeal.nD Cert.RefKvProjDxIdeal.τ Cert.RefKvProjDxIdeal.sig) → Buf (Elt Ideal) ℓ) : Prop :=
  True

def Pre_KvProjDw (m : (ℓ : Loc Cert.KvProjDw.nD Cert.KvProjDw.τ Cert.KvProjDw.sig) → Buf (Elt Bits) ℓ) : Prop :=
  True

def Pre_KvProjDwIdeal (m : (ℓ : Loc Cert.KvProjDwIdeal.nD Cert.KvProjDwIdeal.τ Cert.KvProjDwIdeal.sig) → Buf (Elt Ideal) ℓ) : Prop :=
  True

def Pre_RefKvProjDwIdeal (m : (ℓ : Loc Cert.RefKvProjDwIdeal.nD Cert.RefKvProjDwIdeal.τ Cert.RefKvProjDwIdeal.sig) → Buf (Elt Ideal) ℓ) : Prop :=
  True

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RefRetProjIdeal (m : (ℓ : Loc Cert.RefRetProjIdeal.nD Cert.RefRetProjIdeal.τ Cert.RefRetProjIdeal.sig) → Buf (Elt Ideal) ℓ) : Prop :=
  True

def Pre_FoxProj (m : (ℓ : Loc Cert.FoxProj.nD Cert.FoxProj.τ Cert.FoxProj.sig) → Buf (Elt Bits) ℓ) : Prop :=
  True

def Pre_FoxProjIdeal (m : (ℓ : Loc Cert.FoxProjIdeal.nD Cert.FoxProjIdeal.τ Cert.FoxProjIdeal.sig) → Buf (Elt Ideal) ℓ) : Prop :=
  True

def Pre_RefFoxProjIdeal (m : (ℓ : Loc Cert.RefFoxProjIdeal.nD Cert.RefFoxProjIdeal.τ Cert.RefFoxProjIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_RefKvProjIdeal (m : (ℓ : Loc Cert.RefKvProjIdeal.nD Cert.RefKvProjIdeal.τ Cert.RefKvProjIdeal.sig) → Buf (Elt Ideal) ℓ) : Prop :=
  True

def Pre_RetFwd (m : (ℓ : Loc Cert.RetFwd.nD Cert.RetFwd.τ Cert.RetFwd.sig) → Buf (Elt Bits) ℓ) : Prop :=
  True

def Pre_RetFwdIdeal (m : (ℓ : Loc Cert.RetFwdIdeal.nD Cert.RetFwdIdeal.τ Cert.RetFwdIdeal.sig) → Buf (Elt Ideal) ℓ) : Prop :=
  True

def Pre_RetFwdIdeal_finite_ret_fwd [hPre_finite_ret_fwd : Cert.Pre_finite_ret_fwd.Facts] (m : (ℓ : Loc Cert.RetFwdIdeal.nD Cert.RetFwdIdeal.τ Cert.RetFwdIdeal.sig) → Buf (Elt Ideal) ℓ) : Prop :=
  ∀ c : Dev Cert.RetFwdIdeal.nD,
    (Cert.Pre_finite_ret_fwd.fn (F := Ideal) (m ((c.tc : Thread Cert.RetFwdIdeal.nD Cert.RetFwdIdeal.τ).loc Cert.RetFwdIdeal.main_arg0)) (m ((c.tc : Thread Cert.RetFwdIdeal.nD Cert.RetFwdIdeal.τ).loc Cert.RetFwdIdeal.main_arg1)) (m ((c.tc : Thread Cert.RetFwdIdeal.nD Cert.RetFwdIdeal.τ).loc Cert.RetFwdIdeal.main_arg2))) = (fun _ => 1#1)

def Pre_RefRetFwdIdeal (m : (ℓ : Loc Cert.RefRetFwdIdeal.nD Cert.RefRetFwdIdeal.τ Cert.RefRetFwdIdeal.sig) → Buf (Elt Ideal) ℓ) : Prop :=
  True

def Pre_RefRetFwdIdeal_finite_ret_fwd [hPre_finite_ret_fwd : Cert.Pre_finite_ret_fwd.Facts] (m : (ℓ : Loc Cert.RefRetFwdIdeal.nD Cert.RefRetFwdIdeal.τ Cert.RefRetFwdIdeal.sig) → Buf (Elt Ideal) ℓ) : Prop :=
  ∀ c : Dev Cert.RefRetFwdIdeal.nD,
    (Cert.Pre_finite_ret_fwd.fn (F := Ideal) (m ((c.tc : Thread Cert.RefRetFwdIdeal.nD Cert.RefRetFwdIdeal.τ).loc Cert.RefRetFwdIdeal.main_arg0)) (m ((c.tc : Thread Cert.RefRetFwdIdeal.nD Cert.RefRetFwdIdeal.τ).loc Cert.RefRetFwdIdeal.main_arg1)) (m ((c.tc : Thread Cert.RefRetFwdIdeal.nD Cert.RefRetFwdIdeal.τ).loc Cert.RefRetFwdIdeal.main_arg2))) = (fun _ => 1#1)

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdIdeal_finite_fox_fwd [hPre_finite_fox_fwd : Cert.Pre_finite_fox_fwd.Facts] (m : (ℓ : Loc Cert.FoxFwdIdeal.nD Cert.FoxFwdIdeal.τ Cert.FoxFwdIdeal.sig) → Buf (Elt Ideal) ℓ) : Prop :=
  ∀ c : Dev Cert.FoxFwdIdeal.nD,
    (Cert.Pre_finite_fox_fwd.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))) = (fun _ => 1#1)

def Pre_RefFoxFwdIdeal (m : (ℓ : Loc Cert.RefFoxFwdIdeal.nD Cert.RefFoxFwdIdeal.τ Cert.RefFoxFwdIdeal.sig) → Buf (Elt Ideal) ℓ) : Prop :=
  True

def Pre_RefFoxFwdIdeal_finite_fox_fwd [hPre_finite_fox_fwd : Cert.Pre_finite_fox_fwd.Facts] (m : (ℓ : Loc Cert.RefFoxFwdIdeal.nD Cert.RefFoxFwdIdeal.τ Cert.RefFoxFwdIdeal.sig) → Buf (Elt Ideal) ℓ) : Prop :=
  ∀ c : Dev Cert.RefFoxFwdIdeal.nD,
    (Cert.Pre_finite_fox_fwd.fn (F := Ideal) (m ((c.tc : Thread Cert.RefFoxFwdIdeal.nD Cert.RefFoxFwdIdeal.τ).loc Cert.RefFoxFwdIdeal.main_arg0)) (m ((c.tc : Thread Cert.RefFoxFwdIdeal.nD Cert.RefFoxFwdIdeal.τ).loc Cert.RefFoxFwdIdeal.main_arg1)) (m ((c.tc : Thread Cert.RefFoxFwdIdeal.nD Cert.RefFoxFwdIdeal.τ).loc Cert.RefFoxFwdIdeal.main_arg2)) (m ((c.tc : Thread Cert.RefFoxFwdIdeal.nD Cert.RefFoxFwdIdeal.τ).loc Cert.RefFoxFwdIdeal.main_arg3))) = (fun _ => 1#1)

def Pre_RetMix (m : (ℓ : Loc Cert.RetMix.nD Cert.RetMix.τ Cert.RetMix.sig) → Buf (Elt Bits) ℓ) : Prop :=
  True

def Pre_RetMixIdeal (m : (ℓ : Loc Cert.RetMixIdeal.nD Cert.RetMixIdeal.τ Cert.RetMixIdeal.sig) → Buf (Elt Ideal) ℓ) : Prop :=
  True

def Pre_RefRetMixIdeal (m : (ℓ : Loc Cert.RefRetMixIdeal.nD Cert.RefRetMixIdeal.τ Cert.RefRetMixIdeal.sig) → Buf (Elt Ideal) ℓ) : Prop :=
  True

def Pre_FoxMix (m : (ℓ : Loc Cert.FoxMix.nD Cert.FoxMix.τ Cert.FoxMix.sig) → Buf (Elt Bits) ℓ) : Prop :=
  True

def Pre_FoxMixIdeal (m : (ℓ : Loc Cert.FoxMixIdeal.nD Cert.FoxMixIdeal.τ Cert.FoxMixIdeal.sig) → Buf (Elt Ideal) ℓ) : Prop :=
  True

def Pre_RefFoxMixIdeal (m : (ℓ : Loc Cert.RefFoxMixIdeal.nD Cert.RefFoxMixIdeal.τ Cert.RefFoxMixIdeal.sig) → Buf (Elt Ideal) ℓ) : Prop :=
  True

def Pre_FoxGate (m : (ℓ : Loc Cert.FoxGate.nD Cert.FoxGate.τ Cert.FoxGate.sig) → Buf (Elt Bits) ℓ) : Prop :=
  True

def Pre_FoxGateIdeal (m : (ℓ : Loc Cert.FoxGateIdeal.nD Cert.FoxGateIdeal.τ Cert.FoxGateIdeal.sig) → Buf (Elt Ideal) ℓ) : Prop :=
  True

def Pre_RefFoxGateIdeal (m : (ℓ : Loc Cert.RefFoxGateIdeal.nD Cert.RefFoxGateIdeal.τ Cert.RefFoxGateIdeal.sig) → Buf (Elt Ideal) ℓ) : Prop :=
  True

def Pre_ModMix (m : (ℓ : Loc Cert.ModMix.nD Cert.ModMix.τ Cert.ModMix.sig) → Buf (Elt Bits) ℓ) : Prop :=
  True

def Pre_ModMixIdeal (m : (ℓ : Loc Cert.ModMixIdeal.nD Cert.ModMixIdeal.τ Cert.ModMixIdeal.sig) → Buf (Elt Ideal) ℓ) : Prop :=
  True

def Pre_RefModMixIdeal (m : (ℓ : Loc Cert.RefModMixIdeal.nD Cert.RefModMixIdeal.τ Cert.RefModMixIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RefRopeIdeal (m : (ℓ : Loc Cert.RefRopeIdeal.nD Cert.RefRopeIdeal.τ Cert.RefRopeIdeal.sig) → Buf (Elt Ideal) ℓ) : Prop :=
  True

def Pre_RetGate (m : (ℓ : Loc Cert.RetGate.nD Cert.RetGate.τ Cert.RetGate.sig) → Buf (Elt Bits) ℓ) : Prop :=
  True

def Pre_RetGateIdeal (m : (ℓ : Loc Cert.RetGateIdeal.nD Cert.RetGateIdeal.τ Cert.RetGateIdeal.sig) → Buf (Elt Ideal) ℓ) : Prop :=
  True

def Pre_RefRetGateIdeal (m : (ℓ : Loc Cert.RefRetGateIdeal.nD Cert.RefRetGateIdeal.τ Cert.RefRetGateIdeal.sig) → Buf (Elt Ideal) ℓ) : Prop :=
  True

def Pre_ResMlp (m : (ℓ : Loc Cert.ResMlp.nD Cert.ResMlp.τ Cert.ResMlp.sig) → Buf (Elt Bits) ℓ) : Prop :=
  True

def Pre_ResMlpIdeal (m : (ℓ : Loc Cert.ResMlpIdeal.nD Cert.ResMlpIdeal.τ Cert.ResMlpIdeal.sig) → Buf (Elt Ideal) ℓ) : Prop :=
  True

def Pre_RefResMlpIdeal (m : (ℓ : Loc Cert.RefResMlpIdeal.nD Cert.RefResMlpIdeal.τ Cert.RefResMlpIdeal.sig) → Buf (Elt Ideal) ℓ) : Prop :=
  True

def quiescent_Dq [hDq : Cert.Dq.Facts] : Prop :=
  ∀ (m : (ℓ : Loc Cert.Dq.nD Cert.Dq.τ Cert.Dq.sig) → Buf (Elt Bits) ℓ) (g : Dev Cert.Dq.nD → PrngReg), Pre_Dq m →
    θ_run (Cert.Dq.defs (F := Bits)) (onTc (τ := Cert.Dq.τ) (Cert.Dq.main (F := Bits))) ⟨m, fun _ => 0, g⟩ (fun r => (∀ c : Dev Cert.Dq.nD,
      r.2.mem ((c.tc : Thread Cert.Dq.nD Cert.Dq.τ).loc Cert.Dq.main_arg0) = m ((c.tc : Thread Cert.Dq.nD Cert.Dq.τ).loc Cert.Dq.main_arg0)
      ∧ r.2.mem ((c.tc : Thread Cert.Dq.nD Cert.Dq.τ).loc Cert.Dq.main_arg1) = m ((c.tc : Thread Cert.Dq.nD Cert.Dq.τ).loc Cert.Dq.main_arg1)
      ∧ r.2.mem ((c.tc : Thread Cert.Dq.nD Cert.Dq.τ).loc Cert.Dq.main_arg2) = m ((c.tc : Thread Cert.Dq.nD Cert.Dq.τ).loc Cert.Dq.main_arg2))
      ∧ r.2.sem = fun _ => 0)

def quiescent_DqIdeal [hDqIdeal : Cert.DqIdeal.Facts] : Prop :=
  ∀ (m : (ℓ : Loc Cert.DqIdeal.nD Cert.DqIdeal.τ Cert.DqIdeal.sig) → Buf (Elt Ideal) ℓ) (g : Dev Cert.DqIdeal.nD → PrngReg), Pre_DqIdeal m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
      ∧ r.2.mem ((c.tc : Thread Cert.DqIdeal.nD Cert.DqIdeal.τ).loc Cert.DqIdeal.main_arg2) = m ((c.tc : Thread Cert.DqIdeal.nD Cert.DqIdeal.τ).loc Cert.DqIdeal.main_arg2))
      ∧ r.2.sem = fun _ => 0)

def quiescent_DqIdeal_pre_finite_dq [hDqIdeal : Cert.DqIdeal.Facts] [hPre_finite_dq : Cert.Pre_finite_dq.Facts] : Prop :=
  ∀ (m : (ℓ : Loc Cert.DqIdeal.nD Cert.DqIdeal.τ Cert.DqIdeal.sig) → Buf (Elt Ideal) ℓ) (g : Dev Cert.DqIdeal.nD → PrngReg), Pre_DqIdeal_finite_dq m →
    θ_run (Cert.DqIdeal.defs (F := Ideal)) (onTc (τ := Cert.DqIdeal.τ) (Cert.DqIdeal.main (F := Ideal))) ⟨m, fun _ => 0, g⟩ (fun r => (∀ c : Dev Cert.DqIdeal.nD,
      r.2.mem ((c.tc : Thread Cert.DqIdeal.nD Cert.DqIdeal.τ).loc Cert.DqIdeal.main_arg0) = m ((c.tc : Thread Cert.DqIdeal.nD Cert.DqIdeal.τ).loc Cert.DqIdeal.main_arg0)
      ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
      ∧ r.2.mem ((c.tc : Thread Cert.DqIdeal.nD Cert.DqIdeal.τ).loc Cert.DqIdeal.main_arg2) = m ((c.tc : Thread Cert.DqIdeal.nD Cert.DqIdeal.τ).loc Cert.DqIdeal.main_arg2))
      ∧ r.2.sem = fun _ => 0)

def quiescent_RefDqIdeal [hRefDqIdeal : Cert.RefDqIdeal.Facts] : Prop :=
  ∀ (m : (ℓ : Loc Cert.RefDqIdeal.nD Cert.RefDqIdeal.τ Cert.RefDqIdeal.sig) → Buf (Elt Ideal) ℓ) (g : Dev Cert.RefDqIdeal.nD → PrngReg), Pre_RefDqIdeal m →
    θ_run (Cert.RefDqIdeal.defs (F := Ideal)) (onTc (τ := Cert.RefDqIdeal.τ) (Cert.RefDqIdeal.main (F := Ideal))) ⟨m, fun _ => 0, g⟩ (fun r => (∀ c : Dev Cert.RefDqIdeal.nD,
      r.2.mem ((c.tc : Thread Cert.RefDqIdeal.nD Cert.RefDqIdeal.τ).loc Cert.RefDqIdeal.main_arg0) = m ((c.tc : Thread Cert.RefDqIdeal.nD Cert.RefDqIdeal.τ).loc Cert.RefDqIdeal.main_arg0)
      ∧ r.2.mem ((c.tc : Thread Cert.RefDqIdeal.nD Cert.RefDqIdeal.τ).loc Cert.RefDqIdeal.main_arg1) = m ((c.tc : Thread Cert.RefDqIdeal.nD Cert.RefDqIdeal.τ).loc Cert.RefDqIdeal.main_arg1)
      ∧ r.2.mem ((c.tc : Thread Cert.RefDqIdeal.nD Cert.RefDqIdeal.τ).loc Cert.RefDqIdeal.main_arg2) = m ((c.tc : Thread Cert.RefDqIdeal.nD Cert.RefDqIdeal.τ).loc Cert.RefDqIdeal.main_arg2))
      ∧ r.2.sem = fun _ => 0)

def quiescent_RefDqIdeal_pre_finite_dq [hRefDqIdeal : Cert.RefDqIdeal.Facts] [hPre_finite_dq : Cert.Pre_finite_dq.Facts] : Prop :=
  ∀ (m : (ℓ : Loc Cert.RefDqIdeal.nD Cert.RefDqIdeal.τ Cert.RefDqIdeal.sig) → Buf (Elt Ideal) ℓ) (g : Dev Cert.RefDqIdeal.nD → PrngReg), Pre_RefDqIdeal_finite_dq m →
    θ_run (Cert.RefDqIdeal.defs (F := Ideal)) (onTc (τ := Cert.RefDqIdeal.τ) (Cert.RefDqIdeal.main (F := Ideal))) ⟨m, fun _ => 0, g⟩ (fun r => (∀ c : Dev Cert.RefDqIdeal.nD,
      r.2.mem ((c.tc : Thread Cert.RefDqIdeal.nD Cert.RefDqIdeal.τ).loc Cert.RefDqIdeal.main_arg0) = m ((c.tc : Thread Cert.RefDqIdeal.nD Cert.RefDqIdeal.τ).loc Cert.RefDqIdeal.main_arg0)
      ∧ r.2.mem ((c.tc : Thread Cert.RefDqIdeal.nD Cert.RefDqIdeal.τ).loc Cert.RefDqIdeal.main_arg1) = m ((c.tc : Thread Cert.RefDqIdeal.nD Cert.RefDqIdeal.τ).loc Cert.RefDqIdeal.main_arg1)
      ∧ r.2.mem ((c.tc : Thread Cert.RefDqIdeal.nD Cert.RefDqIdeal.τ).loc Cert.RefDqIdeal.main_arg2) = m ((c.tc : Thread Cert.RefDqIdeal.nD Cert.RefDqIdeal.τ).loc Cert.RefDqIdeal.main_arg2))
      ∧ r.2.sem = fun _ => 0)

def quiescent_Dkv [hDkv : Cert.Dkv.Facts] : Prop :=
  ∀ (m : (ℓ : Loc Cert.Dkv.nD Cert.Dkv.τ Cert.Dkv.sig) → Buf (Elt Bits) ℓ) (g : Dev Cert.Dkv.nD → PrngReg), Pre_Dkv m →
    θ_run (Cert.Dkv.defs (F := Bits)) (onTc (τ := Cert.Dkv.τ) (Cert.Dkv.main (F := Bits))) ⟨m, fun _ => 0, g⟩ (fun r => (∀ c : Dev Cert.Dkv.nD,
      r.2.mem ((c.tc : Thread Cert.Dkv.nD Cert.Dkv.τ).loc Cert.Dkv.main_arg0) = m ((c.tc : Thread Cert.Dkv.nD Cert.Dkv.τ).loc Cert.Dkv.main_arg0)
      ∧ r.2.mem ((c.tc : Thread Cert.Dkv.nD Cert.Dkv.τ).loc Cert.Dkv.main_arg1) = m ((c.tc : Thread Cert.Dkv.nD Cert.Dkv.τ).loc Cert.Dkv.main_arg1)
      ∧ r.2.mem ((c.tc : Thread Cert.Dkv.nD Cert.Dkv.τ).loc Cert.Dkv.main_arg2) = m ((c.tc : Thread Cert.Dkv.nD Cert.Dkv.τ).loc Cert.Dkv.main_arg2)
      ∧ r.2.mem ((c.tc : Thread Cert.Dkv.nD Cert.Dkv.τ).loc Cert.Dkv.main_arg3) = m ((c.tc : Thread Cert.Dkv.nD Cert.Dkv.τ).loc Cert.Dkv.main_arg3))
      ∧ r.2.sem = fun _ => 0)

def quiescent_DkvIdeal [hDkvIdeal : Cert.DkvIdeal.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3))
      ∧ r.2.sem = fun _ => 0)

def quiescent_DkvIdeal_pre_finite_dkv [hDkvIdeal : Cert.DkvIdeal.Facts] [hPre_finite_dkv : Cert.Pre_finite_dkv.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal_finite_dkv m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3))
      ∧ r.2.sem = fun _ => 0)

def quiescent_RefDkvIdeal [hRefDkvIdeal : Cert.RefDkvIdeal.Facts] : Prop :=
  ∀ (m : (ℓ : Loc Cert.RefDkvIdeal.nD Cert.RefDkvIdeal.τ Cert.RefDkvIdeal.sig) → Buf (Elt Ideal) ℓ) (g : Dev Cert.RefDkvIdeal.nD → PrngReg), Pre_RefDkvIdeal m →
    θ_run (Cert.RefDkvIdeal.defs (F := Ideal)) (onTc (τ := Cert.RefDkvIdeal.τ) (Cert.RefDkvIdeal.main (F := Ideal))) ⟨m, fun _ => 0, g⟩ (fun r => (∀ c : Dev Cert.RefDkvIdeal.nD,
      r.2.mem ((c.tc : Thread Cert.RefDkvIdeal.nD Cert.RefDkvIdeal.τ).loc Cert.RefDkvIdeal.main_arg0) = m ((c.tc : Thread Cert.RefDkvIdeal.nD Cert.RefDkvIdeal.τ).loc Cert.RefDkvIdeal.main_arg0)
      ∧ r.2.mem ((c.tc : Thread Cert.RefDkvIdeal.nD Cert.RefDkvIdeal.τ).loc Cert.RefDkvIdeal.main_arg1) = m ((c.tc : Thread Cert.RefDkvIdeal.nD Cert.RefDkvIdeal.τ).loc Cert.RefDkvIdeal.main_arg1)
      ∧ r.2.mem ((c.tc : Thread Cert.RefDkvIdeal.nD Cert.RefDkvIdeal.τ).loc Cert.RefDkvIdeal.main_arg2) = m ((c.tc : Thread Cert.RefDkvIdeal.nD Cert.RefDkvIdeal.τ).loc Cert.RefDkvIdeal.main_arg2)
      ∧ r.2.mem ((c.tc : Thread Cert.RefDkvIdeal.nD Cert.RefDkvIdeal.τ).loc Cert.RefDkvIdeal.main_arg3) = m ((c.tc : Thread Cert.RefDkvIdeal.nD Cert.RefDkvIdeal.τ).loc Cert.RefDkvIdeal.main_arg3))
      ∧ r.2.sem = fun _ => 0)

def quiescent_RefDkvIdeal_pre_finite_dkv [hRefDkvIdeal : Cert.RefDkvIdeal.Facts] [hPre_finite_dkv : Cert.Pre_finite_dkv.Facts] : Prop :=
  ∀ (m : (ℓ : Loc Cert.RefDkvIdeal.nD Cert.RefDkvIdeal.τ Cert.RefDkvIdeal.sig) → Buf (Elt Ideal) ℓ) (g : Dev Cert.RefDkvIdeal.nD → PrngReg), Pre_RefDkvIdeal_finite_dkv m →
    θ_run (Cert.RefDkvIdeal.defs (F := Ideal)) (onTc (τ := Cert.RefDkvIdeal.τ) (Cert.RefDkvIdeal.main (F := Ideal))) ⟨m, fun _ => 0, g⟩ (fun r => (∀ c : Dev Cert.RefDkvIdeal.nD,
      r.2.mem ((c.tc : Thread Cert.RefDkvIdeal.nD Cert.RefDkvIdeal.τ).loc Cert.RefDkvIdeal.main_arg0) = m ((c.tc : Thread Cert.RefDkvIdeal.nD Cert.RefDkvIdeal.τ).loc Cert.RefDkvIdeal.main_arg0)
      ∧ r.2.mem ((c.tc : Thread Cert.RefDkvIdeal.nD Cert.RefDkvIdeal.τ).loc Cert.RefDkvIdeal.main_arg1) = m ((c.tc : Thread Cert.RefDkvIdeal.nD Cert.RefDkvIdeal.τ).loc Cert.RefDkvIdeal.main_arg1)
      ∧ r.2.mem ((c.tc : Thread Cert.RefDkvIdeal.nD Cert.RefDkvIdeal.τ).loc Cert.RefDkvIdeal.main_arg2) = m ((c.tc : Thread Cert.RefDkvIdeal.nD Cert.RefDkvIdeal.τ).loc Cert.RefDkvIdeal.main_arg2)
      ∧ r.2.mem ((c.tc : Thread Cert.RefDkvIdeal.nD Cert.RefDkvIdeal.τ).loc Cert.RefDkvIdeal.main_arg3) = m ((c.tc : Thread Cert.RefDkvIdeal.nD Cert.RefDkvIdeal.τ).loc Cert.RefDkvIdeal.main_arg3))
      ∧ r.2.sem = fun _ => 0)

def quiescent_MlpOutDx [hMlpOutDx : Cert.MlpOutDx.Facts] : Prop :=
  ∀ (m : (ℓ : Loc Cert.MlpOutDx.nD Cert.MlpOutDx.τ Cert.MlpOutDx.sig) → Buf (Elt Bits) ℓ) (g : Dev Cert.MlpOutDx.nD → PrngReg), Pre_MlpOutDx m →
    θ_run (Cert.MlpOutDx.defs (F := Bits)) (onTc (τ := Cert.MlpOutDx.τ) (Cert.MlpOutDx.main (F := Bits))) ⟨m, fun _ => 0, g⟩ (fun r => (∀ c : Dev Cert.MlpOutDx.nD,
      r.2.mem ((c.tc : Thread Cert.MlpOutDx.nD Cert.MlpOutDx.τ).loc Cert.MlpOutDx.main_arg0) = m ((c.tc : Thread Cert.MlpOutDx.nD Cert.MlpOutDx.τ).loc Cert.MlpOutDx.main_arg0)
      ∧ r.2.mem ((c.tc : Thread Cert.MlpOutDx.nD Cert.MlpOutDx.τ).loc Cert.MlpOutDx.main_arg1) = m ((c.tc : Thread Cert.MlpOutDx.nD Cert.MlpOutDx.τ).loc Cert.MlpOutDx.main_arg1)
      ∧ r.2.mem ((c.tc : Thread Cert.MlpOutDx.nD Cert.MlpOutDx.τ).loc Cert.MlpOutDx.main_arg2) = m ((c.tc : Thread Cert.MlpOutDx.nD Cert.MlpOutDx.τ).loc Cert.MlpOutDx.main_arg2))
      ∧ r.2.sem = fun _ => 0)

def quiescent_MlpOutDxIdeal [hMlpOutDxIdeal : Cert.MlpOutDxIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg), Pre_MlpOutDxIdeal m →
    θ_run (Cert.MlpOutDxIdeal.defs (F := Ideal)) (onTc (τ := Cert.MlpOutDxIdeal.τ) (Cert.MlpOutDxIdeal.main (F := Ideal))) ⟨m, fun _ => 0, g⟩ (fun r => (∀ c : Dev Cert.MlpOutDxIdeal.nD,
      r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
      ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
      ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2))
      ∧ r.2.sem = fun _ => 0)

def quiescent_RefMlpOutDxIdeal [hRefMlpOutDxIdeal : Cert.RefMlpOutDxIdeal.Facts] : Prop :=
  ∀ (m : (ℓ : Loc Cert.RefMlpOutDxIdeal.nD Cert.RefMlpOutDxIdeal.τ Cert.RefMlpOutDxIdeal.sig) → Buf (Elt Ideal) ℓ) (g : Dev Cert.RefMlpOutDxIdeal.nD → PrngReg), Pre_RefMlpOutDxIdeal m →
    θ_run (Cert.RefMlpOutDxIdeal.defs (F := Ideal)) (onTc (τ := Cert.RefMlpOutDxIdeal.τ) (Cert.RefMlpOutDxIdeal.main (F := Ideal))) ⟨m, fun _ => 0, g⟩ (fun r => (∀ c : Dev Cert.RefMlpOutDxIdeal.nD,
      r.2.mem ((c.tc : Thread Cert.RefMlpOutDxIdeal.nD Cert.RefMlpOutDxIdeal.τ).loc Cert.RefMlpOutDxIdeal.main_arg0) = m ((c.tc : Thread Cert.RefMlpOutDxIdeal.nD Cert.RefMlpOutDxIdeal.τ).loc Cert.RefMlpOutDxIdeal.main_arg0)
      ∧ r.2.mem ((c.tc : Thread Cert.RefMlpOutDxIdeal.nD Cert.RefMlpOutDxIdeal.τ).loc Cert.RefMlpOutDxIdeal.main_arg1) = m ((c.tc : Thread Cert.RefMlpOutDxIdeal.nD Cert.RefMlpOutDxIdeal.τ).loc Cert.RefMlpOutDxIdeal.main_arg1)
      ∧ r.2.mem ((c.tc : Thread Cert.RefMlpOutDxIdeal.nD Cert.RefMlpOutDxIdeal.τ).loc Cert.RefMlpOutDxIdeal.main_arg2) = m ((c.tc : Thread Cert.RefMlpOutDxIdeal.nD Cert.RefMlpOutDxIdeal.τ).loc Cert.RefMlpOutDxIdeal.main_arg2))
      ∧ r.2.sem = fun _ => 0)

def quiescent_MlpOutDw [hMlpOutDw : Cert.MlpOutDw.Facts] : Prop :=
  ∀ (m : (ℓ : Loc Cert.MlpOutDw.nD Cert.MlpOutDw.τ Cert.MlpOutDw.sig) → Buf (Elt Bits) ℓ) (g : Dev Cert.MlpOutDw.nD → PrngReg), Pre_MlpOutDw m →
    θ_run (Cert.MlpOutDw.defs (F := Bits)) (onTc (τ := Cert.MlpOutDw.τ) (Cert.MlpOutDw.main (F := Bits))) ⟨m, fun _ => 0, g⟩ (fun r => (∀ c : Dev Cert.MlpOutDw.nD,
      r.2.mem ((c.tc : Thread Cert.MlpOutDw.nD Cert.MlpOutDw.τ).loc Cert.MlpOutDw.main_arg0) = m ((c.tc : Thread Cert.MlpOutDw.nD Cert.MlpOutDw.τ).loc Cert.MlpOutDw.main_arg0)
      ∧ r.2.mem ((c.tc : Thread Cert.MlpOutDw.nD Cert.MlpOutDw.τ).loc Cert.MlpOutDw.main_arg1) = m ((c.tc : Thread Cert.MlpOutDw.nD Cert.MlpOutDw.τ).loc Cert.MlpOutDw.main_arg1))
      ∧ r.2.sem = fun _ => 0)

def quiescent_MlpOutDwIdeal [hMlpOutDwIdeal : Cert.MlpOutDwIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg), Pre_MlpOutDwIdeal m →
    θ_run (Cert.MlpOutDwIdeal.defs (F := Ideal)) (onTc (τ := Cert.MlpOutDwIdeal.τ) (Cert.MlpOutDwIdeal.main (F := Ideal))) ⟨m, fun _ => 0, g⟩ (fun r => (∀ c : Dev Cert.MlpOutDwIdeal.nD,
      r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
      ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1))
      ∧ r.2.sem = fun _ => 0)

def quiescent_RefMlpOutDwIdeal [hRefMlpOutDwIdeal : Cert.RefMlpOutDwIdeal.Facts] : Prop :=
  ∀ (m : (ℓ : Loc Cert.RefMlpOutDwIdeal.nD Cert.RefMlpOutDwIdeal.τ Cert.RefMlpOutDwIdeal.sig) → Buf (Elt Ideal) ℓ) (g : Dev Cert.RefMlpOutDwIdeal.nD → PrngReg), Pre_RefMlpOutDwIdeal m →
    θ_run (Cert.RefMlpOutDwIdeal.defs (F := Ideal)) (onTc (τ := Cert.RefMlpOutDwIdeal.τ) (Cert.RefMlpOutDwIdeal.main (F := Ideal))) ⟨m, fun _ => 0, g⟩ (fun r => (∀ c : Dev Cert.RefMlpOutDwIdeal.nD,
      r.2.mem ((c.tc : Thread Cert.RefMlpOutDwIdeal.nD Cert.RefMlpOutDwIdeal.τ).loc Cert.RefMlpOutDwIdeal.main_arg0) = m ((c.tc : Thread Cert.RefMlpOutDwIdeal.nD Cert.RefMlpOutDwIdeal.τ).loc Cert.RefMlpOutDwIdeal.main_arg0)
      ∧ r.2.mem ((c.tc : Thread Cert.RefMlpOutDwIdeal.nD Cert.RefMlpOutDwIdeal.τ).loc Cert.RefMlpOutDwIdeal.main_arg1) = m ((c.tc : Thread Cert.RefMlpOutDwIdeal.nD Cert.RefMlpOutDwIdeal.τ).loc Cert.RefMlpOutDwIdeal.main_arg1))
      ∧ r.2.sem = fun _ => 0)

def quiescent_MlpInDx [hMlpInDx : Cert.MlpInDx.Facts] : Prop :=
  ∀ (m : (ℓ : Loc Cert.MlpInDx.nD Cert.MlpInDx.τ Cert.MlpInDx.sig) → Buf (Elt Bits) ℓ) (g : Dev Cert.MlpInDx.nD → PrngReg), Pre_MlpInDx m →
    θ_run (Cert.MlpInDx.defs (F := Bits)) (onTc (τ := Cert.MlpInDx.τ) (Cert.MlpInDx.main (F := Bits))) ⟨m, fun _ => 0, g⟩ (fun r => (∀ c : Dev Cert.MlpInDx.nD,
      r.2.mem ((c.tc : Thread Cert.MlpInDx.nD Cert.MlpInDx.τ).loc Cert.MlpInDx.main_arg0) = m ((c.tc : Thread Cert.MlpInDx.nD Cert.MlpInDx.τ).loc Cert.MlpInDx.main_arg0)
      ∧ r.2.mem ((c.tc : Thread Cert.MlpInDx.nD Cert.MlpInDx.τ).loc Cert.MlpInDx.main_arg1) = m ((c.tc : Thread Cert.MlpInDx.nD Cert.MlpInDx.τ).loc Cert.MlpInDx.main_arg1))
      ∧ r.2.sem = fun _ => 0)

def quiescent_MlpInDxIdeal [hMlpInDxIdeal : Cert.MlpInDxIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg), Pre_MlpInDxIdeal m →
    θ_run (Cert.MlpInDxIdeal.defs (F := Ideal)) (onTc (τ := Cert.MlpInDxIdeal.τ) (Cert.MlpInDxIdeal.main (F := Ideal))) ⟨m, fun _ => 0, g⟩ (fun r => (∀ c : Dev Cert.MlpInDxIdeal.nD,
      r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
      ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1))
      ∧ r.2.sem = fun _ => 0)

def quiescent_RefMlpInDxIdeal [hRefMlpInDxIdeal : Cert.RefMlpInDxIdeal.Facts] : Prop :=
  ∀ (m : (ℓ : Loc Cert.RefMlpInDxIdeal.nD Cert.RefMlpInDxIdeal.τ Cert.RefMlpInDxIdeal.sig) → Buf (Elt Ideal) ℓ) (g : Dev Cert.RefMlpInDxIdeal.nD → PrngReg), Pre_RefMlpInDxIdeal m →
    θ_run (Cert.RefMlpInDxIdeal.defs (F := Ideal)) (onTc (τ := Cert.RefMlpInDxIdeal.τ) (Cert.RefMlpInDxIdeal.main (F := Ideal))) ⟨m, fun _ => 0, g⟩ (fun r => (∀ c : Dev Cert.RefMlpInDxIdeal.nD,
      r.2.mem ((c.tc : Thread Cert.RefMlpInDxIdeal.nD Cert.RefMlpInDxIdeal.τ).loc Cert.RefMlpInDxIdeal.main_arg0) = m ((c.tc : Thread Cert.RefMlpInDxIdeal.nD Cert.RefMlpInDxIdeal.τ).loc Cert.RefMlpInDxIdeal.main_arg0)
      ∧ r.2.mem ((c.tc : Thread Cert.RefMlpInDxIdeal.nD Cert.RefMlpInDxIdeal.τ).loc Cert.RefMlpInDxIdeal.main_arg1) = m ((c.tc : Thread Cert.RefMlpInDxIdeal.nD Cert.RefMlpInDxIdeal.τ).loc Cert.RefMlpInDxIdeal.main_arg1))
      ∧ r.2.sem = fun _ => 0)

def quiescent_MlpInDw [hMlpInDw : Cert.MlpInDw.Facts] : Prop :=
  ∀ (m : (ℓ : Loc Cert.MlpInDw.nD Cert.MlpInDw.τ Cert.MlpInDw.sig) → Buf (Elt Bits) ℓ) (g : Dev Cert.MlpInDw.nD → PrngReg), Pre_MlpInDw m →
    θ_run (Cert.MlpInDw.defs (F := Bits)) (onTc (τ := Cert.MlpInDw.τ) (Cert.MlpInDw.main (F := Bits))) ⟨m, fun _ => 0, g⟩ (fun r => (∀ c : Dev Cert.MlpInDw.nD,
      r.2.mem ((c.tc : Thread Cert.MlpInDw.nD Cert.MlpInDw.τ).loc Cert.MlpInDw.main_arg0) = m ((c.tc : Thread Cert.MlpInDw.nD Cert.MlpInDw.τ).loc Cert.MlpInDw.main_arg0)
      ∧ r.2.mem ((c.tc : Thread Cert.MlpInDw.nD Cert.MlpInDw.τ).loc Cert.MlpInDw.main_arg1) = m ((c.tc : Thread Cert.MlpInDw.nD Cert.MlpInDw.τ).loc Cert.MlpInDw.main_arg1))
      ∧ r.2.sem = fun _ => 0)

def quiescent_MlpInDwIdeal [hMlpInDwIdeal : Cert.MlpInDwIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg), Pre_MlpInDwIdeal m →
    θ_run (Cert.MlpInDwIdeal.defs (F := Ideal)) (onTc (τ := Cert.MlpInDwIdeal.τ) (Cert.MlpInDwIdeal.main (F := Ideal))) ⟨m, fun _ => 0, g⟩ (fun r => (∀ c : Dev Cert.MlpInDwIdeal.nD,
      r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
      ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1))
      ∧ r.2.sem = fun _ => 0)

def quiescent_RefMlpInDwIdeal [hRefMlpInDwIdeal : Cert.RefMlpInDwIdeal.Facts] : Prop :=
  ∀ (m : (ℓ : Loc Cert.RefMlpInDwIdeal.nD Cert.RefMlpInDwIdeal.τ Cert.RefMlpInDwIdeal.sig) → Buf (Elt Ideal) ℓ) (g : Dev Cert.RefMlpInDwIdeal.nD → PrngReg), Pre_RefMlpInDwIdeal m →
    θ_run (Cert.RefMlpInDwIdeal.defs (F := Ideal)) (onTc (τ := Cert.RefMlpInDwIdeal.τ) (Cert.RefMlpInDwIdeal.main (F := Ideal))) ⟨m, fun _ => 0, g⟩ (fun r => (∀ c : Dev Cert.RefMlpInDwIdeal.nD,
      r.2.mem ((c.tc : Thread Cert.RefMlpInDwIdeal.nD Cert.RefMlpInDwIdeal.τ).loc Cert.RefMlpInDwIdeal.main_arg0) = m ((c.tc : Thread Cert.RefMlpInDwIdeal.nD Cert.RefMlpInDwIdeal.τ).loc Cert.RefMlpInDwIdeal.main_arg0)
      ∧ r.2.mem ((c.tc : Thread Cert.RefMlpInDwIdeal.nD Cert.RefMlpInDwIdeal.τ).loc Cert.RefMlpInDwIdeal.main_arg1) = m ((c.tc : Thread Cert.RefMlpInDwIdeal.nD Cert.RefMlpInDwIdeal.τ).loc Cert.RefMlpInDwIdeal.main_arg1))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_RefMlpInIdeal [hRefMlpInIdeal : Cert.RefMlpInIdeal.Facts] : Prop :=
  ∀ (m : (ℓ : Loc Cert.RefMlpInIdeal.nD Cert.RefMlpInIdeal.τ Cert.RefMlpInIdeal.sig) → Buf (Elt Ideal) ℓ) (g : Dev Cert.RefMlpInIdeal.nD → PrngReg), Pre_RefMlpInIdeal m →
    θ_run (Cert.RefMlpInIdeal.defs (F := Ideal)) (onTc (τ := Cert.RefMlpInIdeal.τ) (Cert.RefMlpInIdeal.main (F := Ideal))) ⟨m, fun _ => 0, g⟩ (fun r => (∀ c : Dev Cert.RefMlpInIdeal.nD,
      r.2.mem ((c.tc : Thread Cert.RefMlpInIdeal.nD Cert.RefMlpInIdeal.τ).loc Cert.RefMlpInIdeal.main_arg0) = m ((c.tc : Thread Cert.RefMlpInIdeal.nD Cert.RefMlpInIdeal.τ).loc Cert.RefMlpInIdeal.main_arg0)
      ∧ r.2.mem ((c.tc : Thread Cert.RefMlpInIdeal.nD Cert.RefMlpInIdeal.τ).loc Cert.RefMlpInIdeal.main_arg1) = m ((c.tc : Thread Cert.RefMlpInIdeal.nD Cert.RefMlpInIdeal.τ).loc Cert.RefMlpInIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ r.2.sem = fun _ => 0)

def quiescent_RefMlpOutIdeal [hRefMlpOutIdeal : Cert.RefMlpOutIdeal.Facts] : Prop :=
  ∀ (m : (ℓ : Loc Cert.RefMlpOutIdeal.nD Cert.RefMlpOutIdeal.τ Cert.RefMlpOutIdeal.sig) → Buf (Elt Ideal) ℓ) (g : Dev Cert.RefMlpOutIdeal.nD → PrngReg), Pre_RefMlpOutIdeal m →
    θ_run (Cert.RefMlpOutIdeal.defs (F := Ideal)) (onTc (τ := Cert.RefMlpOutIdeal.τ) (Cert.RefMlpOutIdeal.main (F := Ideal))) ⟨m, fun _ => 0, g⟩ (fun r => (∀ c : Dev Cert.RefMlpOutIdeal.nD,
      r.2.mem ((c.tc : Thread Cert.RefMlpOutIdeal.nD Cert.RefMlpOutIdeal.τ).loc Cert.RefMlpOutIdeal.main_arg0) = m ((c.tc : Thread Cert.RefMlpOutIdeal.nD Cert.RefMlpOutIdeal.τ).loc Cert.RefMlpOutIdeal.main_arg0)
      ∧ r.2.mem ((c.tc : Thread Cert.RefMlpOutIdeal.nD Cert.RefMlpOutIdeal.τ).loc Cert.RefMlpOutIdeal.main_arg1) = m ((c.tc : Thread Cert.RefMlpOutIdeal.nD Cert.RefMlpOutIdeal.τ).loc Cert.RefMlpOutIdeal.main_arg1))
      ∧ r.2.sem = fun _ => 0)

def quiescent_RetProjDx [hRetProjDx : Cert.RetProjDx.Facts] : Prop :=
  ∀ (m : (ℓ : Loc Cert.RetProjDx.nD Cert.RetProjDx.τ Cert.RetProjDx.sig) → Buf (Elt Bits) ℓ) (g : Dev Cert.RetProjDx.nD → PrngReg), Pre_RetProjDx m →
    θ_run (Cert.RetProjDx.defs (F := Bits)) (onTc (τ := Cert.RetProjDx.τ) (Cert.RetProjDx.main (F := Bits))) ⟨m, fun _ => 0, g⟩ (fun r => (∀ c : Dev Cert.RetProjDx.nD,
      r.2.mem ((c.tc : Thread Cert.RetProjDx.nD Cert.RetProjDx.τ).loc Cert.RetProjDx.main_arg0) = m ((c.tc : Thread Cert.RetProjDx.nD Cert.RetProjDx.τ).loc Cert.RetProjDx.main_arg0)
      ∧ r.2.mem ((c.tc : Thread Cert.RetProjDx.nD Cert.RetProjDx.τ).loc Cert.RetProjDx.main_arg1) = m ((c.tc : Thread Cert.RetProjDx.nD Cert.RetProjDx.τ).loc Cert.RetProjDx.main_arg1))
      ∧ r.2.sem = fun _ => 0)

def quiescent_RetProjDxIdeal [hRetProjDxIdeal : Cert.RetProjDxIdeal.Facts] : Prop :=
  ∀ (m : (ℓ : Loc Cert.RetProjDxIdeal.nD Cert.RetProjDxIdeal.τ Cert.RetProjDxIdeal.sig) → Buf (Elt Ideal) ℓ) (g : Dev Cert.RetProjDxIdeal.nD → PrngReg), Pre_RetProjDxIdeal m →
    θ_run (Cert.RetProjDxIdeal.defs (F := Ideal)) (onTc (τ := Cert.RetProjDxIdeal.τ) (Cert.RetProjDxIdeal.main (F := Ideal))) ⟨m, fun _ => 0, g⟩ (fun r => (∀ c : Dev Cert.RetProjDxIdeal.nD,
      r.2.mem ((c.tc : Thread Cert.RetProjDxIdeal.nD Cert.RetProjDxIdeal.τ).loc Cert.RetProjDxIdeal.main_arg0) = m ((c.tc : Thread Cert.RetProjDxIdeal.nD Cert.RetProjDxIdeal.τ).loc Cert.RetProjDxIdeal.main_arg0)
      ∧ r.2.mem ((c.tc : Thread Cert.RetProjDxIdeal.nD Cert.RetProjDxIdeal.τ).loc Cert.RetProjDxIdeal.main_arg1) = m ((c.tc : Thread Cert.RetProjDxIdeal.nD Cert.RetProjDxIdeal.τ).loc Cert.RetProjDxIdeal.main_arg1))
      ∧ r.2.sem = fun _ => 0)

def quiescent_RefRetProjDxIdeal [hRefRetProjDxIdeal : Cert.RefRetProjDxIdeal.Facts] : Prop :=
  ∀ (m : (ℓ : Loc Cert.RefRetProjDxIdeal.nD Cert.RefRetProjDxIdeal.τ Cert.RefRetProjDxIdeal.sig) → Buf (Elt Ideal) ℓ) (g : Dev Cert.RefRetProjDxIdeal.nD → PrngReg), Pre_RefRetProjDxIdeal m →
    θ_run (Cert.RefRetProjDxIdeal.defs (F := Ideal)) (onTc (τ := Cert.RefRetProjDxIdeal.τ) (Cert.RefRetProjDxIdeal.main (F := Ideal))) ⟨m, fun _ => 0, g⟩ (fun r => (∀ c : Dev Cert.RefRetProjDxIdeal.nD,
      r.2.mem ((c.tc : Thread Cert.RefRetProjDxIdeal.nD Cert.RefRetProjDxIdeal.τ).loc Cert.RefRetProjDxIdeal.main_arg0) = m ((c.tc : Thread Cert.RefRetProjDxIdeal.nD Cert.RefRetProjDxIdeal.τ).loc Cert.RefRetProjDxIdeal.main_arg0)
      ∧ r.2.mem ((c.tc : Thread Cert.RefRetProjDxIdeal.nD Cert.RefRetProjDxIdeal.τ).loc Cert.RefRetProjDxIdeal.main_arg1) = m ((c.tc : Thread Cert.RefRetProjDxIdeal.nD Cert.RefRetProjDxIdeal.τ).loc Cert.RefRetProjDxIdeal.main_arg1))
      ∧ r.2.sem = fun _ => 0)

def quiescent_RetProjDw [hRetProjDw : Cert.RetProjDw.Facts] : Prop :=
  ∀ (m : (ℓ : Loc Cert.RetProjDw.nD Cert.RetProjDw.τ Cert.RetProjDw.sig) → Buf (Elt Bits) ℓ) (g : Dev Cert.RetProjDw.nD → PrngReg), Pre_RetProjDw m →
    θ_run (Cert.RetProjDw.defs (F := Bits)) (onTc (τ := Cert.RetProjDw.τ) (Cert.RetProjDw.main (F := Bits))) ⟨m, fun _ => 0, g⟩ (fun r => (∀ c : Dev Cert.RetProjDw.nD,
      r.2.mem ((c.tc : Thread Cert.RetProjDw.nD Cert.RetProjDw.τ).loc Cert.RetProjDw.main_arg0) = m ((c.tc : Thread Cert.RetProjDw.nD Cert.RetProjDw.τ).loc Cert.RetProjDw.main_arg0)
      ∧ r.2.mem ((c.tc : Thread Cert.RetProjDw.nD Cert.RetProjDw.τ).loc Cert.RetProjDw.main_arg1) = m ((c.tc : Thread Cert.RetProjDw.nD Cert.RetProjDw.τ).loc Cert.RetProjDw.main_arg1))
      ∧ r.2.sem = fun _ => 0)

def quiescent_RetProjDwIdeal [hRetProjDwIdeal : Cert.RetProjDwIdeal.Facts] : Prop :=
  ∀ (m : (ℓ : Loc Cert.RetProjDwIdeal.nD Cert.RetProjDwIdeal.τ Cert.RetProjDwIdeal.sig) → Buf (Elt Ideal) ℓ) (g : Dev Cert.RetProjDwIdeal.nD → PrngReg), Pre_RetProjDwIdeal m →
    θ_run (Cert.RetProjDwIdeal.defs (F := Ideal)) (onTc (τ := Cert.RetProjDwIdeal.τ) (Cert.RetProjDwIdeal.main (F := Ideal))) ⟨m, fun _ => 0, g⟩ (fun r => (∀ c : Dev Cert.RetProjDwIdeal.nD,
      r.2.mem ((c.tc : Thread Cert.RetProjDwIdeal.nD Cert.RetProjDwIdeal.τ).loc Cert.RetProjDwIdeal.main_arg0) = m ((c.tc : Thread Cert.RetProjDwIdeal.nD Cert.RetProjDwIdeal.τ).loc Cert.RetProjDwIdeal.main_arg0)
      ∧ r.2.mem ((c.tc : Thread Cert.RetProjDwIdeal.nD Cert.RetProjDwIdeal.τ).loc Cert.RetProjDwIdeal.main_arg1) = m ((c.tc : Thread Cert.RetProjDwIdeal.nD Cert.RetProjDwIdeal.τ).loc Cert.RetProjDwIdeal.main_arg1))
      ∧ r.2.sem = fun _ => 0)

def quiescent_RefRetProjDwIdeal [hRefRetProjDwIdeal : Cert.RefRetProjDwIdeal.Facts] : Prop :=
  ∀ (m : (ℓ : Loc Cert.RefRetProjDwIdeal.nD Cert.RefRetProjDwIdeal.τ Cert.RefRetProjDwIdeal.sig) → Buf (Elt Ideal) ℓ) (g : Dev Cert.RefRetProjDwIdeal.nD → PrngReg), Pre_RefRetProjDwIdeal m →
    θ_run (Cert.RefRetProjDwIdeal.defs (F := Ideal)) (onTc (τ := Cert.RefRetProjDwIdeal.τ) (Cert.RefRetProjDwIdeal.main (F := Ideal))) ⟨m, fun _ => 0, g⟩ (fun r => (∀ c : Dev Cert.RefRetProjDwIdeal.nD,
      r.2.mem ((c.tc : Thread Cert.RefRetProjDwIdeal.nD Cert.RefRetProjDwIdeal.τ).loc Cert.RefRetProjDwIdeal.main_arg0) = m ((c.tc : Thread Cert.RefRetProjDwIdeal.nD Cert.RefRetProjDwIdeal.τ).loc Cert.RefRetProjDwIdeal.main_arg0)
      ∧ r.2.mem ((c.tc : Thread Cert.RefRetProjDwIdeal.nD Cert.RefRetProjDwIdeal.τ).loc Cert.RefRetProjDwIdeal.main_arg1) = m ((c.tc : Thread Cert.RefRetProjDwIdeal.nD Cert.RefRetProjDwIdeal.τ).loc Cert.RefRetProjDwIdeal.main_arg1))
      ∧ r.2.sem = fun _ => 0)

def quiescent_RetOutDx [hRetOutDx : Cert.RetOutDx.Facts] : Prop :=
  ∀ (m : (ℓ : Loc Cert.RetOutDx.nD Cert.RetOutDx.τ Cert.RetOutDx.sig) → Buf (Elt Bits) ℓ) (g : Dev Cert.RetOutDx.nD → PrngReg), Pre_RetOutDx m →
    θ_run (Cert.RetOutDx.defs (F := Bits)) (onTc (τ := Cert.RetOutDx.τ) (Cert.RetOutDx.main (F := Bits))) ⟨m, fun _ => 0, g⟩ (fun r => (∀ c : Dev Cert.RetOutDx.nD,
      r.2.mem ((c.tc : Thread Cert.RetOutDx.nD Cert.RetOutDx.τ).loc Cert.RetOutDx.main_arg0) = m ((c.tc : Thread Cert.RetOutDx.nD Cert.RetOutDx.τ).loc Cert.RetOutDx.main_arg0)
      ∧ r.2.mem ((c.tc : Thread Cert.RetOutDx.nD Cert.RetOutDx.τ).loc Cert.RetOutDx.main_arg1) = m ((c.tc : Thread Cert.RetOutDx.nD Cert.RetOutDx.τ).loc Cert.RetOutDx.main_arg1))
      ∧ r.2.sem = fun _ => 0)

def quiescent_RetOutDxIdeal [hRetOutDxIdeal : Cert.RetOutDxIdeal.Facts] : Prop :=
  ∀ (m : (ℓ : Loc Cert.RetOutDxIdeal.nD Cert.RetOutDxIdeal.τ Cert.RetOutDxIdeal.sig) → Buf (Elt Ideal) ℓ) (g : Dev Cert.RetOutDxIdeal.nD → PrngReg), Pre_RetOutDxIdeal m →
    θ_run (Cert.RetOutDxIdeal.defs (F := Ideal)) (onTc (τ := Cert.RetOutDxIdeal.τ) (Cert.RetOutDxIdeal.main (F := Ideal))) ⟨m, fun _ => 0, g⟩ (fun r => (∀ c : Dev Cert.RetOutDxIdeal.nD,
      r.2.mem ((c.tc : Thread Cert.RetOutDxIdeal.nD Cert.RetOutDxIdeal.τ).loc Cert.RetOutDxIdeal.main_arg0) = m ((c.tc : Thread Cert.RetOutDxIdeal.nD Cert.RetOutDxIdeal.τ).loc Cert.RetOutDxIdeal.main_arg0)
      ∧ r.2.mem ((c.tc : Thread Cert.RetOutDxIdeal.nD Cert.RetOutDxIdeal.τ).loc Cert.RetOutDxIdeal.main_arg1) = m ((c.tc : Thread Cert.RetOutDxIdeal.nD Cert.RetOutDxIdeal.τ).loc Cert.RetOutDxIdeal.main_arg1))
      ∧ r.2.sem = fun _ => 0)

def quiescent_RefRetOutDxIdeal [hRefRetOutDxIdeal : Cert.RefRetOutDxIdeal.Facts] : Prop :=
  ∀ (m : (ℓ : Loc Cert.RefRetOutDxIdeal.nD Cert.RefRetOutDxIdeal.τ Cert.RefRetOutDxIdeal.sig) → Buf (Elt Ideal) ℓ) (g : Dev Cert.RefRetOutDxIdeal.nD → PrngReg), Pre_RefRetOutDxIdeal m →
    θ_run (Cert.RefRetOutDxIdeal.defs (F := Ideal)) (onTc (τ := Cert.RefRetOutDxIdeal.τ) (Cert.RefRetOutDxIdeal.main (F := Ideal))) ⟨m, fun _ => 0, g⟩ (fun r => (∀ c : Dev Cert.RefRetOutDxIdeal.nD,
      r.2.mem ((c.tc : Thread Cert.RefRetOutDxIdeal.nD Cert.RefRetOutDxIdeal.τ).loc Cert.RefRetOutDxIdeal.main_arg0) = m ((c.tc : Thread Cert.RefRetOutDxIdeal.nD Cert.RefRetOutDxIdeal.τ).loc Cert.RefRetOutDxIdeal.main_arg0)
      ∧ r.2.mem ((c.tc : Thread Cert.RefRetOutDxIdeal.nD Cert.RefRetOutDxIdeal.τ).loc Cert.RefRetOutDxIdeal.main_arg1) = m ((c.tc : Thread Cert.RefRetOutDxIdeal.nD Cert.RefRetOutDxIdeal.τ).loc Cert.RefRetOutDxIdeal.main_arg1))
      ∧ r.2.sem = fun _ => 0)

def quiescent_RetOutDw [hRetOutDw : Cert.RetOutDw.Facts] : Prop :=
  ∀ (m : (ℓ : Loc Cert.RetOutDw.nD Cert.RetOutDw.τ Cert.RetOutDw.sig) → Buf (Elt Bits) ℓ) (g : Dev Cert.RetOutDw.nD → PrngReg), Pre_RetOutDw m →
    θ_run (Cert.RetOutDw.defs (F := Bits)) (onTc (τ := Cert.RetOutDw.τ) (Cert.RetOutDw.main (F := Bits))) ⟨m, fun _ => 0, g⟩ (fun r => (∀ c : Dev Cert.RetOutDw.nD,
      r.2.mem ((c.tc : Thread Cert.RetOutDw.nD Cert.RetOutDw.τ).loc Cert.RetOutDw.main_arg0) = m ((c.tc : Thread Cert.RetOutDw.nD Cert.RetOutDw.τ).loc Cert.RetOutDw.main_arg0)
      ∧ r.2.mem ((c.tc : Thread Cert.RetOutDw.nD Cert.RetOutDw.τ).loc Cert.RetOutDw.main_arg1) = m ((c.tc : Thread Cert.RetOutDw.nD Cert.RetOutDw.τ).loc Cert.RetOutDw.main_arg1))
      ∧ r.2.sem = fun _ => 0)

def quiescent_RetOutDwIdeal [hRetOutDwIdeal : Cert.RetOutDwIdeal.Facts] : Prop :=
  ∀ (m : (ℓ : Loc Cert.RetOutDwIdeal.nD Cert.RetOutDwIdeal.τ Cert.RetOutDwIdeal.sig) → Buf (Elt Ideal) ℓ) (g : Dev Cert.RetOutDwIdeal.nD → PrngReg), Pre_RetOutDwIdeal m →
    θ_run (Cert.RetOutDwIdeal.defs (F := Ideal)) (onTc (τ := Cert.RetOutDwIdeal.τ) (Cert.RetOutDwIdeal.main (F := Ideal))) ⟨m, fun _ => 0, g⟩ (fun r => (∀ c : Dev Cert.RetOutDwIdeal.nD,
      r.2.mem ((c.tc : Thread Cert.RetOutDwIdeal.nD Cert.RetOutDwIdeal.τ).loc Cert.RetOutDwIdeal.main_arg0) = m ((c.tc : Thread Cert.RetOutDwIdeal.nD Cert.RetOutDwIdeal.τ).loc Cert.RetOutDwIdeal.main_arg0)
      ∧ r.2.mem ((c.tc : Thread Cert.RetOutDwIdeal.nD Cert.RetOutDwIdeal.τ).loc Cert.RetOutDwIdeal.main_arg1) = m ((c.tc : Thread Cert.RetOutDwIdeal.nD Cert.RetOutDwIdeal.τ).loc Cert.RetOutDwIdeal.main_arg1))
      ∧ r.2.sem = fun _ => 0)

def quiescent_RefRetOutDwIdeal [hRefRetOutDwIdeal : Cert.RefRetOutDwIdeal.Facts] : Prop :=
  ∀ (m : (ℓ : Loc Cert.RefRetOutDwIdeal.nD Cert.RefRetOutDwIdeal.τ Cert.RefRetOutDwIdeal.sig) → Buf (Elt Ideal) ℓ) (g : Dev Cert.RefRetOutDwIdeal.nD → PrngReg), Pre_RefRetOutDwIdeal m →
    θ_run (Cert.RefRetOutDwIdeal.defs (F := Ideal)) (onTc (τ := Cert.RefRetOutDwIdeal.τ) (Cert.RefRetOutDwIdeal.main (F := Ideal))) ⟨m, fun _ => 0, g⟩ (fun r => (∀ c : Dev Cert.RefRetOutDwIdeal.nD,
      r.2.mem ((c.tc : Thread Cert.RefRetOutDwIdeal.nD Cert.RefRetOutDwIdeal.τ).loc Cert.RefRetOutDwIdeal.main_arg0) = m ((c.tc : Thread Cert.RefRetOutDwIdeal.nD Cert.RefRetOutDwIdeal.τ).loc Cert.RefRetOutDwIdeal.main_arg0)
      ∧ r.2.mem ((c.tc : Thread Cert.RefRetOutDwIdeal.nD Cert.RefRetOutDwIdeal.τ).loc Cert.RefRetOutDwIdeal.main_arg1) = m ((c.tc : Thread Cert.RefRetOutDwIdeal.nD Cert.RefRetOutDwIdeal.τ).loc Cert.RefRetOutDwIdeal.main_arg1))
      ∧ r.2.sem = fun _ => 0)

def quiescent_FoxProjDx [hFoxProjDx : Cert.FoxProjDx.Facts] : Prop :=
  ∀ (m : (ℓ : Loc Cert.FoxProjDx.nD Cert.FoxProjDx.τ Cert.FoxProjDx.sig) → Buf (Elt Bits) ℓ) (g : Dev Cert.FoxProjDx.nD → PrngReg), Pre_FoxProjDx m →
    θ_run (Cert.FoxProjDx.defs (F := Bits)) (onTc (τ := Cert.FoxProjDx.τ) (Cert.FoxProjDx.main (F := Bits))) ⟨m, fun _ => 0, g⟩ (fun r => (∀ c : Dev Cert.FoxProjDx.nD,
      r.2.mem ((c.tc : Thread Cert.FoxProjDx.nD Cert.FoxProjDx.τ).loc Cert.FoxProjDx.main_arg0) = m ((c.tc : Thread Cert.FoxProjDx.nD Cert.FoxProjDx.τ).loc Cert.FoxProjDx.main_arg0)
      ∧ r.2.mem ((c.tc : Thread Cert.FoxProjDx.nD Cert.FoxProjDx.τ).loc Cert.FoxProjDx.main_arg1) = m ((c.tc : Thread Cert.FoxProjDx.nD Cert.FoxProjDx.τ).loc Cert.FoxProjDx.main_arg1))
      ∧ r.2.sem = fun _ => 0)

def quiescent_FoxProjDxIdeal [hFoxProjDxIdeal : Cert.FoxProjDxIdeal.Facts] : Prop :=
  ∀ (m : (ℓ : Loc Cert.FoxProjDxIdeal.nD Cert.FoxProjDxIdeal.τ Cert.FoxProjDxIdeal.sig) → Buf (Elt Ideal) ℓ) (g : Dev Cert.FoxProjDxIdeal.nD → PrngReg), Pre_FoxProjDxIdeal m →
    θ_run (Cert.FoxProjDxIdeal.defs (F := Ideal)) (onTc (τ := Cert.FoxProjDxIdeal.τ) (Cert.FoxProjDxIdeal.main (F := Ideal))) ⟨m, fun _ => 0, g⟩ (fun r => (∀ c : Dev Cert.FoxProjDxIdeal.nD,
      r.2.mem ((c.tc : Thread Cert.FoxProjDxIdeal.nD Cert.FoxProjDxIdeal.τ).loc Cert.FoxProjDxIdeal.main_arg0) = m ((c.tc : Thread Cert.FoxProjDxIdeal.nD Cert.FoxProjDxIdeal.τ).loc Cert.FoxProjDxIdeal.main_arg0)
      ∧ r.2.mem ((c.tc : Thread Cert.FoxProjDxIdeal.nD Cert.FoxProjDxIdeal.τ).loc Cert.FoxProjDxIdeal.main_arg1) = m ((c.tc : Thread Cert.FoxProjDxIdeal.nD Cert.FoxProjDxIdeal.τ).loc Cert.FoxProjDxIdeal.main_arg1))
      ∧ r.2.sem = fun _ => 0)

def quiescent_RefFoxProjDxIdeal [hRefFoxProjDxIdeal : Cert.RefFoxProjDxIdeal.Facts] : Prop :=
  ∀ (m : (ℓ : Loc Cert.RefFoxProjDxIdeal.nD Cert.RefFoxProjDxIdeal.τ Cert.RefFoxProjDxIdeal.sig) → Buf (Elt Ideal) ℓ) (g : Dev Cert.RefFoxProjDxIdeal.nD → PrngReg), Pre_RefFoxProjDxIdeal m →
    θ_run (Cert.RefFoxProjDxIdeal.defs (F := Ideal)) (onTc (τ := Cert.RefFoxProjDxIdeal.τ) (Cert.RefFoxProjDxIdeal.main (F := Ideal))) ⟨m, fun _ => 0, g⟩ (fun r => (∀ c : Dev Cert.RefFoxProjDxIdeal.nD,
      r.2.mem ((c.tc : Thread Cert.RefFoxProjDxIdeal.nD Cert.RefFoxProjDxIdeal.τ).loc Cert.RefFoxProjDxIdeal.main_arg0) = m ((c.tc : Thread Cert.RefFoxProjDxIdeal.nD Cert.RefFoxProjDxIdeal.τ).loc Cert.RefFoxProjDxIdeal.main_arg0)
      ∧ r.2.mem ((c.tc : Thread Cert.RefFoxProjDxIdeal.nD Cert.RefFoxProjDxIdeal.τ).loc Cert.RefFoxProjDxIdeal.main_arg1) = m ((c.tc : Thread Cert.RefFoxProjDxIdeal.nD Cert.RefFoxProjDxIdeal.τ).loc Cert.RefFoxProjDxIdeal.main_arg1))
      ∧ r.2.sem = fun _ => 0)

def quiescent_FoxProjDw [hFoxProjDw : Cert.FoxProjDw.Facts] : Prop :=
  ∀ (m : (ℓ : Loc Cert.FoxProjDw.nD Cert.FoxProjDw.τ Cert.FoxProjDw.sig) → Buf (Elt Bits) ℓ) (g : Dev Cert.FoxProjDw.nD → PrngReg), Pre_FoxProjDw m →
    θ_run (Cert.FoxProjDw.defs (F := Bits)) (onTc (τ := Cert.FoxProjDw.τ) (Cert.FoxProjDw.main (F := Bits))) ⟨m, fun _ => 0, g⟩ (fun r => (∀ c : Dev Cert.FoxProjDw.nD,
      r.2.mem ((c.tc : Thread Cert.FoxProjDw.nD Cert.FoxProjDw.τ).loc Cert.FoxProjDw.main_arg0) = m ((c.tc : Thread Cert.FoxProjDw.nD Cert.FoxProjDw.τ).loc Cert.FoxProjDw.main_arg0)
      ∧ r.2.mem ((c.tc : Thread Cert.FoxProjDw.nD Cert.FoxProjDw.τ).loc Cert.FoxProjDw.main_arg1) = m ((c.tc : Thread Cert.FoxProjDw.nD Cert.FoxProjDw.τ).loc Cert.FoxProjDw.main_arg1))
      ∧ r.2.sem = fun _ => 0)

def quiescent_FoxProjDwIdeal [hFoxProjDwIdeal : Cert.FoxProjDwIdeal.Facts] : Prop :=
  ∀ (m : (ℓ : Loc Cert.FoxProjDwIdeal.nD Cert.FoxProjDwIdeal.τ Cert.FoxProjDwIdeal.sig) → Buf (Elt Ideal) ℓ) (g : Dev Cert.FoxProjDwIdeal.nD → PrngReg), Pre_FoxProjDwIdeal m →
    θ_run (Cert.FoxProjDwIdeal.defs (F := Ideal)) (onTc (τ := Cert.FoxProjDwIdeal.τ) (Cert.FoxProjDwIdeal.main (F := Ideal))) ⟨m, fun _ => 0, g⟩ (fun r => (∀ c : Dev Cert.FoxProjDwIdeal.nD,
      r.2.mem ((c.tc : Thread Cert.FoxProjDwIdeal.nD Cert.FoxProjDwIdeal.τ).loc Cert.FoxProjDwIdeal.main_arg0) = m ((c.tc : Thread Cert.FoxProjDwIdeal.nD Cert.FoxProjDwIdeal.τ).loc Cert.FoxProjDwIdeal.main_arg0)
      ∧ r.2.mem ((c.tc : Thread Cert.FoxProjDwIdeal.nD Cert.FoxProjDwIdeal.τ).loc Cert.FoxProjDwIdeal.main_arg1) = m ((c.tc : Thread Cert.FoxProjDwIdeal.nD Cert.FoxProjDwIdeal.τ).loc Cert.FoxProjDwIdeal.main_arg1))
      ∧ r.2.sem = fun _ => 0)

def quiescent_RefFoxProjDwIdeal [hRefFoxProjDwIdeal : Cert.RefFoxProjDwIdeal.Facts] : Prop :=
  ∀ (m : (ℓ : Loc Cert.RefFoxProjDwIdeal.nD Cert.RefFoxProjDwIdeal.τ Cert.RefFoxProjDwIdeal.sig) → Buf (Elt Ideal) ℓ) (g : Dev Cert.RefFoxProjDwIdeal.nD → PrngReg), Pre_RefFoxProjDwIdeal m →
    θ_run (Cert.RefFoxProjDwIdeal.defs (F := Ideal)) (onTc (τ := Cert.RefFoxProjDwIdeal.τ) (Cert.RefFoxProjDwIdeal.main (F := Ideal))) ⟨m, fun _ => 0, g⟩ (fun r => (∀ c : Dev Cert.RefFoxProjDwIdeal.nD,
      r.2.mem ((c.tc : Thread Cert.RefFoxProjDwIdeal.nD Cert.RefFoxProjDwIdeal.τ).loc Cert.RefFoxProjDwIdeal.main_arg0) = m ((c.tc : Thread Cert.RefFoxProjDwIdeal.nD Cert.RefFoxProjDwIdeal.τ).loc Cert.RefFoxProjDwIdeal.main_arg0)
      ∧ r.2.mem ((c.tc : Thread Cert.RefFoxProjDwIdeal.nD Cert.RefFoxProjDwIdeal.τ).loc Cert.RefFoxProjDwIdeal.main_arg1) = m ((c.tc : Thread Cert.RefFoxProjDwIdeal.nD Cert.RefFoxProjDwIdeal.τ).loc Cert.RefFoxProjDwIdeal.main_arg1))
      ∧ r.2.sem = fun _ => 0)

def quiescent_FoxOutDx [hFoxOutDx : Cert.FoxOutDx.Facts] : Prop :=
  ∀ (m : (ℓ : Loc Cert.FoxOutDx.nD Cert.FoxOutDx.τ Cert.FoxOutDx.sig) → Buf (Elt Bits) ℓ) (g : Dev Cert.FoxOutDx.nD → PrngReg), Pre_FoxOutDx m →
    θ_run (Cert.FoxOutDx.defs (F := Bits)) (onTc (τ := Cert.FoxOutDx.τ) (Cert.FoxOutDx.main (F := Bits))) ⟨m, fun _ => 0, g⟩ (fun r => (∀ c : Dev Cert.FoxOutDx.nD,
      r.2.mem ((c.tc : Thread Cert.FoxOutDx.nD Cert.FoxOutDx.τ).loc Cert.FoxOutDx.main_arg0) = m ((c.tc : Thread Cert.FoxOutDx.nD Cert.FoxOutDx.τ).loc Cert.FoxOutDx.main_arg0)
      ∧ r.2.mem ((c.tc : Thread Cert.FoxOutDx.nD Cert.FoxOutDx.τ).loc Cert.FoxOutDx.main_arg1) = m ((c.tc : Thread Cert.FoxOutDx.nD Cert.FoxOutDx.τ).loc Cert.FoxOutDx.main_arg1))
      ∧ r.2.sem = fun _ => 0)

def quiescent_FoxOutDxIdeal [hFoxOutDxIdeal : Cert.FoxOutDxIdeal.Facts] : Prop :=
  ∀ (m : (ℓ : Loc Cert.FoxOutDxIdeal.nD Cert.FoxOutDxIdeal.τ Cert.FoxOutDxIdeal.sig) → Buf (Elt Ideal) ℓ) (g : Dev Cert.FoxOutDxIdeal.nD → PrngReg), Pre_FoxOutDxIdeal m →
    θ_run (Cert.FoxOutDxIdeal.defs (F := Ideal)) (onTc (τ := Cert.FoxOutDxIdeal.τ) (Cert.FoxOutDxIdeal.main (F := Ideal))) ⟨m, fun _ => 0, g⟩ (fun r => (∀ c : Dev Cert.FoxOutDxIdeal.nD,
      r.2.mem ((c.tc : Thread Cert.FoxOutDxIdeal.nD Cert.FoxOutDxIdeal.τ).loc Cert.FoxOutDxIdeal.main_arg0) = m ((c.tc : Thread Cert.FoxOutDxIdeal.nD Cert.FoxOutDxIdeal.τ).loc Cert.FoxOutDxIdeal.main_arg0)
      ∧ r.2.mem ((c.tc : Thread Cert.FoxOutDxIdeal.nD Cert.FoxOutDxIdeal.τ).loc Cert.FoxOutDxIdeal.main_arg1) = m ((c.tc : Thread Cert.FoxOutDxIdeal.nD Cert.FoxOutDxIdeal.τ).loc Cert.FoxOutDxIdeal.main_arg1))
      ∧ r.2.sem = fun _ => 0)

def quiescent_RefFoxOutDxIdeal [hRefFoxOutDxIdeal : Cert.RefFoxOutDxIdeal.Facts] : Prop :=
  ∀ (m : (ℓ : Loc Cert.RefFoxOutDxIdeal.nD Cert.RefFoxOutDxIdeal.τ Cert.RefFoxOutDxIdeal.sig) → Buf (Elt Ideal) ℓ) (g : Dev Cert.RefFoxOutDxIdeal.nD → PrngReg), Pre_RefFoxOutDxIdeal m →
    θ_run (Cert.RefFoxOutDxIdeal.defs (F := Ideal)) (onTc (τ := Cert.RefFoxOutDxIdeal.τ) (Cert.RefFoxOutDxIdeal.main (F := Ideal))) ⟨m, fun _ => 0, g⟩ (fun r => (∀ c : Dev Cert.RefFoxOutDxIdeal.nD,
      r.2.mem ((c.tc : Thread Cert.RefFoxOutDxIdeal.nD Cert.RefFoxOutDxIdeal.τ).loc Cert.RefFoxOutDxIdeal.main_arg0) = m ((c.tc : Thread Cert.RefFoxOutDxIdeal.nD Cert.RefFoxOutDxIdeal.τ).loc Cert.RefFoxOutDxIdeal.main_arg0)
      ∧ r.2.mem ((c.tc : Thread Cert.RefFoxOutDxIdeal.nD Cert.RefFoxOutDxIdeal.τ).loc Cert.RefFoxOutDxIdeal.main_arg1) = m ((c.tc : Thread Cert.RefFoxOutDxIdeal.nD Cert.RefFoxOutDxIdeal.τ).loc Cert.RefFoxOutDxIdeal.main_arg1))
      ∧ r.2.sem = fun _ => 0)

def quiescent_FoxOutDw [hFoxOutDw : Cert.FoxOutDw.Facts] : Prop :=
  ∀ (m : (ℓ : Loc Cert.FoxOutDw.nD Cert.FoxOutDw.τ Cert.FoxOutDw.sig) → Buf (Elt Bits) ℓ) (g : Dev Cert.FoxOutDw.nD → PrngReg), Pre_FoxOutDw m →
    θ_run (Cert.FoxOutDw.defs (F := Bits)) (onTc (τ := Cert.FoxOutDw.τ) (Cert.FoxOutDw.main (F := Bits))) ⟨m, fun _ => 0, g⟩ (fun r => (∀ c : Dev Cert.FoxOutDw.nD,
      r.2.mem ((c.tc : Thread Cert.FoxOutDw.nD Cert.FoxOutDw.τ).loc Cert.FoxOutDw.main_arg0) = m ((c.tc : Thread Cert.FoxOutDw.nD Cert.FoxOutDw.τ).loc Cert.FoxOutDw.main_arg0)
      ∧ r.2.mem ((c.tc : Thread Cert.FoxOutDw.nD Cert.FoxOutDw.τ).loc Cert.FoxOutDw.main_arg1) = m ((c.tc : Thread Cert.FoxOutDw.nD Cert.FoxOutDw.τ).loc Cert.FoxOutDw.main_arg1))
      ∧ r.2.sem = fun _ => 0)

def quiescent_FoxOutDwIdeal [hFoxOutDwIdeal : Cert.FoxOutDwIdeal.Facts] : Prop :=
  ∀ (m : (ℓ : Loc Cert.FoxOutDwIdeal.nD Cert.FoxOutDwIdeal.τ Cert.FoxOutDwIdeal.sig) → Buf (Elt Ideal) ℓ) (g : Dev Cert.FoxOutDwIdeal.nD → PrngReg), Pre_FoxOutDwIdeal m →
    θ_run (Cert.FoxOutDwIdeal.defs (F := Ideal)) (onTc (τ := Cert.FoxOutDwIdeal.τ) (Cert.FoxOutDwIdeal.main (F := Ideal))) ⟨m, fun _ => 0, g⟩ (fun r => (∀ c : Dev Cert.FoxOutDwIdeal.nD,
      r.2.mem ((c.tc : Thread Cert.FoxOutDwIdeal.nD Cert.FoxOutDwIdeal.τ).loc Cert.FoxOutDwIdeal.main_arg0) = m ((c.tc : Thread Cert.FoxOutDwIdeal.nD Cert.FoxOutDwIdeal.τ).loc Cert.FoxOutDwIdeal.main_arg0)
      ∧ r.2.mem ((c.tc : Thread Cert.FoxOutDwIdeal.nD Cert.FoxOutDwIdeal.τ).loc Cert.FoxOutDwIdeal.main_arg1) = m ((c.tc : Thread Cert.FoxOutDwIdeal.nD Cert.FoxOutDwIdeal.τ).loc Cert.FoxOutDwIdeal.main_arg1))
      ∧ r.2.sem = fun _ => 0)

def quiescent_RefFoxOutDwIdeal [hRefFoxOutDwIdeal : Cert.RefFoxOutDwIdeal.Facts] : Prop :=
  ∀ (m : (ℓ : Loc Cert.RefFoxOutDwIdeal.nD Cert.RefFoxOutDwIdeal.τ Cert.RefFoxOutDwIdeal.sig) → Buf (Elt Ideal) ℓ) (g : Dev Cert.RefFoxOutDwIdeal.nD → PrngReg), Pre_RefFoxOutDwIdeal m →
    θ_run (Cert.RefFoxOutDwIdeal.defs (F := Ideal)) (onTc (τ := Cert.RefFoxOutDwIdeal.τ) (Cert.RefFoxOutDwIdeal.main (F := Ideal))) ⟨m, fun _ => 0, g⟩ (fun r => (∀ c : Dev Cert.RefFoxOutDwIdeal.nD,
      r.2.mem ((c.tc : Thread Cert.RefFoxOutDwIdeal.nD Cert.RefFoxOutDwIdeal.τ).loc Cert.RefFoxOutDwIdeal.main_arg0) = m ((c.tc : Thread Cert.RefFoxOutDwIdeal.nD Cert.RefFoxOutDwIdeal.τ).loc Cert.RefFoxOutDwIdeal.main_arg0)
      ∧ r.2.mem ((c.tc : Thread Cert.RefFoxOutDwIdeal.nD Cert.RefFoxOutDwIdeal.τ).loc Cert.RefFoxOutDwIdeal.main_arg1) = m ((c.tc : Thread Cert.RefFoxOutDwIdeal.nD Cert.RefFoxOutDwIdeal.τ).loc Cert.RefFoxOutDwIdeal.main_arg1))
      ∧ r.2.sem = fun _ => 0)

def quiescent_KvProjDx [hKvProjDx : Cert.KvProjDx.Facts] : Prop :=
  ∀ (m : (ℓ : Loc Cert.KvProjDx.nD Cert.KvProjDx.τ Cert.KvProjDx.sig) → Buf (Elt Bits) ℓ) (g : Dev Cert.KvProjDx.nD → PrngReg), Pre_KvProjDx m →
    θ_run (Cert.KvProjDx.defs (F := Bits)) (onTc (τ := Cert.KvProjDx.τ) (Cert.KvProjDx.main (F := Bits))) ⟨m, fun _ => 0, g⟩ (fun r => (∀ c : Dev Cert.KvProjDx.nD,
      r.2.mem ((c.tc : Thread Cert.KvProjDx.nD Cert.KvProjDx.τ).loc Cert.KvProjDx.main_arg0) = m ((c.tc : Thread Cert.KvProjDx.nD Cert.KvProjDx.τ).loc Cert.KvProjDx.main_arg0)
      ∧ r.2.mem ((c.tc : Thread Cert.KvProjDx.nD Cert.KvProjDx.τ).loc Cert.KvProjDx.main_arg1) = m ((c.tc : Thread Cert.KvProjDx.nD Cert.KvProjDx.τ).loc Cert.KvProjDx.main_arg1))
      ∧ r.2.sem = fun _ => 0)

def quiescent_KvProjDxIdeal [hKvProjDxIdeal : Cert.KvProjDxIdeal.Facts] : Prop :=
  ∀ (m : (ℓ : Loc Cert.KvProjDxIdeal.nD Cert.KvProjDxIdeal.τ Cert.KvProjDxIdeal.sig) → Buf (Elt Ideal) ℓ) (g : Dev Cert.KvProjDxIdeal.nD → PrngReg), Pre_KvProjDxIdeal m →
    θ_run (Cert.KvProjDxIdeal.defs (F := Ideal)) (onTc (τ := Cert.KvProjDxIdeal.τ) (Cert.KvProjDxIdeal.main (F := Ideal))) ⟨m, fun _ => 0, g⟩ (fun r => (∀ c : Dev Cert.KvProjDxIdeal.nD,
      r.2.mem ((c.tc : Thread Cert.KvProjDxIdeal.nD Cert.KvProjDxIdeal.τ).loc Cert.KvProjDxIdeal.main_arg0) = m ((c.tc : Thread Cert.KvProjDxIdeal.nD Cert.KvProjDxIdeal.τ).loc Cert.KvProjDxIdeal.main_arg0)
      ∧ r.2.mem ((c.tc : Thread Cert.KvProjDxIdeal.nD Cert.KvProjDxIdeal.τ).loc Cert.KvProjDxIdeal.main_arg1) = m ((c.tc : Thread Cert.KvProjDxIdeal.nD Cert.KvProjDxIdeal.τ).loc Cert.KvProjDxIdeal.main_arg1))
      ∧ r.2.sem = fun _ => 0)

def quiescent_RefKvProjDxIdeal [hRefKvProjDxIdeal : Cert.RefKvProjDxIdeal.Facts] : Prop :=
  ∀ (m : (ℓ : Loc Cert.RefKvProjDxIdeal.nD Cert.RefKvProjDxIdeal.τ Cert.RefKvProjDxIdeal.sig) → Buf (Elt Ideal) ℓ) (g : Dev Cert.RefKvProjDxIdeal.nD → PrngReg), Pre_RefKvProjDxIdeal m →
    θ_run (Cert.RefKvProjDxIdeal.defs (F := Ideal)) (onTc (τ := Cert.RefKvProjDxIdeal.τ) (Cert.RefKvProjDxIdeal.main (F := Ideal))) ⟨m, fun _ => 0, g⟩ (fun r => (∀ c : Dev Cert.RefKvProjDxIdeal.nD,
      r.2.mem ((c.tc : Thread Cert.RefKvProjDxIdeal.nD Cert.RefKvProjDxIdeal.τ).loc Cert.RefKvProjDxIdeal.main_arg0) = m ((c.tc : Thread Cert.RefKvProjDxIdeal.nD Cert.RefKvProjDxIdeal.τ).loc Cert.RefKvProjDxIdeal.main_arg0)
      ∧ r.2.mem ((c.tc : Thread Cert.RefKvProjDxIdeal.nD Cert.RefKvProjDxIdeal.τ).loc Cert.RefKvProjDxIdeal.main_arg1) = m ((c.tc : Thread Cert.RefKvProjDxIdeal.nD Cert.RefKvProjDxIdeal.τ).loc Cert.RefKvProjDxIdeal.main_arg1))
      ∧ r.2.sem = fun _ => 0)

def quiescent_KvProjDw [hKvProjDw : Cert.KvProjDw.Facts] : Prop :=
  ∀ (m : (ℓ : Loc Cert.KvProjDw.nD Cert.KvProjDw.τ Cert.KvProjDw.sig) → Buf (Elt Bits) ℓ) (g : Dev Cert.KvProjDw.nD → PrngReg), Pre_KvProjDw m →
    θ_run (Cert.KvProjDw.defs (F := Bits)) (onTc (τ := Cert.KvProjDw.τ) (Cert.KvProjDw.main (F := Bits))) ⟨m, fun _ => 0, g⟩ (fun r => (∀ c : Dev Cert.KvProjDw.nD,
      r.2.mem ((c.tc : Thread Cert.KvProjDw.nD Cert.KvProjDw.τ).loc Cert.KvProjDw.main_arg0) = m ((c.tc : Thread Cert.KvProjDw.nD Cert.KvProjDw.τ).loc Cert.KvProjDw.main_arg0)
      ∧ r.2.mem ((c.tc : Thread Cert.KvProjDw.nD Cert.KvProjDw.τ).loc Cert.KvProjDw.main_arg1) = m ((c.tc : Thread Cert.KvProjDw.nD Cert.KvProjDw.τ).loc Cert.KvProjDw.main_arg1))
      ∧ r.2.sem = fun _ => 0)

def quiescent_KvProjDwIdeal [hKvProjDwIdeal : Cert.KvProjDwIdeal.Facts] : Prop :=
  ∀ (m : (ℓ : Loc Cert.KvProjDwIdeal.nD Cert.KvProjDwIdeal.τ Cert.KvProjDwIdeal.sig) → Buf (Elt Ideal) ℓ) (g : Dev Cert.KvProjDwIdeal.nD → PrngReg), Pre_KvProjDwIdeal m →
    θ_run (Cert.KvProjDwIdeal.defs (F := Ideal)) (onTc (τ := Cert.KvProjDwIdeal.τ) (Cert.KvProjDwIdeal.main (F := Ideal))) ⟨m, fun _ => 0, g⟩ (fun r => (∀ c : Dev Cert.KvProjDwIdeal.nD,
      r.2.mem ((c.tc : Thread Cert.KvProjDwIdeal.nD Cert.KvProjDwIdeal.τ).loc Cert.KvProjDwIdeal.main_arg0) = m ((c.tc : Thread Cert.KvProjDwIdeal.nD Cert.KvProjDwIdeal.τ).loc Cert.KvProjDwIdeal.main_arg0)
      ∧ r.2.mem ((c.tc : Thread Cert.KvProjDwIdeal.nD Cert.KvProjDwIdeal.τ).loc Cert.KvProjDwIdeal.main_arg1) = m ((c.tc : Thread Cert.KvProjDwIdeal.nD Cert.KvProjDwIdeal.τ).loc Cert.KvProjDwIdeal.main_arg1))
      ∧ r.2.sem = fun _ => 0)

def quiescent_RefKvProjDwIdeal [hRefKvProjDwIdeal : Cert.RefKvProjDwIdeal.Facts] : Prop :=
  ∀ (m : (ℓ : Loc Cert.RefKvProjDwIdeal.nD Cert.RefKvProjDwIdeal.τ Cert.RefKvProjDwIdeal.sig) → Buf (Elt Ideal) ℓ) (g : Dev Cert.RefKvProjDwIdeal.nD → PrngReg), Pre_RefKvProjDwIdeal m →
    θ_run (Cert.RefKvProjDwIdeal.defs (F := Ideal)) (onTc (τ := Cert.RefKvProjDwIdeal.τ) (Cert.RefKvProjDwIdeal.main (F := Ideal))) ⟨m, fun _ => 0, g⟩ (fun r => (∀ c : Dev Cert.RefKvProjDwIdeal.nD,
      r.2.mem ((c.tc : Thread Cert.RefKvProjDwIdeal.nD Cert.RefKvProjDwIdeal.τ).loc Cert.RefKvProjDwIdeal.main_arg0) = m ((c.tc : Thread Cert.RefKvProjDwIdeal.nD Cert.RefKvProjDwIdeal.τ).loc Cert.RefKvProjDwIdeal.main_arg0)
      ∧ r.2.mem ((c.tc : Thread Cert.RefKvProjDwIdeal.nD Cert.RefKvProjDwIdeal.τ).loc Cert.RefKvProjDwIdeal.main_arg1) = m ((c.tc : Thread Cert.RefKvProjDwIdeal.nD Cert.RefKvProjDwIdeal.τ).loc Cert.RefKvProjDwIdeal.main_arg1))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1))
      ∧ r.2.sem = fun _ => 0)

def quiescent_RefRetProjIdeal [hRefRetProjIdeal : Cert.RefRetProjIdeal.Facts] : Prop :=
  ∀ (m : (ℓ : Loc Cert.RefRetProjIdeal.nD Cert.RefRetProjIdeal.τ Cert.RefRetProjIdeal.sig) → Buf (Elt Ideal) ℓ) (g : Dev Cert.RefRetProjIdeal.nD → PrngReg), Pre_RefRetProjIdeal m →
    θ_run (Cert.RefRetProjIdeal.defs (F := Ideal)) (onTc (τ := Cert.RefRetProjIdeal.τ) (Cert.RefRetProjIdeal.main (F := Ideal))) ⟨m, fun _ => 0, g⟩ (fun r => (∀ c : Dev Cert.RefRetProjIdeal.nD,
      r.2.mem ((c.tc : Thread Cert.RefRetProjIdeal.nD Cert.RefRetProjIdeal.τ).loc Cert.RefRetProjIdeal.main_arg0) = m ((c.tc : Thread Cert.RefRetProjIdeal.nD Cert.RefRetProjIdeal.τ).loc Cert.RefRetProjIdeal.main_arg0)
      ∧ r.2.mem ((c.tc : Thread Cert.RefRetProjIdeal.nD Cert.RefRetProjIdeal.τ).loc Cert.RefRetProjIdeal.main_arg1) = m ((c.tc : Thread Cert.RefRetProjIdeal.nD Cert.RefRetProjIdeal.τ).loc Cert.RefRetProjIdeal.main_arg1))
      ∧ r.2.sem = fun _ => 0)

def quiescent_FoxProj [hFoxProj : Cert.FoxProj.Facts] : Prop :=
  ∀ (m : (ℓ : Loc Cert.FoxProj.nD Cert.FoxProj.τ Cert.FoxProj.sig) → Buf (Elt Bits) ℓ) (g : Dev Cert.FoxProj.nD → PrngReg), Pre_FoxProj m →
    θ_run (Cert.FoxProj.defs (F := Bits)) (onTc (τ := Cert.FoxProj.τ) (Cert.FoxProj.main (F := Bits))) ⟨m, fun _ => 0, g⟩ (fun r => (∀ c : Dev Cert.FoxProj.nD,
      r.2.mem ((c.tc : Thread Cert.FoxProj.nD Cert.FoxProj.τ).loc Cert.FoxProj.main_arg0) = m ((c.tc : Thread Cert.FoxProj.nD Cert.FoxProj.τ).loc Cert.FoxProj.main_arg0)
      ∧ r.2.mem ((c.tc : Thread Cert.FoxProj.nD Cert.FoxProj.τ).loc Cert.FoxProj.main_arg1) = m ((c.tc : Thread Cert.FoxProj.nD Cert.FoxProj.τ).loc Cert.FoxProj.main_arg1))
      ∧ r.2.sem = fun _ => 0)

def quiescent_FoxProjIdeal [hFoxProjIdeal : Cert.FoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg), Pre_FoxProjIdeal m →
    θ_run (Cert.FoxProjIdeal.defs (F := Ideal)) (onTc (τ := Cert.FoxProjIdeal.τ) (Cert.FoxProjIdeal.main (F := Ideal))) ⟨m, fun _ => 0, g⟩ (fun r => (∀ c : Dev Cert.FoxProjIdeal.nD,
      r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
      ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1))
      ∧ r.2.sem = fun _ => 0)

def quiescent_RefFoxProjIdeal [hRefFoxProjIdeal : Cert.RefFoxProjIdeal.Facts] : Prop :=
  ∀ (m : (ℓ : Loc Cert.RefFoxProjIdeal.nD Cert.RefFoxProjIdeal.τ Cert.RefFoxProjIdeal.sig) → Buf (Elt Ideal) ℓ) (g : Dev Cert.RefFoxProjIdeal.nD → PrngReg), Pre_RefFoxProjIdeal m →
    θ_run (Cert.RefFoxProjIdeal.defs (F := Ideal)) (onTc (τ := Cert.RefFoxProjIdeal.τ) (Cert.RefFoxProjIdeal.main (F := Ideal))) ⟨m, fun _ => 0, g⟩ (fun r => (∀ c : Dev Cert.RefFoxProjIdeal.nD,
      r.2.mem ((c.tc : Thread Cert.RefFoxProjIdeal.nD Cert.RefFoxProjIdeal.τ).loc Cert.RefFoxProjIdeal.main_arg0) = m ((c.tc : Thread Cert.RefFoxProjIdeal.nD Cert.RefFoxProjIdeal.τ).loc Cert.RefFoxProjIdeal.main_arg0)
      ∧ r.2.mem ((c.tc : Thread Cert.RefFoxProjIdeal.nD Cert.RefFoxProjIdeal.τ).loc Cert.RefFoxProjIdeal.main_arg1) = m ((c.tc : Thread Cert.RefFoxProjIdeal.nD Cert.RefFoxProjIdeal.τ).loc Cert.RefFoxProjIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_RefKvProjIdeal [hRefKvProjIdeal : Cert.RefKvProjIdeal.Facts] : Prop :=
  ∀ (m : (ℓ : Loc Cert.RefKvProjIdeal.nD Cert.RefKvProjIdeal.τ Cert.RefKvProjIdeal.sig) → Buf (Elt Ideal) ℓ) (g : Dev Cert.RefKvProjIdeal.nD → PrngReg), Pre_RefKvProjIdeal m →
    θ_run (Cert.RefKvProjIdeal.defs (F := Ideal)) (onTc (τ := Cert.RefKvProjIdeal.τ) (Cert.RefKvProjIdeal.main (F := Ideal))) ⟨m, fun _ => 0, g⟩ (fun r => (∀ c : Dev Cert.RefKvProjIdeal.nD,
      r.2.mem ((c.tc : Thread Cert.RefKvProjIdeal.nD Cert.RefKvProjIdeal.τ).loc Cert.RefKvProjIdeal.main_arg0) = m ((c.tc : Thread Cert.RefKvProjIdeal.nD Cert.RefKvProjIdeal.τ).loc Cert.RefKvProjIdeal.main_arg0)
      ∧ r.2.mem ((c.tc : Thread Cert.RefKvProjIdeal.nD Cert.RefKvProjIdeal.τ).loc Cert.RefKvProjIdeal.main_arg1) = m ((c.tc : Thread Cert.RefKvProjIdeal.nD Cert.RefKvProjIdeal.τ).loc Cert.RefKvProjIdeal.main_arg1))
      ∧ r.2.sem = fun _ => 0)

def quiescent_RetFwd [hRetFwd : Cert.RetFwd.Facts] : Prop :=
  ∀ (m : (ℓ : Loc Cert.RetFwd.nD Cert.RetFwd.τ Cert.RetFwd.sig) → Buf (Elt Bits) ℓ) (g : Dev Cert.RetFwd.nD → PrngReg), Pre_RetFwd m →
    θ_run (Cert.RetFwd.defs (F := Bits)) (onTc (τ := Cert.RetFwd.τ) (Cert.RetFwd.main (F := Bits))) ⟨m, fun _ => 0, g⟩ (fun r => (∀ c : Dev Cert.RetFwd.nD,
      r.2.mem ((c.tc : Thread Cert.RetFwd.nD Cert.RetFwd.τ).loc Cert.RetFwd.main_arg0) = m ((c.tc : Thread Cert.RetFwd.nD Cert.RetFwd.τ).loc Cert.RetFwd.main_arg0)
      ∧ r.2.mem ((c.tc : Thread Cert.RetFwd.nD Cert.RetFwd.τ).loc Cert.RetFwd.main_arg1) = m ((c.tc : Thread Cert.RetFwd.nD Cert.RetFwd.τ).loc Cert.RetFwd.main_arg1)
      ∧ r.2.mem ((c.tc : Thread Cert.RetFwd.nD Cert.RetFwd.τ).loc Cert.RetFwd.main_arg2) = m ((c.tc : Thread Cert.RetFwd.nD Cert.RetFwd.τ).loc Cert.RetFwd.main_arg2))
      ∧ r.2.sem = fun _ => 0)

def quiescent_RetFwdIdeal [hRetFwdIdeal : Cert.RetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
      ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1)
      ∧ r.2.mem ((c.tc : Thread Cert.RetFwdIdeal.nD Cert.RetFwdIdeal.τ).loc Cert.RetFwdIdeal.main_arg2) = m ((c.tc : Thread Cert.RetFwdIdeal.nD Cert.RetFwdIdeal.τ).loc Cert.RetFwdIdeal.main_arg2))
      ∧ r.2.sem = fun _ => 0)

def quiescent_RetFwdIdeal_pre_finite_ret_fwd [hRetFwdIdeal : Cert.RetFwdIdeal.Facts] [hPre_finite_ret_fwd : Cert.Pre_finite_ret_fwd.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal_finite_ret_fwd m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
      ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1)
      ∧ r.2.mem ((c.tc : Thread Cert.RetFwdIdeal.nD Cert.RetFwdIdeal.τ).loc Cert.RetFwdIdeal.main_arg2) = m ((c.tc : Thread Cert.RetFwdIdeal.nD Cert.RetFwdIdeal.τ).loc Cert.RetFwdIdeal.main_arg2))
      ∧ r.2.sem = fun _ => 0)

def quiescent_RefRetFwdIdeal [hRefRetFwdIdeal : Cert.RefRetFwdIdeal.Facts] : Prop :=
  ∀ (m : (ℓ : Loc Cert.RefRetFwdIdeal.nD Cert.RefRetFwdIdeal.τ Cert.RefRetFwdIdeal.sig) → Buf (Elt Ideal) ℓ) (g : Dev Cert.RefRetFwdIdeal.nD → PrngReg), Pre_RefRetFwdIdeal m →
    θ_run (Cert.RefRetFwdIdeal.defs (F := Ideal)) (onTc (τ := Cert.RefRetFwdIdeal.τ) (Cert.RefRetFwdIdeal.main (F := Ideal))) ⟨m, fun _ => 0, g⟩ (fun r => (∀ c : Dev Cert.RefRetFwdIdeal.nD,
      r.2.mem ((c.tc : Thread Cert.RefRetFwdIdeal.nD Cert.RefRetFwdIdeal.τ).loc Cert.RefRetFwdIdeal.main_arg0) = m ((c.tc : Thread Cert.RefRetFwdIdeal.nD Cert.RefRetFwdIdeal.τ).loc Cert.RefRetFwdIdeal.main_arg0)
      ∧ r.2.mem ((c.tc : Thread Cert.RefRetFwdIdeal.nD Cert.RefRetFwdIdeal.τ).loc Cert.RefRetFwdIdeal.main_arg1) = m ((c.tc : Thread Cert.RefRetFwdIdeal.nD Cert.RefRetFwdIdeal.τ).loc Cert.RefRetFwdIdeal.main_arg1)
      ∧ r.2.mem ((c.tc : Thread Cert.RefRetFwdIdeal.nD Cert.RefRetFwdIdeal.τ).loc Cert.RefRetFwdIdeal.main_arg2) = m ((c.tc : Thread Cert.RefRetFwdIdeal.nD Cert.RefRetFwdIdeal.τ).loc Cert.RefRetFwdIdeal.main_arg2))
      ∧ r.2.sem = fun _ => 0)

def quiescent_RefRetFwdIdeal_pre_finite_ret_fwd [hRefRetFwdIdeal : Cert.RefRetFwdIdeal.Facts] [hPre_finite_ret_fwd : Cert.Pre_finite_ret_fwd.Facts] : Prop :=
  ∀ (m : (ℓ : Loc Cert.RefRetFwdIdeal.nD Cert.RefRetFwdIdeal.τ Cert.RefRetFwdIdeal.sig) → Buf (Elt Ideal) ℓ) (g : Dev Cert.RefRetFwdIdeal.nD → PrngReg), Pre_RefRetFwdIdeal_finite_ret_fwd m →
    θ_run (Cert.RefRetFwdIdeal.defs (F := Ideal)) (onTc (τ := Cert.RefRetFwdIdeal.τ) (Cert.RefRetFwdIdeal.main (F := Ideal))) ⟨m, fun _ => 0, g⟩ (fun r => (∀ c : Dev Cert.RefRetFwdIdeal.nD,
      r.2.mem ((c.tc : Thread Cert.RefRetFwdIdeal.nD Cert.RefRetFwdIdeal.τ).loc Cert.RefRetFwdIdeal.main_arg0) = m ((c.tc : Thread Cert.RefRetFwdIdeal.nD Cert.RefRetFwdIdeal.τ).loc Cert.RefRetFwdIdeal.main_arg0)
      ∧ r.2.mem ((c.tc : Thread Cert.RefRetFwdIdeal.nD Cert.RefRetFwdIdeal.τ).loc Cert.RefRetFwdIdeal.main_arg1) = m ((c.tc : Thread Cert.RefRetFwdIdeal.nD Cert.RefRetFwdIdeal.τ).loc Cert.RefRetFwdIdeal.main_arg1)
      ∧ r.2.mem ((c.tc : Thread Cert.RefRetFwdIdeal.nD Cert.RefRetFwdIdeal.τ).loc Cert.RefRetFwdIdeal.main_arg2) = m ((c.tc : Thread Cert.RefRetFwdIdeal.nD Cert.RefRetFwdIdeal.τ).loc Cert.RefRetFwdIdeal.main_arg2))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1)
      ∧ r.2.mem ((c.tc : Thread Cert.FoxFwd.nD Cert.FoxFwd.τ).loc Cert.FoxFwd.main_arg2) = m ((c.tc : Thread Cert.FoxFwd.nD Cert.FoxFwd.τ).loc Cert.FoxFwd.main_arg2)
      ∧ r.2.mem ((c.tc : Thread Cert.FoxFwd.nD Cert.FoxFwd.τ).loc Cert.FoxFwd.main_arg3) = m ((c.tc : Thread Cert.FoxFwd.nD Cert.FoxFwd.τ).loc Cert.FoxFwd.main_arg3))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdIdeal_pre_finite_fox_fwd [hFoxFwdIdeal : Cert.FoxFwdIdeal.Facts] [hPre_finite_fox_fwd : Cert.Pre_finite_fox_fwd.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal_finite_fox_fwd m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_RefFoxFwdIdeal [hRefFoxFwdIdeal : Cert.RefFoxFwdIdeal.Facts] : Prop :=
  ∀ (m : (ℓ : Loc Cert.RefFoxFwdIdeal.nD Cert.RefFoxFwdIdeal.τ Cert.RefFoxFwdIdeal.sig) → Buf (Elt Ideal) ℓ) (g : Dev Cert.RefFoxFwdIdeal.nD → PrngReg), Pre_RefFoxFwdIdeal m →
    θ_run (Cert.RefFoxFwdIdeal.defs (F := Ideal)) (onTc (τ := Cert.RefFoxFwdIdeal.τ) (Cert.RefFoxFwdIdeal.main (F := Ideal))) ⟨m, fun _ => 0, g⟩ (fun r => (∀ c : Dev Cert.RefFoxFwdIdeal.nD,
      r.2.mem ((c.tc : Thread Cert.RefFoxFwdIdeal.nD Cert.RefFoxFwdIdeal.τ).loc Cert.RefFoxFwdIdeal.main_arg0) = m ((c.tc : Thread Cert.RefFoxFwdIdeal.nD Cert.RefFoxFwdIdeal.τ).loc Cert.RefFoxFwdIdeal.main_arg0)
      ∧ r.2.mem ((c.tc : Thread Cert.RefFoxFwdIdeal.nD Cert.RefFoxFwdIdeal.τ).loc Cert.RefFoxFwdIdeal.main_arg1) = m ((c.tc : Thread Cert.RefFoxFwdIdeal.nD Cert.RefFoxFwdIdeal.τ).loc Cert.RefFoxFwdIdeal.main_arg1)
      ∧ r.2.mem ((c.tc : Thread Cert.RefFoxFwdIdeal.nD Cert.RefFoxFwdIdeal.τ).loc Cert.RefFoxFwdIdeal.main_arg2) = m ((c.tc : Thread Cert.RefFoxFwdIdeal.nD Cert.RefFoxFwdIdeal.τ).loc Cert.RefFoxFwdIdeal.main_arg2)
      ∧ r.2.mem ((c.tc : Thread Cert.RefFoxFwdIdeal.nD Cert.RefFoxFwdIdeal.τ).loc Cert.RefFoxFwdIdeal.main_arg3) = m ((c.tc : Thread Cert.RefFoxFwdIdeal.nD Cert.RefFoxFwdIdeal.τ).loc Cert.RefFoxFwdIdeal.main_arg3))
      ∧ r.2.sem = fun _ => 0)

def quiescent_RefFoxFwdIdeal_pre_finite_fox_fwd [hRefFoxFwdIdeal : Cert.RefFoxFwdIdeal.Facts] [hPre_finite_fox_fwd : Cert.Pre_finite_fox_fwd.Facts] : Prop :=
  ∀ (m : (ℓ : Loc Cert.RefFoxFwdIdeal.nD Cert.RefFoxFwdIdeal.τ Cert.RefFoxFwdIdeal.sig) → Buf (Elt Ideal) ℓ) (g : Dev Cert.RefFoxFwdIdeal.nD → PrngReg), Pre_RefFoxFwdIdeal_finite_fox_fwd m →
    θ_run (Cert.RefFoxFwdIdeal.defs (F := Ideal)) (onTc (τ := Cert.RefFoxFwdIdeal.τ) (Cert.RefFoxFwdIdeal.main (F := Ideal))) ⟨m, fun _ => 0, g⟩ (fun r => (∀ c : Dev Cert.RefFoxFwdIdeal.nD,
      r.2.mem ((c.tc : Thread Cert.RefFoxFwdIdeal.nD Cert.RefFoxFwdIdeal.τ).loc Cert.RefFoxFwdIdeal.main_arg0) = m ((c.tc : Thread Cert.RefFoxFwdIdeal.nD Cert.RefFoxFwdIdeal.τ).loc Cert.RefFoxFwdIdeal.main_arg0)
      ∧ r.2.mem ((c.tc : Thread Cert.RefFoxFwdIdeal.nD Cert.RefFoxFwdIdeal.τ).loc Cert.RefFoxFwdIdeal.main_arg1) = m ((c.tc : Thread Cert.RefFoxFwdIdeal.nD Cert.RefFoxFwdIdeal.τ).loc Cert.RefFoxFwdIdeal.main_arg1)
      ∧ r.2.mem ((c.tc : Thread Cert.RefFoxFwdIdeal.nD Cert.RefFoxFwdIdeal.τ).loc Cert.RefFoxFwdIdeal.main_arg2) = m ((c.tc : Thread Cert.RefFoxFwdIdeal.nD Cert.RefFoxFwdIdeal.τ).loc Cert.RefFoxFwdIdeal.main_arg2)
      ∧ r.2.mem ((c.tc : Thread Cert.RefFoxFwdIdeal.nD Cert.RefFoxFwdIdeal.τ).loc Cert.RefFoxFwdIdeal.main_arg3) = m ((c.tc : Thread Cert.RefFoxFwdIdeal.nD Cert.RefFoxFwdIdeal.τ).loc Cert.RefFoxFwdIdeal.main_arg3))
      ∧ r.2.sem = fun _ => 0)

def quiescent_RetMix [hRetMix : Cert.RetMix.Facts] : Prop :=
  ∀ (m : (ℓ : Loc Cert.RetMix.nD Cert.RetMix.τ Cert.RetMix.sig) → Buf (Elt Bits) ℓ) (g : Dev Cert.RetMix.nD → PrngReg), Pre_RetMix m →
    θ_run (Cert.RetMix.defs (F := Bits)) (onTc (τ := Cert.RetMix.τ) (Cert.RetMix.main (F := Bits))) ⟨m, fun _ => 0, g⟩ (fun r => (∀ c : Dev Cert.RetMix.nD,
      r.2.mem ((c.tc : Thread Cert.RetMix.nD Cert.RetMix.τ).loc Cert.RetMix.main_arg0) = m ((c.tc : Thread Cert.RetMix.nD Cert.RetMix.τ).loc Cert.RetMix.main_arg0)
      ∧ r.2.mem ((c.tc : Thread Cert.RetMix.nD Cert.RetMix.τ).loc Cert.RetMix.main_arg1) = m ((c.tc : Thread Cert.RetMix.nD Cert.RetMix.τ).loc Cert.RetMix.main_arg1)
      ∧ r.2.mem ((c.tc : Thread Cert.RetMix.nD Cert.RetMix.τ).loc Cert.RetMix.main_arg2) = m ((c.tc : Thread Cert.RetMix.nD Cert.RetMix.τ).loc Cert.RetMix.main_arg2)
      ∧ r.2.mem ((c.tc : Thread Cert.RetMix.nD Cert.RetMix.τ).loc Cert.RetMix.main_arg3) = m ((c.tc : Thread Cert.RetMix.nD Cert.RetMix.τ).loc Cert.RetMix.main_arg3)
      ∧ r.2.mem ((c.tc : Thread Cert.RetMix.nD Cert.RetMix.τ).loc Cert.RetMix.main_arg4) = m ((c.tc : Thread Cert.RetMix.nD Cert.RetMix.τ).loc Cert.RetMix.main_arg4)
      ∧ r.2.mem ((c.tc : Thread Cert.RetMix.nD Cert.RetMix.τ).loc Cert.RetMix.main_arg5) = m ((c.tc : Thread Cert.RetMix.nD Cert.RetMix.τ).loc Cert.RetMix.main_arg5))
      ∧ r.2.sem = fun _ => 0)

def quiescent_RetMixIdeal [hRetMixIdeal : Cert.RetMixIdeal.Facts] : Prop :=
  ∀ (m : (ℓ : Loc Cert.RetMixIdeal.nD Cert.RetMixIdeal.τ Cert.RetMixIdeal.sig) → Buf (Elt Ideal) ℓ) (g : Dev Cert.RetMixIdeal.nD → PrngReg), Pre_RetMixIdeal m →
    θ_run (Cert.RetMixIdeal.defs (F := Ideal)) (onTc (τ := Cert.RetMixIdeal.τ) (Cert.RetMixIdeal.main (F := Ideal))) ⟨m, fun _ => 0, g⟩ (fun r => (∀ c : Dev Cert.RetMixIdeal.nD,
      r.2.mem ((c.tc : Thread Cert.RetMixIdeal.nD Cert.RetMixIdeal.τ).loc Cert.RetMixIdeal.main_arg0) = m ((c.tc : Thread Cert.RetMixIdeal.nD Cert.RetMixIdeal.τ).loc Cert.RetMixIdeal.main_arg0)
      ∧ r.2.mem ((c.tc : Thread Cert.RetMixIdeal.nD Cert.RetMixIdeal.τ).loc Cert.RetMixIdeal.main_arg1) = m ((c.tc : Thread Cert.RetMixIdeal.nD Cert.RetMixIdeal.τ).loc Cert.RetMixIdeal.main_arg1)
      ∧ r.2.mem ((c.tc : Thread Cert.RetMixIdeal.nD Cert.RetMixIdeal.τ).loc Cert.RetMixIdeal.main_arg2) = m ((c.tc : Thread Cert.RetMixIdeal.nD Cert.RetMixIdeal.τ).loc Cert.RetMixIdeal.main_arg2)
      ∧ r.2.mem ((c.tc : Thread Cert.RetMixIdeal.nD Cert.RetMixIdeal.τ).loc Cert.RetMixIdeal.main_arg3) = m ((c.tc : Thread Cert.RetMixIdeal.nD Cert.RetMixIdeal.τ).loc Cert.RetMixIdeal.main_arg3)
      ∧ r.2.mem ((c.tc : Thread Cert.RetMixIdeal.nD Cert.RetMixIdeal.τ).loc Cert.RetMixIdeal.main_arg4) = m ((c.tc : Thread Cert.RetMixIdeal.nD Cert.RetMixIdeal.τ).loc Cert.RetMixIdeal.main_arg4)
      ∧ r.2.mem ((c.tc : Thread Cert.RetMixIdeal.nD Cert.RetMixIdeal.τ).loc Cert.RetMixIdeal.main_arg5) = m ((c.tc : Thread Cert.RetMixIdeal.nD Cert.RetMixIdeal.τ).loc Cert.RetMixIdeal.main_arg5))
      ∧ r.2.sem = fun _ => 0)

def quiescent_RefRetMixIdeal [hRefRetMixIdeal : Cert.RefRetMixIdeal.Facts] : Prop :=
  ∀ (m : (ℓ : Loc Cert.RefRetMixIdeal.nD Cert.RefRetMixIdeal.τ Cert.RefRetMixIdeal.sig) → Buf (Elt Ideal) ℓ) (g : Dev Cert.RefRetMixIdeal.nD → PrngReg), Pre_RefRetMixIdeal m →
    θ_run (Cert.RefRetMixIdeal.defs (F := Ideal)) (onTc (τ := Cert.RefRetMixIdeal.τ) (Cert.RefRetMixIdeal.main (F := Ideal))) ⟨m, fun _ => 0, g⟩ (fun r => (∀ c : Dev Cert.RefRetMixIdeal.nD,
      r.2.mem ((c.tc : Thread Cert.RefRetMixIdeal.nD Cert.RefRetMixIdeal.τ).loc Cert.RefRetMixIdeal.main_arg0) = m ((c.tc : Thread Cert.RefRetMixIdeal.nD Cert.RefRetMixIdeal.τ).loc Cert.RefRetMixIdeal.main_arg0)
      ∧ r.2.mem ((c.tc : Thread Cert.RefRetMixIdeal.nD Cert.RefRetMixIdeal.τ).loc Cert.RefRetMixIdeal.main_arg1) = m ((c.tc : Thread Cert.RefRetMixIdeal.nD Cert.RefRetMixIdeal.τ).loc Cert.RefRetMixIdeal.main_arg1)
      ∧ r.2.mem ((c.tc : Thread Cert.RefRetMixIdeal.nD Cert.RefRetMixIdeal.τ).loc Cert.RefRetMixIdeal.main_arg2) = m ((c.tc : Thread Cert.RefRetMixIdeal.nD Cert.RefRetMixIdeal.τ).loc Cert.RefRetMixIdeal.main_arg2)
      ∧ r.2.mem ((c.tc : Thread Cert.RefRetMixIdeal.nD Cert.RefRetMixIdeal.τ).loc Cert.RefRetMixIdeal.main_arg3) = m ((c.tc : Thread Cert.RefRetMixIdeal.nD Cert.RefRetMixIdeal.τ).loc Cert.RefRetMixIdeal.main_arg3)
      ∧ r.2.mem ((c.tc : Thread Cert.RefRetMixIdeal.nD Cert.RefRetMixIdeal.τ).loc Cert.RefRetMixIdeal.main_arg4) = m ((c.tc : Thread Cert.RefRetMixIdeal.nD Cert.RefRetMixIdeal.τ).loc Cert.RefRetMixIdeal.main_arg4)
      ∧ r.2.mem ((c.tc : Thread Cert.RefRetMixIdeal.nD Cert.RefRetMixIdeal.τ).loc Cert.RefRetMixIdeal.main_arg5) = m ((c.tc : Thread Cert.RefRetMixIdeal.nD Cert.RefRetMixIdeal.τ).loc Cert.RefRetMixIdeal.main_arg5))
      ∧ r.2.sem = fun _ => 0)

def quiescent_FoxMix [hFoxMix : Cert.FoxMix.Facts] : Prop :=
  ∀ (m : (ℓ : Loc Cert.FoxMix.nD Cert.FoxMix.τ Cert.FoxMix.sig) → Buf (Elt Bits) ℓ) (g : Dev Cert.FoxMix.nD → PrngReg), Pre_FoxMix m →
    θ_run (Cert.FoxMix.defs (F := Bits)) (onTc (τ := Cert.FoxMix.τ) (Cert.FoxMix.main (F := Bits))) ⟨m, fun _ => 0, g⟩ (fun r => (∀ c : Dev Cert.FoxMix.nD,
      r.2.mem ((c.tc : Thread Cert.FoxMix.nD Cert.FoxMix.τ).loc Cert.FoxMix.main_arg0) = m ((c.tc : Thread Cert.FoxMix.nD Cert.FoxMix.τ).loc Cert.FoxMix.main_arg0)
      ∧ r.2.mem ((c.tc : Thread Cert.FoxMix.nD Cert.FoxMix.τ).loc Cert.FoxMix.main_arg1) = m ((c.tc : Thread Cert.FoxMix.nD Cert.FoxMix.τ).loc Cert.FoxMix.main_arg1)
      ∧ r.2.mem ((c.tc : Thread Cert.FoxMix.nD Cert.FoxMix.τ).loc Cert.FoxMix.main_arg2) = m ((c.tc : Thread Cert.FoxMix.nD Cert.FoxMix.τ).loc Cert.FoxMix.main_arg2)
      ∧ r.2.mem ((c.tc : Thread Cert.FoxMix.nD Cert.FoxMix.τ).loc Cert.FoxMix.main_arg3) = m ((c.tc : Thread Cert.FoxMix.nD Cert.FoxMix.τ).loc Cert.FoxMix.main_arg3)
      ∧ r.2.mem ((c.tc : Thread Cert.FoxMix.nD Cert.FoxMix.τ).loc Cert.FoxMix.main_arg4) = m ((c.tc : Thread Cert.FoxMix.nD Cert.FoxMix.τ).loc Cert.FoxMix.main_arg4)
      ∧ r.2.mem ((c.tc : Thread Cert.FoxMix.nD Cert.FoxMix.τ).loc Cert.FoxMix.main_arg5) = m ((c.tc : Thread Cert.FoxMix.nD Cert.FoxMix.τ).loc Cert.FoxMix.main_arg5))
      ∧ r.2.sem = fun _ => 0)

def quiescent_FoxMixIdeal [hFoxMixIdeal : Cert.FoxMixIdeal.Facts] : Prop :=
  ∀ (m : (ℓ : Loc Cert.FoxMixIdeal.nD Cert.FoxMixIdeal.τ Cert.FoxMixIdeal.sig) → Buf (Elt Ideal) ℓ) (g : Dev Cert.FoxMixIdeal.nD → PrngReg), Pre_FoxMixIdeal m →
    θ_run (Cert.FoxMixIdeal.defs (F := Ideal)) (onTc (τ := Cert.FoxMixIdeal.τ) (Cert.FoxMixIdeal.main (F := Ideal))) ⟨m, fun _ => 0, g⟩ (fun r => (∀ c : Dev Cert.FoxMixIdeal.nD,
      r.2.mem ((c.tc : Thread Cert.FoxMixIdeal.nD Cert.FoxMixIdeal.τ).loc Cert.FoxMixIdeal.main_arg0) = m ((c.tc : Thread Cert.FoxMixIdeal.nD Cert.FoxMixIdeal.τ).loc Cert.FoxMixIdeal.main_arg0)
      ∧ r.2.mem ((c.tc : Thread Cert.FoxMixIdeal.nD Cert.FoxMixIdeal.τ).loc Cert.FoxMixIdeal.main_arg1) = m ((c.tc : Thread Cert.FoxMixIdeal.nD Cert.FoxMixIdeal.τ).loc Cert.FoxMixIdeal.main_arg1)
      ∧ r.2.mem ((c.tc : Thread Cert.FoxMixIdeal.nD Cert.FoxMixIdeal.τ).loc Cert.FoxMixIdeal.main_arg2) = m ((c.tc : Thread Cert.FoxMixIdeal.nD Cert.FoxMixIdeal.τ).loc Cert.FoxMixIdeal.main_arg2)
      ∧ r.2.mem ((c.tc : Thread Cert.FoxMixIdeal.nD Cert.FoxMixIdeal.τ).loc Cert.FoxMixIdeal.main_arg3) = m ((c.tc : Thread Cert.FoxMixIdeal.nD Cert.FoxMixIdeal.τ).loc Cert.FoxMixIdeal.main_arg3)
      ∧ r.2.mem ((c.tc : Thread Cert.FoxMixIdeal.nD Cert.FoxMixIdeal.τ).loc Cert.FoxMixIdeal.main_arg4) = m ((c.tc : Thread Cert.FoxMixIdeal.nD Cert.FoxMixIdeal.τ).loc Cert.FoxMixIdeal.main_arg4)
      ∧ r.2.mem ((c.tc : Thread Cert.FoxMixIdeal.nD Cert.FoxMixIdeal.τ).loc Cert.FoxMixIdeal.main_arg5) = m ((c.tc : Thread Cert.FoxMixIdeal.nD Cert.FoxMixIdeal.τ).loc Cert.FoxMixIdeal.main_arg5))
      ∧ r.2.sem = fun _ => 0)

def quiescent_RefFoxMixIdeal [hRefFoxMixIdeal : Cert.RefFoxMixIdeal.Facts] : Prop :=
  ∀ (m : (ℓ : Loc Cert.RefFoxMixIdeal.nD Cert.RefFoxMixIdeal.τ Cert.RefFoxMixIdeal.sig) → Buf (Elt Ideal) ℓ) (g : Dev Cert.RefFoxMixIdeal.nD → PrngReg), Pre_RefFoxMixIdeal m →
    θ_run (Cert.RefFoxMixIdeal.defs (F := Ideal)) (onTc (τ := Cert.RefFoxMixIdeal.τ) (Cert.RefFoxMixIdeal.main (F := Ideal))) ⟨m, fun _ => 0, g⟩ (fun r => (∀ c : Dev Cert.RefFoxMixIdeal.nD,
      r.2.mem ((c.tc : Thread Cert.RefFoxMixIdeal.nD Cert.RefFoxMixIdeal.τ).loc Cert.RefFoxMixIdeal.main_arg0) = m ((c.tc : Thread Cert.RefFoxMixIdeal.nD Cert.RefFoxMixIdeal.τ).loc Cert.RefFoxMixIdeal.main_arg0)
      ∧ r.2.mem ((c.tc : Thread Cert.RefFoxMixIdeal.nD Cert.RefFoxMixIdeal.τ).loc Cert.RefFoxMixIdeal.main_arg1) = m ((c.tc : Thread Cert.RefFoxMixIdeal.nD Cert.RefFoxMixIdeal.τ).loc Cert.RefFoxMixIdeal.main_arg1)
      ∧ r.2.mem ((c.tc : Thread Cert.RefFoxMixIdeal.nD Cert.RefFoxMixIdeal.τ).loc Cert.RefFoxMixIdeal.main_arg2) = m ((c.tc : Thread Cert.RefFoxMixIdeal.nD Cert.RefFoxMixIdeal.τ).loc Cert.RefFoxMixIdeal.main_arg2)
      ∧ r.2.mem ((c.tc : Thread Cert.RefFoxMixIdeal.nD Cert.RefFoxMixIdeal.τ).loc Cert.RefFoxMixIdeal.main_arg3) = m ((c.tc : Thread Cert.RefFoxMixIdeal.nD Cert.RefFoxMixIdeal.τ).loc Cert.RefFoxMixIdeal.main_arg3)
      ∧ r.2.mem ((c.tc : Thread Cert.RefFoxMixIdeal.nD Cert.RefFoxMixIdeal.τ).loc Cert.RefFoxMixIdeal.main_arg4) = m ((c.tc : Thread Cert.RefFoxMixIdeal.nD Cert.RefFoxMixIdeal.τ).loc Cert.RefFoxMixIdeal.main_arg4)
      ∧ r.2.mem ((c.tc : Thread Cert.RefFoxMixIdeal.nD Cert.RefFoxMixIdeal.τ).loc Cert.RefFoxMixIdeal.main_arg5) = m ((c.tc : Thread Cert.RefFoxMixIdeal.nD Cert.RefFoxMixIdeal.τ).loc Cert.RefFoxMixIdeal.main_arg5))
      ∧ r.2.sem = fun _ => 0)

def quiescent_FoxGate [hFoxGate : Cert.FoxGate.Facts] : Prop :=
  ∀ (m : (ℓ : Loc Cert.FoxGate.nD Cert.FoxGate.τ Cert.FoxGate.sig) → Buf (Elt Bits) ℓ) (g : Dev Cert.FoxGate.nD → PrngReg), Pre_FoxGate m →
    θ_run (Cert.FoxGate.defs (F := Bits)) (onTc (τ := Cert.FoxGate.τ) (Cert.FoxGate.main (F := Bits))) ⟨m, fun _ => 0, g⟩ (fun r => (∀ c : Dev Cert.FoxGate.nD,
      r.2.mem ((c.tc : Thread Cert.FoxGate.nD Cert.FoxGate.τ).loc Cert.FoxGate.main_arg0) = m ((c.tc : Thread Cert.FoxGate.nD Cert.FoxGate.τ).loc Cert.FoxGate.main_arg0)
      ∧ r.2.mem ((c.tc : Thread Cert.FoxGate.nD Cert.FoxGate.τ).loc Cert.FoxGate.main_arg1) = m ((c.tc : Thread Cert.FoxGate.nD Cert.FoxGate.τ).loc Cert.FoxGate.main_arg1))
      ∧ r.2.sem = fun _ => 0)

def quiescent_FoxGateIdeal [hFoxGateIdeal : Cert.FoxGateIdeal.Facts] : Prop :=
  ∀ (m : (ℓ : Loc Cert.FoxGateIdeal.nD Cert.FoxGateIdeal.τ Cert.FoxGateIdeal.sig) → Buf (Elt Ideal) ℓ) (g : Dev Cert.FoxGateIdeal.nD → PrngReg), Pre_FoxGateIdeal m →
    θ_run (Cert.FoxGateIdeal.defs (F := Ideal)) (onTc (τ := Cert.FoxGateIdeal.τ) (Cert.FoxGateIdeal.main (F := Ideal))) ⟨m, fun _ => 0, g⟩ (fun r => (∀ c : Dev Cert.FoxGateIdeal.nD,
      r.2.mem ((c.tc : Thread Cert.FoxGateIdeal.nD Cert.FoxGateIdeal.τ).loc Cert.FoxGateIdeal.main_arg0) = m ((c.tc : Thread Cert.FoxGateIdeal.nD Cert.FoxGateIdeal.τ).loc Cert.FoxGateIdeal.main_arg0)
      ∧ r.2.mem ((c.tc : Thread Cert.FoxGateIdeal.nD Cert.FoxGateIdeal.τ).loc Cert.FoxGateIdeal.main_arg1) = m ((c.tc : Thread Cert.FoxGateIdeal.nD Cert.FoxGateIdeal.τ).loc Cert.FoxGateIdeal.main_arg1))
      ∧ r.2.sem = fun _ => 0)

def quiescent_RefFoxGateIdeal [hRefFoxGateIdeal : Cert.RefFoxGateIdeal.Facts] : Prop :=
  ∀ (m : (ℓ : Loc Cert.RefFoxGateIdeal.nD Cert.RefFoxGateIdeal.τ Cert.RefFoxGateIdeal.sig) → Buf (Elt Ideal) ℓ) (g : Dev Cert.RefFoxGateIdeal.nD → PrngReg), Pre_RefFoxGateIdeal m →
    θ_run (Cert.RefFoxGateIdeal.defs (F := Ideal)) (onTc (τ := Cert.RefFoxGateIdeal.τ) (Cert.RefFoxGateIdeal.main (F := Ideal))) ⟨m, fun _ => 0, g⟩ (fun r => (∀ c : Dev Cert.RefFoxGateIdeal.nD,
      r.2.mem ((c.tc : Thread Cert.RefFoxGateIdeal.nD Cert.RefFoxGateIdeal.τ).loc Cert.RefFoxGateIdeal.main_arg0) = m ((c.tc : Thread Cert.RefFoxGateIdeal.nD Cert.RefFoxGateIdeal.τ).loc Cert.RefFoxGateIdeal.main_arg0)
      ∧ r.2.mem ((c.tc : Thread Cert.RefFoxGateIdeal.nD Cert.RefFoxGateIdeal.τ).loc Cert.RefFoxGateIdeal.main_arg1) = m ((c.tc : Thread Cert.RefFoxGateIdeal.nD Cert.RefFoxGateIdeal.τ).loc Cert.RefFoxGateIdeal.main_arg1))
      ∧ r.2.sem = fun _ => 0)

def quiescent_ModMix [hModMix : Cert.ModMix.Facts] : Prop :=
  ∀ (m : (ℓ : Loc Cert.ModMix.nD Cert.ModMix.τ Cert.ModMix.sig) → Buf (Elt Bits) ℓ) (g : Dev Cert.ModMix.nD → PrngReg), Pre_ModMix m →
    θ_run (Cert.ModMix.defs (F := Bits)) (onTc (τ := Cert.ModMix.τ) (Cert.ModMix.main (F := Bits))) ⟨m, fun _ => 0, g⟩ (fun r => (∀ c : Dev Cert.ModMix.nD,
      r.2.mem ((c.tc : Thread Cert.ModMix.nD Cert.ModMix.τ).loc Cert.ModMix.main_arg0) = m ((c.tc : Thread Cert.ModMix.nD Cert.ModMix.τ).loc Cert.ModMix.main_arg0)
      ∧ r.2.mem ((c.tc : Thread Cert.ModMix.nD Cert.ModMix.τ).loc Cert.ModMix.main_arg1) = m ((c.tc : Thread Cert.ModMix.nD Cert.ModMix.τ).loc Cert.ModMix.main_arg1)
      ∧ r.2.mem ((c.tc : Thread Cert.ModMix.nD Cert.ModMix.τ).loc Cert.ModMix.main_arg2) = m ((c.tc : Thread Cert.ModMix.nD Cert.ModMix.τ).loc Cert.ModMix.main_arg2)
      ∧ r.2.mem ((c.tc : Thread Cert.ModMix.nD Cert.ModMix.τ).loc Cert.ModMix.main_arg3) = m ((c.tc : Thread Cert.ModMix.nD Cert.ModMix.τ).loc Cert.ModMix.main_arg3))
      ∧ r.2.sem = fun _ => 0)

def quiescent_ModMixIdeal [hModMixIdeal : Cert.ModMixIdeal.Facts] : Prop :=
  ∀ (m : (ℓ : Loc Cert.ModMixIdeal.nD Cert.ModMixIdeal.τ Cert.ModMixIdeal.sig) → Buf (Elt Ideal) ℓ) (g : Dev Cert.ModMixIdeal.nD → PrngReg), Pre_ModMixIdeal m →
    θ_run (Cert.ModMixIdeal.defs (F := Ideal)) (onTc (τ := Cert.ModMixIdeal.τ) (Cert.ModMixIdeal.main (F := Ideal))) ⟨m, fun _ => 0, g⟩ (fun r => (∀ c : Dev Cert.ModMixIdeal.nD,
      r.2.mem ((c.tc : Thread Cert.ModMixIdeal.nD Cert.ModMixIdeal.τ).loc Cert.ModMixIdeal.main_arg0) = m ((c.tc : Thread Cert.ModMixIdeal.nD Cert.ModMixIdeal.τ).loc Cert.ModMixIdeal.main_arg0)
      ∧ r.2.mem ((c.tc : Thread Cert.ModMixIdeal.nD Cert.ModMixIdeal.τ).loc Cert.ModMixIdeal.main_arg1) = m ((c.tc : Thread Cert.ModMixIdeal.nD Cert.ModMixIdeal.τ).loc Cert.ModMixIdeal.main_arg1)
      ∧ r.2.mem ((c.tc : Thread Cert.ModMixIdeal.nD Cert.ModMixIdeal.τ).loc Cert.ModMixIdeal.main_arg2) = m ((c.tc : Thread Cert.ModMixIdeal.nD Cert.ModMixIdeal.τ).loc Cert.ModMixIdeal.main_arg2)
      ∧ r.2.mem ((c.tc : Thread Cert.ModMixIdeal.nD Cert.ModMixIdeal.τ).loc Cert.ModMixIdeal.main_arg3) = m ((c.tc : Thread Cert.ModMixIdeal.nD Cert.ModMixIdeal.τ).loc Cert.ModMixIdeal.main_arg3))
      ∧ r.2.sem = fun _ => 0)

def quiescent_RefModMixIdeal [hRefModMixIdeal : Cert.RefModMixIdeal.Facts] : Prop :=
  ∀ (m : (ℓ : Loc Cert.RefModMixIdeal.nD Cert.RefModMixIdeal.τ Cert.RefModMixIdeal.sig) → Buf (Elt Ideal) ℓ) (g : Dev Cert.RefModMixIdeal.nD → PrngReg), Pre_RefModMixIdeal m →
    θ_run (Cert.RefModMixIdeal.defs (F := Ideal)) (onTc (τ := Cert.RefModMixIdeal.τ) (Cert.RefModMixIdeal.main (F := Ideal))) ⟨m, fun _ => 0, g⟩ (fun r => (∀ c : Dev Cert.RefModMixIdeal.nD,
      r.2.mem ((c.tc : Thread Cert.RefModMixIdeal.nD Cert.RefModMixIdeal.τ).loc Cert.RefModMixIdeal.main_arg0) = m ((c.tc : Thread Cert.RefModMixIdeal.nD Cert.RefModMixIdeal.τ).loc Cert.RefModMixIdeal.main_arg0)
      ∧ r.2.mem ((c.tc : Thread Cert.RefModMixIdeal.nD Cert.RefModMixIdeal.τ).loc Cert.RefModMixIdeal.main_arg1) = m ((c.tc : Thread Cert.RefModMixIdeal.nD Cert.RefModMixIdeal.τ).loc Cert.RefModMixIdeal.main_arg1)
      ∧ r.2.mem ((c.tc : Thread Cert.RefModMixIdeal.nD Cert.RefModMixIdeal.τ).loc Cert.RefModMixIdeal.main_arg2) = m ((c.tc : Thread Cert.RefModMixIdeal.nD Cert.RefModMixIdeal.τ).loc Cert.RefModMixIdeal.main_arg2)
      ∧ r.2.mem ((c.tc : Thread Cert.RefModMixIdeal.nD Cert.RefModMixIdeal.τ).loc Cert.RefModMixIdeal.main_arg3) = m ((c.tc : Thread Cert.RefModMixIdeal.nD Cert.RefModMixIdeal.τ).loc Cert.RefModMixIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ r.2.sem = fun _ => 0)

def quiescent_RefRopeIdeal [hRefRopeIdeal : Cert.RefRopeIdeal.Facts] : Prop :=
  ∀ (m : (ℓ : Loc Cert.RefRopeIdeal.nD Cert.RefRopeIdeal.τ Cert.RefRopeIdeal.sig) → Buf (Elt Ideal) ℓ) (g : Dev Cert.RefRopeIdeal.nD → PrngReg), Pre_RefRopeIdeal m →
    θ_run (Cert.RefRopeIdeal.defs (F := Ideal)) (onTc (τ := Cert.RefRopeIdeal.τ) (Cert.RefRopeIdeal.main (F := Ideal))) ⟨m, fun _ => 0, g⟩ (fun r => (∀ c : Dev Cert.RefRopeIdeal.nD,
      r.2.mem ((c.tc : Thread Cert.RefRopeIdeal.nD Cert.RefRopeIdeal.τ).loc Cert.RefRopeIdeal.main_arg0) = m ((c.tc : Thread Cert.RefRopeIdeal.nD Cert.RefRopeIdeal.τ).loc Cert.RefRopeIdeal.main_arg0)
      ∧ r.2.mem ((c.tc : Thread Cert.RefRopeIdeal.nD Cert.RefRopeIdeal.τ).loc Cert.RefRopeIdeal.main_arg1) = m ((c.tc : Thread Cert.RefRopeIdeal.nD Cert.RefRopeIdeal.τ).loc Cert.RefRopeIdeal.main_arg1)
      ∧ r.2.mem ((c.tc : Thread Cert.RefRopeIdeal.nD Cert.RefRopeIdeal.τ).loc Cert.RefRopeIdeal.main_arg2) = m ((c.tc : Thread Cert.RefRopeIdeal.nD Cert.RefRopeIdeal.τ).loc Cert.RefRopeIdeal.main_arg2))
      ∧ r.2.sem = fun _ => 0)

def quiescent_RetGate [hRetGate : Cert.RetGate.Facts] : Prop :=
  ∀ (m : (ℓ : Loc Cert.RetGate.nD Cert.RetGate.τ Cert.RetGate.sig) → Buf (Elt Bits) ℓ) (g : Dev Cert.RetGate.nD → PrngReg), Pre_RetGate m →
    θ_run (Cert.RetGate.defs (F := Bits)) (onTc (τ := Cert.RetGate.τ) (Cert.RetGate.main (F := Bits))) ⟨m, fun _ => 0, g⟩ (fun r => (∀ c : Dev Cert.RetGate.nD,
      r.2.mem ((c.tc : Thread Cert.RetGate.nD Cert.RetGate.τ).loc Cert.RetGate.main_arg0) = m ((c.tc : Thread Cert.RetGate.nD Cert.RetGate.τ).loc Cert.RetGate.main_arg0)
      ∧ r.2.mem ((c.tc : Thread Cert.RetGate.nD Cert.RetGate.τ).loc Cert.RetGate.main_arg1) = m ((c.tc : Thread Cert.RetGate.nD Cert.RetGate.τ).loc Cert.RetGate.main_arg1)
      ∧ r.2.mem ((c.tc : Thread Cert.RetGate.nD Cert.RetGate.τ).loc Cert.RetGate.main_arg2) = m ((c.tc : Thread Cert.RetGate.nD Cert.RetGate.τ).loc Cert.RetGate.main_arg2))
      ∧ r.2.sem = fun _ => 0)

def quiescent_RetGateIdeal [hRetGateIdeal : Cert.RetGateIdeal.Facts] : Prop :=
  ∀ (m : (ℓ : Loc Cert.RetGateIdeal.nD Cert.RetGateIdeal.τ Cert.RetGateIdeal.sig) → Buf (Elt Ideal) ℓ) (g : Dev Cert.RetGateIdeal.nD → PrngReg), Pre_RetGateIdeal m →
    θ_run (Cert.RetGateIdeal.defs (F := Ideal)) (onTc (τ := Cert.RetGateIdeal.τ) (Cert.RetGateIdeal.main (F := Ideal))) ⟨m, fun _ => 0, g⟩ (fun r => (∀ c : Dev Cert.RetGateIdeal.nD,
      r.2.mem ((c.tc : Thread Cert.RetGateIdeal.nD Cert.RetGateIdeal.τ).loc Cert.RetGateIdeal.main_arg0) = m ((c.tc : Thread Cert.RetGateIdeal.nD Cert.RetGateIdeal.τ).loc Cert.RetGateIdeal.main_arg0)
      ∧ r.2.mem ((c.tc : Thread Cert.RetGateIdeal.nD Cert.RetGateIdeal.τ).loc Cert.RetGateIdeal.main_arg1) = m ((c.tc : Thread Cert.RetGateIdeal.nD Cert.RetGateIdeal.τ).loc Cert.RetGateIdeal.main_arg1)
      ∧ r.2.mem ((c.tc : Thread Cert.RetGateIdeal.nD Cert.RetGateIdeal.τ).loc Cert.RetGateIdeal.main_arg2) = m ((c.tc : Thread Cert.RetGateIdeal.nD Cert.RetGateIdeal.τ).loc Cert.RetGateIdeal.main_arg2))
      ∧ r.2.sem = fun _ => 0)

def quiescent_RefRetGateIdeal [hRefRetGateIdeal : Cert.RefRetGateIdeal.Facts] : Prop :=
  ∀ (m : (ℓ : Loc Cert.RefRetGateIdeal.nD Cert.RefRetGateIdeal.τ Cert.RefRetGateIdeal.sig) → Buf (Elt Ideal) ℓ) (g : Dev Cert.RefRetGateIdeal.nD → PrngReg), Pre_RefRetGateIdeal m →
    θ_run (Cert.RefRetGateIdeal.defs (F := Ideal)) (onTc (τ := Cert.RefRetGateIdeal.τ) (Cert.RefRetGateIdeal.main (F := Ideal))) ⟨m, fun _ => 0, g⟩ (fun r => (∀ c : Dev Cert.RefRetGateIdeal.nD,
      r.2.mem ((c.tc : Thread Cert.RefRetGateIdeal.nD Cert.RefRetGateIdeal.τ).loc Cert.RefRetGateIdeal.main_arg0) = m ((c.tc : Thread Cert.RefRetGateIdeal.nD Cert.RefRetGateIdeal.τ).loc Cert.RefRetGateIdeal.main_arg0)
      ∧ r.2.mem ((c.tc : Thread Cert.RefRetGateIdeal.nD Cert.RefRetGateIdeal.τ).loc Cert.RefRetGateIdeal.main_arg1) = m ((c.tc : Thread Cert.RefRetGateIdeal.nD Cert.RefRetGateIdeal.τ).loc Cert.RefRetGateIdeal.main_arg1)
      ∧ r.2.mem ((c.tc : Thread Cert.RefRetGateIdeal.nD Cert.RefRetGateIdeal.τ).loc Cert.RefRetGateIdeal.main_arg2) = m ((c.tc : Thread Cert.RefRetGateIdeal.nD Cert.RefRetGateIdeal.τ).loc Cert.RefRetGateIdeal.main_arg2))
      ∧ r.2.sem = fun _ => 0)

def quiescent_ResMlp [hResMlp : Cert.ResMlp.Facts] : Prop :=
  ∀ (m : (ℓ : Loc Cert.ResMlp.nD Cert.ResMlp.τ Cert.ResMlp.sig) → Buf (Elt Bits) ℓ) (g : Dev Cert.ResMlp.nD → PrngReg), Pre_ResMlp m →
    θ_run (Cert.ResMlp.defs (F := Bits)) (onTc (τ := Cert.ResMlp.τ) (Cert.ResMlp.main (F := Bits))) ⟨m, fun _ => 0, g⟩ (fun r => (∀ c : Dev Cert.ResMlp.nD,
      r.2.mem ((c.tc : Thread Cert.ResMlp.nD Cert.ResMlp.τ).loc Cert.ResMlp.main_arg0) = m ((c.tc : Thread Cert.ResMlp.nD Cert.ResMlp.τ).loc Cert.ResMlp.main_arg0)
      ∧ r.2.mem ((c.tc : Thread Cert.ResMlp.nD Cert.ResMlp.τ).loc Cert.ResMlp.main_arg1) = m ((c.tc : Thread Cert.ResMlp.nD Cert.ResMlp.τ).loc Cert.ResMlp.main_arg1)
      ∧ r.2.mem ((c.tc : Thread Cert.ResMlp.nD Cert.ResMlp.τ).loc Cert.ResMlp.main_arg2) = m ((c.tc : Thread Cert.ResMlp.nD Cert.ResMlp.τ).loc Cert.ResMlp.main_arg2)
      ∧ r.2.mem ((c.tc : Thread Cert.ResMlp.nD Cert.ResMlp.τ).loc Cert.ResMlp.main_arg3) = m ((c.tc : Thread Cert.ResMlp.nD Cert.ResMlp.τ).loc Cert.ResMlp.main_arg3)
      ∧ r.2.mem ((c.tc : Thread Cert.ResMlp.nD Cert.ResMlp.τ).loc Cert.ResMlp.main_arg4) = m ((c.tc : Thread Cert.ResMlp.nD Cert.ResMlp.τ).loc Cert.ResMlp.main_arg4)
      ∧ r.2.mem ((c.tc : Thread Cert.ResMlp.nD Cert.ResMlp.τ).loc Cert.ResMlp.main_arg5) = m ((c.tc : Thread Cert.ResMlp.nD Cert.ResMlp.τ).loc Cert.ResMlp.main_arg5)
      ∧ r.2.mem ((c.tc : Thread Cert.ResMlp.nD Cert.ResMlp.τ).loc Cert.ResMlp.main_arg6) = m ((c.tc : Thread Cert.ResMlp.nD Cert.ResMlp.τ).loc Cert.ResMlp.main_arg6)
      ∧ r.2.mem ((c.tc : Thread Cert.ResMlp.nD Cert.ResMlp.τ).loc Cert.ResMlp.main_arg7) = m ((c.tc : Thread Cert.ResMlp.nD Cert.ResMlp.τ).loc Cert.ResMlp.main_arg7)
      ∧ r.2.mem ((c.tc : Thread Cert.ResMlp.nD Cert.ResMlp.τ).loc Cert.ResMlp.main_arg8) = m ((c.tc : Thread Cert.ResMlp.nD Cert.ResMlp.τ).loc Cert.ResMlp.main_arg8)
      ∧ r.2.mem ((c.tc : Thread Cert.ResMlp.nD Cert.ResMlp.τ).loc Cert.ResMlp.main_arg9) = m ((c.tc : Thread Cert.ResMlp.nD Cert.ResMlp.τ).loc Cert.ResMlp.main_arg9))
      ∧ r.2.sem = fun _ => 0)

def quiescent_ResMlpIdeal [hResMlpIdeal : Cert.ResMlpIdeal.Facts] : Prop :=
  ∀ (m : (ℓ : Loc Cert.ResMlpIdeal.nD Cert.ResMlpIdeal.τ Cert.ResMlpIdeal.sig) → Buf (Elt Ideal) ℓ) (g : Dev Cert.ResMlpIdeal.nD → PrngReg), Pre_ResMlpIdeal m →
    θ_run (Cert.ResMlpIdeal.defs (F := Ideal)) (onTc (τ := Cert.ResMlpIdeal.τ) (Cert.ResMlpIdeal.main (F := Ideal))) ⟨m, fun _ => 0, g⟩ (fun r => (∀ c : Dev Cert.ResMlpIdeal.nD,
      r.2.mem ((c.tc : Thread Cert.ResMlpIdeal.nD Cert.ResMlpIdeal.τ).loc Cert.ResMlpIdeal.main_arg0) = m ((c.tc : Thread Cert.ResMlpIdeal.nD Cert.ResMlpIdeal.τ).loc Cert.ResMlpIdeal.main_arg0)
      ∧ r.2.mem ((c.tc : Thread Cert.ResMlpIdeal.nD Cert.ResMlpIdeal.τ).loc Cert.ResMlpIdeal.main_arg1) = m ((c.tc : Thread Cert.ResMlpIdeal.nD Cert.ResMlpIdeal.τ).loc Cert.ResMlpIdeal.main_arg1)
      ∧ r.2.mem ((c.tc : Thread Cert.ResMlpIdeal.nD Cert.ResMlpIdeal.τ).loc Cert.ResMlpIdeal.main_arg2) = m ((c.tc : Thread Cert.ResMlpIdeal.nD Cert.ResMlpIdeal.τ).loc Cert.ResMlpIdeal.main_arg2)
      ∧ r.2.mem ((c.tc : Thread Cert.ResMlpIdeal.nD Cert.ResMlpIdeal.τ).loc Cert.ResMlpIdeal.main_arg3) = m ((c.tc : Thread Cert.ResMlpIdeal.nD Cert.ResMlpIdeal.τ).loc Cert.ResMlpIdeal.main_arg3)
      ∧ r.2.mem ((c.tc : Thread Cert.ResMlpIdeal.nD Cert.ResMlpIdeal.τ).loc Cert.ResMlpIdeal.main_arg4) = m ((c.tc : Thread Cert.ResMlpIdeal.nD Cert.ResMlpIdeal.τ).loc Cert.ResMlpIdeal.main_arg4)
      ∧ r.2.mem ((c.tc : Thread Cert.ResMlpIdeal.nD Cert.ResMlpIdeal.τ).loc Cert.ResMlpIdeal.main_arg5) = m ((c.tc : Thread Cert.ResMlpIdeal.nD Cert.ResMlpIdeal.τ).loc Cert.ResMlpIdeal.main_arg5)
      ∧ r.2.mem ((c.tc : Thread Cert.ResMlpIdeal.nD Cert.ResMlpIdeal.τ).loc Cert.ResMlpIdeal.main_arg6) = m ((c.tc : Thread Cert.ResMlpIdeal.nD Cert.ResMlpIdeal.τ).loc Cert.ResMlpIdeal.main_arg6)
      ∧ r.2.mem ((c.tc : Thread Cert.ResMlpIdeal.nD Cert.ResMlpIdeal.τ).loc Cert.ResMlpIdeal.main_arg7) = m ((c.tc : Thread Cert.ResMlpIdeal.nD Cert.ResMlpIdeal.τ).loc Cert.ResMlpIdeal.main_arg7)
      ∧ r.2.mem ((c.tc : Thread Cert.ResMlpIdeal.nD Cert.ResMlpIdeal.τ).loc Cert.ResMlpIdeal.main_arg8) = m ((c.tc : Thread Cert.ResMlpIdeal.nD Cert.ResMlpIdeal.τ).loc Cert.ResMlpIdeal.main_arg8)
      ∧ r.2.mem ((c.tc : Thread Cert.ResMlpIdeal.nD Cert.ResMlpIdeal.τ).loc Cert.ResMlpIdeal.main_arg9) = m ((c.tc : Thread Cert.ResMlpIdeal.nD Cert.ResMlpIdeal.τ).loc Cert.ResMlpIdeal.main_arg9))
      ∧ r.2.sem = fun _ => 0)

def quiescent_RefResMlpIdeal [hRefResMlpIdeal : Cert.RefResMlpIdeal.Facts] : Prop :=
  ∀ (m : (ℓ : Loc Cert.RefResMlpIdeal.nD Cert.RefResMlpIdeal.τ Cert.RefResMlpIdeal.sig) → Buf (Elt Ideal) ℓ) (g : Dev Cert.RefResMlpIdeal.nD → PrngReg), Pre_RefResMlpIdeal m →
    θ_run (Cert.RefResMlpIdeal.defs (F := Ideal)) (onTc (τ := Cert.RefResMlpIdeal.τ) (Cert.RefResMlpIdeal.main (F := Ideal))) ⟨m, fun _ => 0, g⟩ (fun r => (∀ c : Dev Cert.RefResMlpIdeal.nD,
      r.2.mem ((c.tc : Thread Cert.RefResMlpIdeal.nD Cert.RefResMlpIdeal.τ).loc Cert.RefResMlpIdeal.main_arg0) = m ((c.tc : Thread Cert.RefResMlpIdeal.nD Cert.RefResMlpIdeal.τ).loc Cert.RefResMlpIdeal.main_arg0)
      ∧ r.2.mem ((c.tc : Thread Cert.RefResMlpIdeal.nD Cert.RefResMlpIdeal.τ).loc Cert.RefResMlpIdeal.main_arg1) = m ((c.tc : Thread Cert.RefResMlpIdeal.nD Cert.RefResMlpIdeal.τ).loc Cert.RefResMlpIdeal.main_arg1)
      ∧ r.2.mem ((c.tc : Thread Cert.RefResMlpIdeal.nD Cert.RefResMlpIdeal.τ).loc Cert.RefResMlpIdeal.main_arg2) = m ((c.tc : Thread Cert.RefResMlpIdeal.nD Cert.RefResMlpIdeal.τ).loc Cert.RefResMlpIdeal.main_arg2)
      ∧ r.2.mem ((c.tc : Thread Cert.RefResMlpIdeal.nD Cert.RefResMlpIdeal.τ).loc Cert.RefResMlpIdeal.main_arg3) = m ((c.tc : Thread Cert.RefResMlpIdeal.nD Cert.RefResMlpIdeal.τ).loc Cert.RefResMlpIdeal.main_arg3)
      ∧ r.2.mem ((c.tc : Thread Cert.RefResMlpIdeal.nD Cert.RefResMlpIdeal.τ).loc Cert.RefResMlpIdeal.main_arg4) = m ((c.tc : Thread Cert.RefResMlpIdeal.nD Cert.RefResMlpIdeal.τ).loc Cert.RefResMlpIdeal.main_arg4)
      ∧ r.2.mem ((c.tc : Thread Cert.RefResMlpIdeal.nD Cert.RefResMlpIdeal.τ).loc Cert.RefResMlpIdeal.main_arg5) = m ((c.tc : Thread Cert.RefResMlpIdeal.nD Cert.RefResMlpIdeal.τ).loc Cert.RefResMlpIdeal.main_arg5)
      ∧ r.2.mem ((c.tc : Thread Cert.RefResMlpIdeal.nD Cert.RefResMlpIdeal.τ).loc Cert.RefResMlpIdeal.main_arg6) = m ((c.tc : Thread Cert.RefResMlpIdeal.nD Cert.RefResMlpIdeal.τ).loc Cert.RefResMlpIdeal.main_arg6)
      ∧ r.2.mem ((c.tc : Thread Cert.RefResMlpIdeal.nD Cert.RefResMlpIdeal.τ).loc Cert.RefResMlpIdeal.main_arg7) = m ((c.tc : Thread Cert.RefResMlpIdeal.nD Cert.RefResMlpIdeal.τ).loc Cert.RefResMlpIdeal.main_arg7)
      ∧ r.2.mem ((c.tc : Thread Cert.RefResMlpIdeal.nD Cert.RefResMlpIdeal.τ).loc Cert.RefResMlpIdeal.main_arg8) = m ((c.tc : Thread Cert.RefResMlpIdeal.nD Cert.RefResMlpIdeal.τ).loc Cert.RefResMlpIdeal.main_arg8)
      ∧ r.2.mem ((c.tc : Thread Cert.RefResMlpIdeal.nD Cert.RefResMlpIdeal.τ).loc Cert.RefResMlpIdeal.main_arg9) = m ((c.tc : Thread Cert.RefResMlpIdeal.nD Cert.RefResMlpIdeal.τ).loc Cert.RefResMlpIdeal.main_arg9))
      ∧ r.2.sem = fun _ => 0)

def preserves_Dq_DqIdeal : Prop :=
  IdealRules.named_const.Statement Cert.DqIdeal.κ "lg2" .f32 0xBC0080AC#32 ((Real.log (127 / 128) : ℝ) : EReal)
  ∧ IdealRules.named_const.Statement Cert.DqIdeal.κ "lg3" .f32 0xBB80402B#32 ((Real.log (255 / 256) : ℝ) : EReal)
  ∧ IdealRules.named_const.Statement Cert.DqIdeal.κ "lg1" .f32 0xBC8102B3#32 ((Real.log (63 / 64) : ℝ) : EReal)
  ∧ IdealRules.named_const.Statement Cert.DqIdeal.κ "lg0" .f32 0xBD020AEC#32 ((Real.log (31 / 32) : ℝ) : EReal)

def algebraic_DqIdeal_RefDqIdeal_pre_finite_dq [hDqIdeal : Cert.DqIdeal.Facts] [hRefDqIdeal : Cert.RefDqIdeal.Facts] [hPre_finite_dq : Cert.Pre_finite_dq.Facts] : Prop :=
  ∀ (m : (ℓ : Loc Cert.DqIdeal.nD Cert.DqIdeal.τ Cert.DqIdeal.sig) → Buf (Elt Ideal) ℓ) (g : Dev Cert.DqIdeal.nD → PrngReg)
    (m' : (ℓ : Loc Cert.RefDqIdeal.nD Cert.RefDqIdeal.τ Cert.RefDqIdeal.sig) → Buf (Elt Ideal) ℓ) (g' : Dev Cert.RefDqIdeal.nD → PrngReg), Pre_DqIdeal_finite_dq m →
    (∀ c : Dev Cert.DqIdeal.nD,
      m' ((c.tc : Thread Cert.RefDqIdeal.nD Cert.RefDqIdeal.τ).loc Cert.RefDqIdeal.main_arg0) = m ((c.tc : Thread Cert.DqIdeal.nD Cert.DqIdeal.τ).loc Cert.DqIdeal.main_arg0)
      ∧ m' ((c.tc : Thread Cert.RefDqIdeal.nD Cert.RefDqIdeal.τ).loc Cert.RefDqIdeal.main_arg1) = m ((c.tc : Thread Cert.DqIdeal.nD Cert.DqIdeal.τ).loc Cert.DqIdeal.main_arg1)
      ∧ m' ((c.tc : Thread Cert.RefDqIdeal.nD Cert.RefDqIdeal.τ).loc Cert.RefDqIdeal.main_arg2) = m ((c.tc : Thread Cert.DqIdeal.nD Cert.DqIdeal.τ).loc Cert.DqIdeal.main_arg2)) →
    ∃ (v0 : (c : Dev Cert.DqIdeal.nD) → Buf (Elt Ideal) ((c.tc : Thread Cert.DqIdeal.nD Cert.DqIdeal.τ).loc Cert.DqIdeal.main_v0)),
      θ_run (Cert.DqIdeal.defs (F := Ideal)) (onTc (τ := Cert.DqIdeal.τ) (Cert.DqIdeal.main (F := Ideal))) ⟨m, fun _ => 0, g⟩ (fun r => ∀ c : Dev Cert.DqIdeal.nD,
          r.2.mem ((c.tc : Thread Cert.DqIdeal.nD Cert.DqIdeal.τ).loc Cert.DqIdeal.main_v0) = v0 c
          ∧ r.2.mem ((c.tc : Thread Cert.DqIdeal.nD Cert.DqIdeal.τ).loc Cert.DqIdeal.main_arg0) = m ((c.tc : Thread Cert.DqIdeal.nD Cert.DqIdeal.τ).loc Cert.DqIdeal.main_arg0)
          ∧ r.2.mem ((c.tc : Thread Cert.DqIdeal.nD Cert.DqIdeal.τ).loc Cert.DqIdeal.main_arg1) = m ((c.tc : Thread Cert.DqIdeal.nD Cert.DqIdeal.τ).loc Cert.DqIdeal.main_arg1)
          ∧ r.2.mem ((c.tc : Thread Cert.DqIdeal.nD Cert.DqIdeal.τ).loc Cert.DqIdeal.main_arg2) = m ((c.tc : Thread Cert.DqIdeal.nD Cert.DqIdeal.τ).loc Cert.DqIdeal.main_arg2))
      ∧ θ_run (Cert.RefDqIdeal.defs (F := Ideal)) (onTc (τ := Cert.RefDqIdeal.τ) (Cert.RefDqIdeal.main (F := Ideal))) ⟨m', fun _ => 0, g'⟩ (fun r => ∀ c : Dev Cert.RefDqIdeal.nD,
          r.2.mem ((c.tc : Thread Cert.RefDqIdeal.nD Cert.RefDqIdeal.τ).loc Cert.RefDqIdeal.main_v58) = v0 c
          ∧ r.2.mem ((c.tc : Thread Cert.RefDqIdeal.nD Cert.RefDqIdeal.τ).loc Cert.RefDqIdeal.main_arg0) = m' ((c.tc : Thread Cert.RefDqIdeal.nD Cert.RefDqIdeal.τ).loc Cert.RefDqIdeal.main_arg0)
          ∧ r.2.mem ((c.tc : Thread Cert.RefDqIdeal.nD Cert.RefDqIdeal.τ).loc Cert.RefDqIdeal.main_arg1) = m' ((c.tc : Thread Cert.RefDqIdeal.nD Cert.RefDqIdeal.τ).loc Cert.RefDqIdeal.main_arg1)
          ∧ r.2.mem ((c.tc : Thread Cert.RefDqIdeal.nD Cert.RefDqIdeal.τ).loc Cert.RefDqIdeal.main_arg2) = m' ((c.tc : Thread Cert.RefDqIdeal.nD Cert.RefDqIdeal.τ).loc Cert.RefDqIdeal.main_arg2))

def preserves_Dkv_DkvIdeal : Prop :=
  IdealRules.named_const.Statement Cert.DkvIdeal.κ "lg2" .f32 0xBC0080AC#32 ((Real.log (127 / 128) : ℝ) : EReal)
  ∧ IdealRules.named_const.Statement Cert.DkvIdeal.κ "lg3" .f32 0xBB80402B#32 ((Real.log (255 / 256) : ℝ) : EReal)
  ∧ IdealRules.named_const.Statement Cert.DkvIdeal.κ "lg1" .f32 0xBC8102B3#32 ((Real.log (63 / 64) : ℝ) : EReal)
  ∧ IdealRules.named_const.Statement Cert.DkvIdeal.κ "lg0" .f32 0xBD020AEC#32 ((Real.log (31 / 32) : ℝ) : EReal)

def algebraic_DkvIdeal_RefDkvIdeal_pre_finite_dkv [hDkvIdeal : Cert.DkvIdeal.Facts] [hRefDkvIdeal : Cert.RefDkvIdeal.Facts] [hPre_finite_dkv : Cert.Pre_finite_dkv.Facts] : Prop :=
  ∀ (m : (ℓ : Loc Cert.DkvIdeal.nD Cert.DkvIdeal.τ Cert.DkvIdeal.sig) → Buf (Elt Ideal) ℓ) (g : Dev Cert.DkvIdeal.nD → PrngReg)
    (m' : (ℓ : Loc Cert.RefDkvIdeal.nD Cert.RefDkvIdeal.τ Cert.RefDkvIdeal.sig) → Buf (Elt Ideal) ℓ) (g' : Dev Cert.RefDkvIdeal.nD → PrngReg), Pre_DkvIdeal_finite_dkv m →
    (∀ c : Dev Cert.DkvIdeal.nD,
      m' ((c.tc : Thread Cert.RefDkvIdeal.nD Cert.RefDkvIdeal.τ).loc Cert.RefDkvIdeal.main_arg0) = m ((c.tc : Thread Cert.DkvIdeal.nD Cert.DkvIdeal.τ).loc Cert.DkvIdeal.main_arg0)
      ∧ m' ((c.tc : Thread Cert.RefDkvIdeal.nD Cert.RefDkvIdeal.τ).loc Cert.RefDkvIdeal.main_arg1) = m ((c.tc : Thread Cert.DkvIdeal.nD Cert.DkvIdeal.τ).loc Cert.DkvIdeal.main_arg1)
      ∧ m' ((c.tc : Thread Cert.RefDkvIdeal.nD Cert.RefDkvIdeal.τ).loc Cert.RefDkvIdeal.main_arg2) = m ((c.tc : Thread Cert.DkvIdeal.nD Cert.DkvIdeal.τ).loc Cert.DkvIdeal.main_arg2)
      ∧ m' ((c.tc : Thread Cert.RefDkvIdeal.nD Cert.RefDkvIdeal.τ).loc Cert.RefDkvIdeal.main_arg3) = m ((c.tc : Thread Cert.DkvIdeal.nD Cert.DkvIdeal.τ).loc Cert.DkvIdeal.main_arg3)) →
    ∃ (v0 : (c : Dev Cert.DkvIdeal.nD) → Buf (Elt Ideal) ((c.tc : Thread Cert.DkvIdeal.nD Cert.DkvIdeal.τ).loc Cert.DkvIdeal.main_v0_0)) (v1 : (c : Dev Cert.DkvIdeal.nD) → Buf (Elt Ideal) ((c.tc : Thread Cert.DkvIdeal.nD Cert.DkvIdeal.τ).loc Cert.DkvIdeal.main_v0_1)),
      θ_run (Cert.DkvIdeal.defs (F := Ideal)) (onTc (τ := Cert.DkvIdeal.τ) (Cert.DkvIdeal.main (F := Ideal))) ⟨m, fun _ => 0, g⟩ (fun r => ∀ c : Dev Cert.DkvIdeal.nD,
          r.2.mem ((c.tc : Thread Cert.DkvIdeal.nD Cert.DkvIdeal.τ).loc Cert.DkvIdeal.main_v0_0) = v0 c
          ∧ r.2.mem ((c.tc : Thread Cert.DkvIdeal.nD Cert.DkvIdeal.τ).loc Cert.DkvIdeal.main_v0_1) = v1 c
          ∧ r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
          ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
          ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
          ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3))
      ∧ θ_run (Cert.RefDkvIdeal.defs (F := Ideal)) (onTc (τ := Cert.RefDkvIdeal.τ) (Cert.RefDkvIdeal.main (F := Ideal))) ⟨m', fun _ => 0, g'⟩ (fun r => ∀ c : Dev Cert.RefDkvIdeal.nD,
          r.2.mem ((c.tc : Thread Cert.RefDkvIdeal.nD Cert.RefDkvIdeal.τ).loc Cert.RefDkvIdeal.main_v62) = v0 c
          ∧ r.2.mem ((c.tc : Thread Cert.RefDkvIdeal.nD Cert.RefDkvIdeal.τ).loc Cert.RefDkvIdeal.main_v63) = v1 c
          ∧ r.2.mem ((c.tc : Thread Cert.RefDkvIdeal.nD Cert.RefDkvIdeal.τ).loc Cert.RefDkvIdeal.main_arg0) = m' ((c.tc : Thread Cert.RefDkvIdeal.nD Cert.RefDkvIdeal.τ).loc Cert.RefDkvIdeal.main_arg0)
          ∧ r.2.mem ((c.tc : Thread Cert.RefDkvIdeal.nD Cert.RefDkvIdeal.τ).loc Cert.RefDkvIdeal.main_arg1) = m' ((c.tc : Thread Cert.RefDkvIdeal.nD Cert.RefDkvIdeal.τ).loc Cert.RefDkvIdeal.main_arg1)
          ∧ r.2.mem ((c.tc : Thread Cert.RefDkvIdeal.nD Cert.RefDkvIdeal.τ).loc Cert.RefDkvIdeal.main_arg2) = m' ((c.tc : Thread Cert.RefDkvIdeal.nD Cert.RefDkvIdeal.τ).loc Cert.RefDkvIdeal.main_arg2)
          ∧ r.2.mem ((c.tc : Thread Cert.RefDkvIdeal.nD Cert.RefDkvIdeal.τ).loc Cert.RefDkvIdeal.main_arg3) = m' ((c.tc : Thread Cert.RefDkvIdeal.nD Cert.RefDkvIdeal.τ).loc Cert.RefDkvIdeal.main_arg3))

def preserves_MlpOutDx_MlpOutDxIdeal : Prop :=
  True

def algebraic_MlpOutDxIdeal_RefMlpOutDxIdeal [hMlpOutDxIdeal : Cert.MlpOutDxIdeal.Facts] [hRefMlpOutDxIdeal : Cert.RefMlpOutDxIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg)
    (m' : (ℓ : Loc Cert.RefMlpOutDxIdeal.nD Cert.RefMlpOutDxIdeal.τ Cert.RefMlpOutDxIdeal.sig) → Buf (Elt Ideal) ℓ) (g' : Dev Cert.RefMlpOutDxIdeal.nD → PrngReg), Pre_MlpOutDxIdeal m →
    (∀ c : Dev Cert.MlpOutDxIdeal.nD,
      m' ((c.tc : Thread Cert.RefMlpOutDxIdeal.nD Cert.RefMlpOutDxIdeal.τ).loc Cert.RefMlpOutDxIdeal.main_arg0) = m ((c.tc : Thread Cert.MlpOutDxIdeal.nD Cert.MlpOutDxIdeal.τ).loc Cert.MlpOutDxIdeal.main_arg0)
      ∧ m' ((c.tc : Thread Cert.RefMlpOutDxIdeal.nD Cert.RefMlpOutDxIdeal.τ).loc Cert.RefMlpOutDxIdeal.main_arg1) = m ((c.tc : Thread Cert.MlpOutDxIdeal.nD Cert.MlpOutDxIdeal.τ).loc Cert.MlpOutDxIdeal.main_arg1)
      ∧ m' ((c.tc : Thread Cert.RefMlpOutDxIdeal.nD Cert.RefMlpOutDxIdeal.τ).loc Cert.RefMlpOutDxIdeal.main_arg2) = m ((c.tc : Thread Cert.MlpOutDxIdeal.nD Cert.MlpOutDxIdeal.τ).loc Cert.MlpOutDxIdeal.main_arg2)) →
    ∃ (v0 : (c : Dev Cert.MlpOutDxIdeal.nD) → Buf (Elt Ideal) ((c.tc : Thread Cert.MlpOutDxIdeal.nD Cert.MlpOutDxIdeal.τ).loc Cert.MlpOutDxIdeal.main_v1)),
      θ_run (Cert.MlpOutDxIdeal.defs (F := Ideal)) (onTc (τ := Cert.MlpOutDxIdeal.τ) (Cert.MlpOutDxIdeal.main (F := Ideal))) ⟨m, fun _ => 0, g⟩ (fun r => ∀ c : Dev Cert.MlpOutDxIdeal.nD,
          r.2.mem ((c.tc : Thread Cert.MlpOutDxIdeal.nD Cert.MlpOutDxIdeal.τ).loc Cert.MlpOutDxIdeal.main_v1) = v0 c
          ∧ r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
          ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
          ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2))
      ∧ θ_run (Cert.RefMlpOutDxIdeal.defs (F := Ideal)) (onTc (τ := Cert.RefMlpOutDxIdeal.τ) (Cert.RefMlpOutDxIdeal.main (F := Ideal))) ⟨m', fun _ => 0, g'⟩ (fun r => ∀ c : Dev Cert.RefMlpOutDxIdeal.nD,
          r.2.mem ((c.tc : Thread Cert.RefMlpOutDxIdeal.nD Cert.RefMlpOutDxIdeal.τ).loc Cert.RefMlpOutDxIdeal.main_v15) = v0 c
          ∧ r.2.mem ((c.tc : Thread Cert.RefMlpOutDxIdeal.nD Cert.RefMlpOutDxIdeal.τ).loc Cert.RefMlpOutDxIdeal.main_arg0) = m' ((c.tc : Thread Cert.RefMlpOutDxIdeal.nD Cert.RefMlpOutDxIdeal.τ).loc Cert.RefMlpOutDxIdeal.main_arg0)
          ∧ r.2.mem ((c.tc : Thread Cert.RefMlpOutDxIdeal.nD Cert.RefMlpOutDxIdeal.τ).loc Cert.RefMlpOutDxIdeal.main_arg1) = m' ((c.tc : Thread Cert.RefMlpOutDxIdeal.nD Cert.RefMlpOutDxIdeal.τ).loc Cert.RefMlpOutDxIdeal.main_arg1)
          ∧ r.2.mem ((c.tc : Thread Cert.RefMlpOutDxIdeal.nD Cert.RefMlpOutDxIdeal.τ).loc Cert.RefMlpOutDxIdeal.main_arg2) = m' ((c.tc : Thread Cert.RefMlpOutDxIdeal.nD Cert.RefMlpOutDxIdeal.τ).loc Cert.RefMlpOutDxIdeal.main_arg2))

def preserves_MlpOutDw_MlpOutDwIdeal : Prop :=
  True

def algebraic_MlpOutDwIdeal_RefMlpOutDwIdeal [hMlpOutDwIdeal : Cert.MlpOutDwIdeal.Facts] [hRefMlpOutDwIdeal : Cert.RefMlpOutDwIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg)
    (m' : (ℓ : Loc Cert.RefMlpOutDwIdeal.nD Cert.RefMlpOutDwIdeal.τ Cert.RefMlpOutDwIdeal.sig) → Buf (Elt Ideal) ℓ) (g' : Dev Cert.RefMlpOutDwIdeal.nD → PrngReg), Pre_MlpOutDwIdeal m →
    (∀ c : Dev Cert.MlpOutDwIdeal.nD,
      m' ((c.tc : Thread Cert.RefMlpOutDwIdeal.nD Cert.RefMlpOutDwIdeal.τ).loc Cert.RefMlpOutDwIdeal.main_arg0) = m ((c.tc : Thread Cert.MlpOutDwIdeal.nD Cert.MlpOutDwIdeal.τ).loc Cert.MlpOutDwIdeal.main_arg0)
      ∧ m' ((c.tc : Thread Cert.RefMlpOutDwIdeal.nD Cert.RefMlpOutDwIdeal.τ).loc Cert.RefMlpOutDwIdeal.main_arg1) = m ((c.tc : Thread Cert.MlpOutDwIdeal.nD Cert.MlpOutDwIdeal.τ).loc Cert.MlpOutDwIdeal.main_arg1)) →
    ∃ (v0 : (c : Dev Cert.MlpOutDwIdeal.nD) → Buf (Elt Ideal) ((c.tc : Thread Cert.MlpOutDwIdeal.nD Cert.MlpOutDwIdeal.τ).loc Cert.MlpOutDwIdeal.main_v0)),
      θ_run (Cert.MlpOutDwIdeal.defs (F := Ideal)) (onTc (τ := Cert.MlpOutDwIdeal.τ) (Cert.MlpOutDwIdeal.main (F := Ideal))) ⟨m, fun _ => 0, g⟩ (fun r => ∀ c : Dev Cert.MlpOutDwIdeal.nD,
          r.2.mem ((c.tc : Thread Cert.MlpOutDwIdeal.nD Cert.MlpOutDwIdeal.τ).loc Cert.MlpOutDwIdeal.main_v0) = v0 c
          ∧ r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
          ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1))
      ∧ θ_run (Cert.RefMlpOutDwIdeal.defs (F := Ideal)) (onTc (τ := Cert.RefMlpOutDwIdeal.τ) (Cert.RefMlpOutDwIdeal.main (F := Ideal))) ⟨m', fun _ => 0, g'⟩ (fun r => ∀ c : Dev Cert.RefMlpOutDwIdeal.nD,
          r.2.mem ((c.tc : Thread Cert.RefMlpOutDwIdeal.nD Cert.RefMlpOutDwIdeal.τ).loc Cert.RefMlpOutDwIdeal.main_v7) = v0 c
          ∧ r.2.mem ((c.tc : Thread Cert.RefMlpOutDwIdeal.nD Cert.RefMlpOutDwIdeal.τ).loc Cert.RefMlpOutDwIdeal.main_arg0) = m' ((c.tc : Thread Cert.RefMlpOutDwIdeal.nD Cert.RefMlpOutDwIdeal.τ).loc Cert.RefMlpOutDwIdeal.main_arg0)
          ∧ r.2.mem ((c.tc : Thread Cert.RefMlpOutDwIdeal.nD Cert.RefMlpOutDwIdeal.τ).loc Cert.RefMlpOutDwIdeal.main_arg1) = m' ((c.tc : Thread Cert.RefMlpOutDwIdeal.nD Cert.RefMlpOutDwIdeal.τ).loc Cert.RefMlpOutDwIdeal.main_arg1))

def preserves_MlpInDx_MlpInDxIdeal : Prop :=
  True

def algebraic_MlpInDxIdeal_RefMlpInDxIdeal [hMlpInDxIdeal : Cert.MlpInDxIdeal.Facts] [hRefMlpInDxIdeal : Cert.RefMlpInDxIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg)
    (m' : (ℓ : Loc Cert.RefMlpInDxIdeal.nD Cert.RefMlpInDxIdeal.τ Cert.RefMlpInDxIdeal.sig) → Buf (Elt Ideal) ℓ) (g' : Dev Cert.RefMlpInDxIdeal.nD → PrngReg), Pre_MlpInDxIdeal m →
    (∀ c : Dev Cert.MlpInDxIdeal.nD,
      m' ((c.tc : Thread Cert.RefMlpInDxIdeal.nD Cert.RefMlpInDxIdeal.τ).loc Cert.RefMlpInDxIdeal.main_arg0) = m ((c.tc : Thread Cert.MlpInDxIdeal.nD Cert.MlpInDxIdeal.τ).loc Cert.MlpInDxIdeal.main_arg0)
      ∧ m' ((c.tc : Thread Cert.RefMlpInDxIdeal.nD Cert.RefMlpInDxIdeal.τ).loc Cert.RefMlpInDxIdeal.main_arg1) = m ((c.tc : Thread Cert.MlpInDxIdeal.nD Cert.MlpInDxIdeal.τ).loc Cert.MlpInDxIdeal.main_arg1)) →
    ∃ (v0 : (c : Dev Cert.MlpInDxIdeal.nD) → Buf (Elt Ideal) ((c.tc : Thread Cert.MlpInDxIdeal.nD Cert.MlpInDxIdeal.τ).loc Cert.MlpInDxIdeal.main_v1)),
      θ_run (Cert.MlpInDxIdeal.defs (F := Ideal)) (onTc (τ := Cert.MlpInDxIdeal.τ) (Cert.MlpInDxIdeal.main (F := Ideal))) ⟨m, fun _ => 0, g⟩ (fun r => ∀ c : Dev Cert.MlpInDxIdeal.nD,
          r.2.mem ((c.tc : Thread Cert.MlpInDxIdeal.nD Cert.MlpInDxIdeal.τ).loc Cert.MlpInDxIdeal.main_v1) = v0 c
          ∧ r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
          ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1))
      ∧ θ_run (Cert.RefMlpInDxIdeal.defs (F := Ideal)) (onTc (τ := Cert.RefMlpInDxIdeal.τ) (Cert.RefMlpInDxIdeal.main (F := Ideal))) ⟨m', fun _ => 0, g'⟩ (fun r => ∀ c : Dev Cert.RefMlpInDxIdeal.nD,
          r.2.mem ((c.tc : Thread Cert.RefMlpInDxIdeal.nD Cert.RefMlpInDxIdeal.τ).loc Cert.RefMlpInDxIdeal.main_v5) = v0 c
          ∧ r.2.mem ((c.tc : Thread Cert.RefMlpInDxIdeal.nD Cert.RefMlpInDxIdeal.τ).loc Cert.RefMlpInDxIdeal.main_arg0) = m' ((c.tc : Thread Cert.RefMlpInDxIdeal.nD Cert.RefMlpInDxIdeal.τ).loc Cert.RefMlpInDxIdeal.main_arg0)
          ∧ r.2.mem ((c.tc : Thread Cert.RefMlpInDxIdeal.nD Cert.RefMlpInDxIdeal.τ).loc Cert.RefMlpInDxIdeal.main_arg1) = m' ((c.tc : Thread Cert.RefMlpInDxIdeal.nD Cert.RefMlpInDxIdeal.τ).loc Cert.RefMlpInDxIdeal.main_arg1))

def preserves_MlpInDw_MlpInDwIdeal : Prop :=
  True

def algebraic_MlpInDwIdeal_RefMlpInDwIdeal [hMlpInDwIdeal : Cert.MlpInDwIdeal.Facts] [hRefMlpInDwIdeal : Cert.RefMlpInDwIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg)
    (m' : (ℓ : Loc Cert.RefMlpInDwIdeal.nD Cert.RefMlpInDwIdeal.τ Cert.RefMlpInDwIdeal.sig) → Buf (Elt Ideal) ℓ) (g' : Dev Cert.RefMlpInDwIdeal.nD → PrngReg), Pre_MlpInDwIdeal m →
    (∀ c : Dev Cert.MlpInDwIdeal.nD,
      m' ((c.tc : Thread Cert.RefMlpInDwIdeal.nD Cert.RefMlpInDwIdeal.τ).loc Cert.RefMlpInDwIdeal.main_arg0) = m ((c.tc : Thread Cert.MlpInDwIdeal.nD Cert.MlpInDwIdeal.τ).loc Cert.MlpInDwIdeal.main_arg0)
      ∧ m' ((c.tc : Thread Cert.RefMlpInDwIdeal.nD Cert.RefMlpInDwIdeal.τ).loc Cert.RefMlpInDwIdeal.main_arg1) = m ((c.tc : Thread Cert.MlpInDwIdeal.nD Cert.MlpInDwIdeal.τ).loc Cert.MlpInDwIdeal.main_arg1)) →
    ∃ (v0 : (c : Dev Cert.MlpInDwIdeal.nD) → Buf (Elt Ideal) ((c.tc : Thread Cert.MlpInDwIdeal.nD Cert.MlpInDwIdeal.τ).loc Cert.MlpInDwIdeal.main_v0)),
      θ_run (Cert.MlpInDwIdeal.defs (F := Ideal)) (onTc (τ := Cert.MlpInDwIdeal.τ) (Cert.MlpInDwIdeal.main (F := Ideal))) ⟨m, fun _ => 0, g⟩ (fun r => ∀ c : Dev Cert.MlpInDwIdeal.nD,
          r.2.mem ((c.tc : Thread Cert.MlpInDwIdeal.nD Cert.MlpInDwIdeal.τ).loc Cert.MlpInDwIdeal.main_v0) = v0 c
          ∧ r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
          ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1))
      ∧ θ_run (Cert.RefMlpInDwIdeal.defs (F := Ideal)) (onTc (τ := Cert.RefMlpInDwIdeal.τ) (Cert.RefMlpInDwIdeal.main (F := Ideal))) ⟨m', fun _ => 0, g'⟩ (fun r => ∀ c : Dev Cert.RefMlpInDwIdeal.nD,
          r.2.mem ((c.tc : Thread Cert.RefMlpInDwIdeal.nD Cert.RefMlpInDwIdeal.τ).loc Cert.RefMlpInDwIdeal.main_v8) = v0 c
          ∧ r.2.mem ((c.tc : Thread Cert.RefMlpInDwIdeal.nD Cert.RefMlpInDwIdeal.τ).loc Cert.RefMlpInDwIdeal.main_arg0) = m' ((c.tc : Thread Cert.RefMlpInDwIdeal.nD Cert.RefMlpInDwIdeal.τ).loc Cert.RefMlpInDwIdeal.main_arg0)
          ∧ r.2.mem ((c.tc : Thread Cert.RefMlpInDwIdeal.nD Cert.RefMlpInDwIdeal.τ).loc Cert.RefMlpInDwIdeal.main_arg1) = m' ((c.tc : Thread Cert.RefMlpInDwIdeal.nD Cert.RefMlpInDwIdeal.τ).loc Cert.RefMlpInDwIdeal.main_arg1))

def preserves_MlpIn_MlpInIdeal : Prop :=
  True

def algebraic_MlpInIdeal_RefMlpInIdeal [hMlpInIdeal : Cert.MlpInIdeal.Facts] [hRefMlpInIdeal : Cert.RefMlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.RefMlpInIdeal.nD Cert.RefMlpInIdeal.τ Cert.RefMlpInIdeal.sig) → Buf (Elt Ideal) ℓ) (g' : Dev Cert.RefMlpInIdeal.nD → PrngReg), Pre_MlpInIdeal m →
    (∀ c : Dev Cert.MlpInIdeal.nD,
      m' ((c.tc : Thread Cert.RefMlpInIdeal.nD Cert.RefMlpInIdeal.τ).loc Cert.RefMlpInIdeal.main_arg0) = m ((c.tc : Thread Cert.MlpInIdeal.nD Cert.MlpInIdeal.τ).loc Cert.MlpInIdeal.main_arg0)
      ∧ m' ((c.tc : Thread Cert.RefMlpInIdeal.nD Cert.RefMlpInIdeal.τ).loc Cert.RefMlpInIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v1_0)) (v1 : (c : Dev Cert.MlpInIdeal.nD) → Buf (Elt Ideal) ((c.tc : Thread Cert.MlpInIdeal.nD Cert.MlpInIdeal.τ).loc Cert.MlpInIdeal.main_v1_1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v1_0) = v0 c
          ∧ r.2.mem ((c.tc : Thread Cert.MlpInIdeal.nD Cert.MlpInIdeal.τ).loc Cert.MlpInIdeal.main_v1_1) = v1 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.RefMlpInIdeal.defs (F := Ideal)) (onTc (τ := Cert.RefMlpInIdeal.τ) (Cert.RefMlpInIdeal.main (F := Ideal))) ⟨m', fun _ => 0, g'⟩ (fun r => ∀ c : Dev Cert.RefMlpInIdeal.nD,
          r.2.mem ((c.tc : Thread Cert.RefMlpInIdeal.nD Cert.RefMlpInIdeal.τ).loc Cert.RefMlpInIdeal.main_v3) = v0 c
          ∧ r.2.mem ((c.tc : Thread Cert.RefMlpInIdeal.nD Cert.RefMlpInIdeal.τ).loc Cert.RefMlpInIdeal.main_v6) = v1 c
          ∧ r.2.mem ((c.tc : Thread Cert.RefMlpInIdeal.nD Cert.RefMlpInIdeal.τ).loc Cert.RefMlpInIdeal.main_arg0) = m' ((c.tc : Thread Cert.RefMlpInIdeal.nD Cert.RefMlpInIdeal.τ).loc Cert.RefMlpInIdeal.main_arg0)
          ∧ r.2.mem ((c.tc : Thread Cert.RefMlpInIdeal.nD Cert.RefMlpInIdeal.τ).loc Cert.RefMlpInIdeal.main_arg1) = m' ((c.tc : Thread Cert.RefMlpInIdeal.nD Cert.RefMlpInIdeal.τ).loc Cert.RefMlpInIdeal.main_arg1))

def preserves_MlpOut_MlpOutIdeal : Prop :=
  True

def algebraic_MlpOutIdeal_RefMlpOutIdeal [hMlpOutIdeal : Cert.MlpOutIdeal.Facts] [hRefMlpOutIdeal : Cert.RefMlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.RefMlpOutIdeal.nD Cert.RefMlpOutIdeal.τ Cert.RefMlpOutIdeal.sig) → Buf (Elt Ideal) ℓ) (g' : Dev Cert.RefMlpOutIdeal.nD → PrngReg), Pre_MlpOutIdeal m →
    (∀ c : Dev Cert.MlpOutIdeal.nD,
      m' ((c.tc : Thread Cert.RefMlpOutIdeal.nD Cert.RefMlpOutIdeal.τ).loc Cert.RefMlpOutIdeal.main_arg0) = m ((c.tc : Thread Cert.MlpOutIdeal.nD Cert.MlpOutIdeal.τ).loc Cert.MlpOutIdeal.main_arg0)
      ∧ m' ((c.tc : Thread Cert.RefMlpOutIdeal.nD Cert.RefMlpOutIdeal.τ).loc Cert.RefMlpOutIdeal.main_arg1) = m ((c.tc : Thread Cert.MlpOutIdeal.nD Cert.MlpOutIdeal.τ).loc Cert.MlpOutIdeal.main_arg1)) →
    ∃ (v0 : (c : Dev Cert.MlpOutIdeal.nD) → Buf (Elt Ideal) ((c.tc : Thread Cert.MlpOutIdeal.nD Cert.MlpOutIdeal.τ).loc Cert.MlpOutIdeal.main_v1)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v1) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1))
      ∧ θ_run (Cert.RefMlpOutIdeal.defs (F := Ideal)) (onTc (τ := Cert.RefMlpOutIdeal.τ) (Cert.RefMlpOutIdeal.main (F := Ideal))) ⟨m', fun _ => 0, g'⟩ (fun r => ∀ c : Dev Cert.RefMlpOutIdeal.nD,
          r.2.mem ((c.tc : Thread Cert.RefMlpOutIdeal.nD Cert.RefMlpOutIdeal.τ).loc Cert.RefMlpOutIdeal.main_v2) = v0 c
          ∧ r.2.mem ((c.tc : Thread Cert.RefMlpOutIdeal.nD Cert.RefMlpOutIdeal.τ).loc Cert.RefMlpOutIdeal.main_arg0) = m' ((c.tc : Thread Cert.RefMlpOutIdeal.nD Cert.RefMlpOutIdeal.τ).loc Cert.RefMlpOutIdeal.main_arg0)
          ∧ r.2.mem ((c.tc : Thread Cert.RefMlpOutIdeal.nD Cert.RefMlpOutIdeal.τ).loc Cert.RefMlpOutIdeal.main_arg1) = m' ((c.tc : Thread Cert.RefMlpOutIdeal.nD Cert.RefMlpOutIdeal.τ).loc Cert.RefMlpOutIdeal.main_arg1))

def preserves_RetProjDx_RetProjDxIdeal : Prop :=
  True

def algebraic_RetProjDxIdeal_RefRetProjDxIdeal [hRetProjDxIdeal : Cert.RetProjDxIdeal.Facts] [hRefRetProjDxIdeal : Cert.RefRetProjDxIdeal.Facts] : Prop :=
  ∀ (m : (ℓ : Loc Cert.RetProjDxIdeal.nD Cert.RetProjDxIdeal.τ Cert.RetProjDxIdeal.sig) → Buf (Elt Ideal) ℓ) (g : Dev Cert.RetProjDxIdeal.nD → PrngReg)
    (m' : (ℓ : Loc Cert.RefRetProjDxIdeal.nD Cert.RefRetProjDxIdeal.τ Cert.RefRetProjDxIdeal.sig) → Buf (Elt Ideal) ℓ) (g' : Dev Cert.RefRetProjDxIdeal.nD → PrngReg), Pre_RetProjDxIdeal m →
    (∀ c : Dev Cert.RetProjDxIdeal.nD,
      m' ((c.tc : Thread Cert.RefRetProjDxIdeal.nD Cert.RefRetProjDxIdeal.τ).loc Cert.RefRetProjDxIdeal.main_arg0) = m ((c.tc : Thread Cert.RetProjDxIdeal.nD Cert.RetProjDxIdeal.τ).loc Cert.RetProjDxIdeal.main_arg0)
      ∧ m' ((c.tc : Thread Cert.RefRetProjDxIdeal.nD Cert.RefRetProjDxIdeal.τ).loc Cert.RefRetProjDxIdeal.main_arg1) = m ((c.tc : Thread Cert.RetProjDxIdeal.nD Cert.RetProjDxIdeal.τ).loc Cert.RetProjDxIdeal.main_arg1)) →
    ∃ (v0 : (c : Dev Cert.RetProjDxIdeal.nD) → Buf (Elt Ideal) ((c.tc : Thread Cert.RetProjDxIdeal.nD Cert.RetProjDxIdeal.τ).loc Cert.RetProjDxIdeal.main_v1)),
      θ_run (Cert.RetProjDxIdeal.defs (F := Ideal)) (onTc (τ := Cert.RetProjDxIdeal.τ) (Cert.RetProjDxIdeal.main (F := Ideal))) ⟨m, fun _ => 0, g⟩ (fun r => ∀ c : Dev Cert.RetProjDxIdeal.nD,
          r.2.mem ((c.tc : Thread Cert.RetProjDxIdeal.nD Cert.RetProjDxIdeal.τ).loc Cert.RetProjDxIdeal.main_v1) = v0 c
          ∧ r.2.mem ((c.tc : Thread Cert.RetProjDxIdeal.nD Cert.RetProjDxIdeal.τ).loc Cert.RetProjDxIdeal.main_arg0) = m ((c.tc : Thread Cert.RetProjDxIdeal.nD Cert.RetProjDxIdeal.τ).loc Cert.RetProjDxIdeal.main_arg0)
          ∧ r.2.mem ((c.tc : Thread Cert.RetProjDxIdeal.nD Cert.RetProjDxIdeal.τ).loc Cert.RetProjDxIdeal.main_arg1) = m ((c.tc : Thread Cert.RetProjDxIdeal.nD Cert.RetProjDxIdeal.τ).loc Cert.RetProjDxIdeal.main_arg1))
      ∧ θ_run (Cert.RefRetProjDxIdeal.defs (F := Ideal)) (onTc (τ := Cert.RefRetProjDxIdeal.τ) (Cert.RefRetProjDxIdeal.main (F := Ideal))) ⟨m', fun _ => 0, g'⟩ (fun r => ∀ c : Dev Cert.RefRetProjDxIdeal.nD,
          r.2.mem ((c.tc : Thread Cert.RefRetProjDxIdeal.nD Cert.RefRetProjDxIdeal.τ).loc Cert.RefRetProjDxIdeal.main_v5) = v0 c
          ∧ r.2.mem ((c.tc : Thread Cert.RefRetProjDxIdeal.nD Cert.RefRetProjDxIdeal.τ).loc Cert.RefRetProjDxIdeal.main_arg0) = m' ((c.tc : Thread Cert.RefRetProjDxIdeal.nD Cert.RefRetProjDxIdeal.τ).loc Cert.RefRetProjDxIdeal.main_arg0)
          ∧ r.2.mem ((c.tc : Thread Cert.RefRetProjDxIdeal.nD Cert.RefRetProjDxIdeal.τ).loc Cert.RefRetProjDxIdeal.main_arg1) = m' ((c.tc : Thread Cert.RefRetProjDxIdeal.nD Cert.RefRetProjDxIdeal.τ).loc Cert.RefRetProjDxIdeal.main_arg1))

def preserves_RetProjDw_RetProjDwIdeal : Prop :=
  True

def algebraic_RetProjDwIdeal_RefRetProjDwIdeal [hRetProjDwIdeal : Cert.RetProjDwIdeal.Facts] [hRefRetProjDwIdeal : Cert.RefRetProjDwIdeal.Facts] : Prop :=
  ∀ (m : (ℓ : Loc Cert.RetProjDwIdeal.nD Cert.RetProjDwIdeal.τ Cert.RetProjDwIdeal.sig) → Buf (Elt Ideal) ℓ) (g : Dev Cert.RetProjDwIdeal.nD → PrngReg)
    (m' : (ℓ : Loc Cert.RefRetProjDwIdeal.nD Cert.RefRetProjDwIdeal.τ Cert.RefRetProjDwIdeal.sig) → Buf (Elt Ideal) ℓ) (g' : Dev Cert.RefRetProjDwIdeal.nD → PrngReg), Pre_RetProjDwIdeal m →
    (∀ c : Dev Cert.RetProjDwIdeal.nD,
      m' ((c.tc : Thread Cert.RefRetProjDwIdeal.nD Cert.RefRetProjDwIdeal.τ).loc Cert.RefRetProjDwIdeal.main_arg0) = m ((c.tc : Thread Cert.RetProjDwIdeal.nD Cert.RetProjDwIdeal.τ).loc Cert.RetProjDwIdeal.main_arg0)
      ∧ m' ((c.tc : Thread Cert.RefRetProjDwIdeal.nD Cert.RefRetProjDwIdeal.τ).loc Cert.RefRetProjDwIdeal.main_arg1) = m ((c.tc : Thread Cert.RetProjDwIdeal.nD Cert.RetProjDwIdeal.τ).loc Cert.RetProjDwIdeal.main_arg1)) →
    ∃ (v0 : (c : Dev Cert.RetProjDwIdeal.nD) → Buf (Elt Ideal) ((c.tc : Thread Cert.RetProjDwIdeal.nD Cert.RetProjDwIdeal.τ).loc Cert.RetProjDwIdeal.main_v0)),
      θ_run (Cert.RetProjDwIdeal.defs (F := Ideal)) (onTc (τ := Cert.RetProjDwIdeal.τ) (Cert.RetProjDwIdeal.main (F := Ideal))) ⟨m, fun _ => 0, g⟩ (fun r => ∀ c : Dev Cert.RetProjDwIdeal.nD,
          r.2.mem ((c.tc : Thread Cert.RetProjDwIdeal.nD Cert.RetProjDwIdeal.τ).loc Cert.RetProjDwIdeal.main_v0) = v0 c
          ∧ r.2.mem ((c.tc : Thread Cert.RetProjDwIdeal.nD Cert.RetProjDwIdeal.τ).loc Cert.RetProjDwIdeal.main_arg0) = m ((c.tc : Thread Cert.RetProjDwIdeal.nD Cert.RetProjDwIdeal.τ).loc Cert.RetProjDwIdeal.main_arg0)
          ∧ r.2.mem ((c.tc : Thread Cert.RetProjDwIdeal.nD Cert.RetProjDwIdeal.τ).loc Cert.RetProjDwIdeal.main_arg1) = m ((c.tc : Thread Cert.RetProjDwIdeal.nD Cert.RetProjDwIdeal.τ).loc Cert.RetProjDwIdeal.main_arg1))
      ∧ θ_run (Cert.RefRetProjDwIdeal.defs (F := Ideal)) (onTc (τ := Cert.RefRetProjDwIdeal.τ) (Cert.RefRetProjDwIdeal.main (F := Ideal))) ⟨m', fun _ => 0, g'⟩ (fun r => ∀ c : Dev Cert.RefRetProjDwIdeal.nD,
          r.2.mem ((c.tc : Thread Cert.RefRetProjDwIdeal.nD Cert.RefRetProjDwIdeal.τ).loc Cert.RefRetProjDwIdeal.main_v8) = v0 c
          ∧ r.2.mem ((c.tc : Thread Cert.RefRetProjDwIdeal.nD Cert.RefRetProjDwIdeal.τ).loc Cert.RefRetProjDwIdeal.main_arg0) = m' ((c.tc : Thread Cert.RefRetProjDwIdeal.nD Cert.RefRetProjDwIdeal.τ).loc Cert.RefRetProjDwIdeal.main_arg0)
          ∧ r.2.mem ((c.tc : Thread Cert.RefRetProjDwIdeal.nD Cert.RefRetProjDwIdeal.τ).loc Cert.RefRetProjDwIdeal.main_arg1) = m' ((c.tc : Thread Cert.RefRetProjDwIdeal.nD Cert.RefRetProjDwIdeal.τ).loc Cert.RefRetProjDwIdeal.main_arg1))

def preserves_RetOutDx_RetOutDxIdeal : Prop :=
  True

def algebraic_RetOutDxIdeal_RefRetOutDxIdeal [hRetOutDxIdeal : Cert.RetOutDxIdeal.Facts] [hRefRetOutDxIdeal : Cert.RefRetOutDxIdeal.Facts] : Prop :=
  ∀ (m : (ℓ : Loc Cert.RetOutDxIdeal.nD Cert.RetOutDxIdeal.τ Cert.RetOutDxIdeal.sig) → Buf (Elt Ideal) ℓ) (g : Dev Cert.RetOutDxIdeal.nD → PrngReg)
    (m' : (ℓ : Loc Cert.RefRetOutDxIdeal.nD Cert.RefRetOutDxIdeal.τ Cert.RefRetOutDxIdeal.sig) → Buf (Elt Ideal) ℓ) (g' : Dev Cert.RefRetOutDxIdeal.nD → PrngReg), Pre_RetOutDxIdeal m →
    (∀ c : Dev Cert.RetOutDxIdeal.nD,
      m' ((c.tc : Thread Cert.RefRetOutDxIdeal.nD Cert.RefRetOutDxIdeal.τ).loc Cert.RefRetOutDxIdeal.main_arg0) = m ((c.tc : Thread Cert.RetOutDxIdeal.nD Cert.RetOutDxIdeal.τ).loc Cert.RetOutDxIdeal.main_arg0)
      ∧ m' ((c.tc : Thread Cert.RefRetOutDxIdeal.nD Cert.RefRetOutDxIdeal.τ).loc Cert.RefRetOutDxIdeal.main_arg1) = m ((c.tc : Thread Cert.RetOutDxIdeal.nD Cert.RetOutDxIdeal.τ).loc Cert.RetOutDxIdeal.main_arg1)) →
    ∃ (v0 : (c : Dev Cert.RetOutDxIdeal.nD) → Buf (Elt Ideal) ((c.tc : Thread Cert.RetOutDxIdeal.nD Cert.RetOutDxIdeal.τ).loc Cert.RetOutDxIdeal.main_v1)),
      θ_run (Cert.RetOutDxIdeal.defs (F := Ideal)) (onTc (τ := Cert.RetOutDxIdeal.τ) (Cert.RetOutDxIdeal.main (F := Ideal))) ⟨m, fun _ => 0, g⟩ (fun r => ∀ c : Dev Cert.RetOutDxIdeal.nD,
          r.2.mem ((c.tc : Thread Cert.RetOutDxIdeal.nD Cert.RetOutDxIdeal.τ).loc Cert.RetOutDxIdeal.main_v1) = v0 c
          ∧ r.2.mem ((c.tc : Thread Cert.RetOutDxIdeal.nD Cert.RetOutDxIdeal.τ).loc Cert.RetOutDxIdeal.main_arg0) = m ((c.tc : Thread Cert.RetOutDxIdeal.nD Cert.RetOutDxIdeal.τ).loc Cert.RetOutDxIdeal.main_arg0)
          ∧ r.2.mem ((c.tc : Thread Cert.RetOutDxIdeal.nD Cert.RetOutDxIdeal.τ).loc Cert.RetOutDxIdeal.main_arg1) = m ((c.tc : Thread Cert.RetOutDxIdeal.nD Cert.RetOutDxIdeal.τ).loc Cert.RetOutDxIdeal.main_arg1))
      ∧ θ_run (Cert.RefRetOutDxIdeal.defs (F := Ideal)) (onTc (τ := Cert.RefRetOutDxIdeal.τ) (Cert.RefRetOutDxIdeal.main (F := Ideal))) ⟨m', fun _ => 0, g'⟩ (fun r => ∀ c : Dev Cert.RefRetOutDxIdeal.nD,
          r.2.mem ((c.tc : Thread Cert.RefRetOutDxIdeal.nD Cert.RefRetOutDxIdeal.τ).loc Cert.RefRetOutDxIdeal.main_v5) = v0 c
          ∧ r.2.mem ((c.tc : Thread Cert.RefRetOutDxIdeal.nD Cert.RefRetOutDxIdeal.τ).loc Cert.RefRetOutDxIdeal.main_arg0) = m' ((c.tc : Thread Cert.RefRetOutDxIdeal.nD Cert.RefRetOutDxIdeal.τ).loc Cert.RefRetOutDxIdeal.main_arg0)
          ∧ r.2.mem ((c.tc : Thread Cert.RefRetOutDxIdeal.nD Cert.RefRetOutDxIdeal.τ).loc Cert.RefRetOutDxIdeal.main_arg1) = m' ((c.tc : Thread Cert.RefRetOutDxIdeal.nD Cert.RefRetOutDxIdeal.τ).loc Cert.RefRetOutDxIdeal.main_arg1))

def preserves_RetOutDw_RetOutDwIdeal : Prop :=
  True

def algebraic_RetOutDwIdeal_RefRetOutDwIdeal [hRetOutDwIdeal : Cert.RetOutDwIdeal.Facts] [hRefRetOutDwIdeal : Cert.RefRetOutDwIdeal.Facts] : Prop :=
  ∀ (m : (ℓ : Loc Cert.RetOutDwIdeal.nD Cert.RetOutDwIdeal.τ Cert.RetOutDwIdeal.sig) → Buf (Elt Ideal) ℓ) (g : Dev Cert.RetOutDwIdeal.nD → PrngReg)
    (m' : (ℓ : Loc Cert.RefRetOutDwIdeal.nD Cert.RefRetOutDwIdeal.τ Cert.RefRetOutDwIdeal.sig) → Buf (Elt Ideal) ℓ) (g' : Dev Cert.RefRetOutDwIdeal.nD → PrngReg), Pre_RetOutDwIdeal m →
    (∀ c : Dev Cert.RetOutDwIdeal.nD,
      m' ((c.tc : Thread Cert.RefRetOutDwIdeal.nD Cert.RefRetOutDwIdeal.τ).loc Cert.RefRetOutDwIdeal.main_arg0) = m ((c.tc : Thread Cert.RetOutDwIdeal.nD Cert.RetOutDwIdeal.τ).loc Cert.RetOutDwIdeal.main_arg0)
      ∧ m' ((c.tc : Thread Cert.RefRetOutDwIdeal.nD Cert.RefRetOutDwIdeal.τ).loc Cert.RefRetOutDwIdeal.main_arg1) = m ((c.tc : Thread Cert.RetOutDwIdeal.nD Cert.RetOutDwIdeal.τ).loc Cert.RetOutDwIdeal.main_arg1)) →
    ∃ (v0 : (c : Dev Cert.RetOutDwIdeal.nD) → Buf (Elt Ideal) ((c.tc : Thread Cert.RetOutDwIdeal.nD Cert.RetOutDwIdeal.τ).loc Cert.RetOutDwIdeal.main_v0)),
      θ_run (Cert.RetOutDwIdeal.defs (F := Ideal)) (onTc (τ := Cert.RetOutDwIdeal.τ) (Cert.RetOutDwIdeal.main (F := Ideal))) ⟨m, fun _ => 0, g⟩ (fun r => ∀ c : Dev Cert.RetOutDwIdeal.nD,
          r.2.mem ((c.tc : Thread Cert.RetOutDwIdeal.nD Cert.RetOutDwIdeal.τ).loc Cert.RetOutDwIdeal.main_v0) = v0 c
          ∧ r.2.mem ((c.tc : Thread Cert.RetOutDwIdeal.nD Cert.RetOutDwIdeal.τ).loc Cert.RetOutDwIdeal.main_arg0) = m ((c.tc : Thread Cert.RetOutDwIdeal.nD Cert.RetOutDwIdeal.τ).loc Cert.RetOutDwIdeal.main_arg0)
          ∧ r.2.mem ((c.tc : Thread Cert.RetOutDwIdeal.nD Cert.RetOutDwIdeal.τ).loc Cert.RetOutDwIdeal.main_arg1) = m ((c.tc : Thread Cert.RetOutDwIdeal.nD Cert.RetOutDwIdeal.τ).loc Cert.RetOutDwIdeal.main_arg1))
      ∧ θ_run (Cert.RefRetOutDwIdeal.defs (F := Ideal)) (onTc (τ := Cert.RefRetOutDwIdeal.τ) (Cert.RefRetOutDwIdeal.main (F := Ideal))) ⟨m', fun _ => 0, g'⟩ (fun r => ∀ c : Dev Cert.RefRetOutDwIdeal.nD,
          r.2.mem ((c.tc : Thread Cert.RefRetOutDwIdeal.nD Cert.RefRetOutDwIdeal.τ).loc Cert.RefRetOutDwIdeal.main_v7) = v0 c
          ∧ r.2.mem ((c.tc : Thread Cert.RefRetOutDwIdeal.nD Cert.RefRetOutDwIdeal.τ).loc Cert.RefRetOutDwIdeal.main_arg0) = m' ((c.tc : Thread Cert.RefRetOutDwIdeal.nD Cert.RefRetOutDwIdeal.τ).loc Cert.RefRetOutDwIdeal.main_arg0)
          ∧ r.2.mem ((c.tc : Thread Cert.RefRetOutDwIdeal.nD Cert.RefRetOutDwIdeal.τ).loc Cert.RefRetOutDwIdeal.main_arg1) = m' ((c.tc : Thread Cert.RefRetOutDwIdeal.nD Cert.RefRetOutDwIdeal.τ).loc Cert.RefRetOutDwIdeal.main_arg1))

def preserves_FoxProjDx_FoxProjDxIdeal : Prop :=
  True

def algebraic_FoxProjDxIdeal_RefFoxProjDxIdeal [hFoxProjDxIdeal : Cert.FoxProjDxIdeal.Facts] [hRefFoxProjDxIdeal : Cert.RefFoxProjDxIdeal.Facts] : Prop :=
  ∀ (m : (ℓ : Loc Cert.FoxProjDxIdeal.nD Cert.FoxProjDxIdeal.τ Cert.FoxProjDxIdeal.sig) → Buf (Elt Ideal) ℓ) (g : Dev Cert.FoxProjDxIdeal.nD → PrngReg)
    (m' : (ℓ : Loc Cert.RefFoxProjDxIdeal.nD Cert.RefFoxProjDxIdeal.τ Cert.RefFoxProjDxIdeal.sig) → Buf (Elt Ideal) ℓ) (g' : Dev Cert.RefFoxProjDxIdeal.nD → PrngReg), Pre_FoxProjDxIdeal m →
    (∀ c : Dev Cert.FoxProjDxIdeal.nD,
      m' ((c.tc : Thread Cert.RefFoxProjDxIdeal.nD Cert.RefFoxProjDxIdeal.τ).loc Cert.RefFoxProjDxIdeal.main_arg0) = m ((c.tc : Thread Cert.FoxProjDxIdeal.nD Cert.FoxProjDxIdeal.τ).loc Cert.FoxProjDxIdeal.main_arg0)
      ∧ m' ((c.tc : Thread Cert.RefFoxProjDxIdeal.nD Cert.RefFoxProjDxIdeal.τ).loc Cert.RefFoxProjDxIdeal.main_arg1) = m ((c.tc : Thread Cert.FoxProjDxIdeal.nD Cert.FoxProjDxIdeal.τ).loc Cert.FoxProjDxIdeal.main_arg1)) →
    ∃ (v0 : (c : Dev Cert.FoxProjDxIdeal.nD) → Buf (Elt Ideal) ((c.tc : Thread Cert.FoxProjDxIdeal.nD Cert.FoxProjDxIdeal.τ).loc Cert.FoxProjDxIdeal.main_v1)),
      θ_run (Cert.FoxProjDxIdeal.defs (F := Ideal)) (onTc (τ := Cert.FoxProjDxIdeal.τ) (Cert.FoxProjDxIdeal.main (F := Ideal))) ⟨m, fun _ => 0, g⟩ (fun r => ∀ c : Dev Cert.FoxProjDxIdeal.nD,
          r.2.mem ((c.tc : Thread Cert.FoxProjDxIdeal.nD Cert.FoxProjDxIdeal.τ).loc Cert.FoxProjDxIdeal.main_v1) = v0 c
          ∧ r.2.mem ((c.tc : Thread Cert.FoxProjDxIdeal.nD Cert.FoxProjDxIdeal.τ).loc Cert.FoxProjDxIdeal.main_arg0) = m ((c.tc : Thread Cert.FoxProjDxIdeal.nD Cert.FoxProjDxIdeal.τ).loc Cert.FoxProjDxIdeal.main_arg0)
          ∧ r.2.mem ((c.tc : Thread Cert.FoxProjDxIdeal.nD Cert.FoxProjDxIdeal.τ).loc Cert.FoxProjDxIdeal.main_arg1) = m ((c.tc : Thread Cert.FoxProjDxIdeal.nD Cert.FoxProjDxIdeal.τ).loc Cert.FoxProjDxIdeal.main_arg1))
      ∧ θ_run (Cert.RefFoxProjDxIdeal.defs (F := Ideal)) (onTc (τ := Cert.RefFoxProjDxIdeal.τ) (Cert.RefFoxProjDxIdeal.main (F := Ideal))) ⟨m', fun _ => 0, g'⟩ (fun r => ∀ c : Dev Cert.RefFoxProjDxIdeal.nD,
          r.2.mem ((c.tc : Thread Cert.RefFoxProjDxIdeal.nD Cert.RefFoxProjDxIdeal.τ).loc Cert.RefFoxProjDxIdeal.main_v5) = v0 c
          ∧ r.2.mem ((c.tc : Thread Cert.RefFoxProjDxIdeal.nD Cert.RefFoxProjDxIdeal.τ).loc Cert.RefFoxProjDxIdeal.main_arg0) = m' ((c.tc : Thread Cert.RefFoxProjDxIdeal.nD Cert.RefFoxProjDxIdeal.τ).loc Cert.RefFoxProjDxIdeal.main_arg0)
          ∧ r.2.mem ((c.tc : Thread Cert.RefFoxProjDxIdeal.nD Cert.RefFoxProjDxIdeal.τ).loc Cert.RefFoxProjDxIdeal.main_arg1) = m' ((c.tc : Thread Cert.RefFoxProjDxIdeal.nD Cert.RefFoxProjDxIdeal.τ).loc Cert.RefFoxProjDxIdeal.main_arg1))

def preserves_FoxProjDw_FoxProjDwIdeal : Prop :=
  True

def algebraic_FoxProjDwIdeal_RefFoxProjDwIdeal [hFoxProjDwIdeal : Cert.FoxProjDwIdeal.Facts] [hRefFoxProjDwIdeal : Cert.RefFoxProjDwIdeal.Facts] : Prop :=
  ∀ (m : (ℓ : Loc Cert.FoxProjDwIdeal.nD Cert.FoxProjDwIdeal.τ Cert.FoxProjDwIdeal.sig) → Buf (Elt Ideal) ℓ) (g : Dev Cert.FoxProjDwIdeal.nD → PrngReg)
    (m' : (ℓ : Loc Cert.RefFoxProjDwIdeal.nD Cert.RefFoxProjDwIdeal.τ Cert.RefFoxProjDwIdeal.sig) → Buf (Elt Ideal) ℓ) (g' : Dev Cert.RefFoxProjDwIdeal.nD → PrngReg), Pre_FoxProjDwIdeal m →
    (∀ c : Dev Cert.FoxProjDwIdeal.nD,
      m' ((c.tc : Thread Cert.RefFoxProjDwIdeal.nD Cert.RefFoxProjDwIdeal.τ).loc Cert.RefFoxProjDwIdeal.main_arg0) = m ((c.tc : Thread Cert.FoxProjDwIdeal.nD Cert.FoxProjDwIdeal.τ).loc Cert.FoxProjDwIdeal.main_arg0)
      ∧ m' ((c.tc : Thread Cert.RefFoxProjDwIdeal.nD Cert.RefFoxProjDwIdeal.τ).loc Cert.RefFoxProjDwIdeal.main_arg1) = m ((c.tc : Thread Cert.FoxProjDwIdeal.nD Cert.FoxProjDwIdeal.τ).loc Cert.FoxProjDwIdeal.main_arg1)) →
    ∃ (v0 : (c : Dev Cert.FoxProjDwIdeal.nD) → Buf (Elt Ideal) ((c.tc : Thread Cert.FoxProjDwIdeal.nD Cert.FoxProjDwIdeal.τ).loc Cert.FoxProjDwIdeal.main_v0)),
      θ_run (Cert.FoxProjDwIdeal.defs (F := Ideal)) (onTc (τ := Cert.FoxProjDwIdeal.τ) (Cert.FoxProjDwIdeal.main (F := Ideal))) ⟨m, fun _ => 0, g⟩ (fun r => ∀ c : Dev Cert.FoxProjDwIdeal.nD,
          r.2.mem ((c.tc : Thread Cert.FoxProjDwIdeal.nD Cert.FoxProjDwIdeal.τ).loc Cert.FoxProjDwIdeal.main_v0) = v0 c
          ∧ r.2.mem ((c.tc : Thread Cert.FoxProjDwIdeal.nD Cert.FoxProjDwIdeal.τ).loc Cert.FoxProjDwIdeal.main_arg0) = m ((c.tc : Thread Cert.FoxProjDwIdeal.nD Cert.FoxProjDwIdeal.τ).loc Cert.FoxProjDwIdeal.main_arg0)
          ∧ r.2.mem ((c.tc : Thread Cert.FoxProjDwIdeal.nD Cert.FoxProjDwIdeal.τ).loc Cert.FoxProjDwIdeal.main_arg1) = m ((c.tc : Thread Cert.FoxProjDwIdeal.nD Cert.FoxProjDwIdeal.τ).loc Cert.FoxProjDwIdeal.main_arg1))
      ∧ θ_run (Cert.RefFoxProjDwIdeal.defs (F := Ideal)) (onTc (τ := Cert.RefFoxProjDwIdeal.τ) (Cert.RefFoxProjDwIdeal.main (F := Ideal))) ⟨m', fun _ => 0, g'⟩ (fun r => ∀ c : Dev Cert.RefFoxProjDwIdeal.nD,
          r.2.mem ((c.tc : Thread Cert.RefFoxProjDwIdeal.nD Cert.RefFoxProjDwIdeal.τ).loc Cert.RefFoxProjDwIdeal.main_v8) = v0 c
          ∧ r.2.mem ((c.tc : Thread Cert.RefFoxProjDwIdeal.nD Cert.RefFoxProjDwIdeal.τ).loc Cert.RefFoxProjDwIdeal.main_arg0) = m' ((c.tc : Thread Cert.RefFoxProjDwIdeal.nD Cert.RefFoxProjDwIdeal.τ).loc Cert.RefFoxProjDwIdeal.main_arg0)
          ∧ r.2.mem ((c.tc : Thread Cert.RefFoxProjDwIdeal.nD Cert.RefFoxProjDwIdeal.τ).loc Cert.RefFoxProjDwIdeal.main_arg1) = m' ((c.tc : Thread Cert.RefFoxProjDwIdeal.nD Cert.RefFoxProjDwIdeal.τ).loc Cert.RefFoxProjDwIdeal.main_arg1))

def preserves_FoxOutDx_FoxOutDxIdeal : Prop :=
  True

def algebraic_FoxOutDxIdeal_RefFoxOutDxIdeal [hFoxOutDxIdeal : Cert.FoxOutDxIdeal.Facts] [hRefFoxOutDxIdeal : Cert.RefFoxOutDxIdeal.Facts] : Prop :=
  ∀ (m : (ℓ : Loc Cert.FoxOutDxIdeal.nD Cert.FoxOutDxIdeal.τ Cert.FoxOutDxIdeal.sig) → Buf (Elt Ideal) ℓ) (g : Dev Cert.FoxOutDxIdeal.nD → PrngReg)
    (m' : (ℓ : Loc Cert.RefFoxOutDxIdeal.nD Cert.RefFoxOutDxIdeal.τ Cert.RefFoxOutDxIdeal.sig) → Buf (Elt Ideal) ℓ) (g' : Dev Cert.RefFoxOutDxIdeal.nD → PrngReg), Pre_FoxOutDxIdeal m →
    (∀ c : Dev Cert.FoxOutDxIdeal.nD,
      m' ((c.tc : Thread Cert.RefFoxOutDxIdeal.nD Cert.RefFoxOutDxIdeal.τ).loc Cert.RefFoxOutDxIdeal.main_arg0) = m ((c.tc : Thread Cert.FoxOutDxIdeal.nD Cert.FoxOutDxIdeal.τ).loc Cert.FoxOutDxIdeal.main_arg0)
      ∧ m' ((c.tc : Thread Cert.RefFoxOutDxIdeal.nD Cert.RefFoxOutDxIdeal.τ).loc Cert.RefFoxOutDxIdeal.main_arg1) = m ((c.tc : Thread Cert.FoxOutDxIdeal.nD Cert.FoxOutDxIdeal.τ).loc Cert.FoxOutDxIdeal.main_arg1)) →
    ∃ (v0 : (c : Dev Cert.FoxOutDxIdeal.nD) → Buf (Elt Ideal) ((c.tc : Thread Cert.FoxOutDxIdeal.nD Cert.FoxOutDxIdeal.τ).loc Cert.FoxOutDxIdeal.main_v1)),
      θ_run (Cert.FoxOutDxIdeal.defs (F := Ideal)) (onTc (τ := Cert.FoxOutDxIdeal.τ) (Cert.FoxOutDxIdeal.main (F := Ideal))) ⟨m, fun _ => 0, g⟩ (fun r => ∀ c : Dev Cert.FoxOutDxIdeal.nD,
          r.2.mem ((c.tc : Thread Cert.FoxOutDxIdeal.nD Cert.FoxOutDxIdeal.τ).loc Cert.FoxOutDxIdeal.main_v1) = v0 c
          ∧ r.2.mem ((c.tc : Thread Cert.FoxOutDxIdeal.nD Cert.FoxOutDxIdeal.τ).loc Cert.FoxOutDxIdeal.main_arg0) = m ((c.tc : Thread Cert.FoxOutDxIdeal.nD Cert.FoxOutDxIdeal.τ).loc Cert.FoxOutDxIdeal.main_arg0)
          ∧ r.2.mem ((c.tc : Thread Cert.FoxOutDxIdeal.nD Cert.FoxOutDxIdeal.τ).loc Cert.FoxOutDxIdeal.main_arg1) = m ((c.tc : Thread Cert.FoxOutDxIdeal.nD Cert.FoxOutDxIdeal.τ).loc Cert.FoxOutDxIdeal.main_arg1))
      ∧ θ_run (Cert.RefFoxOutDxIdeal.defs (F := Ideal)) (onTc (τ := Cert.RefFoxOutDxIdeal.τ) (Cert.RefFoxOutDxIdeal.main (F := Ideal))) ⟨m', fun _ => 0, g'⟩ (fun r => ∀ c : Dev Cert.RefFoxOutDxIdeal.nD,
          r.2.mem ((c.tc : Thread Cert.RefFoxOutDxIdeal.nD Cert.RefFoxOutDxIdeal.τ).loc Cert.RefFoxOutDxIdeal.main_v4) = v0 c
          ∧ r.2.mem ((c.tc : Thread Cert.RefFoxOutDxIdeal.nD Cert.RefFoxOutDxIdeal.τ).loc Cert.RefFoxOutDxIdeal.main_arg0) = m' ((c.tc : Thread Cert.RefFoxOutDxIdeal.nD Cert.RefFoxOutDxIdeal.τ).loc Cert.RefFoxOutDxIdeal.main_arg0)
          ∧ r.2.mem ((c.tc : Thread Cert.RefFoxOutDxIdeal.nD Cert.RefFoxOutDxIdeal.τ).loc Cert.RefFoxOutDxIdeal.main_arg1) = m' ((c.tc : Thread Cert.RefFoxOutDxIdeal.nD Cert.RefFoxOutDxIdeal.τ).loc Cert.RefFoxOutDxIdeal.main_arg1))

def preserves_FoxOutDw_FoxOutDwIdeal : Prop :=
  True

def algebraic_FoxOutDwIdeal_RefFoxOutDwIdeal [hFoxOutDwIdeal : Cert.FoxOutDwIdeal.Facts] [hRefFoxOutDwIdeal : Cert.RefFoxOutDwIdeal.Facts] : Prop :=
  ∀ (m : (ℓ : Loc Cert.FoxOutDwIdeal.nD Cert.FoxOutDwIdeal.τ Cert.FoxOutDwIdeal.sig) → Buf (Elt Ideal) ℓ) (g : Dev Cert.FoxOutDwIdeal.nD → PrngReg)
    (m' : (ℓ : Loc Cert.RefFoxOutDwIdeal.nD Cert.RefFoxOutDwIdeal.τ Cert.RefFoxOutDwIdeal.sig) → Buf (Elt Ideal) ℓ) (g' : Dev Cert.RefFoxOutDwIdeal.nD → PrngReg), Pre_FoxOutDwIdeal m →
    (∀ c : Dev Cert.FoxOutDwIdeal.nD,
      m' ((c.tc : Thread Cert.RefFoxOutDwIdeal.nD Cert.RefFoxOutDwIdeal.τ).loc Cert.RefFoxOutDwIdeal.main_arg0) = m ((c.tc : Thread Cert.FoxOutDwIdeal.nD Cert.FoxOutDwIdeal.τ).loc Cert.FoxOutDwIdeal.main_arg0)
      ∧ m' ((c.tc : Thread Cert.RefFoxOutDwIdeal.nD Cert.RefFoxOutDwIdeal.τ).loc Cert.RefFoxOutDwIdeal.main_arg1) = m ((c.tc : Thread Cert.FoxOutDwIdeal.nD Cert.FoxOutDwIdeal.τ).loc Cert.FoxOutDwIdeal.main_arg1)) →
    ∃ (v0 : (c : Dev Cert.FoxOutDwIdeal.nD) → Buf (Elt Ideal) ((c.tc : Thread Cert.FoxOutDwIdeal.nD Cert.FoxOutDwIdeal.τ).loc Cert.FoxOutDwIdeal.main_v0)),
      θ_run (Cert.FoxOutDwIdeal.defs (F := Ideal)) (onTc (τ := Cert.FoxOutDwIdeal.τ) (Cert.FoxOutDwIdeal.main (F := Ideal))) ⟨m, fun _ => 0, g⟩ (fun r => ∀ c : Dev Cert.FoxOutDwIdeal.nD,
          r.2.mem ((c.tc : Thread Cert.FoxOutDwIdeal.nD Cert.FoxOutDwIdeal.τ).loc Cert.FoxOutDwIdeal.main_v0) = v0 c
          ∧ r.2.mem ((c.tc : Thread Cert.FoxOutDwIdeal.nD Cert.FoxOutDwIdeal.τ).loc Cert.FoxOutDwIdeal.main_arg0) = m ((c.tc : Thread Cert.FoxOutDwIdeal.nD Cert.FoxOutDwIdeal.τ).loc Cert.FoxOutDwIdeal.main_arg0)
          ∧ r.2.mem ((c.tc : Thread Cert.FoxOutDwIdeal.nD Cert.FoxOutDwIdeal.τ).loc Cert.FoxOutDwIdeal.main_arg1) = m ((c.tc : Thread Cert.FoxOutDwIdeal.nD Cert.FoxOutDwIdeal.τ).loc Cert.FoxOutDwIdeal.main_arg1))
      ∧ θ_run (Cert.RefFoxOutDwIdeal.defs (F := Ideal)) (onTc (τ := Cert.RefFoxOutDwIdeal.τ) (Cert.RefFoxOutDwIdeal.main (F := Ideal))) ⟨m', fun _ => 0, g'⟩ (fun r => ∀ c : Dev Cert.RefFoxOutDwIdeal.nD,
          r.2.mem ((c.tc : Thread Cert.RefFoxOutDwIdeal.nD Cert.RefFoxOutDwIdeal.τ).loc Cert.RefFoxOutDwIdeal.main_v7) = v0 c
          ∧ r.2.mem ((c.tc : Thread Cert.RefFoxOutDwIdeal.nD Cert.RefFoxOutDwIdeal.τ).loc Cert.RefFoxOutDwIdeal.main_arg0) = m' ((c.tc : Thread Cert.RefFoxOutDwIdeal.nD Cert.RefFoxOutDwIdeal.τ).loc Cert.RefFoxOutDwIdeal.main_arg0)
          ∧ r.2.mem ((c.tc : Thread Cert.RefFoxOutDwIdeal.nD Cert.RefFoxOutDwIdeal.τ).loc Cert.RefFoxOutDwIdeal.main_arg1) = m' ((c.tc : Thread Cert.RefFoxOutDwIdeal.nD Cert.RefFoxOutDwIdeal.τ).loc Cert.RefFoxOutDwIdeal.main_arg1))

def preserves_KvProjDx_KvProjDxIdeal : Prop :=
  True

def algebraic_KvProjDxIdeal_RefKvProjDxIdeal [hKvProjDxIdeal : Cert.KvProjDxIdeal.Facts] [hRefKvProjDxIdeal : Cert.RefKvProjDxIdeal.Facts] : Prop :=
  ∀ (m : (ℓ : Loc Cert.KvProjDxIdeal.nD Cert.KvProjDxIdeal.τ Cert.KvProjDxIdeal.sig) → Buf (Elt Ideal) ℓ) (g : Dev Cert.KvProjDxIdeal.nD → PrngReg)
    (m' : (ℓ : Loc Cert.RefKvProjDxIdeal.nD Cert.RefKvProjDxIdeal.τ Cert.RefKvProjDxIdeal.sig) → Buf (Elt Ideal) ℓ) (g' : Dev Cert.RefKvProjDxIdeal.nD → PrngReg), Pre_KvProjDxIdeal m →
    (∀ c : Dev Cert.KvProjDxIdeal.nD,
      m' ((c.tc : Thread Cert.RefKvProjDxIdeal.nD Cert.RefKvProjDxIdeal.τ).loc Cert.RefKvProjDxIdeal.main_arg0) = m ((c.tc : Thread Cert.KvProjDxIdeal.nD Cert.KvProjDxIdeal.τ).loc Cert.KvProjDxIdeal.main_arg0)
      ∧ m' ((c.tc : Thread Cert.RefKvProjDxIdeal.nD Cert.RefKvProjDxIdeal.τ).loc Cert.RefKvProjDxIdeal.main_arg1) = m ((c.tc : Thread Cert.KvProjDxIdeal.nD Cert.KvProjDxIdeal.τ).loc Cert.KvProjDxIdeal.main_arg1)) →
    ∃ (v0 : (c : Dev Cert.KvProjDxIdeal.nD) → Buf (Elt Ideal) ((c.tc : Thread Cert.KvProjDxIdeal.nD Cert.KvProjDxIdeal.τ).loc Cert.KvProjDxIdeal.main_v1)),
      θ_run (Cert.KvProjDxIdeal.defs (F := Ideal)) (onTc (τ := Cert.KvProjDxIdeal.τ) (Cert.KvProjDxIdeal.main (F := Ideal))) ⟨m, fun _ => 0, g⟩ (fun r => ∀ c : Dev Cert.KvProjDxIdeal.nD,
          r.2.mem ((c.tc : Thread Cert.KvProjDxIdeal.nD Cert.KvProjDxIdeal.τ).loc Cert.KvProjDxIdeal.main_v1) = v0 c
          ∧ r.2.mem ((c.tc : Thread Cert.KvProjDxIdeal.nD Cert.KvProjDxIdeal.τ).loc Cert.KvProjDxIdeal.main_arg0) = m ((c.tc : Thread Cert.KvProjDxIdeal.nD Cert.KvProjDxIdeal.τ).loc Cert.KvProjDxIdeal.main_arg0)
          ∧ r.2.mem ((c.tc : Thread Cert.KvProjDxIdeal.nD Cert.KvProjDxIdeal.τ).loc Cert.KvProjDxIdeal.main_arg1) = m ((c.tc : Thread Cert.KvProjDxIdeal.nD Cert.KvProjDxIdeal.τ).loc Cert.KvProjDxIdeal.main_arg1))
      ∧ θ_run (Cert.RefKvProjDxIdeal.defs (F := Ideal)) (onTc (τ := Cert.RefKvProjDxIdeal.τ) (Cert.RefKvProjDxIdeal.main (F := Ideal))) ⟨m', fun _ => 0, g'⟩ (fun r => ∀ c : Dev Cert.RefKvProjDxIdeal.nD,
          r.2.mem ((c.tc : Thread Cert.RefKvProjDxIdeal.nD Cert.RefKvProjDxIdeal.τ).loc Cert.RefKvProjDxIdeal.main_v6) = v0 c
          ∧ r.2.mem ((c.tc : Thread Cert.RefKvProjDxIdeal.nD Cert.RefKvProjDxIdeal.τ).loc Cert.RefKvProjDxIdeal.main_arg0) = m' ((c.tc : Thread Cert.RefKvProjDxIdeal.nD Cert.RefKvProjDxIdeal.τ).loc Cert.RefKvProjDxIdeal.main_arg0)
          ∧ r.2.mem ((c.tc : Thread Cert.RefKvProjDxIdeal.nD Cert.RefKvProjDxIdeal.τ).loc Cert.RefKvProjDxIdeal.main_arg1) = m' ((c.tc : Thread Cert.RefKvProjDxIdeal.nD Cert.RefKvProjDxIdeal.τ).loc Cert.RefKvProjDxIdeal.main_arg1))

def preserves_KvProjDw_KvProjDwIdeal : Prop :=
  True

def algebraic_KvProjDwIdeal_RefKvProjDwIdeal [hKvProjDwIdeal : Cert.KvProjDwIdeal.Facts] [hRefKvProjDwIdeal : Cert.RefKvProjDwIdeal.Facts] : Prop :=
  ∀ (m : (ℓ : Loc Cert.KvProjDwIdeal.nD Cert.KvProjDwIdeal.τ Cert.KvProjDwIdeal.sig) → Buf (Elt Ideal) ℓ) (g : Dev Cert.KvProjDwIdeal.nD → PrngReg)
    (m' : (ℓ : Loc Cert.RefKvProjDwIdeal.nD Cert.RefKvProjDwIdeal.τ Cert.RefKvProjDwIdeal.sig) → Buf (Elt Ideal) ℓ) (g' : Dev Cert.RefKvProjDwIdeal.nD → PrngReg), Pre_KvProjDwIdeal m →
    (∀ c : Dev Cert.KvProjDwIdeal.nD,
      m' ((c.tc : Thread Cert.RefKvProjDwIdeal.nD Cert.RefKvProjDwIdeal.τ).loc Cert.RefKvProjDwIdeal.main_arg0) = m ((c.tc : Thread Cert.KvProjDwIdeal.nD Cert.KvProjDwIdeal.τ).loc Cert.KvProjDwIdeal.main_arg0)
      ∧ m' ((c.tc : Thread Cert.RefKvProjDwIdeal.nD Cert.RefKvProjDwIdeal.τ).loc Cert.RefKvProjDwIdeal.main_arg1) = m ((c.tc : Thread Cert.KvProjDwIdeal.nD Cert.KvProjDwIdeal.τ).loc Cert.KvProjDwIdeal.main_arg1)) →
    ∃ (v0 : (c : Dev Cert.KvProjDwIdeal.nD) → Buf (Elt Ideal) ((c.tc : Thread Cert.KvProjDwIdeal.nD Cert.KvProjDwIdeal.τ).loc Cert.KvProjDwIdeal.main_v0)),
      θ_run (Cert.KvProjDwIdeal.defs (F := Ideal)) (onTc (τ := Cert.KvProjDwIdeal.τ) (Cert.KvProjDwIdeal.main (F := Ideal))) ⟨m, fun _ => 0, g⟩ (fun r => ∀ c : Dev Cert.KvProjDwIdeal.nD,
          r.2.mem ((c.tc : Thread Cert.KvProjDwIdeal.nD Cert.KvProjDwIdeal.τ).loc Cert.KvProjDwIdeal.main_v0) = v0 c
          ∧ r.2.mem ((c.tc : Thread Cert.KvProjDwIdeal.nD Cert.KvProjDwIdeal.τ).loc Cert.KvProjDwIdeal.main_arg0) = m ((c.tc : Thread Cert.KvProjDwIdeal.nD Cert.KvProjDwIdeal.τ).loc Cert.KvProjDwIdeal.main_arg0)
          ∧ r.2.mem ((c.tc : Thread Cert.KvProjDwIdeal.nD Cert.KvProjDwIdeal.τ).loc Cert.KvProjDwIdeal.main_arg1) = m ((c.tc : Thread Cert.KvProjDwIdeal.nD Cert.KvProjDwIdeal.τ).loc Cert.KvProjDwIdeal.main_arg1))
      ∧ θ_run (Cert.RefKvProjDwIdeal.defs (F := Ideal)) (onTc (τ := Cert.RefKvProjDwIdeal.τ) (Cert.RefKvProjDwIdeal.main (F := Ideal))) ⟨m', fun _ => 0, g'⟩ (fun r => ∀ c : Dev Cert.RefKvProjDwIdeal.nD,
          r.2.mem ((c.tc : Thread Cert.RefKvProjDwIdeal.nD Cert.RefKvProjDwIdeal.τ).loc Cert.RefKvProjDwIdeal.main_v8) = v0 c
          ∧ r.2.mem ((c.tc : Thread Cert.RefKvProjDwIdeal.nD Cert.RefKvProjDwIdeal.τ).loc Cert.RefKvProjDwIdeal.main_arg0) = m' ((c.tc : Thread Cert.RefKvProjDwIdeal.nD Cert.RefKvProjDwIdeal.τ).loc Cert.RefKvProjDwIdeal.main_arg0)
          ∧ r.2.mem ((c.tc : Thread Cert.RefKvProjDwIdeal.nD Cert.RefKvProjDwIdeal.τ).loc Cert.RefKvProjDwIdeal.main_arg1) = m' ((c.tc : Thread Cert.RefKvProjDwIdeal.nD Cert.RefKvProjDwIdeal.τ).loc Cert.RefKvProjDwIdeal.main_arg1))

def preserves_RetProj_RetProjIdeal : Prop :=
  True

def algebraic_RetProjIdeal_RefRetProjIdeal [hRetProjIdeal : Cert.RetProjIdeal.Facts] [hRefRetProjIdeal : Cert.RefRetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RefRetProjIdeal.nD Cert.RefRetProjIdeal.τ Cert.RefRetProjIdeal.sig) → Buf (Elt Ideal) ℓ) (g' : Dev Cert.RefRetProjIdeal.nD → PrngReg), Pre_RetProjIdeal m →
    (∀ c : Dev Cert.RetProjIdeal.nD,
      m' ((c.tc : Thread Cert.RefRetProjIdeal.nD Cert.RefRetProjIdeal.τ).loc Cert.RefRetProjIdeal.main_arg0) = m ((c.tc : Thread Cert.RetProjIdeal.nD Cert.RetProjIdeal.τ).loc Cert.RetProjIdeal.main_arg0)
      ∧ m' ((c.tc : Thread Cert.RefRetProjIdeal.nD Cert.RefRetProjIdeal.τ).loc Cert.RefRetProjIdeal.main_arg1) = m ((c.tc : Thread Cert.RetProjIdeal.nD Cert.RetProjIdeal.τ).loc Cert.RetProjIdeal.main_arg1)) →
    ∃ (v0 : (c : Dev Cert.RetProjIdeal.nD) → Buf (Elt Ideal) ((c.tc : Thread Cert.RetProjIdeal.nD Cert.RetProjIdeal.τ).loc Cert.RetProjIdeal.main_v1)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v1) = v0 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1))
      ∧ θ_run (Cert.RefRetProjIdeal.defs (F := Ideal)) (onTc (τ := Cert.RefRetProjIdeal.τ) (Cert.RefRetProjIdeal.main (F := Ideal))) ⟨m', fun _ => 0, g'⟩ (fun r => ∀ c : Dev Cert.RefRetProjIdeal.nD,
          r.2.mem ((c.tc : Thread Cert.RefRetProjIdeal.nD Cert.RefRetProjIdeal.τ).loc Cert.RefRetProjIdeal.main_v3) = v0 c
          ∧ r.2.mem ((c.tc : Thread Cert.RefRetProjIdeal.nD Cert.RefRetProjIdeal.τ).loc Cert.RefRetProjIdeal.main_arg0) = m' ((c.tc : Thread Cert.RefRetProjIdeal.nD Cert.RefRetProjIdeal.τ).loc Cert.RefRetProjIdeal.main_arg0)
          ∧ r.2.mem ((c.tc : Thread Cert.RefRetProjIdeal.nD Cert.RefRetProjIdeal.τ).loc Cert.RefRetProjIdeal.main_arg1) = m' ((c.tc : Thread Cert.RefRetProjIdeal.nD Cert.RefRetProjIdeal.τ).loc Cert.RefRetProjIdeal.main_arg1))

def preserves_FoxProj_FoxProjIdeal : Prop :=
  True

def algebraic_FoxProjIdeal_RefFoxProjIdeal [hFoxProjIdeal : Cert.FoxProjIdeal.Facts] [hRefFoxProjIdeal : Cert.RefFoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg)
    (m' : (ℓ : Loc Cert.RefFoxProjIdeal.nD Cert.RefFoxProjIdeal.τ Cert.RefFoxProjIdeal.sig) → Buf (Elt Ideal) ℓ) (g' : Dev Cert.RefFoxProjIdeal.nD → PrngReg), Pre_FoxProjIdeal m →
    (∀ c : Dev Cert.FoxProjIdeal.nD,
      m' ((c.tc : Thread Cert.RefFoxProjIdeal.nD Cert.RefFoxProjIdeal.τ).loc Cert.RefFoxProjIdeal.main_arg0) = m ((c.tc : Thread Cert.FoxProjIdeal.nD Cert.FoxProjIdeal.τ).loc Cert.FoxProjIdeal.main_arg0)
      ∧ m' ((c.tc : Thread Cert.RefFoxProjIdeal.nD Cert.RefFoxProjIdeal.τ).loc Cert.RefFoxProjIdeal.main_arg1) = m ((c.tc : Thread Cert.FoxProjIdeal.nD Cert.FoxProjIdeal.τ).loc Cert.FoxProjIdeal.main_arg1)) →
    ∃ (v0 : (c : Dev Cert.FoxProjIdeal.nD) → Buf (Elt Ideal) ((c.tc : Thread Cert.FoxProjIdeal.nD Cert.FoxProjIdeal.τ).loc Cert.FoxProjIdeal.main_v1)),
      θ_run (Cert.FoxProjIdeal.defs (F := Ideal)) (onTc (τ := Cert.FoxProjIdeal.τ) (Cert.FoxProjIdeal.main (F := Ideal))) ⟨m, fun _ => 0, g⟩ (fun r => ∀ c : Dev Cert.FoxProjIdeal.nD,
          r.2.mem ((c.tc : Thread Cert.FoxProjIdeal.nD Cert.FoxProjIdeal.τ).loc Cert.FoxProjIdeal.main_v1) = v0 c
          ∧ r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
          ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1))
      ∧ θ_run (Cert.RefFoxProjIdeal.defs (F := Ideal)) (onTc (τ := Cert.RefFoxProjIdeal.τ) (Cert.RefFoxProjIdeal.main (F := Ideal))) ⟨m', fun _ => 0, g'⟩ (fun r => ∀ c : Dev Cert.RefFoxProjIdeal.nD,
          r.2.mem ((c.tc : Thread Cert.RefFoxProjIdeal.nD Cert.RefFoxProjIdeal.τ).loc Cert.RefFoxProjIdeal.main_v2) = v0 c
          ∧ r.2.mem ((c.tc : Thread Cert.RefFoxProjIdeal.nD Cert.RefFoxProjIdeal.τ).loc Cert.RefFoxProjIdeal.main_arg0) = m' ((c.tc : Thread Cert.RefFoxProjIdeal.nD Cert.RefFoxProjIdeal.τ).loc Cert.RefFoxProjIdeal.main_arg0)
          ∧ r.2.mem ((c.tc : Thread Cert.RefFoxProjIdeal.nD Cert.RefFoxProjIdeal.τ).loc Cert.RefFoxProjIdeal.main_arg1) = m' ((c.tc : Thread Cert.RefFoxProjIdeal.nD Cert.RefFoxProjIdeal.τ).loc Cert.RefFoxProjIdeal.main_arg1))

def preserves_KvProj_KvProjIdeal : Prop :=
  True

def algebraic_KvProjIdeal_RefKvProjIdeal [hKvProjIdeal : Cert.KvProjIdeal.Facts] [hRefKvProjIdeal : Cert.RefKvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.RefKvProjIdeal.nD Cert.RefKvProjIdeal.τ Cert.RefKvProjIdeal.sig) → Buf (Elt Ideal) ℓ) (g' : Dev Cert.RefKvProjIdeal.nD → PrngReg), Pre_KvProjIdeal m →
    (∀ c : Dev Cert.KvProjIdeal.nD,
      m' ((c.tc : Thread Cert.RefKvProjIdeal.nD Cert.RefKvProjIdeal.τ).loc Cert.RefKvProjIdeal.main_arg0) = m ((c.tc : Thread Cert.KvProjIdeal.nD Cert.KvProjIdeal.τ).loc Cert.KvProjIdeal.main_arg0)
      ∧ m' ((c.tc : Thread Cert.RefKvProjIdeal.nD Cert.RefKvProjIdeal.τ).loc Cert.RefKvProjIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v1)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v1) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.RefKvProjIdeal.defs (F := Ideal)) (onTc (τ := Cert.RefKvProjIdeal.τ) (Cert.RefKvProjIdeal.main (F := Ideal))) ⟨m', fun _ => 0, g'⟩ (fun r => ∀ c : Dev Cert.RefKvProjIdeal.nD,
          r.2.mem ((c.tc : Thread Cert.RefKvProjIdeal.nD Cert.RefKvProjIdeal.τ).loc Cert.RefKvProjIdeal.main_v3) = v0 c
          ∧ r.2.mem ((c.tc : Thread Cert.RefKvProjIdeal.nD Cert.RefKvProjIdeal.τ).loc Cert.RefKvProjIdeal.main_arg0) = m' ((c.tc : Thread Cert.RefKvProjIdeal.nD Cert.RefKvProjIdeal.τ).loc Cert.RefKvProjIdeal.main_arg0)
          ∧ r.2.mem ((c.tc : Thread Cert.RefKvProjIdeal.nD Cert.RefKvProjIdeal.τ).loc Cert.RefKvProjIdeal.main_arg1) = m' ((c.tc : Thread Cert.RefKvProjIdeal.nD Cert.RefKvProjIdeal.τ).loc Cert.RefKvProjIdeal.main_arg1))

def preserves_RetFwd_RetFwdIdeal : Prop :=
  IdealRules.named_const.Statement Cert.RetFwdIdeal.κ "lg2" .f32 0xBC0080AC#32 ((Real.log (127 / 128) : ℝ) : EReal)
  ∧ IdealRules.named_const.Statement Cert.RetFwdIdeal.κ "lg3" .f32 0xBB80402B#32 ((Real.log (255 / 256) : ℝ) : EReal)
  ∧ IdealRules.named_const.Statement Cert.RetFwdIdeal.κ "lg1" .f32 0xBC8102B3#32 ((Real.log (63 / 64) : ℝ) : EReal)
  ∧ IdealRules.named_const.Statement Cert.RetFwdIdeal.κ "lg0" .f32 0xBD020AEC#32 ((Real.log (31 / 32) : ℝ) : EReal)

def algebraic_RetFwdIdeal_RefRetFwdIdeal_pre_finite_ret_fwd [hRetFwdIdeal : Cert.RetFwdIdeal.Facts] [hRefRetFwdIdeal : Cert.RefRetFwdIdeal.Facts] [hPre_finite_ret_fwd : Cert.Pre_finite_ret_fwd.Facts] : Prop :=
  ∀ (m : (ℓ : Loc Cert.RetFwdIdeal.nD Cert.RetFwdIdeal.τ Cert.RetFwdIdeal.sig) → Buf (Elt Ideal) ℓ) (g : Dev Cert.RetFwdIdeal.nD → PrngReg)
    (m' : (ℓ : Loc Cert.RefRetFwdIdeal.nD Cert.RefRetFwdIdeal.τ Cert.RefRetFwdIdeal.sig) → Buf (Elt Ideal) ℓ) (g' : Dev Cert.RefRetFwdIdeal.nD → PrngReg), Pre_RetFwdIdeal_finite_ret_fwd m →
    (∀ c : Dev Cert.RetFwdIdeal.nD,
      m' ((c.tc : Thread Cert.RefRetFwdIdeal.nD Cert.RefRetFwdIdeal.τ).loc Cert.RefRetFwdIdeal.main_arg0) = m ((c.tc : Thread Cert.RetFwdIdeal.nD Cert.RetFwdIdeal.τ).loc Cert.RetFwdIdeal.main_arg0)
      ∧ m' ((c.tc : Thread Cert.RefRetFwdIdeal.nD Cert.RefRetFwdIdeal.τ).loc Cert.RefRetFwdIdeal.main_arg1) = m ((c.tc : Thread Cert.RetFwdIdeal.nD Cert.RetFwdIdeal.τ).loc Cert.RetFwdIdeal.main_arg1)
      ∧ m' ((c.tc : Thread Cert.RefRetFwdIdeal.nD Cert.RefRetFwdIdeal.τ).loc Cert.RefRetFwdIdeal.main_arg2) = m ((c.tc : Thread Cert.RetFwdIdeal.nD Cert.RetFwdIdeal.τ).loc Cert.RetFwdIdeal.main_arg2)) →
    ∃ (v0 : (c : Dev Cert.RetFwdIdeal.nD) → Buf (Elt Ideal) ((c.tc : Thread Cert.RetFwdIdeal.nD Cert.RetFwdIdeal.τ).loc Cert.RetFwdIdeal.main_v0)),
      θ_run (Cert.RetFwdIdeal.defs (F := Ideal)) (onTc (τ := Cert.RetFwdIdeal.τ) (Cert.RetFwdIdeal.main (F := Ideal))) ⟨m, fun _ => 0, g⟩ (fun r => ∀ c : Dev Cert.RetFwdIdeal.nD,
          r.2.mem ((c.tc : Thread Cert.RetFwdIdeal.nD Cert.RetFwdIdeal.τ).loc Cert.RetFwdIdeal.main_v0) = v0 c
          ∧ r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
          ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1)
          ∧ r.2.mem ((c.tc : Thread Cert.RetFwdIdeal.nD Cert.RetFwdIdeal.τ).loc Cert.RetFwdIdeal.main_arg2) = m ((c.tc : Thread Cert.RetFwdIdeal.nD Cert.RetFwdIdeal.τ).loc Cert.RetFwdIdeal.main_arg2))
      ∧ θ_run (Cert.RefRetFwdIdeal.defs (F := Ideal)) (onTc (τ := Cert.RefRetFwdIdeal.τ) (Cert.RefRetFwdIdeal.main (F := Ideal))) ⟨m', fun _ => 0, g'⟩ (fun r => ∀ c : Dev Cert.RefRetFwdIdeal.nD,
          r.2.mem ((c.tc : Thread Cert.RefRetFwdIdeal.nD Cert.RefRetFwdIdeal.τ).loc Cert.RefRetFwdIdeal.main_v40) = v0 c
          ∧ r.2.mem ((c.tc : Thread Cert.RefRetFwdIdeal.nD Cert.RefRetFwdIdeal.τ).loc Cert.RefRetFwdIdeal.main_arg0) = m' ((c.tc : Thread Cert.RefRetFwdIdeal.nD Cert.RefRetFwdIdeal.τ).loc Cert.RefRetFwdIdeal.main_arg0)
          ∧ r.2.mem ((c.tc : Thread Cert.RefRetFwdIdeal.nD Cert.RefRetFwdIdeal.τ).loc Cert.RefRetFwdIdeal.main_arg1) = m' ((c.tc : Thread Cert.RefRetFwdIdeal.nD Cert.RefRetFwdIdeal.τ).loc Cert.RefRetFwdIdeal.main_arg1)
          ∧ r.2.mem ((c.tc : Thread Cert.RefRetFwdIdeal.nD Cert.RefRetFwdIdeal.τ).loc Cert.RefRetFwdIdeal.main_arg2) = m' ((c.tc : Thread Cert.RefRetFwdIdeal.nD Cert.RefRetFwdIdeal.τ).loc Cert.RefRetFwdIdeal.main_arg2))

def preserves_FoxFwd_FoxFwdIdeal : Prop :=
  True

def algebraic_FoxFwdIdeal_RefFoxFwdIdeal_pre_finite_fox_fwd [hFoxFwdIdeal : Cert.FoxFwdIdeal.Facts] [hRefFoxFwdIdeal : Cert.RefFoxFwdIdeal.Facts] [hPre_finite_fox_fwd : Cert.Pre_finite_fox_fwd.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.RefFoxFwdIdeal.nD Cert.RefFoxFwdIdeal.τ Cert.RefFoxFwdIdeal.sig) → Buf (Elt Ideal) ℓ) (g' : Dev Cert.RefFoxFwdIdeal.nD → PrngReg), Pre_FoxFwdIdeal_finite_fox_fwd m →
    (∀ c : Dev Cert.FoxFwdIdeal.nD,
      m' ((c.tc : Thread Cert.RefFoxFwdIdeal.nD Cert.RefFoxFwdIdeal.τ).loc Cert.RefFoxFwdIdeal.main_arg0) = m ((c.tc : Thread Cert.FoxFwdIdeal.nD Cert.FoxFwdIdeal.τ).loc Cert.FoxFwdIdeal.main_arg0)
      ∧ m' ((c.tc : Thread Cert.RefFoxFwdIdeal.nD Cert.RefFoxFwdIdeal.τ).loc Cert.RefFoxFwdIdeal.main_arg1) = m ((c.tc : Thread Cert.FoxFwdIdeal.nD Cert.FoxFwdIdeal.τ).loc Cert.FoxFwdIdeal.main_arg1)
      ∧ m' ((c.tc : Thread Cert.RefFoxFwdIdeal.nD Cert.RefFoxFwdIdeal.τ).loc Cert.RefFoxFwdIdeal.main_arg2) = m ((c.tc : Thread Cert.FoxFwdIdeal.nD Cert.FoxFwdIdeal.τ).loc Cert.FoxFwdIdeal.main_arg2)
      ∧ m' ((c.tc : Thread Cert.RefFoxFwdIdeal.nD Cert.RefFoxFwdIdeal.τ).loc Cert.RefFoxFwdIdeal.main_arg3) = m ((c.tc : Thread Cert.FoxFwdIdeal.nD Cert.FoxFwdIdeal.τ).loc Cert.FoxFwdIdeal.main_arg3)) →
    ∃ (v0 : (c : Dev Cert.FoxFwdIdeal.nD) → Buf (Elt Ideal) ((c.tc : Thread Cert.FoxFwdIdeal.nD Cert.FoxFwdIdeal.τ).loc Cert.FoxFwdIdeal.main_v0_0)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v0_0) = v0 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
          ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
          ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ θ_run (Cert.RefFoxFwdIdeal.defs (F := Ideal)) (onTc (τ := Cert.RefFoxFwdIdeal.τ) (Cert.RefFoxFwdIdeal.main (F := Ideal))) ⟨m', fun _ => 0, g'⟩ (fun r => ∀ c : Dev Cert.RefFoxFwdIdeal.nD,
          r.2.mem ((c.tc : Thread Cert.RefFoxFwdIdeal.nD Cert.RefFoxFwdIdeal.τ).loc Cert.RefFoxFwdIdeal.main_v39) = v0 c
          ∧ r.2.mem ((c.tc : Thread Cert.RefFoxFwdIdeal.nD Cert.RefFoxFwdIdeal.τ).loc Cert.RefFoxFwdIdeal.main_arg0) = m' ((c.tc : Thread Cert.RefFoxFwdIdeal.nD Cert.RefFoxFwdIdeal.τ).loc Cert.RefFoxFwdIdeal.main_arg0)
          ∧ r.2.mem ((c.tc : Thread Cert.RefFoxFwdIdeal.nD Cert.RefFoxFwdIdeal.τ).loc Cert.RefFoxFwdIdeal.main_arg1) = m' ((c.tc : Thread Cert.RefFoxFwdIdeal.nD Cert.RefFoxFwdIdeal.τ).loc Cert.RefFoxFwdIdeal.main_arg1)
          ∧ r.2.mem ((c.tc : Thread Cert.RefFoxFwdIdeal.nD Cert.RefFoxFwdIdeal.τ).loc Cert.RefFoxFwdIdeal.main_arg2) = m' ((c.tc : Thread Cert.RefFoxFwdIdeal.nD Cert.RefFoxFwdIdeal.τ).loc Cert.RefFoxFwdIdeal.main_arg2)
          ∧ r.2.mem ((c.tc : Thread Cert.RefFoxFwdIdeal.nD Cert.RefFoxFwdIdeal.τ).loc Cert.RefFoxFwdIdeal.main_arg3) = m' ((c.tc : Thread Cert.RefFoxFwdIdeal.nD Cert.RefFoxFwdIdeal.τ).loc Cert.RefFoxFwdIdeal.main_arg3))

def preserves_RetMix_RetMixIdeal : Prop :=
  True

def algebraic_RetMixIdeal_RefRetMixIdeal [hRetMixIdeal : Cert.RetMixIdeal.Facts] [hRefRetMixIdeal : Cert.RefRetMixIdeal.Facts] : Prop :=
  ∀ (m : (ℓ : Loc Cert.RetMixIdeal.nD Cert.RetMixIdeal.τ Cert.RetMixIdeal.sig) → Buf (Elt Ideal) ℓ) (g : Dev Cert.RetMixIdeal.nD → PrngReg)
    (m' : (ℓ : Loc Cert.RefRetMixIdeal.nD Cert.RefRetMixIdeal.τ Cert.RefRetMixIdeal.sig) → Buf (Elt Ideal) ℓ) (g' : Dev Cert.RefRetMixIdeal.nD → PrngReg), Pre_RetMixIdeal m →
    (∀ c : Dev Cert.RetMixIdeal.nD,
      m' ((c.tc : Thread Cert.RefRetMixIdeal.nD Cert.RefRetMixIdeal.τ).loc Cert.RefRetMixIdeal.main_arg0) = m ((c.tc : Thread Cert.RetMixIdeal.nD Cert.RetMixIdeal.τ).loc Cert.RetMixIdeal.main_arg0)
      ∧ m' ((c.tc : Thread Cert.RefRetMixIdeal.nD Cert.RefRetMixIdeal.τ).loc Cert.RefRetMixIdeal.main_arg1) = m ((c.tc : Thread Cert.RetMixIdeal.nD Cert.RetMixIdeal.τ).loc Cert.RetMixIdeal.main_arg1)
      ∧ m' ((c.tc : Thread Cert.RefRetMixIdeal.nD Cert.RefRetMixIdeal.τ).loc Cert.RefRetMixIdeal.main_arg2) = m ((c.tc : Thread Cert.RetMixIdeal.nD Cert.RetMixIdeal.τ).loc Cert.RetMixIdeal.main_arg2)
      ∧ m' ((c.tc : Thread Cert.RefRetMixIdeal.nD Cert.RefRetMixIdeal.τ).loc Cert.RefRetMixIdeal.main_arg3) = m ((c.tc : Thread Cert.RetMixIdeal.nD Cert.RetMixIdeal.τ).loc Cert.RetMixIdeal.main_arg3)
      ∧ m' ((c.tc : Thread Cert.RefRetMixIdeal.nD Cert.RefRetMixIdeal.τ).loc Cert.RefRetMixIdeal.main_arg4) = m ((c.tc : Thread Cert.RetMixIdeal.nD Cert.RetMixIdeal.τ).loc Cert.RetMixIdeal.main_arg4)
      ∧ m' ((c.tc : Thread Cert.RefRetMixIdeal.nD Cert.RefRetMixIdeal.τ).loc Cert.RefRetMixIdeal.main_arg5) = m ((c.tc : Thread Cert.RetMixIdeal.nD Cert.RetMixIdeal.τ).loc Cert.RetMixIdeal.main_arg5)) →
    ∃ (v0 : (c : Dev Cert.RetMixIdeal.nD) → Buf (Elt Ideal) ((c.tc : Thread Cert.RetMixIdeal.nD Cert.RetMixIdeal.τ).loc Cert.RetMixIdeal.main_v1_0)) (v1 : (c : Dev Cert.RetMixIdeal.nD) → Buf (Elt Ideal) ((c.tc : Thread Cert.RetMixIdeal.nD Cert.RetMixIdeal.τ).loc Cert.RetMixIdeal.main_v1_1)) (v2 : (c : Dev Cert.RetMixIdeal.nD) → Buf (Elt Ideal) ((c.tc : Thread Cert.RetMixIdeal.nD Cert.RetMixIdeal.τ).loc Cert.RetMixIdeal.main_v1_2)),
      θ_run (Cert.RetMixIdeal.defs (F := Ideal)) (onTc (τ := Cert.RetMixIdeal.τ) (Cert.RetMixIdeal.main (F := Ideal))) ⟨m, fun _ => 0, g⟩ (fun r => ∀ c : Dev Cert.RetMixIdeal.nD,
          r.2.mem ((c.tc : Thread Cert.RetMixIdeal.nD Cert.RetMixIdeal.τ).loc Cert.RetMixIdeal.main_v1_0) = v0 c
          ∧ r.2.mem ((c.tc : Thread Cert.RetMixIdeal.nD Cert.RetMixIdeal.τ).loc Cert.RetMixIdeal.main_v1_1) = v1 c
          ∧ r.2.mem ((c.tc : Thread Cert.RetMixIdeal.nD Cert.RetMixIdeal.τ).loc Cert.RetMixIdeal.main_v1_2) = v2 c
          ∧ r.2.mem ((c.tc : Thread Cert.RetMixIdeal.nD Cert.RetMixIdeal.τ).loc Cert.RetMixIdeal.main_arg0) = m ((c.tc : Thread Cert.RetMixIdeal.nD Cert.RetMixIdeal.τ).loc Cert.RetMixIdeal.main_arg0)
          ∧ r.2.mem ((c.tc : Thread Cert.RetMixIdeal.nD Cert.RetMixIdeal.τ).loc Cert.RetMixIdeal.main_arg1) = m ((c.tc : Thread Cert.RetMixIdeal.nD Cert.RetMixIdeal.τ).loc Cert.RetMixIdeal.main_arg1)
          ∧ r.2.mem ((c.tc : Thread Cert.RetMixIdeal.nD Cert.RetMixIdeal.τ).loc Cert.RetMixIdeal.main_arg2) = m ((c.tc : Thread Cert.RetMixIdeal.nD Cert.RetMixIdeal.τ).loc Cert.RetMixIdeal.main_arg2)
          ∧ r.2.mem ((c.tc : Thread Cert.RetMixIdeal.nD Cert.RetMixIdeal.τ).loc Cert.RetMixIdeal.main_arg3) = m ((c.tc : Thread Cert.RetMixIdeal.nD Cert.RetMixIdeal.τ).loc Cert.RetMixIdeal.main_arg3)
          ∧ r.2.mem ((c.tc : Thread Cert.RetMixIdeal.nD Cert.RetMixIdeal.τ).loc Cert.RetMixIdeal.main_arg4) = m ((c.tc : Thread Cert.RetMixIdeal.nD Cert.RetMixIdeal.τ).loc Cert.RetMixIdeal.main_arg4)
          ∧ r.2.mem ((c.tc : Thread Cert.RetMixIdeal.nD Cert.RetMixIdeal.τ).loc Cert.RetMixIdeal.main_arg5) = m ((c.tc : Thread Cert.RetMixIdeal.nD Cert.RetMixIdeal.τ).loc Cert.RetMixIdeal.main_arg5))
      ∧ θ_run (Cert.RefRetMixIdeal.defs (F := Ideal)) (onTc (τ := Cert.RefRetMixIdeal.τ) (Cert.RefRetMixIdeal.main (F := Ideal))) ⟨m', fun _ => 0, g'⟩ (fun r => ∀ c : Dev Cert.RefRetMixIdeal.nD,
          r.2.mem ((c.tc : Thread Cert.RefRetMixIdeal.nD Cert.RefRetMixIdeal.τ).loc Cert.RefRetMixIdeal.main_v11) = v0 c
          ∧ r.2.mem ((c.tc : Thread Cert.RefRetMixIdeal.nD Cert.RefRetMixIdeal.τ).loc Cert.RefRetMixIdeal.main_v15) = v1 c
          ∧ r.2.mem ((c.tc : Thread Cert.RefRetMixIdeal.nD Cert.RefRetMixIdeal.τ).loc Cert.RefRetMixIdeal.main_v39) = v2 c
          ∧ r.2.mem ((c.tc : Thread Cert.RefRetMixIdeal.nD Cert.RefRetMixIdeal.τ).loc Cert.RefRetMixIdeal.main_arg0) = m' ((c.tc : Thread Cert.RefRetMixIdeal.nD Cert.RefRetMixIdeal.τ).loc Cert.RefRetMixIdeal.main_arg0)
          ∧ r.2.mem ((c.tc : Thread Cert.RefRetMixIdeal.nD Cert.RefRetMixIdeal.τ).loc Cert.RefRetMixIdeal.main_arg1) = m' ((c.tc : Thread Cert.RefRetMixIdeal.nD Cert.RefRetMixIdeal.τ).loc Cert.RefRetMixIdeal.main_arg1)
          ∧ r.2.mem ((c.tc : Thread Cert.RefRetMixIdeal.nD Cert.RefRetMixIdeal.τ).loc Cert.RefRetMixIdeal.main_arg2) = m' ((c.tc : Thread Cert.RefRetMixIdeal.nD Cert.RefRetMixIdeal.τ).loc Cert.RefRetMixIdeal.main_arg2)
          ∧ r.2.mem ((c.tc : Thread Cert.RefRetMixIdeal.nD Cert.RefRetMixIdeal.τ).loc Cert.RefRetMixIdeal.main_arg3) = m' ((c.tc : Thread Cert.RefRetMixIdeal.nD Cert.RefRetMixIdeal.τ).loc Cert.RefRetMixIdeal.main_arg3)
          ∧ r.2.mem ((c.tc : Thread Cert.RefRetMixIdeal.nD Cert.RefRetMixIdeal.τ).loc Cert.RefRetMixIdeal.main_arg4) = m' ((c.tc : Thread Cert.RefRetMixIdeal.nD Cert.RefRetMixIdeal.τ).loc Cert.RefRetMixIdeal.main_arg4)
          ∧ r.2.mem ((c.tc : Thread Cert.RefRetMixIdeal.nD Cert.RefRetMixIdeal.τ).loc Cert.RefRetMixIdeal.main_arg5) = m' ((c.tc : Thread Cert.RefRetMixIdeal.nD Cert.RefRetMixIdeal.τ).loc Cert.RefRetMixIdeal.main_arg5))

def preserves_FoxMix_FoxMixIdeal : Prop :=
  True

def algebraic_FoxMixIdeal_RefFoxMixIdeal [hFoxMixIdeal : Cert.FoxMixIdeal.Facts] [hRefFoxMixIdeal : Cert.RefFoxMixIdeal.Facts] : Prop :=
  ∀ (m : (ℓ : Loc Cert.FoxMixIdeal.nD Cert.FoxMixIdeal.τ Cert.FoxMixIdeal.sig) → Buf (Elt Ideal) ℓ) (g : Dev Cert.FoxMixIdeal.nD → PrngReg)
    (m' : (ℓ : Loc Cert.RefFoxMixIdeal.nD Cert.RefFoxMixIdeal.τ Cert.RefFoxMixIdeal.sig) → Buf (Elt Ideal) ℓ) (g' : Dev Cert.RefFoxMixIdeal.nD → PrngReg), Pre_FoxMixIdeal m →
    (∀ c : Dev Cert.FoxMixIdeal.nD,
      m' ((c.tc : Thread Cert.RefFoxMixIdeal.nD Cert.RefFoxMixIdeal.τ).loc Cert.RefFoxMixIdeal.main_arg0) = m ((c.tc : Thread Cert.FoxMixIdeal.nD Cert.FoxMixIdeal.τ).loc Cert.FoxMixIdeal.main_arg0)
      ∧ m' ((c.tc : Thread Cert.RefFoxMixIdeal.nD Cert.RefFoxMixIdeal.τ).loc Cert.RefFoxMixIdeal.main_arg1) = m ((c.tc : Thread Cert.FoxMixIdeal.nD Cert.FoxMixIdeal.τ).loc Cert.FoxMixIdeal.main_arg1)
      ∧ m' ((c.tc : Thread Cert.RefFoxMixIdeal.nD Cert.RefFoxMixIdeal.τ).loc Cert.RefFoxMixIdeal.main_arg2) = m ((c.tc : Thread Cert.FoxMixIdeal.nD Cert.FoxMixIdeal.τ).loc Cert.FoxMixIdeal.main_arg2)
      ∧ m' ((c.tc : Thread Cert.RefFoxMixIdeal.nD Cert.RefFoxMixIdeal.τ).loc Cert.RefFoxMixIdeal.main_arg3) = m ((c.tc : Thread Cert.FoxMixIdeal.nD Cert.FoxMixIdeal.τ).loc Cert.FoxMixIdeal.main_arg3)
      ∧ m' ((c.tc : Thread Cert.RefFoxMixIdeal.nD Cert.RefFoxMixIdeal.τ).loc Cert.RefFoxMixIdeal.main_arg4) = m ((c.tc : Thread Cert.FoxMixIdeal.nD Cert.FoxMixIdeal.τ).loc Cert.FoxMixIdeal.main_arg4)
      ∧ m' ((c.tc : Thread Cert.RefFoxMixIdeal.nD Cert.RefFoxMixIdeal.τ).loc Cert.RefFoxMixIdeal.main_arg5) = m ((c.tc : Thread Cert.FoxMixIdeal.nD Cert.FoxMixIdeal.τ).loc Cert.FoxMixIdeal.main_arg5)) →
    ∃ (v0 : (c : Dev Cert.FoxMixIdeal.nD) → Buf (Elt Ideal) ((c.tc : Thread Cert.FoxMixIdeal.nD Cert.FoxMixIdeal.τ).loc Cert.FoxMixIdeal.main_v1_0)) (v1 : (c : Dev Cert.FoxMixIdeal.nD) → Buf (Elt Ideal) ((c.tc : Thread Cert.FoxMixIdeal.nD Cert.FoxMixIdeal.τ).loc Cert.FoxMixIdeal.main_v1_1)) (v2 : (c : Dev Cert.FoxMixIdeal.nD) → Buf (Elt Ideal) ((c.tc : Thread Cert.FoxMixIdeal.nD Cert.FoxMixIdeal.τ).loc Cert.FoxMixIdeal.main_v1_2)),
      θ_run (Cert.FoxMixIdeal.defs (F := Ideal)) (onTc (τ := Cert.FoxMixIdeal.τ) (Cert.FoxMixIdeal.main (F := Ideal))) ⟨m, fun _ => 0, g⟩ (fun r => ∀ c : Dev Cert.FoxMixIdeal.nD,
          r.2.mem ((c.tc : Thread Cert.FoxMixIdeal.nD Cert.FoxMixIdeal.τ).loc Cert.FoxMixIdeal.main_v1_0) = v0 c
          ∧ r.2.mem ((c.tc : Thread Cert.FoxMixIdeal.nD Cert.FoxMixIdeal.τ).loc Cert.FoxMixIdeal.main_v1_1) = v1 c
          ∧ r.2.mem ((c.tc : Thread Cert.FoxMixIdeal.nD Cert.FoxMixIdeal.τ).loc Cert.FoxMixIdeal.main_v1_2) = v2 c
          ∧ r.2.mem ((c.tc : Thread Cert.FoxMixIdeal.nD Cert.FoxMixIdeal.τ).loc Cert.FoxMixIdeal.main_arg0) = m ((c.tc : Thread Cert.FoxMixIdeal.nD Cert.FoxMixIdeal.τ).loc Cert.FoxMixIdeal.main_arg0)
          ∧ r.2.mem ((c.tc : Thread Cert.FoxMixIdeal.nD Cert.FoxMixIdeal.τ).loc Cert.FoxMixIdeal.main_arg1) = m ((c.tc : Thread Cert.FoxMixIdeal.nD Cert.FoxMixIdeal.τ).loc Cert.FoxMixIdeal.main_arg1)
          ∧ r.2.mem ((c.tc : Thread Cert.FoxMixIdeal.nD Cert.FoxMixIdeal.τ).loc Cert.FoxMixIdeal.main_arg2) = m ((c.tc : Thread Cert.FoxMixIdeal.nD Cert.FoxMixIdeal.τ).loc Cert.FoxMixIdeal.main_arg2)
          ∧ r.2.mem ((c.tc : Thread Cert.FoxMixIdeal.nD Cert.FoxMixIdeal.τ).loc Cert.FoxMixIdeal.main_arg3) = m ((c.tc : Thread Cert.FoxMixIdeal.nD Cert.FoxMixIdeal.τ).loc Cert.FoxMixIdeal.main_arg3)
          ∧ r.2.mem ((c.tc : Thread Cert.FoxMixIdeal.nD Cert.FoxMixIdeal.τ).loc Cert.FoxMixIdeal.main_arg4) = m ((c.tc : Thread Cert.FoxMixIdeal.nD Cert.FoxMixIdeal.τ).loc Cert.FoxMixIdeal.main_arg4)
          ∧ r.2.mem ((c.tc : Thread Cert.FoxMixIdeal.nD Cert.FoxMixIdeal.τ).loc Cert.FoxMixIdeal.main_arg5) = m ((c.tc : Thread Cert.FoxMixIdeal.nD Cert.FoxMixIdeal.τ).loc Cert.FoxMixIdeal.main_arg5))
      ∧ θ_run (Cert.RefFoxMixIdeal.defs (F := Ideal)) (onTc (τ := Cert.RefFoxMixIdeal.τ) (Cert.RefFoxMixIdeal.main (F := Ideal))) ⟨m', fun _ => 0, g'⟩ (fun r => ∀ c : Dev Cert.RefFoxMixIdeal.nD,
          r.2.mem ((c.tc : Thread Cert.RefFoxMixIdeal.nD Cert.RefFoxMixIdeal.τ).loc Cert.RefFoxMixIdeal.main_v11) = v0 c
          ∧ r.2.mem ((c.tc : Thread Cert.RefFoxMixIdeal.nD Cert.RefFoxMixIdeal.τ).loc Cert.RefFoxMixIdeal.main_v15) = v1 c
          ∧ r.2.mem ((c.tc : Thread Cert.RefFoxMixIdeal.nD Cert.RefFoxMixIdeal.τ).loc Cert.RefFoxMixIdeal.main_v39) = v2 c
          ∧ r.2.mem ((c.tc : Thread Cert.RefFoxMixIdeal.nD Cert.RefFoxMixIdeal.τ).loc Cert.RefFoxMixIdeal.main_arg0) = m' ((c.tc : Thread Cert.RefFoxMixIdeal.nD Cert.RefFoxMixIdeal.τ).loc Cert.RefFoxMixIdeal.main_arg0)
          ∧ r.2.mem ((c.tc : Thread Cert.RefFoxMixIdeal.nD Cert.RefFoxMixIdeal.τ).loc Cert.RefFoxMixIdeal.main_arg1) = m' ((c.tc : Thread Cert.RefFoxMixIdeal.nD Cert.RefFoxMixIdeal.τ).loc Cert.RefFoxMixIdeal.main_arg1)
          ∧ r.2.mem ((c.tc : Thread Cert.RefFoxMixIdeal.nD Cert.RefFoxMixIdeal.τ).loc Cert.RefFoxMixIdeal.main_arg2) = m' ((c.tc : Thread Cert.RefFoxMixIdeal.nD Cert.RefFoxMixIdeal.τ).loc Cert.RefFoxMixIdeal.main_arg2)
          ∧ r.2.mem ((c.tc : Thread Cert.RefFoxMixIdeal.nD Cert.RefFoxMixIdeal.τ).loc Cert.RefFoxMixIdeal.main_arg3) = m' ((c.tc : Thread Cert.RefFoxMixIdeal.nD Cert.RefFoxMixIdeal.τ).loc Cert.RefFoxMixIdeal.main_arg3)
          ∧ r.2.mem ((c.tc : Thread Cert.RefFoxMixIdeal.nD Cert.RefFoxMixIdeal.τ).loc Cert.RefFoxMixIdeal.main_arg4) = m' ((c.tc : Thread Cert.RefFoxMixIdeal.nD Cert.RefFoxMixIdeal.τ).loc Cert.RefFoxMixIdeal.main_arg4)
          ∧ r.2.mem ((c.tc : Thread Cert.RefFoxMixIdeal.nD Cert.RefFoxMixIdeal.τ).loc Cert.RefFoxMixIdeal.main_arg5) = m' ((c.tc : Thread Cert.RefFoxMixIdeal.nD Cert.RefFoxMixIdeal.τ).loc Cert.RefFoxMixIdeal.main_arg5))

def preserves_FoxGate_FoxGateIdeal : Prop :=
  True

def algebraic_FoxGateIdeal_RefFoxGateIdeal [hFoxGateIdeal : Cert.FoxGateIdeal.Facts] [hRefFoxGateIdeal : Cert.RefFoxGateIdeal.Facts] : Prop :=
  ∀ (m : (ℓ : Loc Cert.FoxGateIdeal.nD Cert.FoxGateIdeal.τ Cert.FoxGateIdeal.sig) → Buf (Elt Ideal) ℓ) (g : Dev Cert.FoxGateIdeal.nD → PrngReg)
    (m' : (ℓ : Loc Cert.RefFoxGateIdeal.nD Cert.RefFoxGateIdeal.τ Cert.RefFoxGateIdeal.sig) → Buf (Elt Ideal) ℓ) (g' : Dev Cert.RefFoxGateIdeal.nD → PrngReg), Pre_FoxGateIdeal m →
    (∀ c : Dev Cert.FoxGateIdeal.nD,
      m' ((c.tc : Thread Cert.RefFoxGateIdeal.nD Cert.RefFoxGateIdeal.τ).loc Cert.RefFoxGateIdeal.main_arg0) = m ((c.tc : Thread Cert.FoxGateIdeal.nD Cert.FoxGateIdeal.τ).loc Cert.FoxGateIdeal.main_arg0)
      ∧ m' ((c.tc : Thread Cert.RefFoxGateIdeal.nD Cert.RefFoxGateIdeal.τ).loc Cert.RefFoxGateIdeal.main_arg1) = m ((c.tc : Thread Cert.FoxGateIdeal.nD Cert.FoxGateIdeal.τ).loc Cert.FoxGateIdeal.main_arg1)) →
    ∃ (v0 : (c : Dev Cert.FoxGateIdeal.nD) → Buf (Elt Ideal) ((c.tc : Thread Cert.FoxGateIdeal.nD Cert.FoxGateIdeal.τ).loc Cert.FoxGateIdeal.main_v0)),
      θ_run (Cert.FoxGateIdeal.defs (F := Ideal)) (onTc (τ := Cert.FoxGateIdeal.τ) (Cert.FoxGateIdeal.main (F := Ideal))) ⟨m, fun _ => 0, g⟩ (fun r => ∀ c : Dev Cert.FoxGateIdeal.nD,
          r.2.mem ((c.tc : Thread Cert.FoxGateIdeal.nD Cert.FoxGateIdeal.τ).loc Cert.FoxGateIdeal.main_v0) = v0 c
          ∧ r.2.mem ((c.tc : Thread Cert.FoxGateIdeal.nD Cert.FoxGateIdeal.τ).loc Cert.FoxGateIdeal.main_arg0) = m ((c.tc : Thread Cert.FoxGateIdeal.nD Cert.FoxGateIdeal.τ).loc Cert.FoxGateIdeal.main_arg0)
          ∧ r.2.mem ((c.tc : Thread Cert.FoxGateIdeal.nD Cert.FoxGateIdeal.τ).loc Cert.FoxGateIdeal.main_arg1) = m ((c.tc : Thread Cert.FoxGateIdeal.nD Cert.FoxGateIdeal.τ).loc Cert.FoxGateIdeal.main_arg1))
      ∧ θ_run (Cert.RefFoxGateIdeal.defs (F := Ideal)) (onTc (τ := Cert.RefFoxGateIdeal.τ) (Cert.RefFoxGateIdeal.main (F := Ideal))) ⟨m', fun _ => 0, g'⟩ (fun r => ∀ c : Dev Cert.RefFoxGateIdeal.nD,
          r.2.mem ((c.tc : Thread Cert.RefFoxGateIdeal.nD Cert.RefFoxGateIdeal.τ).loc Cert.RefFoxGateIdeal.main_v9) = v0 c
          ∧ r.2.mem ((c.tc : Thread Cert.RefFoxGateIdeal.nD Cert.RefFoxGateIdeal.τ).loc Cert.RefFoxGateIdeal.main_arg0) = m' ((c.tc : Thread Cert.RefFoxGateIdeal.nD Cert.RefFoxGateIdeal.τ).loc Cert.RefFoxGateIdeal.main_arg0)
          ∧ r.2.mem ((c.tc : Thread Cert.RefFoxGateIdeal.nD Cert.RefFoxGateIdeal.τ).loc Cert.RefFoxGateIdeal.main_arg1) = m' ((c.tc : Thread Cert.RefFoxGateIdeal.nD Cert.RefFoxGateIdeal.τ).loc Cert.RefFoxGateIdeal.main_arg1))

def preserves_ModMix_ModMixIdeal : Prop :=
  True

def algebraic_ModMixIdeal_RefModMixIdeal [hModMixIdeal : Cert.ModMixIdeal.Facts] [hRefModMixIdeal : Cert.RefModMixIdeal.Facts] : Prop :=
  ∀ (m : (ℓ : Loc Cert.ModMixIdeal.nD Cert.ModMixIdeal.τ Cert.ModMixIdeal.sig) → Buf (Elt Ideal) ℓ) (g : Dev Cert.ModMixIdeal.nD → PrngReg)
    (m' : (ℓ : Loc Cert.RefModMixIdeal.nD Cert.RefModMixIdeal.τ Cert.RefModMixIdeal.sig) → Buf (Elt Ideal) ℓ) (g' : Dev Cert.RefModMixIdeal.nD → PrngReg), Pre_ModMixIdeal m →
    (∀ c : Dev Cert.ModMixIdeal.nD,
      m' ((c.tc : Thread Cert.RefModMixIdeal.nD Cert.RefModMixIdeal.τ).loc Cert.RefModMixIdeal.main_arg0) = m ((c.tc : Thread Cert.ModMixIdeal.nD Cert.ModMixIdeal.τ).loc Cert.ModMixIdeal.main_arg0)
      ∧ m' ((c.tc : Thread Cert.RefModMixIdeal.nD Cert.RefModMixIdeal.τ).loc Cert.RefModMixIdeal.main_arg1) = m ((c.tc : Thread Cert.ModMixIdeal.nD Cert.ModMixIdeal.τ).loc Cert.ModMixIdeal.main_arg1)
      ∧ m' ((c.tc : Thread Cert.RefModMixIdeal.nD Cert.RefModMixIdeal.τ).loc Cert.RefModMixIdeal.main_arg2) = m ((c.tc : Thread Cert.ModMixIdeal.nD Cert.ModMixIdeal.τ).loc Cert.ModMixIdeal.main_arg2)
      ∧ m' ((c.tc : Thread Cert.RefModMixIdeal.nD Cert.RefModMixIdeal.τ).loc Cert.RefModMixIdeal.main_arg3) = m ((c.tc : Thread Cert.ModMixIdeal.nD Cert.ModMixIdeal.τ).loc Cert.ModMixIdeal.main_arg3)) →
    ∃ (v0 : (c : Dev Cert.ModMixIdeal.nD) → Buf (Elt Ideal) ((c.tc : Thread Cert.ModMixIdeal.nD Cert.ModMixIdeal.τ).loc Cert.ModMixIdeal.main_v0)),
      θ_run (Cert.ModMixIdeal.defs (F := Ideal)) (onTc (τ := Cert.ModMixIdeal.τ) (Cert.ModMixIdeal.main (F := Ideal))) ⟨m, fun _ => 0, g⟩ (fun r => ∀ c : Dev Cert.ModMixIdeal.nD,
          r.2.mem ((c.tc : Thread Cert.ModMixIdeal.nD Cert.ModMixIdeal.τ).loc Cert.ModMixIdeal.main_v0) = v0 c
          ∧ r.2.mem ((c.tc : Thread Cert.ModMixIdeal.nD Cert.ModMixIdeal.τ).loc Cert.ModMixIdeal.main_arg0) = m ((c.tc : Thread Cert.ModMixIdeal.nD Cert.ModMixIdeal.τ).loc Cert.ModMixIdeal.main_arg0)
          ∧ r.2.mem ((c.tc : Thread Cert.ModMixIdeal.nD Cert.ModMixIdeal.τ).loc Cert.ModMixIdeal.main_arg1) = m ((c.tc : Thread Cert.ModMixIdeal.nD Cert.ModMixIdeal.τ).loc Cert.ModMixIdeal.main_arg1)
          ∧ r.2.mem ((c.tc : Thread Cert.ModMixIdeal.nD Cert.ModMixIdeal.τ).loc Cert.ModMixIdeal.main_arg2) = m ((c.tc : Thread Cert.ModMixIdeal.nD Cert.ModMixIdeal.τ).loc Cert.ModMixIdeal.main_arg2)
          ∧ r.2.mem ((c.tc : Thread Cert.ModMixIdeal.nD Cert.ModMixIdeal.τ).loc Cert.ModMixIdeal.main_arg3) = m ((c.tc : Thread Cert.ModMixIdeal.nD Cert.ModMixIdeal.τ).loc Cert.ModMixIdeal.main_arg3))
      ∧ θ_run (Cert.RefModMixIdeal.defs (F := Ideal)) (onTc (τ := Cert.RefModMixIdeal.τ) (Cert.RefModMixIdeal.main (F := Ideal))) ⟨m', fun _ => 0, g'⟩ (fun r => ∀ c : Dev Cert.RefModMixIdeal.nD,
          r.2.mem ((c.tc : Thread Cert.RefModMixIdeal.nD Cert.RefModMixIdeal.τ).loc Cert.RefModMixIdeal.main_v32) = v0 c
          ∧ r.2.mem ((c.tc : Thread Cert.RefModMixIdeal.nD Cert.RefModMixIdeal.τ).loc Cert.RefModMixIdeal.main_arg0) = m' ((c.tc : Thread Cert.RefModMixIdeal.nD Cert.RefModMixIdeal.τ).loc Cert.RefModMixIdeal.main_arg0)
          ∧ r.2.mem ((c.tc : Thread Cert.RefModMixIdeal.nD Cert.RefModMixIdeal.τ).loc Cert.RefModMixIdeal.main_arg1) = m' ((c.tc : Thread Cert.RefModMixIdeal.nD Cert.RefModMixIdeal.τ).loc Cert.RefModMixIdeal.main_arg1)
          ∧ r.2.mem ((c.tc : Thread Cert.RefModMixIdeal.nD Cert.RefModMixIdeal.τ).loc Cert.RefModMixIdeal.main_arg2) = m' ((c.tc : Thread Cert.RefModMixIdeal.nD Cert.RefModMixIdeal.τ).loc Cert.RefModMixIdeal.main_arg2)
          ∧ r.2.mem ((c.tc : Thread Cert.RefModMixIdeal.nD Cert.RefModMixIdeal.τ).loc Cert.RefModMixIdeal.main_arg3) = m' ((c.tc : Thread Cert.RefModMixIdeal.nD Cert.RefModMixIdeal.τ).loc Cert.RefModMixIdeal.main_arg3))

def preserves_Rope_RopeIdeal : Prop :=
  True

def algebraic_RopeIdeal_RefRopeIdeal [hRopeIdeal : Cert.RopeIdeal.Facts] [hRefRopeIdeal : Cert.RefRopeIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RefRopeIdeal.nD Cert.RefRopeIdeal.τ Cert.RefRopeIdeal.sig) → Buf (Elt Ideal) ℓ) (g' : Dev Cert.RefRopeIdeal.nD → PrngReg), Pre_RopeIdeal m →
    (∀ c : Dev Cert.RopeIdeal.nD,
      m' ((c.tc : Thread Cert.RefRopeIdeal.nD Cert.RefRopeIdeal.τ).loc Cert.RefRopeIdeal.main_arg0) = m ((c.tc : Thread Cert.RopeIdeal.nD Cert.RopeIdeal.τ).loc Cert.RopeIdeal.main_arg0)
      ∧ m' ((c.tc : Thread Cert.RefRopeIdeal.nD Cert.RefRopeIdeal.τ).loc Cert.RefRopeIdeal.main_arg1) = m ((c.tc : Thread Cert.RopeIdeal.nD Cert.RopeIdeal.τ).loc Cert.RopeIdeal.main_arg1)
      ∧ m' ((c.tc : Thread Cert.RefRopeIdeal.nD Cert.RefRopeIdeal.τ).loc Cert.RefRopeIdeal.main_arg2) = m ((c.tc : Thread Cert.RopeIdeal.nD Cert.RopeIdeal.τ).loc Cert.RopeIdeal.main_arg2)) →
    ∃ (v0 : (c : Dev Cert.RopeIdeal.nD) → Buf (Elt Ideal) ((c.tc : Thread Cert.RopeIdeal.nD Cert.RopeIdeal.τ).loc Cert.RopeIdeal.main_v0_0)) (v1 : (c : Dev Cert.RopeIdeal.nD) → Buf (Elt Ideal) ((c.tc : Thread Cert.RopeIdeal.nD Cert.RopeIdeal.τ).loc Cert.RopeIdeal.main_v0_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v0_0) = v0 c
          ∧ r.2.mem ((c.tc : Thread Cert.RopeIdeal.nD Cert.RopeIdeal.τ).loc Cert.RopeIdeal.main_v0_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2))
      ∧ θ_run (Cert.RefRopeIdeal.defs (F := Ideal)) (onTc (τ := Cert.RefRopeIdeal.τ) (Cert.RefRopeIdeal.main (F := Ideal))) ⟨m', fun _ => 0, g'⟩ (fun r => ∀ c : Dev Cert.RefRopeIdeal.nD,
          r.2.mem ((c.tc : Thread Cert.RefRopeIdeal.nD Cert.RefRopeIdeal.τ).loc Cert.RefRopeIdeal.main_v39) = v0 c
          ∧ r.2.mem ((c.tc : Thread Cert.RefRopeIdeal.nD Cert.RefRopeIdeal.τ).loc Cert.RefRopeIdeal.main_v41) = v1 c
          ∧ r.2.mem ((c.tc : Thread Cert.RefRopeIdeal.nD Cert.RefRopeIdeal.τ).loc Cert.RefRopeIdeal.main_arg0) = m' ((c.tc : Thread Cert.RefRopeIdeal.nD Cert.RefRopeIdeal.τ).loc Cert.RefRopeIdeal.main_arg0)
          ∧ r.2.mem ((c.tc : Thread Cert.RefRopeIdeal.nD Cert.RefRopeIdeal.τ).loc Cert.RefRopeIdeal.main_arg1) = m' ((c.tc : Thread Cert.RefRopeIdeal.nD Cert.RefRopeIdeal.τ).loc Cert.RefRopeIdeal.main_arg1)
          ∧ r.2.mem ((c.tc : Thread Cert.RefRopeIdeal.nD Cert.RefRopeIdeal.τ).loc Cert.RefRopeIdeal.main_arg2) = m' ((c.tc : Thread Cert.RefRopeIdeal.nD Cert.RefRopeIdeal.τ).loc Cert.RefRopeIdeal.main_arg2))

def preserves_RetGate_RetGateIdeal : Prop :=
  True

def algebraic_RetGateIdeal_RefRetGateIdeal [hRetGateIdeal : Cert.RetGateIdeal.Facts] [hRefRetGateIdeal : Cert.RefRetGateIdeal.Facts] : Prop :=
  ∀ (m : (ℓ : Loc Cert.RetGateIdeal.nD Cert.RetGateIdeal.τ Cert.RetGateIdeal.sig) → Buf (Elt Ideal) ℓ) (g : Dev Cert.RetGateIdeal.nD → PrngReg)
    (m' : (ℓ : Loc Cert.RefRetGateIdeal.nD Cert.RefRetGateIdeal.τ Cert.RefRetGateIdeal.sig) → Buf (Elt Ideal) ℓ) (g' : Dev Cert.RefRetGateIdeal.nD → PrngReg), Pre_RetGateIdeal m →
    (∀ c : Dev Cert.RetGateIdeal.nD,
      m' ((c.tc : Thread Cert.RefRetGateIdeal.nD Cert.RefRetGateIdeal.τ).loc Cert.RefRetGateIdeal.main_arg0) = m ((c.tc : Thread Cert.RetGateIdeal.nD Cert.RetGateIdeal.τ).loc Cert.RetGateIdeal.main_arg0)
      ∧ m' ((c.tc : Thread Cert.RefRetGateIdeal.nD Cert.RefRetGateIdeal.τ).loc Cert.RefRetGateIdeal.main_arg1) = m ((c.tc : Thread Cert.RetGateIdeal.nD Cert.RetGateIdeal.τ).loc Cert.RetGateIdeal.main_arg1)
      ∧ m' ((c.tc : Thread Cert.RefRetGateIdeal.nD Cert.RefRetGateIdeal.τ).loc Cert.RefRetGateIdeal.main_arg2) = m ((c.tc : Thread Cert.RetGateIdeal.nD Cert.RetGateIdeal.τ).loc Cert.RetGateIdeal.main_arg2)) →
    ∃ (v0 : (c : Dev Cert.RetGateIdeal.nD) → Buf (Elt Ideal) ((c.tc : Thread Cert.RetGateIdeal.nD Cert.RetGateIdeal.τ).loc Cert.RetGateIdeal.main_v0)),
      θ_run (Cert.RetGateIdeal.defs (F := Ideal)) (onTc (τ := Cert.RetGateIdeal.τ) (Cert.RetGateIdeal.main (F := Ideal))) ⟨m, fun _ => 0, g⟩ (fun r => ∀ c : Dev Cert.RetGateIdeal.nD,
          r.2.mem ((c.tc : Thread Cert.RetGateIdeal.nD Cert.RetGateIdeal.τ).loc Cert.RetGateIdeal.main_v0) = v0 c
          ∧ r.2.mem ((c.tc : Thread Cert.RetGateIdeal.nD Cert.RetGateIdeal.τ).loc Cert.RetGateIdeal.main_arg0) = m ((c.tc : Thread Cert.RetGateIdeal.nD Cert.RetGateIdeal.τ).loc Cert.RetGateIdeal.main_arg0)
          ∧ r.2.mem ((c.tc : Thread Cert.RetGateIdeal.nD Cert.RetGateIdeal.τ).loc Cert.RetGateIdeal.main_arg1) = m ((c.tc : Thread Cert.RetGateIdeal.nD Cert.RetGateIdeal.τ).loc Cert.RetGateIdeal.main_arg1)
          ∧ r.2.mem ((c.tc : Thread Cert.RetGateIdeal.nD Cert.RetGateIdeal.τ).loc Cert.RetGateIdeal.main_arg2) = m ((c.tc : Thread Cert.RetGateIdeal.nD Cert.RetGateIdeal.τ).loc Cert.RetGateIdeal.main_arg2))
      ∧ θ_run (Cert.RefRetGateIdeal.defs (F := Ideal)) (onTc (τ := Cert.RefRetGateIdeal.τ) (Cert.RefRetGateIdeal.main (F := Ideal))) ⟨m', fun _ => 0, g'⟩ (fun r => ∀ c : Dev Cert.RefRetGateIdeal.nD,
          r.2.mem ((c.tc : Thread Cert.RefRetGateIdeal.nD Cert.RefRetGateIdeal.τ).loc Cert.RefRetGateIdeal.main_v20) = v0 c
          ∧ r.2.mem ((c.tc : Thread Cert.RefRetGateIdeal.nD Cert.RefRetGateIdeal.τ).loc Cert.RefRetGateIdeal.main_arg0) = m' ((c.tc : Thread Cert.RefRetGateIdeal.nD Cert.RefRetGateIdeal.τ).loc Cert.RefRetGateIdeal.main_arg0)
          ∧ r.2.mem ((c.tc : Thread Cert.RefRetGateIdeal.nD Cert.RefRetGateIdeal.τ).loc Cert.RefRetGateIdeal.main_arg1) = m' ((c.tc : Thread Cert.RefRetGateIdeal.nD Cert.RefRetGateIdeal.τ).loc Cert.RefRetGateIdeal.main_arg1)
          ∧ r.2.mem ((c.tc : Thread Cert.RefRetGateIdeal.nD Cert.RefRetGateIdeal.τ).loc Cert.RefRetGateIdeal.main_arg2) = m' ((c.tc : Thread Cert.RefRetGateIdeal.nD Cert.RefRetGateIdeal.τ).loc Cert.RefRetGateIdeal.main_arg2))

def preserves_ResMlp_ResMlpIdeal : Prop :=
  True

def algebraic_ResMlpIdeal_RefResMlpIdeal [hResMlpIdeal : Cert.ResMlpIdeal.Facts] [hRefResMlpIdeal : Cert.RefResMlpIdeal.Facts] : Prop :=
  ∀ (m : (ℓ : Loc Cert.ResMlpIdeal.nD Cert.ResMlpIdeal.τ Cert.ResMlpIdeal.sig) → Buf (Elt Ideal) ℓ) (g : Dev Cert.ResMlpIdeal.nD → PrngReg)
    (m' : (ℓ : Loc Cert.RefResMlpIdeal.nD Cert.RefResMlpIdeal.τ Cert.RefResMlpIdeal.sig) → Buf (Elt Ideal) ℓ) (g' : Dev Cert.RefResMlpIdeal.nD → PrngReg), Pre_ResMlpIdeal m →
    (∀ c : Dev Cert.ResMlpIdeal.nD,
      m' ((c.tc : Thread Cert.RefResMlpIdeal.nD Cert.RefResMlpIdeal.τ).loc Cert.RefResMlpIdeal.main_arg0) = m ((c.tc : Thread Cert.ResMlpIdeal.nD Cert.ResMlpIdeal.τ).loc Cert.ResMlpIdeal.main_arg0)
      ∧ m' ((c.tc : Thread Cert.RefResMlpIdeal.nD Cert.RefResMlpIdeal.τ).loc Cert.RefResMlpIdeal.main_arg1) = m ((c.tc : Thread Cert.ResMlpIdeal.nD Cert.ResMlpIdeal.τ).loc Cert.ResMlpIdeal.main_arg1)
      ∧ m' ((c.tc : Thread Cert.RefResMlpIdeal.nD Cert.RefResMlpIdeal.τ).loc Cert.RefResMlpIdeal.main_arg2) = m ((c.tc : Thread Cert.ResMlpIdeal.nD Cert.ResMlpIdeal.τ).loc Cert.ResMlpIdeal.main_arg2)
      ∧ m' ((c.tc : Thread Cert.RefResMlpIdeal.nD Cert.RefResMlpIdeal.τ).loc Cert.RefResMlpIdeal.main_arg3) = m ((c.tc : Thread Cert.ResMlpIdeal.nD Cert.ResMlpIdeal.τ).loc Cert.ResMlpIdeal.main_arg3)
      ∧ m' ((c.tc : Thread Cert.RefResMlpIdeal.nD Cert.RefResMlpIdeal.τ).loc Cert.RefResMlpIdeal.main_arg4) = m ((c.tc : Thread Cert.ResMlpIdeal.nD Cert.ResMlpIdeal.τ).loc Cert.ResMlpIdeal.main_arg4)
      ∧ m' ((c.tc : Thread Cert.RefResMlpIdeal.nD Cert.RefResMlpIdeal.τ).loc Cert.RefResMlpIdeal.main_arg5) = m ((c.tc : Thread Cert.ResMlpIdeal.nD Cert.ResMlpIdeal.τ).loc Cert.ResMlpIdeal.main_arg5)
      ∧ m' ((c.tc : Thread Cert.RefResMlpIdeal.nD Cert.RefResMlpIdeal.τ).loc Cert.RefResMlpIdeal.main_arg6) = m ((c.tc : Thread Cert.ResMlpIdeal.nD Cert.ResMlpIdeal.τ).loc Cert.ResMlpIdeal.main_arg6)
      ∧ m' ((c.tc : Thread Cert.RefResMlpIdeal.nD Cert.RefResMlpIdeal.τ).loc Cert.RefResMlpIdeal.main_arg7) = m ((c.tc : Thread Cert.ResMlpIdeal.nD Cert.ResMlpIdeal.τ).loc Cert.ResMlpIdeal.main_arg7)
      ∧ m' ((c.tc : Thread Cert.RefResMlpIdeal.nD Cert.RefResMlpIdeal.τ).loc Cert.RefResMlpIdeal.main_arg8) = m ((c.tc : Thread Cert.ResMlpIdeal.nD Cert.ResMlpIdeal.τ).loc Cert.ResMlpIdeal.main_arg8)
      ∧ m' ((c.tc : Thread Cert.RefResMlpIdeal.nD Cert.RefResMlpIdeal.τ).loc Cert.RefResMlpIdeal.main_arg9) = m ((c.tc : Thread Cert.ResMlpIdeal.nD Cert.ResMlpIdeal.τ).loc Cert.ResMlpIdeal.main_arg9)) →
    ∃ (v0 : (c : Dev Cert.ResMlpIdeal.nD) → Buf (Elt Ideal) ((c.tc : Thread Cert.ResMlpIdeal.nD Cert.ResMlpIdeal.τ).loc Cert.ResMlpIdeal.main_v0_0)) (v1 : (c : Dev Cert.ResMlpIdeal.nD) → Buf (Elt Ideal) ((c.tc : Thread Cert.ResMlpIdeal.nD Cert.ResMlpIdeal.τ).loc Cert.ResMlpIdeal.main_v0_1)) (v2 : (c : Dev Cert.ResMlpIdeal.nD) → Buf (Elt Ideal) ((c.tc : Thread Cert.ResMlpIdeal.nD Cert.ResMlpIdeal.τ).loc Cert.ResMlpIdeal.main_v0_2)),
      θ_run (Cert.ResMlpIdeal.defs (F := Ideal)) (onTc (τ := Cert.ResMlpIdeal.τ) (Cert.ResMlpIdeal.main (F := Ideal))) ⟨m, fun _ => 0, g⟩ (fun r => ∀ c : Dev Cert.ResMlpIdeal.nD,
          r.2.mem ((c.tc : Thread Cert.ResMlpIdeal.nD Cert.ResMlpIdeal.τ).loc Cert.ResMlpIdeal.main_v0_0) = v0 c
          ∧ r.2.mem ((c.tc : Thread Cert.ResMlpIdeal.nD Cert.ResMlpIdeal.τ).loc Cert.ResMlpIdeal.main_v0_1) = v1 c
          ∧ r.2.mem ((c.tc : Thread Cert.ResMlpIdeal.nD Cert.ResMlpIdeal.τ).loc Cert.ResMlpIdeal.main_v0_2) = v2 c
          ∧ r.2.mem ((c.tc : Thread Cert.ResMlpIdeal.nD Cert.ResMlpIdeal.τ).loc Cert.ResMlpIdeal.main_arg0) = m ((c.tc : Thread Cert.ResMlpIdeal.nD Cert.ResMlpIdeal.τ).loc Cert.ResMlpIdeal.main_arg0)
          ∧ r.2.mem ((c.tc : Thread Cert.ResMlpIdeal.nD Cert.ResMlpIdeal.τ).loc Cert.ResMlpIdeal.main_arg1) = m ((c.tc : Thread Cert.ResMlpIdeal.nD Cert.ResMlpIdeal.τ).loc Cert.ResMlpIdeal.main_arg1)
          ∧ r.2.mem ((c.tc : Thread Cert.ResMlpIdeal.nD Cert.ResMlpIdeal.τ).loc Cert.ResMlpIdeal.main_arg2) = m ((c.tc : Thread Cert.ResMlpIdeal.nD Cert.ResMlpIdeal.τ).loc Cert.ResMlpIdeal.main_arg2)
          ∧ r.2.mem ((c.tc : Thread Cert.ResMlpIdeal.nD Cert.ResMlpIdeal.τ).loc Cert.ResMlpIdeal.main_arg3) = m ((c.tc : Thread Cert.ResMlpIdeal.nD Cert.ResMlpIdeal.τ).loc Cert.ResMlpIdeal.main_arg3)
          ∧ r.2.mem ((c.tc : Thread Cert.ResMlpIdeal.nD Cert.ResMlpIdeal.τ).loc Cert.ResMlpIdeal.main_arg4) = m ((c.tc : Thread Cert.ResMlpIdeal.nD Cert.ResMlpIdeal.τ).loc Cert.ResMlpIdeal.main_arg4)
          ∧ r.2.mem ((c.tc : Thread Cert.ResMlpIdeal.nD Cert.ResMlpIdeal.τ).loc Cert.ResMlpIdeal.main_arg5) = m ((c.tc : Thread Cert.ResMlpIdeal.nD Cert.ResMlpIdeal.τ).loc Cert.ResMlpIdeal.main_arg5)
          ∧ r.2.mem ((c.tc : Thread Cert.ResMlpIdeal.nD Cert.ResMlpIdeal.τ).loc Cert.ResMlpIdeal.main_arg6) = m ((c.tc : Thread Cert.ResMlpIdeal.nD Cert.ResMlpIdeal.τ).loc Cert.ResMlpIdeal.main_arg6)
          ∧ r.2.mem ((c.tc : Thread Cert.ResMlpIdeal.nD Cert.ResMlpIdeal.τ).loc Cert.ResMlpIdeal.main_arg7) = m ((c.tc : Thread Cert.ResMlpIdeal.nD Cert.ResMlpIdeal.τ).loc Cert.ResMlpIdeal.main_arg7)
          ∧ r.2.mem ((c.tc : Thread Cert.ResMlpIdeal.nD Cert.ResMlpIdeal.τ).loc Cert.ResMlpIdeal.main_arg8) = m ((c.tc : Thread Cert.ResMlpIdeal.nD Cert.ResMlpIdeal.τ).loc Cert.ResMlpIdeal.main_arg8)
          ∧ r.2.mem ((c.tc : Thread Cert.ResMlpIdeal.nD Cert.ResMlpIdeal.τ).loc Cert.ResMlpIdeal.main_arg9) = m ((c.tc : Thread Cert.ResMlpIdeal.nD Cert.ResMlpIdeal.τ).loc Cert.ResMlpIdeal.main_arg9))
      ∧ θ_run (Cert.RefResMlpIdeal.defs (F := Ideal)) (onTc (τ := Cert.RefResMlpIdeal.τ) (Cert.RefResMlpIdeal.main (F := Ideal))) ⟨m', fun _ => 0, g'⟩ (fun r => ∀ c : Dev Cert.RefResMlpIdeal.nD,
          r.2.mem ((c.tc : Thread Cert.RefResMlpIdeal.nD Cert.RefResMlpIdeal.τ).loc Cert.RefResMlpIdeal.main_v12) = v0 c
          ∧ r.2.mem ((c.tc : Thread Cert.RefResMlpIdeal.nD Cert.RefResMlpIdeal.τ).loc Cert.RefResMlpIdeal.main_v49) = v1 c
          ∧ r.2.mem ((c.tc : Thread Cert.RefResMlpIdeal.nD Cert.RefResMlpIdeal.τ).loc Cert.RefResMlpIdeal.main_v73) = v2 c
          ∧ r.2.mem ((c.tc : Thread Cert.RefResMlpIdeal.nD Cert.RefResMlpIdeal.τ).loc Cert.RefResMlpIdeal.main_arg0) = m' ((c.tc : Thread Cert.RefResMlpIdeal.nD Cert.RefResMlpIdeal.τ).loc Cert.RefResMlpIdeal.main_arg0)
          ∧ r.2.mem ((c.tc : Thread Cert.RefResMlpIdeal.nD Cert.RefResMlpIdeal.τ).loc Cert.RefResMlpIdeal.main_arg1) = m' ((c.tc : Thread Cert.RefResMlpIdeal.nD Cert.RefResMlpIdeal.τ).loc Cert.RefResMlpIdeal.main_arg1)
          ∧ r.2.mem ((c.tc : Thread Cert.RefResMlpIdeal.nD Cert.RefResMlpIdeal.τ).loc Cert.RefResMlpIdeal.main_arg2) = m' ((c.tc : Thread Cert.RefResMlpIdeal.nD Cert.RefResMlpIdeal.τ).loc Cert.RefResMlpIdeal.main_arg2)
          ∧ r.2.mem ((c.tc : Thread Cert.RefResMlpIdeal.nD Cert.RefResMlpIdeal.τ).loc Cert.RefResMlpIdeal.main_arg3) = m' ((c.tc : Thread Cert.RefResMlpIdeal.nD Cert.RefResMlpIdeal.τ).loc Cert.RefResMlpIdeal.main_arg3)
          ∧ r.2.mem ((c.tc : Thread Cert.RefResMlpIdeal.nD Cert.RefResMlpIdeal.τ).loc Cert.RefResMlpIdeal.main_arg4) = m' ((c.tc : Thread Cert.RefResMlpIdeal.nD Cert.RefResMlpIdeal.τ).loc Cert.RefResMlpIdeal.main_arg4)
          ∧ r.2.mem ((c.tc : Thread Cert.RefResMlpIdeal.nD Cert.RefResMlpIdeal.τ).loc Cert.RefResMlpIdeal.main_arg5) = m' ((c.tc : Thread Cert.RefResMlpIdeal.nD Cert.RefResMlpIdeal.τ).loc Cert.RefResMlpIdeal.main_arg5)
          ∧ r.2.mem ((c.tc : Thread Cert.RefResMlpIdeal.nD Cert.RefResMlpIdeal.τ).loc Cert.RefResMlpIdeal.main_arg6) = m' ((c.tc : Thread Cert.RefResMlpIdeal.nD Cert.RefResMlpIdeal.τ).loc Cert.RefResMlpIdeal.main_arg6)
          ∧ r.2.mem ((c.tc : Thread Cert.RefResMlpIdeal.nD Cert.RefResMlpIdeal.τ).loc Cert.RefResMlpIdeal.main_arg7) = m' ((c.tc : Thread Cert.RefResMlpIdeal.nD Cert.RefResMlpIdeal.τ).loc Cert.RefResMlpIdeal.main_arg7)
          ∧ r.2.mem ((c.tc : Thread Cert.RefResMlpIdeal.nD Cert.RefResMlpIdeal.τ).loc Cert.RefResMlpIdeal.main_arg8) = m' ((c.tc : Thread Cert.RefResMlpIdeal.nD Cert.RefResMlpIdeal.τ).loc Cert.RefResMlpIdeal.main_arg8)
          ∧ r.2.mem ((c.tc : Thread Cert.RefResMlpIdeal.nD Cert.RefResMlpIdeal.τ).loc Cert.RefResMlpIdeal.main_arg9) = m' ((c.tc : Thread Cert.RefResMlpIdeal.nD Cert.RefResMlpIdeal.τ).loc Cert.RefResMlpIdeal.main_arg9))

def Claim : Prop :=
  ∃ (hDq : Cert.Dq.Facts) (hDqIdeal : Cert.DqIdeal.Facts) (hRefDqIdeal : Cert.RefDqIdeal.Facts) (hDkv : Cert.Dkv.Facts) (hDkvIdeal : Cert.DkvIdeal.Facts) (hRefDkvIdeal : Cert.RefDkvIdeal.Facts) (hMlpOutDx : Cert.MlpOutDx.Facts) (hMlpOutDxIdeal : Cert.MlpOutDxIdeal.Facts) (hRefMlpOutDxIdeal : Cert.RefMlpOutDxIdeal.Facts) (hMlpOutDw : Cert.MlpOutDw.Facts) (hMlpOutDwIdeal : Cert.MlpOutDwIdeal.Facts) (hRefMlpOutDwIdeal : Cert.RefMlpOutDwIdeal.Facts) (hMlpInDx : Cert.MlpInDx.Facts) (hMlpInDxIdeal : Cert.MlpInDxIdeal.Facts) (hRefMlpInDxIdeal : Cert.RefMlpInDxIdeal.Facts) (hMlpInDw : Cert.MlpInDw.Facts) (hMlpInDwIdeal : Cert.MlpInDwIdeal.Facts) (hRefMlpInDwIdeal : Cert.RefMlpInDwIdeal.Facts) (hMlpIn : Cert.MlpIn.Facts) (hMlpInIdeal : Cert.MlpInIdeal.Facts) (hRefMlpInIdeal : Cert.RefMlpInIdeal.Facts) (hMlpOut : Cert.MlpOut.Facts) (hMlpOutIdeal : Cert.MlpOutIdeal.Facts) (hRefMlpOutIdeal : Cert.RefMlpOutIdeal.Facts) (hRetProjDx : Cert.RetProjDx.Facts) (hRetProjDxIdeal : Cert.RetProjDxIdeal.Facts) (hRefRetProjDxIdeal : Cert.RefRetProjDxIdeal.Facts) (hRetProjDw : Cert.RetProjDw.Facts) (hRetProjDwIdeal : Cert.RetProjDwIdeal.Facts) (hRefRetProjDwIdeal : Cert.RefRetProjDwIdeal.Facts) (hRetOutDx : Cert.RetOutDx.Facts) (hRetOutDxIdeal : Cert.RetOutDxIdeal.Facts) (hRefRetOutDxIdeal : Cert.RefRetOutDxIdeal.Facts) (hRetOutDw : Cert.RetOutDw.Facts) (hRetOutDwIdeal : Cert.RetOutDwIdeal.Facts) (hRefRetOutDwIdeal : Cert.RefRetOutDwIdeal.Facts) (hFoxProjDx : Cert.FoxProjDx.Facts) (hFoxProjDxIdeal : Cert.FoxProjDxIdeal.Facts) (hRefFoxProjDxIdeal : Cert.RefFoxProjDxIdeal.Facts) (hFoxProjDw : Cert.FoxProjDw.Facts) (hFoxProjDwIdeal : Cert.FoxProjDwIdeal.Facts) (hRefFoxProjDwIdeal : Cert.RefFoxProjDwIdeal.Facts) (hFoxOutDx : Cert.FoxOutDx.Facts) (hFoxOutDxIdeal : Cert.FoxOutDxIdeal.Facts) (hRefFoxOutDxIdeal : Cert.RefFoxOutDxIdeal.Facts) (hFoxOutDw : Cert.FoxOutDw.Facts) (hFoxOutDwIdeal : Cert.FoxOutDwIdeal.Facts) (hRefFoxOutDwIdeal : Cert.RefFoxOutDwIdeal.Facts) (hKvProjDx : Cert.KvProjDx.Facts) (hKvProjDxIdeal : Cert.KvProjDxIdeal.Facts) (hRefKvProjDxIdeal : Cert.RefKvProjDxIdeal.Facts) (hKvProjDw : Cert.KvProjDw.Facts) (hKvProjDwIdeal : Cert.KvProjDwIdeal.Facts) (hRefKvProjDwIdeal : Cert.RefKvProjDwIdeal.Facts) (hRetProj : Cert.RetProj.Facts) (hRetProjIdeal : Cert.RetProjIdeal.Facts) (hRefRetProjIdeal : Cert.RefRetProjIdeal.Facts) (hFoxProj : Cert.FoxProj.Facts) (hFoxProjIdeal : Cert.FoxProjIdeal.Facts) (hRefFoxProjIdeal : Cert.RefFoxProjIdeal.Facts) (hKvProj : Cert.KvProj.Facts) (hKvProjIdeal : Cert.KvProjIdeal.Facts) (hRefKvProjIdeal : Cert.RefKvProjIdeal.Facts) (hRetFwd : Cert.RetFwd.Facts) (hRetFwdIdeal : Cert.RetFwdIdeal.Facts) (hRefRetFwdIdeal : Cert.RefRetFwdIdeal.Facts) (hFoxFwd : Cert.FoxFwd.Facts) (hFoxFwdIdeal : Cert.FoxFwdIdeal.Facts) (hRefFoxFwdIdeal : Cert.RefFoxFwdIdeal.Facts) (hRetMix : Cert.RetMix.Facts) (hRetMixIdeal : Cert.RetMixIdeal.Facts) (hRefRetMixIdeal : Cert.RefRetMixIdeal.Facts) (hFoxMix : Cert.FoxMix.Facts) (hFoxMixIdeal : Cert.FoxMixIdeal.Facts) (hRefFoxMixIdeal : Cert.RefFoxMixIdeal.Facts) (hFoxGate : Cert.FoxGate.Facts) (hFoxGateIdeal : Cert.FoxGateIdeal.Facts) (hRefFoxGateIdeal : Cert.RefFoxGateIdeal.Facts) (hModMix : Cert.ModMix.Facts) (hModMixIdeal : Cert.ModMixIdeal.Facts) (hRefModMixIdeal : Cert.RefModMixIdeal.Facts) (hRope : Cert.Rope.Facts) (hRopeIdeal : Cert.RopeIdeal.Facts) (hRefRopeIdeal : Cert.RefRopeIdeal.Facts) (hRetGate : Cert.RetGate.Facts) (hRetGateIdeal : Cert.RetGateIdeal.Facts) (hRefRetGateIdeal : Cert.RefRetGateIdeal.Facts) (hResMlp : Cert.ResMlp.Facts) (hResMlpIdeal : Cert.ResMlpIdeal.Facts) (hRefResMlpIdeal : Cert.RefResMlpIdeal.Facts) (hPre_finite_dq : Cert.Pre_finite_dq.Facts) (hPre_finite_dkv : Cert.Pre_finite_dkv.Facts) (hPre_finite_ret_fwd : Cert.Pre_finite_ret_fwd.Facts) (hPre_finite_fox_fwd : Cert.Pre_finite_fox_fwd.Facts),
    quiescent_Dq (hDq := hDq)
    ∧ quiescent_DqIdeal (hDqIdeal := hDqIdeal)
    ∧ quiescent_DqIdeal_pre_finite_dq (hDqIdeal := hDqIdeal) (hPre_finite_dq := hPre_finite_dq)
    ∧ quiescent_RefDqIdeal (hRefDqIdeal := hRefDqIdeal)
    ∧ quiescent_RefDqIdeal_pre_finite_dq (hRefDqIdeal := hRefDqIdeal) (hPre_finite_dq := hPre_finite_dq)
    ∧ quiescent_Dkv (hDkv := hDkv)
    ∧ quiescent_DkvIdeal (hDkvIdeal := hDkvIdeal)
    ∧ quiescent_DkvIdeal_pre_finite_dkv (hDkvIdeal := hDkvIdeal) (hPre_finite_dkv := hPre_finite_dkv)
    ∧ quiescent_RefDkvIdeal (hRefDkvIdeal := hRefDkvIdeal)
    ∧ quiescent_RefDkvIdeal_pre_finite_dkv (hRefDkvIdeal := hRefDkvIdeal) (hPre_finite_dkv := hPre_finite_dkv)
    ∧ quiescent_MlpOutDx (hMlpOutDx := hMlpOutDx)
    ∧ quiescent_MlpOutDxIdeal (hMlpOutDxIdeal := hMlpOutDxIdeal)
    ∧ quiescent_RefMlpOutDxIdeal (hRefMlpOutDxIdeal := hRefMlpOutDxIdeal)
    ∧ quiescent_MlpOutDw (hMlpOutDw := hMlpOutDw)
    ∧ quiescent_MlpOutDwIdeal (hMlpOutDwIdeal := hMlpOutDwIdeal)
    ∧ quiescent_RefMlpOutDwIdeal (hRefMlpOutDwIdeal := hRefMlpOutDwIdeal)
    ∧ quiescent_MlpInDx (hMlpInDx := hMlpInDx)
    ∧ quiescent_MlpInDxIdeal (hMlpInDxIdeal := hMlpInDxIdeal)
    ∧ quiescent_RefMlpInDxIdeal (hRefMlpInDxIdeal := hRefMlpInDxIdeal)
    ∧ quiescent_MlpInDw (hMlpInDw := hMlpInDw)
    ∧ quiescent_MlpInDwIdeal (hMlpInDwIdeal := hMlpInDwIdeal)
    ∧ quiescent_RefMlpInDwIdeal (hRefMlpInDwIdeal := hRefMlpInDwIdeal)
    ∧ quiescent_MlpIn (hMlpIn := hMlpIn)
    ∧ quiescent_MlpInIdeal (hMlpInIdeal := hMlpInIdeal)
    ∧ quiescent_RefMlpInIdeal (hRefMlpInIdeal := hRefMlpInIdeal)
    ∧ quiescent_MlpOut (hMlpOut := hMlpOut)
    ∧ quiescent_MlpOutIdeal (hMlpOutIdeal := hMlpOutIdeal)
    ∧ quiescent_RefMlpOutIdeal (hRefMlpOutIdeal := hRefMlpOutIdeal)
    ∧ quiescent_RetProjDx (hRetProjDx := hRetProjDx)
    ∧ quiescent_RetProjDxIdeal (hRetProjDxIdeal := hRetProjDxIdeal)
    ∧ quiescent_RefRetProjDxIdeal (hRefRetProjDxIdeal := hRefRetProjDxIdeal)
    ∧ quiescent_RetProjDw (hRetProjDw := hRetProjDw)
    ∧ quiescent_RetProjDwIdeal (hRetProjDwIdeal := hRetProjDwIdeal)
    ∧ quiescent_RefRetProjDwIdeal (hRefRetProjDwIdeal := hRefRetProjDwIdeal)
    ∧ quiescent_RetOutDx (hRetOutDx := hRetOutDx)
    ∧ quiescent_RetOutDxIdeal (hRetOutDxIdeal := hRetOutDxIdeal)
    ∧ quiescent_RefRetOutDxIdeal (hRefRetOutDxIdeal := hRefRetOutDxIdeal)
    ∧ quiescent_RetOutDw (hRetOutDw := hRetOutDw)
    ∧ quiescent_RetOutDwIdeal (hRetOutDwIdeal := hRetOutDwIdeal)
    ∧ quiescent_RefRetOutDwIdeal (hRefRetOutDwIdeal := hRefRetOutDwIdeal)
    ∧ quiescent_FoxProjDx (hFoxProjDx := hFoxProjDx)
    ∧ quiescent_FoxProjDxIdeal (hFoxProjDxIdeal := hFoxProjDxIdeal)
    ∧ quiescent_RefFoxProjDxIdeal (hRefFoxProjDxIdeal := hRefFoxProjDxIdeal)
    ∧ quiescent_FoxProjDw (hFoxProjDw := hFoxProjDw)
    ∧ quiescent_FoxProjDwIdeal (hFoxProjDwIdeal := hFoxProjDwIdeal)
    ∧ quiescent_RefFoxProjDwIdeal (hRefFoxProjDwIdeal := hRefFoxProjDwIdeal)
    ∧ quiescent_FoxOutDx (hFoxOutDx := hFoxOutDx)
    ∧ quiescent_FoxOutDxIdeal (hFoxOutDxIdeal := hFoxOutDxIdeal)
    ∧ quiescent_RefFoxOutDxIdeal (hRefFoxOutDxIdeal := hRefFoxOutDxIdeal)
    ∧ quiescent_FoxOutDw (hFoxOutDw := hFoxOutDw)
    ∧ quiescent_FoxOutDwIdeal (hFoxOutDwIdeal := hFoxOutDwIdeal)
    ∧ quiescent_RefFoxOutDwIdeal (hRefFoxOutDwIdeal := hRefFoxOutDwIdeal)
    ∧ quiescent_KvProjDx (hKvProjDx := hKvProjDx)
    ∧ quiescent_KvProjDxIdeal (hKvProjDxIdeal := hKvProjDxIdeal)
    ∧ quiescent_RefKvProjDxIdeal (hRefKvProjDxIdeal := hRefKvProjDxIdeal)
    ∧ quiescent_KvProjDw (hKvProjDw := hKvProjDw)
    ∧ quiescent_KvProjDwIdeal (hKvProjDwIdeal := hKvProjDwIdeal)
    ∧ quiescent_RefKvProjDwIdeal (hRefKvProjDwIdeal := hRefKvProjDwIdeal)
    ∧ quiescent_RetProj (hRetProj := hRetProj)
    ∧ quiescent_RetProjIdeal (hRetProjIdeal := hRetProjIdeal)
    ∧ quiescent_RefRetProjIdeal (hRefRetProjIdeal := hRefRetProjIdeal)
    ∧ quiescent_FoxProj (hFoxProj := hFoxProj)
    ∧ quiescent_FoxProjIdeal (hFoxProjIdeal := hFoxProjIdeal)
    ∧ quiescent_RefFoxProjIdeal (hRefFoxProjIdeal := hRefFoxProjIdeal)
    ∧ quiescent_KvProj (hKvProj := hKvProj)
    ∧ quiescent_KvProjIdeal (hKvProjIdeal := hKvProjIdeal)
    ∧ quiescent_RefKvProjIdeal (hRefKvProjIdeal := hRefKvProjIdeal)
    ∧ quiescent_RetFwd (hRetFwd := hRetFwd)
    ∧ quiescent_RetFwdIdeal (hRetFwdIdeal := hRetFwdIdeal)
    ∧ quiescent_RetFwdIdeal_pre_finite_ret_fwd (hRetFwdIdeal := hRetFwdIdeal) (hPre_finite_ret_fwd := hPre_finite_ret_fwd)
    ∧ quiescent_RefRetFwdIdeal (hRefRetFwdIdeal := hRefRetFwdIdeal)
    ∧ quiescent_RefRetFwdIdeal_pre_finite_ret_fwd (hRefRetFwdIdeal := hRefRetFwdIdeal) (hPre_finite_ret_fwd := hPre_finite_ret_fwd)
    ∧ quiescent_FoxFwd (hFoxFwd := hFoxFwd)
    ∧ quiescent_FoxFwdIdeal (hFoxFwdIdeal := hFoxFwdIdeal)
    ∧ quiescent_FoxFwdIdeal_pre_finite_fox_fwd (hFoxFwdIdeal := hFoxFwdIdeal) (hPre_finite_fox_fwd := hPre_finite_fox_fwd)
    ∧ quiescent_RefFoxFwdIdeal (hRefFoxFwdIdeal := hRefFoxFwdIdeal)
    ∧ quiescent_RefFoxFwdIdeal_pre_finite_fox_fwd (hRefFoxFwdIdeal := hRefFoxFwdIdeal) (hPre_finite_fox_fwd := hPre_finite_fox_fwd)
    ∧ quiescent_RetMix (hRetMix := hRetMix)
    ∧ quiescent_RetMixIdeal (hRetMixIdeal := hRetMixIdeal)
    ∧ quiescent_RefRetMixIdeal (hRefRetMixIdeal := hRefRetMixIdeal)
    ∧ quiescent_FoxMix (hFoxMix := hFoxMix)
    ∧ quiescent_FoxMixIdeal (hFoxMixIdeal := hFoxMixIdeal)
    ∧ quiescent_RefFoxMixIdeal (hRefFoxMixIdeal := hRefFoxMixIdeal)
    ∧ quiescent_FoxGate (hFoxGate := hFoxGate)
    ∧ quiescent_FoxGateIdeal (hFoxGateIdeal := hFoxGateIdeal)
    ∧ quiescent_RefFoxGateIdeal (hRefFoxGateIdeal := hRefFoxGateIdeal)
    ∧ quiescent_ModMix (hModMix := hModMix)
    ∧ quiescent_ModMixIdeal (hModMixIdeal := hModMixIdeal)
    ∧ quiescent_RefModMixIdeal (hRefModMixIdeal := hRefModMixIdeal)
    ∧ quiescent_Rope (hRope := hRope)
    ∧ quiescent_RopeIdeal (hRopeIdeal := hRopeIdeal)
    ∧ quiescent_RefRopeIdeal (hRefRopeIdeal := hRefRopeIdeal)
    ∧ quiescent_RetGate (hRetGate := hRetGate)
    ∧ quiescent_RetGateIdeal (hRetGateIdeal := hRetGateIdeal)
    ∧ quiescent_RefRetGateIdeal (hRefRetGateIdeal := hRefRetGateIdeal)
    ∧ quiescent_ResMlp (hResMlp := hResMlp)
    ∧ quiescent_ResMlpIdeal (hResMlpIdeal := hResMlpIdeal)
    ∧ quiescent_RefResMlpIdeal (hRefResMlpIdeal := hRefResMlpIdeal)
    ∧ preserves_Dq_DqIdeal
    ∧ algebraic_DqIdeal_RefDqIdeal_pre_finite_dq (hDqIdeal := hDqIdeal) (hRefDqIdeal := hRefDqIdeal) (hPre_finite_dq := hPre_finite_dq)
    ∧ preserves_Dkv_DkvIdeal
    ∧ algebraic_DkvIdeal_RefDkvIdeal_pre_finite_dkv (hDkvIdeal := hDkvIdeal) (hRefDkvIdeal := hRefDkvIdeal) (hPre_finite_dkv := hPre_finite_dkv)
    ∧ preserves_MlpOutDx_MlpOutDxIdeal
    ∧ algebraic_MlpOutDxIdeal_RefMlpOutDxIdeal (hMlpOutDxIdeal := hMlpOutDxIdeal) (hRefMlpOutDxIdeal := hRefMlpOutDxIdeal)
    ∧ preserves_MlpOutDw_MlpOutDwIdeal
    ∧ algebraic_MlpOutDwIdeal_RefMlpOutDwIdeal (hMlpOutDwIdeal := hMlpOutDwIdeal) (hRefMlpOutDwIdeal := hRefMlpOutDwIdeal)
    ∧ preserves_MlpInDx_MlpInDxIdeal
    ∧ algebraic_MlpInDxIdeal_RefMlpInDxIdeal (hMlpInDxIdeal := hMlpInDxIdeal) (hRefMlpInDxIdeal := hRefMlpInDxIdeal)
    ∧ preserves_MlpInDw_MlpInDwIdeal
    ∧ algebraic_MlpInDwIdeal_RefMlpInDwIdeal (hMlpInDwIdeal := hMlpInDwIdeal) (hRefMlpInDwIdeal := hRefMlpInDwIdeal)
    ∧ preserves_MlpIn_MlpInIdeal
    ∧ algebraic_MlpInIdeal_RefMlpInIdeal (hMlpInIdeal := hMlpInIdeal) (hRefMlpInIdeal := hRefMlpInIdeal)
    ∧ preserves_MlpOut_MlpOutIdeal
    ∧ algebraic_MlpOutIdeal_RefMlpOutIdeal (hMlpOutIdeal := hMlpOutIdeal) (hRefMlpOutIdeal := hRefMlpOutIdeal)
    ∧ preserves_RetProjDx_RetProjDxIdeal
    ∧ algebraic_RetProjDxIdeal_RefRetProjDxIdeal (hRetProjDxIdeal := hRetProjDxIdeal) (hRefRetProjDxIdeal := hRefRetProjDxIdeal)
    ∧ preserves_RetProjDw_RetProjDwIdeal
    ∧ algebraic_RetProjDwIdeal_RefRetProjDwIdeal (hRetProjDwIdeal := hRetProjDwIdeal) (hRefRetProjDwIdeal := hRefRetProjDwIdeal)
    ∧ preserves_RetOutDx_RetOutDxIdeal
    ∧ algebraic_RetOutDxIdeal_RefRetOutDxIdeal (hRetOutDxIdeal := hRetOutDxIdeal) (hRefRetOutDxIdeal := hRefRetOutDxIdeal)
    ∧ preserves_RetOutDw_RetOutDwIdeal
    ∧ algebraic_RetOutDwIdeal_RefRetOutDwIdeal (hRetOutDwIdeal := hRetOutDwIdeal) (hRefRetOutDwIdeal := hRefRetOutDwIdeal)
    ∧ preserves_FoxProjDx_FoxProjDxIdeal
    ∧ algebraic_FoxProjDxIdeal_RefFoxProjDxIdeal (hFoxProjDxIdeal := hFoxProjDxIdeal) (hRefFoxProjDxIdeal := hRefFoxProjDxIdeal)
    ∧ preserves_FoxProjDw_FoxProjDwIdeal
    ∧ algebraic_FoxProjDwIdeal_RefFoxProjDwIdeal (hFoxProjDwIdeal := hFoxProjDwIdeal) (hRefFoxProjDwIdeal := hRefFoxProjDwIdeal)
    ∧ preserves_FoxOutDx_FoxOutDxIdeal
    ∧ algebraic_FoxOutDxIdeal_RefFoxOutDxIdeal (hFoxOutDxIdeal := hFoxOutDxIdeal) (hRefFoxOutDxIdeal := hRefFoxOutDxIdeal)
    ∧ preserves_FoxOutDw_FoxOutDwIdeal
    ∧ algebraic_FoxOutDwIdeal_RefFoxOutDwIdeal (hFoxOutDwIdeal := hFoxOutDwIdeal) (hRefFoxOutDwIdeal := hRefFoxOutDwIdeal)
    ∧ preserves_KvProjDx_KvProjDxIdeal
    ∧ algebraic_KvProjDxIdeal_RefKvProjDxIdeal (hKvProjDxIdeal := hKvProjDxIdeal) (hRefKvProjDxIdeal := hRefKvProjDxIdeal)
    ∧ preserves_KvProjDw_KvProjDwIdeal
    ∧ algebraic_KvProjDwIdeal_RefKvProjDwIdeal (hKvProjDwIdeal := hKvProjDwIdeal) (hRefKvProjDwIdeal := hRefKvProjDwIdeal)
    ∧ preserves_RetProj_RetProjIdeal
    ∧ algebraic_RetProjIdeal_RefRetProjIdeal (hRetProjIdeal := hRetProjIdeal) (hRefRetProjIdeal := hRefRetProjIdeal)
    ∧ preserves_FoxProj_FoxProjIdeal
    ∧ algebraic_FoxProjIdeal_RefFoxProjIdeal (hFoxProjIdeal := hFoxProjIdeal) (hRefFoxProjIdeal := hRefFoxProjIdeal)
    ∧ preserves_KvProj_KvProjIdeal
    ∧ algebraic_KvProjIdeal_RefKvProjIdeal (hKvProjIdeal := hKvProjIdeal) (hRefKvProjIdeal := hRefKvProjIdeal)
    ∧ preserves_RetFwd_RetFwdIdeal
    ∧ algebraic_RetFwdIdeal_RefRetFwdIdeal_pre_finite_ret_fwd (hRetFwdIdeal := hRetFwdIdeal) (hRefRetFwdIdeal := hRefRetFwdIdeal) (hPre_finite_ret_fwd := hPre_finite_ret_fwd)
    ∧ preserves_FoxFwd_FoxFwdIdeal
    ∧ algebraic_FoxFwdIdeal_RefFoxFwdIdeal_pre_finite_fox_fwd (hFoxFwdIdeal := hFoxFwdIdeal) (hRefFoxFwdIdeal := hRefFoxFwdIdeal) (hPre_finite_fox_fwd := hPre_finite_fox_fwd)
    ∧ preserves_RetMix_RetMixIdeal
    ∧ algebraic_RetMixIdeal_RefRetMixIdeal (hRetMixIdeal := hRetMixIdeal) (hRefRetMixIdeal := hRefRetMixIdeal)
    ∧ preserves_FoxMix_FoxMixIdeal
    ∧ algebraic_FoxMixIdeal_RefFoxMixIdeal (hFoxMixIdeal := hFoxMixIdeal) (hRefFoxMixIdeal := hRefFoxMixIdeal)
    ∧ preserves_FoxGate_FoxGateIdeal
    ∧ algebraic_FoxGateIdeal_RefFoxGateIdeal (hFoxGateIdeal := hFoxGateIdeal) (hRefFoxGateIdeal := hRefFoxGateIdeal)
    ∧ preserves_ModMix_ModMixIdeal
    ∧ algebraic_ModMixIdeal_RefModMixIdeal (hModMixIdeal := hModMixIdeal) (hRefModMixIdeal := hRefModMixIdeal)
    ∧ preserves_Rope_RopeIdeal
    ∧ algebraic_RopeIdeal_RefRopeIdeal (hRopeIdeal := hRopeIdeal) (hRefRopeIdeal := hRefRopeIdeal)
    ∧ preserves_RetGate_RetGateIdeal
    ∧ algebraic_RetGateIdeal_RefRetGateIdeal (hRetGateIdeal := hRetGateIdeal) (hRefRetGateIdeal := hRefRetGateIdeal)
    ∧ preserves_ResMlp_ResMlpIdeal
    ∧ algebraic_ResMlpIdeal_RefResMlpIdeal (hResMlpIdeal := hResMlpIdeal) (hRefResMlpIdeal := hRefResMlpIdeal)
-- ==== Pre_finite_dkv.lean ====
abbrev S2048x1024 : Shape := ⟨2, ![2048, 1024]⟩
abbrev S2048x6144 : Shape := ⟨2, ![2048, 6144]⟩
abbrev S2048x2048 : Shape := ⟨2, ![2048, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S2048x6144_S2048x2048_0_2048 : S2048x6144.Slices ![0, 2048] S2048x2048
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg3 : FVec F S2048x2048 .bf16) (main_v17 : IVec S_ 1) : IVec S_ 1 :=
  let main_v18 : FVec F S2048x2048 .f32 := (extf .f32 · bitsLt_bf16_f32) main_arg3
  let main_v19 : FVec F S2048x2048 .f32 := Host.absf main_v18
  let main_cst_4 : FVec F S_ .f32 := constant S_ .f32 0x7F800000#32
  let main_v20 : FVec F S2048x2048 .f32 := broadcastInDim S2048x2048 ![] bcast_S_S2048x2048 main_cst_4
  let main_v21 : IVec S2048x2048 1 := cmpf .olt main_v19 main_v20
  let main_c_5 : IVec S_ 1 := constantI S_ 1 1#1
  let main_v22 : IVec S_ 1 := (fun x v => Host.reduce IntOp.andi x v reducesTo_S2048x2048_S_d0_1 h_S_) main_v21 main_c_5
  let main_v23 : IVec S_ 1 := andi main_v17 main_v22
  main_v23

def fn {F : FTy → Type} [FloatOps F] (main_arg0 : FVec F S2048x1024 .bf16) (main_arg1 : FVec F S2048x1024 .bf16) (main_arg2 : FVec F S2048x6144 .bf16) (main_arg3 : FVec F S2048x2048 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  let main_v11 : FVec F S2048x2048 .bf16 := (extractStridedSlice S2048x2048 ![0, 2048] · slices_S2048x6144_S2048x2048_0_2048) main_arg2
  let main_v12 : FVec F S2048x2048 .f32 := (extf .f32 · bitsLt_bf16_f32) main_v11
  let main_v13 : FVec F S2048x2048 .f32 := Host.absf main_v12
  let main_cst_2 : FVec F S_ .f32 := constant S_ .f32 0x7F800000#32
  let main_v14 : FVec F S2048x2048 .f32 := broadcastInDim S2048x2048 ![] bcast_S_S2048x2048 main_cst_2
  let main_v15 : IVec S2048x2048 1 := cmpf .olt main_v13 main_v14
  let main_c_3 : IVec S_ 1 := constantI S_ 1 1#1
  let main_v16 : IVec S_ 1 := (fun x v => Host.reduce IntOp.andi x v reducesTo_S2048x2048_S_d0_1 h_S_) main_v15 main_c_3
  let main_v17 : IVec S_ 1 := andi main_v10 main_v16
  fn_part1 (F := F) main_arg3 main_v17
-- ==== Pre_finite_dq.lean ====
abbrev S2048x1024 : Shape := ⟨2, ![2048, 1024]⟩
abbrev S2048x6144 : Shape := ⟨2, ![2048, 6144]⟩
abbrev S2048x2048 : Shape := ⟨2, ![2048, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S2048x6144_S2048x2048_0_2048 : S2048x6144.Slices ![0, 2048] S2048x2048
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x1024 .bf16) (main_arg1 : FVec F S2048x6144 .bf16) (main_arg2 : FVec F S2048x2048 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x2048 .bf16 := (extractStridedSlice S2048x2048 ![0, 2048] · slices_S2048x6144_S2048x2048_0_2048) main_arg1
  let main_v6 : FVec F S2048x2048 .f32 := (extf .f32 · bitsLt_bf16_f32) main_v5
  let main_v7 : FVec F S2048x2048 .f32 := Host.absf main_v6
  let main_cst_0 : FVec F S_ .f32 := constant S_ .f32 0x7F800000#32
  let main_v8 : FVec F S2048x2048 .f32 := broadcastInDim S2048x2048 ![] bcast_S_S2048x2048 main_cst_0
  let main_v9 : IVec S2048x2048 1 := cmpf .olt main_v7 main_v8
  let main_c_1 : IVec S_ 1 := constantI S_ 1 1#1
  let main_v10 : IVec S_ 1 := (fun x v => Host.reduce IntOp.andi x v reducesTo_S2048x2048_S_d0_1 h_S_) main_v9 main_c_1
  let main_v11 : IVec S_ 1 := andi main_v4 main_v10
  let main_v12 : FVec F S2048x2048 .f32 := (extf .f32 · bitsLt_bf16_f32) main_arg2
  let main_v13 : FVec F S2048x2048 .f32 := Host.absf main_v12
  let main_cst_2 : FVec F S_ .f32 := constant S_ .f32 0x7F800000#32
  let main_v14 : FVec F S2048x2048 .f32 := broadcastInDim S2048x2048 ![] bcast_S_S2048x2048 main_cst_2
  let main_v15 : IVec S2048x2048 1 := cmpf .olt main_v13 main_v14
  let main_c_3 : IVec S_ 1 := constantI S_ 1 1#1
  let main_v16 : IVec S_ 1 := (fun x v => Host.reduce IntOp.andi x v reducesTo_S2048x2048_S_d0_1 h_S_) main_v15 main_c_3
  let main_v17 : IVec S_ 1 := andi main_v11 main_v16
  main_v17
-- ==== Pre_finite_fox_fwd.lean ====
abbrev S2048x1024 : Shape := ⟨2, ![2048, 1024]⟩
abbrev S128x2048 : Shape := ⟨2, ![128, 2048]⟩
abbrev S_ : Shape := ⟨0, ![]⟩
abbrev S16x2048 : Shape := ⟨2, ![16, 2048]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S128x2048_S16x2048_0_0 : S128x2048.Slices ![0, 0] S16x2048
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S2048x1024 .bf16) (main_arg1 : FVec F S2048x1024 .bf16) (main_arg2 : FVec F S2048x1024 .bf16) (main_arg3 : FVec F S128x2048 .f32) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  let main_v11 : FVec F S16x2048 .f32 := (extractStridedSlice S16x2048 ![0, 0] · slices_S128x2048_S16x2048_0_0) main_arg3
  let main_v12 : FVec F S16x2048 .f32 := Host.absf main_v11
  let main_cst_2 : FVec F S_ .f32 := constant S_ .f32 0x7F800000#32
  let main_v13 : FVec F S16x2048 .f32 := broadcastInDim S16x2048 ![] bcast_S_S16x2048 main_cst_2
  let main_v14 : IVec S16x2048 1 := cmpf .olt main_v12 main_v13
  let main_c_3 : IVec S_ 1 := constantI S_ 1 1#1
  let main_v15 : IVec S_ 1 := (fun x v => Host.reduce IntOp.andi x v reducesTo_S16x2048_S_d0_1 h_S_) main_v14 main_c_3
  let main_v16 : IVec S_ 1 := andi main_v10 main_v15
  main_v16
-- ==== Pre_finite_ret_fwd.lean ====
abbrev S2048x1024 : Shape := ⟨2, ![2048, 1024]⟩
abbrev S2048x6144 : Shape := ⟨2, ![2048, 6144]⟩
abbrev S_ : Shape := ⟨0, ![]⟩
abbrev S2048x2048 : Shape := ⟨2, ![2048, 2048]⟩

class Facts : Prop where
  bitsLt_bf16_f32 : FTy.bits .bf16 < FTy.bits .f32
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S2048x6144_S2048x2048_0_2048 : S2048x6144.Slices ![0, 2048] S2048x2048
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x1024 .bf16) (main_arg1 : FVec F S2048x1024 .bf16) (main_arg2 : FVec F S2048x6144 .bf16) : IVec S_ 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_c : IVec S_ 1 := constantI S_ 1 1#1
  let main_v4 : IVec S_ 1 := (fun x v => Host.reduce IntOp.andi x v reducesTo_S2048x1024_S_d0_1 h_S_) main_v3 main_c
  let main_v5 : FVec F S2048x1024 .f32 := (extf .f32 · bitsLt_bf16_f32) main_arg1
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_c_1 : IVec S_ 1 := constantI S_ 1 1#1
  let main_v9 : IVec S_ 1 := (fun x v => Host.reduce IntOp.andi x v reducesTo_S2048x1024_S_d0_1 h_S_) main_v8 main_c_1
  let main_v10 : IVec S_ 1 := andi main_v4 main_v9
  let main_v11 : FVec F S2048x2048 .bf16 := (extractStridedSlice S2048x2048 ![0, 2048] · slices_S2048x6144_S2048x2048_0_2048) main_arg2
  let main_v12 : FVec F S2048x2048 .f32 := (extf .f32 · bitsLt_bf16_f32) main_v11
  let main_v13 : FVec F S2048x2048 .f32 := Host.absf main_v12
  let main_cst_2 : FVec F S_ .f32 := constant S_ .f32 0x7F800000#32
  let main_v14 : FVec F S2048x2048 .f32 := broadcastInDim S2048x2048 ![] bcast_S_S2048x2048 main_cst_2
  let main_v15 : IVec S2048x2048 1 := cmpf .olt main_v13 main_v14
  let main_c_3 : IVec S_ 1 := constantI S_ 1 1#1
  let main_v16 : IVec S_ 1 := (fun x v => Host.reduce IntOp.andi x v reducesTo_S2048x2048_S_d0_1 h_S_) main_v15 main_c_3
  let main_v17 : IVec S_ 1 := andi main_v10 main_v16
  main_v17
-- ==== Dq.lean ====
abbrev S2048x1024 : Shape := ⟨2, ![2048, 1024]⟩
abbrev S2048x6144 : Shape := ⟨2, ![2048, 6144]⟩
abbrev S2048x2048 : Shape := ⟨2, ![2048, 2048]⟩
abbrev S1024x512 : Shape := ⟨2, ![1024, 512]⟩
abbrev S1024x256 : Shape := ⟨2, ![1024, 256]⟩
abbrev S512x256 : Shape := ⟨2, ![512, 256]⟩
abbrev S256x256 : Shape := ⟨2, ![256, 256]⟩
abbrev S256x1 : Shape := ⟨2, ![256, 1]⟩
abbrev S1x1 : Shape := ⟨2, ![1, 1]⟩
abbrev S256x512 : Shape := ⟨2, ![256, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S2048x2048, .bf16⟩
  | .hbm, ⟨3, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | .local _ .vmem, ⟨7, _⟩ => ⟨S1024x256, .f32⟩
  | .local _ .vmem, ⟨8, _⟩ => ⟨S512x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DqIdeal.lean ====
variable {F : FTy → Type} [FloatOps F] [Named F]
def κ : String → Option EReal := fun
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== RefDqIdeal.lean ====
abbrev S2048x1024 : Shape := ⟨2, ![2048, 1024]⟩
abbrev S2048x6144 : Shape := ⟨2, ![2048, 6144]⟩
abbrev S2048x2048 : Shape := ⟨2, ![2048, 2048]⟩
abbrev S1x2048x4x256 : Shape := ⟨4, ![1, 2048, 4, 256]⟩
abbrev S1x2048x4x512 : Shape := ⟨4, ![1, 2048, 4, 512]⟩
abbrev S_ : Shape := ⟨0, ![]⟩
abbrev S4 : Shape := ⟨1, ![4]⟩
abbrev S1x4x2048x256 : Shape := ⟨4, ![1, 4, 2048, 256]⟩
abbrev S1x4x2048x512 : Shape := ⟨4, ![1, 4, 2048, 512]⟩
abbrev S2048 : Shape := ⟨1, ![2048]⟩
abbrev S2048x1 : Shape := ⟨2, ![2048, 1]⟩
abbrev S1x2048 : Shape := ⟨2, ![1, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S1x4x2048x2048 : Shape := ⟨4, ![1, 4, 2048, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S2048x2048, .bf16⟩
  | .hbm, ⟨3, _⟩ => ⟨S1x2048x4x256, .bf16⟩
  | .hbm, ⟨4, _⟩ => ⟨S2048x2048, .bf16⟩
  | .hbm, ⟨5, _⟩ => ⟨S1x2048x4x512, .bf16⟩
  | .hbm, ⟨6, _⟩ => ⟨S1x2048x4x512, .bf16⟩
  | .hbm, ⟨7, _⟩ => ⟨S_, .bf16⟩
  | .hbm, ⟨8, _⟩ => ⟨S1x2048x4x256, .bf16⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S1x4x2048x256, .bf16⟩
  | .hbm, ⟨20, _⟩ => ⟨S1x4x2048x256, .bf16⟩
  | .hbm, ⟨21, _⟩ => ⟨S1x4x2048x512, .bf16⟩
  | .hbm, ⟨22, _⟩ => ⟨S4, .f32⟩
  | .hbm, ⟨23, _⟩ => ⟨S2048, .f32⟩
  | .hbm, ⟨24, _⟩ => ⟨S2048x1, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .i1⟩
  | .hbm, ⟨32, _⟩ => ⟨S4x1x1, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S1x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S_, .f32⟩
  | .hbm, ⟨43, _⟩ => ⟨S4x2048x2048, .i1⟩
  | .hbm, ⟨44, _⟩ => ⟨S4x2048x2048, .f32⟩
  | .hbm, ⟨45, _⟩ => ⟨S4x2048x2048, .f32⟩
  | .hbm, ⟨46, _⟩ => ⟨S1x4x2048x2048, .f32⟩
  | .hbm, ⟨47, _⟩ => ⟨S1x4x2048x2048, .bf16⟩
  | .hbm, ⟨48, _⟩ => ⟨S1x4x2048x2048, .f32⟩
  | .hbm, ⟨49, _⟩ => ⟨S1x4x2048x2048, .f32⟩
  | .hbm, ⟨50, _⟩ => ⟨S1x4x2048x2048, .f32⟩
  | .hbm, ⟨51, _⟩ => ⟨S1x4x2048x2048, .bf16⟩
  | .hbm, ⟨52, _⟩ => ⟨S1x4x2048x512, .f32⟩
  | .hbm, ⟨53, _⟩ => ⟨S1x4x2048x512, .bf16⟩
  | .hbm, ⟨54, _⟩ => ⟨S1x4x2048x512, .f32⟩
  | .hbm, ⟨55, _⟩ => ⟨S1x2048x4x512, .f32⟩
  | .hbm, ⟨56, _⟩ => ⟨S1x2048x4x512, .bf16⟩
  | .hbm, ⟨57, _⟩ => ⟨S1x2048x4x512, .f32⟩
  | .hbm, ⟨58, _⟩ => ⟨S1x4x2048x512, .f32⟩
  | .hbm, ⟨59, _⟩ => ⟨S1x4x2048x512, .bf16⟩
  | .hbm, ⟨60, _⟩ => ⟨S1x4x2048x512, .f32⟩
  | .hbm, ⟨61, _⟩ => ⟨S1x4x2048x2048, .f32⟩
  | .hbm, ⟨62, _⟩ => ⟨S1x4x2048x2048, .bf16⟩
  | .hbm, ⟨63, _⟩ => ⟨S1x4x2048x2048, .f32⟩
  | .hbm, ⟨64, _⟩ => ⟨S1x4x2048x2048, .f32⟩
  | .hbm, ⟨65, _⟩ => ⟨S1x4x2048x2048, .bf16⟩
  | .hbm, ⟨66, _⟩ => ⟨S1x4x2048x2048, .f32⟩
  | .hbm, ⟨67, _⟩ => ⟨S1x4x2048x256, .f32⟩
  | .hbm, ⟨68, _⟩ => ⟨S1x4x2048x256, .bf16⟩
  | .hbm, ⟨69, _⟩ => ⟨S1x2048x4x256, .bf16⟩
  | .hbm, ⟨70, _⟩ => ⟨S2048x1024, .bf16⟩
  | .hbm, ⟨71, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== Dkv.lean ====
abbrev S2048x1024 : Shape := ⟨2, ![2048, 1024]⟩
abbrev S2048x6144 : Shape := ⟨2, ![2048, 6144]⟩
abbrev S2048x2048 : Shape := ⟨2, ![2048, 2048]⟩
abbrev S1024x512 : Shape := ⟨2, ![1024, 512]⟩
abbrev S1024x256 : Shape := ⟨2, ![1024, 256]⟩
abbrev S512x256 : Shape := ⟨2, ![512, 256]⟩
abbrev S256x512 : Shape := ⟨2, ![256, 512]⟩
abbrev S256x256 : Shape := ⟨2, ![256, 256]⟩
abbrev S256x1 : Shape := ⟨2, ![256, 1]⟩
abbrev S1x1 : Shape := ⟨2, ![1, 1]⟩

abbrev nBuf : Space → Nat
  | .hbm => 6
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x6144, .bf16⟩
  | .hbm, ⟨3, _⟩ => ⟨S2048x2048, .bf16⟩
  | .hbm, ⟨4, _⟩ => ⟨S2048x1024, .f32⟩
  | .hbm, ⟨5, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .f32⟩
  | .local _ .vmem, ⟨9, _⟩ => ⟨S1024x256, .f32⟩
  | .local _ .vmem, ⟨10, _⟩ => ⟨S1024x512, .bf16⟩
  | .local _ .vmem, ⟨11, _⟩ => ⟨S1024x512, .bf16⟩
  | .local _ .vmem, ⟨12, _⟩ => ⟨S512x256, .f32⟩
  | .local _ .vmem, ⟨13, _⟩ => ⟨S256x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c4_i32 : BitVec 32 := 4#32
  let v1 : BitVec 32 := Scalar.addi c4_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let v1 : BitVec 32 := Scalar.addi c0_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let v1 : BitVec 32 := Scalar.addi c0_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  let v1 : BitVec 32 := Scalar.addi c0_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg1
  let c0_i32 : BitVec 32 := 0#32
  ![v0.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DkvIdeal.lean ====
variable {F : FTy → Type} [FloatOps F] [Named F]
def κ : String → Option EReal := fun
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== RefDkvIdeal.lean ====
abbrev S2048x1024 : Shape := ⟨2, ![2048, 1024]⟩
abbrev S2048x6144 : Shape := ⟨2, ![2048, 6144]⟩
abbrev S2048x2048 : Shape := ⟨2, ![2048, 2048]⟩
abbrev S1x2048x4x256 : Shape := ⟨4, ![1, 2048, 4, 256]⟩
abbrev S1x2048x4x512 : Shape := ⟨4, ![1, 2048, 4, 512]⟩
abbrev S4 : Shape := ⟨1, ![4]⟩
abbrev S_ : Shape := ⟨0, ![]⟩
abbrev S1x4x2048x256 : Shape := ⟨4, ![1, 4, 2048, 256]⟩
abbrev S1x4x2048x512 : Shape := ⟨4, ![1, 4, 2048, 512]⟩
abbrev S2048 : Shape := ⟨1, ![2048]⟩
abbrev S2048x1 : Shape := ⟨2, ![2048, 1]⟩
abbrev S1x2048 : Shape := ⟨2, ![1, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S1x4x2048x2048 : Shape := ⟨4, ![1, 4, 2048, 2048]⟩
abbrev S1x4x512x2048 : Shape := ⟨4, ![1, 4, 512, 2048]⟩

abbrev nBuf : Space → Nat
  | .hbm => 77
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x6144, .bf16⟩
  | .hbm, ⟨3, _⟩ => ⟨S2048x2048, .bf16⟩
  | .hbm, ⟨4, _⟩ => ⟨S1x2048x4x256, .bf16⟩
  | .hbm, ⟨5, _⟩ => ⟨S1x2048x4x256, .bf16⟩
  | .hbm, ⟨6, _⟩ => ⟨S2048x2048, .bf16⟩
  | .hbm, ⟨7, _⟩ => ⟨S1x2048x4x512, .bf16⟩
  | .hbm, ⟨8, _⟩ => ⟨S1x2048x4x512, .bf16⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S1x4x2048x256, .bf16⟩
  | .hbm, ⟨20, _⟩ => ⟨S1x4x2048x256, .bf16⟩
  | .hbm, ⟨21, _⟩ => ⟨S1x4x2048x512, .bf16⟩
  | .hbm, ⟨22, _⟩ => ⟨S4, .f32⟩
  | .hbm, ⟨23, _⟩ => ⟨S2048, .f32⟩
  | .hbm, ⟨24, _⟩ => ⟨S2048x1, .f32⟩
  | .hbm, ⟨25, _⟩ => ⟨S1x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .i1⟩
  | .hbm, ⟨32, _⟩ => ⟨S4x1x1, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S1x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S_, .f32⟩
  | .hbm, ⟨43, _⟩ => ⟨S4x2048x2048, .i1⟩
  | .hbm, ⟨44, _⟩ => ⟨S4x2048x2048, .f32⟩
  | .hbm, ⟨45, _⟩ => ⟨S4x2048x2048, .f32⟩
  | .hbm, ⟨46, _⟩ => ⟨S1x4x2048x2048, .f32⟩
  | .hbm, ⟨47, _⟩ => ⟨S1x4x2048x2048, .bf16⟩
  | .hbm, ⟨48, _⟩ => ⟨S1x4x2048x2048, .f32⟩
  | .hbm, ⟨49, _⟩ => ⟨S1x4x2048x2048, .f32⟩
  | .hbm, ⟨50, _⟩ => ⟨S1x4x2048x2048, .f32⟩
  | .hbm, ⟨51, _⟩ => ⟨S1x4x2048x2048, .bf16⟩
  | .hbm, ⟨52, _⟩ => ⟨S1x4x2048x512, .f32⟩
  | .hbm, ⟨53, _⟩ => ⟨S1x4x2048x512, .bf16⟩
  | .hbm, ⟨54, _⟩ => ⟨S1x4x2048x512, .f32⟩
  | .hbm, ⟨55, _⟩ => ⟨S1x2048x4x512, .f32⟩
  | .hbm, ⟨56, _⟩ => ⟨S1x2048x4x512, .bf16⟩
  | .hbm, ⟨57, _⟩ => ⟨S1x2048x4x512, .f32⟩
  | .hbm, ⟨58, _⟩ => ⟨S1x4x2048x512, .f32⟩
  | .hbm, ⟨59, _⟩ => ⟨S1x4x2048x512, .bf16⟩
  | .hbm, ⟨60, _⟩ => ⟨S1x4x2048x512, .f32⟩
  | .hbm, ⟨61, _⟩ => ⟨S1x4x512x2048, .f32⟩
  | .hbm, ⟨62, _⟩ => ⟨S1x4x2048x512, .f32⟩
  | .hbm, ⟨63, _⟩ => ⟨S1x4x2048x512, .bf16⟩
  | .hbm, ⟨64, _⟩ => ⟨S1x4x2048x2048, .f32⟩
  | .hbm, ⟨65, _⟩ => ⟨S1x4x2048x2048, .bf16⟩
  | .hbm, ⟨66, _⟩ => ⟨S1x4x2048x2048, .f32⟩
  | .hbm, ⟨67, _⟩ => ⟨S1x4x2048x2048, .f32⟩
  | .hbm, ⟨68, _⟩ => ⟨S1x4x2048x2048, .bf16⟩
  | .hbm, ⟨69, _⟩ => ⟨S1x4x2048x2048, .f32⟩
  | .hbm, ⟨70, _⟩ => ⟨S1x4x2048x256, .f32⟩
  | .hbm, ⟨71, _⟩ => ⟨S1x4x2048x256, .bf16⟩
  | .hbm, ⟨72, _⟩ => ⟨S1x2048x4x512, .bf16⟩
  | .hbm, ⟨73, _⟩ => ⟨S1x2048x4x256, .bf16⟩
  | .hbm, ⟨74, _⟩ => ⟨S2048x1024, .bf16⟩
  | .hbm, ⟨75, _⟩ => ⟨S2048x1024, .f32⟩
  | .hbm, ⟨76, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩

abbrev nD : Nat := 1
abbrev τ : Topo := Topo.v7x

variable {F : FTy → Type} [FloatOps F]
-- ==== MlpOutDx.lean ====
abbrev S2048x1024 : Shape := ⟨2, ![2048, 1024]⟩
abbrev S4096x1024 : Shape := ⟨2, ![4096, 1024]⟩
abbrev S2048x4096 : Shape := ⟨2, ![2048, 4096]⟩
abbrev S1x4096x1024 : Shape := ⟨3, ![1, 4096, 1024]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .bf16⟩
  | .hbm, ⟨3, _⟩ => ⟨S1x4096x1024, .bf16⟩
  | .hbm, ⟨4, _⟩ => ⟨S2048x4096, .bf16⟩
  | .local _ .vmem, ⟨0, _⟩ => ⟨S2048x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefMlpOutDxIdeal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .bf16⟩
  | .hbm, ⟨3, _⟩ => ⟨S2048x4096, .f32⟩
  | .hbm, ⟨4, _⟩ => ⟨S4096x1024, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x1024, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== MlpOutDw.lean ====
abbrev S2048x4096 : Shape := ⟨2, ![2048, 4096]⟩
abbrev S2048x1024 : Shape := ⟨2, ![2048, 1024]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S1x4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMlpOutDwIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩
abbrev S1x4096x1024 : Shape := ⟨3, ![1, 4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | .hbm, ⟨10, _⟩ => ⟨S1x4096x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MlpInDx.lean ====
abbrev S2048x4096 : Shape := ⟨2, ![2048, 4096]⟩
abbrev S1024x4096 : Shape := ⟨2, ![1024, 4096]⟩
abbrev S1x1024x4096 : Shape := ⟨3, ![1, 1024, 4096]⟩
abbrev S2048x1024 : Shape := ⟨2, ![2048, 1024]⟩
abbrev S2048x2048 : Shape := ⟨2, ![2048, 2048]⟩
abbrev S1x1024x2048 : Shape := ⟨3, ![1, 1024, 2048]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S1x1024x4096, .bf16⟩
  | .hbm, ⟨3, _⟩ => ⟨S2048x1024, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S2048x1024, .bf16⟩
  | .local _ .vmem, ⟨5, _⟩ => ⟨S2048x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefMlpInDxIdeal.lean ====
abbrev S2048x4096 : Shape := ⟨2, ![2048, 4096]⟩
abbrev S1024x4096 : Shape := ⟨2, ![1024, 4096]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S1024x4096, .bf16⟩
  | .hbm, ⟨2, _⟩ => ⟨S_, .f32⟩
  | .hbm, ⟨3, _⟩ => ⟨S2048x1024, .f32⟩
  | .hbm, ⟨4, _⟩ => ⟨S1024x4096, .f32⟩
  | .hbm, ⟨5, _⟩ => ⟨S2048x4096, .f32⟩
  | .hbm, ⟨6, _⟩ => ⟨S2048x4096, .f32⟩
  | .hbm, ⟨7, _⟩ => ⟨S2048x1024, .f32⟩
  | .hbm, ⟨8, _⟩ => ⟨S2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MlpInDw.lean ====
abbrev S2048x1024 : Shape := ⟨2, ![2048, 1024]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMlpInDwIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S1024x4096, .f32⟩
  | .hbm, ⟨4, _⟩ => ⟨S2048x1024, .f32⟩
  | .hbm, ⟨5, _⟩ => ⟨S2048x4096, .f32⟩
  | .hbm, ⟨6, _⟩ => ⟨S2048x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MlpIn.lean ====
abbrev S2048x1024 : Shape := ⟨2, ![2048, 1024]⟩
abbrev S1024x4096 : Shape := ⟨2, ![1024, 4096]⟩
abbrev S1x1024x4096 : Shape := ⟨3, ![1, 1024, 4096]⟩
abbrev S2048x4096 : Shape := ⟨2, ![2048, 4096]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S1x1024x4096, .bf16⟩
  | .hbm, ⟨3, _⟩ => ⟨S2048x4096, .bf16⟩
  | .hbm, ⟨4, _⟩ => ⟨S2048x4096, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefMlpInIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x4096, .bf16⟩
  | .hbm, ⟨2, _⟩ => ⟨S2048x1024, .f32⟩
  | .hbm, ⟨3, _⟩ => ⟨S1024x4096, .f32⟩
  | .hbm, ⟨4, _⟩ => ⟨S2048x4096, .f32⟩
  | .hbm, ⟨5, _⟩ => ⟨S2048x4096, .bf16⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== MlpOut.lean ====
abbrev S2048x4096 : Shape := ⟨2, ![2048, 4096]⟩
abbrev S4096x1024 : Shape := ⟨2, ![4096, 1024]⟩
abbrev S1x4096x1024 : Shape := ⟨3, ![1, 4096, 1024]⟩
abbrev S2048x1024 : Shape := ⟨2, ![2048, 1024]⟩
abbrev S1024x2048 : Shape := ⟨2, ![1024, 2048]⟩
abbrev S1x2048x1024 : Shape := ⟨3, ![1, 2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S1x4096x1024, .bf16⟩
  | .hbm, ⟨3, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMlpOutIdeal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x4096, .f32⟩
  | .hbm, ⟨3, _⟩ => ⟨S4096x1024, .f32⟩
  | .hbm, ⟨4, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RetProjDx.lean ====
abbrev S2048x6144 : Shape := ⟨2, ![2048, 6144]⟩
abbrev S1024x6144 : Shape := ⟨2, ![1024, 6144]⟩
abbrev S1x1024x6144 : Shape := ⟨3, ![1, 1024, 6144]⟩
abbrev S2048x1024 : Shape := ⟨2, ![2048, 1024]⟩
abbrev S1024x3072 : Shape := ⟨2, ![1024, 3072]⟩
abbrev S1x1024x3072 : Shape := ⟨3, ![1, 1024, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S1024x6144, .bf16⟩
  | .hbm, ⟨2, _⟩ => ⟨S1x1024x6144, .bf16⟩
  | .hbm, ⟨3, _⟩ => ⟨S2048x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1x1024x3072, .bf16⟩
  | .local _ .vmem, ⟨3, _⟩ => ⟨S1x1024x3072, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefRetProjDxIdeal.lean ====
abbrev S2048x6144 : Shape := ⟨2, ![2048, 6144]⟩
abbrev S1024x6144 : Shape := ⟨2, ![1024, 6144]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S1024x6144, .bf16⟩
  | .hbm, ⟨2, _⟩ => ⟨S_, .f32⟩
  | .hbm, ⟨3, _⟩ => ⟨S2048x1024, .f32⟩
  | .hbm, ⟨4, _⟩ => ⟨S1024x6144, .f32⟩
  | .hbm, ⟨5, _⟩ => ⟨S2048x6144, .f32⟩
  | .hbm, ⟨6, _⟩ => ⟨S2048x6144, .f32⟩
  | .hbm, ⟨7, _⟩ => ⟨S2048x1024, .f32⟩
  | .hbm, ⟨8, _⟩ => ⟨S2048x1024, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RetProjDw.lean ====
abbrev S2048x1024 : Shape := ⟨2, ![2048, 1024]⟩
abbrev S2048x6144 : Shape := ⟨2, ![2048, 6144]⟩
abbrev S8x1024x768 : Shape := ⟨3, ![8, 1024, 768]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S8x1024x768, .bf16⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1x1024x768, .bf16⟩
  | .local _ .vmem, ⟨4, _⟩ => ⟨S1x1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefRetProjDwIdeal.lean ====
abbrev S2048x1024 : Shape := ⟨2, ![2048, 1024]⟩
abbrev S2048x6144 : Shape := ⟨2, ![2048, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S_, .f32⟩
  | .hbm, ⟨3, _⟩ => ⟨S1024x6144, .f32⟩
  | .hbm, ⟨4, _⟩ => ⟨S2048x1024, .f32⟩
  | .hbm, ⟨5, _⟩ => ⟨S2048x6144, .f32⟩
  | .hbm, ⟨6, _⟩ => ⟨S2048x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | .hbm, ⟨10, _⟩ => ⟨S1024x8x768, .bf16⟩
  | .hbm, ⟨11, _⟩ => ⟨S8x1024x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== RetOutDx.lean ====
abbrev S2048x1024 : Shape := ⟨2, ![2048, 1024]⟩
abbrev S1x2048x1024 : Shape := ⟨3, ![1, 2048, 1024]⟩
abbrev S2048x2048 : Shape := ⟨2, ![2048, 2048]⟩
abbrev S1x512x1024 : Shape := ⟨3, ![1, 512, 1024]⟩
abbrev S2048x512 : Shape := ⟨2, ![2048, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1x2048x1024, .bf16⟩
  | .hbm, ⟨3, _⟩ => ⟨S2048x2048, .bf16⟩
  | .local _ .vmem, ⟨0, _⟩ => ⟨S2048x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefRetOutDxIdeal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x2048, .f32⟩
  | .hbm, ⟨8, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RetOutDw.lean ====
abbrev S2048x2048 : Shape := ⟨2, ![2048, 2048]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S1x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefRetOutDwIdeal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩
abbrev S1x2048x1024 : Shape := ⟨3, ![1, 2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | .hbm, ⟨10, _⟩ => ⟨S1x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FoxProjDx.lean ====
abbrev S2048x2048 : Shape := ⟨2, ![2048, 2048]⟩
abbrev S1024x2048 : Shape := ⟨2, ![1024, 2048]⟩
abbrev S1x1024x2048 : Shape := ⟨3, ![1, 1024, 2048]⟩
abbrev S2048x1024 : Shape := ⟨2, ![2048, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S1x1024x2048, .bf16⟩
  | .hbm, ⟨3, _⟩ => ⟨S2048x1024, .bf16⟩
  | .local _ .vmem, ⟨0, _⟩ => ⟨S2048x2048, .bf16⟩
  | .local _ .vmem, ⟨1, _⟩ => ⟨S1x1024x2048, .bf16⟩
  | .local _ .vmem, ⟨2, _⟩ => ⟨S2048x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefFoxProjDxIdeal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S_, .f32⟩
  | .hbm, ⟨3, _⟩ => ⟨S2048x1024, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FoxProjDw.lean ====
abbrev S2048x1024 : Shape := ⟨2, ![2048, 1024]⟩
abbrev S2048x2048 : Shape := ⟨2, ![2048, 2048]⟩
abbrev S8x1024x256 : Shape := ⟨3, ![8, 1024, 256]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S8x1024x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefFoxProjDwIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FoxOutDx.lean ====
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 4
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1x1024x1024, .bf16⟩
  | .hbm, ⟨3, _⟩ => ⟨S2048x1024, .f32⟩
  | .local _ .vmem, ⟨0, _⟩ => ⟨S2048x1024, .bf16⟩
  | .local _ .vmem, ⟨1, _⟩ => ⟨S1x1024x1024, .bf16⟩
  | .local _ .vmem, ⟨2, _⟩ => ⟨S2048x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefFoxOutDxIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FoxOutDw.lean ====
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefFoxOutDwIdeal.lean ====
abbrev S2048x1024 : Shape := ⟨2, ![2048, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S1x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KvProjDx.lean ====
abbrev S2048x2176 : Shape := ⟨2, ![2048, 2176]⟩
abbrev S2176x1024 : Shape := ⟨2, ![2176, 1024]⟩
abbrev S1x2176x1024 : Shape := ⟨3, ![1, 2176, 1024]⟩
abbrev S2048x1024 : Shape := ⟨2, ![2048, 1024]⟩
abbrev S1024x2176 : Shape := ⟨2, ![1024, 2176]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x2176, .bf16⟩
  | .hbm, ⟨1, _⟩ => ⟨S2176x1024, .bf16⟩
  | .hbm, ⟨2, _⟩ => ⟨S1x2176x1024, .bf16⟩
  | .hbm, ⟨3, _⟩ => ⟨S2048x1024, .bf16⟩
  | .local _ .vmem, ⟨0, _⟩ => ⟨S1024x2176, .bf16⟩
  | .local _ .vmem, ⟨1, _⟩ => ⟨S1024x2176, .bf16⟩
  | .local _ .vmem, ⟨2, _⟩ => ⟨S1x2176x1024, .bf16⟩
  | .local _ .vmem, ⟨3, _⟩ => ⟨S1024x1024, .bf16⟩
  | .local _ .vmem, ⟨4, _⟩ => ⟨S1024x1024, .bf16⟩
  | _, _ => ⟨S2048x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefKvProjDxIdeal.lean ====
abbrev S2048x2176 : Shape := ⟨2, ![2048, 2176]⟩
abbrev S2176x1024 : Shape := ⟨2, ![2176, 1024]⟩
abbrev S1024x2176 : Shape := ⟨2, ![1024, 2176]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2176, .bf16⟩
  | .hbm, ⟨1, _⟩ => ⟨S2176x1024, .bf16⟩
  | .hbm, ⟨2, _⟩ => ⟨S1024x2176, .bf16⟩
  | .hbm, ⟨3, _⟩ => ⟨S_, .f32⟩
  | .hbm, ⟨4, _⟩ => ⟨S2048x1024, .f32⟩
  | .hbm, ⟨5, _⟩ => ⟨S1024x2176, .f32⟩
  | .hbm, ⟨6, _⟩ => ⟨S2048x2176, .f32⟩
  | .hbm, ⟨7, _⟩ => ⟨S2048x2176, .f32⟩
  | .hbm, ⟨8, _⟩ => ⟨S2048x1024, .f32⟩
  | .hbm, ⟨9, _⟩ => ⟨S2048x1024, .bf16⟩
  | _, _ => ⟨S2048x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvProjDw.lean ====
abbrev S2048x2176 : Shape := ⟨2, ![2048, 2176]⟩
abbrev S2048x1024 : Shape := ⟨2, ![2048, 1024]⟩
abbrev S1x2176x1024 : Shape := ⟨3, ![1, 2176, 1024]⟩
abbrev S1024x2176 : Shape := ⟨2, ![1024, 2176]⟩
abbrev S1024x1024 : Shape := ⟨2, ![1024, 1024]⟩
abbrev S2176x1024 : Shape := ⟨2, ![2176, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2176, .bf16⟩
  | .hbm, ⟨1, _⟩ => ⟨S2048x1024, .bf16⟩
  | .hbm, ⟨2, _⟩ => ⟨S1x2176x1024, .bf16⟩
  | .local _ .vmem, ⟨0, _⟩ => ⟨S1024x2176, .bf16⟩
  | .local _ .vmem, ⟨1, _⟩ => ⟨S1024x2176, .bf16⟩
  | .local _ .vmem, ⟨2, _⟩ => ⟨S1024x1024, .bf16⟩
  | .local _ .vmem, ⟨3, _⟩ => ⟨S1024x1024, .bf16⟩
  | .local _ .vmem, ⟨4, _⟩ => ⟨S1x2176x1024, .bf16⟩
  | .local _ .vmem, ⟨5, _⟩ => ⟨S2176x1024, .f32⟩
  | _, _ => ⟨S2048x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefKvProjDwIdeal.lean ====
abbrev S2048x2176 : Shape := ⟨2, ![2048, 2176]⟩
abbrev S2048x1024 : Shape := ⟨2, ![2048, 1024]⟩
abbrev S_ : Shape := ⟨0, ![]⟩
abbrev S1024x2176 : Shape := ⟨2, ![1024, 2176]⟩
abbrev S2176x1024 : Shape := ⟨2, ![2176, 1024]⟩
abbrev S1x2176x1024 : Shape := ⟨3, ![1, 2176, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2176, .bf16⟩
  | .hbm, ⟨1, _⟩ => ⟨S2048x1024, .bf16⟩
  | .hbm, ⟨2, _⟩ => ⟨S_, .f32⟩
  | .hbm, ⟨3, _⟩ => ⟨S1024x2176, .f32⟩
  | .hbm, ⟨4, _⟩ => ⟨S2048x1024, .f32⟩
  | .hbm, ⟨5, _⟩ => ⟨S2048x2176, .f32⟩
  | .hbm, ⟨6, _⟩ => ⟨S2048x2176, .f32⟩
  | .hbm, ⟨7, _⟩ => ⟨S2176x1024, .f32⟩
  | .hbm, ⟨8, _⟩ => ⟨S1024x2176, .f32⟩
  | .hbm, ⟨9, _⟩ => ⟨S2176x1024, .f32⟩
  | .hbm, ⟨10, _⟩ => ⟨S2176x1024, .bf16⟩
  | .hbm, ⟨11, _⟩ => ⟨S1x2176x1024, .bf16⟩
  | _, _ => ⟨S2048x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== RetProj.lean ====
abbrev S2048x1024 : Shape := ⟨2, ![2048, 1024]⟩
abbrev S1024x6144 : Shape := ⟨2, ![1024, 6144]⟩
abbrev S1x1024x6144 : Shape := ⟨3, ![1, 1024, 6144]⟩
abbrev S2048x6144 : Shape := ⟨2, ![2048, 6144]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x6144, .bf16⟩
  | .hbm, ⟨2, _⟩ => ⟨S1x1024x6144, .bf16⟩
  | .hbm, ⟨3, _⟩ => ⟨S2048x6144, .bf16⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.divsi arg1 c12_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c12_i32 c0_i32_1
  let v7 : BitVec 32 := Scalar.extui v6
  let c0_i32_2 : BitVec 32 := 0#32
  let v8 : BitVec 1 := Scalar.cmpi .slt c12_i32 c0_i32_2
  let v9 : BitVec 32 := Scalar.extui v8
  let v10 : BitVec 32 := Scalar.subi v7 v9
  let v11 : BitVec 1 := Scalar.cmpi .ne v5 v10
  let v12 : BitVec 32 := Scalar.remsi arg1 c12_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32_4 : BitVec 32 := 12#32
  let c0_i32_5 : BitVec 32 := 0#32
  let v17 : BitVec 1 := Scalar.cmpi .eq c12_i32_4 c0_i32_5
  let c1_i32_6 : BitVec 32 := 1#32
  let v18 : BitVec 32 := Scalar.select v17 c1_i32_6 c12_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefRetProjIdeal.lean ====
abbrev S2048x1024 : Shape := ⟨2, ![2048, 1024]⟩
abbrev S1024x6144 : Shape := ⟨2, ![1024, 6144]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x6144, .bf16⟩
  | .hbm, ⟨2, _⟩ => ⟨S2048x1024, .f32⟩
  | .hbm, ⟨3, _⟩ => ⟨S1024x6144, .f32⟩
  | .hbm, ⟨4, _⟩ => ⟨S2048x6144, .f32⟩
  | .hbm, ⟨5, _⟩ => ⟨S2048x6144, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FoxProj.lean ====
abbrev S2048x1024 : Shape := ⟨2, ![2048, 1024]⟩
abbrev S1024x2048 : Shape := ⟨2, ![1024, 2048]⟩
abbrev S1x1024x2048 : Shape := ⟨3, ![1, 1024, 2048]⟩
abbrev S2048x2048 : Shape := ⟨2, ![2048, 2048]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S1x1024x2048, .bf16⟩
  | .hbm, ⟨3, _⟩ => ⟨S2048x2048, .f32⟩
  | .local _ .vmem, ⟨0, _⟩ => ⟨S2048x1024, .bf16⟩
  | .local _ .vmem, ⟨1, _⟩ => ⟨S1x1024x512, .bf16⟩
  | .local _ .vmem, ⟨2, _⟩ => ⟨S1x1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefFoxProjIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvProj.lean ====
abbrev S2048x1024 : Shape := ⟨2, ![2048, 1024]⟩
abbrev S2176x1024 : Shape := ⟨2, ![2176, 1024]⟩
abbrev S1x2176x1024 : Shape := ⟨3, ![1, 2176, 1024]⟩
abbrev S2048x2176 : Shape := ⟨2, ![2048, 2176]⟩
abbrev S512x1024 : Shape := ⟨2, ![512, 1024]⟩
abbrev S512x2176 : Shape := ⟨2, ![512, 2176]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2176x1024, .bf16⟩
  | .hbm, ⟨2, _⟩ => ⟨S1x2176x1024, .bf16⟩
  | .hbm, ⟨3, _⟩ => ⟨S2048x2176, .f32⟩
  | .local _ .vmem, ⟨0, _⟩ => ⟨S512x1024, .bf16⟩
  | .local _ .vmem, ⟨1, _⟩ => ⟨S512x1024, .bf16⟩
  | .local _ .vmem, ⟨2, _⟩ => ⟨S1x2176x1024, .bf16⟩
  | .local _ .vmem, ⟨3, _⟩ => ⟨S512x2176, .f32⟩
  | .local _ .vmem, ⟨4, _⟩ => ⟨S512x2176, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefKvProjIdeal.lean ====
abbrev S2048x1024 : Shape := ⟨2, ![2048, 1024]⟩
abbrev S2176x1024 : Shape := ⟨2, ![2176, 1024]⟩
abbrev S1024x2176 : Shape := ⟨2, ![1024, 2176]⟩
abbrev S2048x2176 : Shape := ⟨2, ![2048, 2176]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2176x1024, .bf16⟩
  | .hbm, ⟨2, _⟩ => ⟨S2048x1024, .f32⟩
  | .hbm, ⟨3, _⟩ => ⟨S1024x2176, .bf16⟩
  | .hbm, ⟨4, _⟩ => ⟨S1024x2176, .f32⟩
  | .hbm, ⟨5, _⟩ => ⟨S2048x2176, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RetFwd.lean ====
abbrev S2048x1024 : Shape := ⟨2, ![2048, 1024]⟩
abbrev S2048x6144 : Shape := ⟨2, ![2048, 6144]⟩
abbrev S2048x2048 : Shape := ⟨2, ![2048, 2048]⟩
abbrev S1024x256 : Shape := ⟨2, ![1024, 256]⟩
abbrev S1024x512 : Shape := ⟨2, ![1024, 512]⟩
abbrev S256x512 : Shape := ⟨2, ![256, 512]⟩
abbrev S256x256 : Shape := ⟨2, ![256, 256]⟩
abbrev S256x1 : Shape := ⟨2, ![256, 1]⟩
abbrev S1x1 : Shape := ⟨2, ![1, 1]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x6144, .bf16⟩
  | .hbm, ⟨3, _⟩ => ⟨S2048x2048, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .f32⟩
  | .local _ .vmem, ⟨8, _⟩ => ⟨S256x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RetFwdIdeal.lean ====
variable {F : FTy → Type} [FloatOps F] [Named F]
def κ : String → Option EReal := fun
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | _ => none
-- ==== RefRetFwdIdeal.lean ====
abbrev S2048x1024 : Shape := ⟨2, ![2048, 1024]⟩
abbrev S2048x6144 : Shape := ⟨2, ![2048, 6144]⟩
abbrev S2048x2048 : Shape := ⟨2, ![2048, 2048]⟩
abbrev S1x2048x4x256 : Shape := ⟨4, ![1, 2048, 4, 256]⟩
abbrev S1x2048x4x512 : Shape := ⟨4, ![1, 2048, 4, 512]⟩
abbrev S4 : Shape := ⟨1, ![4]⟩
abbrev S_ : Shape := ⟨0, ![]⟩
abbrev S1x4x2048x256 : Shape := ⟨4, ![1, 4, 2048, 256]⟩
abbrev S1x4x2048x512 : Shape := ⟨4, ![1, 4, 2048, 512]⟩
abbrev S2048 : Shape := ⟨1, ![2048]⟩
abbrev S2048x1 : Shape := ⟨2, ![2048, 1]⟩
abbrev S1x2048 : Shape := ⟨2, ![1, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S1x4x2048x2048 : Shape := ⟨4, ![1, 4, 2048, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x6144, .bf16⟩
  | .hbm, ⟨3, _⟩ => ⟨S2048x2048, .bf16⟩
  | .hbm, ⟨4, _⟩ => ⟨S2048x1024, .f32⟩
  | .hbm, ⟨5, _⟩ => ⟨S1x2048x4x256, .f32⟩
  | .hbm, ⟨6, _⟩ => ⟨S2048x1024, .f32⟩
  | .hbm, ⟨7, _⟩ => ⟨S1x2048x4x256, .f32⟩
  | .hbm, ⟨8, _⟩ => ⟨S2048x2048, .f32⟩
  | .hbm, ⟨9, _⟩ => ⟨S1x2048x4x512, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S1x4x2048x256, .f32⟩
  | .hbm, ⟨21, _⟩ => ⟨S1x4x2048x256, .f32⟩
  | .hbm, ⟨22, _⟩ => ⟨S1x4x2048x512, .f32⟩
  | .hbm, ⟨23, _⟩ => ⟨S4, .f32⟩
  | .hbm, ⟨24, _⟩ => ⟨S2048, .f32⟩
  | .hbm, ⟨25, _⟩ => ⟨S2048x1, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .i1⟩
  | .hbm, ⟨33, _⟩ => ⟨S4x1x1, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S1x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S_, .f32⟩
  | .hbm, ⟨44, _⟩ => ⟨S4x2048x2048, .i1⟩
  | .hbm, ⟨45, _⟩ => ⟨S4x2048x2048, .f32⟩
  | .hbm, ⟨46, _⟩ => ⟨S4x2048x2048, .f32⟩
  | .hbm, ⟨47, _⟩ => ⟨S1x4x2048x2048, .f32⟩
  | .hbm, ⟨48, _⟩ => ⟨S1x4x2048x2048, .f32⟩
  | .hbm, ⟨49, _⟩ => ⟨S1x4x2048x2048, .f32⟩
  | .hbm, ⟨50, _⟩ => ⟨S1x4x2048x512, .f32⟩
  | .hbm, ⟨51, _⟩ => ⟨S1x2048x4x512, .f32⟩
  | .hbm, ⟨52, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== FoxFwd.lean ====
abbrev S2048x1024 : Shape := ⟨2, ![2048, 1024]⟩
abbrev S128x2048 : Shape := ⟨2, ![128, 2048]⟩
abbrev S512x128 : Shape := ⟨2, ![512, 128]⟩
abbrev S2048x128 : Shape := ⟨2, ![2048, 128]⟩
abbrev S1x128 : Shape := ⟨2, ![1, 128]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S1024x128 : Shape := ⟨2, ![1024, 128]⟩
abbrev S512x1024 : Shape := ⟨2, ![512, 1024]⟩
abbrev S1x1024 : Shape := ⟨2, ![1, 1024]⟩
abbrev S1536x128 : Shape := ⟨2, ![1536, 128]⟩
abbrev S512x1536 : Shape := ⟨2, ![512, 1536]⟩
abbrev S1x1536 : Shape := ⟨2, ![1, 1536]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S128x2048, .f32⟩
  | .hbm, ⟨4, _⟩ => ⟨S2048x1024, .f32⟩
  | .hbm, ⟨5, _⟩ => ⟨S2048x1024, .f32⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S128x2048, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_10 : BitVec 32) : Fin 2 → Nat :=
  let c2_i32_9 : BitVec 32 := 2#32
  let arg0 : BitVec 32 := BitVec.ofNat 32 (i 0).val
  let v31 : BitVec 32 := Scalar.muli c2_i32_9 arg0
  let v32 : BitVec 32 := Scalar.addi v31 c0_i32_10
  let v35 : Index := Scalar.indexCast v32
  let c0_14 : Index := 0#32
  ![v35.toNat, 0]
def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_off2 (i : grid0.Coords) (c0_i32_10 : BitVec 32) : Fin 2 → Nat :=
  let c2_i32_9 : BitVec 32 := 2#32
  let arg0 : BitVec 32 := BitVec.ofNat 32 (i 0).val
  let v31 : BitVec 32 := Scalar.muli c2_i32_9 arg0
  let v32 : BitVec 32 := Scalar.addi v31 c0_i32_10
  let v35 : Index := Scalar.indexCast v32
  let c0_14 : Index := 0#32
  ![v35.toNat, 0]
def k0_off3 (i : grid0.Coords) (c0_i32_16 : BitVec 32) : Fin 2 → Nat :=
  let c2_i32_15 : BitVec 32 := 2#32
  let arg0 : BitVec 32 := BitVec.ofNat 32 (i 0).val
  let v39 : BitVec 32 := Scalar.muli c2_i32_15 arg0
  let v40 : BitVec 32 := Scalar.addi v39 c0_i32_16
  let v43 : Index := Scalar.indexCast v40
  let c512_19 : Index := 512#32
  ![v43.toNat, 512]
def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_off4 (i : grid0.Coords) (c0_i32_10 : BitVec 32) : Fin 2 → Nat :=
  let c2_i32_9 : BitVec 32 := 2#32
  let arg0 : BitVec 32 := BitVec.ofNat 32 (i 0).val
  let v31 : BitVec 32 := Scalar.muli c2_i32_9 arg0
  let v32 : BitVec 32 := Scalar.addi v31 c0_i32_10
  let v35 : Index := Scalar.indexCast v32
  let c0_14 : Index := 0#32
  ![v35.toNat, 0]
def k0_off5 (i : grid0.Coords) (c0_i32_16 : BitVec 32) : Fin 2 → Nat :=
  let c2_i32_15 : BitVec 32 := 2#32
  let arg0 : BitVec 32 := BitVec.ofNat 32 (i 0).val
  let v39 : BitVec 32 := Scalar.muli c2_i32_15 arg0
  let v40 : BitVec 32 := Scalar.addi v39 c0_i32_16
  let v43 : Index := Scalar.indexCast v40
  let c1024_19 : Index := 1024#32
  ![v43.toNat, 1024]
def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def k0_off6 (i : grid0.Coords) (c0_i32_10 : BitVec 32) : Fin 2 → Nat :=
  let c2_i32_9 : BitVec 32 := 2#32
  let arg0 : BitVec 32 := BitVec.ofNat 32 (i 0).val
  let v31 : BitVec 32 := Scalar.muli c2_i32_9 arg0
  let v32 : BitVec 32 := Scalar.addi v31 c0_i32_10
  let v35 : Index := Scalar.indexCast v32
  let c0_14 : Index := 0#32
  ![v35.toNat, 0]
def k0_off7 (i : grid0.Coords) (c0_i32_16 : BitVec 32) : Fin 2 → Nat :=
  let c2_i32_15 : BitVec 32 := 2#32
  let arg0 : BitVec 32 := BitVec.ofNat 32 (i 0).val
  let v39 : BitVec 32 := Scalar.muli c2_i32_15 arg0
  let v40 : BitVec 32 := Scalar.addi v39 c0_i32_16
  let v43 : Index := Scalar.indexCast v40
  let c1536_19 : Index := 1536#32
  ![v43.toNat, 1536]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefFoxFwdIdeal.lean ====
abbrev S2048x1024 : Shape := ⟨2, ![2048, 1024]⟩
abbrev S128x2048 : Shape := ⟨2, ![128, 2048]⟩
abbrev S2048x16x64 : Shape := ⟨3, ![2048, 16, 64]⟩
abbrev S16x2048 : Shape := ⟨2, ![16, 2048]⟩
abbrev S2048x16 : Shape := ⟨2, ![2048, 16]⟩
abbrev S16x2048x2048 : Shape := ⟨3, ![16, 2048, 2048]⟩
abbrev S_ : Shape := ⟨0, ![]⟩
abbrev S16x2048x1 : Shape := ⟨3, ![16, 2048, 1]⟩
abbrev S16x1x2048 : Shape := ⟨3, ![16, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x64x2048 : Shape := ⟨3, ![16, 64, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S128x2048, .f32⟩
  | .hbm, ⟨4, _⟩ => ⟨S2048x1024, .f32⟩
  | .hbm, ⟨5, _⟩ => ⟨S2048x16x64, .f32⟩
  | .hbm, ⟨6, _⟩ => ⟨S2048x1024, .f32⟩
  | .hbm, ⟨7, _⟩ => ⟨S2048x16x64, .f32⟩
  | .hbm, ⟨8, _⟩ => ⟨S2048x1024, .f32⟩
  | .hbm, ⟨9, _⟩ => ⟨S2048x16x64, .f32⟩
  | .hbm, ⟨10, _⟩ => ⟨S16x2048, .f32⟩
  | .hbm, ⟨11, _⟩ => ⟨S2048x16, .f32⟩
  | .hbm, ⟨12, _⟩ => ⟨S16x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x1x2048, .f32⟩
  | .hbm, ⟨21, _⟩ => ⟨S16x2048x2048, .f32⟩
  | .hbm, ⟨22, _⟩ => ⟨S16x2048x2048, .f32⟩
  | .hbm, ⟨23, _⟩ => ⟨S2048, .i32⟩
  | .hbm, ⟨24, _⟩ => ⟨S1x2048, .i32⟩
  | .hbm, ⟨25, _⟩ => ⟨S2048, .i32⟩
  | .hbm, ⟨26, _⟩ => ⟨S2048x1, .i32⟩
  | .hbm, ⟨27, _⟩ => ⟨S2048x2048, .i32⟩
  | .hbm, ⟨28, _⟩ => ⟨S2048x2048, .i32⟩
  | .hbm, ⟨29, _⟩ => ⟨S2048x2048, .i1⟩
  | .hbm, ⟨30, _⟩ => ⟨S_, .f32⟩
  | .hbm, ⟨31, _⟩ => ⟨S_, .f32⟩
  | .hbm, ⟨32, _⟩ => ⟨S16x2048x2048, .i1⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x2048, .f32⟩
  | .hbm, ⟨37, _⟩ => ⟨S_, .f32⟩
  | .hbm, ⟨38, _⟩ => ⟨S16x2048, .f32⟩
  | .hbm, ⟨39, _⟩ => ⟨S16x2048, .f32⟩
  | .hbm, ⟨40, _⟩ => ⟨S16x2048x1, .f32⟩
  | .hbm, ⟨41, _⟩ => ⟨S16x2048x2048, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048, .f32⟩
  | .hbm, ⟨46, _⟩ => ⟨S16x2048x1, .f32⟩
  | .hbm, ⟨47, _⟩ => ⟨S16x2048x2048, .f32⟩
  | .hbm, ⟨48, _⟩ => ⟨S16x2048x2048, .f32⟩
  | .hbm, ⟨49, _⟩ => ⟨S16x64x2048, .f32⟩
  | .hbm, ⟨50, _⟩ => ⟨S2048x16x64, .f32⟩
  | .hbm, ⟨51, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== RetMix.lean ====
abbrev S2048x2048 : Shape := ⟨2, ![2048, 2048]⟩
abbrev S2048x1024 : Shape := ⟨2, ![2048, 1024]⟩
abbrev S1x6144 : Shape := ⟨2, ![1, 6144]⟩
abbrev S2x1024 : Shape := ⟨2, ![2, 1024]⟩
abbrev S1x2048x1024 : Shape := ⟨3, ![1, 2048, 1024]⟩
abbrev S512x2048 : Shape := ⟨2, ![512, 2048]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S1x6144, .f32⟩
  | .hbm, ⟨4, _⟩ => ⟨S1x6144, .f32⟩
  | .hbm, ⟨5, _⟩ => ⟨S2x1024, .f32⟩
  | .hbm, ⟨6, _⟩ => ⟨S1x2048x1024, .bf16⟩
  | .hbm, ⟨7, _⟩ => ⟨S2048x1024, .f32⟩
  | .hbm, ⟨8, _⟩ => ⟨S2048x1024, .f32⟩
  | .hbm, ⟨9, _⟩ => ⟨S2048x1024, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S512x1024, .f32⟩
  | .local _ .vmem, ⟨4, _⟩ => ⟨S512x1024, .f32⟩
  | .local _ .vmem, ⟨5, _⟩ => ⟨S1x6144, .f32⟩
  | .local _ .vmem, ⟨6, _⟩ => ⟨S1x6144, .f32⟩
  | .local _ .vmem, ⟨7, _⟩ => ⟨S2x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== RefRetMixIdeal.lean ====
abbrev S2048x2048 : Shape := ⟨2, ![2048, 2048]⟩
abbrev S2048x1024 : Shape := ⟨2, ![2048, 1024]⟩
abbrev S1x6144 : Shape := ⟨2, ![1, 6144]⟩
abbrev S2x1024 : Shape := ⟨2, ![2, 1024]⟩
abbrev S6144 : Shape := ⟨1, ![6144]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x1024, .f32⟩
  | .hbm, ⟨3, _⟩ => ⟨S1x6144, .f32⟩
  | .hbm, ⟨4, _⟩ => ⟨S1x6144, .f32⟩
  | .hbm, ⟨5, _⟩ => ⟨S2x1024, .f32⟩
  | .hbm, ⟨6, _⟩ => ⟨S6144, .f32⟩
  | .hbm, ⟨7, _⟩ => ⟨S6144, .f32⟩
  | .hbm, ⟨8, _⟩ => ⟨S6144, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S2048x2048, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== FoxMix.lean ====
abbrev S2048x1024 : Shape := ⟨2, ![2048, 1024]⟩
abbrev S1024x1024 : Shape := ⟨2, ![1024, 1024]⟩
abbrev S1x6144 : Shape := ⟨2, ![1, 6144]⟩
abbrev S2x1024 : Shape := ⟨2, ![2, 1024]⟩
abbrev S1x1024x1024 : Shape := ⟨3, ![1, 1024, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x6144, .f32⟩
  | .hbm, ⟨4, _⟩ => ⟨S1x6144, .f32⟩
  | .hbm, ⟨5, _⟩ => ⟨S2x1024, .f32⟩
  | .hbm, ⟨6, _⟩ => ⟨S1x1024x1024, .bf16⟩
  | .hbm, ⟨7, _⟩ => ⟨S2048x1024, .f32⟩
  | .hbm, ⟨8, _⟩ => ⟨S2048x1024, .f32⟩
  | .hbm, ⟨9, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x6144, .f32⟩
  | .local _ .vmem, ⟨6, _⟩ => ⟨S1x6144, .f32⟩
  | .local _ .vmem, ⟨7, _⟩ => ⟨S2x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== RefFoxMixIdeal.lean ====
abbrev S2048x1024 : Shape := ⟨2, ![2048, 1024]⟩
abbrev S1024x1024 : Shape := ⟨2, ![1024, 1024]⟩
abbrev S1x6144 : Shape := ⟨2, ![1, 6144]⟩
abbrev S2x1024 : Shape := ⟨2, ![2, 1024]⟩
abbrev S6144 : Shape := ⟨1, ![6144]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x6144, .f32⟩
  | .hbm, ⟨4, _⟩ => ⟨S1x6144, .f32⟩
  | .hbm, ⟨5, _⟩ => ⟨S2x1024, .f32⟩
  | .hbm, ⟨6, _⟩ => ⟨S6144, .f32⟩
  | .hbm, ⟨7, _⟩ => ⟨S6144, .f32⟩
  | .hbm, ⟨8, _⟩ => ⟨S6144, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S2048x1024, .f32⟩
  | .hbm, ⟨16, _⟩ => ⟨S1024x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S1x1024, .f32⟩
  | .hbm, ⟨41, _⟩ => ⟨S_, .f32⟩
  | .hbm, ⟨42, _⟩ => ⟨S1x1024, .f32⟩
  | .hbm, ⟨43, _⟩ => ⟨S1x1024, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== FoxGate.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefFoxGateIdeal.lean ====
abbrev S2048x2048 : Shape := ⟨2, ![2048, 2048]⟩
abbrev S2048x1024 : Shape := ⟨2, ![2048, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== ModMix.lean ====
abbrev S2048x1024 : Shape := ⟨2, ![2048, 1024]⟩
abbrev S1x6144 : Shape := ⟨2, ![1, 6144]⟩
abbrev S2x1024 : Shape := ⟨2, ![2, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x6144, .f32⟩
  | .hbm, ⟨2, _⟩ => ⟨S1x6144, .f32⟩
  | .hbm, ⟨3, _⟩ => ⟨S2x1024, .f32⟩
  | .hbm, ⟨4, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x6144, .f32⟩
  | .local _ .vmem, ⟨3, _⟩ => ⟨S1x6144, .f32⟩
  | .local _ .vmem, ⟨4, _⟩ => ⟨S2x1024, .f32⟩
  | .local _ .vmem, ⟨5, _⟩ => ⟨S1024x1024, .bf16⟩
  | .local _ .vmem, ⟨6, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefModMixIdeal.lean ====
abbrev S2048x1024 : Shape := ⟨2, ![2048, 1024]⟩
abbrev S1x6144 : Shape := ⟨2, ![1, 6144]⟩
abbrev S2x1024 : Shape := ⟨2, ![2, 1024]⟩
abbrev S6144 : Shape := ⟨1, ![6144]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x6144, .f32⟩
  | .hbm, ⟨2, _⟩ => ⟨S1x6144, .f32⟩
  | .hbm, ⟨3, _⟩ => ⟨S2x1024, .f32⟩
  | .hbm, ⟨4, _⟩ => ⟨S6144, .f32⟩
  | .hbm, ⟨5, _⟩ => ⟨S6144, .f32⟩
  | .hbm, ⟨6, _⟩ => ⟨S6144, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Rope.lean ====
abbrev S2048x6144 : Shape := ⟨2, ![2048, 6144]⟩
abbrev S2048x128 : Shape := ⟨2, ![2048, 128]⟩
abbrev S2048x1024 : Shape := ⟨2, ![2048, 1024]⟩
abbrev S1024x1024 : Shape := ⟨2, ![1024, 1024]⟩
abbrev S1024x128 : Shape := ⟨2, ![1024, 128]⟩

abbrev nBuf : Space → Nat
  | .hbm => 5
  | .vmem => 12
  | .smem => 0
  | _ => 0

abbrev bufTy : (tb : Table) → Fin (tcTables nBuf tb) → BufTy
  | .hbm, ⟨0, _⟩ => ⟨S2048x6144, .bf16⟩
  | .hbm, ⟨1, _⟩ => ⟨S2048x128, .f32⟩
  | .hbm, ⟨2, _⟩ => ⟨S2048x128, .f32⟩
  | .hbm, ⟨3, _⟩ => ⟨S2048x1024, .bf16⟩
  | .hbm, ⟨4, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefRopeIdeal.lean ====
abbrev S2048x6144 : Shape := ⟨2, ![2048, 6144]⟩
abbrev S2048x128 : Shape := ⟨2, ![2048, 128]⟩
abbrev S2048x1024 : Shape := ⟨2, ![2048, 1024]⟩
abbrev S2048x4x256 : Shape := ⟨3, ![2048, 4, 256]⟩
abbrev S2048x4x128 : Shape := ⟨3, ![2048, 4, 128]⟩
abbrev S2048x1x128 : Shape := ⟨3, ![2048, 1, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S2048x128, .f32⟩
  | .hbm, ⟨2, _⟩ => ⟨S2048x128, .f32⟩
  | .hbm, ⟨3, _⟩ => ⟨S2048x1024, .bf16⟩
  | .hbm, ⟨4, _⟩ => ⟨S2048x1024, .f32⟩
  | .hbm, ⟨5, _⟩ => ⟨S2048x4x256, .f32⟩
  | .hbm, ⟨6, _⟩ => ⟨S2048x1024, .bf16⟩
  | .hbm, ⟨7, _⟩ => ⟨S2048x1024, .f32⟩
  | .hbm, ⟨8, _⟩ => ⟨S2048x4x256, .f32⟩
  | .hbm, ⟨9, _⟩ => ⟨S2048x4x128, .f32⟩
  | .hbm, ⟨10, _⟩ => ⟨S2048x4x128, .f32⟩
  | .hbm, ⟨11, _⟩ => ⟨S2048x1x128, .f32⟩
  | .hbm, ⟨12, _⟩ => ⟨S2048x1x128, .f32⟩
  | .hbm, ⟨13, _⟩ => ⟨S2048x4x128, .f32⟩
  | .hbm, ⟨14, _⟩ => ⟨S2048x4x128, .f32⟩
  | .hbm, ⟨15, _⟩ => ⟨S2048x4x128, .f32⟩
  | .hbm, ⟨16, _⟩ => ⟨S2048x4x128, .f32⟩
  | .hbm, ⟨17, _⟩ => ⟨S2048x4x128, .f32⟩
  | .hbm, ⟨18, _⟩ => ⟨S2048x4x128, .f32⟩
  | .hbm, ⟨19, _⟩ => ⟨S2048x4x128, .f32⟩
  | .hbm, ⟨20, _⟩ => ⟨S2048x4x128, .f32⟩
  | .hbm, ⟨21, _⟩ => ⟨S2048x4x128, .f32⟩
  | .hbm, ⟨22, _⟩ => ⟨S2048x4x128, .f32⟩
  | .hbm, ⟨23, _⟩ => ⟨S2048x4x256, .f32⟩
  | .hbm, ⟨24, _⟩ => ⟨S2048x4x128, .f32⟩
  | .hbm, ⟨25, _⟩ => ⟨S2048x4x128, .f32⟩
  | .hbm, ⟨26, _⟩ => ⟨S2048x1x128, .f32⟩
  | .hbm, ⟨27, _⟩ => ⟨S2048x1x128, .f32⟩
  | .hbm, ⟨28, _⟩ => ⟨S2048x4x128, .f32⟩
  | .hbm, ⟨29, _⟩ => ⟨S2048x4x128, .f32⟩
  | .hbm, ⟨30, _⟩ => ⟨S2048x4x128, .f32⟩
  | .hbm, ⟨31, _⟩ => ⟨S2048x4x128, .f32⟩
  | .hbm, ⟨32, _⟩ => ⟨S2048x4x128, .f32⟩
  | .hbm, ⟨33, _⟩ => ⟨S2048x4x128, .f32⟩
  | .hbm, ⟨34, _⟩ => ⟨S2048x4x128, .f32⟩
  | .hbm, ⟨35, _⟩ => ⟨S2048x4x128, .f32⟩
  | .hbm, ⟨36, _⟩ => ⟨S2048x4x128, .f32⟩
  | .hbm, ⟨37, _⟩ => ⟨S2048x4x128, .f32⟩
  | .hbm, ⟨38, _⟩ => ⟨S2048x4x256, .f32⟩
  | .hbm, ⟨39, _⟩ => ⟨S_, .f32⟩
  | .hbm, ⟨40, _⟩ => ⟨S2048x4x256, .f32⟩
  | .hbm, ⟨41, _⟩ => ⟨S2048x4x256, .f32⟩
  | .hbm, ⟨42, _⟩ => ⟨S2048x1024, .f32⟩
  | .hbm, ⟨43, _⟩ => ⟨S2048x1024, .bf16⟩
  | .hbm, ⟨44, _⟩ => ⟨S2048x1024, .f32⟩
  | .hbm, ⟨45, _⟩ => ⟨S2048x1024, .bf16⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_cst : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩

abbrev nD : Nat := 1
abbrev τ : Topo := Topo.v7x

variable {F : FTy → Type} [FloatOps F]
-- ==== RetGate.lean ====
abbrev S2048x2048 : Shape := ⟨2, ![2048, 2048]⟩
abbrev S2048x6144 : Shape := ⟨2, ![2048, 6144]⟩
abbrev S1x2048 : Shape := ⟨2, ![1, 2048]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x6144, .bf16⟩
  | .hbm, ⟨2, _⟩ => ⟨S1x2048, .f32⟩
  | .hbm, ⟨3, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefRetGateIdeal.lean ====
abbrev S2048x2048 : Shape := ⟨2, ![2048, 2048]⟩
abbrev S2048x6144 : Shape := ⟨2, ![2048, 6144]⟩
abbrev S1x2048 : Shape := ⟨2, ![1, 2048]⟩
abbrev S2048x4x512 : Shape := ⟨3, ![2048, 4, 512]⟩
abbrev S4x512 : Shape := ⟨2, ![4, 512]⟩
abbrev S_ : Shape := ⟨0, ![]⟩
abbrev S2048x4 : Shape := ⟨2, ![2048, 4]⟩
abbrev S2048x4x1 : Shape := ⟨3, ![2048, 4, 1]⟩
abbrev S1x4x512 : Shape := ⟨3, ![1, 4, 512]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6144, .bf16⟩
  | .hbm, ⟨2, _⟩ => ⟨S1x2048, .f32⟩
  | .hbm, ⟨3, _⟩ => ⟨S2048x2048, .bf16⟩
  | .hbm, ⟨4, _⟩ => ⟨S2048x2048, .f32⟩
  | .hbm, ⟨5, _⟩ => ⟨S2048x4x512, .f32⟩
  | .hbm, ⟨6, _⟩ => ⟨S4x512, .f32⟩
  | .hbm, ⟨7, _⟩ => ⟨S2048x4x512, .f32⟩
  | .hbm, ⟨8, _⟩ => ⟨S_, .f32⟩
  | .hbm, ⟨9, _⟩ => ⟨S2048x4, .f32⟩
  | .hbm, ⟨10, _⟩ => ⟨S2048x4x1, .f32⟩
  | .hbm, ⟨11, _⟩ => ⟨S_, .f32⟩
  | .hbm, ⟨12, _⟩ => ⟨S2048x4x1, .f32⟩
  | .hbm, ⟨13, _⟩ => ⟨S2048x4x1, .f32⟩
  | .hbm, ⟨14, _⟩ => ⟨S_, .f32⟩
  | .hbm, ⟨15, _⟩ => ⟨S2048x4x1, .f32⟩
  | .hbm, ⟨16, _⟩ => ⟨S2048x4x1, .f32⟩
  | .hbm, ⟨17, _⟩ => ⟨S2048x4x1, .f32⟩
  | .hbm, ⟨18, _⟩ => ⟨S2048x4x512, .f32⟩
  | .hbm, ⟨19, _⟩ => ⟨S2048x4x512, .f32⟩
  | .hbm, ⟨20, _⟩ => ⟨S1x4x512, .f32⟩
  | .hbm, ⟨21, _⟩ => ⟨S2048x4x512, .f32⟩
  | .hbm, ⟨22, _⟩ => ⟨S2048x4x512, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== ResMlp.lean ====
abbrev S2048x1024 : Shape := ⟨2, ![2048, 1024]⟩
abbrev S1x6144 : Shape := ⟨2, ![1, 6144]⟩
abbrev S1x2048 : Shape := ⟨2, ![1, 2048]⟩
abbrev S2x1024 : Shape := ⟨2, ![2, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x2048, .f32⟩
  | .hbm, ⟨7, _⟩ => ⟨S1x2048, .f32⟩
  | .hbm, ⟨8, _⟩ => ⟨S2x1024, .f32⟩
  | .hbm, ⟨9, _⟩ => ⟨S1x1024, .f32⟩
  | .hbm, ⟨10, _⟩ => ⟨S2048x1024, .f32⟩
  | .hbm, ⟨11, _⟩ => ⟨S2048x1024, .bf16⟩
  | .hbm, ⟨12, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x6144, .f32⟩
  | .local _ .vmem, ⟨5, _⟩ => ⟨S1x6144, .f32⟩
  | .local _ .vmem, ⟨6, _⟩ => ⟨S1x6144, .f32⟩
  | .local _ .vmem, ⟨7, _⟩ => ⟨S1x6144, .f32⟩
  | .local _ .vmem, ⟨8, _⟩ => ⟨S1x2048, .f32⟩
  | .local _ .vmem, ⟨9, _⟩ => ⟨S1x2048, .f32⟩
  | .local _ .vmem, ⟨10, _⟩ => ⟨S2x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RefResMlpIdeal.lean ====
abbrev S2048x1024 : Shape := ⟨2, ![2048, 1024]⟩
abbrev S1x6144 : Shape := ⟨2, ![1, 6144]⟩
abbrev S1x2048 : Shape := ⟨2, ![1, 2048]⟩
abbrev S2x1024 : Shape := ⟨2, ![2, 1024]⟩
abbrev S1x1024 : Shape := ⟨2, ![1, 1024]⟩
abbrev S6144 : Shape := ⟨1, ![6144]⟩
abbrev S1024 : Shape := ⟨1, ![1024]⟩
abbrev S2048 : Shape := ⟨1, ![2048]⟩
abbrev S_ : Shape := ⟨0, ![]⟩
abbrev S2048x1 : Shape := ⟨2, ![2048, 1]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x6144, .f32⟩
  | .hbm, ⟨3, _⟩ => ⟨S1x6144, .f32⟩
  | .hbm, ⟨4, _⟩ => ⟨S1x6144, .f32⟩
  | .hbm, ⟨5, _⟩ => ⟨S1x6144, .f32⟩
  | .hbm, ⟨6, _⟩ => ⟨S1x2048, .f32⟩
  | .hbm, ⟨7, _⟩ => ⟨S1x2048, .f32⟩
  | .hbm, ⟨8, _⟩ => ⟨S2x1024, .f32⟩
  | .hbm, ⟨9, _⟩ => ⟨S1x1024, .f32⟩
  | .hbm, ⟨10, _⟩ => ⟨S6144, .f32⟩
  | .hbm, ⟨11, _⟩ => ⟨S6144, .f32⟩
  | .hbm, ⟨12, _⟩ => ⟨S6144, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S1024, .f32⟩
  | .hbm, ⟨27, _⟩ => ⟨S1024, .f32⟩
  | .hbm, ⟨28, _⟩ => ⟨S6144, .f32⟩
  | .hbm, ⟨29, _⟩ => ⟨S6144, .f32⟩
  | .hbm, ⟨30, _⟩ => ⟨S6144, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S2048x1, .f32⟩
  | .hbm, ⟨49, _⟩ => ⟨S2048x1024, .f32⟩
  | .hbm, ⟨50, _⟩ => ⟨S2048x1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S2048x1024, .bf16⟩
  | .hbm, ⟨64, _⟩ => ⟨S1x1024, .f32⟩
  | .hbm, ⟨65, _⟩ => ⟨S1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S_, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S2048x1, .f32⟩
  | .hbm, ⟨77, _⟩ => ⟨S2048x1024, .f32⟩
  | .hbm, ⟨78, _⟩ => ⟨S2048x1024, .f32⟩
  | .hbm, ⟨79, _⟩ => ⟨S1x1024, .f32⟩
  | .hbm, ⟨80, _⟩ => ⟨S2048x1024, .f32⟩
  | .hbm, ⟨81, _⟩ => ⟨S2048x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S2048x1024, .f32⟩
  | .hbm, ⟨87, _⟩ => ⟨S2048x1024, .f32⟩
  | .hbm, ⟨88, _⟩ => ⟨S1x1024, .f32⟩
  | .hbm, ⟨89, _⟩ => ⟨S2048x1024, .f32⟩
  | .hbm, ⟨90, _⟩ => ⟨S2048x1024, .f32⟩
  | .hbm, ⟨91, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_v30 : Ref sig .tc := ⟨.hbm, 41, rfl⟩
abbrev main_cst_0 : Ref sig .tc := ⟨.hbm, 42, rfl⟩
abbrev main_v31 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_2 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_3 : Ref sig .tc := ⟨.hbm, 67, rfl⟩
abbrev main_v53 : Ref sig .tc := ⟨.hbm, 68, rfl⟩
abbrev main_v54 : Ref sig .tc := ⟨.hbm, 69, rfl⟩
abbrev main_cst_4 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_6 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Proof.Mat.lean ====
module

public import Idealize.ShloMosaic.Lib.MatmulPlain
public import Idealize.ShloMosaic.Lib.ValueIdx
public import Idealize.ShloMosaic.Lib.Pipeline.Value

/-!
Matrices of real numbers at the ideal values. `mat f` is the array whose entry (i, j) is the real number `f i j`; the
lemmas say which real matrix each operation of a retention call makes of real matrices, so that a whole call is
rewritten to one formula on functions of two natural numbers.
-/

@[expose] public section

set_option maxRecDepth 16384

noncomputable section

open scoped BigOperators

namespace Ret

open Idealize.ShloMosaic Idealize.ShloMosaic.ValueIdx

variable {n m K : ℕ} {φ ψ : FTy}

/-- The n×m array of the real numbers `f i j`. -/
def mat (n m : ℕ) (φ : FTy) (f : ℕ → ℕ → ℝ) : FVec Ideal ⟨2, ![n, m]⟩ φ :=
  fun y => ((f (y 0).val (y 1).val : ℝ) : EReal)

/-- An entry of `mat f`. -/
theorem mat_apply (f : ℕ → ℕ → ℝ) (y : (⟨2, ![n, m]⟩ : Shape).Idx) :
    mat n m φ f y = ((f (y 0).val (y 1).val : ℝ) : EReal) := rfl

/-- Two functions equal within the extents give the same array. -/
theorem mat_congr {f g : ℕ → ℕ → ℝ} (h : ∀ i < n, ∀ j < m, f i j = g i j) : mat n m φ f = mat n m φ g :=
  funext fun y => by rw [mat_apply, mat_apply, h _ (idx2_lt0 y) _ (idx2_lt1 y)]

/-- An array is `mat f` when its entries are. -/
theorem eq_mat {x : FVec Ideal ⟨2, ![n, m]⟩ φ} {f : ℕ → ℕ → ℝ}
    (h : ∀ (i : Fin n) (j : Fin m), x (ix2 i j) = ((f i.val j.val : ℝ) : EReal)) : x = mat n m φ f :=
  funext fun y => by rw [eq_ix2 y]; exact h _ _

/-- Product of entries. -/
theorem mulf_mat (f g : ℕ → ℕ → ℝ) : mulf (mat n m φ f) (mat n m φ g) = mat n m φ fun i j => f i j * g i j :=
  funext fun _ => (EReal.coe_mul _ _).symm

/-- Sum of entries. -/
theorem addf_mat (f g : ℕ → ℕ → ℝ) : addf (mat n m φ f) (mat n m φ g) = mat n m φ fun i j => f i j + g i j :=
  funext fun _ => (EReal.coe_add _ _).symm

/-- A narrowing keeps the numbers. -/
theorem truncf_mat (f : ℕ → ℕ → ℝ) (h : ψ.bits < φ.bits) : truncf ψ (mat n m φ f) h = mat n m ψ f := rfl

/-- A widening keeps the numbers. -/
theorem extf_mat (f : ℕ → ℕ → ℝ) (h : φ.bits < ψ.bits) : extf ψ (mat n m φ f) h = mat n m ψ f := rfl

/-- A shape cast to the same shape changes nothing. -/
theorem shapeCast_mat (f : ℕ → ℕ → ℝ) (h) :
    shapeCast (⟨2, ![n, m]⟩ : Shape) (mat n m φ f) h = mat n m φ f := by
  funext y
  rw [shapeCast_self]

/-- A column spread over the columns. -/
theorem broadcastTo_col (f : ℕ → ℕ → ℝ) (h) :
    broadcastTo (⟨2, ![n, m]⟩ : Shape) (mat n 1 φ f) h = mat n m φ fun i _ => f i 0 := by
  refine eq_mat fun i j => ?_
  rw [broadcastTo_apply (mat n 1 φ f) h (ix2 i j) (ix2 i (0 : Fin 1)) fun a => ?_]
  · rfl
  · match a with
    | ⟨0, _⟩ =>
      by_cases hn : n = 1
      · subst hn
        have : i = 0 := Subsingleton.elim _ _
        subst this
        exact (if_pos rfl).symm
      · exact (if_neg hn).symm
    | ⟨1, _⟩ => exact (if_pos rfl).symm

/-- One number spread over a matrix. -/
theorem broadcastTo_one (f : ℕ → ℕ → ℝ) (h) :
    broadcastTo (⟨2, ![n, m]⟩ : Shape) (mat 1 1 φ f) h = mat n m φ fun _ _ => f 0 0 := by
  refine eq_mat fun i j => ?_
  rw [broadcastTo_apply (mat 1 1 φ f) h (ix2 i j) (ix2 (0 : Fin 1) (0 : Fin 1)) fun a => ?_]
  · rfl
  · match a with
    | ⟨0, _⟩ => exact (if_pos rfl).symm
    | ⟨1, _⟩ => exact (if_pos rfl).symm

/-- A sum of real numbers over a range, as the extended reals sum it. -/
theorem coe_sum (f : ℕ → ℝ) (K : ℕ) : ∑ k : Fin K, ((f k.val : ℝ) : EReal) = ((∑ k ∈ Finset.range K, f k : ℝ) : EReal) := by
  rw [Finset.sum_range (fun k => f k)]
  exact (map_sum (⟨⟨Real.toEReal, EReal.coe_zero⟩, EReal.coe_add⟩ : ℝ →+ EReal) (fun k : Fin K => f k.val) Finset.univ).symm

/-- `lᵀ · r` is well formed. -/
theorem wfTN (M K N : ℕ) : DotDims.WF ⟨2, ![K, M]⟩ ⟨2, ![K, N]⟩ ⟨2, ![M, N]⟩ [0] [0] [1] [1] [] [] :=
  ⟨rfl, by simp, rfl, by simp, by simp, by simp, by simpa [List.finRange] using List.Perm.swap 0 1 [],
    by simpa [List.finRange] using List.Perm.swap 0 1 [], rfl, Nat.two_pos, fun b => by fin_cases b <;> rfl⟩

/-- The dimension numbers of `lᵀ · r`. -/
def dTN (M K N : ℕ) : DotDims ⟨2, ![K, M]⟩ ⟨2, ![K, N]⟩ ⟨2, ![M, N]⟩ := ⟨[0], [0], [1], [1], [], [], wfTN M K N⟩

/-- The zero matrix a product is accumulated into. -/
abbrev zeros (n m : ℕ) : FVec Ideal ⟨2, ![n, m]⟩ .f32 := constant ⟨2, ![n, m]⟩ .f32 0x00000000#32

section Products
variable {M K N : ℕ}

/-- `l · rᵀ` of real matrices into zero. -/
theorem matmul_nt_mat (f g : ℕ → ℕ → ℝ) :
    FloatOps.matmul (DotDims.transposedRhs M K N) none (mat M K φ f) (mat N K ψ g) (zeros M N)
      = mat M N .f32 fun i j => ∑ d ∈ Finset.range K, f i d * g j d := by
  refine eq_mat fun r c => ?_
  rw [Ideal.matmul_constant_zero_apply, ← Equiv.sum_comp (contrEquiv1 (DotDims.transposedRhs M K N) K rfl rfl).symm, ← coe_sum]
  refine Finset.sum_congr rfl fun k _ => ?_
  have hk := contrEquiv1_symm_val (DotDims.transposedRhs M K N) K rfl rfl k
  rw [mat_apply, mat_apply, ← EReal.coe_mul]
  congr 2 <;> congr 1

/-- `l · r` of real matrices into zero. -/
theorem matmul_nn_mat (f g : ℕ → ℕ → ℝ) :
    FloatOps.matmul (DotDims.plain M K N) none (mat M K φ f) (mat K N ψ g) (zeros M N)
      = mat M N .f32 fun i j => ∑ d ∈ Finset.range K, f i d * g d j := by
  refine eq_mat fun r c => ?_
  rw [Ideal.matmul_constant_zero_apply, ← Equiv.sum_comp (contrEquiv1 (DotDims.plain M K N) K rfl rfl).symm, ← coe_sum]
  refine Finset.sum_congr rfl fun k _ => ?_
  have hk := contrEquiv1_symm_val (DotDims.plain M K N) K rfl rfl k
  rw [mat_apply, mat_apply, ← EReal.coe_mul]
  congr 2 <;> congr 1

/-- `lᵀ · r` of real matrices into zero. -/
theorem matmul_tn_mat (f g : ℕ → ℕ → ℝ) :
    FloatOps.matmul (dTN M K N) none (mat K M φ f) (mat K N ψ g) (zeros M N)
      = mat M N .f32 fun i j => ∑ d ∈ Finset.range K, f d i * g d j := by
  refine eq_mat fun r c => ?_
  rw [Ideal.matmul_constant_zero_apply, ← Equiv.sum_comp (contrEquiv1 (dTN M K N) K rfl rfl).symm, ← coe_sum]
  refine Finset.sum_congr rfl fun k _ => ?_
  have hk := contrEquiv1_symm_val (dTN M K N) K rfl rfl k
  rw [mat_apply, mat_apply, ← EReal.coe_mul]
  congr 2 <;> congr 1

end Products

end Ret
-- ==== Proof.Chunks.lean ====
module

public import Mathlib.Analysis.SpecialFunctions.Log.Basic
public import Mathlib.Analysis.SpecialFunctions.Pow.Real
public import Mathlib.Algebra.BigOperators.Intervals

/-!
The retention over real numbers, chunk by chunk. `fwd` is the causal sum, row i over the rows j ≤ i, and `bwd` the sum
over the rows j ≥ i; either is what a chunk makes of its own rows and of the state the chunks before it (behind it)
leave: `fwd_out`, `fwd_next` and `bwd_out`, `bwd_next`.
-/

@[expose] public section

noncomputable section

open scoped BigOperators
open Finset

namespace Ret

/-- The power γ^(i − j) for j ≤ i, and zero above the diagonal. -/
def low (γ : ℝ) (i j : ℕ) : ℝ := if j ≤ i then γ ^ (i - j) else 0

/-- The product of row i of `q` with row j of `k`, of `w` columns. -/
def score (w : ℕ) (q k : ℕ → ℕ → ℝ) (i j : ℕ) : ℝ := ∑ d ∈ range w, q i d * k j d

/-- The causal sum: row i over the rows j ≤ i of the `S`. -/
def fwd (S w : ℕ) (γ : ℝ) (q k v : ℕ → ℕ → ℝ) (i e : ℕ) : ℝ :=
  ∑ j ∈ range S, score w q k i j * low γ i j * v j e

/-- The reversed sum: row i over the rows j ≥ i of the `S`. -/
def bwd (S w : ℕ) (γ : ℝ) (q k v : ℕ → ℕ → ℝ) (i e : ℕ) : ℝ :=
  ∑ j ∈ range S, score w q k i j * low γ j i * v j e

/-- The forward state in front of row b. -/
def fst (b : ℕ) (γ : ℝ) (k v : ℕ → ℕ → ℝ) (a e : ℕ) : ℝ := ∑ j ∈ range b, k j a * γ ^ (b - 1 - j) * v j e

/-- The reversed state from row b on, of `r` rows. -/
def bst (b r : ℕ) (γ : ℝ) (k v : ℕ → ℕ → ℝ) (a e : ℕ) : ℝ := ∑ j ∈ range r, k (b + j) a * γ ^ j * v (b + j) e

/-- No row, no state. -/
theorem fst_zero (γ : ℝ) (k v : ℕ → ℕ → ℝ) (a e : ℕ) : fst 0 γ k v a e = 0 := rfl
/-- No row, no state. -/
theorem bst_zero (b : ℕ) (γ : ℝ) (k v : ℕ → ℕ → ℝ) (a e : ℕ) : bst b 0 γ k v a e = 0 := rfl

/-- A chunk of C rows carries the forward state on. -/
theorem fwd_next (b C : ℕ) (γ : ℝ) (k v : ℕ → ℕ → ℝ) (a e : ℕ) :
    fst b γ k v a e * γ ^ C + ∑ r ∈ range C, k (b + r) a * γ ^ (C - 1 - r) * v (b + r) e = fst (b + C) γ k v a e := by
  unfold fst
  rw [sum_range_add, sum_mul]
  congr 1
  · refine sum_congr rfl fun j hj => ?_
    have := mem_range.1 hj
    rw [show b + C - 1 - j = (b - 1 - j) + C by omega, pow_add]
    ring
  · refine sum_congr rfl fun r hr => ?_
    rw [show b + C - 1 - (b + r) = C - 1 - r by omega]

/-- A chunk of C rows carries the reversed state on. -/
theorem bwd_next (b C r : ℕ) (γ : ℝ) (k v : ℕ → ℕ → ℝ) (a e : ℕ) :
    bst (b + C) r γ k v a e * γ ^ C + ∑ s ∈ range C, k (b + s) a * γ ^ s * v (b + s) e = bst b (C + r) γ k v a e := by
  unfold bst
  rw [sum_range_add, sum_mul, add_comm]
  congr 1
  refine sum_congr rfl fun j _ => ?_
  rw [pow_add, ← add_assoc]
  ring

/-- The product with a state, written out over the rows. -/
theorem score_state (w n : ℕ) (c : ℕ → ℝ) (k v : ℕ → ℕ → ℝ) (q : ℕ → ℝ) (e : ℕ) :
    ∑ a ∈ range w, q a * ∑ j ∈ range n, k j a * c j * v j e = ∑ j ∈ range n, (∑ a ∈ range w, q a * k j a) * c j * v j e := by
  simp_rw [mul_sum, sum_mul]
  rw [sum_comm]
  refine sum_congr rfl fun j _ => sum_congr rfl fun a _ => by ring

/-- What a chunk of the forward order writes: its own rows' part and the state's. -/
theorem fwd_out (S w b C r e : ℕ) (hr : r < C) (hS : b + C ≤ S) (γ : ℝ) (q k v : ℕ → ℕ → ℝ) :
    (∑ s ∈ range C, score w (fun i => q (b + i)) (fun i => k (b + i)) r s * low γ r s * v (b + s) e)
        + (∑ a ∈ range w, q (b + r) a * fst b γ k v a e) * γ ^ (r + 1)
      = fwd S w γ q k v (b + r) e := by
  obtain ⟨t, rfl⟩ := Nat.exists_eq_add_of_le hS
  unfold fwd fst
  rw [sum_range_add, sum_range_add, score_state, add_comm, sum_mul, sum_eq_zero (s := range t), add_zero]
  · congr 1
    · refine sum_congr rfl fun j hj => ?_
      have := mem_range.1 hj
      rw [low, if_pos (by omega), show b + r - j = (b - 1 - j) + (r + 1) by omega, pow_add]
      unfold score
      ring
    · refine sum_congr rfl fun s _ => ?_
      have : low γ (b + r) (b + s) = low γ r s := by
        unfold low
        rw [Nat.add_sub_add_left]
        simp only [add_le_add_iff_left]
      rw [this]
      rfl
  · intro x _
    rw [low, if_neg (by omega)]
    ring

/-- What a chunk of the reversed order writes. -/
theorem bwd_out (w b C t r e : ℕ) (hr : r < C) (γ : ℝ) (q k v : ℕ → ℕ → ℝ) :
    (∑ s ∈ range C, score w (fun i => q (b + i)) (fun i => k (b + i)) r s * low γ s r * v (b + s) e)
        + (∑ a ∈ range w, q (b + r) a * bst (b + C) t γ k v a e) * γ ^ (C - r)
      = bwd (b + C + t) w γ q k v (b + r) e := by
  unfold bwd bst
  rw [sum_range_add, sum_range_add, sum_eq_zero (s := range b), zero_add]
  · congr 1
    · refine sum_congr rfl fun s _ => ?_
      have : low γ (b + s) (b + r) = low γ s r := by
        unfold low
        rw [Nat.add_sub_add_left]
        simp only [add_le_add_iff_left]
      rw [this]
      rfl
    · rw [score_state w t (fun j => γ ^ j) (fun j => k (b + C + j)) (fun j => v (b + C + j)), sum_mul]
      refine sum_congr rfl fun j _ => ?_
      rw [low, if_pos (by omega), show b + C + j - (b + r) = j + (C - r) by omega, pow_add]
      unfold score
      ring
  · intro x hx
    have := mem_range.1 hx
    rw [low, if_neg (by omega)]
    ring

/-- The decay of head h. -/
def gam (h : ℕ) : ℝ := 1 - (1 / 2) ^ (5 + h)

/-- It is positive. -/
theorem gam_pos (h : ℕ) : 0 < gam h := by
  have : ((1 : ℝ) / 2) ^ (5 + h) < 1 := pow_lt_one₀ (by norm_num) (by norm_num) (by omega)
  unfold gam
  linarith

/-- The exponential of n times the logarithm of the decay is its n-th power. -/
theorem exp_log_gam (h n : ℕ) : Real.exp (Real.log (gam h) * n) = gam h ^ n := by
  rw [mul_comm, Real.exp_nat_mul, Real.exp_log (gam_pos h)]

end Ret
-- ==== Proof.Chunk.lean ====
module

public import proofs.«01_k».proof.Proof.Mat
public import proofs.«01_k».proof.Proof.Chunks
public import Idealize.ShloMosaic.Lib.IdealHost

/-!
One chunk of a retention call: `chunkOut` is the block of rows it stores, `chunkNext` the state it hands on; on real
matrices they are the sums that Chunks.lean puts together. Then the entries of the decay arrays.
-/

@[expose] public section

set_option maxRecDepth 16384

noncomputable section

open scoped BigOperators

namespace Ret

open Idealize.ShloMosaic Idealize.ShloMosaic.ValueIdx

/-- A column broadcasts over the columns. -/
theorem bcCol (n m : ℕ) : (⟨2, ![n, 1]⟩ : Shape).Broadcasts ⟨2, ![n, m]⟩ :=
  ⟨le_rfl, fun a => match a with
    | ⟨0, _⟩ => .inr fun _ => rfl
    | ⟨1, _⟩ => .inl rfl⟩

/-- One number broadcasts over a matrix. -/
theorem bcOne (n m : ℕ) : (⟨2, ![1, 1]⟩ : Shape).Broadcasts ⟨2, ![n, m]⟩ :=
  ⟨le_rfl, fun a => match a with
    | ⟨0, _⟩ => .inl rfl
    | ⟨1, _⟩ => .inl rfl⟩

/-- The rows a chunk stores: the product of its masked and decayed scores with the rows of `v`, and the state's part. -/
def chunkOut (wk wv : ℕ) (dec : FVec Ideal ⟨2, ![256, 256]⟩ .f32) (qd : FVec Ideal ⟨2, ![256, 1]⟩ .f32)
    (q k : FVec Ideal ⟨2, ![256, wk]⟩ .bf16) (v : FVec Ideal ⟨2, ![256, wv]⟩ .bf16)
    (S : FVec Ideal ⟨2, ![wk, wv]⟩ .f32) : FVec Ideal ⟨2, ![256, wv]⟩ .f32 :=
  addf
    (FloatOps.matmul (DotDims.plain 256 256 wv) none
      (truncf .bf16 (mulf (FloatOps.matmul (DotDims.transposedRhs 256 wk 256) none q k (zeros 256 256)) dec) (by decide)) v
      (zeros 256 wv))
    (mulf (FloatOps.matmul (DotDims.plain 256 wk wv) none q (truncf .bf16 S (by decide)) (zeros 256 wv))
      (broadcastTo ⟨2, ![256, wv]⟩ qd (bcCol 256 wv)))

/-- The state a chunk hands on: the old state decayed, and the product of its decayed keys with its values. -/
def chunkNext (wk wv : ℕ) (kd : FVec Ideal ⟨2, ![256, 1]⟩ .f32) (cd : FVec Ideal ⟨2, ![1, 1]⟩ .f32)
    (k : FVec Ideal ⟨2, ![256, wk]⟩ .bf16) (v : FVec Ideal ⟨2, ![256, wv]⟩ .bf16)
    (S : FVec Ideal ⟨2, ![wk, wv]⟩ .f32) : FVec Ideal ⟨2, ![wk, wv]⟩ .f32 :=
  addf (mulf S (broadcastTo ⟨2, ![wk, wv]⟩ cd (bcOne wk wv)))
    (FloatOps.matmul (dTN wk 256 wv) none
      (truncf .bf16 (mulf (extf .f32 k (by decide)) (broadcastTo ⟨2, ![256, wk]⟩ kd (bcCol 256 wk))) (by decide)) v
      (zeros wk wv))

/-- The stored rows on real matrices. -/
theorem chunkOut_mat (wk wv : ℕ) (dec qd q k v S : ℕ → ℕ → ℝ) :
    chunkOut wk wv (mat _ _ _ dec) (mat _ _ _ qd) (mat _ _ _ q) (mat _ _ _ k) (mat _ _ _ v) (mat _ _ _ S)
      = mat 256 wv .f32 fun r e => (∑ s ∈ Finset.range 256, score wk q k r s * dec r s * v s e)
          + (∑ a ∈ Finset.range wk, q r a * S a e) * qd r 0 := by
  unfold chunkOut
  rw [matmul_nt_mat, mulf_mat, truncf_mat, matmul_nn_mat, truncf_mat, matmul_nn_mat, broadcastTo_col, mulf_mat, addf_mat]
  rfl

/-- The next state on real matrices. -/
theorem chunkNext_mat (wk wv : ℕ) (kd cd k v S : ℕ → ℕ → ℝ) :
    chunkNext wk wv (mat _ _ _ kd) (mat _ _ _ cd) (mat _ _ _ k) (mat _ _ _ v) (mat _ _ _ S)
      = mat wk wv .f32 fun a e => S a e * cd 0 0 + ∑ r ∈ Finset.range 256, k r a * kd r 0 * v r e := by
  unfold chunkNext
  rw [broadcastTo_one, mulf_mat, extf_mat, broadcastTo_col, mulf_mat, truncf_mat, matmul_tn_mat, addf_mat]

/-! ## The decay arrays -/

/-- The f32 pattern of 255. -/
theorem ofBits_255 : Ideal.ofBits .f32 0x437F0000#32 = ((255 : ℝ) : EReal) := by
  simp [Ideal.ofBits, Ideal.ieee, -EReal.coe_mul]; norm_num

/-- The f32 pattern of 256. -/
theorem ofBits_256 : Ideal.ofBits .f32 0x43800000#32 = ((256 : ℝ) : EReal) := by
  simp [Ideal.ofBits, Ideal.ieee, -EReal.coe_mul]; norm_num

/-- A small number's word, read signed. -/
theorem toInt_ofNat (a : ℕ) (ha : a < 256) : (BitVec.ofNat 32 a).toInt = a := by
  rw [BitVec.toInt_eq_toNat_of_lt] <;> simp <;> omega

/-- The difference of two small numbers' words, read signed. -/
theorem toInt_sub (a b : ℕ) (ha : a < 256) (hb : b < 256) : (BitVec.ofNat 32 a - BitVec.ofNat 32 b).toInt = (a : ℤ) - b := by
  rw [BitVec.toInt_sub, toInt_ofNat a ha, toInt_ofNat b hb]
  exact Int.bmod_eq_of_le (by omega) (by omega)

/-- An entry of the masked decay: the power of the head's decay below the diagonal, zero above. -/
theorem decay_elem (h a b : ℕ) (ha : a < 256) (hb : b < 256) (w w' : BitVec 32) (hw : w = BitVec.ofNat 32 a)
    (hw' : w' = BitVec.ofNat 32 b) :
    Scalar.select (Ideal.cmp .oge (((w - w').toInt : ℝ) : EReal) (Ideal.ofBits .f32 0x00000000#32))
        (Ideal.exp (((Real.log (gam h) : ℝ) : EReal)
          * max ((((w - w').toInt : ℝ) : EReal)) (Ideal.ofBits .f32 0x00000000#32)))
        (Ideal.ofBits .f32 0x00000000#32)
      = ((low (gam h) a b : ℝ) : EReal) := by
  rw [hw, hw', toInt_sub a b ha hb, Ideal.ofBits_zero_f32]
  unfold low Ideal.cmp
  by_cases hab : b ≤ a
  · have e : (((a : ℤ) - b : ℤ) : ℝ) = ((a - b : ℕ) : ℝ) := by push_cast [Nat.cast_sub hab]; rfl
    rw [e]
    have h0 : (0 : EReal) ≤ (((a - b : ℕ) : ℝ) : EReal) := by exact_mod_cast Nat.zero_le _
    rw [if_pos hab, max_eq_left h0, decide_eq_true h0, ← EReal.coe_mul]
    refine (select_one _ _).trans ?_
    rw [← exp_log_gam]
    rfl
  · rw [if_neg hab]
    have h0 : ¬ (0 : EReal) ≤ ((((a : ℤ) - b : ℤ) : ℝ) : EReal) := by
      rw [not_le]
      exact_mod_cast (by omega : (a : ℤ) - b < 0)
    rw [decide_eq_false h0]
    exact select_zero _ _

/-- The number of a row, from its word. -/
theorem toInt_row (a : ℕ) (ha : a < 256) (w : BitVec 32) (hw : w = BitVec.ofNat 32 a) :
    ((w.toInt : ℝ) : EReal) = ((a : ℝ) : EReal) := by
  rw [hw, toInt_ofNat a ha]
  norm_cast

/-- The exponential of a whole multiple of the logarithm of the head's decay, as the extended reals compute it. -/
theorem exp_elem (h n : ℕ) (x : EReal) (hx : x = ((n : ℝ) : EReal)) :
    Ideal.exp (((Real.log (gam h) : ℝ) : EReal) * x) = ((gam h ^ n : ℝ) : EReal) := by
  rw [hx, ← EReal.coe_mul, ← exp_log_gam]
  rfl

/-! ## A chunk carries the sums on -/

/-- The chunk at row c stores the causal sum's rows. -/
theorem chunkOut_fwd (S wk wv c h : ℕ) (hc : c + 256 ≤ S) (q k v : ℕ → ℕ → ℝ) :
    chunkOut wk wv (mat _ _ _ (low (gam h))) (mat _ _ _ fun r _ => gam h ^ (r + 1)) (mat _ _ _ fun i => q (c + i))
        (mat _ _ _ fun i => k (c + i)) (mat _ _ _ fun i => v (c + i)) (mat _ _ _ (fst c (gam h) k v))
      = mat 256 wv .f32 fun r => fwd S wk (gam h) q k v (c + r) := by
  rw [chunkOut_mat]
  exact mat_congr fun r hr e _ => fwd_out S wk c 256 r e hr hc (gam h) q k v

/-- The chunk at row c carries the forward state on. -/
theorem chunkNext_fwd (wk wv c c' h : ℕ) (hc : c' = c + 256) (k v : ℕ → ℕ → ℝ) :
    chunkNext wk wv (mat _ _ _ fun r _ => gam h ^ (255 - r)) (mat _ _ _ fun _ _ => gam h ^ 256)
        (mat _ _ _ fun i => k (c + i)) (mat _ _ _ fun i => v (c + i)) (mat _ _ _ (fst c (gam h) k v))
      = mat wk wv .f32 (fst c' (gam h) k v) := by
  rw [chunkNext_mat, hc]
  exact mat_congr fun a _ e _ => fwd_next c 256 (gam h) k v a e

/-- The chunk at row c, with t rows behind it, stores the reversed sum's rows. -/
theorem chunkOut_bwd (S wk wv c c' t h : ℕ) (hc : c' = c + 256) (hS : S = c' + t) (q k v : ℕ → ℕ → ℝ) :
    chunkOut wk wv (mat _ _ _ fun i j => low (gam h) j i) (mat _ _ _ fun r _ => gam h ^ (256 - r)) (mat _ _ _ fun i => q (c + i))
        (mat _ _ _ fun i => k (c + i)) (mat _ _ _ fun i => v (c + i)) (mat _ _ _ (bst c' t (gam h) k v))
      = mat 256 wv .f32 fun r => bwd S wk (gam h) q k v (c + r) := by
  rw [chunkOut_mat, hS, hc]
  exact mat_congr fun r hr e _ => bwd_out wk c 256 t r e hr (gam h) q k v

/-- The chunk at row c carries the reversed state on. -/
theorem chunkNext_bwd (wk wv c c' t t' h : ℕ) (hc : c' = c + 256) (ht : t' = 256 + t) (k v : ℕ → ℕ → ℝ) :
    chunkNext wk wv (mat _ _ _ fun r _ => gam h ^ r) (mat _ _ _ fun _ _ => gam h ^ 256)
        (mat _ _ _ fun i => k (c + i)) (mat _ _ _ fun i => v (c + i)) (mat _ _ _ (bst c' t (gam h) k v))
      = mat wk wv .f32 (bst c t' (gam h) k v) := by
  rw [chunkNext_mat, hc, ht]
  exact mat_congr fun a _ e _ => bwd_next c 256 t (gam h) k v a e

end Ret
-- ==== Proof.Blocks.lean ====
module

public import proofs.«01_k».proof.Proof.Chunk
public import Idealize.ShloMosaic.Lib.Pipeline.ReadBack
public import Idealize.ShloMosaic.Lib.WholeRead

/-!
Loads and stores of blocks of rows of a real matrix: a load of 256 rows of a block of 1024, and the block that four
stores of 256 rows leave, in whatever order they were made.
-/

@[expose] public section

set_option maxRecDepth 16384

noncomputable section

namespace Ret

open Idealize.ShloMosaic Idealize.ShloMosaic.ValueIdx Idealize.SL.Sem

variable {n m : ℕ} {φ : FTy}

/-- A load of rows of an array given by a function of two numbers: the rows from the offset on. -/
theorem load_rows {Val : EltTy → Type} {e : EltTy} {sig : RefSig} {κ : Kind} {sp : Space}
    {M : Memref sig κ sp (⟨2, ![n, m]⟩ : Shape) e} (h : M.IsWhole) (g : ℕ → ℕ → Val e) (off k : ℕ)
    (inb : ∀ a, (![off, 0] : Fin 2 → ℕ) a + (![k, m] : Fin 2 → ℕ) a ≤ (⟨2, ![n, m]⟩ : Shape).size a) :
    View.readAt Val M.view (Rect.unit ![off, 0] ![k, m] inb).toLoadRect (h.unread fun y => g (y 0).val (y 1).val)
      = fun y => g (off + (y 0).val) (y 1).val := by
  funext y
  rw [h.readAt_unread]
  congr 1
  · show off + 1 * (y 0).val = off + (y 0).val
    rw [one_mul]
  · show 0 + 1 * (y 1).val = (y 1).val
    rw [one_mul, zero_add]

/-- A load of rows of a block that starts at row b of a real matrix. -/
theorem load_bf16 {sig : RefSig} {κ : Kind} {sp : Space} {M : Memref sig κ sp (⟨2, ![n, m]⟩ : Shape) .bf16} (h : M.IsWhole)
    (f : ℕ → ℕ → ℝ) (b off k : ℕ) (inb : ∀ a, (![off, 0] : Fin 2 → ℕ) a + (![k, m] : Fin 2 → ℕ) a ≤ (⟨2, ![n, m]⟩ : Shape).size a) :
    View.readAt (Elt Ideal) M.view (Rect.unit ![off, 0] ![k, m] inb).toLoadRect (h.unread (mat n m .bf16 fun i => f (b + i)))
      = mat k m .bf16 fun i => f (b + off + i) := by
  refine (load_rows (Val := Elt Ideal) (e := .bf16) h (fun i j => ((f (b + i) j : ℝ) : EReal)) off k inb).trans ?_
  funext y
  simp only [← Nat.add_assoc]
  rfl

/-- A load of a whole array. -/
theorem load_whole {sig : RefSig} {κ : Kind} {sp : Space} {M : Memref sig κ sp (⟨2, ![n, m]⟩ : Shape) .f32} (h : M.IsWhole)
    (f : ℕ → ℕ → ℝ) (inb : ∀ a, (![0, 0] : Fin 2 → ℕ) a + (![n, m] : Fin 2 → ℕ) a ≤ (⟨2, ![n, m]⟩ : Shape).size a) :
    View.readAt (Elt Ideal) M.view (Rect.unit ![0, 0] ![n, m] inb).toLoadRect (h.unread (mat n m .f32 f)) = mat n m .f32 f := by
  refine (load_rows (Val := Elt Ideal) (e := .f32) h (fun i j => ((f i j : ℝ) : EReal)) 0 n inb).trans ?_
  simp only [Nat.zero_add]
  rfl

/-- Rows of a real matrix, as the piece of it they are. -/
theorem piece_mat (f : ℕ → ℕ → ℝ) (b off k : ℕ)
    (inb : ∀ a, (![off, 0] : Fin 2 → ℕ) a + (![k, m] : Fin 2 → ℕ) a ≤ (⟨2, ![n, m]⟩ : Shape).size a)
    (x : (Rect.unit (s := (⟨2, ![n, m]⟩ : Shape)) ![off, 0] ![k, m] inb).shape.Idx) :
    mat k m φ (fun i => f (b + off + i)) x = mat n m φ (fun i => f (b + i)) ((Rect.unit ![off, 0] ![k, m] inb).emb x) := by
  rw [mat_apply, mat_apply]
  congr 2
  · show b + off + (x 0).val = b + (off + 1 * (x 0).val)
    omega
  · show (x 1).val = 0 + 1 * (x 1).val
    omega

end Ret
-- ==== Proof.DqChunk.lean ====
module

public import proofs.«01_k».proof.Proof.Gen.DqIdeal.Value
public import proofs.«01_k».proof.Proof.Blocks

/-!
The gradient of q, a grid point at a time: what the point's body leaves in its output block and in the state, its blocks
being rows of real matrices.
-/

@[expose] public section

set_option maxRecDepth 16384

noncomputable section

namespace Cert.DqIdeal.Chunk

open Cert.DqIdeal Cert.DqIdeal.Gen Idealize.ShloMosaic Idealize.ShloMosaic.TcCoe Idealize.ShloMosaic.ValueIdx Idealize.SL.Sem Ret

variable (i : grid0.Coords)

/-- The logarithm of the head's decay. -/
theorem log_g : k0_pay3 (F := Ideal) i = ((Real.log (gam (i 0).val) : ℝ) : EReal) := by
  have hi : (i 0).val < 4 := (i 0).isLt
  unfold k0_pay3
  generalize (i 0).val = h at hi
  interval_cases h <;> simp only [gam] <;> norm_num <;> rfl

/-- The masked decay of a chunk. -/
theorem decay : k0_pay4 (F := Ideal) i = mat 256 256 .f32 (low (gam (i 0).val)) := by
  refine eq_mat fun a b => ?_
  rw [← decay_elem (i 0).val a.val b.val a.isLt b.isLt _ _ (iota_single_apply .tc S256x256 32 0 iota_S256x256_d0_w32 (ix2 a b))
    (iota_single_apply .tc S256x256 32 1 iota_S256x256_d1_w32 (ix2 a b)), ← log_g i]
  rfl

/-- The decay of the queries of a chunk. -/
theorem q_decay : k0_pay6 (F := Ideal) i = mat 256 1 .f32 fun r _ => gam (i 0).val ^ (r + 1) := by
  refine eq_mat fun a b => ?_
  refine Eq.trans ?_ (exp_elem (i 0).val (a.val + 1)
    ((((iota .tc S256x1 32 [0] iota_S256x1_d0_w32 (ix2 a b)).toInt : ℝ) : EReal) + Ideal.ofBits .f32 0x3F800000#32) ?_)
  · rw [← log_g i]
    rfl
  · rw [toInt_row a.val a.isLt _ (iota_single_apply .tc S256x1 32 0 iota_S256x1_d0_w32 (ix2 a b)), Ideal.ofBits_one_f32]
    norm_cast

/-- The decay of the keys of a chunk. -/
theorem k_decay : k0_pay7 (F := Ideal) i = mat 256 1 .f32 fun r _ => gam (i 0).val ^ (255 - r) := by
  refine eq_mat fun a b => ?_
  refine Eq.trans ?_ (exp_elem (i 0).val (255 - a.val)
    (Ideal.ofBits .f32 0x437F0000#32 - (((iota .tc S256x1 32 [0] iota_S256x1_d0_w32 (ix2 a b)).toInt : ℝ) : EReal)) ?_)
  · rw [← log_g i]
    rfl
  · rw [toInt_row a.val a.isLt _ (iota_single_apply .tc S256x1 32 0 iota_S256x1_d0_w32 (ix2 a b)), ofBits_255, ← EReal.coe_sub]
    congr 1
    rw [Nat.cast_sub (by omega)]
    norm_num

/-- The decay of the state over a chunk. -/
theorem chunk_decay : k0_pay8 (F := Ideal) i = mat 1 1 .f32 fun _ _ => gam (i 0).val ^ 256 := by
  refine eq_mat fun a b => ?_
  refine Eq.trans ?_ (exp_elem (i 0).val 256 (Ideal.ofBits .f32 0x43800000#32) ?_)
  · rw [← log_g i]
    rfl
  · rw [ofBits_256]
    norm_num

section Chunks

variable (dec : FVec Ideal S256x256 .f32) (qd kd : FVec Ideal S256x1 .f32) (cd : FVec Ideal S1x1 .f32)
  (q k : FVec Ideal S256x512 .bf16) (v : FVec Ideal S256x256 .bf16) (S : FVec Ideal S512x256 .f32)

/-- The first chunk's rows … -/
theorem out1 : k0_pay10 dec qd q k v S = chunkOut 512 256 dec qd q k v S := rfl
/-- … the second's … -/
theorem out2 : k0_pay14 qd q (k0_pay13 dec q k v) S = chunkOut 512 256 dec qd q k v S := rfl
/-- … the third's … -/
theorem out3 : k0_pay17 dec qd q k v S = chunkOut 512 256 dec qd q k v S := rfl
/-- … and the fourth's. -/
theorem out4 : k0_pay21 dec qd q k v S = chunkOut 512 256 dec qd q k v S := rfl
/-- The state after the first chunk … -/
theorem next1 : k0_pay11 kd cd k v S = chunkNext 512 256 kd cd k v S := (shapeCast_self _ _).trans rfl
/-- … after the second … -/
theorem next2 : k0_pay15 kd cd (k0_pay12 k) v S = chunkNext 512 256 kd cd k v S := (shapeCast_self _ _).trans rfl
/-- … after the third … -/
theorem next3 : k0_pay19 cd (k0_pay16 k) v (k0_pay18 kd) S = chunkNext 512 256 kd cd k v S := (shapeCast_self _ _).trans rfl
/-- … and after the fourth. -/
theorem next4 : k0_pay1 (k0_pay22 kd cd k v S) = chunkNext 512 256 kd cd k v S := (shapeCast_self _ _).trans rfl

end Chunks

/-! ## A grid point -/

section Point

variable (c : Dev nD) (arg2 : Memref sig .tc .vmem S1024x512 .bf16) (harg2 : arg2.IsWhole)
  (arg3 : Memref sig .tc .vmem S1024x512 .bf16) (harg3 : arg3.IsWhole) (arg4 : Memref sig .tc .vmem S1024x256 .bf16)
  (harg4 : arg4.IsWhole) (arg5 : Memref sig .tc .vmem S1024x256 .f32) (harg5 : arg5.IsWhole)
  (arg6 : Memref sig .tc .vmem S512x256 .f32) (harg6 : arg6.IsWhole) (q k v : ℕ → ℕ → ℝ) (b : ℕ)

/-- The rows of a block that starts at row b. -/
abbrev qB : Vec Ideal S1024x512 .bf16 := mat 1024 512 .bf16 fun i => q (b + i)
@[inherit_doc qB]
abbrev vB : Vec Ideal S1024x256 .bf16 := mat 1024 256 .bf16 fun i => v (b + i)
/-- The state in front of row b. -/
abbrev sB (h : ℕ) : Vec Ideal S512x256 .f32 := mat 512 256 .f32 (fst b (gam h) k v)
/-- The causal sum's rows from row b on. -/
abbrev oB (h : ℕ) : Vec Ideal S1024x256 .f32 := mat 1024 256 .f32 fun r => fwd 2048 512 (gam h) q k v (b + r)

section B
variable (hc0 : ¬cond0_0 i)

/-- The state the second chunk reads. -/
theorem state1_B : kernelRun0_B.sl.v73 c i arg3 harg3 arg4 harg4 arg6 harg6 (qB k b) (vB v b) (sB k v b (i 0).val)
    = sB k v (b + 256) (i 0).val := by
  delta kernelRun0_B.sl.v73 kernelRun0_B.sl.HS0_1
  rw [View.readCov_cons_toLoadRect, next1, k_decay, chunk_decay, load_bf16, load_bf16, load_whole]
  exact chunkNext_fwd 512 256 _ _ _ rfl k v

/-- The state the third chunk reads. -/
theorem state2_B : kernelRun0_B.sl.v100 c i arg3 harg3 arg4 harg4 arg6 harg6 (qB k b) (vB v b) (sB k v b (i 0).val)
    = sB k v (b + 512) (i 0).val := by
  delta kernelRun0_B.sl.v100 kernelRun0_B.sl.HS0_2 kernelRun0_B.sl.r_2 kernelRun0_B.sl.r_3
  rw [View.readCov_cons_toLoadRect, next2, k_decay, chunk_decay, load_bf16, load_bf16, state1_B]
  exact chunkNext_fwd 512 256 _ _ _ (Nat.add_assoc b 256 256).symm k v

/-- The state the fourth chunk reads. -/
theorem state3_B : kernelRun0_B.sl.v127 c i arg3 harg3 arg4 harg4 arg6 harg6 (qB k b) (vB v b) (sB k v b (i 0).val)
    = sB k v (b + 768) (i 0).val := by
  delta kernelRun0_B.sl.v127 kernelRun0_B.sl.HS0_3 kernelRun0_B.sl.r_5 kernelRun0_B.sl.r_6 kernelRun0_B.sl.r_7
  rw [View.readCov_cons_toLoadRect, next3, k_decay, chunk_decay, load_bf16, load_bf16, state2_B]
  exact chunkNext_fwd 512 256 _ _ _ (Nat.add_assoc b 512 256).symm k v

/-- The state a point that carries one leaves. -/
theorem sout_B : sout0_B_0 c i arg2 harg2 arg3 harg3 arg4 harg4 arg5 harg5 arg6 harg6 hc0 (qB q b) (qB k b) (vB v b) (sB k v b (i 0).val)
    = sB k v (b + 1024) (i 0).val := by
  unfold sout0_B_0
  rw [View.read_writes_junk_eq_canon]
  delta kernelRun0_B
  dsimp only
  rw [View.canon_cons_unit_zero (by funext a; fin_cases a <;> rfl)]
  delta kernelRun0_B.sl.r_8
  rw [next4, k_decay, chunk_decay, load_bf16, load_bf16, state3_B]
  exact chunkNext_fwd 512 256 _ _ _ (Nat.add_assoc b 768 256).symm k v

/-- The rows a point that carries a state stores. -/
theorem out_B (hb : b + 1024 ≤ 2048) :
    out0_B_3 c i arg2 harg2 arg3 harg3 arg4 harg4 arg5 harg5 arg6 harg6 hc0 (qB q b) (qB k b) (vB v b) (sB k v b (i 0).val)
      = oB q k v b (i 0).val := by
  funext y
  unfold out0_B_3
  rw [View.read_writes_junk_eq_canon]
  refine View.canon_apply_of_pieces _ _ (View.PiecesOf.mem ?_) y (cover0_B_3 ..)
  delta kernelRun0_B
  dsimp only
  refine ⟨fun x => ?_, fun x => ?_, fun x => ?_, fun x => ?_, trivial⟩
  · dsimp only
    rw [out4, decay, q_decay, load_bf16, load_bf16, load_bf16, state3_B, chunkOut_fwd 2048 _ _ _ _ (by omega)]
    exact piece_mat _ b 768 256 _ x
  · dsimp only
    rw [out3, decay, q_decay, load_bf16, load_bf16, load_bf16, state2_B, chunkOut_fwd 2048 _ _ _ _ (by omega)]
    exact piece_mat _ b 512 256 _ x
  · dsimp only
    delta kernelRun0_B.sl.r_1 kernelRun0_B.sl.r_4
    rw [out2, decay, q_decay, load_bf16, load_bf16, load_bf16, state1_B, chunkOut_fwd 2048 _ _ _ _ (by omega)]
    exact piece_mat _ b 256 256 _ x
  · dsimp only
    delta kernelRun0_B.sl.r
    rw [out1, decay, q_decay, load_bf16, load_bf16, load_bf16, load_whole]
    refine (congrFun (chunkOut_fwd 2048 512 256 (b + 0) _ (by omega) q k v) x).trans ?_
    exact piece_mat _ b 0 256 _ x

end B

section A
variable (hc0 : cond0_0 i)

/-- The state the first chunk reads: zero. -/
theorem state0_A : kernelRun0_A.sl.v46 (F := Ideal) c arg6 = sB k v 0 (i 0).val := by
  delta kernelRun0_A.sl.v46 kernelRun0_A.sl.HS0_1
  rw [View.readCov_cons_toLoadRect]
  refine (shapeCast_self _ _).trans (eq_mat fun a e => ?_)
  exact Ideal.ofBits_zero_f32

/-- The state the second chunk reads. -/
theorem state1_A : kernelRun0_A.sl.v73 c i arg3 harg3 arg4 harg4 arg6 (qB k 0) (vB v 0)
    = sB k v (256) (i 0).val := by
  delta kernelRun0_A.sl.v73 kernelRun0_A.sl.HS0_2
  rw [View.readCov_cons_toLoadRect, next1, k_decay, chunk_decay, load_bf16, load_bf16, state0_A]
  exact chunkNext_fwd 512 256 _ _ _ rfl k v

/-- The state the third chunk reads. -/
theorem state2_A : kernelRun0_A.sl.v100 c i arg3 harg3 arg4 harg4 arg6 (qB k 0) (vB v 0)
    = sB k v (512) (i 0).val := by
  delta kernelRun0_A.sl.v100 kernelRun0_A.sl.HS0_3 kernelRun0_A.sl.r_2 kernelRun0_A.sl.r_3
  rw [View.readCov_cons_toLoadRect, next2, k_decay, chunk_decay, load_bf16, load_bf16, state1_A]
  exact chunkNext_fwd 512 256 _ _ _ (Nat.add_assoc 0 256 256).symm k v

/-- The state the fourth chunk reads. -/
theorem state3_A : kernelRun0_A.sl.v127 c i arg3 harg3 arg4 harg4 arg6 (qB k 0) (vB v 0)
    = sB k v (768) (i 0).val := by
  delta kernelRun0_A.sl.v127 kernelRun0_A.sl.HS0_4 kernelRun0_A.sl.r_5 kernelRun0_A.sl.r_6 kernelRun0_A.sl.r_7
  rw [View.readCov_cons_toLoadRect, next3, k_decay, chunk_decay, load_bf16, load_bf16, state2_A]
  exact chunkNext_fwd 512 256 _ _ _ (Nat.add_assoc 0 512 256).symm k v

/-- The state a point that starts a head leaves. -/
theorem sout_A : sout0_A_0 c i arg2 harg2 arg3 harg3 arg4 harg4 arg5 harg5 arg6 harg6 hc0 (qB q 0) (qB k 0) (vB v 0)
    = sB k v (1024) (i 0).val := by
  unfold sout0_A_0
  rw [View.read_writes_junk_eq_canon]
  delta kernelRun0_A
  dsimp only
  rw [View.canon_cons_unit_zero (by funext a; fin_cases a <;> rfl)]
  delta kernelRun0_A.sl.r_8
  rw [next4, k_decay, chunk_decay, load_bf16, load_bf16, state3_A]
  exact chunkNext_fwd 512 256 _ _ _ (Nat.add_assoc 0 768 256).symm k v

/-- The rows a point that starts a head stores. -/
theorem out_A :
    out0_A_3 c i arg2 harg2 arg3 harg3 arg4 harg4 arg5 harg5 arg6 harg6 hc0 (qB q 0) (qB k 0) (vB v 0)
      = oB q k v 0 (i 0).val := by
  funext y
  unfold out0_A_3
  rw [View.read_writes_junk_eq_canon]
  refine View.canon_apply_of_pieces _ _ (View.PiecesOf.mem ?_) y (cover0_A_3 ..)
  delta kernelRun0_A
  dsimp only
  refine ⟨fun x => ?_, fun x => ?_, fun x => ?_, fun x => ?_, trivial⟩
  · dsimp only
    rw [out4, decay, q_decay, load_bf16, load_bf16, load_bf16, state3_A, chunkOut_fwd 2048 _ _ _ _ (by omega)]
    exact piece_mat _ 0 768 256 _ x
  · dsimp only
    rw [out3, decay, q_decay, load_bf16, load_bf16, load_bf16, state2_A, chunkOut_fwd 2048 _ _ _ _ (by omega)]
    exact piece_mat _ 0 512 256 _ x
  · dsimp only
    delta kernelRun0_A.sl.r_1 kernelRun0_A.sl.r_4
    rw [out2, decay, q_decay, load_bf16, load_bf16, load_bf16, state1_A, chunkOut_fwd 2048 _ _ _ _ (by omega)]
    exact piece_mat _ 0 256 256 _ x
  · dsimp only
    delta kernelRun0_A.sl.r
    rw [out1, decay, q_decay, load_bf16, load_bf16, load_bf16, state0_A]
    refine (congrFun (chunkOut_fwd 2048 512 256 (0 + 0) _ (by omega) q k v) x).trans ?_
    exact piece_mat _ 0 0 256 _ x

end A

end Point

end Cert.DqIdeal.Chunk
-- ==== Proof.DqValue.lean ====
module

public import proofs.«01_k».proof.Proof.DqChunk

/-!
The gradient of q, the whole call: the blocks the grid points read, the state carried from a head's first point to its
second, and the array the call leaves.
-/

@[expose] public section

set_option maxRecDepth 16384

noncomputable section

namespace Cert.DqIdeal.Whole

open Cert.DqIdeal Cert.DqIdeal.Gen Cert.DqIdeal.Value Cert.DqIdeal.Chunk Idealize.ShloMosaic Idealize.ShloMosaic.TcCoe
  Idealize.ShloMosaic.ValueIdx Idealize.SL.Sem Ret

variable (m : (ℓ : Loc nD τ sig) → Buf (Elt Ideal) ℓ) (c : Dev nD) (k p dy : ℕ → ℕ → ℝ)

/-- The blocks' places: head t / 2, block of rows t % 2. -/
theorem index_0 : ∀ t : Fin cfg0.N, win0_0.index t = ![t.val % 2, t.val / 2] := by decide +kernel
@[inherit_doc index_0]
theorem index_1 : ∀ t : Fin cfg0.N, win0_1.index t = ![t.val % 2, 4 + t.val / 2] := by decide +kernel
@[inherit_doc index_0]
theorem index_2 : ∀ t : Fin cfg0.N, win0_2.index t = ![t.val % 2, t.val / 2] := by decide +kernel
/-- The head of a point. -/
theorem coord : ∀ t : Fin cfg0.N, ((grid0.coords t) 0).val = t.val / 2 := by decide +kernel

/-- Head h's columns of a matrix, w of them. -/
abbrev head (w h : ℕ) (f : ℕ → ℕ → ℝ) : ℕ → ℕ → ℝ := fun r d => f r (w * h + d)

/-- The incoming gradient's block at a point: its rows and its head's columns. -/
theorem blk_dy (hdy : ∀ y : S2048x2048.Idx, m ((c : Thread nD τ).loc main_arg2) y = ((dy (y 0).val (y 1).val : ℝ) : EReal))
    (t : Fin cfg0.N) : iblk m c 0 t = (qB (head 512 (t.val / 2) dy) (1024 * (t.val % 2)) : FVec Ideal ⟨2, ![1024, 512]⟩ .bf16) := by
  unfold iblk
  funext y
  rw [View.read_apply]
  refine (hdy _).trans (?_ : ((dy (win0_0.index t 0 * 1024 + 1 * (y 0).val) (win0_0.index t 1 * 512 + 1 * (y 1).val) : ℝ) : EReal)
    = ((dy (1024 * (t.val % 2) + (y 0).val) (512 * (t.val / 2) + (y 1).val) : ℝ) : EReal))
  rw [index_0]
  simp only [Matrix.cons_val_zero, Matrix.cons_val_one, one_mul, mul_comm]

/-- The values' block at a point. -/
theorem blk_v (hp : ∀ y : S2048x6144.Idx, 2048 ≤ (y 1).val → (y 1).val < 4096 →
      m ((c : Thread nD τ).loc main_arg1) y = ((p (y 0).val ((y 1).val - 2048) : ℝ) : EReal))
    (t : Fin cfg0.N) : iblk m c 1 t = (qB (head 512 (t.val / 2) p) (1024 * (t.val % 2)) : FVec Ideal ⟨2, ![1024, 512]⟩ .bf16) := by
  have ht : t.val < 8 := t.isLt
  unfold iblk
  funext y
  have hy : (y 1).val < 512 := idx2_lt1 (n0 := 1024) (n1 := 512) y
  rw [View.read_apply]
  have e : win0_1.index t 1 * 512 + 1 * (y 1).val = 2048 + (512 * (t.val / 2) + (y 1).val) := by
    rw [index_1]
    simp only [Matrix.cons_val_one, Matrix.cons_val_zero]
    omega
  refine (hp _ (e ▸ Nat.le_add_right _ _ : 2048 ≤ win0_1.index t 1 * 512 + 1 * (y 1).val)
    (by rw [e]; omega : win0_1.index t 1 * 512 + 1 * (y 1).val < 4096)).trans
    (?_ : ((p (win0_1.index t 0 * 1024 + 1 * (y 0).val) (win0_1.index t 1 * 512 + 1 * (y 1).val - 2048) : ℝ) : EReal)
    = ((p (1024 * (t.val % 2) + (y 0).val) (512 * (t.val / 2) + (y 1).val) : ℝ) : EReal))
  rw [e, index_1, Nat.add_sub_cancel_left]
  simp only [Matrix.cons_val_zero, one_mul, mul_comm]

/-- The keys' block at a point. -/
theorem blk_k (hk : ∀ y : S2048x1024.Idx, m ((c : Thread nD τ).loc main_arg0) y = ((k (y 0).val (y 1).val : ℝ) : EReal))
    (t : Fin cfg0.N) : iblk m c 2 t = (vB (head 256 (t.val / 2) k) (1024 * (t.val % 2)) : FVec Ideal ⟨2, ![1024, 256]⟩ .bf16) := by
  unfold iblk
  funext y
  rw [View.read_apply]
  refine (hk _).trans (?_ : ((k (win0_2.index t 0 * 1024 + 1 * (y 0).val) (win0_2.index t 1 * 256 + 1 * (y 1).val) : ℝ) : EReal)
    = ((k (1024 * (t.val % 2) + (y 0).val) (256 * (t.val / 2) + (y 1).val) : ℝ) : EReal))
  rw [index_2]
  simp only [Matrix.cons_val_zero, Matrix.cons_val_one, one_mul, mul_comm]

section
variable (hk : ∀ y : S2048x1024.Idx, m ((c : Thread nD τ).loc main_arg0) y = ((k (y 0).val (y 1).val : ℝ) : EReal))
  (hp : ∀ y : S2048x6144.Idx, 2048 ≤ (y 1).val → (y 1).val < 4096 →
      m ((c : Thread nD τ).loc main_arg1) y = ((p (y 0).val ((y 1).val - 2048) : ℝ) : EReal))
  (hdy : ∀ y : S2048x2048.Idx, m ((c : Thread nD τ).loc main_arg2) y = ((dy (y 0).val (y 1).val : ℝ) : EReal))
include hk hp hdy

/-- A head's first point leaves the first 1024 rows' gradient and the state after them. -/
theorem first (t : Fin cfg0.N) (h0 : t.val % 2 = 0) : outsAt0 m c t.val t.isLt
    = (oB (head 512 (t.val / 2) dy) (head 512 (t.val / 2) p) (head 256 (t.val / 2) k) 0 (t.val / 2),
      sB (head 512 (t.val / 2) p) (head 256 (t.val / 2) k) 1024 (t.val / 2)) := by
  rw [outsAt0_A m c t h0, blk_dy m c dy hdy, blk_v m c p hp, blk_k m c k hk, show 1024 * (t.val % 2) = 0 by omega, out_A, sout_A, coord]

/-- A head's second point leaves the last 1024 rows' gradient. -/
theorem second (t : Fin cfg0.N) (h0 : ¬ t.val % 2 = 0) : (outsAt0 m c t.val t.isLt).1
    = oB (head 512 (t.val / 2) dy) (head 512 (t.val / 2) p) (head 256 (t.val / 2) k) 1024 (t.val / 2) := by
  have e : (t.val - 1) / 2 = t.val / 2 := by omega
  have hf := first m c k p dy hk hp hdy ⟨t.val - 1, Nat.lt_of_le_of_lt (Nat.sub_le _ _) t.isLt⟩ (show (t.val - 1) % 2 = 0 by omega)
  simp only [e] at hf
  rw [outsAt0_B m c t h0, hf, blk_dy m c dy hdy, blk_v m c p hp, blk_k m c k hk,
    show 1024 * (t.val % 2) = 1024 by omega]
  simp only [← coord t]
  exact out_B _ _ _ _ _ _ _ _ _ _ _ _ _ _ _ _ _ (show 1024 + 1024 ≤ 2048 by omega)

/-- What a point leaves, at either. -/
theorem point (t : Fin cfg0.N) : (outsAt0 m c t.val t.isLt).1
    = oB (head 512 (t.val / 2) dy) (head 512 (t.val / 2) p) (head 256 (t.val / 2) k) (1024 * (t.val % 2)) (t.val / 2) := by
  by_cases h0 : t.val % 2 = 0
  · rw [first m c k p dy hk hp hdy t h0, h0]
  · rw [second m c k p dy hk hp hdy t h0, show t.val % 2 = 1 by omega]

/-- The array the call leaves: in each head's columns the decayed retention of the incoming gradient, the values and the
    keys. -/
theorem result : G3 m c = (mat 2048 1024 .f32 fun i j => fwd 2048 512 (gam (j / 256)) (head 512 (j / 256) dy) (head 512 (j / 256) p)
    (head 256 (j / 256) k) i (j % 256) : FVec Ideal S2048x1024 .f32) := by
  funext y
  have h0 : (y 0).val < 2048 := idx2_lt0 (n0 := 2048) (n1 := 1024) y
  have h1 : (y 1).val < 1024 := idx2_lt1 (n0 := 2048) (n1 := 1024) y
  have e : pt3Of y = (y 0).val / 1024 + 2 * ((y 1).val / 256) := by
    show 1 * ((y 0).val / 1024 - 0) + 2 * ((y 1).val / 256 - 0) = _
    omega
  have hN : pt3Of y < cfg0.N := by
    rw [e]
    show _ < 8
    omega
  unfold G3
  rw [dif_pos hN, ← outsAt0_sweep m c (pt3Of y) hN, point m c k p dy hk hp hdy ⟨pt3Of y, hN⟩]
  have e1 : pt3Of y / 2 = (y 1).val / 256 := by omega
  have e2 : pt3Of y % 2 = (y 0).val / 1024 := by omega
  simp only [e1, e2]
  show ((fwd 2048 512 _ _ _ _ (1024 * ((y 0).val / 1024) + (y 0).val % 1024) ((y 1).val % 256) : ℝ) : EReal) = _
  rw [Nat.div_add_mod]
  rfl

end

end Cert.DqIdeal.Whole
-- ==== Proof.RefParts.lean ====
module

public import proofs.«01_k».proof.Proof.Chunk
public import Idealize.ShloMosaic.Lib.IdealHost

/-!
What the reference's lines compute entry by entry: the head's decay, the masked decay of the whole sequence, and the sums
over all pairs of rows.
-/

@[expose] public section

set_option maxRecDepth 16384

noncomputable section

open scoped BigOperators

namespace Ret

open Idealize.ShloMosaic Idealize.ShloMosaic.ValueIdx

/-- Equal places of a matrix hold equal numbers. -/
theorem congr2 (f : ℕ → ℕ → ℝ) {a a' b b' : ℕ} (ha : a = a') (hb : b = b') :
    ((f a b : ℝ) : EReal) = ((f a' b' : ℝ) : EReal) := by rw [ha, hb]

/-- A small number's word, read signed. -/
theorem toInt_word (a : ℕ) (ha : a < 4096) : (((BitVec.ofNat 32 a).toInt : ℝ) : EReal) = ((a : ℝ) : EReal) := by
  have : (BitVec.ofNat 32 a).toInt = a := by rw [BitVec.toInt_eq_toNat_of_lt] <;> simp <;> omega
  rw [this]
  norm_cast

/-- The words of 1, 2 and -5. -/
theorem ofBits_two : Ideal.ofBits .f32 0x40000000#32 = ((2 : ℝ) : EReal) := by
  simp [Ideal.ofBits, Ideal.ieee]
  rw [← EReal.coe_mul]
  norm_num
@[inherit_doc ofBits_two]
theorem ofBits_neg_five : Ideal.ofBits .f32 0xC0A00000#32 = ((-5 : ℝ) : EReal) := by
  simp [Ideal.ofBits, Ideal.ieee]
  rw [← EReal.coe_mul]
  norm_num
@[inherit_doc ofBits_two]
theorem ofBits_one : Ideal.ofBits .f32 0x3F800000#32 = ((1 : ℝ) : EReal) := by
  rw [Ideal.ofBits_one_f32]
  rfl

/-- The logarithm of head h's decay. -/
theorem log_elem (h : ℕ) (hh : h < 4096) :
    Ideal.log (Ideal.ofBits .f32 0x3F800000#32 - Ideal.pow (Ideal.ofBits .f32 0x40000000#32)
      (Ideal.ofBits .f32 0xC0A00000#32 - (((BitVec.ofNat 32 h).toInt : ℝ) : EReal))) = ((Real.log (gam h) : ℝ) : EReal) := by
  rw [toInt_word h hh, ofBits_two, ofBits_neg_five, ofBits_one, ← EReal.coe_sub]
  have e : Ideal.pow ((2 : ℝ) : EReal) ((-5 - (h : ℝ) : ℝ) : EReal) = (((1 / 2) ^ (5 + h) : ℝ) : EReal) := by
    show ((Real.rpow 2 (-5 - (h : ℝ)) : ℝ) : EReal) = _
    congr 1
    show (2 : ℝ) ^ (-5 - (h : ℝ)) = _
    rw [show (-5 - (h : ℝ)) = -((5 + h : ℕ) : ℝ) by push_cast; ring, Real.rpow_neg (by norm_num), Real.rpow_natCast,
      one_div, inv_pow]
  rw [e, ← EReal.coe_sub]
  show (if gam h ≤ 0 then ⊥ else ((Real.log (gam h) : ℝ) : EReal)) = _
  rw [if_neg (not_le.mpr (gam_pos h))]

/-- An entry of the masked decay of the whole sequence. -/
theorem decay_ref (h a b : ℕ) :
    Scalar.select (Ideal.cmp .oge (((a : ℝ) : EReal) - ((b : ℝ) : EReal)) (Ideal.ofBits .f32 0x00000000#32))
        (Ideal.exp (((Real.log (gam h) : ℝ) : EReal)
          * max (((a : ℝ) : EReal) - ((b : ℝ) : EReal)) (Ideal.ofBits .f32 0x00000000#32)))
        (Ideal.ofBits .f32 0x00000000#32)
      = ((low (gam h) a b : ℝ) : EReal) := by
  rw [← EReal.coe_sub, Ideal.ofBits_zero_f32]
  unfold low Ideal.cmp
  by_cases hab : b ≤ a
  · rw [← Nat.cast_sub hab]
    have h0 : (0 : EReal) ≤ (((a - b : ℕ) : ℝ) : EReal) := by exact_mod_cast Nat.zero_le _
    rw [if_pos hab, max_eq_left h0, decide_eq_true h0]
    exact (select_one _ _).trans (exp_elem h _ _ rfl)
  · rw [if_neg hab]
    have h0 : ¬ (0 : EReal) ≤ (((a : ℝ) - (b : ℝ) : ℝ) : EReal) := by
      rw [not_le]
      exact_mod_cast (sub_neg.mpr (Nat.cast_lt.mpr (not_le.mp hab)) : (a : ℝ) - (b : ℝ) < 0)
    rw [decide_eq_false h0]
    exact select_zero _ _

/-- A sum of products of real numbers, as the extended reals add it up. -/
theorem sum_elem (n : ℕ) (l r : Fin n → EReal) (f g : ℕ → ℝ) (hl : ∀ k, l k = ((f k.val : ℝ) : EReal))
    (hr : ∀ k, r k = ((g k.val : ℝ) : EReal)) :
    ∑ k : Fin n, l k * r k = ((∑ k ∈ Finset.range n, f k * g k : ℝ) : EReal) := by
  rw [← coe_sum]
  exact Finset.sum_congr rfl fun k _ => by rw [hl, hr, EReal.coe_mul]

end Ret
-- ==== Proof.RefDq.lean ====
module

public import proofs.«01_k».proof.Proof.RefParts
public import proofs.«01_k».proof.Proof.Gen.RefDqIdeal.Read

/-!
The reference's gradient of q, entry by entry: over real arguments it is the decayed retention of the incoming gradient,
the values and the keys.
-/

@[expose] public section

set_option maxRecDepth 16384

noncomputable section

open scoped BigOperators

namespace Cert.RefDqIdeal.Entries

open Cert.RefDqIdeal Cert.RefDqIdeal.Read Idealize.ShloMosaic Idealize.ShloMosaic.ValueIdx Ret

/-- The logarithm of each head's decay. -/
theorem log_gam (i : S4.Idx) : val_main_v15 (F := Ideal) i = ((Real.log (gam (i 0).val) : ℝ) : EReal) := by
  have h : (i 0).val < 4 := (i 0).isLt
  exact log_elem (i 0).val (by omega)

/-- The number of a row. -/
theorem row (i : S2048.Idx) : val_main_v16 (F := Ideal) i = (((i 0).val : ℝ) : EReal) := by
  have h : (i 0).val < 2048 := (i 0).isLt
  exact toInt_word (i 0).val (by omega)

/-- How far one row lies behind another. -/
theorem rel (i : S2048x2048.Idx) : val_main_v21 (F := Ideal) i
    = (((i 0).val : ℝ) : EReal) - (((i 1).val : ℝ) : EReal) := by
  rw [val_main_v21_apply, val_main_v19_apply, val_main_v17_apply, val_main_v20_apply, val_main_v18_apply, row, row]
  rfl

/-- The masked decay. -/
theorem decay (i : S4x2048x2048.Idx) : val_main_v32 (F := Ideal) i
    = ((low (gam (i 0).val) (i 1).val (i 2).val : ℝ) : EReal) := by
  rw [val_main_v32_apply, val_main_call0_v1_apply, val_main_call0_v2_apply, val_main_v23_apply, val_main_v31_apply,
    val_main_v30_apply, val_main_v28_apply, val_main_v24_apply, val_main_v29_apply, val_main_v27_apply,
    val_main_v26_apply, log_gam, rel]
  exact decay_ref (i 0).val (i 1).val (i 2).val

variable (x0 : FVec Ideal S2048x1024 .bf16) (x1 : FVec Ideal S2048x6144 .bf16) (x2 : FVec Ideal S2048x2048 .bf16)
  (k p dy : ℕ → ℕ → ℝ)

/-- The keys by head. -/
theorem keys (hk : ∀ y : S2048x1024.Idx, x0 y = ((k (y 0).val (y 1).val : ℝ) : EReal)) (i : S1x4x2048x256.Idx) :
    val_main_v13 (F := Ideal) x0 i = ((k (i 2).val (256 * (i 1).val + (i 3).val) : ℝ) : EReal) := by
  have h0 : (i 0).val < 1 := (i 0).isLt
  have h1 : (i 1).val < 4 := (i 1).isLt
  have h2 : (i 2).val < 2048 := (i 2).isLt
  have h3 : (i 3).val < 256 := (i 3).isLt
  rw [val_main_v13_apply, val_main_v0_apply]
  exact (hk _).trans (congr2 k (by dsimp only; omega) (by dsimp only; omega))

/-- The values by head. -/
theorem values (hp : ∀ y : S2048x6144.Idx, 2048 ≤ (y 1).val → (y 1).val < 4096 →
      x1 y = ((p (y 0).val ((y 1).val - 2048) : ℝ) : EReal)) (i : S1x4x2048x512.Idx) :
    val_main_v14 (F := Ideal) x1 i = ((p (i 2).val (512 * (i 1).val + (i 3).val) : ℝ) : EReal) := by
  have h0 : (i 0).val < 1 := (i 0).isLt
  have h1 : (i 1).val < 4 := (i 1).isLt
  have h2 : (i 2).val < 2048 := (i 2).isLt
  have h3 : (i 3).val < 512 := (i 3).isLt
  rw [val_main_v14_apply, val_main_v2_apply, val_main_v1_apply]
  exact (hp _ (by dsimp only; omega) (by dsimp only; omega)).trans (congr2 p (by dsimp only; omega) (by dsimp only; omega))

/-- The incoming gradient by head. -/
theorem ct (hdy : ∀ y : S2048x2048.Idx, x2 y = ((dy (y 0).val (y 1).val : ℝ) : EReal)) (i : S1x4x2048x512.Idx) :
    val_main_v47 (F := Ideal) x2 i = ((dy (i 2).val (512 * (i 1).val + (i 3).val) : ℝ) : EReal) := by
  have h0 : (i 0).val < 1 := (i 0).isLt
  have h1 : (i 1).val < 4 := (i 1).isLt
  have h2 : (i 2).val < 2048 := (i 2).isLt
  have h3 : (i 3).val < 512 := (i 3).isLt
  rw [val_main_v47_apply, val_main_v46_apply, val_main_v45_apply, val_main_v44_apply, val_main_v3_apply]
  exact (hdy _).trans (congr2 dy (by dsimp only; omega) (by dsimp only; omega))

section
variable (hp : ∀ y : S2048x6144.Idx, 2048 ≤ (y 1).val → (y 1).val < 4096 →
      x1 y = ((p (y 0).val ((y 1).val - 2048) : ℝ) : EReal))
  (hdy : ∀ y : S2048x2048.Idx, x2 y = ((dy (y 0).val (y 1).val : ℝ) : EReal))
include hp hdy

/-- The decayed products of the incoming gradient and the values. -/
theorem scores (i : S1x4x2048x2048.Idx) : val_main_v53 (F := Ideal) x1 x2 i
    = ((score 512 (fun r d => dy r (512 * (i 1).val + d)) (fun r d => p r (512 * (i 1).val + d)) (i 2).val (i 3).val
        * low (gam (i 1).val) (i 2).val (i 3).val : ℝ) : EReal) := by
  rw [val_main_v53_apply, val_main_v52_apply, val_main_v51_apply, val_main_v50_apply, val_main_v49_apply,
    val_main_v48_apply, val_main_v36_apply, decay,
    sum_elem 512 _ _ (fun d => dy (i 2).val (512 * (i 1).val + d)) (fun d => p (i 3).val (512 * (i 1).val + d))
      (fun d => ct x2 dy hdy _) (fun d => values x1 p hp _)]
  exact (EReal.coe_mul _ _).symm

/-- The gradient of q. -/
theorem result (hk : ∀ y : S2048x1024.Idx, x0 y = ((k (y 0).val (y 1).val : ℝ) : EReal)) :
    val_main_v58 (F := Ideal) x0 x1 x2 = (mat 2048 1024 .f32 fun i j => fwd 2048 512 (gam (j / 256))
      (fun r d => dy r (512 * (j / 256) + d)) (fun r d => p r (512 * (j / 256) + d)) (fun r d => k r (256 * (j / 256) + d))
      i (j % 256) : FVec Ideal S2048x1024 .f32) := by
  funext i
  have h0 : (i 0).val < 2048 := (i 0).isLt
  have h1 : (i 1).val < 1024 := (i 1).isLt
  have e0 : ((i 0).val * 1024 + (i 1).val) / 1024 % 2048 = (i 0).val := by omega
  have e1 : ((i 0).val * 1024 + (i 1).val) / 256 % 4 = (i 1).val / 256 := by omega
  have e2 : ((i 0).val * 1024 + (i 1).val) % 256 = (i 1).val % 256 := by omega
  rw [val_main_v58_apply, val_main_v57_apply, val_main_v56_apply, val_main_v55_apply, val_main_v54_apply]
  refine (sum_elem 2048 _ _ (fun j => score 512 (fun r d => dy r (512 * ((i 1).val / 256) + d))
      (fun r d => p r (512 * ((i 1).val / 256) + d)) (i 0).val j * low (gam ((i 1).val / 256)) (i 0).val j)
    (fun j => k j (256 * ((i 1).val / 256) + (i 1).val % 256)) (fun j => (scores x1 x2 p dy hp hdy _).trans ?_)
    (fun j => (keys x0 k hk _).trans ?_)).trans rfl
  · dsimp only
    rw [e0, e1]
  · dsimp only
    rw [e1, e2]

end

end Cert.RefDqIdeal.Entries
-- ==== Proof.Finite.lean ====
module

public import proofs.«01_k».proof.Proof.Mat
public import Idealize.ShloMosaic.Lib.ReduceAll
public import Idealize.ShloMosaic.Lib.Affine

/-!
The preconditions read: an array that passes the test `all(|x| < ∞)` holds real numbers.
-/

@[expose] public section

set_option maxRecDepth 16384

noncomputable section

namespace Ret

open Idealize.ShloMosaic Idealize.ShloMosaic.ValueIdx

/-- The scalar shape's one index. -/
instance : Subsingleton (⟨0, ![]⟩ : Shape).Idx := ⟨fun _ _ => funext fun a => a.elim0⟩

/-- The f32 pattern of infinity. -/
theorem ofBits_inf : Ideal.ofBits .f32 0x7F800000#32 = ⊤ := by simp [Ideal.ofBits, Ideal.ieee]

/-- An extended real of magnitude below infinity is a real number. -/
theorem real_of_abs (x : EReal) (h : Ideal.cmp .olt (max x (-x)) (Ideal.ofBits .f32 0x7F800000#32) = 1#1) :
    x = ((x.toReal : ℝ) : EReal) := by
  rw [ofBits_inf] at h
  unfold Ideal.cmp at h
  have hd : max x (-x) < ⊤ := by
    by_contra hn
    simp [hn] at h
  refine (EReal.coe_toReal ?_ ?_).symm
  · rintro rfl
    simp at hd
  · rintro rfl
    simp at hd

/-- Reading an array of reals: the real matrix it holds. -/
theorem exists_mat {n m : ℕ} {φ : FTy} (x : FVec Ideal ⟨2, ![n, m]⟩ φ) (h : ∀ y, x y = (((x y).toReal : ℝ) : EReal)) :
    ∃ f : ℕ → ℕ → ℝ, ∀ y, x y = ((f (y 0).val (y 1).val : ℝ) : EReal) := by
  refine ⟨fun i j => if hij : i < n ∧ j < m then (x (ix2 ⟨i, hij.1⟩ ⟨j, hij.2⟩)).toReal else 0, fun y => ?_⟩
  have hy : (y 0).val < n ∧ (y 1).val < m := ⟨idx2_lt0 y, idx2_lt1 y⟩
  simp only [dif_pos hy]
  rw [h y]
  congr 2
  exact congrArg x (eq_ix2 y)

/-- The test of one array: what passes it holds real numbers. -/
theorem finite_mat {n m : ℕ} (x : FVec Ideal ⟨2, ![n, m]⟩ .bf16) (init : (⟨0, ![]⟩ : Shape).Idx → BitVec 1)
    (hw : FTy.bits .bf16 < FTy.bits .f32) (hb : (⟨0, ![]⟩ : Shape).BroadcastsInDim ⟨2, ![n, m]⟩ ![])
    (hr : (⟨2, ![n, m]⟩ : Shape).ReducesTo [0, 1] ⟨0, ![]⟩) (hu : 0 < (⟨0, ![]⟩ : Shape).numel) (j : (⟨0, ![]⟩ : Shape).Idx)
    (h : Host.reduce IntOp.andi (cmpf .olt (Host.absf (extf .f32 x hw))
      (broadcastInDim ⟨2, ![n, m]⟩ ![] hb (constant ⟨0, ![]⟩ .f32 0x7F800000#32))) init hr hu j = 1#1) :
    ∃ f : ℕ → ℕ → ℝ, ∀ y, x y = ((f (y 0).val (y 1).val : ℝ) : EReal) :=
  exists_mat x fun y => real_of_abs _ (Host.reduce_andi_all _ _ hr hu j h y)

end Ret
-- ==== Proof.DqClaims.lean ====
module

public import proofs.«01_k».proof.Defs
public import proofs.«01_k».proof.Proof.Gen.Dq.Frame
public import proofs.«01_k».proof.Proof.Gen.Pre_finite_dq
public import proofs.«01_k».proof.Proof.DqValue
public import proofs.«01_k».proof.Proof.RefDq
public import proofs.«01_k».proof.Proof.Finite
public import Idealize.ShloMosaic.Lib.Quiescent

/-!
The claims about the gradient of q.
-/

@[expose] public section

set_option maxRecDepth 16384

noncomputable section

namespace Cert.Proof.DqClaims

open Idealize.ShloMosaic Idealize.ShloMosaic.TcCoe Idealize.ShloMosaic.ValueIdx Idealize.SL.Sem Ret

/-- The kernel's frame at the machine's own numbers. -/
theorem frame_p : Cert.quiescent_Dq := fun m g _ => Cert.Dq.Gen.frame m g

/-- The idealized kernel's frame. -/
theorem frame_pi : Cert.quiescent_DqIdeal := fun m g _ => Cert.DqIdeal.Gen.frame m g
@[inherit_doc frame_pi]
theorem frame_pi_pre : Cert.quiescent_DqIdeal_pre_finite_dq := fun m g _ => Cert.DqIdeal.Gen.frame m g

/-- The reference's frame. -/
theorem frame_r : Cert.quiescent_RefDqIdeal := fun m g _ =>
  (θ_run Cert.RefDqIdeal.defs _ _).mono (fun r h => ⟨fun c => (h c).2, sem_eq_zero_of_no_sems (by decide) r.2⟩)
    (Cert.RefDqIdeal.Value.run m g)
@[inherit_doc frame_r]
theorem frame_r_pre : Cert.quiescent_RefDqIdeal_pre_finite_dq := fun m g _ => frame_r m g trivial

/-- The four named constants round to the words the kernel holds. -/
theorem preserves : Cert.preserves_Dq_DqIdeal :=
  ⟨IdealRules.named_const.statement Cert.DqIdeal.κ "lg2" .f32 0xBC0080AC#32 _ rfl,
    IdealRules.named_const.statement Cert.DqIdeal.κ "lg3" .f32 0xBB80402B#32 _ rfl,
    IdealRules.named_const.statement Cert.DqIdeal.κ "lg1" .f32 0xBC8102B3#32 _ rfl,
    IdealRules.named_const.statement Cert.DqIdeal.κ "lg0" .f32 0xBD020AEC#32 _ rfl⟩

/-- Arguments that pass the precondition hold real numbers: the keys, the value columns of the projection, the incoming
    gradient. -/
theorem reals (x0 : FVec Ideal ⟨2, ![2048, 1024]⟩ .bf16) (x1 : FVec Ideal ⟨2, ![2048, 6144]⟩ .bf16)
    (x2 : FVec Ideal ⟨2, ![2048, 2048]⟩ .bf16) (h : Cert.Pre_finite_dq.fn (F := Ideal) x0 x1 x2 = fun _ => 1#1) :
    ∃ k p dy : ℕ → ℕ → ℝ, (∀ y, x0 y = ((k (y 0).val (y 1).val : ℝ) : EReal))
      ∧ (∀ y, 2048 ≤ (y 1).val → (y 1).val < 4096 → x1 y = ((p (y 0).val ((y 1).val - 2048) : ℝ) : EReal))
      ∧ ∀ y, x2 y = ((dy (y 0).val (y 1).val : ℝ) : EReal) := by
  have e := congrFun h (fun a => a.elim0)
  obtain ⟨e01, e2⟩ := IntOp.andi_eq_one.mp e
  obtain ⟨e0, e1⟩ := IntOp.andi_eq_one.mp e01
  obtain ⟨k, hk⟩ := finite_mat _ _ _ _ _ _ _ e0
  obtain ⟨p, hp⟩ := finite_mat _ _ _ _ _ _ _ e1
  obtain ⟨dy, hdy⟩ := finite_mat _ _ _ _ _ _ _ e2
  refine ⟨k, p, dy, hk, fun y hl hu => ?_, hdy⟩
  have hy : (y 0).val < 2048 := idx2_lt0 y
  refine Eq.trans ?_ (hp (ix2 ⟨(y 0).val, hy⟩ ⟨(y 1).val - 2048, by omega⟩))
  refine (extractStridedSlice_apply ![0, 2048] x1 _ _ y fun a => ?_).symm
  fin_cases a
  · exact (Nat.zero_add _).symm
  · show (y 1).val = 2048 + ((y 1).val - 2048)
    omega

/-- The kernel and the reference end with equal gradients of q. -/
theorem algebraic : Cert.algebraic_DqIdeal_RefDqIdeal_pre_finite_dq := by
  intro m g m' g' hpre hagree
  refine ⟨fun c => Cert.DqIdeal.Value.G3 m c, Cert.DqIdeal.Value.run m g,
    (θ_run Cert.RefDqIdeal.defs _ _).mono (fun r h c => ⟨(h c).1.trans ?_, (h c).2⟩) (Cert.RefDqIdeal.Value.run m' g')⟩
  obtain ⟨k, p, dy, hk, hp, hdy⟩ := reals _ _ _ (hpre c)
  obtain ⟨a0, a1, a2⟩ := hagree c
  rw [Cert.RefDqIdeal.Read.val_main_v58_eq, a0, a1, a2]
  exact (Cert.RefDqIdeal.Entries.result _ _ _ k p dy hp hdy hk).trans (Cert.DqIdeal.Whole.result m c k p dy hk hp hdy).symm

end Cert.Proof.DqClaims
-- ==== Proof.Arr.lean ====
module

public import proofs.«01_k».proof.Proof.Mat

/-!
Arrays of extended reals as functions of natural numbers. `arr f` is the array whose entry (i, j) is `f i j`; every array of
rank two is one. The lemmas say what products, casts to and from rank three, and blocks make of such arrays; no entry need
be finite.
-/

@[expose] public section

set_option maxRecDepth 16384

noncomputable section

open scoped BigOperators

namespace Ret

open Idealize.ShloMosaic Idealize.ShloMosaic.ValueIdx

variable {n m M K N : ℕ} {φ ψ : FTy}

/-- The n×m array of the extended reals `f i j`. -/
def arr (n m : ℕ) (φ : FTy) (f : ℕ → ℕ → EReal) : FVec Ideal ⟨2, ![n, m]⟩ φ := fun y => f (y 0).val (y 1).val

/-- The stack of n×m arrays of the extended reals `f p i j`. -/
def arr3 (p n m : ℕ) (φ : FTy) (f : ℕ → ℕ → ℕ → EReal) : FVec Ideal ⟨3, ![p, n, m]⟩ φ :=
  fun y => f (y 0).val (y 1).val (y 2).val

/-- Every array is one. -/
theorem exists_arr (x : FVec Ideal ⟨2, ![n, m]⟩ φ) : ∃ f, x = arr n m φ f := by
  classical
  refine ⟨fun i j => if h : i < n ∧ j < m then x (ix2 ⟨i, h.1⟩ ⟨j, h.2⟩) else 0, funext fun y => ?_⟩
  refine (congrArg x (eq_ix2 y)).trans (Eq.symm ?_)
  show dite _ _ _ = _
  exact dif_pos ⟨idx2_lt0 y, idx2_lt1 y⟩

/-- Two functions equal within the extents give the same array. -/
theorem arr_congr {f g : ℕ → ℕ → EReal} (h : ∀ i < n, ∀ j < m, f i j = g i j) : arr n m φ f = arr n m φ g :=
  funext fun y => h _ (idx2_lt0 y) _ (idx2_lt1 y)

/-- An array is `arr f` when its entries are. -/
theorem eq_arr {x : FVec Ideal ⟨2, ![n, m]⟩ φ} {f : ℕ → ℕ → EReal}
    (h : ∀ (i : Fin n) (j : Fin m), x (ix2 i j) = f i.val j.val) : x = arr n m φ f :=
  funext fun y => by rw [eq_ix2 y]; exact h _ _

/-- A one-array stack, as the array. -/
theorem shapeCast_arr3 (f : ℕ → ℕ → ℕ → EReal) (h) :
    shapeCast (⟨2, ![n, m]⟩ : Shape) (arr3 1 n m φ f) h = arr n m φ (f 0) := by
  refine eq_arr fun i j => ?_
  rw [shapeCast_apply (arr3 1 n m φ f) h (ix2 i j) (ix3 (0 : Fin 1) i j) (by
    rw [Shape.rowMajor_val_two, Shape.rowMajor_val_three]
    show (0 * n + i.val) * m + j.val = i.val * m + j.val
    rw [Nat.zero_mul, Nat.zero_add])]
  rfl

/-- An array, as a one-array stack. -/
theorem shapeCast_arr (f : ℕ → ℕ → EReal) (h) :
    shapeCast (⟨3, ![1, n, m]⟩ : Shape) (arr n m φ f) h = arr3 1 n m φ fun _ => f := by
  funext y
  have hy : (y 0).val = 0 := Nat.lt_one_iff.mp (y 0).isLt
  rw [shapeCast_apply (arr n m φ f) h y (ix2 ⟨(y 1).val, (y 1).isLt⟩ ⟨(y 2).val, (y 2).isLt⟩) (by
    rw [Shape.rowMajor_val_two, Shape.rowMajor_val_three]
    show (y 1).val * m + (y 2).val = ((y 0).val * n + (y 1).val) * m + (y 2).val
    rw [hy, Nat.zero_mul, Nat.zero_add])]
  rfl

/-- An array spread along a new first axis of size one. -/
theorem broadcast_arr (f : ℕ → ℕ → EReal) (h) :
    broadcastInDim (⟨3, ![1, n, m]⟩ : Shape) ![1, 2] h (arr n m φ f) = arr3 1 n m φ fun _ => f := by
  funext y
  rw [broadcastInDim_apply _ h (arr n m φ f) y (ix2 ⟨(y 1).val, (y 1).isLt⟩ ⟨(y 2).val, (y 2).isLt⟩) fun a => by
    have h1 : (y 1).val < n := (y 1).isLt
    have h2 : (y 2).val < m := (y 2).isLt
    match a with
    | ⟨0, _⟩ =>
      show (y 1).val = if n = 1 then 0 else (y 1).val
      split <;> omega
    | ⟨1, _⟩ =>
      show (y 2).val = if m = 1 then 0 else (y 2).val
      split <;> omega]
  rfl

/-- An array with its axes swapped. -/
theorem transpose_arr (f : ℕ → ℕ → EReal) (h) :
    transpose (⟨2, ![m, n]⟩ : Shape) [1, 0] (arr n m φ f) h = arr m n φ fun i j => f j i :=
  eq_arr fun i j => transpose_apply _ _ h _ (ix2 j i) fun a => by
    match a with
    | ⟨0, _⟩ => rfl
    | ⟨1, _⟩ => rfl

/-- An array whose columns are cut into p runs of q, the runs as a stack. -/
theorem stack_cols {p q : ℕ} (f : ℕ → ℕ → EReal) (hm : m = p * q) (h) (h') :
    transpose (⟨3, ![p, n, q]⟩ : Shape) [1, 0, 2] (shapeCast (⟨3, ![n, p, q]⟩ : Shape) (arr n m φ f) h) h'
      = arr3 p n q φ fun a i j => f i (a * q + j) := by
  subst hm
  funext y
  have h0 : (y 0).val < p := (y 0).isLt
  have h1 : (y 1).val < n := (y 1).isLt
  have h2 : (y 2).val < q := (y 2).isLt
  have hc : (y 0).val * q + (y 2).val < p * q := by
    calc (y 0).val * q + (y 2).val < (y 0).val * q + q := by omega
      _ = ((y 0).val + 1) * q := by ring
      _ ≤ p * q := Nat.mul_le_mul_right q h0
  rw [transpose_apply _ _ h' y (ix3 ⟨_, h1⟩ ⟨_, h0⟩ ⟨_, h2⟩) fun a => by
      match a with
      | ⟨0, _⟩ => rfl
      | ⟨1, _⟩ => rfl
      | ⟨2, _⟩ => rfl,
    shapeCast_apply (arr n (p * q) φ f) h _ (ix2 ⟨_, h1⟩ ⟨_, hc⟩) (by
      rw [Shape.rowMajor_val_two, Shape.rowMajor_val_three]
      show (y 1).val * (p * q) + ((y 0).val * q + (y 2).val) = ((y 1).val * p + (y 0).val) * q + (y 2).val
      ring)]
  rfl

/-- A shape cast to the same shape changes nothing. -/
theorem shapeCast_same (f : ℕ → ℕ → EReal) (h) : shapeCast (⟨2, ![n, m]⟩ : Shape) (arr n m φ f) h = arr n m φ f := by
  rw [shapeCast_self]

/-- A sum over K terms, with the terms' numbers as natural numbers. -/
theorem sum_fin (f : ℕ → EReal) (K : ℕ) : ∑ k : Fin K, f k.val = ∑ k ∈ Finset.range K, f k :=
  (Finset.sum_range f).symm

/-- `l · rᵀ` into zero. -/
theorem matmul_nt (f g : ℕ → ℕ → EReal) :
    FloatOps.matmul (DotDims.transposedRhs M K N) none (arr M K φ f) (arr N K ψ g) (zeros M N)
      = arr M N .f32 fun i j => ∑ d ∈ Finset.range K, f i d * g j d := by
  refine eq_arr fun r c => ?_
  rw [Ideal.matmul_constant_zero_apply, ← Equiv.sum_comp (contrEquiv1 (DotDims.transposedRhs M K N) K rfl rfl).symm, ← sum_fin]
  refine Finset.sum_congr rfl fun k _ => ?_
  have hk := contrEquiv1_symm_val (DotDims.transposedRhs M K N) K rfl rfl k
  unfold arr
  congr 2 <;> congr 1

/-- `l · r` into zero. -/
theorem matmul_nn (f g : ℕ → ℕ → EReal) :
    FloatOps.matmul (DotDims.plain M K N) none (arr M K φ f) (arr K N ψ g) (zeros M N)
      = arr M N .f32 fun i j => ∑ d ∈ Finset.range K, f i d * g d j := by
  refine eq_arr fun r c => ?_
  rw [Ideal.matmul_constant_zero_apply, ← Equiv.sum_comp (contrEquiv1 (DotDims.plain M K N) K rfl rfl).symm, ← sum_fin]
  refine Finset.sum_congr rfl fun k _ => ?_
  have hk := contrEquiv1_symm_val (DotDims.plain M K N) K rfl rfl k
  unfold arr
  congr 2 <;> congr 1

/-- `lᵀ · r` into zero. -/
theorem matmul_tn (f g : ℕ → ℕ → EReal) :
    FloatOps.matmul (dTN M K N) none (arr K M φ f) (arr K N ψ g) (zeros M N)
      = arr M N .f32 fun i j => ∑ d ∈ Finset.range K, f d i * g d j := by
  refine eq_arr fun r c => ?_
  rw [Ideal.matmul_constant_zero_apply, ← Equiv.sum_comp (contrEquiv1 (dTN M K N) K rfl rfl).symm, ← sum_fin]
  refine Finset.sum_congr rfl fun k _ => ?_
  have hk := contrEquiv1_symm_val (dTN M K N) K rfl rfl k
  unfold arr
  congr 2 <;> congr 1

/-- The host's product is the product into zero. -/
theorem dot_eq {sa sb sc : Shape} (d : DotDims sa sb sc) (l : FVec Ideal sa φ) (r : FVec Ideal sb ψ) :
    (Host.dotGeneral d none l r : FVec Ideal sc .f32) = FloatOps.matmul d none l r (constant sc .f32 0x00000000#32) := by
  funext y
  simp only [Host.dotGeneral]
  rw [Ideal.dotGeneral_apply, Ideal.matmul_constant_zero_apply]

/-- A sum over 2K terms by its two halves. -/
theorem sum_halves (f : ℕ → EReal) (K : ℕ) :
    ∑ k ∈ Finset.range K, f k + ∑ k ∈ Finset.range K, f (K + k) = ∑ k ∈ Finset.range (K + K), f k :=
  (Finset.sum_range_add f K K).symm

/-- The entries of `l · rᵀ`, `l · r` and `lᵀ · r`, of K terms each. -/
def nt (K : ℕ) (f g : ℕ → ℕ → EReal) (i j : ℕ) : EReal := ∑ d ∈ Finset.range K, f i d * g j d
@[inherit_doc nt]
def nn (K : ℕ) (f g : ℕ → ℕ → EReal) (i j : ℕ) : EReal := ∑ d ∈ Finset.range K, f i d * g d j
@[inherit_doc nt]
def tn (K : ℕ) (f g : ℕ → ℕ → EReal) (i j : ℕ) : EReal := ∑ d ∈ Finset.range K, f d i * g d j

/-- A body's product against the rows of a one-array stack. -/
theorem body_nt (f g : ℕ → ℕ → EReal) (h) :
    FloatOps.matmul (DotDims.transposedRhs M K N) none (arr M K φ f) (shapeCast (⟨2, ![N, K]⟩ : Shape) (arr3 1 N K ψ fun _ => g) h)
      (zeros M N) = arr M N .f32 (nt K f g) := by
  rw [shapeCast_arr3]
  exact matmul_nt f g

/-- A body's product against the columns of a one-array stack. -/
theorem body_nn (f g : ℕ → ℕ → EReal) (h) :
    FloatOps.matmul (DotDims.plain M K N) none (arr M K φ f) (shapeCast (⟨2, ![K, N]⟩ : Shape) (arr3 1 K N ψ fun _ => g) h)
      (zeros M N) = arr M N .f32 (nn K f g) := by
  rw [shapeCast_arr3]
  exact matmul_nn f g

/-- A body's product of columns against columns, rounded and as a one-array stack. -/
theorem body_tn (f g : ℕ → ℕ → EReal) (h h') :
    shapeCast (⟨3, ![1, M, N]⟩ : Shape)
        (truncf .bf16 (FloatOps.matmul (F := Ideal) (dTN M K N) none (arr K M φ f) (arr K N ψ g) (zeros M N)) h) h'
      = arr3 1 M N .bf16 fun _ => tn K f g :=
  (congrArg (fun x => shapeCast (⟨3, ![1, M, N]⟩ : Shape) (truncf .bf16 x h) h') (matmul_tn f g)).trans
    (shapeCast_arr (φ := .bf16) (tn K f g) h')

/-- The host's three products of arrays widened to float32. -/
theorem host_nt (f g : ℕ → ℕ → EReal) :
    (Host.dotGeneral (DotDims.transposedRhs M K N) none (arr M K .f32 f) (arr N K .f32 g) : FVec Ideal ⟨2, ![M, N]⟩ .f32)
      = arr M N .f32 (nt K f g) :=
  (dot_eq _ _ _).trans (matmul_nt f g)
@[inherit_doc host_nt]
theorem host_nn (f g : ℕ → ℕ → EReal) :
    (Host.dotGeneral (DotDims.plain M K N) none (arr M K .f32 f) (arr K N .f32 g) : FVec Ideal ⟨2, ![M, N]⟩ .f32)
      = arr M N .f32 (nn K f g) :=
  (dot_eq _ _ _).trans (matmul_nn f g)
@[inherit_doc host_nt]
theorem host_tn (f g : ℕ → ℕ → EReal) :
    (Host.dotGeneral (dTN M K N) none (arr K M .f32 f) (arr K N .f32 g) : FVec Ideal ⟨2, ![M, N]⟩ .f32)
      = arr M N .f32 (tn K f g) :=
  (dot_eq _ _ _).trans (matmul_tn f g)

/-- The gradient with respect to weights as the host works it out: the product the other way round, transposed. -/
theorem weights_tn (f g : ℕ → ℕ → EReal) (h) :
    transpose (⟨2, ![M, N]⟩ : Shape) [1, 0]
        (Host.dotGeneral (dTN N K M) none (arr K N .f32 g) (arr K M .f32 f) : FVec Ideal ⟨2, ![N, M]⟩ .f32) h
      = arr M N .f32 (tn K f g) := by
  refine (congrArg (fun x => transpose (⟨2, ![M, N]⟩ : Shape) [1, 0] x h) (host_tn g f)).trans ?_
  refine (transpose_arr _ h).trans (arr_congr fun i _ j _ => ?_)
  exact Finset.sum_congr rfl fun k _ => mul_comm _ _

end Ret
-- ==== Proof.MlpOutDx.lean ====
module

public import proofs.«01_k».proof.Defs
public import proofs.«01_k».proof.Proof.Gen.MlpOutDx.Frame
public import proofs.«01_k».proof.Proof.Gen.MlpOutDxIdeal.Value
public import proofs.«01_k».proof.Proof.Gen.RefMlpOutDxIdeal.Read
public import proofs.«01_k».proof.Proof.Arr
public import Idealize.ShloMosaic.Lib.Quiescent
public import Idealize.ShloMosaic.Lib.Pipeline.ValueKit.Geometry
public import Idealize.ShloMosaic.Lib.Pipeline.ValueKit.Acc

/-!
The gradient with respect to the MLP's pre-activation: a product against the output weights' rows, times the derivative of
the squared rectifier.
-/

@[expose] public section

set_option maxRecDepth 16384

noncomputable section

open scoped BigOperators

namespace Cert.Proof.MlpOutDx

open Idealize.ShloMosaic Idealize.ShloMosaic.TcCoe Idealize.ShloMosaic.ValueIdx Idealize.SL.Sem Ret

section Kernel
open Cert.MlpOutDxIdeal Cert.MlpOutDxIdeal.Gen Cert.MlpOutDxIdeal.Value

variable (m : (ℓ : Loc nD τ sig) → Buf (Elt Ideal) ℓ) (c : Dev nD) (d w u : ℕ → ℕ → EReal)
  (hd : m ((c : Thread nD τ).loc main_arg0) = (arr 2048 1024 .bf16 d : FVec Ideal S2048x1024 .bf16))
  (hw : m ((c : Thread nD τ).loc main_arg1) = (arr 4096 1024 .bf16 w : FVec Ideal S4096x1024 .bf16))
  (hu : m ((c : Thread nD τ).loc main_arg2) = (arr 2048 4096 .bf16 u : FVec Ideal S2048x4096 .bf16))

/-- The blocks' places. -/
theorem index_0 : ∀ t : Fin cfg0.N, win0_0.index t = ![0, 0] := by decide +kernel
@[inherit_doc index_0]
theorem index_1 : ∀ t : Fin cfg0.N, win0_1.index t = ![0, t.val, 0] := by decide +kernel
@[inherit_doc index_0]
theorem index_2 : ∀ t : Fin cfg0.N, win0_2.index t = ![0, t.val] := by decide +kernel
@[inherit_doc index_0]
theorem index_3 : ∀ t : Fin cfg0.N, win0_3.index t = ![0, t.val] := by decide +kernel

include hd in
/-- The incoming gradient, whole. -/
theorem blk_d (t : Fin cfg0.N) : iblk m c 0 t = (arr 2048 1024 .bf16 d : FVec Ideal S2048x1024 .bf16) := by
  funext y
  blk_simp [iblk]
  rw [V_main_arg0, hd]
  unfold arr
  blk_simp [index_0]

/-- The weights as the kernel holds them, a one-array stack. -/
theorem entry (f : ℕ → ℕ → EReal) (h : m ((c : Thread nD τ).loc main_arg1) = (arr 4096 1024 .bf16 f : FVec Ideal S4096x1024 .bf16)) :
    V m c main_v0 = (arr3 1 4096 1024 .bf16 (fun _ => f) : FVec Ideal S1x4096x1024 .bf16) := by
  refine Eq.trans ?_ ((congrArg (fun x => shapeCast S1x4096x1024 x shapeCasts_S4096x1024_S1x4096x1024) h).trans
    (shapeCast_arr f shapeCasts_S4096x1024_S1x4096x1024))
  unfold_abbrev_sides
  after_results
  rfl

include hw in
/-- Rows 512 t to 512 t + 511 of the weights. -/
theorem blk_w (t : Fin cfg0.N) :
    iblk m c 1 t = (arr3 1 512 1024 .bf16 (fun _ i => w (t.val * 512 + i)) : FVec Ideal S1x512x1024 .bf16) := by
  funext y
  blk_simp [iblk]
  rw [entry m c w hw]
  unfold arr3
  blk_simp [index_1]

include hu in
/-- Columns 512 t to 512 t + 511 of the pre-activation. -/
theorem blk_u (t : Fin cfg0.N) :
    iblk m c 2 t = (arr 2048 512 .bf16 (fun i j => u i (t.val * 512 + j)) : FVec Ideal S2048x512 .bf16) := by
  funext y
  blk_simp [iblk]
  rw [V_main_arg2, hu]
  unfold arr
  blk_simp [index_2]

/-- The gradient at an entry: the incoming gradient against the weights' row, times twice the rectified pre-activation. -/
def grad (d w u : ℕ → ℕ → EReal) (i j : ℕ) : EReal :=
  (∑ k ∈ Finset.range 1024, d i k * w j k) * (Ideal.ofBits .f32 0x40000000#32 * max (u i j) (Ideal.ofBits .f32 0x00000000#32))

/-- What the body makes of its blocks. -/
theorem pay (w' u' : ℕ → ℕ → EReal) :
    k0_pay1 (F := Ideal) (arr 2048 1024 .bf16 d) (arr3 1 512 1024 .bf16 fun _ => w') (arr 2048 512 .bf16 u') = arr 2048 512 .bf16 (grad d w' u') := by
  unfold k0_pay1
  dsimp only
  rw [shapeCast_arr3]
  refine (congrArg (fun x => truncf .bf16 (mulf x _) _) (matmul_nt (M := 2048) (K := 1024) (N := 512) d w')).trans ?_
  rfl

include hd hw hu in
/-- The array that the call leaves. -/
theorem result : (dats m 0 c).arrAt 3 cfg0.N = (arr 2048 4096 .bf16 (grad d w u) : FVec Ideal S2048x4096 .bf16) := by
  refine (dats m 0 c).arrAt_eq_of_covers 3 _ (by decide +kernel) fun t hf y => ?_
  blk_simp
  rw [after0_3]
  frame_out
  rw [blk_d m c d hd, blk_w m c w hw, blk_u m c u hu, pay]
  unfold arr
  blk_simp [index_3]
  rfl

end Kernel

section Reference
open Cert.RefMlpOutDxIdeal Cert.RefMlpOutDxIdeal.Gen Cert.RefMlpOutDxIdeal.Read

variable (d w u : ℕ → ℕ → EReal)

/-- The incoming gradient against the weights. -/
theorem product : val_main_v11 (F := Ideal) (arr 2048 1024 .bf16 d) (arr 4096 1024 .bf16 w)
    = arr 2048 4096 .f32 fun i j => ∑ k ∈ Finset.range 1024, d i k * w j k :=
  (dot_eq _ _ _).trans (matmul_nt (φ := .f32) (ψ := .f32) (M := 2048) (K := 1024) (N := 4096) d w)

/-- Where the pre-activation is not positive the kernel's factor vanishes, as the reference's choice does. -/
theorem choose (u x : EReal) :
    Scalar.select (Ideal.cmp .ogt u (Ideal.ofBits .f32 0x00000000#32))
        (x * (Ideal.ofBits .f32 0x40000000#32 * max u (Ideal.ofBits .f32 0x00000000#32))) (Ideal.ofBits .f32 0x00000000#32)
      = x * (Ideal.ofBits .f32 0x40000000#32 * max u (Ideal.ofBits .f32 0x00000000#32)) := by
  rw [Ideal.ofBits_zero_f32]
  by_cases h : u > 0
  · simp [Scalar.select, Ideal.cmp, h]
  · simp [Scalar.select, Ideal.cmp, h, max_eq_right (not_lt.mp h)]

/-- The reference's array. -/
theorem reference : val_main_v15 (F := Ideal) (arr 2048 1024 .bf16 d) (arr 4096 1024 .bf16 w) (arr 2048 4096 .bf16 u)
    = arr 2048 4096 .bf16 (grad d w u) := by
  unfold val_main_v15 val_main_v14 val_main_v12
  rw [product]
  funext y
  exact choose _ _

end Reference

section Claims
open Cert.MlpOutDxIdeal

/-- The kernel's frame at the machine's own numbers. -/
theorem frame_p : Cert.quiescent_MlpOutDx := fun m g _ => Cert.MlpOutDx.Gen.frame m g

/-- The idealized kernel's frame. -/
theorem frame_pi : Cert.quiescent_MlpOutDxIdeal := fun m g _ => Cert.MlpOutDxIdeal.Gen.frame m g

/-- The reference's frame. -/
theorem frame_r : Cert.quiescent_RefMlpOutDxIdeal := fun m g _ =>
  (θ_run Cert.RefMlpOutDxIdeal.defs _ _).mono (fun r h => ⟨fun c => (h c).2, sem_eq_zero_of_no_sems (by decide) r.2⟩)
    (Cert.RefMlpOutDxIdeal.Value.run m g)

/-- The idealized kernel is the kernel's own text. -/
theorem preserves : Cert.preserves_MlpOutDx_MlpOutDxIdeal := trivial

/-- The kernel and the reference end with equal gradients. -/
theorem algebraic : Cert.algebraic_MlpOutDxIdeal_RefMlpOutDxIdeal := by
  intro m g m' g' _ hagree
  refine ⟨fun c => (Cert.MlpOutDxIdeal.Gen.dats m 0 c).arrAt 3 _, Cert.MlpOutDxIdeal.Value.run_blocks m g,
    (θ_run Cert.RefMlpOutDxIdeal.defs _ _).mono (fun r h c => ⟨(h c).1.trans ?_, (h c).2⟩) (Cert.RefMlpOutDxIdeal.Value.run m' g')⟩
  obtain ⟨a0, a1, a2⟩ := hagree c
  obtain ⟨d, hd⟩ := exists_arr (n := 2048) (m := 1024) (φ := .bf16) (m ((c.tc : Thread nD τ).loc main_arg0))
  obtain ⟨w, hw⟩ := exists_arr (n := 4096) (m := 1024) (φ := .bf16) (m ((c.tc : Thread nD τ).loc main_arg1))
  obtain ⟨u, hu⟩ := exists_arr (n := 2048) (m := 4096) (φ := .bf16) (m ((c.tc : Thread nD τ).loc main_arg2))
  rw [Cert.RefMlpOutDxIdeal.Read.val_main_v15_eq, a0, a1, a2, hd, hw, hu]
  exact (reference d w u).trans (result m c d w u hd hw hu).symm

end Claims

end Cert.Proof.MlpOutDx
-- ==== Proof.MlpOutDw.lean ====
module

public import proofs.«01_k».proof.Defs
public import proofs.«01_k».proof.Proof.Gen.MlpOutDw.Frame
public import proofs.«01_k».proof.Proof.Gen.MlpOutDwIdeal.Value
public import proofs.«01_k».proof.Proof.Gen.RefMlpOutDwIdeal.Read
public import proofs.«01_k».proof.Proof.Arr
public import Idealize.ShloMosaic.Lib.Quiescent
public import Idealize.ShloMosaic.Lib.Pipeline.ValueKit.Geometry
public import Idealize.ShloMosaic.Lib.Pipeline.ValueKit.Acc

/-!
The gradient with respect to the MLP's output weights: the activations' columns against the incoming gradient.
-/

@[expose] public section

set_option maxRecDepth 16384

noncomputable section

open scoped BigOperators

namespace Cert.Proof.MlpOutDw

open Idealize.ShloMosaic Idealize.ShloMosaic.TcCoe Idealize.ShloMosaic.ValueIdx Idealize.SL.Sem Ret

section Kernel
open Cert.MlpOutDwIdeal Cert.MlpOutDwIdeal.Gen Cert.MlpOutDwIdeal.Value

variable (m : (ℓ : Loc nD τ sig) → Buf (Elt Ideal) ℓ) (c : Dev nD) (a d : ℕ → ℕ → EReal)
  (ha : m ((c : Thread nD τ).loc main_arg0) = (arr 2048 4096 .bf16 a : FVec Ideal S2048x4096 .bf16))
  (hd : m ((c : Thread nD τ).loc main_arg1) = (arr 2048 1024 .bf16 d : FVec Ideal S2048x1024 .bf16))

/-- The blocks' places. -/
theorem index_0 : ∀ t : Fin cfg0.N, win0_0.index t = ![0, t.val] := by decide +kernel
@[inherit_doc index_0]
theorem index_1 : ∀ t : Fin cfg0.N, win0_1.index t = ![0, 0] := by decide +kernel
@[inherit_doc index_0]
theorem index_2 : ∀ t : Fin cfg0.N, win0_2.index t = ![0, t.val, 0] := by decide +kernel

include ha in
/-- Columns 1024 t to 1024 t + 1023 of the activations. -/
theorem blk_a (t : Fin cfg0.N) : iblk m c 0 t = (arr 2048 1024 .bf16 (fun i j => a i (t.val * 1024 + j)) : FVec Ideal S2048x1024 .bf16) := by
  funext y
  blk_simp [iblk]
  rw [V_main_arg0, ha]
  unfold arr
  blk_simp [index_0]

include hd in
/-- The incoming gradient, whole. -/
theorem blk_d (t : Fin cfg0.N) : iblk m c 1 t = (arr 2048 1024 .bf16 d : FVec Ideal S2048x1024 .bf16) := by
  funext y
  blk_simp [iblk]
  rw [V_main_arg1, hd]
  unfold arr
  blk_simp [index_1]

/-- The gradient at an entry. -/
def grad (a d : ℕ → ℕ → EReal) (i j : ℕ) : EReal := ∑ k ∈ Finset.range 2048, a k i * d k j

/-- What the body makes of its blocks. -/
theorem pay (a' : ℕ → ℕ → EReal) :
    k0_pay1 (F := Ideal) (arr 2048 1024 .bf16 a') (arr 2048 1024 .bf16 d) = arr3 1 1024 1024 .bf16 fun _ => grad a' d := by
  unfold k0_pay1
  dsimp only
  refine (congrArg (fun x => shapeCast _ (truncf .bf16 x _) _) (matmul_tn (M := 1024) (K := 2048) (N := 1024) a' d)).trans ?_
  exact shapeCast_arr (φ := .bf16) (grad a' d) _

include ha hd in
/-- The array that the call leaves. -/
theorem result : (dats m 0 c).arrAt 2 cfg0.N = (arr3 1 4096 1024 .bf16 (fun _ => grad a d) : FVec Ideal S1x4096x1024 .bf16) := by
  refine (dats m 0 c).arrAt_eq_of_covers 2 _ (by decide +kernel) fun t hf y => ?_
  blk_simp
  rw [after0_2]
  frame_out
  rw [blk_a m c a ha, blk_d m c d hd, pay]
  unfold arr3
  blk_simp [index_2]
  rfl

end Kernel

section Reference
open Cert.RefMlpOutDwIdeal Cert.RefMlpOutDwIdeal.Gen Cert.RefMlpOutDwIdeal.Read

variable (a d : ℕ → ℕ → EReal)

/-- The reference's product is the transposed one. -/
theorem product : val_main_v5 (F := Ideal) (arr 2048 4096 .bf16 a) (arr 2048 1024 .bf16 d) = arr 4096 1024 .f32 (grad a d) := by
  unfold val_main_v5 val_main_v4
  refine (congrArg (fun x => transpose _ [1, 0] x _)
    ((dot_eq _ _ _).trans (matmul_tn (φ := .f32) (ψ := .f32) (M := 1024) (K := 2048) (N := 4096) d a))).trans ?_
  refine (transpose_arr _ _).trans (arr_congr fun i _ j _ => ?_)
  exact Finset.sum_congr rfl fun k _ => mul_comm _ _

/-- The reference's array. -/
theorem reference : val_main_v7 (F := Ideal) (arr 2048 4096 .bf16 a) (arr 2048 1024 .bf16 d) = arr3 1 4096 1024 .bf16 fun _ => grad a d := by
  unfold val_main_v7 val_main_v6
  rw [product]
  exact broadcast_arr (φ := .bf16) (grad a d) _

end Reference

section Claims
open Cert.MlpOutDwIdeal

/-- The kernel's frame at the machine's own numbers. -/
theorem frame_p : Cert.quiescent_MlpOutDw := fun m g _ => Cert.MlpOutDw.Gen.frame m g

/-- The idealized kernel's frame. -/
theorem frame_pi : Cert.quiescent_MlpOutDwIdeal := fun m g _ => Cert.MlpOutDwIdeal.Gen.frame m g

/-- The reference's frame. -/
theorem frame_r : Cert.quiescent_RefMlpOutDwIdeal := fun m g _ =>
  (θ_run Cert.RefMlpOutDwIdeal.defs _ _).mono (fun r h => ⟨fun c => (h c).2, sem_eq_zero_of_no_sems (by decide) r.2⟩)
    (Cert.RefMlpOutDwIdeal.Value.run m g)

/-- The idealized kernel is the kernel's own text. -/
theorem preserves : Cert.preserves_MlpOutDw_MlpOutDwIdeal := trivial

/-- The kernel and the reference end with equal arrays. -/
theorem algebraic : Cert.algebraic_MlpOutDwIdeal_RefMlpOutDwIdeal := by
  intro m g m' g' _ hagree
  refine ⟨fun c => (Cert.MlpOutDwIdeal.Gen.dats m 0 c).arrAt 2 _, Cert.MlpOutDwIdeal.Value.run_blocks m g,
    (θ_run Cert.RefMlpOutDwIdeal.defs _ _).mono (fun r h c => ⟨(h c).1.trans ?_, (h c).2⟩) (Cert.RefMlpOutDwIdeal.Value.run m' g')⟩
  obtain ⟨a0, a1⟩ := hagree c
  obtain ⟨a, ha⟩ := exists_arr (n := 2048) (m := 4096) (φ := .bf16) (m ((c.tc : Thread nD τ).loc main_arg0))
  obtain ⟨d, hd⟩ := exists_arr (n := 2048) (m := 1024) (φ := .bf16) (m ((c.tc : Thread nD τ).loc main_arg1))
  rw [Cert.RefMlpOutDwIdeal.Read.val_main_v7_eq, a0, a1, ha, hd]
  exact (reference a d).trans (result m c a d ha hd).symm

end Claims

end Cert.Proof.MlpOutDw
-- ==== Proof.MlpInDx.lean ====
module

public import proofs.«01_k».proof.Defs
public import proofs.«01_k».proof.Proof.Gen.MlpInDx.Frame
public import proofs.«01_k».proof.Proof.Gen.MlpInDxIdeal.Value
public import proofs.«01_k».proof.Proof.Gen.RefMlpInDxIdeal.Read
public import proofs.«01_k».proof.Proof.Arr
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

/-!
The gradient with respect to the MLP's input rows: a product against the input weights' rows, its 4096 terms summed in two
halves.
-/

@[expose] public section

set_option maxRecDepth 16384

noncomputable section

open scoped BigOperators

namespace Cert.Proof.MlpInDx

open Idealize.ShloMosaic Idealize.ShloMosaic.TcCoe Idealize.ShloMosaic.ValueIdx Idealize.SL.Sem Ret

section Kernel
open Cert.MlpInDxIdeal Cert.MlpInDxIdeal.Gen Cert.MlpInDxIdeal.Value

variable (m : (ℓ : Loc nD τ sig) → Buf (Elt Ideal) ℓ) (c : Dev nD) (u w : ℕ → ℕ → EReal)
  (hu : m ((c : Thread nD τ).loc main_arg0) = (arr 2048 4096 .bf16 u : FVec Ideal S2048x4096 .bf16))
  (hw : m ((c : Thread nD τ).loc main_arg1) = (arr 1024 4096 .bf16 w : FVec Ideal S1024x4096 .bf16))

/-- The blocks' places. -/
theorem index_0 : ∀ t : Fin cfg0.N, win0_0.index t = ![0, t.val] := by decide +kernel
@[inherit_doc index_0]
theorem index_1 : ∀ t : Fin cfg0.N, win0_1.index t = ![0, 0, t.val] := by decide +kernel
@[inherit_doc index_0]
theorem index_2 : ∀ t : Fin cfg0.N, win0_2.index t = ![0, 0] := by decide +kernel

include hu in
/-- Columns 2048 t to 2048 t + 2047 of the gradient of the pre-activation. -/
theorem blk_u (t : Fin cfg0.N) : iblk m c 0 t = (arr 2048 2048 .bf16 (fun i j => u i (t.val * 2048 + j)) : FVec Ideal S2048x2048 .bf16) := by
  funext y
  blk_simp [iblk]
  rw [V_main_arg0, hu]
  unfold arr
  blk_simp [index_0]

/-- The weights as the kernel holds them, a one-array stack. -/
theorem entry (f : ℕ → ℕ → EReal) (e : m ((c : Thread nD τ).loc main_arg1) = (arr 1024 4096 .bf16 f : FVec Ideal S1024x4096 .bf16)) :
    V m c main_v0 = (arr3 1 1024 4096 .bf16 (fun _ => f) : FVec Ideal S1x1024x4096 .bf16) := by
  refine Eq.trans ?_ ((congrArg (broadcastInDim S1x1024x4096 ![1, 2] bcast_S1024x4096_S1x1024x4096_1_2) e).trans
    (broadcast_arr f _))
  unfold_abbrev_sides
  after_results

include hw in
/-- Columns 2048 t to 2048 t + 2047 of the weights. -/
theorem blk_w (t : Fin cfg0.N) : iblk m c 1 t = (arr3 1 1024 2048 .bf16 (fun _ i j => w i (t.val * 2048 + j)) : FVec Ideal S1x1024x2048 .bf16) := by
  funext y
  blk_simp [iblk]
  rw [entry m c w hw]
  unfold arr3
  blk_simp [index_1]

/-- The first K terms of the gradient at an entry. -/
def grad (K : ℕ) (u w : ℕ → ℕ → EReal) (i j : ℕ) : EReal := ∑ k ∈ Finset.range K, u i k * w j k

/-- The body's product. -/
theorem pay (u' w' : ℕ → ℕ → EReal) :
    k0_pay1 (F := Ideal) (arr 2048 2048 .bf16 u') (arr3 1 1024 2048 .bf16 fun _ => w') = arr 2048 1024 .f32 (grad 2048 u' w') := by
  unfold k0_pay1
  dsimp only
  rw [shapeCast_arr3]
  exact matmul_nt (M := 2048) (K := 2048) (N := 1024) u' w'

/-- What the body keeps at the first point. -/
theorem pay_first (u' w' : ℕ → ℕ → EReal) :
    k0_pay2 (F := Ideal) (arr 2048 2048 .bf16 u') (arr3 1 1024 2048 .bf16 fun _ => w') = arr 2048 1024 .f32 (grad 2048 u' w') := by
  unfold k0_pay2
  rw [pay]
  exact shapeCast_same _ _

/-- What the body writes at the last point, over what it kept. -/
theorem pay_last (u' w' s : ℕ → ℕ → EReal) :
    k0_pay4 (F := Ideal) (arr 2048 2048 .bf16 u') (arr3 1 1024 2048 .bf16 fun _ => w') (arr 2048 1024 .f32 s)
      = arr 2048 1024 .bf16 fun i j => s i j + grad 2048 u' w' i j := by
  unfold k0_pay4
  rw [pay]
  rfl

include hu hw in
/-- What is kept after the first point: the first half of the sum. -/
theorem kept (t : Fin cfg0.N) (ht : t.val = 0) :
    (outsAt0 m c t.val t.isLt).2 = (arr 2048 1024 .f32 (grad 2048 u w) : FVec Ideal S2048x1024 .f32) := by
  rw [outsAt0_A m c t (by omega) (by omega)]
  frame_out
  rw [blk_u m c u hu, blk_w m c w hw, pay_first]
  simp only [ht, Nat.zero_mul, Nat.zero_add]

include hu hw in
/-- The array that the call leaves. -/
theorem result : (dats m 0 c).arrAt 2 cfg0.N = (arr 2048 1024 .bf16 (grad 4096 u w) : FVec Ideal S2048x1024 .bf16) := by
  refine (dats m 0 c).arrAt_eq_of_covers 2 _ (by decide +kernel) fun t hf y => ?_
  have h1 : t.val % 2 = 1 := (flush0_2 t).mp hf
  have h2 : t.val < 2 := lt_of_lt_of_eq t.isLt N_0
  have ht : t.val = 1 := by omega
  blk_simp
  rw [after0_2, outsAt0_B m c t (by omega) h1]
  frame_out
  rw [blk_u m c u hu, blk_w m c w hw, kept m c u w hu hw ⟨t.val - 1, lt_of_le_of_lt (Nat.sub_le _ _) t.isLt⟩ (Nat.sub_eq_zero_of_le ht.le),
    read_unread_whole, pay_last]
  unfold arr
  blk_simp [index_2]
  simp only [ht, Nat.one_mul]
  exact sum_halves _ 2048

end Kernel

section Reference
open Cert.RefMlpInDxIdeal Cert.RefMlpInDxIdeal.Gen Cert.RefMlpInDxIdeal.Read

variable (u w : ℕ → ℕ → EReal)

/-- The reference's product. -/
theorem product : val_main_v4 (F := Ideal) (arr 2048 4096 .bf16 u) (arr 1024 4096 .bf16 w) = arr 2048 1024 .f32 (grad 4096 u w) :=
  (dot_eq _ _ _).trans (matmul_nt (φ := .f32) (ψ := .f32) (M := 2048) (K := 4096) (N := 1024) u w)

/-- The reference's array. -/
theorem reference : val_main_v5 (F := Ideal) (arr 2048 4096 .bf16 u) (arr 1024 4096 .bf16 w) = arr 2048 1024 .bf16 (grad 4096 u w) := by
  unfold val_main_v5
  rw [product]
  rfl

end Reference

section Claims
open Cert.MlpInDxIdeal

/-- The kernel's frame at the machine's own numbers. -/
theorem frame_p : Cert.quiescent_MlpInDx := fun m g _ => Cert.MlpInDx.Gen.frame m g

/-- The idealized kernel's frame. -/
theorem frame_pi : Cert.quiescent_MlpInDxIdeal := fun m g _ => Cert.MlpInDxIdeal.Gen.frame m g

/-- The reference's frame. -/
theorem frame_r : Cert.quiescent_RefMlpInDxIdeal := fun m g _ =>
  (θ_run Cert.RefMlpInDxIdeal.defs _ _).mono (fun r h => ⟨fun c => (h c).2, sem_eq_zero_of_no_sems (by decide) r.2⟩)
    (Cert.RefMlpInDxIdeal.Value.run m g)

/-- The idealized kernel is the kernel's own text. -/
theorem preserves : Cert.preserves_MlpInDx_MlpInDxIdeal := trivial

/-- The kernel and the reference end with equal arrays. -/
theorem algebraic : Cert.algebraic_MlpInDxIdeal_RefMlpInDxIdeal := by
  intro m g m' g' _ hagree
  refine ⟨fun c => (Cert.MlpInDxIdeal.Gen.dats m 0 c).arrAt 2 _, Cert.MlpInDxIdeal.Value.run_blocks m g,
    (θ_run Cert.RefMlpInDxIdeal.defs _ _).mono (fun r h c => ⟨(h c).1.trans ?_, (h c).2⟩) (Cert.RefMlpInDxIdeal.Value.run m' g')⟩
  obtain ⟨a0, a1⟩ := hagree c
  obtain ⟨u, hu⟩ := exists_arr (n := 2048) (m := 4096) (φ := .bf16) (m ((c.tc : Thread nD τ).loc main_arg0))
  obtain ⟨w, hw⟩ := exists_arr (n := 1024) (m := 4096) (φ := .bf16) (m ((c.tc : Thread nD τ).loc main_arg1))
  rw [Cert.RefMlpInDxIdeal.Read.val_main_v5_eq, a0, a1, hu, hw]
  exact (reference u w).trans (result m c u w hu hw).symm

end Claims

end Cert.Proof.MlpInDx
-- ==== Proof.MlpInDw.lean ====
module

public import proofs.«01_k».proof.Defs
public import proofs.«01_k».proof.Proof.Gen.MlpInDw.Frame
public import proofs.«01_k».proof.Proof.Gen.MlpInDwIdeal.Value
public import proofs.«01_k».proof.Proof.Gen.RefMlpInDwIdeal.Read
public import proofs.«01_k».proof.Proof.Arr
public import Idealize.ShloMosaic.Lib.Quiescent
public import Idealize.ShloMosaic.Lib.Pipeline.ValueKit.Geometry
public import Idealize.ShloMosaic.Lib.Pipeline.ValueKit.Acc

/-!
The gradient with respect to the MLP's input weights: the normalised rows' columns against the gradient of the
pre-activation, its columns in eight runs.
-/

@[expose] public section

set_option maxRecDepth 16384

noncomputable section

open scoped BigOperators

namespace Cert.Proof.MlpInDw

open Idealize.ShloMosaic Idealize.ShloMosaic.TcCoe Idealize.ShloMosaic.ValueIdx Idealize.SL.Sem Ret

section Kernel
open Cert.MlpInDwIdeal Cert.MlpInDwIdeal.Gen Cert.MlpInDwIdeal.Value

variable (m : (ℓ : Loc nD τ sig) → Buf (Elt Ideal) ℓ) (c : Dev nD) (h u : ℕ → ℕ → EReal)
  (hh : m ((c : Thread nD τ).loc main_arg0) = (arr 2048 1024 .bf16 h : FVec Ideal S2048x1024 .bf16))
  (hu : m ((c : Thread nD τ).loc main_arg1) = (arr 2048 4096 .bf16 u : FVec Ideal S2048x4096 .bf16))

/-- The blocks' places. -/
theorem index_0 : ∀ t : Fin cfg0.N, win0_0.index t = ![0, 0] := by decide +kernel
@[inherit_doc index_0]
theorem index_1 : ∀ t : Fin cfg0.N, win0_1.index t = ![0, t.val] := by decide +kernel
@[inherit_doc index_0]
theorem index_2 : ∀ t : Fin cfg0.N, win0_2.index t = ![t.val, 0, 0] := by decide +kernel

include hh in
/-- The rows, whole. -/
theorem blk_h (t : Fin cfg0.N) : iblk m c 0 t = (arr 2048 1024 .bf16 h : FVec Ideal S2048x1024 .bf16) := by
  funext y
  blk_simp [iblk]
  rw [V_main_arg0, hh]
  unfold arr
  blk_simp [index_0]

include hu in
/-- Columns 512 t to 512 t + 511 of the gradient of the pre-activation. -/
theorem blk_u (t : Fin cfg0.N) : iblk m c 1 t = (arr 2048 512 .bf16 (fun i j => u i (t.val * 512 + j)) : FVec Ideal S2048x512 .bf16) := by
  funext y
  blk_simp [iblk]
  rw [V_main_arg1, hu]
  unfold arr
  blk_simp [index_1]

/-- The gradient at an entry. -/
def grad (h u : ℕ → ℕ → EReal) (i j : ℕ) : EReal := ∑ k ∈ Finset.range 2048, h k i * u k j

/-- What the body makes of its blocks. -/
theorem pay (u' : ℕ → ℕ → EReal) :
    k0_pay1 (F := Ideal) (arr 2048 1024 .bf16 h) (arr 2048 512 .bf16 u') = arr3 1 1024 512 .bf16 fun _ => grad h u' := by
  unfold k0_pay1
  dsimp only
  refine (congrArg (fun x => shapeCast _ (truncf .bf16 x _) _) (matmul_tn (M := 1024) (K := 2048) (N := 512) h u')).trans ?_
  exact shapeCast_arr (φ := .bf16) (grad h u') _

include hh hu in
/-- The array that the call leaves. -/
theorem result : (dats m 0 c).arrAt 2 cfg0.N
    = (arr3 8 1024 512 .bf16 (fun p i j => grad h u i (p * 512 + j)) : FVec Ideal S8x1024x512 .bf16) := by
  refine (dats m 0 c).arrAt_eq_of_covers 2 _ (by decide +kernel) fun t hf y => ?_
  blk_simp
  rw [after0_2]
  frame_out
  rw [blk_h m c h hh, blk_u m c u hu, pay]
  unfold arr3
  blk_simp [index_2]
  rfl

end Kernel

section Reference
open Cert.RefMlpInDwIdeal Cert.RefMlpInDwIdeal.Gen Cert.RefMlpInDwIdeal.Read

variable (h u : ℕ → ℕ → EReal)

/-- The reference's product is the transposed one. -/
theorem product : val_main_v5 (F := Ideal) (arr 2048 1024 .bf16 h) (arr 2048 4096 .bf16 u) = arr 1024 4096 .f32 (grad h u) := by
  unfold val_main_v5 val_main_v4
  refine (congrArg (fun x => transpose _ [1, 0] x _)
    ((dot_eq _ _ _).trans (matmul_tn (φ := .f32) (ψ := .f32) (M := 4096) (K := 2048) (N := 1024) u h))).trans ?_
  refine (transpose_arr _ _).trans (arr_congr fun i _ j _ => ?_)
  exact Finset.sum_congr rfl fun k _ => mul_comm _ _

/-- The reference's array. -/
theorem reference : val_main_v8 (F := Ideal) (arr 2048 1024 .bf16 h) (arr 2048 4096 .bf16 u)
    = arr3 8 1024 512 .bf16 fun p i j => grad h u i (p * 512 + j) := by
  unfold val_main_v8 val_main_v7 val_main_v6
  rw [product]
  exact stack_cols (φ := .bf16) (p := 8) (q := 512) (grad h u) rfl _ _

end Reference

section Claims
open Cert.MlpInDwIdeal

/-- The kernel's frame at the machine's own numbers. -/
theorem frame_p : Cert.quiescent_MlpInDw := fun m g _ => Cert.MlpInDw.Gen.frame m g

/-- The idealized kernel's frame. -/
theorem frame_pi : Cert.quiescent_MlpInDwIdeal := fun m g _ => Cert.MlpInDwIdeal.Gen.frame m g

/-- The reference's frame. -/
theorem frame_r : Cert.quiescent_RefMlpInDwIdeal := fun m g _ =>
  (θ_run Cert.RefMlpInDwIdeal.defs _ _).mono (fun r h => ⟨fun c => (h c).2, sem_eq_zero_of_no_sems (by decide) r.2⟩)
    (Cert.RefMlpInDwIdeal.Value.run m g)

/-- The idealized kernel is the kernel's own text. -/
theorem preserves : Cert.preserves_MlpInDw_MlpInDwIdeal := trivial

/-- The kernel and the reference end with equal arrays. -/
theorem algebraic : Cert.algebraic_MlpInDwIdeal_RefMlpInDwIdeal := by
  intro m g m' g' _ hagree
  refine ⟨fun c => (Cert.MlpInDwIdeal.Gen.dats m 0 c).arrAt 2 _, Cert.MlpInDwIdeal.Value.run_blocks m g,
    (θ_run Cert.RefMlpInDwIdeal.defs _ _).mono (fun r h c => ⟨(h c).1.trans ?_, (h c).2⟩) (Cert.RefMlpInDwIdeal.Value.run m' g')⟩
  obtain ⟨a0, a1⟩ := hagree c
  obtain ⟨h, hh⟩ := exists_arr (n := 2048) (m := 1024) (φ := .bf16) (m ((c.tc : Thread nD τ).loc main_arg0))
  obtain ⟨u, hu⟩ := exists_arr (n := 2048) (m := 4096) (φ := .bf16) (m ((c.tc : Thread nD τ).loc main_arg1))
  rw [Cert.RefMlpInDwIdeal.Read.val_main_v8_eq, a0, a1, hh, hu]
  exact (reference h u).trans (result m c h u hh hu).symm

end Claims

end Cert.Proof.MlpInDw
-- ==== Proof.MlpIn.lean ====
module

public import proofs.«01_k».proof.Defs
public import proofs.«01_k».proof.Proof.Gen.MlpIn.Frame
public import proofs.«01_k».proof.Proof.Gen.MlpInIdeal.Value
public import proofs.«01_k».proof.Proof.Gen.RefMlpInIdeal.Read
public import proofs.«01_k».proof.Proof.Arr
public import Idealize.ShloMosaic.Lib.Quiescent
public import Idealize.ShloMosaic.Lib.Pipeline.ValueKit.Geometry
public import Idealize.ShloMosaic.Lib.Pipeline.ValueKit.Acc

/-!
The MLP's first product, with the squared rectifier of it as a second result.
-/

@[expose] public section

set_option maxRecDepth 16384

noncomputable section

open scoped BigOperators

namespace Cert.Proof.MlpIn

open Idealize.ShloMosaic Idealize.ShloMosaic.TcCoe Idealize.ShloMosaic.ValueIdx Idealize.SL.Sem Ret

section Kernel
open Cert.MlpInIdeal Cert.MlpInIdeal.Gen Cert.MlpInIdeal.Value

variable (m : (ℓ : Loc nD τ sig) → Buf (Elt Ideal) ℓ) (c : Dev nD) (h w : ℕ → ℕ → EReal)
  (hh : m ((c : Thread nD τ).loc main_arg0) = (arr 2048 1024 .bf16 h : FVec Ideal S2048x1024 .bf16))
  (hw : m ((c : Thread nD τ).loc main_arg1) = (arr 1024 4096 .bf16 w : FVec Ideal S1024x4096 .bf16))

/-- The blocks' places. -/
theorem index_0 : ∀ t : Fin cfg0.N, win0_0.index t = ![0, 0] := by decide +kernel
@[inherit_doc index_0]
theorem index_1 : ∀ t : Fin cfg0.N, win0_1.index t = ![0, 0, t.val] := by decide +kernel
@[inherit_doc index_0]
theorem index_2 : ∀ t : Fin cfg0.N, win0_2.index t = ![0, t.val] := by decide +kernel
@[inherit_doc index_0]
theorem index_3 : ∀ t : Fin cfg0.N, win0_3.index t = ![0, t.val] := by decide +kernel

include hh in
/-- The rows, whole. -/
theorem blk_h (t : Fin cfg0.N) : iblk m c 0 t = (arr 2048 1024 .bf16 h : FVec Ideal S2048x1024 .bf16) := by
  funext y
  blk_simp [iblk]
  rw [V_main_arg0, hh]
  unfold arr
  blk_simp [index_0]

/-- The weights as the kernel holds them, a one-array stack. -/
theorem entry (f : ℕ → ℕ → EReal) (e : m ((c : Thread nD τ).loc main_arg1) = (arr 1024 4096 .bf16 f : FVec Ideal S1024x4096 .bf16)) :
    V m c main_v0 = (arr3 1 1024 4096 .bf16 (fun _ => f) : FVec Ideal S1x1024x4096 .bf16) := by
  refine Eq.trans ?_ ((congrArg (broadcastInDim S1x1024x4096 ![1, 2] bcast_S1024x4096_S1x1024x4096_1_2) e).trans
    (broadcast_arr f _))
  unfold_abbrev_sides
  after_results

include hw in
/-- Columns 512 t to 512 t + 511 of the weights. -/
theorem blk_w (t : Fin cfg0.N) : iblk m c 1 t = (arr3 1 1024 512 .bf16 (fun _ i j => w i (t.val * 512 + j)) : FVec Ideal S1x1024x512 .bf16) := by
  funext y
  blk_simp [iblk]
  rw [entry m c w hw]
  unfold arr3
  blk_simp [index_1]

/-- The pre-activation at an entry. -/
def pre (h w : ℕ → ℕ → EReal) (i j : ℕ) : EReal := ∑ k ∈ Finset.range 1024, h i k * w k j

/-- The activation at an entry. -/
def act (h w : ℕ → ℕ → EReal) (i j : ℕ) : EReal :=
  max (pre h w i j) (Ideal.ofBits .f32 0x00000000#32) * max (pre h w i j) (Ideal.ofBits .f32 0x00000000#32)

/-- The body's product. -/
theorem pay (w' : ℕ → ℕ → EReal) :
    k0_pay1 (F := Ideal) (arr 2048 1024 .bf16 h) (arr3 1 1024 512 .bf16 fun _ => w') = arr 2048 512 .f32 (pre h w') := by
  unfold k0_pay1
  dsimp only
  rw [shapeCast_arr3]
  exact matmul_nn (M := 2048) (K := 1024) (N := 512) h w'

/-- The body's two results. -/
theorem pay_pre (w' : ℕ → ℕ → EReal) :
    k0_pay2 (F := Ideal) (arr 2048 1024 .bf16 h) (arr3 1 1024 512 .bf16 fun _ => w') = arr 2048 512 .bf16 (pre h w') := by
  unfold k0_pay2
  rw [pay]
  rfl
@[inherit_doc pay_pre]
theorem pay_act (w' : ℕ → ℕ → EReal) :
    k0_pay3 (F := Ideal) (arr 2048 1024 .bf16 h) (arr3 1 1024 512 .bf16 fun _ => w') = arr 2048 512 .bf16 (act h w') := by
  unfold k0_pay3
  rw [pay]
  rfl

include hh hw in
/-- The pre-activation that the call leaves. -/
theorem result_pre : (dats m 0 c).arrAt 2 cfg0.N = (arr 2048 4096 .bf16 (pre h w) : FVec Ideal S2048x4096 .bf16) := by
  refine (dats m 0 c).arrAt_eq_of_covers 2 _ (by decide +kernel) fun t hf y => ?_
  blk_simp
  rw [after0_2]
  frame_out
  rw [blk_h m c h hh, blk_w m c w hw, pay_pre]
  unfold arr
  blk_simp [index_2]
  rfl

include hh hw in
/-- The activation that the call leaves. -/
theorem result_act : (dats m 0 c).arrAt 3 cfg0.N = (arr 2048 4096 .bf16 (act h w) : FVec Ideal S2048x4096 .bf16) := by
  refine (dats m 0 c).arrAt_eq_of_covers 3 _ (by decide +kernel) fun t hf y => ?_
  blk_simp
  rw [after0_3]
  frame_out
  rw [blk_h m c h hh, blk_w m c w hw, pay_act]
  unfold arr
  blk_simp [index_3]
  rfl

end Kernel

section Reference
open Cert.RefMlpInIdeal Cert.RefMlpInIdeal.Gen Cert.RefMlpInIdeal.Read

variable (h w : ℕ → ℕ → EReal)

/-- The reference's product. -/
theorem product : val_main_v2 (F := Ideal) (arr 2048 1024 .bf16 h) (arr 1024 4096 .bf16 w) = arr 2048 4096 .f32 (pre h w) :=
  (dot_eq _ _ _).trans (matmul_nn (φ := .f32) (ψ := .f32) (M := 2048) (K := 1024) (N := 4096) h w)

/-- The reference's two arrays. -/
theorem reference_pre : val_main_v3 (F := Ideal) (arr 2048 1024 .bf16 h) (arr 1024 4096 .bf16 w) = arr 2048 4096 .bf16 (pre h w) := by
  unfold val_main_v3
  rw [product]
  rfl
@[inherit_doc reference_pre]
theorem reference_act : val_main_v6 (F := Ideal) (arr 2048 1024 .bf16 h) (arr 1024 4096 .bf16 w) = arr 2048 4096 .bf16 (act h w) := by
  unfold val_main_v6 val_main_v5 val_main_v4
  rw [product]
  rfl

end Reference

section Claims
open Cert.MlpInIdeal

/-- The kernel's frame at the machine's own numbers. -/
theorem frame_p : Cert.quiescent_MlpIn := fun m g _ => Cert.MlpIn.Gen.frame m g

/-- The idealized kernel's frame. -/
theorem frame_pi : Cert.quiescent_MlpInIdeal := fun m g _ => Cert.MlpInIdeal.Gen.frame m g

/-- The reference's frame. -/
theorem frame_r : Cert.quiescent_RefMlpInIdeal := fun m g _ =>
  (θ_run Cert.RefMlpInIdeal.defs _ _).mono (fun r h => ⟨fun c => (h c).2.2, sem_eq_zero_of_no_sems (by decide) r.2⟩)
    (Cert.RefMlpInIdeal.Value.run m g)

/-- The idealized kernel is the kernel's own text. -/
theorem preserves : Cert.preserves_MlpIn_MlpInIdeal := trivial

/-- The kernel and the reference end with equal arrays. -/
theorem algebraic : Cert.algebraic_MlpInIdeal_RefMlpInIdeal := by
  intro m g m' g' _ hagree
  refine ⟨fun c => (Cert.MlpInIdeal.Gen.dats m 0 c).arrAt 2 _, fun c => (Cert.MlpInIdeal.Gen.dats m 0 c).arrAt 3 _,
    Cert.MlpInIdeal.Value.run_blocks m g,
    (θ_run Cert.RefMlpInIdeal.defs _ _).mono (fun r h c => ⟨(h c).1.trans ?_, (h c).2.1.trans ?_, (h c).2.2⟩)
      (Cert.RefMlpInIdeal.Value.run m' g')⟩
  all_goals
    obtain ⟨a0, a1⟩ := hagree c
    obtain ⟨h, hh⟩ := exists_arr (n := 2048) (m := 1024) (φ := .bf16) (m ((c.tc : Thread nD τ).loc main_arg0))
    obtain ⟨w, hw⟩ := exists_arr (n := 1024) (m := 4096) (φ := .bf16) (m ((c.tc : Thread nD τ).loc main_arg1))
  · rw [Cert.RefMlpInIdeal.Read.val_main_v3_eq, a0, a1, hh, hw]
    exact (reference_pre h w).trans (result_pre m c h w hh hw).symm
  · rw [Cert.RefMlpInIdeal.Read.val_main_v6_eq, a0, a1, hh, hw]
    exact (reference_act h w).trans (result_act m c h w hh hw).symm

end Claims

end Cert.Proof.MlpIn
-- ==== Proof.MlpOut.lean ====
module

public import proofs.«01_k».proof.Defs
public import proofs.«01_k».proof.Proof.Gen.MlpOut.Frame
public import proofs.«01_k».proof.Proof.Gen.MlpOutIdeal.Value
public import proofs.«01_k».proof.Proof.Gen.RefMlpOutIdeal.Read
public import proofs.«01_k».proof.Proof.Arr
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

/-!
The MLP's second product: the activations against the output weights, its 4096 terms summed in two halves.
-/

@[expose] public section

set_option maxRecDepth 16384

noncomputable section

open scoped BigOperators

namespace Cert.Proof.MlpOut

open Idealize.ShloMosaic Idealize.ShloMosaic.TcCoe Idealize.ShloMosaic.ValueIdx Idealize.SL.Sem Ret

section Kernel
open Cert.MlpOutIdeal Cert.MlpOutIdeal.Gen Cert.MlpOutIdeal.Value

variable (m : (ℓ : Loc nD τ sig) → Buf (Elt Ideal) ℓ) (c : Dev nD) (a w : ℕ → ℕ → EReal)
  (ha : m ((c : Thread nD τ).loc main_arg0) = (arr 2048 4096 .bf16 a : FVec Ideal S2048x4096 .bf16))
  (hw : m ((c : Thread nD τ).loc main_arg1) = (arr 4096 1024 .bf16 w : FVec Ideal S4096x1024 .bf16))

/-- The blocks' places. -/
theorem index_0 : ∀ t : Fin cfg0.N, win0_0.index t = ![t.val / 2, t.val % 2] := by decide +kernel
@[inherit_doc index_0]
theorem index_1 : ∀ t : Fin cfg0.N, win0_1.index t = ![0, t.val % 2, 0] := by decide +kernel
@[inherit_doc index_0]
theorem index_2 : ∀ t : Fin cfg0.N, win0_2.index t = ![t.val / 2, 0] := by decide +kernel

include ha in
/-- Rows 1024 (t / 2) and on, columns 2048 (t % 2) and on, of the activations. -/
theorem blk_a (t : Fin cfg0.N) : iblk m c 0 t = (arr 1024 2048 .bf16 (fun i j => a (t.val / 2 * 1024 + i) (t.val % 2 * 2048 + j)) : FVec Ideal S1024x2048 .bf16) := by
  funext y
  blk_simp [iblk]
  rw [V_main_arg0, ha]
  unfold arr
  blk_simp [index_0]

/-- The weights as the kernel holds them, a one-array stack. -/
theorem entry (f : ℕ → ℕ → EReal) (e : m ((c : Thread nD τ).loc main_arg1) = (arr 4096 1024 .bf16 f : FVec Ideal S4096x1024 .bf16)) :
    V m c main_v0 = (arr3 1 4096 1024 .bf16 (fun _ => f) : FVec Ideal S1x4096x1024 .bf16) := by
  refine Eq.trans ?_ ((congrArg (fun x => shapeCast S1x4096x1024 x shapeCasts_S4096x1024_S1x4096x1024) e).trans
    (shapeCast_arr f _))
  unfold_abbrev_sides
  after_results
  rfl

include hw in
/-- Rows 2048 (t % 2) and on of the weights. -/
theorem blk_w (t : Fin cfg0.N) : iblk m c 1 t = (arr3 1 2048 1024 .bf16 (fun _ i j => w (t.val % 2 * 2048 + i) j) : FVec Ideal S1x2048x1024 .bf16) := by
  funext y
  blk_simp [iblk]
  rw [entry m c w hw]
  unfold arr3
  blk_simp [index_1]

/-- The first K terms of the product at an entry. -/
def prod (K : ℕ) (a w : ℕ → ℕ → EReal) (i j : ℕ) : EReal := ∑ k ∈ Finset.range K, a i k * w k j

/-- The body's product. -/
theorem pay (a' w' : ℕ → ℕ → EReal) :
    k0_pay1 (F := Ideal) (arr 1024 2048 .bf16 a') (arr3 1 2048 1024 .bf16 fun _ => w') = arr 1024 1024 .f32 (prod 2048 a' w') := by
  unfold k0_pay1
  dsimp only
  rw [shapeCast_arr3]
  exact matmul_nn (M := 1024) (K := 2048) (N := 1024) a' w'

/-- What the body keeps at the first point of a tile. -/
theorem pay_first (a' w' : ℕ → ℕ → EReal) :
    k0_pay2 (F := Ideal) (arr 1024 2048 .bf16 a') (arr3 1 2048 1024 .bf16 fun _ => w') = arr 1024 1024 .f32 (prod 2048 a' w') := by
  unfold k0_pay2
  rw [pay]
  exact shapeCast_same _ _

/-- What the body writes at the last point of a tile, over what it kept. -/
theorem pay_last (a' w' s : ℕ → ℕ → EReal) :
    k0_pay4 (F := Ideal) (arr 1024 2048 .bf16 a') (arr3 1 2048 1024 .bf16 fun _ => w') (arr 1024 1024 .f32 s)
      = arr 1024 1024 .f32 fun i j => s i j + prod 2048 a' w' i j := by
  unfold k0_pay4
  rw [pay]
  rfl

include ha hw in
/-- What is kept after the first point of a tile: the first half of the sum. -/
theorem kept (t : Fin cfg0.N) (ht : t.val % 2 = 0) :
    (outsAt0 m c t.val t.isLt).2
      = (arr 1024 1024 .f32 (prod 2048 (fun i => a (t.val / 2 * 1024 + i)) w) : FVec Ideal S1024x1024 .f32) := by
  rw [outsAt0_A m c t (by omega) (by omega)]
  frame_out
  rw [blk_a m c a ha, blk_w m c w hw, pay_first]
  simp only [ht, Nat.zero_mul, Nat.zero_add]

include ha hw in
/-- The array that the call leaves. -/
theorem result : (dats m 0 c).arrAt 2 cfg0.N = (arr 2048 1024 .f32 (prod 4096 a w) : FVec Ideal S2048x1024 .f32) := by
  refine (dats m 0 c).arrAt_eq_of_covers 2 _ (by decide +kernel) fun t hf y => ?_
  have h1 : t.val % 2 = 1 := (flush0_2 t).mp hf
  have h2 : (t.val - 1) / 2 = t.val / 2 := by omega
  blk_simp
  rw [after0_2, outsAt0_B m c t (by omega) h1]
  frame_out
  rw [blk_a m c a ha, blk_w m c w hw,
    kept m c a w ha hw ⟨t.val - 1, lt_of_le_of_lt (Nat.sub_le _ _) t.isLt⟩ (show (t.val - 1) % 2 = 0 by omega), read_unread_whole, pay_last]
  unfold arr
  blk_simp [index_2]
  simp only [h1, h2, Nat.one_mul]
  exact sum_halves _ 2048

end Kernel

section Reference
open Cert.RefMlpOutIdeal Cert.RefMlpOutIdeal.Gen Cert.RefMlpOutIdeal.Read

variable (a w : ℕ → ℕ → EReal)

/-- The reference's array. -/
theorem reference : val_main_v2 (F := Ideal) (arr 2048 4096 .bf16 a) (arr 4096 1024 .bf16 w) = arr 2048 1024 .f32 (prod 4096 a w) :=
  (dot_eq _ _ _).trans (matmul_nn (φ := .f32) (ψ := .f32) (M := 2048) (K := 4096) (N := 1024) a w)

end Reference

section Claims
open Cert.MlpOutIdeal

/-- The kernel's frame at the machine's own numbers. -/
theorem frame_p : Cert.quiescent_MlpOut := fun m g _ => Cert.MlpOut.Gen.frame m g

/-- The idealized kernel's frame. -/
theorem frame_pi : Cert.quiescent_MlpOutIdeal := fun m g _ => Cert.MlpOutIdeal.Gen.frame m g

/-- The reference's frame. -/
theorem frame_r : Cert.quiescent_RefMlpOutIdeal := fun m g _ =>
  (θ_run Cert.RefMlpOutIdeal.defs _ _).mono (fun r h => ⟨fun c => (h c).2, sem_eq_zero_of_no_sems (by decide) r.2⟩)
    (Cert.RefMlpOutIdeal.Value.run m g)

/-- The idealized kernel is the kernel's own text. -/
theorem preserves : Cert.preserves_MlpOut_MlpOutIdeal := trivial

/-- The kernel and the reference end with equal arrays. -/
theorem algebraic : Cert.algebraic_MlpOutIdeal_RefMlpOutIdeal := by
  intro m g m' g' _ hagree
  refine ⟨fun c => (Cert.MlpOutIdeal.Gen.dats m 0 c).arrAt 2 _, Cert.MlpOutIdeal.Value.run_blocks m g,
    (θ_run Cert.RefMlpOutIdeal.defs _ _).mono (fun r h c => ⟨(h c).1.trans ?_, (h c).2⟩) (Cert.RefMlpOutIdeal.Value.run m' g')⟩
  obtain ⟨a0, a1⟩ := hagree c
  obtain ⟨a, ha⟩ := exists_arr (n := 2048) (m := 4096) (φ := .bf16) (m ((c.tc : Thread nD τ).loc main_arg0))
  obtain ⟨w, hw⟩ := exists_arr (n := 4096) (m := 1024) (φ := .bf16) (m ((c.tc : Thread nD τ).loc main_arg1))
  rw [Cert.RefMlpOutIdeal.Read.val_main_v2_eq, a0, a1, ha, hw]
  exact (reference a w).trans (result m c a w ha hw).symm

end Claims

end Cert.Proof.MlpOut
-- ==== Proof.RetIn.lean ====
module

public import proofs.«01_k».proof.Defs
public import proofs.«01_k».proof.Proof.Gen.RetProj.Frame
public import proofs.«01_k».proof.Proof.Gen.RetProjIdeal.Value
public import proofs.«01_k».proof.Proof.Gen.RefRetProjIdeal.Read
public import proofs.«01_k».proof.Proof.Gen.RetProjDx.Frame
public import proofs.«01_k».proof.Proof.Gen.RetProjDxIdeal.Value
public import proofs.«01_k».proof.Proof.Gen.RefRetProjDxIdeal.Read
public import proofs.«01_k».proof.Proof.Gen.RetProjDw.Frame
public import proofs.«01_k».proof.Proof.Gen.RetProjDwIdeal.Value
public import proofs.«01_k».proof.Proof.Gen.RefRetProjDwIdeal.Read
public import proofs.«01_k».proof.Proof.Arr
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

/-!
The projection into the retention: its product, and the gradients with respect to its rows and its weights.
-/

@[expose] public section

set_option maxRecDepth 16384

noncomputable section

open scoped BigOperators
open Idealize.ShloMosaic Idealize.ShloMosaic.TcCoe Idealize.ShloMosaic.ValueIdx Idealize.SL.Sem Ret

/-! ## The projection -/

namespace Cert.Proof.RetProj

section Kernel
open Cert.RetProjIdeal Cert.RetProjIdeal.Gen Cert.RetProjIdeal.Value

variable (m : (ℓ : Loc nD τ sig) → Buf (Elt Ideal) ℓ) (c : Dev nD) (h w : ℕ → ℕ → EReal)
  (hh : m ((c : Thread nD τ).loc main_arg0) = (arr 2048 1024 .bf16 h : FVec Ideal S2048x1024 .bf16))
  (hw : m ((c : Thread nD τ).loc main_arg1) = (arr 1024 6144 .bf16 w : FVec Ideal S1024x6144 .bf16))

/-- The blocks' places. -/
theorem index_0 : ∀ t : Fin cfg0.N, win0_0.index t = ![0, 0] := by decide +kernel
@[inherit_doc index_0]
theorem index_1 : ∀ t : Fin cfg0.N, win0_1.index t = ![0, 0, t.val] := by decide +kernel
@[inherit_doc index_0]
theorem index_2 : ∀ t : Fin cfg0.N, win0_2.index t = ![0, t.val] := by decide +kernel

include hh in
/-- A block of the first operand. -/
theorem blk_h (t : Fin cfg0.N) : iblk m c 0 t = (arr 2048 1024 .bf16 h : FVec Ideal S2048x1024 .bf16) := by
  funext y
  blk_simp [iblk]
  rw [V_main_arg0, hh]
  unfold arr
  blk_simp [index_0]

include hw in
/-- The weights as the kernel holds them, a one-array stack. -/
theorem entry : V m c main_v0 = (arr3 1 1024 6144 .bf16 fun _ => w : FVec Ideal S1x1024x6144 .bf16) := by
  refine Eq.trans ?_ ((congrArg (broadcastInDim S1x1024x6144 ![1, 2] bcast_S1024x6144_S1x1024x6144_1_2) hw).trans (broadcast_arr w _))
  unfold_abbrev_sides
  after_results

include hw in
/-- A block of the second operand. -/
theorem blk_w (t : Fin cfg0.N) : iblk m c 1 t = (arr3 1 1024 512 .bf16 (fun _ i j => w i (t.val * 512 + j)) : FVec Ideal S1x1024x512 .bf16) := by
  funext y
  blk_simp [iblk]
  rw [entry m c w hw]
  unfold arr3
  blk_simp [index_1]

/-- What the body makes of its blocks. -/
theorem pay (h' w' : ℕ → ℕ → EReal) : k0_pay1 (F := Ideal) (arr 2048 1024 .bf16 h') (arr3 1 1024 512 .bf16 fun _ => w') = arr 2048 512 .bf16 (nn 1024 h' w') :=
  funext fun y => congrFun (body_nn (M := 2048) (K := 1024) (N := 512) h' w' shapeCasts_S1x1024x512_S1024x512) y

include hh hw in
/-- The array that the call leaves. -/
theorem result : (dats m 0 c).arrAt 2 cfg0.N = (arr 2048 6144 .bf16 (nn 1024 h w) : FVec Ideal S2048x6144 .bf16) := by
  refine (dats m 0 c).arrAt_eq_of_covers 2 _ (by decide +kernel) fun t hf y => ?_
  blk_simp
  rw [after0_2]
  frame_out
  rw [blk_h m c h hh, blk_w m c w hw, pay]
  unfold arr
  blk_simp [index_2]
  rfl

end Kernel

section Reference
open Cert.RefRetProjIdeal Cert.RefRetProjIdeal.Gen Cert.RefRetProjIdeal.Read

/-- The reference's array. -/
theorem reference (h w : ℕ → ℕ → EReal) : val_main_v3 (F := Ideal) (arr 2048 1024 .bf16 h) (arr 1024 6144 .bf16 w)
    = arr 2048 6144 .bf16 (nn 1024 h w) := by
  exact funext fun y => congrFun (host_nn (M := 2048) (K := 1024) (N := 6144) h w) y

end Reference

section Claims
open Cert.RetProjIdeal

/-- The kernel's frame at the machine's own numbers. -/
theorem frame_p : Cert.quiescent_RetProj := fun m g _ => Cert.RetProj.Gen.frame m g

/-- The idealized kernel's frame. -/
theorem frame_pi : Cert.quiescent_RetProjIdeal := fun m g _ => Cert.RetProjIdeal.Gen.frame m g

/-- The reference's frame. -/
theorem frame_r : Cert.quiescent_RefRetProjIdeal := fun m g _ =>
  (θ_run Cert.RefRetProjIdeal.defs _ _).mono (fun r h => ⟨fun c => (h c).2, sem_eq_zero_of_no_sems (by decide) r.2⟩)
    (Cert.RefRetProjIdeal.Value.run m g)

/-- The idealized kernel is the kernel's own text. -/
theorem preserves : Cert.preserves_RetProj_RetProjIdeal := trivial

/-- The kernel and the reference end with equal arrays. -/
theorem algebraic : Cert.algebraic_RetProjIdeal_RefRetProjIdeal := by
  intro m g m' g' _ hagree
  refine ⟨fun c => (Cert.RetProjIdeal.Gen.dats m 0 c).arrAt 2 _, Cert.RetProjIdeal.Value.run_blocks m g,
    (θ_run Cert.RefRetProjIdeal.defs _ _).mono (fun r h c => ⟨(h c).1.trans ?_, (h c).2⟩) (Cert.RefRetProjIdeal.Value.run m' g')⟩
  obtain ⟨a0, a1⟩ := hagree c
  obtain ⟨h, hh⟩ := exists_arr (n := 2048) (m := 1024) (φ := .bf16) (m ((c.tc : Thread nD τ).loc main_arg0))
  obtain ⟨w, hw⟩ := exists_arr (n := 1024) (m := 6144) (φ := .bf16) (m ((c.tc : Thread nD τ).loc main_arg1))
  rw [Cert.RefRetProjIdeal.Read.val_main_v3_eq, a0, a1, hh, hw]
  exact (reference h w).trans (result m c h w hh hw).symm

end Claims

end Cert.Proof.RetProj

/-! ## The gradient with respect to the rows -/

namespace Cert.Proof.RetProjDx

section Kernel
open Cert.RetProjDxIdeal Cert.RetProjDxIdeal.Gen Cert.RetProjDxIdeal.Value

variable (m : (ℓ : Loc nD τ sig) → Buf (Elt Ideal) ℓ) (c : Dev nD) (d w : ℕ → ℕ → EReal)
  (hd : m ((c : Thread nD τ).loc main_arg0) = (arr 2048 6144 .bf16 d : FVec Ideal S2048x6144 .bf16))
  (hw : m ((c : Thread nD τ).loc main_arg1) = (arr 1024 6144 .bf16 w : FVec Ideal S1024x6144 .bf16))

/-- The blocks' places. -/
theorem index_0 : ∀ t : Fin cfg0.N, win0_0.index t = ![t.val / 2, t.val % 2] := by decide +kernel
@[inherit_doc index_0]
theorem index_1 : ∀ t : Fin cfg0.N, win0_1.index t = ![0, 0, t.val % 2] := by decide +kernel
@[inherit_doc index_0]
theorem index_2 : ∀ t : Fin cfg0.N, win0_2.index t = ![t.val / 2, 0] := by decide +kernel

include hd in
/-- A block of the first operand. -/
theorem blk_d (t : Fin cfg0.N) : iblk m c 0 t = (arr 1024 3072 .bf16 (fun i j => d (t.val / 2 * 1024 + i) (t.val % 2 * 3072 + j)) : FVec Ideal S1024x3072 .bf16) := by
  funext y
  blk_simp [iblk]
  rw [V_main_arg0, hd]
  unfold arr
  blk_simp [index_0]

include hw in
/-- The weights as the kernel holds them, a one-array stack. -/
theorem entry : V m c main_v0 = (arr3 1 1024 6144 .bf16 fun _ => w : FVec Ideal S1x1024x6144 .bf16) := by
  refine Eq.trans ?_ ((congrArg (broadcastInDim S1x1024x6144 ![1, 2] bcast_S1024x6144_S1x1024x6144_1_2) hw).trans (broadcast_arr w _))
  unfold_abbrev_sides
  after_results

include hw in
/-- A block of the second operand. -/
theorem blk_w (t : Fin cfg0.N) : iblk m c 1 t = (arr3 1 1024 3072 .bf16 (fun _ i j => w i (t.val % 2 * 3072 + j)) : FVec Ideal S1x1024x3072 .bf16) := by
  funext y
  blk_simp [iblk]
  rw [entry m c w hw]
  unfold arr3
  blk_simp [index_1]

/-- The body's product. -/
theorem pay (d' w' : ℕ → ℕ → EReal) :
    k0_pay1 (F := Ideal) (arr 1024 3072 .bf16 d') (arr3 1 1024 3072 .bf16 fun _ => w') = arr 1024 1024 .f32 (nt 3072 d' w') :=
  body_nt (M := 1024) (K := 3072) (N := 1024) d' w' shapeCasts_S1x1024x3072_S1024x3072

/-- What the body keeps at a block's first point. -/
theorem pay_first (d' w' : ℕ → ℕ → EReal) :
    k0_pay2 (F := Ideal) (arr 1024 3072 .bf16 d') (arr3 1 1024 3072 .bf16 fun _ => w') = arr 1024 1024 .f32 (nt 3072 d' w') := by
  unfold k0_pay2
  rw [pay]
  exact shapeCast_same _ _

/-- What the body writes at a block's last point, over what it kept. -/
theorem pay_last (d' w' s : ℕ → ℕ → EReal) :
    k0_pay4 (F := Ideal) (arr 1024 3072 .bf16 d') (arr3 1 1024 3072 .bf16 fun _ => w') (arr 1024 1024 .f32 s)
      = arr 1024 1024 .bf16 fun i j => s i j + nt 3072 d' w' i j := by
  unfold k0_pay4
  rw [pay]
  rfl

include hd hw in
/-- What is kept after a block's first point: the first half of the sum. -/
theorem kept (t : Fin cfg0.N) (ht : t.val % 2 = 0) :
    (outsAt0 m c t.val t.isLt).2 = (arr 1024 1024 .f32 (nt 3072 (fun i => d (t.val / 2 * 1024 + i)) w) : FVec Ideal S1024x1024 .f32) := by
  rw [outsAt0_A m c t ht (by omega)]
  frame_out
  rw [blk_d m c d hd, blk_w m c w hw, pay_first]
  simp only [ht, Nat.zero_mul, Nat.zero_add]

include hd hw in
/-- The array that the call leaves. -/
theorem result : (dats m 0 c).arrAt 2 cfg0.N = (arr 2048 1024 .bf16 (nt 6144 d w) : FVec Ideal S2048x1024 .bf16) := by
  refine (dats m 0 c).arrAt_eq_of_covers 2 _ (by decide +kernel) fun t hf y => ?_
  have h1 : t.val % 2 = 1 := (flush0_2 t).mp hf
  have h2 : (t.val - 1) % 2 = 0 := by omega
  have h3 : (t.val - 1) / 2 = t.val / 2 := by omega
  blk_simp
  rw [after0_2, outsAt0_B m c t (by omega) h1]
  frame_out
  rw [blk_d m c d hd, blk_w m c w hw, kept m c d w hd hw ⟨t.val - 1, lt_of_le_of_lt (Nat.sub_le _ _) t.isLt⟩ h2,
    read_unread_whole, pay_last]
  unfold arr
  blk_simp [index_2]
  simp only [h1, h3, Nat.one_mul]
  exact sum_halves _ 3072

end Kernel

section Reference
open Cert.RefRetProjDxIdeal Cert.RefRetProjDxIdeal.Gen Cert.RefRetProjDxIdeal.Read

/-- The reference's array. -/
theorem reference (d w : ℕ → ℕ → EReal) : val_main_v5 (F := Ideal) (arr 2048 6144 .bf16 d) (arr 1024 6144 .bf16 w)
    = arr 2048 1024 .bf16 (nt 6144 d w) := by
  exact funext fun y => congrFun (host_nt (M := 2048) (K := 6144) (N := 1024) d w) y

end Reference

section Claims
open Cert.RetProjDxIdeal

/-- The kernel's frame at the machine's own numbers. -/
theorem frame_p : Cert.quiescent_RetProjDx := fun m g _ => Cert.RetProjDx.Gen.frame m g

/-- The idealized kernel's frame. -/
theorem frame_pi : Cert.quiescent_RetProjDxIdeal := fun m g _ => Cert.RetProjDxIdeal.Gen.frame m g

/-- The reference's frame. -/
theorem frame_r : Cert.quiescent_RefRetProjDxIdeal := fun m g _ =>
  (θ_run Cert.RefRetProjDxIdeal.defs _ _).mono (fun r h => ⟨fun c => (h c).2, sem_eq_zero_of_no_sems (by decide) r.2⟩)
    (Cert.RefRetProjDxIdeal.Value.run m g)

/-- The idealized kernel is the kernel's own text. -/
theorem preserves : Cert.preserves_RetProjDx_RetProjDxIdeal := trivial

/-- The kernel and the reference end with equal arrays. -/
theorem algebraic : Cert.algebraic_RetProjDxIdeal_RefRetProjDxIdeal := by
  intro m g m' g' _ hagree
  refine ⟨fun c => (Cert.RetProjDxIdeal.Gen.dats m 0 c).arrAt 2 _, Cert.RetProjDxIdeal.Value.run_blocks m g,
    (θ_run Cert.RefRetProjDxIdeal.defs _ _).mono (fun r h c => ⟨(h c).1.trans ?_, (h c).2⟩) (Cert.RefRetProjDxIdeal.Value.run m' g')⟩
  obtain ⟨a0, a1⟩ := hagree c
  obtain ⟨d, hd⟩ := exists_arr (n := 2048) (m := 6144) (φ := .bf16) (m ((c.tc : Thread nD τ).loc main_arg0))
  obtain ⟨w, hw⟩ := exists_arr (n := 1024) (m := 6144) (φ := .bf16) (m ((c.tc : Thread nD τ).loc main_arg1))
  rw [Cert.RefRetProjDxIdeal.Read.val_main_v5_eq, a0, a1, hd, hw]
  exact (reference d w).trans (result m c d w hd hw).symm

end Claims

end Cert.Proof.RetProjDx

/-! ## The gradient with respect to the weights, its columns in eight runs -/

namespace Cert.Proof.RetProjDw

section Kernel
open Cert.RetProjDwIdeal Cert.RetProjDwIdeal.Gen Cert.RetProjDwIdeal.Value

variable (m : (ℓ : Loc nD τ sig) → Buf (Elt Ideal) ℓ) (c : Dev nD) (h d : ℕ → ℕ → EReal)
  (hh : m ((c : Thread nD τ).loc main_arg0) = (arr 2048 1024 .bf16 h : FVec Ideal S2048x1024 .bf16))
  (hd : m ((c : Thread nD τ).loc main_arg1) = (arr 2048 6144 .bf16 d : FVec Ideal S2048x6144 .bf16))

/-- The blocks' places. -/
theorem index_0 : ∀ t : Fin cfg0.N, win0_0.index t = ![0, 0] := by decide +kernel
@[inherit_doc index_0]
theorem index_1 : ∀ t : Fin cfg0.N, win0_1.index t = ![0, t.val] := by decide +kernel
@[inherit_doc index_0]
theorem index_2 : ∀ t : Fin cfg0.N, win0_2.index t = ![t.val, 0, 0] := by decide +kernel

include hh in
/-- A block of the first operand. -/
theorem blk_h (t : Fin cfg0.N) : iblk m c 0 t = (arr 2048 1024 .bf16 h : FVec Ideal S2048x1024 .bf16) := by
  funext y
  blk_simp [iblk]
  rw [V_main_arg0, hh]
  unfold arr
  blk_simp [index_0]

include hd in
/-- A block of the second operand. -/
theorem blk_d (t : Fin cfg0.N) : iblk m c 1 t = (arr 2048 768 .bf16 (fun i j => d i (t.val * 768 + j)) : FVec Ideal S2048x768 .bf16) := by
  funext y
  blk_simp [iblk]
  rw [V_main_arg1, hd]
  unfold arr
  blk_simp [index_1]

/-- What the body makes of its blocks. -/
theorem pay (h' d' : ℕ → ℕ → EReal) : k0_pay1 (F := Ideal) (arr 2048 1024 .bf16 h') (arr 2048 768 .bf16 d') = arr3 1 1024 768 .bf16 fun _ => tn 2048 h' d' :=
  body_tn (M := 1024) (K := 2048) (N := 768) h' d' _ _

include hh hd in
/-- The array that the call leaves. -/
theorem result : (dats m 0 c).arrAt 2 cfg0.N = (arr3 8 1024 768 .bf16 (fun p i j => tn 2048 h d i (p * 768 + j)) : FVec Ideal S8x1024x768 .bf16) := by
  refine (dats m 0 c).arrAt_eq_of_covers 2 _ (by decide +kernel) fun t hf y => ?_
  blk_simp
  rw [after0_2]
  frame_out
  rw [blk_h m c h hh, blk_d m c d hd, pay]
  unfold arr3
  blk_simp [index_2]
  rfl

end Kernel

section Reference
open Cert.RefRetProjDwIdeal Cert.RefRetProjDwIdeal.Gen Cert.RefRetProjDwIdeal.Read

/-- The reference's array. -/
theorem reference (h d : ℕ → ℕ → EReal) : val_main_v8 (F := Ideal) (arr 2048 1024 .bf16 h) (arr 2048 6144 .bf16 d)
    = arr3 8 1024 768 .bf16 (fun p i j => tn 2048 h d i (p * 768 + j)) := by
  have e : val_main_v5 (F := Ideal) (arr 2048 1024 .bf16 h) (arr 2048 6144 .bf16 d) = arr 1024 6144 .f32 (tn 2048 h d) :=
    weights_tn (M := 1024) (K := 2048) (N := 6144) h d _
  unfold val_main_v8 val_main_v7 val_main_v6
  rw [e]
  exact stack_cols (φ := .bf16) (p := 8) (q := 768) (tn 2048 h d) rfl _ _

end Reference

section Claims
open Cert.RetProjDwIdeal

/-- The kernel's frame at the machine's own numbers. -/
theorem frame_p : Cert.quiescent_RetProjDw := fun m g _ => Cert.RetProjDw.Gen.frame m g

/-- The idealized kernel's frame. -/
theorem frame_pi : Cert.quiescent_RetProjDwIdeal := fun m g _ => Cert.RetProjDwIdeal.Gen.frame m g

/-- The reference's frame. -/
theorem frame_r : Cert.quiescent_RefRetProjDwIdeal := fun m g _ =>
  (θ_run Cert.RefRetProjDwIdeal.defs _ _).mono (fun r h => ⟨fun c => (h c).2, sem_eq_zero_of_no_sems (by decide) r.2⟩)
    (Cert.RefRetProjDwIdeal.Value.run m g)

/-- The idealized kernel is the kernel's own text. -/
theorem preserves : Cert.preserves_RetProjDw_RetProjDwIdeal := trivial

/-- The kernel and the reference end with equal arrays. -/
theorem algebraic : Cert.algebraic_RetProjDwIdeal_RefRetProjDwIdeal := by
  intro m g m' g' _ hagree
  refine ⟨fun c => (Cert.RetProjDwIdeal.Gen.dats m 0 c).arrAt 2 _, Cert.RetProjDwIdeal.Value.run_blocks m g,
    (θ_run Cert.RefRetProjDwIdeal.defs _ _).mono (fun r h c => ⟨(h c).1.trans ?_, (h c).2⟩) (Cert.RefRetProjDwIdeal.Value.run m' g')⟩
  obtain ⟨a0, a1⟩ := hagree c
  obtain ⟨h, hh⟩ := exists_arr (n := 2048) (m := 1024) (φ := .bf16) (m ((c.tc : Thread nD τ).loc main_arg0))
  obtain ⟨d, hd⟩ := exists_arr (n := 2048) (m := 6144) (φ := .bf16) (m ((c.tc : Thread nD τ).loc main_arg1))
  rw [Cert.RefRetProjDwIdeal.Read.val_main_v8_eq, a0, a1, hh, hd]
  exact (reference h d).trans (result m c h d hh hd).symm

end Claims

end Cert.Proof.RetProjDw
-- ==== Proof.RetOut.lean ====
module

public import proofs.«01_k».proof.Defs
public import proofs.«01_k».proof.Proof.Gen.RetOutDx.Frame
public import proofs.«01_k».proof.Proof.Gen.RetOutDxIdeal.Value
public import proofs.«01_k».proof.Proof.Gen.RefRetOutDxIdeal.Read
public import proofs.«01_k».proof.Proof.Gen.RetOutDw.Frame
public import proofs.«01_k».proof.Proof.Gen.RetOutDwIdeal.Value
public import proofs.«01_k».proof.Proof.Gen.RefRetOutDwIdeal.Read
public import proofs.«01_k».proof.Proof.Arr
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

/-!
The projection out of the retention: the gradients with respect to its rows and its weights.
-/

@[expose] public section

set_option maxRecDepth 16384

noncomputable section

open scoped BigOperators
open Idealize.ShloMosaic Idealize.ShloMosaic.TcCoe Idealize.ShloMosaic.ValueIdx Idealize.SL.Sem Ret

/-! ## The gradient with respect to the rows -/

namespace Cert.Proof.RetOutDx

section Kernel
open Cert.RetOutDxIdeal Cert.RetOutDxIdeal.Gen Cert.RetOutDxIdeal.Value

variable (m : (ℓ : Loc nD τ sig) → Buf (Elt Ideal) ℓ) (c : Dev nD) (d w : ℕ → ℕ → EReal)
  (hd : m ((c : Thread nD τ).loc main_arg0) = (arr 2048 1024 .bf16 d : FVec Ideal S2048x1024 .bf16))
  (hw : m ((c : Thread nD τ).loc main_arg1) = (arr 2048 1024 .bf16 w : FVec Ideal S2048x1024 .bf16))

/-- The blocks' places. -/
theorem index_0 : ∀ t : Fin cfg0.N, win0_0.index t = ![0, 0] := by decide +kernel
@[inherit_doc index_0]
theorem index_1 : ∀ t : Fin cfg0.N, win0_1.index t = ![0, t.val, 0] := by decide +kernel
@[inherit_doc index_0]
theorem index_2 : ∀ t : Fin cfg0.N, win0_2.index t = ![0, t.val] := by decide +kernel

include hd in
/-- A block of the first operand. -/
theorem blk_d (t : Fin cfg0.N) : iblk m c 0 t = (arr 2048 1024 .bf16 d : FVec Ideal S2048x1024 .bf16) := by
  funext y
  blk_simp [iblk]
  rw [V_main_arg0, hd]
  unfold arr
  blk_simp [index_0]

include hw in
/-- The weights as the kernel holds them, a one-array stack. -/
theorem entry : V m c main_v0 = (arr3 1 2048 1024 .bf16 fun _ => w : FVec Ideal S1x2048x1024 .bf16) := by
  refine Eq.trans ?_ ((congrArg (fun x => shapeCast S1x2048x1024 x shapeCasts_S2048x1024_S1x2048x1024) hw).trans (shapeCast_arr w _))
  unfold_abbrev_sides
  after_results
  rfl

include hw in
/-- A block of the second operand. -/
theorem blk_w (t : Fin cfg0.N) : iblk m c 1 t = (arr3 1 512 1024 .bf16 (fun _ i => w (t.val * 512 + i)) : FVec Ideal S1x512x1024 .bf16) := by
  funext y
  blk_simp [iblk]
  rw [entry m c w hw]
  unfold arr3
  blk_simp [index_1]

/-- What the body makes of its blocks. -/
theorem pay (d' w' : ℕ → ℕ → EReal) : k0_pay1 (F := Ideal) (arr 2048 1024 .bf16 d') (arr3 1 512 1024 .bf16 fun _ => w') = arr 2048 512 .bf16 (nt 1024 d' w') :=
  funext fun y => congrFun (body_nt (M := 2048) (K := 1024) (N := 512) d' w' shapeCasts_S1x512x1024_S512x1024) y

include hd hw in
/-- The array that the call leaves. -/
theorem result : (dats m 0 c).arrAt 2 cfg0.N = (arr 2048 2048 .bf16 (nt 1024 d w) : FVec Ideal S2048x2048 .bf16) := by
  refine (dats m 0 c).arrAt_eq_of_covers 2 _ (by decide +kernel) fun t hf y => ?_
  blk_simp
  rw [after0_2]
  frame_out
  rw [blk_d m c d hd, blk_w m c w hw, pay]
  unfold arr
  blk_simp [index_2]
  rfl

end Kernel

section Reference
open Cert.RefRetOutDxIdeal Cert.RefRetOutDxIdeal.Gen Cert.RefRetOutDxIdeal.Read

/-- The reference's array. -/
theorem reference (d w : ℕ → ℕ → EReal) : val_main_v5 (F := Ideal) (arr 2048 1024 .bf16 d) (arr 2048 1024 .bf16 w)
    = arr 2048 2048 .bf16 (nt 1024 d w) := by
  exact funext fun y => congrFun (host_nt (M := 2048) (K := 1024) (N := 2048) d w) y

end Reference

section Claims
open Cert.RetOutDxIdeal

/-- The kernel's frame at the machine's own numbers. -/
theorem frame_p : Cert.quiescent_RetOutDx := fun m g _ => Cert.RetOutDx.Gen.frame m g

/-- The idealized kernel's frame. -/
theorem frame_pi : Cert.quiescent_RetOutDxIdeal := fun m g _ => Cert.RetOutDxIdeal.Gen.frame m g

/-- The reference's frame. -/
theorem frame_r : Cert.quiescent_RefRetOutDxIdeal := fun m g _ =>
  (θ_run Cert.RefRetOutDxIdeal.defs _ _).mono (fun r h => ⟨fun c => (h c).2, sem_eq_zero_of_no_sems (by decide) r.2⟩)
    (Cert.RefRetOutDxIdeal.Value.run m g)

/-- The idealized kernel is the kernel's own text. -/
theorem preserves : Cert.preserves_RetOutDx_RetOutDxIdeal := trivial

/-- The kernel and the reference end with equal arrays. -/
theorem algebraic : Cert.algebraic_RetOutDxIdeal_RefRetOutDxIdeal := by
  intro m g m' g' _ hagree
  refine ⟨fun c => (Cert.RetOutDxIdeal.Gen.dats m 0 c).arrAt 2 _, Cert.RetOutDxIdeal.Value.run_blocks m g,
    (θ_run Cert.RefRetOutDxIdeal.defs _ _).mono (fun r h c => ⟨(h c).1.trans ?_, (h c).2⟩) (Cert.RefRetOutDxIdeal.Value.run m' g')⟩
  obtain ⟨a0, a1⟩ := hagree c
  obtain ⟨d, hd⟩ := exists_arr (n := 2048) (m := 1024) (φ := .bf16) (m ((c.tc : Thread nD τ).loc main_arg0))
  obtain ⟨w, hw⟩ := exists_arr (n := 2048) (m := 1024) (φ := .bf16) (m ((c.tc : Thread nD τ).loc main_arg1))
  rw [Cert.RefRetOutDxIdeal.Read.val_main_v5_eq, a0, a1, hd, hw]
  exact (reference d w).trans (result m c d w hd hw).symm

end Claims

end Cert.Proof.RetOutDx

/-! ## The gradient with respect to the weights -/

namespace Cert.Proof.RetOutDw

section Kernel
open Cert.RetOutDwIdeal Cert.RetOutDwIdeal.Gen Cert.RetOutDwIdeal.Value

variable (m : (ℓ : Loc nD τ sig) → Buf (Elt Ideal) ℓ) (c : Dev nD) (h d : ℕ → ℕ → EReal)
  (hh : m ((c : Thread nD τ).loc main_arg0) = (arr 2048 2048 .bf16 h : FVec Ideal S2048x2048 .bf16))
  (hd : m ((c : Thread nD τ).loc main_arg1) = (arr 2048 1024 .bf16 d : FVec Ideal S2048x1024 .bf16))

/-- The blocks' places. -/
theorem index_0 : ∀ t : Fin cfg0.N, win0_0.index t = ![0, t.val] := by decide +kernel
@[inherit_doc index_0]
theorem index_1 : ∀ t : Fin cfg0.N, win0_1.index t = ![0, 0] := by decide +kernel
@[inherit_doc index_0]
theorem index_2 : ∀ t : Fin cfg0.N, win0_2.index t = ![0, t.val, 0] := by decide +kernel

include hh in
/-- A block of the first operand. -/
theorem blk_h (t : Fin cfg0.N) : iblk m c 0 t = (arr 2048 1024 .bf16 (fun i j => h i (t.val * 1024 + j)) : FVec Ideal S2048x1024 .bf16) := by
  funext y
  blk_simp [iblk]
  rw [V_main_arg0, hh]
  unfold arr
  blk_simp [index_0]

include hd in
/-- A block of the second operand. -/
theorem blk_d (t : Fin cfg0.N) : iblk m c 1 t = (arr 2048 1024 .bf16 d : FVec Ideal S2048x1024 .bf16) := by
  funext y
  blk_simp [iblk]
  rw [V_main_arg1, hd]
  unfold arr
  blk_simp [index_1]

/-- What the body makes of its blocks. -/
theorem pay (h' d' : ℕ → ℕ → EReal) : k0_pay1 (F := Ideal) (arr 2048 1024 .bf16 h') (arr 2048 1024 .bf16 d') = arr3 1 1024 1024 .bf16 fun _ => tn 2048 h' d' :=
  body_tn (M := 1024) (K := 2048) (N := 1024) h' d' _ _

include hh hd in
/-- The array that the call leaves. -/
theorem result : (dats m 0 c).arrAt 2 cfg0.N = (arr3 1 2048 1024 .bf16 (fun _ => tn 2048 h d) : FVec Ideal S1x2048x1024 .bf16) := by
  refine (dats m 0 c).arrAt_eq_of_covers 2 _ (by decide +kernel) fun t hf y => ?_
  blk_simp
  rw [after0_2]
  frame_out
  rw [blk_h m c h hh, blk_d m c d hd, pay]
  unfold arr3
  blk_simp [index_2]
  rfl

end Kernel

section Reference
open Cert.RefRetOutDwIdeal Cert.RefRetOutDwIdeal.Gen Cert.RefRetOutDwIdeal.Read

/-- The reference's array. -/
theorem reference (h d : ℕ → ℕ → EReal) : val_main_v7 (F := Ideal) (arr 2048 2048 .bf16 h) (arr 2048 1024 .bf16 d)
    = arr3 1 2048 1024 .bf16 (fun _ => tn 2048 h d) := by
  have e : val_main_v5 (F := Ideal) (arr 2048 2048 .bf16 h) (arr 2048 1024 .bf16 d) = arr 2048 1024 .f32 (tn 2048 h d) :=
    weights_tn (M := 2048) (K := 2048) (N := 1024) h d _
  unfold val_main_v7 val_main_v6
  rw [e]
  exact broadcast_arr (φ := .bf16) (tn 2048 h d) _

end Reference

section Claims
open Cert.RetOutDwIdeal

/-- The kernel's frame at the machine's own numbers. -/
theorem frame_p : Cert.quiescent_RetOutDw := fun m g _ => Cert.RetOutDw.Gen.frame m g

/-- The idealized kernel's frame. -/
theorem frame_pi : Cert.quiescent_RetOutDwIdeal := fun m g _ => Cert.RetOutDwIdeal.Gen.frame m g

/-- The reference's frame. -/
theorem frame_r : Cert.quiescent_RefRetOutDwIdeal := fun m g _ =>
  (θ_run Cert.RefRetOutDwIdeal.defs _ _).mono (fun r h => ⟨fun c => (h c).2, sem_eq_zero_of_no_sems (by decide) r.2⟩)
    (Cert.RefRetOutDwIdeal.Value.run m g)

/-- The idealized kernel is the kernel's own text. -/
theorem preserves : Cert.preserves_RetOutDw_RetOutDwIdeal := trivial

/-- The kernel and the reference end with equal arrays. -/
theorem algebraic : Cert.algebraic_RetOutDwIdeal_RefRetOutDwIdeal := by
  intro m g m' g' _ hagree
  refine ⟨fun c => (Cert.RetOutDwIdeal.Gen.dats m 0 c).arrAt 2 _, Cert.RetOutDwIdeal.Value.run_blocks m g,
    (θ_run Cert.RefRetOutDwIdeal.defs _ _).mono (fun r h c => ⟨(h c).1.trans ?_, (h c).2⟩) (Cert.RefRetOutDwIdeal.Value.run m' g')⟩
  obtain ⟨a0, a1⟩ := hagree c
  obtain ⟨h, hh⟩ := exists_arr (n := 2048) (m := 2048) (φ := .bf16) (m ((c.tc : Thread nD τ).loc main_arg0))
  obtain ⟨d, hd⟩ := exists_arr (n := 2048) (m := 1024) (φ := .bf16) (m ((c.tc : Thread nD τ).loc main_arg1))
  rw [Cert.RefRetOutDwIdeal.Read.val_main_v7_eq, a0, a1, hh, hd]
  exact (reference h d).trans (result m c h d hh hd).symm

end Claims

end Cert.Proof.RetOutDw
-- ==== Proof.FoxIn.lean ====
module

public import proofs.«01_k».proof.Defs
public import proofs.«01_k».proof.Proof.Gen.FoxProj.Frame
public import proofs.«01_k».proof.Proof.Gen.FoxProjIdeal.Value
public import proofs.«01_k».proof.Proof.Gen.RefFoxProjIdeal.Read
public import proofs.«01_k».proof.Proof.Gen.FoxProjDx.Frame
public import proofs.«01_k».proof.Proof.Gen.FoxProjDxIdeal.Value
public import proofs.«01_k».proof.Proof.Gen.RefFoxProjDxIdeal.Read
public import proofs.«01_k».proof.Proof.Gen.FoxProjDw.Frame
public import proofs.«01_k».proof.Proof.Gen.FoxProjDwIdeal.Value
public import proofs.«01_k».proof.Proof.Gen.RefFoxProjDwIdeal.Read
public import proofs.«01_k».proof.Proof.Arr
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

/-!
The projection into the attention: its product, and the gradients with respect to its rows and its weights.
-/

@[expose] public section

set_option maxRecDepth 16384

noncomputable section

open scoped BigOperators
open Idealize.ShloMosaic Idealize.ShloMosaic.TcCoe Idealize.ShloMosaic.ValueIdx Idealize.SL.Sem Ret

/-! ## The projection -/

namespace Cert.Proof.FoxProj

section Kernel
open Cert.FoxProjIdeal Cert.FoxProjIdeal.Gen Cert.FoxProjIdeal.Value

variable (m : (ℓ : Loc nD τ sig) → Buf (Elt Ideal) ℓ) (c : Dev nD) (h w : ℕ → ℕ → EReal)
  (hh : m ((c : Thread nD τ).loc main_arg0) = (arr 2048 1024 .bf16 h : FVec Ideal S2048x1024 .bf16))
  (hw : m ((c : Thread nD τ).loc main_arg1) = (arr 1024 2048 .bf16 w : FVec Ideal S1024x2048 .bf16))

/-- The blocks' places. -/
theorem index_0 : ∀ t : Fin cfg0.N, win0_0.index t = ![0, 0] := by decide +kernel
@[inherit_doc index_0]
theorem index_1 : ∀ t : Fin cfg0.N, win0_1.index t = ![0, 0, t.val] := by decide +kernel
@[inherit_doc index_0]
theorem index_2 : ∀ t : Fin cfg0.N, win0_2.index t = ![0, t.val] := by decide +kernel

include hh in
/-- A block of the first operand. -/
theorem blk_h (t : Fin cfg0.N) : iblk m c 0 t = (arr 2048 1024 .bf16 h : FVec Ideal S2048x1024 .bf16) := by
  funext y
  blk_simp [iblk]
  rw [V_main_arg0, hh]
  unfold arr
  blk_simp [index_0]

include hw in
/-- The weights as the kernel holds them, a one-array stack. -/
theorem entry : V m c main_v0 = (arr3 1 1024 2048 .bf16 fun _ => w : FVec Ideal S1x1024x2048 .bf16) := by
  refine Eq.trans ?_ ((congrArg (broadcastInDim S1x1024x2048 ![1, 2] bcast_S1024x2048_S1x1024x2048_1_2) hw).trans (broadcast_arr w _))
  unfold_abbrev_sides
  after_results

include hw in
/-- A block of the second operand. -/
theorem blk_w (t : Fin cfg0.N) : iblk m c 1 t = (arr3 1 1024 512 .bf16 (fun _ i j => w i (t.val * 512 + j)) : FVec Ideal S1x1024x512 .bf16) := by
  funext y
  blk_simp [iblk]
  rw [entry m c w hw]
  unfold arr3
  blk_simp [index_1]

/-- What the body makes of its blocks. -/
theorem pay (h' w' : ℕ → ℕ → EReal) : k0_pay1 (F := Ideal) (arr 2048 1024 .bf16 h') (arr3 1 1024 512 .bf16 fun _ => w') = arr 2048 512 .f32 (nn 1024 h' w') :=
  funext fun y => congrFun (body_nn (M := 2048) (K := 1024) (N := 512) h' w' shapeCasts_S1x1024x512_S1024x512) y

include hh hw in
/-- The array that the call leaves. -/
theorem result : (dats m 0 c).arrAt 2 cfg0.N = (arr 2048 2048 .f32 (nn 1024 h w) : FVec Ideal S2048x2048 .f32) := by
  refine (dats m 0 c).arrAt_eq_of_covers 2 _ (by decide +kernel) fun t hf y => ?_
  blk_simp
  rw [after0_2]
  frame_out
  rw [blk_h m c h hh, blk_w m c w hw, pay]
  unfold arr
  blk_simp [index_2]
  rfl

end Kernel

section Reference
open Cert.RefFoxProjIdeal Cert.RefFoxProjIdeal.Gen Cert.RefFoxProjIdeal.Read

/-- The reference's array. -/
theorem reference (h w : ℕ → ℕ → EReal) : val_main_v2 (F := Ideal) (arr 2048 1024 .bf16 h) (arr 1024 2048 .bf16 w)
    = arr 2048 2048 .f32 (nn 1024 h w) := by
  exact funext fun y => congrFun (host_nn (M := 2048) (K := 1024) (N := 2048) h w) y

end Reference

section Claims
open Cert.FoxProjIdeal

/-- The kernel's frame at the machine's own numbers. -/
theorem frame_p : Cert.quiescent_FoxProj := fun m g _ => Cert.FoxProj.Gen.frame m g

/-- The idealized kernel's frame. -/
theorem frame_pi : Cert.quiescent_FoxProjIdeal := fun m g _ => Cert.FoxProjIdeal.Gen.frame m g

/-- The reference's frame. -/
theorem frame_r : Cert.quiescent_RefFoxProjIdeal := fun m g _ =>
  (θ_run Cert.RefFoxProjIdeal.defs _ _).mono (fun r h => ⟨fun c => (h c).2, sem_eq_zero_of_no_sems (by decide) r.2⟩)
    (Cert.RefFoxProjIdeal.Value.run m g)

/-- The idealized kernel is the kernel's own text. -/
theorem preserves : Cert.preserves_FoxProj_FoxProjIdeal := trivial

/-- The kernel and the reference end with equal arrays. -/
theorem algebraic : Cert.algebraic_FoxProjIdeal_RefFoxProjIdeal := by
  intro m g m' g' _ hagree
  refine ⟨fun c => (Cert.FoxProjIdeal.Gen.dats m 0 c).arrAt 2 _, Cert.FoxProjIdeal.Value.run_blocks m g,
    (θ_run Cert.RefFoxProjIdeal.defs _ _).mono (fun r h c => ⟨(h c).1.trans ?_, (h c).2⟩) (Cert.RefFoxProjIdeal.Value.run m' g')⟩
  obtain ⟨a0, a1⟩ := hagree c
  obtain ⟨h, hh⟩ := exists_arr (n := 2048) (m := 1024) (φ := .bf16) (m ((c.tc : Thread nD τ).loc main_arg0))
  obtain ⟨w, hw⟩ := exists_arr (n := 1024) (m := 2048) (φ := .bf16) (m ((c.tc : Thread nD τ).loc main_arg1))
  rw [Cert.RefFoxProjIdeal.Read.val_main_v2_eq, a0, a1, hh, hw]
  exact (reference h w).trans (result m c h w hh hw).symm

end Claims

end Cert.Proof.FoxProj

/-! ## The gradient with respect to the rows -/

namespace Cert.Proof.FoxProjDx

section Kernel
open Cert.FoxProjDxIdeal Cert.FoxProjDxIdeal.Gen Cert.FoxProjDxIdeal.Value

variable (m : (ℓ : Loc nD τ sig) → Buf (Elt Ideal) ℓ) (c : Dev nD) (d w : ℕ → ℕ → EReal)
  (hd : m ((c : Thread nD τ).loc main_arg0) = (arr 2048 2048 .bf16 d : FVec Ideal S2048x2048 .bf16))
  (hw : m ((c : Thread nD τ).loc main_arg1) = (arr 1024 2048 .bf16 w : FVec Ideal S1024x2048 .bf16))

/-- The blocks' places. -/
theorem index_0 : ∀ t : Fin cfg0.N, win0_0.index t = ![0, 0] := by decide +kernel
@[inherit_doc index_0]
theorem index_1 : ∀ t : Fin cfg0.N, win0_1.index t = ![0, 0, 0] := by decide +kernel
@[inherit_doc index_0]
theorem index_2 : ∀ t : Fin cfg0.N, win0_2.index t = ![0, 0] := by decide +kernel

include hd in
/-- A block of the first operand. -/
theorem blk_d (t : Fin cfg0.N) : iblk m c 0 t = (arr 2048 2048 .bf16 d : FVec Ideal S2048x2048 .bf16) := by
  funext y
  blk_simp [iblk]
  rw [V_main_arg0, hd]
  unfold arr
  blk_simp [index_0]

include hw in
/-- The weights as the kernel holds them, a one-array stack. -/
theorem entry : V m c main_v0 = (arr3 1 1024 2048 .bf16 fun _ => w : FVec Ideal S1x1024x2048 .bf16) := by
  refine Eq.trans ?_ ((congrArg (broadcastInDim S1x1024x2048 ![1, 2] bcast_S1024x2048_S1x1024x2048_1_2) hw).trans (broadcast_arr w _))
  unfold_abbrev_sides
  after_results

include hw in
/-- A block of the second operand. -/
theorem blk_w (t : Fin cfg0.N) : iblk m c 1 t = (arr3 1 1024 2048 .bf16 (fun _ => w) : FVec Ideal S1x1024x2048 .bf16) := by
  funext y
  blk_simp [iblk]
  rw [entry m c w hw]
  unfold arr3
  blk_simp [index_1]

/-- What the body makes of its blocks. -/
theorem pay (d' w' : ℕ → ℕ → EReal) : k0_pay1 (F := Ideal) (arr 2048 2048 .bf16 d') (arr3 1 1024 2048 .bf16 fun _ => w') = arr 2048 1024 .bf16 (nt 2048 d' w') :=
  funext fun y => congrFun (body_nt (M := 2048) (K := 2048) (N := 1024) d' w' shapeCasts_S1x1024x2048_S1024x2048) y

include hd hw in
/-- The array that the call leaves. -/
theorem result : (dats m 0 c).arrAt 2 cfg0.N = (arr 2048 1024 .bf16 (nt 2048 d w) : FVec Ideal S2048x1024 .bf16) := by
  refine (dats m 0 c).arrAt_eq_of_covers 2 _ (by decide +kernel) fun t hf y => ?_
  blk_simp
  rw [after0_2]
  frame_out
  rw [blk_d m c d hd, blk_w m c w hw, pay]
  unfold arr
  blk_simp [index_2]

end Kernel

section Reference
open Cert.RefFoxProjDxIdeal Cert.RefFoxProjDxIdeal.Gen Cert.RefFoxProjDxIdeal.Read

/-- The reference's array. -/
theorem reference (d w : ℕ → ℕ → EReal) : val_main_v5 (F := Ideal) (arr 2048 2048 .bf16 d) (arr 1024 2048 .bf16 w)
    = arr 2048 1024 .bf16 (nt 2048 d w) := by
  exact funext fun y => congrFun (host_nt (M := 2048) (K := 2048) (N := 1024) d w) y

end Reference

section Claims
open Cert.FoxProjDxIdeal

/-- The kernel's frame at the machine's own numbers. -/
theorem frame_p : Cert.quiescent_FoxProjDx := fun m g _ => Cert.FoxProjDx.Gen.frame m g

/-- The idealized kernel's frame. -/
theorem frame_pi : Cert.quiescent_FoxProjDxIdeal := fun m g _ => Cert.FoxProjDxIdeal.Gen.frame m g

/-- The reference's frame. -/
theorem frame_r : Cert.quiescent_RefFoxProjDxIdeal := fun m g _ =>
  (θ_run Cert.RefFoxProjDxIdeal.defs _ _).mono (fun r h => ⟨fun c => (h c).2, sem_eq_zero_of_no_sems (by decide) r.2⟩)
    (Cert.RefFoxProjDxIdeal.Value.run m g)

/-- The idealized kernel is the kernel's own text. -/
theorem preserves : Cert.preserves_FoxProjDx_FoxProjDxIdeal := trivial

/-- The kernel and the reference end with equal arrays. -/
theorem algebraic : Cert.algebraic_FoxProjDxIdeal_RefFoxProjDxIdeal := by
  intro m g m' g' _ hagree
  refine ⟨fun c => (Cert.FoxProjDxIdeal.Gen.dats m 0 c).arrAt 2 _, Cert.FoxProjDxIdeal.Value.run_blocks m g,
    (θ_run Cert.RefFoxProjDxIdeal.defs _ _).mono (fun r h c => ⟨(h c).1.trans ?_, (h c).2⟩) (Cert.RefFoxProjDxIdeal.Value.run m' g')⟩
  obtain ⟨a0, a1⟩ := hagree c
  obtain ⟨d, hd⟩ := exists_arr (n := 2048) (m := 2048) (φ := .bf16) (m ((c.tc : Thread nD τ).loc main_arg0))
  obtain ⟨w, hw⟩ := exists_arr (n := 1024) (m := 2048) (φ := .bf16) (m ((c.tc : Thread nD τ).loc main_arg1))
  rw [Cert.RefFoxProjDxIdeal.Read.val_main_v5_eq, a0, a1, hd, hw]
  exact (reference d w).trans (result m c d w hd hw).symm

end Claims

end Cert.Proof.FoxProjDx

/-! ## The gradient with respect to the weights, its columns in eight runs -/

namespace Cert.Proof.FoxProjDw

section Kernel
open Cert.FoxProjDwIdeal Cert.FoxProjDwIdeal.Gen Cert.FoxProjDwIdeal.Value

variable (m : (ℓ : Loc nD τ sig) → Buf (Elt Ideal) ℓ) (c : Dev nD) (h d : ℕ → ℕ → EReal)
  (hh : m ((c : Thread nD τ).loc main_arg0) = (arr 2048 1024 .bf16 h : FVec Ideal S2048x1024 .bf16))
  (hd : m ((c : Thread nD τ).loc main_arg1) = (arr 2048 2048 .bf16 d : FVec Ideal S2048x2048 .bf16))

/-- The blocks' places. -/
theorem index_0 : ∀ t : Fin cfg0.N, win0_0.index t = ![0, 0] := by decide +kernel
@[inherit_doc index_0]
theorem index_1 : ∀ t : Fin cfg0.N, win0_1.index t = ![0, t.val] := by decide +kernel
@[inherit_doc index_0]
theorem index_2 : ∀ t : Fin cfg0.N, win0_2.index t = ![t.val, 0, 0] := by decide +kernel

include hh in
/-- A block of the first operand. -/
theorem blk_h (t : Fin cfg0.N) : iblk m c 0 t = (arr 2048 1024 .bf16 h : FVec Ideal S2048x1024 .bf16) := by
  funext y
  blk_simp [iblk]
  rw [V_main_arg0, hh]
  unfold arr
  blk_simp [index_0]

include hd in
/-- A block of the second operand. -/
theorem blk_d (t : Fin cfg0.N) : iblk m c 1 t = (arr 2048 256 .bf16 (fun i j => d i (t.val * 256 + j)) : FVec Ideal S2048x256 .bf16) := by
  funext y
  blk_simp [iblk]
  rw [V_main_arg1, hd]
  unfold arr
  blk_simp [index_1]

/-- What the body makes of its blocks. -/
theorem pay (h' d' : ℕ → ℕ → EReal) : k0_pay1 (F := Ideal) (arr 2048 1024 .bf16 h') (arr 2048 256 .bf16 d') = arr3 1 1024 256 .bf16 fun _ => tn 2048 h' d' :=
  body_tn (M := 1024) (K := 2048) (N := 256) h' d' _ _

include hh hd in
/-- The array that the call leaves. -/
theorem result : (dats m 0 c).arrAt 2 cfg0.N = (arr3 8 1024 256 .bf16 (fun p i j => tn 2048 h d i (p * 256 + j)) : FVec Ideal S8x1024x256 .bf16) := by
  refine (dats m 0 c).arrAt_eq_of_covers 2 _ (by decide +kernel) fun t hf y => ?_
  blk_simp
  rw [after0_2]
  frame_out
  rw [blk_h m c h hh, blk_d m c d hd, pay]
  unfold arr3
  blk_simp [index_2]
  rfl

end Kernel

section Reference
open Cert.RefFoxProjDwIdeal Cert.RefFoxProjDwIdeal.Gen Cert.RefFoxProjDwIdeal.Read

/-- The reference's array. -/
theorem reference (h d : ℕ → ℕ → EReal) : val_main_v8 (F := Ideal) (arr 2048 1024 .bf16 h) (arr 2048 2048 .bf16 d)
    = arr3 8 1024 256 .bf16 (fun p i j => tn 2048 h d i (p * 256 + j)) := by
  have e : val_main_v5 (F := Ideal) (arr 2048 1024 .bf16 h) (arr 2048 2048 .bf16 d) = arr 1024 2048 .f32 (tn 2048 h d) :=
    weights_tn (M := 1024) (K := 2048) (N := 2048) h d _
  unfold val_main_v8 val_main_v7 val_main_v6
  rw [e]
  exact stack_cols (φ := .bf16) (p := 8) (q := 256) (tn 2048 h d) rfl _ _

end Reference

section Claims
open Cert.FoxProjDwIdeal

/-- The kernel's frame at the machine's own numbers. -/
theorem frame_p : Cert.quiescent_FoxProjDw := fun m g _ => Cert.FoxProjDw.Gen.frame m g

/-- The idealized kernel's frame. -/
theorem frame_pi : Cert.quiescent_FoxProjDwIdeal := fun m g _ => Cert.FoxProjDwIdeal.Gen.frame m g

/-- The reference's frame. -/
theorem frame_r : Cert.quiescent_RefFoxProjDwIdeal := fun m g _ =>
  (θ_run Cert.RefFoxProjDwIdeal.defs _ _).mono (fun r h => ⟨fun c => (h c).2, sem_eq_zero_of_no_sems (by decide) r.2⟩)
    (Cert.RefFoxProjDwIdeal.Value.run m g)

/-- The idealized kernel is the kernel's own text. -/
theorem preserves : Cert.preserves_FoxProjDw_FoxProjDwIdeal := trivial

/-- The kernel and the reference end with equal arrays. -/
theorem algebraic : Cert.algebraic_FoxProjDwIdeal_RefFoxProjDwIdeal := by
  intro m g m' g' _ hagree
  refine ⟨fun c => (Cert.FoxProjDwIdeal.Gen.dats m 0 c).arrAt 2 _, Cert.FoxProjDwIdeal.Value.run_blocks m g,
    (θ_run Cert.RefFoxProjDwIdeal.defs _ _).mono (fun r h c => ⟨(h c).1.trans ?_, (h c).2⟩) (Cert.RefFoxProjDwIdeal.Value.run m' g')⟩
  obtain ⟨a0, a1⟩ := hagree c
  obtain ⟨h, hh⟩ := exists_arr (n := 2048) (m := 1024) (φ := .bf16) (m ((c.tc : Thread nD τ).loc main_arg0))
  obtain ⟨d, hd⟩ := exists_arr (n := 2048) (m := 2048) (φ := .bf16) (m ((c.tc : Thread nD τ).loc main_arg1))
  rw [Cert.RefFoxProjDwIdeal.Read.val_main_v8_eq, a0, a1, hh, hd]
  exact (reference h d).trans (result m c h d hh hd).symm

end Claims

end Cert.Proof.FoxProjDw
-- ==== Proof.FoxOut.lean ====
module

public import proofs.«01_k».proof.Defs
public import proofs.«01_k».proof.Proof.Gen.FoxOutDx.Frame
public import proofs.«01_k».proof.Proof.Gen.FoxOutDxIdeal.Value
public import proofs.«01_k».proof.Proof.Gen.RefFoxOutDxIdeal.Read
public import proofs.«01_k».proof.Proof.Gen.FoxOutDw.Frame
public import proofs.«01_k».proof.Proof.Gen.FoxOutDwIdeal.Value
public import proofs.«01_k».proof.Proof.Gen.RefFoxOutDwIdeal.Read
public import proofs.«01_k».proof.Proof.Arr
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

/-!
The projection out of the attention: the gradients with respect to its rows and its weights.
-/

@[expose] public section

set_option maxRecDepth 16384

noncomputable section

open scoped BigOperators
open Idealize.ShloMosaic Idealize.ShloMosaic.TcCoe Idealize.ShloMosaic.ValueIdx Idealize.SL.Sem Ret

/-! ## The gradient with respect to the rows -/

namespace Cert.Proof.FoxOutDx

section Kernel
open Cert.FoxOutDxIdeal Cert.FoxOutDxIdeal.Gen Cert.FoxOutDxIdeal.Value

variable (m : (ℓ : Loc nD τ sig) → Buf (Elt Ideal) ℓ) (c : Dev nD) (d w : ℕ → ℕ → EReal)
  (hd : m ((c : Thread nD τ).loc main_arg0) = (arr 2048 1024 .bf16 d : FVec Ideal S2048x1024 .bf16))
  (hw : m ((c : Thread nD τ).loc main_arg1) = (arr 1024 1024 .bf16 w : FVec Ideal S1024x1024 .bf16))

/-- The blocks' places. -/
theorem index_0 : ∀ t : Fin cfg0.N, win0_0.index t = ![0, 0] := by decide +kernel
@[inherit_doc index_0]
theorem index_1 : ∀ t : Fin cfg0.N, win0_1.index t = ![0, 0, 0] := by decide +kernel
@[inherit_doc index_0]
theorem index_2 : ∀ t : Fin cfg0.N, win0_2.index t = ![0, 0] := by decide +kernel

include hd in
/-- A block of the first operand. -/
theorem blk_d (t : Fin cfg0.N) : iblk m c 0 t = (arr 2048 1024 .bf16 d : FVec Ideal S2048x1024 .bf16) := by
  funext y
  blk_simp [iblk]
  rw [V_main_arg0, hd]
  unfold arr
  blk_simp [index_0]

include hw in
/-- The weights as the kernel holds them, a one-array stack. -/
theorem entry : V m c main_v0 = (arr3 1 1024 1024 .bf16 fun _ => w : FVec Ideal S1x1024x1024 .bf16) := by
  refine Eq.trans ?_ ((congrArg (fun x => shapeCast S1x1024x1024 x shapeCasts_S1024x1024_S1x1024x1024) hw).trans (shapeCast_arr w _))
  unfold_abbrev_sides
  after_results
  rfl

include hw in
/-- A block of the second operand. -/
theorem blk_w (t : Fin cfg0.N) : iblk m c 1 t = (arr3 1 1024 1024 .bf16 (fun _ => w) : FVec Ideal S1x1024x1024 .bf16) := by
  funext y
  blk_simp [iblk]
  rw [entry m c w hw]
  unfold arr3
  blk_simp [index_1]

/-- What the body makes of its blocks. -/
theorem pay (d' w' : ℕ → ℕ → EReal) : k0_pay1 (F := Ideal) (arr 2048 1024 .bf16 d') (arr3 1 1024 1024 .bf16 fun _ => w') = arr 2048 1024 .f32 (nt 1024 d' w') :=
  funext fun y => congrFun (body_nt (M := 2048) (K := 1024) (N := 1024) d' w' shapeCasts_S1x1024x1024_S1024x1024) y

include hd hw in
/-- The array that the call leaves. -/
theorem result : (dats m 0 c).arrAt 2 cfg0.N = (arr 2048 1024 .f32 (nt 1024 d w) : FVec Ideal S2048x1024 .f32) := by
  refine (dats m 0 c).arrAt_eq_of_covers 2 _ (by decide +kernel) fun t hf y => ?_
  blk_simp
  rw [after0_2]
  frame_out
  rw [blk_d m c d hd, blk_w m c w hw, pay]
  unfold arr
  blk_simp [index_2]

end Kernel

section Reference
open Cert.RefFoxOutDxIdeal Cert.RefFoxOutDxIdeal.Gen Cert.RefFoxOutDxIdeal.Read

/-- The reference's array. -/
theorem reference (d w : ℕ → ℕ → EReal) : val_main_v4 (F := Ideal) (arr 2048 1024 .bf16 d) (arr 1024 1024 .bf16 w)
    = arr 2048 1024 .f32 (nt 1024 d w) := by
  exact funext fun y => congrFun (host_nt (M := 2048) (K := 1024) (N := 1024) d w) y

end Reference

section Claims
open Cert.FoxOutDxIdeal

/-- The kernel's frame at the machine's own numbers. -/
theorem frame_p : Cert.quiescent_FoxOutDx := fun m g _ => Cert.FoxOutDx.Gen.frame m g

/-- The idealized kernel's frame. -/
theorem frame_pi : Cert.quiescent_FoxOutDxIdeal := fun m g _ => Cert.FoxOutDxIdeal.Gen.frame m g

/-- The reference's frame. -/
theorem frame_r : Cert.quiescent_RefFoxOutDxIdeal := fun m g _ =>
  (θ_run Cert.RefFoxOutDxIdeal.defs _ _).mono (fun r h => ⟨fun c => (h c).2, sem_eq_zero_of_no_sems (by decide) r.2⟩)
    (Cert.RefFoxOutDxIdeal.Value.run m g)

/-- The idealized kernel is the kernel's own text. -/
theorem preserves : Cert.preserves_FoxOutDx_FoxOutDxIdeal := trivial

/-- The kernel and the reference end with equal arrays. -/
theorem algebraic : Cert.algebraic_FoxOutDxIdeal_RefFoxOutDxIdeal := by
  intro m g m' g' _ hagree
  refine ⟨fun c => (Cert.FoxOutDxIdeal.Gen.dats m 0 c).arrAt 2 _, Cert.FoxOutDxIdeal.Value.run_blocks m g,
    (θ_run Cert.RefFoxOutDxIdeal.defs _ _).mono (fun r h c => ⟨(h c).1.trans ?_, (h c).2⟩) (Cert.RefFoxOutDxIdeal.Value.run m' g')⟩
  obtain ⟨a0, a1⟩ := hagree c
  obtain ⟨d, hd⟩ := exists_arr (n := 2048) (m := 1024) (φ := .bf16) (m ((c.tc : Thread nD τ).loc main_arg0))
  obtain ⟨w, hw⟩ := exists_arr (n := 1024) (m := 1024) (φ := .bf16) (m ((c.tc : Thread nD τ).loc main_arg1))
  rw [Cert.RefFoxOutDxIdeal.Read.val_main_v4_eq, a0, a1, hd, hw]
  exact (reference d w).trans (result m c d w hd hw).symm

end Claims

end Cert.Proof.FoxOutDx

/-! ## The gradient with respect to the weights -/

namespace Cert.Proof.FoxOutDw

section Kernel
open Cert.FoxOutDwIdeal Cert.FoxOutDwIdeal.Gen Cert.FoxOutDwIdeal.Value

variable (m : (ℓ : Loc nD τ sig) → Buf (Elt Ideal) ℓ) (c : Dev nD) (h d : ℕ → ℕ → EReal)
  (hh : m ((c : Thread nD τ).loc main_arg0) = (arr 2048 1024 .bf16 h : FVec Ideal S2048x1024 .bf16))
  (hd : m ((c : Thread nD τ).loc main_arg1) = (arr 2048 1024 .bf16 d : FVec Ideal S2048x1024 .bf16))

/-- The blocks' places. -/
theorem index_0 : ∀ t : Fin cfg0.N, win0_0.index t = ![0, 0] := by decide +kernel
@[inherit_doc index_0]
theorem index_1 : ∀ t : Fin cfg0.N, win0_1.index t = ![0, 0] := by decide +kernel
@[inherit_doc index_0]
theorem index_2 : ∀ t : Fin cfg0.N, win0_2.index t = ![0, 0, 0] := by decide +kernel

include hh in
/-- A block of the first operand. -/
theorem blk_h (t : Fin cfg0.N) : iblk m c 0 t = (arr 2048 1024 .bf16 h : FVec Ideal S2048x1024 .bf16) := by
  funext y
  blk_simp [iblk]
  rw [V_main_arg0, hh]
  unfold arr
  blk_simp [index_0]

include hd in
/-- A block of the second operand. -/
theorem blk_d (t : Fin cfg0.N) : iblk m c 1 t = (arr 2048 1024 .bf16 d : FVec Ideal S2048x1024 .bf16) := by
  funext y
  blk_simp [iblk]
  rw [V_main_arg1, hd]
  unfold arr
  blk_simp [index_1]

/-- What the body makes of its blocks. -/
theorem pay (h' d' : ℕ → ℕ → EReal) : k0_pay1 (F := Ideal) (arr 2048 1024 .bf16 h') (arr 2048 1024 .bf16 d') = arr3 1 1024 1024 .bf16 fun _ => tn 2048 h' d' :=
  body_tn (M := 1024) (K := 2048) (N := 1024) h' d' _ _

include hh hd in
/-- The array that the call leaves. -/
theorem result : (dats m 0 c).arrAt 2 cfg0.N = (arr3 1 1024 1024 .bf16 (fun _ => tn 2048 h d) : FVec Ideal S1x1024x1024 .bf16) := by
  refine (dats m 0 c).arrAt_eq_of_covers 2 _ (by decide +kernel) fun t hf y => ?_
  blk_simp
  rw [after0_2]
  frame_out
  rw [blk_h m c h hh, blk_d m c d hd, pay]
  unfold arr3
  blk_simp [index_2]

end Kernel

section Reference
open Cert.RefFoxOutDwIdeal Cert.RefFoxOutDwIdeal.Gen Cert.RefFoxOutDwIdeal.Read

/-- The reference's array. -/
theorem reference (h d : ℕ → ℕ → EReal) : val_main_v7 (F := Ideal) (arr 2048 1024 .bf16 h) (arr 2048 1024 .bf16 d)
    = arr3 1 1024 1024 .bf16 (fun _ => tn 2048 h d) := by
  have e : val_main_v5 (F := Ideal) (arr 2048 1024 .bf16 h) (arr 2048 1024 .bf16 d) = arr 1024 1024 .f32 (tn 2048 h d) :=
    weights_tn (M := 1024) (K := 2048) (N := 1024) h d _
  unfold val_main_v7 val_main_v6
  rw [e]
  exact broadcast_arr (φ := .bf16) (tn 2048 h d) _

end Reference

section Claims
open Cert.FoxOutDwIdeal

/-- The kernel's frame at the machine's own numbers. -/
theorem frame_p : Cert.quiescent_FoxOutDw := fun m g _ => Cert.FoxOutDw.Gen.frame m g

/-- The idealized kernel's frame. -/
theorem frame_pi : Cert.quiescent_FoxOutDwIdeal := fun m g _ => Cert.FoxOutDwIdeal.Gen.frame m g

/-- The reference's frame. -/
theorem frame_r : Cert.quiescent_RefFoxOutDwIdeal := fun m g _ =>
  (θ_run Cert.RefFoxOutDwIdeal.defs _ _).mono (fun r h => ⟨fun c => (h c).2, sem_eq_zero_of_no_sems (by decide) r.2⟩)
    (Cert.RefFoxOutDwIdeal.Value.run m g)

/-- The idealized kernel is the kernel's own text. -/
theorem preserves : Cert.preserves_FoxOutDw_FoxOutDwIdeal := trivial

/-- The kernel and the reference end with equal arrays. -/
theorem algebraic : Cert.algebraic_FoxOutDwIdeal_RefFoxOutDwIdeal := by
  intro m g m' g' _ hagree
  refine ⟨fun c => (Cert.FoxOutDwIdeal.Gen.dats m 0 c).arrAt 2 _, Cert.FoxOutDwIdeal.Value.run_blocks m g,
    (θ_run Cert.RefFoxOutDwIdeal.defs _ _).mono (fun r h c => ⟨(h c).1.trans ?_, (h c).2⟩) (Cert.RefFoxOutDwIdeal.Value.run m' g')⟩
  obtain ⟨a0, a1⟩ := hagree c
  obtain ⟨h, hh⟩ := exists_arr (n := 2048) (m := 1024) (φ := .bf16) (m ((c.tc : Thread nD τ).loc main_arg0))
  obtain ⟨d, hd⟩ := exists_arr (n := 2048) (m := 1024) (φ := .bf16) (m ((c.tc : Thread nD τ).loc main_arg1))
  rw [Cert.RefFoxOutDwIdeal.Read.val_main_v7_eq, a0, a1, hh, hd]
  exact (reference h d).trans (result m c h d hh hd).symm

end Claims

end Cert.Proof.FoxOutDw
-- ==== Proof.KvIn.lean ====
module

public import proofs.«01_k».proof.Defs
public import proofs.«01_k».proof.Proof.Gen.KvProj.Frame
public import proofs.«01_k».proof.Proof.Gen.KvProjIdeal.Value
public import proofs.«01_k».proof.Proof.Gen.RefKvProjIdeal.Read
public import proofs.«01_k».proof.Proof.Gen.KvProjDx.Frame
public import proofs.«01_k».proof.Proof.Gen.KvProjDxIdeal.Value
public import proofs.«01_k».proof.Proof.Gen.RefKvProjDxIdeal.Read
public import proofs.«01_k».proof.Proof.Gen.KvProjDw.Frame
public import proofs.«01_k».proof.Proof.Gen.KvProjDwIdeal.Value
public import proofs.«01_k».proof.Proof.Gen.RefKvProjDwIdeal.Read
public import proofs.«01_k».proof.Proof.Arr
public import Idealize.ShloMosaic.Lib.Quiescent
public import Idealize.ShloMosaic.Lib.Pipeline.ValueKit.Geometry
public import Idealize.ShloMosaic.Lib.Pipeline.ValueKit.Acc
public import Idealize.ShloMosaic.Lib.Pipeline.ReadBack

/-!
The projection to the shared keys, values and forget gates: its product, and the gradients with respect to its rows and
its weights. The weights are held transposed.
-/

@[expose] public section

set_option maxRecDepth 16384

noncomputable section

open scoped BigOperators
open Idealize.ShloMosaic Idealize.ShloMosaic.TcCoe Idealize.ShloMosaic.ValueIdx Idealize.SL.Sem Ret

/-! ## The projection -/

namespace Cert.Proof.KvProj

section Kernel
open Cert.KvProjIdeal Cert.KvProjIdeal.Gen Cert.KvProjIdeal.Value

variable (m : (ℓ : Loc nD τ sig) → Buf (Elt Ideal) ℓ) (c : Dev nD) (h w : ℕ → ℕ → EReal)
  (hh : m ((c : Thread nD τ).loc main_arg0) = (arr 2048 1024 .bf16 h : FVec Ideal S2048x1024 .bf16))
  (hw : m ((c : Thread nD τ).loc main_arg1) = (arr 2176 1024 .bf16 w : FVec Ideal S2176x1024 .bf16))

/-- The blocks' places. -/
theorem index_0 : ∀ t : Fin cfg0.N, win0_0.index t = ![t.val, 0] := by decide +kernel
@[inherit_doc index_0]
theorem index_1 : ∀ t : Fin cfg0.N, win0_1.index t = ![0, 0, 0] := by decide +kernel
@[inherit_doc index_0]
theorem index_2 : ∀ t : Fin cfg0.N, win0_2.index t = ![t.val, 0] := by decide +kernel

include hh in
/-- A block of the first operand. -/
theorem blk_h (t : Fin cfg0.N) : iblk m c 0 t = (arr 512 1024 .bf16 (fun i => h (t.val * 512 + i)) : FVec Ideal S512x1024 .bf16) := by
  funext y
  blk_simp [iblk]
  rw [V_main_arg0, hh]
  unfold arr
  blk_simp [index_0]

include hw in
/-- The weights as the kernel holds them, a one-array stack. -/
theorem entry : V m c main_v0 = (arr3 1 2176 1024 .bf16 fun _ => w : FVec Ideal S1x2176x1024 .bf16) := by
  refine Eq.trans ?_ ((congrArg (broadcastInDim S1x2176x1024 ![1, 2] bcast_S2176x1024_S1x2176x1024_1_2) hw).trans (broadcast_arr w _))
  unfold_abbrev_sides
  after_results

include hw in
/-- A block of the second operand. -/
theorem blk_w (t : Fin cfg0.N) : iblk m c 1 t = (arr3 1 2176 1024 .bf16 (fun _ => w) : FVec Ideal S1x2176x1024 .bf16) := by
  funext y
  blk_simp [iblk]
  rw [entry m c w hw]
  unfold arr3
  blk_simp [index_1]

/-- What the body makes of its blocks. -/
theorem pay (h' w' : ℕ → ℕ → EReal) : k0_pay1 (F := Ideal) (arr 512 1024 .bf16 h') (arr3 1 2176 1024 .bf16 fun _ => w') = arr 512 2176 .f32 (nt 1024 h' w') :=
  funext fun y => congrFun (body_nt (M := 512) (K := 1024) (N := 2176) h' w' shapeCasts_S1x2176x1024_S2176x1024) y

include hh hw in
/-- The array that the call leaves. -/
theorem result : (dats m 0 c).arrAt 2 cfg0.N = (arr 2048 2176 .f32 (nt 1024 h w) : FVec Ideal S2048x2176 .f32) := by
  refine (dats m 0 c).arrAt_eq_of_covers 2 _ (by decide +kernel) fun t hf y => ?_
  blk_simp
  rw [after0_2]
  frame_out
  rw [blk_h m c h hh, blk_w m c w hw, pay]
  unfold arr
  blk_simp [index_2]
  rfl

end Kernel

section Reference
open Cert.RefKvProjIdeal Cert.RefKvProjIdeal.Gen Cert.RefKvProjIdeal.Read

/-- The reference's array. -/
theorem reference (h w : ℕ → ℕ → EReal) : val_main_v3 (F := Ideal) (arr 2048 1024 .bf16 h) (arr 2176 1024 .bf16 w)
    = arr 2048 2176 .f32 (nt 1024 h w) := by
  unfold val_main_v3 val_main_v2 val_main_v1
  rw [transpose_arr]
  exact host_nn (M := 2048) (K := 1024) (N := 2176) h fun i j => w j i

end Reference

section Claims
open Cert.KvProjIdeal

/-- The kernel's frame at the machine's own numbers. -/
theorem frame_p : Cert.quiescent_KvProj := fun m g _ => Cert.KvProj.Gen.frame m g

/-- The idealized kernel's frame. -/
theorem frame_pi : Cert.quiescent_KvProjIdeal := fun m g _ => Cert.KvProjIdeal.Gen.frame m g

/-- The reference's frame. -/
theorem frame_r : Cert.quiescent_RefKvProjIdeal := fun m g _ =>
  (θ_run Cert.RefKvProjIdeal.defs _ _).mono (fun r h => ⟨fun c => (h c).2, sem_eq_zero_of_no_sems (by decide) r.2⟩)
    (Cert.RefKvProjIdeal.Value.run m g)

/-- The idealized kernel is the kernel's own text. -/
theorem preserves : Cert.preserves_KvProj_KvProjIdeal := trivial

/-- The kernel and the reference end with equal arrays. -/
theorem algebraic : Cert.algebraic_KvProjIdeal_RefKvProjIdeal := by
  intro m g m' g' _ hagree
  refine ⟨fun c => (Cert.KvProjIdeal.Gen.dats m 0 c).arrAt 2 _, Cert.KvProjIdeal.Value.run_blocks m g,
    (θ_run Cert.RefKvProjIdeal.defs _ _).mono (fun r h c => ⟨(h c).1.trans ?_, (h c).2⟩) (Cert.RefKvProjIdeal.Value.run m' g')⟩
  obtain ⟨a0, a1⟩ := hagree c
  obtain ⟨h, hh⟩ := exists_arr (n := 2048) (m := 1024) (φ := .bf16) (m ((c.tc : Thread nD τ).loc main_arg0))
  obtain ⟨w, hw⟩ := exists_arr (n := 2176) (m := 1024) (φ := .bf16) (m ((c.tc : Thread nD τ).loc main_arg1))
  rw [Cert.RefKvProjIdeal.Read.val_main_v3_eq, a0, a1, hh, hw]
  exact (reference h w).trans (result m c h w hh hw).symm

end Claims

end Cert.Proof.KvProj

/-! ## The gradient with respect to the rows -/

namespace Cert.Proof.KvProjDx

section Kernel
open Cert.KvProjDxIdeal Cert.KvProjDxIdeal.Gen Cert.KvProjDxIdeal.Value

variable (m : (ℓ : Loc nD τ sig) → Buf (Elt Ideal) ℓ) (c : Dev nD) (d w : ℕ → ℕ → EReal)
  (hd : m ((c : Thread nD τ).loc main_arg0) = (arr 2048 2176 .bf16 d : FVec Ideal S2048x2176 .bf16))
  (hw : m ((c : Thread nD τ).loc main_arg1) = (arr 2176 1024 .bf16 w : FVec Ideal S2176x1024 .bf16))

/-- The blocks' places. -/
theorem index_0 : ∀ t : Fin cfg0.N, win0_0.index t = ![t.val, 0] := by decide +kernel
@[inherit_doc index_0]
theorem index_1 : ∀ t : Fin cfg0.N, win0_1.index t = ![0, 0, 0] := by decide +kernel
@[inherit_doc index_0]
theorem index_2 : ∀ t : Fin cfg0.N, win0_2.index t = ![t.val, 0] := by decide +kernel

include hd in
/-- A block of the first operand. -/
theorem blk_d (t : Fin cfg0.N) : iblk m c 0 t = (arr 1024 2176 .bf16 (fun i => d (t.val * 1024 + i)) : FVec Ideal S1024x2176 .bf16) := by
  funext y
  blk_simp [iblk]
  rw [V_main_arg0, hd]
  unfold arr
  blk_simp [index_0]

include hw in
/-- The weights as the kernel holds them, a one-array stack. -/
theorem entry : V m c main_v0 = (arr3 1 2176 1024 .bf16 fun _ => w : FVec Ideal S1x2176x1024 .bf16) := by
  refine Eq.trans ?_ ((congrArg (broadcastInDim S1x2176x1024 ![1, 2] bcast_S2176x1024_S1x2176x1024_1_2) hw).trans (broadcast_arr w _))
  unfold_abbrev_sides
  after_results

include hw in
/-- A block of the second operand. -/
theorem blk_w (t : Fin cfg0.N) : iblk m c 1 t = (arr3 1 2176 1024 .bf16 (fun _ => w) : FVec Ideal S1x2176x1024 .bf16) := by
  funext y
  blk_simp [iblk]
  rw [entry m c w hw]
  unfold arr3
  blk_simp [index_1]

/-- What the body makes of its blocks. -/
theorem pay (d' w' : ℕ → ℕ → EReal) : k0_pay1 (F := Ideal) (arr 1024 2176 .bf16 d') (arr3 1 2176 1024 .bf16 fun _ => w') = arr 1024 1024 .bf16 (nn 2176 d' w') :=
  funext fun y => congrFun (body_nn (M := 1024) (K := 2176) (N := 1024) d' w' shapeCasts_S1x2176x1024_S2176x1024) y

include hd hw in
/-- The array that the call leaves. -/
theorem result : (dats m 0 c).arrAt 2 cfg0.N = (arr 2048 1024 .bf16 (nn 2176 d w) : FVec Ideal S2048x1024 .bf16) := by
  refine (dats m 0 c).arrAt_eq_of_covers 2 _ (by decide +kernel) fun t hf y => ?_
  blk_simp
  rw [after0_2]
  frame_out
  rw [blk_d m c d hd, blk_w m c w hw, pay]
  unfold arr
  blk_simp [index_2]
  rfl

end Kernel

section Reference
open Cert.RefKvProjDxIdeal Cert.RefKvProjDxIdeal.Gen Cert.RefKvProjDxIdeal.Read

/-- The reference's array. -/
theorem reference (d w : ℕ → ℕ → EReal) : val_main_v6 (F := Ideal) (arr 2048 2176 .bf16 d) (arr 2176 1024 .bf16 w)
    = arr 2048 1024 .bf16 (nn 2176 d w) := by
  unfold val_main_v6 val_main_v5 val_main_v2 val_main_v0
  rw [transpose_arr]
  exact funext fun y => congrFun (host_nt (M := 2048) (K := 2176) (N := 1024) d fun i j => w j i) y

end Reference

section Claims
open Cert.KvProjDxIdeal

/-- The kernel's frame at the machine's own numbers. -/
theorem frame_p : Cert.quiescent_KvProjDx := fun m g _ => Cert.KvProjDx.Gen.frame m g

/-- The idealized kernel's frame. -/
theorem frame_pi : Cert.quiescent_KvProjDxIdeal := fun m g _ => Cert.KvProjDxIdeal.Gen.frame m g

/-- The reference's frame. -/
theorem frame_r : Cert.quiescent_RefKvProjDxIdeal := fun m g _ =>
  (θ_run Cert.RefKvProjDxIdeal.defs _ _).mono (fun r h => ⟨fun c => (h c).2, sem_eq_zero_of_no_sems (by decide) r.2⟩)
    (Cert.RefKvProjDxIdeal.Value.run m g)

/-- The idealized kernel is the kernel's own text. -/
theorem preserves : Cert.preserves_KvProjDx_KvProjDxIdeal := trivial

/-- The kernel and the reference end with equal arrays. -/
theorem algebraic : Cert.algebraic_KvProjDxIdeal_RefKvProjDxIdeal := by
  intro m g m' g' _ hagree
  refine ⟨fun c => (Cert.KvProjDxIdeal.Gen.dats m 0 c).arrAt 2 _, Cert.KvProjDxIdeal.Value.run_blocks m g,
    (θ_run Cert.RefKvProjDxIdeal.defs _ _).mono (fun r h c => ⟨(h c).1.trans ?_, (h c).2⟩) (Cert.RefKvProjDxIdeal.Value.run m' g')⟩
  obtain ⟨a0, a1⟩ := hagree c
  obtain ⟨d, hd⟩ := exists_arr (n := 2048) (m := 2176) (φ := .bf16) (m ((c.tc : Thread nD τ).loc main_arg0))
  obtain ⟨w, hw⟩ := exists_arr (n := 2176) (m := 1024) (φ := .bf16) (m ((c.tc : Thread nD τ).loc main_arg1))
  rw [Cert.RefKvProjDxIdeal.Read.val_main_v6_eq, a0, a1, hd, hw]
  exact (reference d w).trans (result m c d w hd hw).symm

end Claims

end Cert.Proof.KvProjDx

/-! ## The gradient with respect to the weights -/

namespace Cert.Proof.KvProjDw

section Kernel
open Cert.KvProjDwIdeal Cert.KvProjDwIdeal.Gen Cert.KvProjDwIdeal.Value

variable (m : (ℓ : Loc nD τ sig) → Buf (Elt Ideal) ℓ) (c : Dev nD) (d h : ℕ → ℕ → EReal)
  (hd : m ((c : Thread nD τ).loc main_arg0) = (arr 2048 2176 .bf16 d : FVec Ideal S2048x2176 .bf16))
  (hh : m ((c : Thread nD τ).loc main_arg1) = (arr 2048 1024 .bf16 h : FVec Ideal S2048x1024 .bf16))

/-- The blocks' places. -/
theorem index_0 : ∀ t : Fin cfg0.N, win0_0.index t = ![t.val % 2, 0] := by decide +kernel
@[inherit_doc index_0]
theorem index_1 : ∀ t : Fin cfg0.N, win0_1.index t = ![t.val % 2, 0] := by decide +kernel
@[inherit_doc index_0]
theorem index_2 : ∀ t : Fin cfg0.N, win0_2.index t = ![0, 0, 0] := by decide +kernel

include hd in
/-- A block of the first operand. -/
theorem blk_d (t : Fin cfg0.N) : iblk m c 0 t = (arr 1024 2176 .bf16 (fun i => d (t.val % 2 * 1024 + i)) : FVec Ideal S1024x2176 .bf16) := by
  funext y
  blk_simp [iblk]
  rw [V_main_arg0, hd]
  unfold arr
  blk_simp [index_0]

include hh in
/-- A block of the second operand. -/
theorem blk_h (t : Fin cfg0.N) : iblk m c 1 t = (arr 1024 1024 .bf16 (fun i => h (t.val % 2 * 1024 + i)) : FVec Ideal S1024x1024 .bf16) := by
  funext y
  blk_simp [iblk]
  rw [V_main_arg1, hh]
  unfold arr
  blk_simp [index_1]

/-- The body's product. -/
theorem pay (d' h' : ℕ → ℕ → EReal) :
    k0_pay1 (F := Ideal) (arr 1024 2176 .bf16 d') (arr 1024 1024 .bf16 h') = arr 2176 1024 .f32 (tn 1024 d' h') :=
  matmul_tn (M := 2176) (K := 1024) (N := 1024) d' h'

/-- What the body keeps at a block's first point. -/
theorem pay_first (d' h' : ℕ → ℕ → EReal) :
    k0_pay2 (F := Ideal) (arr 1024 2176 .bf16 d') (arr 1024 1024 .bf16 h') = arr 2176 1024 .f32 (tn 1024 d' h') := by
  unfold k0_pay2
  rw [pay]
  exact shapeCast_same _ _

/-- What the body writes at a block's last point, over what it kept. -/
theorem pay_last (d' h' s : ℕ → ℕ → EReal) :
    k0_pay4 (F := Ideal) (arr 1024 2176 .bf16 d') (arr 1024 1024 .bf16 h') (arr 2176 1024 .f32 s)
      = arr3 1 2176 1024 .bf16 fun _ i j => s i j + tn 1024 d' h' i j := by
  unfold k0_pay4
  rw [pay]
  exact shapeCast_arr (φ := .bf16) (fun i j => s i j + tn 1024 d' h' i j) _

include hd hh in
/-- What is kept after a block's first point: the first half of the sum. -/
theorem kept (t : Fin cfg0.N) (ht : t.val % 2 = 0) :
    (outsAt0 m c t.val t.isLt).2 = (arr 2176 1024 .f32 (tn 1024 d h) : FVec Ideal S2176x1024 .f32) := by
  rw [outsAt0_A m c t ht (by omega)]
  frame_out
  rw [blk_d m c d hd, blk_h m c h hh, pay_first]
  simp only [ht, Nat.zero_mul, Nat.zero_add]

include hd hh in
/-- The array that the call leaves. -/
theorem result : (dats m 0 c).arrAt 2 cfg0.N = (arr3 1 2176 1024 .bf16 (fun _ => tn 2048 d h) : FVec Ideal S1x2176x1024 .bf16) := by
  refine (dats m 0 c).arrAt_eq_of_covers 2 _ (by decide +kernel) fun t hf y => ?_
  have h1 : t.val % 2 = 1 := (flush0_2 t).mp hf
  have h2 : (t.val - 1) % 2 = 0 := by omega
  have h3 : (t.val - 1) / 2 = t.val / 2 := by omega
  blk_simp
  rw [after0_2, outsAt0_B m c t (by omega) h1]
  frame_out
  rw [blk_d m c d hd, blk_h m c h hh, kept m c d h hd hh ⟨t.val - 1, lt_of_le_of_lt (Nat.sub_le _ _) t.isLt⟩ h2,
    read_unread_whole, pay_last]
  unfold arr3
  blk_simp [index_2]
  simp only [h1, h3, Nat.one_mul]
  exact sum_halves _ 1024

end Kernel

section Reference
open Cert.RefKvProjDwIdeal Cert.RefKvProjDwIdeal.Gen Cert.RefKvProjDwIdeal.Read

/-- The reference's array. -/
theorem reference (d h : ℕ → ℕ → EReal) : val_main_v8 (F := Ideal) (arr 2048 2176 .bf16 d) (arr 2048 1024 .bf16 h)
    = arr3 1 2176 1024 .bf16 (fun _ => tn 2048 d h) := by
  have e : val_main_v5 (F := Ideal) (arr 2048 2176 .bf16 d) (arr 2048 1024 .bf16 h) = arr 1024 2176 .f32 (tn 2048 h d) :=
    weights_tn (M := 1024) (K := 2048) (N := 2176) h d _
  have e' : val_main_v6 (F := Ideal) (arr 2048 2176 .bf16 d) (arr 2048 1024 .bf16 h) = arr 2176 1024 .f32 (tn 2048 d h) := by
    unfold val_main_v6
    rw [e, transpose_arr]
    exact arr_congr fun i _ j _ => Finset.sum_congr rfl fun k _ => mul_comm _ _
  unfold val_main_v8 val_main_v7
  rw [e']
  exact broadcast_arr (φ := .bf16) (tn 2048 d h) _

end Reference

section Claims
open Cert.KvProjDwIdeal

/-- The kernel's frame at the machine's own numbers. -/
theorem frame_p : Cert.quiescent_KvProjDw := fun m g _ => Cert.KvProjDw.Gen.frame m g

/-- The idealized kernel's frame. -/
theorem frame_pi : Cert.quiescent_KvProjDwIdeal := fun m g _ => Cert.KvProjDwIdeal.Gen.frame m g

/-- The reference's frame. -/
theorem frame_r : Cert.quiescent_RefKvProjDwIdeal := fun m g _ =>
  (θ_run Cert.RefKvProjDwIdeal.defs _ _).mono (fun r h => ⟨fun c => (h c).2, sem_eq_zero_of_no_sems (by decide) r.2⟩)
    (Cert.RefKvProjDwIdeal.Value.run m g)

/-- The idealized kernel is the kernel's own text. -/
theorem preserves : Cert.preserves_KvProjDw_KvProjDwIdeal := trivial

/-- The kernel and the reference end with equal arrays. -/
theorem algebraic : Cert.algebraic_KvProjDwIdeal_RefKvProjDwIdeal := by
  intro m g m' g' _ hagree
  refine ⟨fun c => (Cert.KvProjDwIdeal.Gen.dats m 0 c).arrAt 2 _, Cert.KvProjDwIdeal.Value.run_blocks m g,
    (θ_run Cert.RefKvProjDwIdeal.defs _ _).mono (fun r h c => ⟨(h c).1.trans ?_, (h c).2⟩) (Cert.RefKvProjDwIdeal.Value.run m' g')⟩
  obtain ⟨a0, a1⟩ := hagree c
  obtain ⟨d, hd⟩ := exists_arr (n := 2048) (m := 2176) (φ := .bf16) (m ((c.tc : Thread nD τ).loc main_arg0))
  obtain ⟨h, hh⟩ := exists_arr (n := 2048) (m := 1024) (φ := .bf16) (m ((c.tc : Thread nD τ).loc main_arg1))
  rw [Cert.RefKvProjDwIdeal.Read.val_main_v8_eq, a0, a1, hd, hh]
  exact (reference d h).trans (result m c d h hd hh).symm

end Claims

end Cert.Proof.KvProjDw
-- ==== Proof.DkvChunk.lean ====
module

public import proofs.«01_k».proof.Proof.Gen.DkvIdeal.Value
public import proofs.«01_k».proof.Proof.Blocks

/-!
The gradients of k and v, a grid point at a time. The point goes through its four chunks from the last to the first; of the
rows already gone through it carries two states, one for each of the two sums it works out. Here: what each chunk reads of
the states, what the point stores in its two output blocks, and the states the first point of a head leaves.
-/

@[expose] public section

set_option maxRecDepth 16384

noncomputable section

namespace Cert.DkvIdeal.Chunk

open Cert.DkvIdeal Cert.DkvIdeal.Gen Idealize.ShloMosaic Idealize.ShloMosaic.TcCoe Idealize.ShloMosaic.ValueIdx Idealize.SL.Sem Ret

variable (i : grid0.Coords)

/-- The logarithm of the head's decay. -/
theorem log_g : k0_pay4 (F := Ideal) i = ((Real.log (gam (i 0).val) : ℝ) : EReal) := by
  have hi : (i 0).val < 4 := (i 0).isLt
  unfold k0_pay4
  generalize (i 0).val = h at hi
  interval_cases h <;> simp only [gam] <;> norm_num <;> rfl

/-- The masked decay of a chunk, a row over the rows after it. -/
theorem decay : k0_pay5 (F := Ideal) i = mat 256 256 .f32 fun a b => low (gam (i 0).val) b a := by
  refine eq_mat fun a b => ?_
  rw [← decay_elem (i 0).val b.val a.val b.isLt a.isLt _ _ (iota_single_apply .tc S256x256 32 1 iota_S256x256_d1_w32 (ix2 a b))
    (iota_single_apply .tc S256x256 32 0 iota_S256x256_d0_w32 (ix2 a b)), ← log_g i]
  rfl

/-- The decay of the state for a row of the chunk: the rows from it to the chunk's end. -/
theorem q_decay : k0_pay7 (F := Ideal) i = mat 256 1 .f32 fun r _ => gam (i 0).val ^ (256 - r) := by
  refine eq_mat fun a b => ?_
  refine Eq.trans ?_ (exp_elem (i 0).val (256 - a.val)
    (Ideal.ofBits .f32 0x43800000#32 - (((iota .tc S256x1 32 [0] iota_S256x1_d0_w32 (ix2 a b)).toInt : ℝ) : EReal)) ?_)
  · rw [← log_g i]
    rfl
  · rw [toInt_row a.val a.isLt _ (iota_single_apply .tc S256x1 32 0 iota_S256x1_d0_w32 (ix2 a b)), ofBits_256, ← EReal.coe_sub]
    congr 1
    rw [Nat.cast_sub (by omega)]
    norm_num

/-- The decay of a row on its way to the chunk's start. -/
theorem k_decay : k0_pay8 (F := Ideal) i = mat 256 1 .f32 fun r _ => gam (i 0).val ^ r := by
  refine eq_mat fun a b => ?_
  refine Eq.trans ?_ (exp_elem (i 0).val a.val
    (((iota .tc S256x1 32 [0] iota_S256x1_d0_w32 (ix2 a b)).toInt : ℝ) : EReal) ?_)
  · rw [← log_g i]
    rfl
  · exact toInt_row a.val a.isLt _ (iota_single_apply .tc S256x1 32 0 iota_S256x1_d0_w32 (ix2 a b))

/-- The decay of the states over a chunk. -/
theorem chunk_decay : k0_pay9 (F := Ideal) i = mat 1 1 .f32 fun _ _ => gam (i 0).val ^ 256 := by
  refine eq_mat fun a b => ?_
  refine Eq.trans ?_ (exp_elem (i 0).val 256 (Ideal.ofBits .f32 0x43800000#32) ?_)
  · rw [← log_g i]
    rfl
  · rw [ofBits_256]
    norm_num

/-! ## The stores, in the order the point makes them -/

section Keys

variable (dec : FVec Ideal S256x256 .f32) (qd kd : FVec Ideal S256x1 .f32) (cd : FVec Ideal S1x1 .f32)
  (q k : FVec Ideal S256x512 .bf16) (v : FVec Ideal S256x256 .bf16) (S : FVec Ideal S512x256 .f32)

/-- The gradient of k: the last chunk's rows … -/
theorem dk1 : k0_pay11 dec qd q (k0_pay10 k) v S = chunkOut 512 256 dec qd q k v S := rfl
/-- … the third's … -/
theorem dk2 : k0_pay19 dec qd q k v S = chunkOut 512 256 dec qd q k v S := rfl
/-- … the second's … -/
theorem dk3 : k0_pay27 dec qd q k v S = chunkOut 512 256 dec qd q k v S := rfl
/-- … and the first's. -/
theorem dk4 : k0_pay36 qd (k0_pay34 dec q k v) (k0_pay35 q S) = chunkOut 512 256 dec qd q k v S := rfl
/-- The state of the gradient of k after the last chunk … -/
theorem dkNext1 : k0_pay12 kd cd (k0_pay10 k) v S = chunkNext 512 256 kd cd k v S := (shapeCast_self _ _).trans rfl
/-- … after the third … -/
theorem dkNext2 : k0_pay21 cd v (k0_pay20 kd k) S = chunkNext 512 256 kd cd k v S := (shapeCast_self _ _).trans rfl
/-- … after the second … -/
theorem dkNext3 : k0_pay28 kd cd k v S = chunkNext 512 256 kd cd k v S := (shapeCast_self _ _).trans rfl
/-- … and after the first. -/
theorem dkNext4 : k0_pay37 kd cd (k0_pay33 k) v S = chunkNext 512 256 kd cd k v S := (shapeCast_self _ _).trans rfl

end Keys

section Values

variable (dec : FVec Ideal S256x256 .f32) (qd kd : FVec Ideal S256x1 .f32) (cd : FVec Ideal S1x1 .f32)
  (q k : FVec Ideal S256x256 .bf16) (v : FVec Ideal S256x512 .bf16) (S : FVec Ideal S256x512 .f32)

/-- The gradient of v: the last chunk's rows … -/
theorem dv1 : k0_pay16 qd q (k0_pay14 dec q k v) (k0_pay15 S) = chunkOut 256 512 dec qd q k v S := rfl
/-- … the third's … -/
theorem dv2 : k0_pay23 dec qd q k v S = chunkOut 256 512 dec qd q k v S := rfl
/-- … the second's … -/
theorem dv3 : k0_pay31 dec qd q v (k0_pay30 k) S = chunkOut 256 512 dec qd q k v S := rfl
/-- … and the first's. -/
theorem dv4 : k0_pay39 dec qd q k v S = chunkOut 256 512 dec qd q k v S := rfl
/-- The state of the gradient of v after the last chunk … -/
theorem dvNext1 : k0_pay17 kd cd (k0_pay13 k) v S = chunkNext 256 512 kd cd k v S := (shapeCast_self _ _).trans rfl
/-- … after the third … -/
theorem dvNext2 : k0_pay25 (k0_pay24 kd cd k v S) = chunkNext 256 512 kd cd k v S := (shapeCast_self _ _).trans rfl
/-- … after the second … -/
theorem dvNext3 : k0_pay32 kd cd (k0_pay29 k) v S = chunkNext 256 512 kd cd k v S := (shapeCast_self _ _).trans rfl
/-- … and after the first. -/
theorem dvNext4 : k0_pay1 cd (k0_pay40 kd k v) S = chunkNext 256 512 kd cd k v S := (shapeCast_self _ _).trans rfl

end Values

/-! ## A grid point -/

section Point

variable (c : Dev nD) (arg2 : Memref sig .tc .vmem S1024x512 .bf16) (harg2 : arg2.IsWhole)
  (arg3 : Memref sig .tc .vmem S1024x512 .bf16) (harg3 : arg3.IsWhole) (arg4 : Memref sig .tc .vmem S1024x256 .bf16)
  (harg4 : arg4.IsWhole) (arg5 : Memref sig .tc .vmem S1024x256 .bf16) (harg5 : arg5.IsWhole)
  (arg6 : Memref sig .tc .vmem S1024x256 .f32) (harg6 : arg6.IsWhole) (arg7 : Memref sig .tc .vmem S1024x512 .bf16)
  (harg7 : arg7.IsWhole) (arg8 : Memref sig .tc .vmem S512x256 .f32) (harg8 : arg8.IsWhole)
  (arg9 : Memref sig .tc .vmem S256x512 .f32) (harg9 : arg9.IsWhole) (p dy q k : ℕ → ℕ → ℝ) (b r : ℕ)

/-- The rows of a block of values, or of the incoming gradient, that starts at row b. -/
abbrev wB (f : ℕ → ℕ → ℝ) : Vec Ideal S1024x512 .bf16 := mat 1024 512 .bf16 fun i => f (b + i)
/-- The rows of a block of queries, or of keys, that starts at row b. -/
abbrev nB (f : ℕ → ℕ → ℝ) : Vec Ideal S1024x256 .bf16 := mat 1024 256 .bf16 fun i => f (b + i)
/-- The state of the gradient of k: the r rows from row b on. -/
abbrev sK (h : ℕ) : Vec Ideal S512x256 .f32 := mat 512 256 .f32 (bst b r (gam h) dy q)
/-- The state of the gradient of v: the r rows from row b on. -/
abbrev sV (h : ℕ) : Vec Ideal S256x512 .f32 := mat 256 512 .f32 (bst b r (gam h) q dy)
/-- The gradient of k, its rows from row b on. -/
abbrev oK (h : ℕ) : Vec Ideal S1024x256 .f32 := mat 1024 256 .f32 fun i => bwd 2048 512 (gam h) p dy q (b + i)
/-- The gradient of v, its rows from row b on. -/
abbrev oV (h : ℕ) : Vec Ideal S1024x512 .bf16 := mat 1024 512 .bf16 fun i => bwd 2048 256 (gam h) k q dy (b + i)

section B
variable (hc0 : ¬cond0_0 i)

/-- The state of the gradient of k the third chunk reads. -/
theorem dk1_B : kernelRun0_B.sl.v99 c i arg3 harg3 arg4 harg4 arg8 harg8 (wB 0 dy) (nB 0 q) (sK dy q 1024 1024 (i 0).val)
    = sK dy q 768 1280 (i 0).val := by
  delta kernelRun0_B.sl.v99 kernelRun0_B.sl.HS0_1 kernelRun0_B.sl.r_1
  rw [View.readCov_cons_toLoadRect, dkNext1, k_decay, chunk_decay, load_bf16, load_bf16, load_whole]
  exact chunkNext_bwd 512 256 (0 + 768) 1024 1024 1280 (i 0).val rfl rfl dy q

/-- The state of the gradient of v the third chunk reads. -/
theorem dv1_B : kernelRun0_B.sl.v126 c i arg3 harg3 arg4 harg4 arg9 harg9 (wB 0 dy) (nB 0 q) (sV dy q 1024 1024 (i 0).val)
    = sV dy q 768 1280 (i 0).val := by
  delta kernelRun0_B.sl.v126 kernelRun0_B.sl.HS1_1 kernelRun0_B.sl.r_3 kernelRun0_B.sl.r_4
  rw [View.readCov_cons_toLoadRect, dvNext1, k_decay, chunk_decay, load_bf16, load_bf16, load_whole]
  exact chunkNext_bwd 256 512 (0 + 768) 1024 1024 1280 (i 0).val rfl rfl q dy

/-- The state of the gradient of k the second chunk reads. -/
theorem dk2_B : kernelRun0_B.sl.v154 c i arg3 harg3 arg4 harg4 arg8 harg8 (wB 0 dy) (nB 0 q) (sK dy q 1024 1024 (i 0).val)
    = sK dy q 512 1536 (i 0).val := by
  delta kernelRun0_B.sl.v154 kernelRun0_B.sl.HS0_2 kernelRun0_B.sl.r_7 kernelRun0_B.sl.r_8
  rw [View.readCov_cons_toLoadRect, dkNext2, k_decay, chunk_decay, load_bf16, load_bf16, dk1_B]
  exact chunkNext_bwd 512 256 (0 + 512) 768 1280 1536 (i 0).val rfl rfl dy q

/-- The state of the gradient of v the second chunk reads. -/
theorem dv2_B : kernelRun0_B.sl.v181 c i arg3 harg3 arg4 harg4 arg9 harg9 (wB 0 dy) (nB 0 q) (sV dy q 1024 1024 (i 0).val)
    = sV dy q 512 1536 (i 0).val := by
  delta kernelRun0_B.sl.v181 kernelRun0_B.sl.HS1_2 kernelRun0_B.sl.r_9
  rw [View.readCov_cons_toLoadRect, dvNext2, k_decay, chunk_decay, load_bf16, load_bf16, dv1_B]
  exact chunkNext_bwd 256 512 (0 + 512) 768 1280 1536 (i 0).val rfl rfl q dy

/-- The state of the gradient of k the first chunk reads. -/
theorem dk3_B : kernelRun0_B.sl.v209 c i arg3 harg3 arg4 harg4 arg8 harg8 (wB 0 dy) (nB 0 q) (sK dy q 1024 1024 (i 0).val)
    = sK dy q 256 1792 (i 0).val := by
  delta kernelRun0_B.sl.v209 kernelRun0_B.sl.HS0_3
  rw [View.readCov_cons_toLoadRect, dkNext3, k_decay, chunk_decay, load_bf16, load_bf16, dk2_B]
  exact chunkNext_bwd 512 256 (0 + 256) 512 1536 1792 (i 0).val rfl rfl dy q

/-- The state of the gradient of v the first chunk reads. -/
theorem dv3_B : kernelRun0_B.sl.v236 c i arg3 harg3 arg4 harg4 arg9 harg9 (wB 0 dy) (nB 0 q) (sV dy q 1024 1024 (i 0).val)
    = sV dy q 256 1792 (i 0).val := by
  delta kernelRun0_B.sl.v236 kernelRun0_B.sl.HS1_3 kernelRun0_B.sl.r_11 kernelRun0_B.sl.r_12
  rw [View.readCov_cons_toLoadRect, dvNext3, k_decay, chunk_decay, load_bf16, load_bf16, dv2_B]
  exact chunkNext_bwd 256 512 (0 + 256) 512 1536 1792 (i 0).val rfl rfl q dy

/-- The rows of the gradient of k the second point of a head stores. -/
theorem outK_B :
    out0_B_4 c i arg2 harg2 arg3 harg3 arg4 harg4 arg5 harg5 arg6 harg6 arg7 harg7 arg8 harg8 arg9 harg9 hc0 (wB 0 p) (wB 0 dy) (nB 0 q) (nB 0 k) (sK dy q 1024 1024 (i 0).val) (sV dy q 1024 1024 (i 0).val)
      = oK p dy q 0 (i 0).val := by
  funext y
  unfold out0_B_4
  rw [View.read_writes_junk_eq_canon]
  refine View.canon_apply_of_pieces _ _ (View.PiecesOf.mem ?_) y (cover0_B_4 ..)
  delta kernelRun0_B
  dsimp only
  refine ⟨fun x => ?_, fun x => ?_, fun x => ?_, fun x => ?_, trivial⟩
  · dsimp only
    delta kernelRun0_B.sl.r_16 kernelRun0_B.sl.r_17
    rw [dk4, decay, q_decay, load_bf16, load_bf16, load_bf16, dk3_B]
    refine (congrFun (chunkOut_bwd 2048 512 256 (0 + 0) 256 1792 _ rfl rfl p dy q) x).trans ?_
    exact piece_mat _ 0 0 256 _ x
  · dsimp only
    rw [dk3, decay, q_decay, load_bf16, load_bf16, load_bf16, dk2_B]
    refine (congrFun (chunkOut_bwd 2048 512 256 (0 + 256) 512 1536 _ rfl rfl p dy q) x).trans ?_
    exact piece_mat _ 0 256 256 _ x
  · dsimp only
    rw [dk2, decay, q_decay, load_bf16, load_bf16, load_bf16, dk1_B]
    refine (congrFun (chunkOut_bwd 2048 512 256 (0 + 512) 768 1280 _ rfl rfl p dy q) x).trans ?_
    exact piece_mat _ 0 512 256 _ x
  · dsimp only
    delta kernelRun0_B.sl.r kernelRun0_B.sl.r_1
    rw [dk1, decay, q_decay, load_bf16, load_bf16, load_bf16, load_whole]
    refine (congrFun (chunkOut_bwd 2048 512 256 (0 + 768) 1024 1024 _ rfl rfl p dy q) x).trans ?_
    exact piece_mat _ 0 768 256 _ x

/-- The rows of the gradient of v the second point of a head stores. -/
theorem outV_B :
    out0_B_5 c i arg2 harg2 arg3 harg3 arg4 harg4 arg5 harg5 arg6 harg6 arg7 harg7 arg8 harg8 arg9 harg9 hc0 (wB 0 p) (wB 0 dy) (nB 0 q) (nB 0 k) (sK dy q 1024 1024 (i 0).val) (sV dy q 1024 1024 (i 0).val)
      = oV dy q k 0 (i 0).val := by
  funext y
  unfold out0_B_5
  rw [View.read_writes_junk_eq_canon]
  refine View.canon_apply_of_pieces _ _ (View.PiecesOf.mem ?_) y (cover0_B_5 ..)
  delta kernelRun0_B
  dsimp only
  refine ⟨fun x => ?_, fun x => ?_, fun x => ?_, fun x => ?_, trivial⟩
  · dsimp only
    rw [dv4, decay, q_decay, load_bf16, load_bf16, load_bf16, dv3_B]
    refine (congrFun (chunkOut_bwd 2048 256 512 (0 + 0) 256 1792 _ rfl rfl k q dy) x).trans ?_
    exact piece_mat _ 0 0 256 _ x
  · dsimp only
    delta kernelRun0_B.sl.r_10 kernelRun0_B.sl.r_12 kernelRun0_B.sl.r_13
    rw [dv3, decay, q_decay, load_bf16, load_bf16, load_bf16, dv2_B]
    refine (congrFun (chunkOut_bwd 2048 256 512 (0 + 256) 512 1536 _ rfl rfl k q dy) x).trans ?_
    exact piece_mat _ 0 256 256 _ x
  · dsimp only
    rw [dv2, decay, q_decay, load_bf16, load_bf16, load_bf16, dv1_B]
    refine (congrFun (chunkOut_bwd 2048 256 512 (0 + 512) 768 1280 _ rfl rfl k q dy) x).trans ?_
    exact piece_mat _ 0 512 256 _ x
  · dsimp only
    delta kernelRun0_B.sl.r_2 kernelRun0_B.sl.r_5 kernelRun0_B.sl.r_6
    rw [dv1, decay, q_decay, load_bf16, load_bf16, load_bf16, load_whole]
    refine (congrFun (chunkOut_bwd 2048 256 512 (0 + 768) 1024 1024 _ rfl rfl k q dy) x).trans ?_
    exact piece_mat _ 0 768 256 _ x

end B

section A
variable (hc0 : cond0_0 i)

/-- The state of the gradient of k the last chunk reads: zero. -/
theorem dk0_A : kernelRun0_A.sl.v44 (F := Ideal) c arg8 = sK dy q 2048 0 (i 0).val := by
  delta kernelRun0_A.sl.v44 kernelRun0_A.sl.HS0_1
  rw [View.readCov_cons_toLoadRect]
  refine (shapeCast_self _ _).trans (eq_mat fun a e => ?_)
  exact Ideal.ofBits_zero_f32

/-- The state of the gradient of v the last chunk reads: zero. -/
theorem dv0_A : kernelRun0_A.sl.v71 (F := Ideal) c arg9 = sV dy q 2048 0 (i 0).val := by
  delta kernelRun0_A.sl.v71 kernelRun0_A.sl.HS1_1
  rw [View.readCov_cons_toLoadRect]
  refine (shapeCast_self _ _).trans (eq_mat fun a e => ?_)
  exact Ideal.ofBits_zero_f32

/-- The state of the gradient of k the third chunk reads. -/
theorem dk1_A : kernelRun0_A.sl.v99 c i arg3 harg3 arg4 harg4 arg8 (wB 1024 dy) (nB 1024 q)
    = sK dy q 1792 256 (i 0).val := by
  delta kernelRun0_A.sl.v99 kernelRun0_A.sl.HS0_2 kernelRun0_A.sl.r_1
  rw [View.readCov_cons_toLoadRect, dkNext1, k_decay, chunk_decay, load_bf16, load_bf16, dk0_A]
  exact chunkNext_bwd 512 256 (1024 + 768) 2048 0 256 (i 0).val rfl rfl dy q

/-- The state of the gradient of v the third chunk reads. -/
theorem dv1_A : kernelRun0_A.sl.v126 c i arg3 harg3 arg4 harg4 arg9 (wB 1024 dy) (nB 1024 q)
    = sV dy q 1792 256 (i 0).val := by
  delta kernelRun0_A.sl.v126 kernelRun0_A.sl.HS1_2 kernelRun0_A.sl.r_3 kernelRun0_A.sl.r_4
  rw [View.readCov_cons_toLoadRect, dvNext1, k_decay, chunk_decay, load_bf16, load_bf16, dv0_A]
  exact chunkNext_bwd 256 512 (1024 + 768) 2048 0 256 (i 0).val rfl rfl q dy

/-- The state of the gradient of k the second chunk reads. -/
theorem dk2_A : kernelRun0_A.sl.v154 c i arg3 harg3 arg4 harg4 arg8 (wB 1024 dy) (nB 1024 q)
    = sK dy q 1536 512 (i 0).val := by
  delta kernelRun0_A.sl.v154 kernelRun0_A.sl.HS0_3 kernelRun0_A.sl.r_7 kernelRun0_A.sl.r_8
  rw [View.readCov_cons_toLoadRect, dkNext2, k_decay, chunk_decay, load_bf16, load_bf16, dk1_A]
  exact chunkNext_bwd 512 256 (1024 + 512) 1792 256 512 (i 0).val rfl rfl dy q

/-- The state of the gradient of v the second chunk reads. -/
theorem dv2_A : kernelRun0_A.sl.v181 c i arg3 harg3 arg4 harg4 arg9 (wB 1024 dy) (nB 1024 q)
    = sV dy q 1536 512 (i 0).val := by
  delta kernelRun0_A.sl.v181 kernelRun0_A.sl.HS1_3 kernelRun0_A.sl.r_9
  rw [View.readCov_cons_toLoadRect, dvNext2, k_decay, chunk_decay, load_bf16, load_bf16, dv1_A]
  exact chunkNext_bwd 256 512 (1024 + 512) 1792 256 512 (i 0).val rfl rfl q dy

/-- The state of the gradient of k the first chunk reads. -/
theorem dk3_A : kernelRun0_A.sl.v209 c i arg3 harg3 arg4 harg4 arg8 (wB 1024 dy) (nB 1024 q)
    = sK dy q 1280 768 (i 0).val := by
  delta kernelRun0_A.sl.v209 kernelRun0_A.sl.HS0_4
  rw [View.readCov_cons_toLoadRect, dkNext3, k_decay, chunk_decay, load_bf16, load_bf16, dk2_A]
  exact chunkNext_bwd 512 256 (1024 + 256) 1536 512 768 (i 0).val rfl rfl dy q

/-- The state of the gradient of v the first chunk reads. -/
theorem dv3_A : kernelRun0_A.sl.v236 c i arg3 harg3 arg4 harg4 arg9 (wB 1024 dy) (nB 1024 q)
    = sV dy q 1280 768 (i 0).val := by
  delta kernelRun0_A.sl.v236 kernelRun0_A.sl.HS1_4 kernelRun0_A.sl.r_11 kernelRun0_A.sl.r_12
  rw [View.readCov_cons_toLoadRect, dvNext3, k_decay, chunk_decay, load_bf16, load_bf16, dv2_A]
  exact chunkNext_bwd 256 512 (1024 + 256) 1536 512 768 (i 0).val rfl rfl q dy

/-- The state of the gradient of k the first point of a head leaves. -/
theorem soutK_A : sout0_A_0 c i arg2 harg2 arg3 harg3 arg4 harg4 arg5 harg5 arg6 harg6 arg7 harg7 arg8 harg8 arg9 harg9 hc0 (wB 1024 p) (wB 1024 dy) (nB 1024 q) (nB 1024 k)
    = sK dy q 1024 1024 (i 0).val := by
  unfold sout0_A_0
  rw [View.read_writes_junk_eq_canon]
  delta kernelRun0_A
  dsimp only
  rw [View.canon_cons_unit_zero (by funext a; fin_cases a <;> rfl)]
  delta kernelRun0_A.sl.r_14 kernelRun0_A.sl.r_15
  rw [dkNext4, k_decay, chunk_decay, load_bf16, load_bf16, dk3_A]
  exact chunkNext_bwd 512 256 (1024 + 0) 1280 768 1024 (i 0).val rfl rfl dy q

/-- The state of the gradient of v the first point of a head leaves. -/
theorem soutV_A : sout0_A_1 c i arg2 harg2 arg3 harg3 arg4 harg4 arg5 harg5 arg6 harg6 arg7 harg7 arg8 harg8 arg9 harg9 hc0 (wB 1024 p) (wB 1024 dy) (nB 1024 q) (nB 1024 k)
    = sV dy q 1024 1024 (i 0).val := by
  unfold sout0_A_1
  rw [View.read_writes_junk_eq_canon]
  delta kernelRun0_A
  dsimp only
  rw [View.canon_cons_unit_zero (by funext a; fin_cases a <;> rfl)]
  delta kernelRun0_A.sl.r_18
  have e : kernelRun0_A.sl.v248 c i arg3 harg3 arg4 harg4 arg9 (wB 1024 dy) (nB 1024 q) = sV dy q 1280 768 (i 0).val := dv3_A ..
  rw [dvNext4, k_decay, chunk_decay, load_bf16, load_bf16, e]
  exact chunkNext_bwd 256 512 (1024 + 0) 1280 768 1024 (i 0).val rfl rfl q dy

/-- The rows of the gradient of k the first point of a head stores. -/
theorem outK_A :
    out0_A_4 c i arg2 harg2 arg3 harg3 arg4 harg4 arg5 harg5 arg6 harg6 arg7 harg7 arg8 harg8 arg9 harg9 hc0 (wB 1024 p) (wB 1024 dy) (nB 1024 q) (nB 1024 k)
      = oK p dy q 1024 (i 0).val := by
  funext y
  unfold out0_A_4
  rw [View.read_writes_junk_eq_canon]
  refine View.canon_apply_of_pieces _ _ (View.PiecesOf.mem ?_) y (cover0_A_4 ..)
  delta kernelRun0_A
  dsimp only
  refine ⟨fun x => ?_, fun x => ?_, fun x => ?_, fun x => ?_, trivial⟩
  · dsimp only
    delta kernelRun0_A.sl.r_16 kernelRun0_A.sl.r_17
    rw [dk4, decay, q_decay, load_bf16, load_bf16, load_bf16, dk3_A]
    refine (congrFun (chunkOut_bwd 2048 512 256 (1024 + 0) 1280 768 _ rfl rfl p dy q) x).trans ?_
    exact piece_mat _ 1024 0 256 _ x
  · dsimp only
    rw [dk3, decay, q_decay, load_bf16, load_bf16, load_bf16, dk2_A]
    refine (congrFun (chunkOut_bwd 2048 512 256 (1024 + 256) 1536 512 _ rfl rfl p dy q) x).trans ?_
    exact piece_mat _ 1024 256 256 _ x
  · dsimp only
    rw [dk2, decay, q_decay, load_bf16, load_bf16, load_bf16, dk1_A]
    refine (congrFun (chunkOut_bwd 2048 512 256 (1024 + 512) 1792 256 _ rfl rfl p dy q) x).trans ?_
    exact piece_mat _ 1024 512 256 _ x
  · dsimp only
    delta kernelRun0_A.sl.r kernelRun0_A.sl.r_1
    rw [dk1, decay, q_decay, load_bf16, load_bf16, load_bf16, dk0_A]
    refine (congrFun (chunkOut_bwd 2048 512 256 (1024 + 768) 2048 0 _ rfl rfl p dy q) x).trans ?_
    exact piece_mat _ 1024 768 256 _ x

/-- The rows of the gradient of v the first point of a head stores. -/
theorem outV_A :
    out0_A_5 c i arg2 harg2 arg3 harg3 arg4 harg4 arg5 harg5 arg6 harg6 arg7 harg7 arg8 harg8 arg9 harg9 hc0 (wB 1024 p) (wB 1024 dy) (nB 1024 q) (nB 1024 k)
      = oV dy q k 1024 (i 0).val := by
  funext y
  unfold out0_A_5
  rw [View.read_writes_junk_eq_canon]
  refine View.canon_apply_of_pieces _ _ (View.PiecesOf.mem ?_) y (cover0_A_5 ..)
  delta kernelRun0_A
  dsimp only
  refine ⟨fun x => ?_, fun x => ?_, fun x => ?_, fun x => ?_, trivial⟩
  · dsimp only
    rw [dv4, decay, q_decay, load_bf16, load_bf16, load_bf16, dv3_A]
    refine (congrFun (chunkOut_bwd 2048 256 512 (1024 + 0) 1280 768 _ rfl rfl k q dy) x).trans ?_
    exact piece_mat _ 1024 0 256 _ x
  · dsimp only
    delta kernelRun0_A.sl.r_10 kernelRun0_A.sl.r_12 kernelRun0_A.sl.r_13
    rw [dv3, decay, q_decay, load_bf16, load_bf16, load_bf16, dv2_A]
    refine (congrFun (chunkOut_bwd 2048 256 512 (1024 + 256) 1536 512 _ rfl rfl k q dy) x).trans ?_
    exact piece_mat _ 1024 256 256 _ x
  · dsimp only
    rw [dv2, decay, q_decay, load_bf16, load_bf16, load_bf16, dv1_A]
    refine (congrFun (chunkOut_bwd 2048 256 512 (1024 + 512) 1792 256 _ rfl rfl k q dy) x).trans ?_
    exact piece_mat _ 1024 512 256 _ x
  · dsimp only
    delta kernelRun0_A.sl.r_2 kernelRun0_A.sl.r_5 kernelRun0_A.sl.r_6
    rw [dv1, decay, q_decay, load_bf16, load_bf16, load_bf16, dv0_A]
    refine (congrFun (chunkOut_bwd 2048 256 512 (1024 + 768) 2048 0 _ rfl rfl k q dy) x).trans ?_
    exact piece_mat _ 1024 768 256 _ x

end A

end Point

end Cert.DkvIdeal.Chunk
-- ==== Proof.DkvValue.lean ====
module

public import proofs.«01_k».proof.Proof.DkvChunk

/-!
The gradients of k and v, the whole call: the blocks the grid points read, the states carried from a head's first point to
its second, and the two arrays the call leaves.
-/

@[expose] public section

set_option maxRecDepth 16384

noncomputable section

namespace Cert.DkvIdeal.Whole

open Cert.DkvIdeal Cert.DkvIdeal.Gen Cert.DkvIdeal.Value Cert.DkvIdeal.Chunk Idealize.ShloMosaic Idealize.ShloMosaic.TcCoe
  Idealize.ShloMosaic.ValueIdx Idealize.SL.Sem Ret

variable (m : (ℓ : Loc nD τ sig) → Buf (Elt Ideal) ℓ) (c : Dev nD) (p dy q k : ℕ → ℕ → ℝ)

/-- The blocks' places: head t / 2, the blocks of rows from the last to the first. -/
theorem index_0 : ∀ t : Fin cfg0.N, win0_0.index t = ![1 - t.val % 2, 4 + t.val / 2] := by decide +kernel
@[inherit_doc index_0]
theorem index_1 : ∀ t : Fin cfg0.N, win0_1.index t = ![1 - t.val % 2, t.val / 2] := by decide +kernel
@[inherit_doc index_0]
theorem index_2 : ∀ t : Fin cfg0.N, win0_2.index t = ![1 - t.val % 2, t.val / 2] := by decide +kernel
@[inherit_doc index_0]
theorem index_3 : ∀ t : Fin cfg0.N, win0_3.index t = ![1 - t.val % 2, t.val / 2] := by decide +kernel
@[inherit_doc index_0]
theorem index_4 : ∀ t : Fin cfg0.N, win0_4.index t = ![1 - t.val % 2, t.val / 2] := by decide +kernel
@[inherit_doc index_0]
theorem index_5 : ∀ t : Fin cfg0.N, win0_5.index t = ![1 - t.val % 2, t.val / 2] := by decide +kernel
/-- The head of a point. -/
theorem coord : ∀ t : Fin cfg0.N, ((grid0.coords t) 0).val = t.val / 2 := by decide +kernel
/-- Every point writes its blocks back. -/
theorem flush_k : ∀ t : Fin cfg0.N, (cfg0.win 4).flush t = true := by decide +kernel
@[inherit_doc flush_k]
theorem flush_v : ∀ t : Fin cfg0.N, (cfg0.win 5).flush t = true := by decide +kernel

/-- Head h's columns of a matrix, w of them. -/
abbrev head (w h : ℕ) (f : ℕ → ℕ → ℝ) : ℕ → ℕ → ℝ := fun r d => f r (w * h + d)

/-- The incoming gradient's block at a point: its rows and its head's columns. -/
theorem blk_dy (h : ∀ y : S2048x2048.Idx, m ((c : Thread nD τ).loc main_arg3) y = ((dy (y 0).val (y 1).val : ℝ) : EReal))
    (t : Fin cfg0.N) : iblk m c 1 t = (wB (1024 * (1 - t.val % 2)) (head 512 (t.val / 2) dy) : FVec Ideal ⟨2, ![1024, 512]⟩ .bf16) := by
  unfold iblk
  funext y
  rw [View.read_apply]
  refine (h _).trans (?_ : ((dy (win0_1.index t 0 * 1024 + 1 * (y 0).val) (win0_1.index t 1 * 512 + 1 * (y 1).val) : ℝ) : EReal)
    = ((dy (1024 * (1 - t.val % 2) + (y 0).val) (512 * (t.val / 2) + (y 1).val) : ℝ) : EReal))
  rw [index_1]
  simp only [Matrix.cons_val_zero, Matrix.cons_val_one, one_mul, mul_comm]

/-- The queries' block at a point. -/
theorem blk_q (h : ∀ y : S2048x1024.Idx, m ((c : Thread nD τ).loc main_arg0) y = ((q (y 0).val (y 1).val : ℝ) : EReal))
    (t : Fin cfg0.N) : iblk m c 2 t = (nB (1024 * (1 - t.val % 2)) (head 256 (t.val / 2) q) : FVec Ideal ⟨2, ![1024, 256]⟩ .bf16) := by
  unfold iblk
  funext y
  rw [View.read_apply]
  refine (h _).trans (?_ : ((q (win0_2.index t 0 * 1024 + 1 * (y 0).val) (win0_2.index t 1 * 256 + 1 * (y 1).val) : ℝ) : EReal)
    = ((q (1024 * (1 - t.val % 2) + (y 0).val) (256 * (t.val / 2) + (y 1).val) : ℝ) : EReal))
  rw [index_2]
  simp only [Matrix.cons_val_zero, Matrix.cons_val_one, one_mul, mul_comm]

/-- The keys' block at a point. -/
theorem blk_k (h : ∀ y : S2048x1024.Idx, m ((c : Thread nD τ).loc main_arg1) y = ((k (y 0).val (y 1).val : ℝ) : EReal))
    (t : Fin cfg0.N) : iblk m c 3 t = (nB (1024 * (1 - t.val % 2)) (head 256 (t.val / 2) k) : FVec Ideal ⟨2, ![1024, 256]⟩ .bf16) := by
  unfold iblk
  funext y
  rw [View.read_apply]
  refine (h _).trans (?_ : ((k (win0_3.index t 0 * 1024 + 1 * (y 0).val) (win0_3.index t 1 * 256 + 1 * (y 1).val) : ℝ) : EReal)
    = ((k (1024 * (1 - t.val % 2) + (y 0).val) (256 * (t.val / 2) + (y 1).val) : ℝ) : EReal))
  rw [index_3]
  simp only [Matrix.cons_val_zero, Matrix.cons_val_one, one_mul, mul_comm]

/-- The values' block at a point. -/
theorem blk_p (hp : ∀ y : S2048x6144.Idx, 2048 ≤ (y 1).val → (y 1).val < 4096 →
      m ((c : Thread nD τ).loc main_arg2) y = ((p (y 0).val ((y 1).val - 2048) : ℝ) : EReal))
    (t : Fin cfg0.N) : iblk m c 0 t = (wB (1024 * (1 - t.val % 2)) (head 512 (t.val / 2) p) : FVec Ideal ⟨2, ![1024, 512]⟩ .bf16) := by
  have ht : t.val < 8 := t.isLt
  unfold iblk
  funext y
  have hy : (y 1).val < 512 := idx2_lt1 (n0 := 1024) (n1 := 512) y
  rw [View.read_apply]
  have e : win0_0.index t 1 * 512 + 1 * (y 1).val = 2048 + (512 * (t.val / 2) + (y 1).val) := by
    rw [index_0]
    simp only [Matrix.cons_val_one, Matrix.cons_val_zero]
    omega
  refine (hp _ (e ▸ Nat.le_add_right _ _ : 2048 ≤ win0_0.index t 1 * 512 + 1 * (y 1).val)
    (by rw [e]; omega : win0_0.index t 1 * 512 + 1 * (y 1).val < 4096)).trans
    (?_ : ((p (win0_0.index t 0 * 1024 + 1 * (y 0).val) (win0_0.index t 1 * 512 + 1 * (y 1).val - 2048) : ℝ) : EReal)
    = ((p (1024 * (1 - t.val % 2) + (y 0).val) (512 * (t.val / 2) + (y 1).val) : ℝ) : EReal))
  rw [e, index_0, Nat.add_sub_cancel_left]
  simp only [Matrix.cons_val_zero, one_mul, mul_comm]

section
variable (hq : ∀ y : S2048x1024.Idx, m ((c : Thread nD τ).loc main_arg0) y = ((q (y 0).val (y 1).val : ℝ) : EReal))
  (hk : ∀ y : S2048x1024.Idx, m ((c : Thread nD τ).loc main_arg1) y = ((k (y 0).val (y 1).val : ℝ) : EReal))
  (hp : ∀ y : S2048x6144.Idx, 2048 ≤ (y 1).val → (y 1).val < 4096 →
      m ((c : Thread nD τ).loc main_arg2) y = ((p (y 0).val ((y 1).val - 2048) : ℝ) : EReal))
  (hdy : ∀ y : S2048x2048.Idx, m ((c : Thread nD τ).loc main_arg3) y = ((dy (y 0).val (y 1).val : ℝ) : EReal))
include hq hk hp hdy

/-- A head's first point leaves the last 1024 rows of both gradients, and the states of those rows. -/
theorem first (t : Fin cfg0.N) (h0 : t.val % 2 = 0) : outsAt0 m c t.val t.isLt
    = (oK (head 512 (t.val / 2) p) (head 512 (t.val / 2) dy) (head 256 (t.val / 2) q) 1024 (t.val / 2),
      oV (head 512 (t.val / 2) dy) (head 256 (t.val / 2) q) (head 256 (t.val / 2) k) 1024 (t.val / 2),
      sK (head 512 (t.val / 2) dy) (head 256 (t.val / 2) q) 1024 1024 (t.val / 2),
      sV (head 512 (t.val / 2) dy) (head 256 (t.val / 2) q) 1024 1024 (t.val / 2)) := by
  rw [outsAt0_A m c t h0, blk_p m c p hp, blk_dy m c dy hdy, blk_q m c q hq, blk_k m c k hk,
    show 1024 * (1 - t.val % 2) = 1024 by omega, outK_A, outV_A, soutK_A, soutV_A, coord]

/-- A head's second point leaves the first 1024 rows of both. -/
theorem second (t : Fin cfg0.N) (h0 : ¬ t.val % 2 = 0) : (outsAt0 m c t.val t.isLt).1
      = oK (head 512 (t.val / 2) p) (head 512 (t.val / 2) dy) (head 256 (t.val / 2) q) 0 (t.val / 2)
    ∧ (outsAt0 m c t.val t.isLt).2.1
      = oV (head 512 (t.val / 2) dy) (head 256 (t.val / 2) q) (head 256 (t.val / 2) k) 0 (t.val / 2) := by
  have e : (t.val - 1) / 2 = t.val / 2 := by omega
  have hf := first m c p dy q k hq hk hp hdy ⟨t.val - 1, Nat.lt_of_le_of_lt (Nat.sub_le _ _) t.isLt⟩ (show (t.val - 1) % 2 = 0 by omega)
  simp only [e] at hf
  rw [outsAt0_B m c t h0, hf, blk_p m c p hp, blk_dy m c dy hdy, blk_q m c q hq, blk_k m c k hk,
    show 1024 * (1 - t.val % 2) = 0 by omega]
  simp only [← coord t]
  exact ⟨outK_B .., outV_B ..⟩

/-- What a point leaves, at either. -/
theorem point (t : Fin cfg0.N) : (outsAt0 m c t.val t.isLt).1
      = oK (head 512 (t.val / 2) p) (head 512 (t.val / 2) dy) (head 256 (t.val / 2) q) (1024 * (1 - t.val % 2)) (t.val / 2)
    ∧ (outsAt0 m c t.val t.isLt).2.1
      = oV (head 512 (t.val / 2) dy) (head 256 (t.val / 2) q) (head 256 (t.val / 2) k) (1024 * (1 - t.val % 2)) (t.val / 2) := by
  by_cases h0 : t.val % 2 = 0
  · rw [first m c p dy q k hq hk hp hdy t h0, h0]
    exact ⟨rfl, rfl⟩
  · rw [show t.val % 2 = 1 by omega]
    exact second m c p dy q k hq hk hp hdy t h0

/-- The gradient of k the call leaves: in each head's columns the reversed retention of the values, the incoming gradient and
    the queries. -/
theorem result_k : (dats m 0 c).arrAt 4 cfg0.N = (mat 2048 1024 .f32 fun i j => bwd 2048 512 (gam (j / 256)) (head 512 (j / 256) p)
    (head 512 (j / 256) dy) (head 256 (j / 256) q) i (j % 256) : FVec Ideal S2048x1024 .f32) := by
  funext y
  have h0 : (y 0).val < 2048 := idx2_lt0 (n0 := 2048) (n1 := 1024) y
  have h1 : (y 1).val < 1024 := idx2_lt1 (n0 := 2048) (n1 := 1024) y
  obtain ⟨t, ht⟩ : ∃ t : Fin cfg0.N, t.val = 2 * ((y 1).val / 256) + (1 - (y 0).val / 1024) :=
    ⟨⟨2 * ((y 1).val / 256) + (1 - (y 0).val / 1024), by show _ < 8; omega⟩, rfl⟩
  have e1 : t.val / 2 = (y 1).val / 256 := by omega
  have e2 : 1 - t.val % 2 = (y 0).val / 1024 := by omega
  have hb := congrFun (blocks4 m c t (flush_k t))
    (ix2 ⟨(y 0).val % 1024, Nat.mod_lt _ (by decide)⟩ ⟨(y 1).val % 256, Nat.mod_lt _ (by decide)⟩ : S1024x256.Idx)
  have hi : ((cfg0.win 4).blk t).view.emb
      (ix2 ⟨(y 0).val % 1024, Nat.mod_lt _ (by decide)⟩ ⟨(y 1).val % 256, Nat.mod_lt _ (by decide)⟩ : S1024x256.Idx) = y := by
    funext a
    apply Fin.ext
    match a with
    | ⟨0, _⟩ =>
      show win0_4.index t 0 * 1024 + 1 * ((y 0).val % 1024) = (y 0).val
      rw [index_4]
      simp only [Matrix.cons_val_zero]
      omega
    | ⟨1, _⟩ =>
      show win0_4.index t 1 * 256 + 1 * ((y 1).val % 256) = (y 1).val
      rw [index_4]
      simp only [Matrix.cons_val_one, Matrix.cons_val_zero]
      omega
  rw [View.read_apply, hi, flushed4, (point m c p dy q k hq hk hp hdy t).1] at hb
  refine hb.trans ?_
  simp only [e1, e2]
  show ((bwd 2048 _ _ _ _ _ (1024 * ((y 0).val / 1024) + (y 0).val % 1024) ((y 1).val % 256) : ℝ) : EReal) = _
  rw [Nat.div_add_mod]
  rfl

/-- The gradient of v the call leaves: in each head's columns the reversed retention of the keys, the queries and the incoming
    gradient. -/
theorem result_v : (dats m 0 c).arrAt 5 cfg0.N = (mat 2048 2048 .bf16 fun i j => bwd 2048 256 (gam (j / 512)) (head 256 (j / 512) k)
    (head 256 (j / 512) q) (head 512 (j / 512) dy) i (j % 512) : FVec Ideal S2048x2048 .bf16) := by
  funext y
  have h0 : (y 0).val < 2048 := idx2_lt0 (n0 := 2048) (n1 := 2048) y
  have h1 : (y 1).val < 2048 := idx2_lt1 (n0 := 2048) (n1 := 2048) y
  obtain ⟨t, ht⟩ : ∃ t : Fin cfg0.N, t.val = 2 * ((y 1).val / 512) + (1 - (y 0).val / 1024) :=
    ⟨⟨2 * ((y 1).val / 512) + (1 - (y 0).val / 1024), by show _ < 8; omega⟩, rfl⟩
  have e1 : t.val / 2 = (y 1).val / 512 := by omega
  have e2 : 1 - t.val % 2 = (y 0).val / 1024 := by omega
  have hb := congrFun (blocks5 m c t (flush_v t))
    (ix2 ⟨(y 0).val % 1024, Nat.mod_lt _ (by decide)⟩ ⟨(y 1).val % 512, Nat.mod_lt _ (by decide)⟩ : S1024x512.Idx)
  have hi : ((cfg0.win 5).blk t).view.emb
      (ix2 ⟨(y 0).val % 1024, Nat.mod_lt _ (by decide)⟩ ⟨(y 1).val % 512, Nat.mod_lt _ (by decide)⟩ : S1024x512.Idx) = y := by
    funext a
    apply Fin.ext
    match a with
    | ⟨0, _⟩ =>
      show win0_5.index t 0 * 1024 + 1 * ((y 0).val % 1024) = (y 0).val
      rw [index_5]
      simp only [Matrix.cons_val_zero]
      omega
    | ⟨1, _⟩ =>
      show win0_5.index t 1 * 512 + 1 * ((y 1).val % 512) = (y 1).val
      rw [index_5]
      simp only [Matrix.cons_val_one, Matrix.cons_val_zero]
      omega
  rw [View.read_apply, hi, flushed5, (point m c p dy q k hq hk hp hdy t).2] at hb
  refine hb.trans ?_
  simp only [e1, e2]
  show ((bwd 2048 _ _ _ _ _ (1024 * ((y 0).val / 1024) + (y 0).val % 1024) ((y 1).val % 512) : ℝ) : EReal) = _
  rw [Nat.div_add_mod]
  rfl

end

end Cert.DkvIdeal.Whole
-- ==== Proof.RefDkv.lean ====
module

public import proofs.«01_k».proof.Proof.RefParts
public import proofs.«01_k».proof.Proof.Gen.RefDkvIdeal.Read

/-!
The reference's gradients of k and v, entry by entry: over real arguments they are sums over the rows that are not before
the entry's own.
-/

@[expose] public section

set_option maxRecDepth 16384

noncomputable section

open scoped BigOperators

namespace Ret

/-- The two factors of a row product change places. -/
theorem score_comm (w : ℕ) (a b : ℕ → ℕ → ℝ) (i j : ℕ) : score w a b i j = score w b a j i :=
  Finset.sum_congr rfl fun _ _ => mul_comm _ _

end Ret

namespace Cert.RefDkvIdeal.Entries

open Cert.RefDkvIdeal Cert.RefDkvIdeal.Read Idealize.ShloMosaic Idealize.ShloMosaic.ValueIdx Ret

/-- The logarithm of each head's decay. -/
theorem log_gam (i : S4.Idx) : val_main_v15 (F := Ideal) i = ((Real.log (gam (i 0).val) : ℝ) : EReal) := by
  have h : (i 0).val < 4 := (i 0).isLt
  exact log_elem (i 0).val (by omega)

/-- The number of a row. -/
theorem row (i : S2048.Idx) : val_main_v16 (F := Ideal) i = (((i 0).val : ℝ) : EReal) := by
  have h : (i 0).val < 2048 := (i 0).isLt
  exact toInt_word (i 0).val (by omega)

/-- How far one row lies behind another. -/
theorem rel (i : S2048x2048.Idx) : val_main_v21 (F := Ideal) i
    = (((i 0).val : ℝ) : EReal) - (((i 1).val : ℝ) : EReal) := by
  rw [val_main_v21_apply, val_main_v19_apply, val_main_v17_apply, val_main_v20_apply, val_main_v18_apply, row, row]
  rfl

/-- The masked decay. -/
theorem decay (i : S4x2048x2048.Idx) : val_main_v32 (F := Ideal) i
    = ((low (gam (i 0).val) (i 1).val (i 2).val : ℝ) : EReal) := by
  rw [val_main_v32_apply, val_main_call0_v1_apply, val_main_call0_v2_apply, val_main_v23_apply, val_main_v31_apply,
    val_main_v30_apply, val_main_v28_apply, val_main_v24_apply, val_main_v29_apply, val_main_v27_apply,
    val_main_v26_apply, log_gam, rel]
  exact decay_ref (i 0).val (i 1).val (i 2).val

variable (x0 x1 : FVec Ideal S2048x1024 .bf16) (x2 : FVec Ideal S2048x6144 .bf16) (x3 : FVec Ideal S2048x2048 .bf16)
  (p dy q k : ℕ → ℕ → ℝ)

/-- The queries by head. -/
theorem queries (hq : ∀ y : S2048x1024.Idx, x0 y = ((q (y 0).val (y 1).val : ℝ) : EReal)) (i : S1x4x2048x256.Idx) :
    val_main_v12 (F := Ideal) x0 i = ((q (i 2).val (256 * (i 1).val + (i 3).val) : ℝ) : EReal) := by
  have h0 : (i 0).val < 1 := (i 0).isLt
  have h1 : (i 1).val < 4 := (i 1).isLt
  have h2 : (i 2).val < 2048 := (i 2).isLt
  have h3 : (i 3).val < 256 := (i 3).isLt
  rw [val_main_v12_apply, val_main_v0_apply]
  exact (hq _).trans (congr2 q (by dsimp only; omega) (by dsimp only; omega))

/-- The keys by head. -/
theorem keys (hk : ∀ y : S2048x1024.Idx, x1 y = ((k (y 0).val (y 1).val : ℝ) : EReal)) (i : S1x4x2048x256.Idx) :
    val_main_v13 (F := Ideal) x1 i = ((k (i 2).val (256 * (i 1).val + (i 3).val) : ℝ) : EReal) := by
  have h0 : (i 0).val < 1 := (i 0).isLt
  have h1 : (i 1).val < 4 := (i 1).isLt
  have h2 : (i 2).val < 2048 := (i 2).isLt
  have h3 : (i 3).val < 256 := (i 3).isLt
  rw [val_main_v13_apply, val_main_v1_apply]
  exact (hk _).trans (congr2 k (by dsimp only; omega) (by dsimp only; omega))

/-- The values by head. -/
theorem values (hp : ∀ y : S2048x6144.Idx, 2048 ≤ (y 1).val → (y 1).val < 4096 →
      x2 y = ((p (y 0).val ((y 1).val - 2048) : ℝ) : EReal)) (i : S1x4x2048x512.Idx) :
    val_main_v14 (F := Ideal) x2 i = ((p (i 2).val (512 * (i 1).val + (i 3).val) : ℝ) : EReal) := by
  have h0 : (i 0).val < 1 := (i 0).isLt
  have h1 : (i 1).val < 4 := (i 1).isLt
  have h2 : (i 2).val < 2048 := (i 2).isLt
  have h3 : (i 3).val < 512 := (i 3).isLt
  rw [val_main_v14_apply, val_main_v3_apply, val_main_v2_apply]
  exact (hp _ (by dsimp only; omega) (by dsimp only; omega)).trans (congr2 p (by dsimp only; omega) (by dsimp only; omega))

/-- The incoming gradient by head. -/
theorem ct (hdy : ∀ y : S2048x2048.Idx, x3 y = ((dy (y 0).val (y 1).val : ℝ) : EReal)) (i : S1x4x2048x512.Idx) :
    val_main_v47 (F := Ideal) x3 i = ((dy (i 2).val (512 * (i 1).val + (i 3).val) : ℝ) : EReal) := by
  have h0 : (i 0).val < 1 := (i 0).isLt
  have h1 : (i 1).val < 4 := (i 1).isLt
  have h2 : (i 2).val < 2048 := (i 2).isLt
  have h3 : (i 3).val < 512 := (i 3).isLt
  rw [val_main_v47_apply, val_main_v46_apply, val_main_v45_apply, val_main_v44_apply, val_main_v4_apply]
  exact (hdy _).trans (congr2 dy (by dsimp only; omega) (by dsimp only; omega))

section Keys
variable (hp : ∀ y : S2048x6144.Idx, 2048 ≤ (y 1).val → (y 1).val < 4096 →
      x2 y = ((p (y 0).val ((y 1).val - 2048) : ℝ) : EReal))
  (hdy : ∀ y : S2048x2048.Idx, x3 y = ((dy (y 0).val (y 1).val : ℝ) : EReal))
include hp hdy

/-- The decayed products of the incoming gradient and the values. -/
theorem scores_k (i : S1x4x2048x2048.Idx) : val_main_v56 (F := Ideal) x2 x3 i
    = ((score 512 (fun r d => dy r (512 * (i 1).val + d)) (fun r d => p r (512 * (i 1).val + d)) (i 2).val (i 3).val
        * low (gam (i 1).val) (i 2).val (i 3).val : ℝ) : EReal) := by
  rw [val_main_v56_apply, val_main_v55_apply, val_main_v54_apply, val_main_v53_apply, val_main_v52_apply,
    val_main_v51_apply, val_main_v36_apply, decay,
    sum_elem 512 _ _ (fun d => dy (i 2).val (512 * (i 1).val + d)) (fun d => p (i 3).val (512 * (i 1).val + d))
      (fun d => ct x3 dy hdy _) (fun d => values x2 p hp _)]
  exact (EReal.coe_mul _ _).symm

/-- The gradient of k. -/
theorem result_k (hq : ∀ y : S2048x1024.Idx, x0 y = ((q (y 0).val (y 1).val : ℝ) : EReal)) :
    val_main_v62 (F := Ideal) x0 x2 x3 = (mat 2048 1024 .f32 fun i j => bwd 2048 512 (gam (j / 256))
      (fun r d => p r (512 * (j / 256) + d)) (fun r d => dy r (512 * (j / 256) + d)) (fun r d => q r (256 * (j / 256) + d))
      i (j % 256) : FVec Ideal S2048x1024 .f32) := by
  funext i
  have h0 : (i 0).val < 2048 := (i 0).isLt
  have h1 : (i 1).val < 1024 := (i 1).isLt
  have e0 : ((i 0).val * 1024 + (i 1).val) / 1024 % 2048 = (i 0).val := by omega
  have e1 : ((i 0).val * 1024 + (i 1).val) / 256 % 4 = (i 1).val / 256 := by omega
  have e2 : ((i 0).val * 1024 + (i 1).val) % 256 = (i 1).val % 256 := by omega
  rw [val_main_v62_apply, val_main_v61_apply, val_main_v60_apply, val_main_v58_apply, val_main_v57_apply]
  refine (sum_elem 2048 _ _ (fun j => score 512 (fun r d => dy r (512 * ((i 1).val / 256) + d))
      (fun r d => p r (512 * ((i 1).val / 256) + d)) j (i 0).val * low (gam ((i 1).val / 256)) j (i 0).val)
    (fun j => q j (256 * ((i 1).val / 256) + (i 1).val % 256)) (fun j => (scores_k x2 x3 p dy hp hdy _).trans ?_)
    (fun j => (queries x0 q hq _).trans ?_)).trans ?_
  · dsimp only
    rw [e0, e1]
  · dsimp only
    rw [e1, e2]
  · refine congrArg (fun a : ℝ => (a : EReal)) (Finset.sum_congr rfl fun j _ => ?_)
    rw [score_comm]

end Keys

section Values
variable (hq : ∀ y : S2048x1024.Idx, x0 y = ((q (y 0).val (y 1).val : ℝ) : EReal))
  (hk : ∀ y : S2048x1024.Idx, x1 y = ((k (y 0).val (y 1).val : ℝ) : EReal))
include hq hk

/-- The decayed products of the queries and the keys. -/
theorem scores_v (i : S1x4x2048x2048.Idx) : val_main_v38 (F := Ideal) x0 x1 i
    = ((score 256 (fun r d => q r (256 * (i 1).val + d)) (fun r d => k r (256 * (i 1).val + d)) (i 2).val (i 3).val
        * low (gam (i 1).val) (i 2).val (i 3).val : ℝ) : EReal) := by
  rw [val_main_v38_apply, val_main_v37_apply, val_main_v35_apply, val_main_v34_apply,
    val_main_v33_apply, val_main_v36_apply, decay,
    sum_elem 256 _ _ (fun d => q (i 2).val (256 * (i 1).val + d)) (fun d => k (i 3).val (256 * (i 1).val + d))
      (fun d => queries x0 q hq _) (fun d => keys x1 k hk _)]
  exact (EReal.coe_mul _ _).symm

/-- The gradient of v. -/
theorem result_v (hdy : ∀ y : S2048x2048.Idx, x3 y = ((dy (y 0).val (y 1).val : ℝ) : EReal)) :
    val_main_v63 (F := Ideal) x0 x1 x3 = (mat 2048 2048 .bf16 fun i j => bwd 2048 256 (gam (j / 512))
      (fun r d => k r (256 * (j / 512) + d)) (fun r d => q r (256 * (j / 512) + d)) (fun r d => dy r (512 * (j / 512) + d))
      i (j % 512) : FVec Ideal S2048x2048 .bf16) := by
  funext i
  have h0 : (i 0).val < 2048 := (i 0).isLt
  have h1 : (i 1).val < 2048 := (i 1).isLt
  have e0 : ((i 0).val * 2048 + (i 1).val) / 2048 % 2048 = (i 0).val := by omega
  have e1 : ((i 0).val * 2048 + (i 1).val) / 512 % 4 = (i 1).val / 512 := by omega
  have e2 : ((i 0).val * 2048 + (i 1).val) % 512 = (i 1).val % 512 := by omega
  rw [val_main_v63_apply, val_main_v59_apply, val_main_v50_apply, val_main_v49_apply, val_main_v48_apply]
  refine (sum_elem 2048 _ _ (fun j => dy j (512 * ((i 1).val / 512) + (i 1).val % 512))
    (fun j => score 256 (fun r d => q r (256 * ((i 1).val / 512) + d))
      (fun r d => k r (256 * ((i 1).val / 512) + d)) j (i 0).val * low (gam ((i 1).val / 512)) j (i 0).val)
    (fun j => (ct x3 dy hdy _).trans ?_) (fun j => (scores_v x0 x1 q k hq hk _).trans ?_)).trans ?_
  · dsimp only
    rw [e1, e2]
  · dsimp only
    rw [e0, e1]
  · refine congrArg (fun a : ℝ => (a : EReal)) (Finset.sum_congr rfl fun j _ => ?_)
    rw [score_comm, mul_comm]

end Values

end Cert.RefDkvIdeal.Entries
-- ==== Proof.DkvClaims.lean ====
module

public import proofs.«01_k».proof.Defs
public import proofs.«01_k».proof.Proof.Gen.Dkv.Frame
public import proofs.«01_k».proof.Proof.Gen.Pre_finite_dkv
public import proofs.«01_k».proof.Proof.DkvValue
public import proofs.«01_k».proof.Proof.RefDkv
public import proofs.«01_k».proof.Proof.Finite
public import Idealize.ShloMosaic.Lib.Quiescent

/-!
The claims about the gradients of k and v.
-/

@[expose] public section

set_option maxRecDepth 16384

noncomputable section

namespace Cert.Proof.DkvClaims

open Idealize.ShloMosaic Idealize.ShloMosaic.TcCoe Idealize.ShloMosaic.ValueIdx Idealize.SL.Sem Ret

/-- The kernel's frame at the machine's own numbers. -/
theorem frame_p : Cert.quiescent_Dkv := fun m g _ => Cert.Dkv.Gen.frame m g

/-- The idealized kernel's frame. -/
theorem frame_pi : Cert.quiescent_DkvIdeal := fun m g _ => Cert.DkvIdeal.Gen.frame m g
@[inherit_doc frame_pi]
theorem frame_pi_pre : Cert.quiescent_DkvIdeal_pre_finite_dkv := fun m g _ => Cert.DkvIdeal.Gen.frame m g

/-- The reference's frame. -/
theorem frame_r : Cert.quiescent_RefDkvIdeal := fun m g _ =>
  (θ_run Cert.RefDkvIdeal.defs _ _).mono (fun r h => ⟨fun c => (h c).2.2, sem_eq_zero_of_no_sems (by decide) r.2⟩)
    (Cert.RefDkvIdeal.Value.run m g)
@[inherit_doc frame_r]
theorem frame_r_pre : Cert.quiescent_RefDkvIdeal_pre_finite_dkv := fun m g _ => frame_r m g trivial

/-- The four named constants round to the words the kernel holds. -/
theorem preserves : Cert.preserves_Dkv_DkvIdeal :=
  ⟨IdealRules.named_const.statement Cert.DkvIdeal.κ "lg2" .f32 0xBC0080AC#32 _ rfl,
    IdealRules.named_const.statement Cert.DkvIdeal.κ "lg3" .f32 0xBB80402B#32 _ rfl,
    IdealRules.named_const.statement Cert.DkvIdeal.κ "lg1" .f32 0xBC8102B3#32 _ rfl,
    IdealRules.named_const.statement Cert.DkvIdeal.κ "lg0" .f32 0xBD020AEC#32 _ rfl⟩

/-- Arguments that pass the precondition hold real numbers: the queries, the keys, the value columns of the projection, the
    incoming gradient. -/
theorem reals (x0 x1 : FVec Ideal ⟨2, ![2048, 1024]⟩ .bf16) (x2 : FVec Ideal ⟨2, ![2048, 6144]⟩ .bf16)
    (x3 : FVec Ideal ⟨2, ![2048, 2048]⟩ .bf16) (h : Cert.Pre_finite_dkv.fn (F := Ideal) x0 x1 x2 x3 = fun _ => 1#1) :
    ∃ q k p dy : ℕ → ℕ → ℝ, (∀ y, x0 y = ((q (y 0).val (y 1).val : ℝ) : EReal))
      ∧ (∀ y, x1 y = ((k (y 0).val (y 1).val : ℝ) : EReal))
      ∧ (∀ y, 2048 ≤ (y 1).val → (y 1).val < 4096 → x2 y = ((p (y 0).val ((y 1).val - 2048) : ℝ) : EReal))
      ∧ ∀ y, x3 y = ((dy (y 0).val (y 1).val : ℝ) : EReal) := by
  have e := congrFun h (fun a => a.elim0)
  obtain ⟨e012, e3⟩ := IntOp.andi_eq_one.mp e
  obtain ⟨e01, e2⟩ := IntOp.andi_eq_one.mp e012
  obtain ⟨e0, e1⟩ := IntOp.andi_eq_one.mp e01
  obtain ⟨q, hq⟩ := finite_mat _ _ _ _ _ _ _ e0
  obtain ⟨k, hk⟩ := finite_mat _ _ _ _ _ _ _ e1
  obtain ⟨p, hp⟩ := finite_mat _ _ _ _ _ _ _ e2
  obtain ⟨dy, hdy⟩ := finite_mat _ _ _ _ _ _ _ e3
  refine ⟨q, k, p, dy, hq, hk, fun y hl hu => ?_, hdy⟩
  have hy : (y 0).val < 2048 := idx2_lt0 y
  refine Eq.trans ?_ (hp (ix2 ⟨(y 0).val, hy⟩ ⟨(y 1).val - 2048, by omega⟩))
  refine (extractStridedSlice_apply ![0, 2048] x2 _ _ y fun a => ?_).symm
  fin_cases a
  · exact (Nat.zero_add _).symm
  · show (y 1).val = 2048 + ((y 1).val - 2048)
    omega

/-- The kernel and the reference end with equal gradients of k and of v. -/
theorem algebraic : Cert.algebraic_DkvIdeal_RefDkvIdeal_pre_finite_dkv := by
  intro m g m' g' hpre hagree
  refine ⟨fun c => (Cert.DkvIdeal.Gen.dats m 0 c).arrAt 4 Cert.DkvIdeal.cfg0.N,
    fun c => (Cert.DkvIdeal.Gen.dats m 0 c).arrAt 5 Cert.DkvIdeal.cfg0.N, Cert.DkvIdeal.Value.run_blocks m g,
    (θ_run Cert.RefDkvIdeal.defs _ _).mono (fun r h c => ⟨(h c).1.trans ?_, (h c).2.1.trans ?_, (h c).2.2⟩)
      (Cert.RefDkvIdeal.Value.run m' g')⟩
  · obtain ⟨q, k, p, dy, hq, hk, hp, hdy⟩ := reals _ _ _ _ (hpre c)
    obtain ⟨a0, -, a2, a3⟩ := hagree c
    refine (Cert.RefDkvIdeal.Read.val_main_v62_eq _ _ _).trans ?_
    rw [a0, a2, a3]
    exact (Cert.RefDkvIdeal.Entries.result_k _ _ _ p dy q hp hdy hq).trans
      (Cert.DkvIdeal.Whole.result_k m c p dy q k hq hk hp hdy).symm
  · obtain ⟨q, k, p, dy, hq, hk, hp, hdy⟩ := reals _ _ _ _ (hpre c)
    obtain ⟨a0, a1, -, a3⟩ := hagree c
    refine (Cert.RefDkvIdeal.Read.val_main_v63_eq _ _ _).trans ?_
    rw [a0, a1, a3]
    exact (Cert.RefDkvIdeal.Entries.result_v _ _ _ dy q k hq hk hdy).trans
      (Cert.DkvIdeal.Whole.result_v m c p dy q k hq hk hp hdy).symm

end Cert.Proof.DkvClaims
-- ==== Proof.RetChunk.lean ====
module

public import proofs.«01_k».proof.Proof.Gen.RetFwdIdeal.Value
public import proofs.«01_k».proof.Proof.DqChunk

/-!
The forward retention, a grid point at a time: what the point's body leaves in its output block and in the state, its blocks
being rows of real matrices.
-/

@[expose] public section

set_option maxRecDepth 16384

noncomputable section

namespace Cert.RetFwdIdeal.Chunk

open Cert.RetFwdIdeal Cert.RetFwdIdeal.Gen Idealize.ShloMosaic Idealize.ShloMosaic.TcCoe Idealize.ShloMosaic.ValueIdx Idealize.SL.Sem Ret

variable (i : grid0.Coords)

/-- The masked decay of a chunk. -/
theorem decay : k0_pay4 (F := Ideal) i = mat 256 256 .f32 (low (gam (i 0).val)) := Cert.DqIdeal.Chunk.decay i
/-- The decay of the queries of a chunk. -/
theorem q_decay : k0_pay6 (F := Ideal) i = mat 256 1 .f32 fun r _ => gam (i 0).val ^ (r + 1) := Cert.DqIdeal.Chunk.q_decay i
/-- The decay of the keys of a chunk. -/
theorem k_decay : k0_pay7 (F := Ideal) i = mat 256 1 .f32 fun r _ => gam (i 0).val ^ (255 - r) := Cert.DqIdeal.Chunk.k_decay i
/-- The decay of the state over a chunk. -/
theorem chunk_decay : k0_pay8 (F := Ideal) i = mat 1 1 .f32 fun _ _ => gam (i 0).val ^ 256 := Cert.DqIdeal.Chunk.chunk_decay i

section Chunks

variable (dec : FVec Ideal S256x256 .f32) (qd kd : FVec Ideal S256x1 .f32) (cd : FVec Ideal S1x1 .f32)
  (q k : FVec Ideal S256x256 .bf16) (v : FVec Ideal S256x512 .bf16) (S : FVec Ideal S256x512 .f32)

/-- The first chunk's rows … -/
theorem out1 : k0_pay10 dec qd q k v S = chunkOut 256 512 dec qd q k v S := rfl
/-- … the second's … -/
theorem out2 : k0_pay14 qd q (k0_pay13 dec q k v) S = chunkOut 256 512 dec qd q k v S := rfl
/-- … the third's … -/
theorem out3 : k0_pay17 dec qd q k v S = chunkOut 256 512 dec qd q k v S := rfl
/-- … and the fourth's. -/
theorem out4 : k0_pay21 dec qd q k v S = chunkOut 256 512 dec qd q k v S := rfl
/-- The state after the first chunk … -/
theorem next1 : k0_pay11 kd cd k v S = chunkNext 256 512 kd cd k v S := (shapeCast_self _ _).trans rfl
/-- … after the second … -/
theorem next2 : k0_pay15 kd cd (k0_pay12 k) v S = chunkNext 256 512 kd cd k v S := (shapeCast_self _ _).trans rfl
/-- … after the third … -/
theorem next3 : k0_pay19 cd (k0_pay16 k) v (k0_pay18 kd) S = chunkNext 256 512 kd cd k v S := (shapeCast_self _ _).trans rfl
/-- … and after the fourth. -/
theorem next4 : k0_pay1 (k0_pay22 kd cd k v S) = chunkNext 256 512 kd cd k v S := (shapeCast_self _ _).trans rfl

end Chunks

/-! ## A grid point -/

section Point

variable (c : Dev nD) (arg2 : Memref sig .tc .vmem S1024x256 .bf16) (harg2 : arg2.IsWhole)
  (arg3 : Memref sig .tc .vmem S1024x256 .bf16) (harg3 : arg3.IsWhole) (arg4 : Memref sig .tc .vmem S1024x512 .bf16)
  (harg4 : arg4.IsWhole) (arg5 : Memref sig .tc .vmem S1024x512 .f32) (harg5 : arg5.IsWhole)
  (arg6 : Memref sig .tc .vmem S256x512 .f32) (harg6 : arg6.IsWhole) (q k v : ℕ → ℕ → ℝ) (b : ℕ)

/-- The rows of a block that starts at row b. -/
abbrev qB : Vec Ideal S1024x256 .bf16 := mat 1024 256 .bf16 fun i => q (b + i)
@[inherit_doc qB]
abbrev vB : Vec Ideal S1024x512 .bf16 := mat 1024 512 .bf16 fun i => v (b + i)
/-- The state in front of row b. -/
abbrev sB (h : ℕ) : Vec Ideal S256x512 .f32 := mat 256 512 .f32 (fst b (gam h) k v)
/-- The causal sum's rows from row b on. -/
abbrev oB (h : ℕ) : Vec Ideal S1024x512 .f32 := mat 1024 512 .f32 fun r => fwd 2048 256 (gam h) q k v (b + r)

section B
variable (hc0 : ¬cond0_0 i)

/-- The state the second chunk reads. -/
theorem state1_B : kernelRun0_B.sl.v73 c i arg3 harg3 arg4 harg4 arg6 harg6 (qB k b) (vB v b) (sB k v b (i 0).val)
    = sB k v (b + 256) (i 0).val := by
  delta kernelRun0_B.sl.v73 kernelRun0_B.sl.HS0_1
  rw [View.readCov_cons_toLoadRect, next1, k_decay, chunk_decay, load_bf16, load_bf16, load_whole]
  exact chunkNext_fwd 256 512 _ _ _ rfl k v

/-- The state the third chunk reads. -/
theorem state2_B : kernelRun0_B.sl.v100 c i arg3 harg3 arg4 harg4 arg6 harg6 (qB k b) (vB v b) (sB k v b (i 0).val)
    = sB k v (b + 512) (i 0).val := by
  delta kernelRun0_B.sl.v100 kernelRun0_B.sl.HS0_2 kernelRun0_B.sl.r_2 kernelRun0_B.sl.r_3
  rw [View.readCov_cons_toLoadRect, next2, k_decay, chunk_decay, load_bf16, load_bf16, state1_B]
  exact chunkNext_fwd 256 512 _ _ _ (Nat.add_assoc b 256 256).symm k v

/-- The state the fourth chunk reads. -/
theorem state3_B : kernelRun0_B.sl.v127 c i arg3 harg3 arg4 harg4 arg6 harg6 (qB k b) (vB v b) (sB k v b (i 0).val)
    = sB k v (b + 768) (i 0).val := by
  delta kernelRun0_B.sl.v127 kernelRun0_B.sl.HS0_3 kernelRun0_B.sl.r_5 kernelRun0_B.sl.r_6 kernelRun0_B.sl.r_7
  rw [View.readCov_cons_toLoadRect, next3, k_decay, chunk_decay, load_bf16, load_bf16, state2_B]
  exact chunkNext_fwd 256 512 _ _ _ (Nat.add_assoc b 512 256).symm k v

/-- The state a point that carries one leaves. -/
theorem sout_B : sout0_B_0 c i arg2 harg2 arg3 harg3 arg4 harg4 arg5 harg5 arg6 harg6 hc0 (qB q b) (qB k b) (vB v b) (sB k v b (i 0).val)
    = sB k v (b + 1024) (i 0).val := by
  unfold sout0_B_0
  rw [View.read_writes_junk_eq_canon]
  delta kernelRun0_B
  dsimp only
  rw [View.canon_cons_unit_zero (by funext a; fin_cases a <;> rfl)]
  delta kernelRun0_B.sl.r_8
  rw [next4, k_decay, chunk_decay, load_bf16, load_bf16, state3_B]
  exact chunkNext_fwd 256 512 _ _ _ (Nat.add_assoc b 768 256).symm k v

/-- The rows a point that carries a state stores. -/
theorem out_B (hb : b + 1024 ≤ 2048) :
    out0_B_3 c i arg2 harg2 arg3 harg3 arg4 harg4 arg5 harg5 arg6 harg6 hc0 (qB q b) (qB k b) (vB v b) (sB k v b (i 0).val)
      = oB q k v b (i 0).val := by
  funext y
  unfold out0_B_3
  rw [View.read_writes_junk_eq_canon]
  refine View.canon_apply_of_pieces _ _ (View.PiecesOf.mem ?_) y (cover0_B_3 ..)
  delta kernelRun0_B
  dsimp only
  refine ⟨fun x => ?_, fun x => ?_, fun x => ?_, fun x => ?_, trivial⟩
  · dsimp only
    rw [out4, decay, q_decay, load_bf16, load_bf16, load_bf16, state3_B, chunkOut_fwd 2048 _ _ _ _ (by omega)]
    exact piece_mat _ b 768 256 _ x
  · dsimp only
    rw [out3, decay, q_decay, load_bf16, load_bf16, load_bf16, state2_B, chunkOut_fwd 2048 _ _ _ _ (by omega)]
    exact piece_mat _ b 512 256 _ x
  · dsimp only
    delta kernelRun0_B.sl.r_1 kernelRun0_B.sl.r_4
    rw [out2, decay, q_decay, load_bf16, load_bf16, load_bf16, state1_B, chunkOut_fwd 2048 _ _ _ _ (by omega)]
    exact piece_mat _ b 256 256 _ x
  · dsimp only
    delta kernelRun0_B.sl.r
    rw [out1, decay, q_decay, load_bf16, load_bf16, load_bf16, load_whole]
    refine (congrFun (chunkOut_fwd 2048 256 512 (b + 0) _ (by omega) q k v) x).trans ?_
    exact piece_mat _ b 0 256 _ x

end B

section A
variable (hc0 : cond0_0 i)

/-- The state the first chunk reads: zero. -/
theorem state0_A : kernelRun0_A.sl.v46 (F := Ideal) c arg6 = sB k v 0 (i 0).val := by
  delta kernelRun0_A.sl.v46 kernelRun0_A.sl.HS0_1
  rw [View.readCov_cons_toLoadRect]
  refine (shapeCast_self _ _).trans (eq_mat fun a e => ?_)
  exact Ideal.ofBits_zero_f32

/-- The state the second chunk reads. -/
theorem state1_A : kernelRun0_A.sl.v73 c i arg3 harg3 arg4 harg4 arg6 (qB k 0) (vB v 0)
    = sB k v (256) (i 0).val := by
  delta kernelRun0_A.sl.v73 kernelRun0_A.sl.HS0_2
  rw [View.readCov_cons_toLoadRect, next1, k_decay, chunk_decay, load_bf16, load_bf16, state0_A]
  exact chunkNext_fwd 256 512 _ _ _ rfl k v

/-- The state the third chunk reads. -/
theorem state2_A : kernelRun0_A.sl.v100 c i arg3 harg3 arg4 harg4 arg6 (qB k 0) (vB v 0)
    = sB k v (512) (i 0).val := by
  delta kernelRun0_A.sl.v100 kernelRun0_A.sl.HS0_3 kernelRun0_A.sl.r_2 kernelRun0_A.sl.r_3
  rw [View.readCov_cons_toLoadRect, next2, k_decay, chunk_decay, load_bf16, load_bf16, state1_A]
  exact chunkNext_fwd 256 512 _ _ _ (Nat.add_assoc 0 256 256).symm k v

/-- The state the fourth chunk reads. -/
theorem state3_A : kernelRun0_A.sl.v127 c i arg3 harg3 arg4 harg4 arg6 (qB k 0) (vB v 0)
    = sB k v (768) (i 0).val := by
  delta kernelRun0_A.sl.v127 kernelRun0_A.sl.HS0_4 kernelRun0_A.sl.r_5 kernelRun0_A.sl.r_6 kernelRun0_A.sl.r_7
  rw [View.readCov_cons_toLoadRect, next3, k_decay, chunk_decay, load_bf16, load_bf16, state2_A]
  exact chunkNext_fwd 256 512 _ _ _ (Nat.add_assoc 0 512 256).symm k v

/-- The state a point that starts a head leaves. -/
theorem sout_A : sout0_A_0 c i arg2 harg2 arg3 harg3 arg4 harg4 arg5 harg5 arg6 harg6 hc0 (qB q 0) (qB k 0) (vB v 0)
    = sB k v (1024) (i 0).val := by
  unfold sout0_A_0
  rw [View.read_writes_junk_eq_canon]
  delta kernelRun0_A
  dsimp only
  rw [View.canon_cons_unit_zero (by funext a; fin_cases a <;> rfl)]
  delta kernelRun0_A.sl.r_8
  rw [next4, k_decay, chunk_decay, load_bf16, load_bf16, state3_A]
  exact chunkNext_fwd 256 512 _ _ _ (Nat.add_assoc 0 768 256).symm k v

/-- The rows a point that starts a head stores. -/
theorem out_A :
    out0_A_3 c i arg2 harg2 arg3 harg3 arg4 harg4 arg5 harg5 arg6 harg6 hc0 (qB q 0) (qB k 0) (vB v 0)
      = oB q k v 0 (i 0).val := by
  funext y
  unfold out0_A_3
  rw [View.read_writes_junk_eq_canon]
  refine View.canon_apply_of_pieces _ _ (View.PiecesOf.mem ?_) y (cover0_A_3 ..)
  delta kernelRun0_A
  dsimp only
  refine ⟨fun x => ?_, fun x => ?_, fun x => ?_, fun x => ?_, trivial⟩
  · dsimp only
    rw [out4, decay, q_decay, load_bf16, load_bf16, load_bf16, state3_A, chunkOut_fwd 2048 _ _ _ _ (by omega)]
    exact piece_mat _ 0 768 256 _ x
  · dsimp only
    rw [out3, decay, q_decay, load_bf16, load_bf16, load_bf16, state2_A, chunkOut_fwd 2048 _ _ _ _ (by omega)]
    exact piece_mat _ 0 512 256 _ x
  · dsimp only
    delta kernelRun0_A.sl.r_1 kernelRun0_A.sl.r_4
    rw [out2, decay, q_decay, load_bf16, load_bf16, load_bf16, state1_A, chunkOut_fwd 2048 _ _ _ _ (by omega)]
    exact piece_mat _ 0 256 256 _ x
  · dsimp only
    delta kernelRun0_A.sl.r
    rw [out1, decay, q_decay, load_bf16, load_bf16, load_bf16, state0_A]
    refine (congrFun (chunkOut_fwd 2048 256 512 (0 + 0) _ (by omega) q k v) x).trans ?_
    exact piece_mat _ 0 0 256 _ x

end A

end Point

end Cert.RetFwdIdeal.Chunk
-- ==== Proof.RetValue.lean ====
module

public import proofs.«01_k».proof.Proof.RetChunk
public import proofs.«01_k».proof.Proof.DqValue

/-!
The forward retention, the whole call: the blocks the grid points read, the state carried from a head's first point to its
second, and the array the call leaves.
-/

@[expose] public section

set_option maxRecDepth 16384

noncomputable section

namespace Cert.RetFwdIdeal.Whole

open Cert.RetFwdIdeal Cert.RetFwdIdeal.Gen Cert.RetFwdIdeal.Value Cert.RetFwdIdeal.Chunk Idealize.ShloMosaic Idealize.ShloMosaic.TcCoe
  Idealize.ShloMosaic.ValueIdx Idealize.SL.Sem Ret
open Cert.DqIdeal.Whole (head)

variable (m : (ℓ : Loc nD τ sig) → Buf (Elt Ideal) ℓ) (c : Dev nD) (q k p : ℕ → ℕ → ℝ)

/-- The blocks' places: head t / 2, block of rows t % 2. -/
theorem index_0 : ∀ t : Fin cfg0.N, win0_0.index t = ![t.val % 2, t.val / 2] := by decide +kernel
@[inherit_doc index_0]
theorem index_1 : ∀ t : Fin cfg0.N, win0_1.index t = ![t.val % 2, t.val / 2] := by decide +kernel
@[inherit_doc index_0]
theorem index_2 : ∀ t : Fin cfg0.N, win0_2.index t = ![t.val % 2, 4 + t.val / 2] := by decide +kernel
/-- The head of a point. -/
theorem coord : ∀ t : Fin cfg0.N, ((grid0.coords t) 0).val = t.val / 2 := by decide +kernel

section
variable (hq : ∀ y : S2048x1024.Idx, m ((c : Thread nD τ).loc main_arg0) y = ((q (y 0).val (y 1).val : ℝ) : EReal))
  (hk : ∀ y : S2048x1024.Idx, m ((c : Thread nD τ).loc main_arg1) y = ((k (y 0).val (y 1).val : ℝ) : EReal))
  (hp : ∀ y : S2048x6144.Idx, 2048 ≤ (y 1).val → (y 1).val < 4096 →
      m ((c : Thread nD τ).loc main_arg2) y = ((p (y 0).val ((y 1).val - 2048) : ℝ) : EReal))

include hq in
/-- The queries' block at a point: its rows and its head's columns. -/
theorem blk_q (t : Fin cfg0.N) :
    iblk m c 0 t = (qB (head 256 (t.val / 2) q) (1024 * (t.val % 2)) : FVec Ideal ⟨2, ![1024, 256]⟩ .bf16) := by
  unfold iblk
  funext y
  rw [View.read_apply]
  refine (hq _).trans (?_ : ((q (win0_0.index t 0 * 1024 + 1 * (y 0).val) (win0_0.index t 1 * 256 + 1 * (y 1).val) : ℝ) : EReal)
    = ((q (1024 * (t.val % 2) + (y 0).val) (256 * (t.val / 2) + (y 1).val) : ℝ) : EReal))
  rw [index_0]
  simp only [Matrix.cons_val_zero, Matrix.cons_val_one, one_mul, mul_comm]

include hk in
/-- The keys' block at a point. -/
theorem blk_k (t : Fin cfg0.N) :
    iblk m c 1 t = (qB (head 256 (t.val / 2) k) (1024 * (t.val % 2)) : FVec Ideal ⟨2, ![1024, 256]⟩ .bf16) := by
  unfold iblk
  funext y
  rw [View.read_apply]
  refine (hk _).trans (?_ : ((k (win0_1.index t 0 * 1024 + 1 * (y 0).val) (win0_1.index t 1 * 256 + 1 * (y 1).val) : ℝ) : EReal)
    = ((k (1024 * (t.val % 2) + (y 0).val) (256 * (t.val / 2) + (y 1).val) : ℝ) : EReal))
  rw [index_1]
  simp only [Matrix.cons_val_zero, Matrix.cons_val_one, one_mul, mul_comm]

include hp in
/-- The values' block at a point. -/
theorem blk_v (t : Fin cfg0.N) :
    iblk m c 2 t = (vB (head 512 (t.val / 2) p) (1024 * (t.val % 2)) : FVec Ideal ⟨2, ![1024, 512]⟩ .bf16) := by
  have ht : t.val < 8 := t.isLt
  unfold iblk
  funext y
  have hy : (y 1).val < 512 := idx2_lt1 (n0 := 1024) (n1 := 512) y
  rw [View.read_apply]
  have e : win0_2.index t 1 * 512 + 1 * (y 1).val = 2048 + (512 * (t.val / 2) + (y 1).val) := by
    rw [index_2]
    simp only [Matrix.cons_val_one, Matrix.cons_val_zero]
    omega
  refine (hp _ (e ▸ Nat.le_add_right _ _ : 2048 ≤ win0_2.index t 1 * 512 + 1 * (y 1).val)
    (by rw [e]; omega : win0_2.index t 1 * 512 + 1 * (y 1).val < 4096)).trans
    (?_ : ((p (win0_2.index t 0 * 1024 + 1 * (y 0).val) (win0_2.index t 1 * 512 + 1 * (y 1).val - 2048) : ℝ) : EReal)
    = ((p (1024 * (t.val % 2) + (y 0).val) (512 * (t.val / 2) + (y 1).val) : ℝ) : EReal))
  rw [e, index_2, Nat.add_sub_cancel_left]
  simp only [Matrix.cons_val_zero, one_mul, mul_comm]

include hq hk hp

/-- A head's first point leaves the first 1024 rows and the state after them. -/
theorem first (t : Fin cfg0.N) (h0 : t.val % 2 = 0) : outsAt0 m c t.val t.isLt
    = (oB (head 256 (t.val / 2) q) (head 256 (t.val / 2) k) (head 512 (t.val / 2) p) 0 (t.val / 2),
      sB (head 256 (t.val / 2) k) (head 512 (t.val / 2) p) 1024 (t.val / 2)) := by
  rw [outsAt0_A m c t h0, blk_q m c q hq, blk_k m c k hk, blk_v m c p hp, show 1024 * (t.val % 2) = 0 by omega, out_A, sout_A, coord]

/-- A head's second point leaves the last 1024 rows. -/
theorem second (t : Fin cfg0.N) (h0 : ¬ t.val % 2 = 0) : (outsAt0 m c t.val t.isLt).1
    = oB (head 256 (t.val / 2) q) (head 256 (t.val / 2) k) (head 512 (t.val / 2) p) 1024 (t.val / 2) := by
  have e : (t.val - 1) / 2 = t.val / 2 := by omega
  have hf := first m c q k p hq hk hp ⟨t.val - 1, Nat.lt_of_le_of_lt (Nat.sub_le _ _) t.isLt⟩ (show (t.val - 1) % 2 = 0 by omega)
  simp only [e] at hf
  rw [outsAt0_B m c t h0, hf, blk_q m c q hq, blk_k m c k hk, blk_v m c p hp, show 1024 * (t.val % 2) = 1024 by omega]
  simp only [← coord t]
  exact out_B _ _ _ _ _ _ _ _ _ _ _ _ _ _ _ _ _ (show 1024 + 1024 ≤ 2048 by omega)

/-- What a point leaves, at either. -/
theorem point (t : Fin cfg0.N) : (outsAt0 m c t.val t.isLt).1
    = oB (head 256 (t.val / 2) q) (head 256 (t.val / 2) k) (head 512 (t.val / 2) p) (1024 * (t.val % 2)) (t.val / 2) := by
  by_cases h0 : t.val % 2 = 0
  · rw [first m c q k p hq hk hp t h0, h0]
  · rw [second m c q k p hq hk hp t h0, show t.val % 2 = 1 by omega]

/-- The array the call leaves: in each head's columns the decayed retention of the queries, the keys and the values. -/
theorem result : G3 m c = (mat 2048 2048 .f32 fun i j => fwd 2048 256 (gam (j / 512)) (head 256 (j / 512) q) (head 256 (j / 512) k)
    (head 512 (j / 512) p) i (j % 512) : FVec Ideal S2048x2048 .f32) := by
  funext y
  have h0 : (y 0).val < 2048 := idx2_lt0 (n0 := 2048) (n1 := 2048) y
  have h1 : (y 1).val < 2048 := idx2_lt1 (n0 := 2048) (n1 := 2048) y
  have e : pt3Of y = (y 0).val / 1024 + 2 * ((y 1).val / 512) := by
    show 1 * ((y 0).val / 1024 - 0) + 2 * ((y 1).val / 512 - 0) = _
    omega
  have hN : pt3Of y < cfg0.N := by
    rw [e]
    show _ < 8
    omega
  unfold G3
  rw [dif_pos hN, ← outsAt0_sweep m c (pt3Of y) hN, point m c q k p hq hk hp ⟨pt3Of y, hN⟩]
  have e1 : pt3Of y / 2 = (y 1).val / 512 := by omega
  have e2 : pt3Of y % 2 = (y 0).val / 1024 := by omega
  simp only [e1, e2]
  show ((fwd 2048 256 _ _ _ _ (1024 * ((y 0).val / 1024) + (y 0).val % 1024) ((y 1).val % 512) : ℝ) : EReal) = _
  rw [Nat.div_add_mod]
  rfl

end

end Cert.RetFwdIdeal.Whole
-- ==== Proof.RefRet.lean ====
module

public import proofs.«01_k».proof.Proof.RefDq
public import proofs.«01_k».proof.Proof.Gen.RefRetFwdIdeal.Read

/-!
The reference's forward retention, entry by entry: over real arguments it is the decayed retention of the queries, the keys
and the values.
-/

@[expose] public section

set_option maxRecDepth 16384

noncomputable section

open scoped BigOperators

namespace Cert.RefRetFwdIdeal.Entries

open Cert.RefRetFwdIdeal Cert.RefRetFwdIdeal.Read Idealize.ShloMosaic Idealize.ShloMosaic.ValueIdx Ret

/-- The masked decay. -/
theorem decay (i : S4x2048x2048.Idx) : val_main_v34 (F := Ideal) i
    = ((low (gam (i 0).val) (i 1).val (i 2).val : ℝ) : EReal) := Cert.RefDqIdeal.Entries.decay i

variable (x0 x1 : FVec Ideal S2048x1024 .bf16) (x2 : FVec Ideal S2048x6144 .bf16) (q k p : ℕ → ℕ → ℝ)

/-- The queries by head. -/
theorem queries (hq : ∀ y : S2048x1024.Idx, x0 y = ((q (y 0).val (y 1).val : ℝ) : EReal)) (i : S1x4x2048x256.Idx) :
    val_main_v14 (F := Ideal) x0 i = ((q (i 2).val (256 * (i 1).val + (i 3).val) : ℝ) : EReal) := by
  have h0 : (i 0).val < 1 := (i 0).isLt
  have h1 : (i 1).val < 4 := (i 1).isLt
  have h2 : (i 2).val < 2048 := (i 2).isLt
  have h3 : (i 3).val < 256 := (i 3).isLt
  rw [val_main_v14_apply, val_main_v2_apply, val_main_v1_apply]
  exact (hq _).trans (congr2 q (by dsimp only; omega) (by dsimp only; omega))

/-- The keys by head. -/
theorem keys (hk : ∀ y : S2048x1024.Idx, x1 y = ((k (y 0).val (y 1).val : ℝ) : EReal)) (i : S1x4x2048x256.Idx) :
    val_main_v15 (F := Ideal) x1 i = ((k (i 2).val (256 * (i 1).val + (i 3).val) : ℝ) : EReal) := queries x1 k hk i

/-- The values by head. -/
theorem values (hp : ∀ y : S2048x6144.Idx, 2048 ≤ (y 1).val → (y 1).val < 4096 →
      x2 y = ((p (y 0).val ((y 1).val - 2048) : ℝ) : EReal)) (i : S1x4x2048x512.Idx) :
    val_main_v16 (F := Ideal) x2 i = ((p (i 2).val (512 * (i 1).val + (i 3).val) : ℝ) : EReal) := by
  have h0 : (i 0).val < 1 := (i 0).isLt
  have h1 : (i 1).val < 4 := (i 1).isLt
  have h2 : (i 2).val < 2048 := (i 2).isLt
  have h3 : (i 3).val < 512 := (i 3).isLt
  rw [val_main_v16_apply, val_main_v6_apply, val_main_v5_apply, val_main_v0_apply]
  exact (hp _ (by dsimp only; omega) (by dsimp only; omega)).trans (congr2 p (by dsimp only; omega) (by dsimp only; omega))

section
variable (hq : ∀ y : S2048x1024.Idx, x0 y = ((q (y 0).val (y 1).val : ℝ) : EReal))
  (hk : ∀ y : S2048x1024.Idx, x1 y = ((k (y 0).val (y 1).val : ℝ) : EReal))
include hq hk

/-- The decayed products of the queries and the keys. -/
theorem scores (i : S1x4x2048x2048.Idx) : val_main_v37 (F := Ideal) x0 x1 i
    = ((score 256 (fun r d => q r (256 * (i 1).val + d)) (fun r d => k r (256 * (i 1).val + d)) (i 2).val (i 3).val
        * low (gam (i 1).val) (i 2).val (i 3).val : ℝ) : EReal) := by
  rw [val_main_v37_apply, val_main_v35_apply, val_main_v36_apply, decay,
    sum_elem 256 _ _ (fun d => q (i 2).val (256 * (i 1).val + d)) (fun d => k (i 3).val (256 * (i 1).val + d))
      (fun d => queries x0 q hq _) (fun d => keys x1 k hk _)]
  exact (EReal.coe_mul _ _).symm

/-- The retention. -/
theorem result (hp : ∀ y : S2048x6144.Idx, 2048 ≤ (y 1).val → (y 1).val < 4096 →
      x2 y = ((p (y 0).val ((y 1).val - 2048) : ℝ) : EReal)) :
    val_main_v40 (F := Ideal) x0 x1 x2 = (mat 2048 2048 .f32 fun i j => fwd 2048 256 (gam (j / 512))
      (fun r d => q r (256 * (j / 512) + d)) (fun r d => k r (256 * (j / 512) + d)) (fun r d => p r (512 * (j / 512) + d))
      i (j % 512) : FVec Ideal S2048x2048 .f32) := by
  funext i
  have h0 : (i 0).val < 2048 := (i 0).isLt
  have h1 : (i 1).val < 2048 := (i 1).isLt
  have e0 : ((i 0).val * 2048 + (i 1).val) / 2048 % 2048 = (i 0).val := by omega
  have e1 : ((i 0).val * 2048 + (i 1).val) / 512 % 4 = (i 1).val / 512 := by omega
  have e2 : ((i 0).val * 2048 + (i 1).val) % 512 = (i 1).val % 512 := by omega
  rw [val_main_v40_apply, val_main_v39_apply, val_main_v38_apply]
  refine (sum_elem 2048 _ _ (fun j => score 256 (fun r d => q r (256 * ((i 1).val / 512) + d))
      (fun r d => k r (256 * ((i 1).val / 512) + d)) (i 0).val j * low (gam ((i 1).val / 512)) (i 0).val j)
    (fun j => p j (512 * ((i 1).val / 512) + (i 1).val % 512)) (fun j => (scores x0 x1 q k hq hk _).trans ?_)
    (fun j => (values x2 p hp _).trans ?_)).trans rfl
  · dsimp only
    rw [e0, e1]
  · dsimp only
    rw [e1, e2]

end

end Cert.RefRetFwdIdeal.Entries
-- ==== Proof.RetClaims.lean ====
module

public import proofs.«01_k».proof.Defs
public import proofs.«01_k».proof.Proof.Gen.RetFwd.Frame
public import proofs.«01_k».proof.Proof.Gen.Pre_finite_ret_fwd
public import proofs.«01_k».proof.Proof.RetValue
public import proofs.«01_k».proof.Proof.RefRet
public import proofs.«01_k».proof.Proof.Finite
public import Idealize.ShloMosaic.Lib.Quiescent

/-!
The claims about the forward retention.
-/

@[expose] public section

set_option maxRecDepth 16384

noncomputable section

namespace Cert.Proof.RetClaims

open Idealize.ShloMosaic Idealize.ShloMosaic.TcCoe Idealize.ShloMosaic.ValueIdx Idealize.SL.Sem Ret

/-- The kernel's frame at the machine's own numbers. -/
theorem frame_p : Cert.quiescent_RetFwd := fun m g _ => Cert.RetFwd.Gen.frame m g

/-- The idealized kernel's frame. -/
theorem frame_pi : Cert.quiescent_RetFwdIdeal := fun m g _ => Cert.RetFwdIdeal.Gen.frame m g
@[inherit_doc frame_pi]
theorem frame_pi_pre : Cert.quiescent_RetFwdIdeal_pre_finite_ret_fwd := fun m g _ => Cert.RetFwdIdeal.Gen.frame m g

/-- The reference's frame. -/
theorem frame_r : Cert.quiescent_RefRetFwdIdeal := fun m g _ =>
  (θ_run Cert.RefRetFwdIdeal.defs _ _).mono (fun r h => ⟨fun c => (h c).2, sem_eq_zero_of_no_sems (by decide) r.2⟩)
    (Cert.RefRetFwdIdeal.Value.run m g)
@[inherit_doc frame_r]
theorem frame_r_pre : Cert.quiescent_RefRetFwdIdeal_pre_finite_ret_fwd := fun m g _ => frame_r m g trivial

/-- The four named constants round to the words the kernel holds. -/
theorem preserves : Cert.preserves_RetFwd_RetFwdIdeal :=
  ⟨IdealRules.named_const.statement Cert.RetFwdIdeal.κ "lg2" .f32 0xBC0080AC#32 _ rfl,
    IdealRules.named_const.statement Cert.RetFwdIdeal.κ "lg3" .f32 0xBB80402B#32 _ rfl,
    IdealRules.named_const.statement Cert.RetFwdIdeal.κ "lg1" .f32 0xBC8102B3#32 _ rfl,
    IdealRules.named_const.statement Cert.RetFwdIdeal.κ "lg0" .f32 0xBD020AEC#32 _ rfl⟩

/-- Arguments that pass the precondition hold real numbers: the queries, the keys, the value columns of the projection. -/
theorem reals (x0 x1 : FVec Ideal ⟨2, ![2048, 1024]⟩ .bf16) (x2 : FVec Ideal ⟨2, ![2048, 6144]⟩ .bf16)
    (h : Cert.Pre_finite_ret_fwd.fn (F := Ideal) x0 x1 x2 = fun _ => 1#1) :
    ∃ q k p : ℕ → ℕ → ℝ, (∀ y, x0 y = ((q (y 0).val (y 1).val : ℝ) : EReal)) ∧ (∀ y, x1 y = ((k (y 0).val (y 1).val : ℝ) : EReal))
      ∧ ∀ y, 2048 ≤ (y 1).val → (y 1).val < 4096 → x2 y = ((p (y 0).val ((y 1).val - 2048) : ℝ) : EReal) := by
  have e := congrFun h (fun a => a.elim0)
  obtain ⟨e01, e2⟩ := IntOp.andi_eq_one.mp e
  obtain ⟨e0, e1⟩ := IntOp.andi_eq_one.mp e01
  obtain ⟨q, hq⟩ := finite_mat _ _ _ _ _ _ _ e0
  obtain ⟨k, hk⟩ := finite_mat _ _ _ _ _ _ _ e1
  obtain ⟨p, hp⟩ := finite_mat _ _ _ _ _ _ _ e2
  refine ⟨q, k, p, hq, hk, fun y hl hu => ?_⟩
  have hy : (y 0).val < 2048 := idx2_lt0 y
  refine Eq.trans ?_ (hp (ix2 ⟨(y 0).val, hy⟩ ⟨(y 1).val - 2048, by omega⟩))
  refine (extractStridedSlice_apply ![0, 2048] x2 _ _ y fun a => ?_).symm
  fin_cases a
  · exact (Nat.zero_add _).symm
  · show (y 1).val = 2048 + ((y 1).val - 2048)
    omega

/-- The kernel and the reference end with equal retentions. -/
theorem algebraic : Cert.algebraic_RetFwdIdeal_RefRetFwdIdeal_pre_finite_ret_fwd := by
  intro m g m' g' hpre hagree
  refine ⟨fun c => Cert.RetFwdIdeal.Value.G3 m c, Cert.RetFwdIdeal.Value.run m g,
    (θ_run Cert.RefRetFwdIdeal.defs _ _).mono (fun r h c => ⟨(h c).1.trans ?_, (h c).2⟩) (Cert.RefRetFwdIdeal.Value.run m' g')⟩
  obtain ⟨q, k, p, hq, hk, hp⟩ := reals _ _ _ (hpre c)
  obtain ⟨a0, a1, a2⟩ := hagree c
  rw [Cert.RefRetFwdIdeal.Read.val_main_v40_eq, a0, a1, a2]
  exact (Cert.RefRetFwdIdeal.Entries.result _ _ _ q k p hq hk hp).trans (Cert.RetFwdIdeal.Whole.result m c q k p hq hk hp).symm

end Cert.Proof.RetClaims
-- ==== Proof.FoxMath.lean ====
module

public import proofs.«01_k».proof.Proof.Arr
public import Idealize.ShloMosaic.Lib.IdealHost
public import Idealize.ShloMosaic.Lib.WordCmp

/-!
The arithmetic of causal softmax attention with a forget gate, on extended reals. `att T V n` is the softmax of the first n
scores applied to the first n values. The lemmas cut its maximum and its sums where a kernel cuts them, and show that a
softmax normalised term by term, its masked scores at −∞ and all scores moved by a real number, gives the same.
-/

@[expose] public section

set_option maxRecDepth 16384

noncomputable section

open scoped BigOperators

namespace Ret

open Idealize.ShloMosaic

/-- A real factor that is not negative goes into a sum. -/
theorem sum_mul_real (g : ℕ → EReal) {c : ℝ} (hc : 0 ≤ c) (n : ℕ) :
    ∑ j ∈ Finset.range n, g j * (c : EReal) = (∑ j ∈ Finset.range n, g j) * (c : EReal) := by
  induction n with
  | zero => simp
  | succ n ih =>
    rw [Finset.sum_range_succ, Finset.sum_range_succ, ih]
    exact (EReal.right_distrib_of_nonneg_of_ne_top (by exact_mod_cast hc) (EReal.coe_ne_top c) _ _).symm

/-- The greatest of the first n scores. -/
def top (T : ℕ → EReal) (n : ℕ) : EReal := (Finset.range n).sup T

/-- The greatest of n scores numbered by a finite type. -/
theorem fin_sup (T : ℕ → EReal) (n : ℕ) : (Finset.univ : Finset (Fin n)).sup (fun k => T k.val) = top T n := by
  apply le_antisymm
  · exact Finset.sup_le fun k _ => Finset.le_sup (f := T) (Finset.mem_range.2 k.isLt)
  · exact Finset.sup_le fun j hj =>
      Finset.le_sup (f := fun k : Fin n => T k.val) (Finset.mem_univ (⟨j, Finset.mem_range.1 hj⟩ : Fin n))

/-- The weight of score j before normalising, for a greatest score M. -/
def wt (T : ℕ → EReal) (M : EReal) (j : ℕ) : EReal := Ideal.exp (T j - M)

/-- Softmax of the first n scores, applied to the first n values. -/
def att (T V : ℕ → EReal) (n : ℕ) : EReal :=
  Ideal.div (∑ j ∈ Finset.range n, wt T (top T n) j * V j) (∑ j ∈ Finset.range n, wt T (top T n) j)

/-- The maximum of terms masked below −∞ beyond i is the maximum of the first i + 1. -/
theorem top_mask (g : ℕ → EReal) {K i : ℕ} (h : i < K) : top (fun j => if j ≤ i then g j else ⊥) K = top g (i + 1) := by
  apply le_antisymm
  · refine Finset.sup_le fun j _ => ?_
    split
    · rename_i hj
      exact Finset.le_sup (f := g) (Finset.mem_range.2 (by omega))
    · exact bot_le
  · refine Finset.sup_le fun j hj => ?_
    have hj' := Finset.mem_range.1 hj
    refine le_trans (le_of_eq ?_) (Finset.le_sup (f := fun j => if j ≤ i then g j else ⊥) (Finset.mem_range.2 (by omega : j < K)))
    exact (if_pos (by omega)).symm

/-- The sum of terms masked to zero beyond i is the sum of the first i + 1. -/
theorem sum_mask (g : ℕ → EReal) {K i : ℕ} (h : i < K) :
    ∑ j ∈ Finset.range K, (if j ≤ i then g j else 0) = ∑ j ∈ Finset.range (i + 1), g j := by
  rw [← Finset.sum_filter]
  refine Finset.sum_congr (Finset.ext fun j => ?_) fun _ _ => rfl
  simp only [Finset.mem_filter, Finset.mem_range]
  omega

/-- The maximum of W + n terms is the greater of those of the first W and of the rest. -/
theorem top_add (g : ℕ → EReal) (W n : ℕ) : max (top g W) (top (fun j => g (W + j)) n) = top g (W + n) := by
  apply le_antisymm
  · refine max_le (Finset.sup_mono (Finset.range_subset_range.2 (by omega))) (Finset.sup_le fun j hj => ?_)
    have hj' := Finset.mem_range.1 hj
    exact Finset.le_sup (f := g) (Finset.mem_range.2 (by omega))
  · refine Finset.sup_le fun j hj => ?_
    have hj' := Finset.mem_range.1 hj
    by_cases hw : j < W
    · exact le_max_of_le_left (Finset.le_sup (Finset.mem_range.2 hw))
    · refine le_max_of_le_right (le_trans (le_of_eq ?_)
        (Finset.le_sup (f := fun j => g (W + j)) (Finset.mem_range.2 (by omega : j - W < n))))
      congr 1
      omega

/-- A score of −∞ has weight zero. -/
theorem exp_bot_sub (M : EReal) : Ideal.exp (⊥ - M) = 0 := by
  rw [EReal.bot_sub]
  rfl

/-- A masked score's weight. -/
theorem wt_mask (g : ℕ → EReal) (M : EReal) (i j : ℕ) :
    wt (fun j => if j ≤ i then g j else ⊥) M j = if j ≤ i then wt g M j else 0 := by
  unfold wt
  dsimp only
  split
  · rfl
  · exact exp_bot_sub M

/-- Softmax over one masked run of scores. -/
theorem att_one (T V : ℕ → EReal) {K i : ℕ} (h : i < K) :
    Ideal.div (∑ j ∈ Finset.range K, wt (fun j => if j ≤ i then T j else ⊥) (top (fun j => if j ≤ i then T j else ⊥) K) j * V j)
        (∑ j ∈ Finset.range K, wt (fun j => if j ≤ i then T j else ⊥) (top (fun j => if j ≤ i then T j else ⊥) K) j)
      = att T V (i + 1) := by
  simp only [wt_mask, ite_mul, zero_mul]
  rw [sum_mask _ h, sum_mask _ h, top_mask T h]
  rfl

/-- Softmax over a whole run of W scores and a masked run after it. -/
theorem att_two (T V : ℕ → EReal) (W : ℕ) {K i : ℕ} (h : i < K) (M : EReal)
    (hM : M = max (top T W) (top (fun j => if j ≤ i then T (W + j) else ⊥) K)) :
    Ideal.div ((∑ j ∈ Finset.range W, wt T M j * V j)
          + ∑ j ∈ Finset.range K, wt (fun j => if j ≤ i then T (W + j) else ⊥) M j * V (W + j))
        ((∑ j ∈ Finset.range W, wt T M j) + ∑ j ∈ Finset.range K, wt (fun j => if j ≤ i then T (W + j) else ⊥) M j)
      = att T V (W + i + 1) := by
  have h1 := top_mask (fun j => T (W + j)) h
  rw [h1, top_add] at hM
  have e1 : ∀ j, wt (fun j => if j ≤ i then T (W + j) else ⊥) M j = if j ≤ i then wt T M (W + j) else 0 :=
    fun j => wt_mask (fun j => T (W + j)) M i j
  simp only [e1, ite_mul, zero_mul]
  rw [sum_mask (fun j => wt T M (W + j)) h, sum_mask (fun j => wt T M (W + j) * V (W + j)) h, ← Finset.sum_range_add,
    ← Finset.sum_range_add, hM]
  rfl

/-- No weight is negative. -/
theorem exp_nonneg (x : EReal) : 0 ≤ Ideal.exp x := by
  induction x with
  | bot => exact le_refl _
  | coe r => exact EReal.coe_nonneg.2 (Real.exp_pos r).le
  | top => exact le_top

/-- The weights of real scores sum to a real number above zero. -/
theorem sum_wt_real (T : ℕ → EReal) (t : ℕ → ℝ) (n : ℕ) (ht : ∀ j < n + 1, T j = (t j : EReal)) :
    ∃ l : ℝ, 0 < l ∧ ∑ j ∈ Finset.range (n + 1), wt T (top T (n + 1)) j = (l : EReal) := by
  obtain ⟨j0, hj0, e0⟩ := Finset.exists_mem_eq_sup (Finset.range (n + 1)) ⟨0, Finset.mem_range.2 (by omega)⟩ T
  have hM : top T (n + 1) = (t j0 : EReal) := e0.trans (ht j0 (Finset.mem_range.1 hj0))
  refine ⟨∑ j ∈ Finset.range (n + 1), Real.exp (t j - t j0),
    Finset.sum_pos (fun j _ => Real.exp_pos _) ⟨0, Finset.mem_range.2 (by omega)⟩, ?_⟩
  rw [hM, ← coe_sum, sum_fin (fun j => ((Real.exp (t j - t j0) : ℝ) : EReal))]
  refine Finset.sum_congr rfl fun j hj => ?_
  unfold wt
  rw [ht j (Finset.mem_range.1 hj), ← EReal.coe_sub]
  rfl

/-- A maximum of terms all moved by a real number. -/
theorem top_shift (T : ℕ → EReal) (f : ℝ) (n : ℕ) : top (fun j => T j + (f : EReal)) (n + 1) = top T (n + 1) + (f : EReal) := by
  unfold top
  induction n with
  | zero => simp
  | succ n ih =>
    rw [Finset.range_add_one, Finset.sup_insert, ih, Finset.sup_insert]
    exact (max_add_add_right _ _ _)

/-- A score and its maximum moved by the same real number differ as before. -/
theorem sub_shift (a b : EReal) (f : ℝ) : (a + (f : EReal)) - (b + (f : EReal)) = a - b := by
  induction a with
  | bot => rw [EReal.bot_add, EReal.bot_sub, EReal.bot_sub]
  | coe x =>
    induction b with
    | bot => rw [EReal.bot_add]; rfl
    | coe y =>
      rw [← EReal.coe_add, ← EReal.coe_add, ← EReal.coe_sub, ← EReal.coe_sub]
      congr 1
      ring
    | top => rw [EReal.top_add_coe]; rfl
  | top =>
    induction b with
    | bot => rw [EReal.bot_add, EReal.top_add_coe]
    | coe y => rw [EReal.top_add_coe, ← EReal.coe_add]; rfl
    | top => rw [EReal.top_add_coe]

/-- Softmax normalised term by term over K scores, those beyond i at −∞ and all moved by f, applied to values. -/
theorem att_terms (T V : ℕ → EReal) (t : ℕ → ℝ) (f : ℝ) {K i : ℕ} (h : i < K) (ht : ∀ j < i + 1, T j = (t j : EReal))
    (S : ℕ → EReal) (hS : ∀ j, S j = if j ≤ i then T j + (f : EReal) else ⊥) :
    ∑ j ∈ Finset.range K, V j * Ideal.div (wt S (top S K) j) (0 + ∑ k ∈ Finset.range K, wt S (top S K) k)
      = att T V (i + 1) := by
  obtain rfl : S = fun j => if j ≤ i then T j + (f : EReal) else ⊥ := funext hS
  have e : ∀ j, wt (fun j => if j ≤ i then T j + (f : EReal) else ⊥) (top (fun j => if j ≤ i then T j + (f : EReal) else ⊥) K) j
      = if j ≤ i then wt T (top T (i + 1)) j else 0 := fun j => by
    rw [top_mask (fun j => T j + (f : EReal)) h, top_shift, wt_mask (fun j => T j + (f : EReal))]
    unfold wt
    rw [sub_shift]
  simp only [e]
  rw [zero_add, sum_mask _ h]
  obtain ⟨l, hl, el⟩ := sum_wt_real T t i ht
  have hl0 : (l : EReal) ≠ 0 := by exact_mod_cast hl.ne'
  unfold att
  rw [el]
  have hd : ∀ x : EReal, Ideal.div x (l : EReal) = x * ((l⁻¹ : ℝ) : EReal) := fun x => by
    unfold Ideal.div
    rw [if_neg hl0, EReal.coe_inv]
  simp only [hd]
  have e2 : ∀ j, V j * ((if j ≤ i then wt T (top T (i + 1)) j else 0) * ((l⁻¹ : ℝ) : EReal))
      = if j ≤ i then (wt T (top T (i + 1)) j * V j) * ((l⁻¹ : ℝ) : EReal) else 0 := fun j => by
    split
    · rw [← mul_assoc, mul_comm (V j)]
    · rw [zero_mul, mul_zero]
  simp only [e2]
  rw [sum_mask (fun j => wt T (top T (i + 1)) j * V j * ((l⁻¹ : ℝ) : EReal)) h]
  exact sum_mul_real _ (by positivity) _

end Ret
-- ==== Proof.FoxBlock.lean ====
module

public import proofs.«01_k».proof.Proof.FoxMath
public import proofs.«01_k».proof.Proof.Blocks

/-!
One block of 512 rows of a forgetting-attention call, for the two heads that share its 128 columns: scores, the masked
diagonal block, row maxima, weights, and the rows the call stores, each as an array of extended reals.
-/

@[expose] public section

set_option maxRecDepth 16384

noncomputable section

open scoped BigOperators

namespace Ret

open Idealize.ShloMosaic Idealize.ShloMosaic.WordCmp Idealize.ShloMosaic.ValueIdx Idealize.SL.Sem

variable {n m : ℕ} {φ : FTy}

/-- A row broadcasts over the rows. -/
theorem bcRow (n m : ℕ) : (⟨2, ![1, m]⟩ : Shape).Broadcasts ⟨2, ![n, m]⟩ :=
  ⟨le_rfl, fun a => match a with
    | ⟨0, _⟩ => .inl rfl
    | ⟨1, _⟩ => .inr fun _ => rfl⟩

/-- Entry (i, j) of a row of anything spread over the rows is entry (0, j) of the row. -/
theorem row_apply {α : Type} (x : (⟨2, ![1, m]⟩ : Shape).Idx → α) (h) (i : Fin n) (j : Fin m) :
    broadcastTo (⟨2, ![n, m]⟩ : Shape) x h (ix2 i j) = x (ix2 (0 : Fin 1) j) :=
  broadcastTo_apply x h (ix2 i j) (ix2 (0 : Fin 1) j) fun a => by
    match a with
    | ⟨0, _⟩ => exact (if_pos rfl).symm
    | ⟨1, _⟩ =>
      by_cases hm : m = 1
      · subst hm
        have : j = 0 := Subsingleton.elim _ _
        subst this
        exact (if_pos rfl).symm
      · exact (if_neg hm).symm

/-- Entry (i, j) of a column of anything spread over the columns is entry (i, 0) of the column. -/
theorem col_apply {α : Type} (x : (⟨2, ![n, 1]⟩ : Shape).Idx → α) (h) (i : Fin n) (j : Fin m) :
    broadcastTo (⟨2, ![n, m]⟩ : Shape) x h (ix2 i j) = x (ix2 i (0 : Fin 1)) :=
  broadcastTo_apply x h (ix2 i j) (ix2 i (0 : Fin 1)) fun a => by
    match a with
    | ⟨0, _⟩ =>
      by_cases hn : n = 1
      · subst hn
        have : i = 0 := Subsingleton.elim _ _
        subst this
        exact (if_pos rfl).symm
      · exact (if_neg hn).symm
    | ⟨1, _⟩ => exact (if_pos rfl).symm

/-- A row of numbers spread over the rows. -/
theorem row_arr (f : ℕ → ℕ → EReal) (h) :
    broadcastTo (⟨2, ![n, m]⟩ : Shape) (arr 1 m φ f) h = arr n m φ fun _ j => f 0 j :=
  eq_arr fun i j => row_apply _ h i j

/-- A column of numbers spread over the columns. -/
theorem col_arr (f : ℕ → ℕ → EReal) (h) :
    broadcastTo (⟨2, ![n, m]⟩ : Shape) (arr n 1 φ f) h = arr n m φ fun i _ => f i 0 :=
  eq_arr fun i j => col_apply _ h i j

/-- The word of −∞. -/
theorem word_bot : Ideal.ofBits .f32 0xFF800000#32 = ⊥ := by simp [Ideal.ofBits, Ideal.ieee]

/-- The rows' maxima, as a column. -/
def rowMax (n m : ℕ) (hr : (⟨2, ![n, m]⟩ : Shape).Reduces [1] ⟨1, ![n]⟩) (hs : (⟨1, ![n]⟩ : Shape).ShapeCasts ⟨2, ![n, 1]⟩)
    (x : FVec Ideal ⟨2, ![n, m]⟩ .f32) : FVec Ideal ⟨2, ![n, 1]⟩ .f32 :=
  shapeCast ⟨2, ![n, 1]⟩ (multiReduction .maximumf [1] ⟨1, ![n]⟩ x 0xFF800000#32 hr (.inl rfl) rfl) hs

/-- The rows' sums, as a column. -/
def rowSum (n m : ℕ) (hr : (⟨2, ![n, m]⟩ : Shape).Reduces [1] ⟨1, ![n]⟩) (hs : (⟨1, ![n]⟩ : Shape).ShapeCasts ⟨2, ![n, 1]⟩)
    (x : FVec Ideal ⟨2, ![n, m]⟩ .f32) : FVec Ideal ⟨2, ![n, 1]⟩ .f32 :=
  shapeCast ⟨2, ![n, 1]⟩ (multiReduction .add [1] ⟨1, ![n]⟩ x 0x00000000#32 hr (.inl rfl) rfl) hs

/-- A vector cast to a column. -/
theorem column_apply {α : Type} (x : (⟨1, ![n]⟩ : Shape).Idx → α) (hs : (⟨1, ![n]⟩ : Shape).ShapeCasts ⟨2, ![n, 1]⟩)
    (i : Fin n) (j : Fin 1) : shapeCast ⟨2, ![n, 1]⟩ x hs (ix2 i j) = x (ix1 i) :=
  shapeCast_apply x hs (ix2 i j) (ix1 i) (by
    rw [Shape.rowMajor_val_two, Shape.rowMajor_val_one]
    show i.val = i.val * 1 + j.val
    omega)

/-- The rows' maxima. -/
theorem rowMax_arr (hr hs) (f : ℕ → ℕ → EReal) : rowMax n m hr hs (arr n m .f32 f) = arr n 1 .f32 fun i _ => top (f i) m := by
  refine eq_arr fun i j => ?_
  refine (column_apply _ hs i j).trans ((Ideal.multiReduction_maximumf_single _ _ hr _ _ _).trans ?_)
  refine (congrArg (fun b => Finset.fold max b _ _) word_bot).trans ?_
  show Finset.sup (Finset.univ : Finset (Fin m)) (fun k => f i.val k.val) = _
  exact fin_sup (f i.val) m

/-- The rows' sums. -/
theorem rowSum_arr (hr hs) (f : ℕ → ℕ → EReal) :
    rowSum n m hr hs (arr n m .f32 f) = arr n 1 .f32 fun i _ => ∑ k ∈ Finset.range m, f i k := by
  refine eq_arr fun i j => ?_
  refine (column_apply _ hs i j).trans ((Ideal.multiReduction_add_single _ _ hr _ _ _).trans ?_)
  exact sum_fin (f i.val) m

/-- The scores of 512 rows against w keys: products of queries and keys less the keys' forget sums. -/
def scores (w : ℕ) (q : FVec Ideal ⟨2, ![512, 128]⟩ .bf16) (k : FVec Ideal ⟨2, ![w, 128]⟩ .bf16)
    (f : FVec Ideal ⟨2, ![1, w]⟩ .f32) : FVec Ideal ⟨2, ![512, w]⟩ .f32 :=
  subf (FloatOps.matmul (DotDims.transposedRhs 512 128 w) none q k (zeros 512 w)) (broadcastTo ⟨2, ![512, w]⟩ f (bcRow 512 w))

/-- The scores of arrays. -/
theorem scores_arr (w : ℕ) (q k f : ℕ → ℕ → EReal) :
    scores w (arr _ _ _ q) (arr _ _ _ k) (arr _ _ _ f) = arr 512 w .f32 fun i j => nt 128 q k i j - f 0 j := by
  unfold scores
  rw [matmul_nt, row_arr]
  rfl

/-- A diagonal block with −∞ right of its diagonal. -/
def diag (h1 : (⟨2, ![512, 512]⟩ : Shape).Iotas .tc 32 [1]) (h0 : (⟨2, ![512, 512]⟩ : Shape).Iotas .tc 32 [0])
    (x : FVec Ideal ⟨2, ![512, 512]⟩ .f32) : FVec Ideal ⟨2, ![512, 512]⟩ .f32 :=
  select (cmpi .sle (iota .tc ⟨2, ![512, 512]⟩ 32 [1] h1) (iota .tc ⟨2, ![512, 512]⟩ 32 [0] h0)) x
    (broadcast ⟨2, ![512, 512]⟩ (Scalar.ofBits .f32 0xFF800000#32))

/-- The diagonal block of an array. -/
theorem diag_arr (h1 h0) (f : ℕ → ℕ → EReal) :
    diag h1 h0 (arr _ _ _ f) = arr 512 512 .f32 fun i j => if j ≤ i then f i j else ⊥ := by
  refine eq_arr fun i j => ?_
  unfold diag
  rw [select_at, cmpi_at, iota_single_apply, iota_single_apply]
  have e : IntOp.cmpi .sle (BitVec.ofNat 32 j.val) (BitVec.ofNat 32 i.val) = BitVec.ofBool (decide (j.val ≤ i.val)) := by word_cmp
  refine (congrArg (fun b => Scalar.select b _ _) e).trans ?_
  rw [select_decide]
  exact congrArg (fun z => if j.val ≤ i.val then _ else z) word_bot

/-- The weights of scores, for a column of greatest scores. -/
def weights (w : ℕ) (s : FVec Ideal ⟨2, ![512, w]⟩ .f32) (M : FVec Ideal ⟨2, ![512, 1]⟩ .f32) : FVec Ideal ⟨2, ![512, w]⟩ .f32 :=
  exp (subf s (broadcastTo ⟨2, ![512, w]⟩ M (bcCol 512 w)))

/-- The weights of arrays. -/
theorem weights_arr (w : ℕ) (s M : ℕ → ℕ → EReal) :
    weights w (arr _ _ _ s) (arr _ _ _ M) = arr 512 w .f32 fun i j => wt (s i) (M i 0) j := by
  unfold weights
  rw [col_arr]
  rfl

/-- Weights times values. -/
def mixed (w : ℕ) (e : FVec Ideal ⟨2, ![512, w]⟩ .f32) (v : FVec Ideal ⟨2, ![w, 128]⟩ .bf16) : FVec Ideal ⟨2, ![512, 128]⟩ .f32 :=
  FloatOps.matmul (DotDims.plain 512 w 128) none (truncf .bf16 e (by decide)) v (zeros 512 128)

/-- Weights times values, of arrays. -/
theorem mixed_arr (w : ℕ) (e v : ℕ → ℕ → EReal) :
    mixed w (arr _ _ _ e) (arr _ _ _ v) = arr 512 128 .f32 fun i d => ∑ j ∈ Finset.range w, e i j * v j d :=
  matmul_nn (φ := .bf16) (ψ := .bf16) e v

/-- An array of zeros, as a body makes it. -/
def none0 (n m : ℕ) : FVec Ideal ⟨2, ![n, m]⟩ .f32 := broadcast ⟨2, ![n, m]⟩ (Scalar.ofBits .f32 0x00000000#32)

/-- Adding to zeros changes nothing. -/
theorem none0_add (f : ℕ → ℕ → EReal) : addf (none0 n m) (arr n m .f32 f) = arr n m .f32 f :=
  eq_arr fun i j => (congrArg (fun z : EReal => z + f i.val j.val) Ideal.ofBits_zero_f32).trans (zero_add _)

/-- The rows a head stores when its only keys are the diagonal block's. -/
def headOne (hr : (⟨2, ![512, 512]⟩ : Shape).Reduces [1] ⟨1, ![512]⟩) (hs : (⟨1, ![512]⟩ : Shape).ShapeCasts ⟨2, ![512, 1]⟩)
    (s : FVec Ideal ⟨2, ![512, 512]⟩ .f32) (v : FVec Ideal ⟨2, ![512, 128]⟩ .bf16) : FVec Ideal ⟨2, ![512, 128]⟩ .f32 :=
  divf (addf (none0 512 128) (mixed 512 (weights 512 s (rowMax 512 512 hr hs s)) v))
    (broadcastTo ⟨2, ![512, 128]⟩ (addf (none0 512 1) (rowSum 512 512 hr hs (weights 512 s (rowMax 512 512 hr hs s)))) (bcCol 512 128))

/-- They are the softmax of the keys up to each row, applied to the values. -/
theorem headOne_arr (hr hs) (T V : ℕ → ℕ → EReal) :
    headOne hr hs (arr _ _ _ fun i j => if j ≤ i then T i j else ⊥) (arr _ _ _ V)
      = arr 512 128 .f32 fun i d => att (T i) (fun j => V j d) (i + 1) := by
  unfold headOne
  rw [rowMax_arr, weights_arr, mixed_arr, rowSum_arr, none0_add, none0_add, col_arr]
  refine eq_arr fun i d => ?_
  exact att_one (T i.val) (fun j => V j d.val) i.isLt

/-- The rows a head stores when w keys come before the diagonal block's. -/
def headTwo (w : ℕ) (hr : (⟨2, ![512, w]⟩ : Shape).Reduces [1] ⟨1, ![512]⟩) (hr' : (⟨2, ![512, 512]⟩ : Shape).Reduces [1] ⟨1, ![512]⟩)
    (hs : (⟨1, ![512]⟩ : Shape).ShapeCasts ⟨2, ![512, 1]⟩)
    (s : FVec Ideal ⟨2, ![512, w]⟩ .f32) (s' : FVec Ideal ⟨2, ![512, 512]⟩ .f32)
    (v : FVec Ideal ⟨2, ![w, 128]⟩ .bf16) (v' : FVec Ideal ⟨2, ![512, 128]⟩ .bf16) : FVec Ideal ⟨2, ![512, 128]⟩ .f32 :=
  divf
    (addf (addf (none0 512 128) (mixed w (weights w s (maximumf (rowMax 512 w hr hs s) (rowMax 512 512 hr' hs s'))) v))
      (mixed 512 (weights 512 s' (maximumf (rowMax 512 w hr hs s) (rowMax 512 512 hr' hs s'))) v'))
    (broadcastTo ⟨2, ![512, 128]⟩
      (addf (addf (none0 512 1) (rowSum 512 w hr hs (weights w s (maximumf (rowMax 512 w hr hs s) (rowMax 512 512 hr' hs s')))))
        (rowSum 512 512 hr' hs (weights 512 s' (maximumf (rowMax 512 w hr hs s) (rowMax 512 512 hr' hs s')))))
      (bcCol 512 128))

/-- They are the softmax of the keys up to each row, applied to the values. -/
theorem headTwo_arr (w : ℕ) (hr hr' hs) (T V : ℕ → ℕ → EReal) :
    headTwo w hr hr' hs (arr _ _ _ T) (arr _ _ _ fun i j => if j ≤ i then T i (w + j) else ⊥) (arr _ _ _ V)
        (arr _ _ _ fun j => V (w + j))
      = arr 512 128 .f32 fun i d => att (T i) (fun j => V j d) (w + i + 1) := by
  unfold headTwo
  rw [rowMax_arr, rowMax_arr]
  have e : maximumf (arr 512 1 .f32 fun i _ => top (T i) w)
      (arr 512 1 .f32 fun i _ => top (fun j => if j ≤ i then T i (w + j) else ⊥) 512)
      = arr 512 1 .f32 fun i _ => max (top (T i) w) (top (fun j => if j ≤ i then T i (w + j) else ⊥) 512) := rfl
  rw [e, weights_arr, weights_arr, mixed_arr, mixed_arr, rowSum_arr, rowSum_arr, none0_add, none0_add]
  have a : ∀ {n m : ℕ} (f g : ℕ → ℕ → EReal), addf (arr n m .f32 f) (arr n m .f32 g) = arr n m .f32 fun i j => f i j + g i j :=
    fun _ _ => rfl
  rw [a, a, col_arr]
  refine eq_arr fun i d => ?_
  exact att_two (T i.val) (fun j => V j d.val) w i.isLt _ rfl

/-- The columns of the first of two heads. -/
def lanes (hi : (⟨2, ![1, 128]⟩ : Shape).Iotas .tc 32 [1]) : IVec ⟨2, ![1, 128]⟩ 1 :=
  cmpi .slt (iota .tc ⟨2, ![1, 128]⟩ 32 [1] hi) (broadcast ⟨2, ![1, 128]⟩ 64#32)

/-- A column is the first head's when it is below 64. -/
theorem lanes_apply (hi) (j : Fin 128) : lanes hi (ix2 (0 : Fin 1) j) = BitVec.ofBool (decide (j.val < 64)) := by
  unfold lanes
  rw [cmpi_at, iota_single_apply]
  show IntOp.cmpi .slt (BitVec.ofNat 32 j.val) 64#32 = _
  word_cmp

/-- One of two arrays for the first head's columns, the other for the second's. -/
def pick (hi : (⟨2, ![1, 128]⟩ : Shape).Iotas .tc 32 [1]) (hc : (⟨2, ![1, 128]⟩ : Shape).ShapeCasts ⟨2, ![1, 128]⟩)
    (x y : FVec Ideal ⟨2, ![512, 128]⟩ φ) : FVec Ideal ⟨2, ![512, 128]⟩ φ :=
  select (broadcastTo ⟨2, ![512, 128]⟩ (shapeCast ⟨2, ![1, 128]⟩ (lanes hi) hc) (bcRow 512 128)) x y

/-- The columns chosen, of arrays. -/
theorem pick_arr (hi hc) (f g : ℕ → ℕ → EReal) :
    pick hi hc (arr _ _ φ f) (arr _ _ φ g) = arr 512 128 φ fun i d => if d < 64 then f i d else g i d := by
  refine eq_arr fun i d => ?_
  unfold pick
  rw [select_at, row_apply, shapeCast_self, lanes_apply, select_decide]
  rfl

/-- One of two arrays for the second head's columns, the other for the first's. -/
def pickNot (hi : (⟨2, ![1, 128]⟩ : Shape).Iotas .tc 32 [1]) (hc : (⟨2, ![1, 128]⟩ : Shape).ShapeCasts ⟨2, ![1, 128]⟩)
    (x y : FVec Ideal ⟨2, ![512, 128]⟩ φ) : FVec Ideal ⟨2, ![512, 128]⟩ φ :=
  select (broadcastTo ⟨2, ![512, 128]⟩ (shapeCast ⟨2, ![1, 128]⟩ (xori (lanes hi) (constantI ⟨2, ![1, 128]⟩ 1 1#1)) hc) (bcRow 512 128)) x y

/-- The columns chosen the other way, of arrays. -/
theorem pickNot_arr (hi hc) (f g : ℕ → ℕ → EReal) :
    pickNot hi hc (arr _ _ φ f) (arr _ _ φ g) = arr 512 128 φ fun i d => if d < 64 then g i d else f i d := by
  refine eq_arr fun i d => ?_
  unfold pickNot
  rw [select_at, row_apply, shapeCast_self, xori_at, lanes_apply, constantI_at]
  by_cases h : d.val < 64
  · rw [decide_eq_true h]
    exact (if_pos h).symm
  · rw [decide_eq_false h]
    exact (if_neg h).symm

/-- Queries times an eighth. -/
def eighth (q : FVec Ideal ⟨2, ![512, 128]⟩ .bf16) : FVec Ideal ⟨2, ![512, 128]⟩ .bf16 :=
  mulf q (broadcast ⟨2, ![512, 128]⟩ (Scalar.ofBits .bf16 0x3E00#16))

/-- The word of an eighth. -/
theorem word_eighth : Ideal.ofBits .bf16 0x3E00#16 = ((1 / 8 : ℝ) : EReal) := by
  simp [Ideal.ofBits, Ideal.ieee]
  rw [← EReal.coe_mul]
  norm_num

/-- Queries times an eighth, of an array. -/
theorem eighth_arr (q : ℕ → ℕ → EReal) : eighth (arr _ _ _ q) = arr 512 128 .bf16 fun i d => q i d * ((1 / 8 : ℝ) : EReal) :=
  eq_arr fun i d => congrArg (fun z : EReal => q i.val d.val * z) word_eighth

/-- An array of zeros in the narrow format, as a body makes it. -/
def narrow0 (h : FTy.bf16.bits < FTy.f32.bits) : FVec Ideal ⟨2, ![512, 128]⟩ .bf16 :=
  broadcast ⟨2, ![512, 128]⟩ (Scalar.truncf .bf16 h (Scalar.ofBits .f32 0x00000000#32))

/-- Its entries. -/
theorem narrow0_arr (h) : narrow0 h = arr 512 128 .bf16 fun _ _ => 0 := eq_arr fun _ _ => Ideal.ofBits_zero_f32

/-- The first head's queries among 128 columns: the others zero. -/
theorem first_queries (hi hc h) (q : ℕ → ℕ → EReal) :
    pick hi hc (eighth (arr _ _ _ q)) (narrow0 h) = arr 512 128 .bf16 fun i d => if d < 64 then q i d * ((1 / 8 : ℝ) : EReal) else 0 := by
  rw [eighth_arr, narrow0_arr, pick_arr]

/-- The second head's queries. -/
theorem second_queries (hi hc h) (q : ℕ → ℕ → EReal) :
    pickNot hi hc (eighth (arr _ _ _ q)) (narrow0 h) = arr 512 128 .bf16 fun i d => if d < 64 then 0 else q i d * ((1 / 8 : ℝ) : EReal) := by
  rw [eighth_arr, narrow0_arr, pickNot_arr]

/-- Products of the first head's queries with keys. -/
theorem first_nt (q k : ℕ → ℕ → EReal) (i j : ℕ) :
    nt 128 (fun i d => if d < 64 then q i d * ((1 / 8 : ℝ) : EReal) else 0) k i j
      = (∑ d ∈ Finset.range 64, q i d * k j d) * ((1 / 8 : ℝ) : EReal) := by
  unfold nt
  rw [← sum_mul_real _ (by norm_num), show 128 = 64 + 64 from rfl, Finset.sum_range_add]
  refine (congrArg₂ (· + ·) (Finset.sum_congr rfl fun d hd => ?_) (Finset.sum_eq_zero fun d _ => ?_)).trans (add_zero _)
  · dsimp only
    rw [if_pos (Finset.mem_range.1 hd), mul_right_comm]
  · dsimp only
    rw [if_neg (by omega), zero_mul]

/-- Products of the second head's queries with keys. -/
theorem second_nt (q k : ℕ → ℕ → EReal) (i j : ℕ) :
    nt 128 (fun i d => if d < 64 then 0 else q i d * ((1 / 8 : ℝ) : EReal)) k i j
      = (∑ d ∈ Finset.range 64, q i (64 + d) * k j (64 + d)) * ((1 / 8 : ℝ) : EReal) := by
  unfold nt
  rw [← sum_mul_real _ (by norm_num), show 128 = 64 + 64 from rfl, Finset.sum_range_add]
  refine (congrArg₂ (· + ·) (Finset.sum_eq_zero fun d hd => ?_) (Finset.sum_congr rfl fun d _ => ?_)).trans (zero_add _)
  · dsimp only
    rw [if_pos (Finset.mem_range.1 hd), zero_mul]
  · dsimp only
    rw [if_neg (by omega), mul_right_comm]

/-- The score of row r against key j, for a head whose columns start at o and whose forget sums are row h of f. -/
def sc (q k f : ℕ → ℕ → EReal) (h o r j : ℕ) : EReal :=
  (∑ d ∈ Finset.range 64, q r (o + d) * k j (o + d)) * ((1 / 8 : ℝ) : EReal) - f h j

/-- The rows two heads leave: the first's in columns below 64, the second's in the others; n keys come before row 0's. -/
def pair (q k v f : ℕ → ℕ → EReal) (a b n r d : ℕ) : EReal :=
  if d < 64 then att (sc q k f a 0 r) (fun j => v j d) (n + r + 1) else att (sc q k f b 64 r) (fun j => v j d) (n + r + 1)

section Two
variable (hi : (⟨2, ![1, 128]⟩ : Shape).Iotas .tc 32 [1]) (hc : (⟨2, ![1, 128]⟩ : Shape).ShapeCasts ⟨2, ![1, 128]⟩)
  (hn : FTy.bf16.bits < FTy.f32.bits) (h1 : (⟨2, ![512, 512]⟩ : Shape).Iotas .tc 32 [1])
  (h0 : (⟨2, ![512, 512]⟩ : Shape).Iotas .tc 32 [0]) (hr : (⟨2, ![512, 512]⟩ : Shape).Reduces [1] ⟨1, ![512]⟩)
  (hs : (⟨1, ![512]⟩ : Shape).ShapeCasts ⟨2, ![512, 1]⟩)

/-- The block of the first 512 rows, both heads. -/
def blockOne (q k v : FVec Ideal ⟨2, ![512, 128]⟩ .bf16) (fa fb : FVec Ideal ⟨2, ![1, 512]⟩ .f32) : FVec Ideal ⟨2, ![512, 128]⟩ .f32 :=
  pick hi hc (headOne hr hs (diag h1 h0 (scores 512 (pick hi hc (eighth q) (narrow0 hn)) k fa)) v)
    (headOne hr hs (diag h1 h0 (scores 512 (pickNot hi hc (eighth q) (narrow0 hn)) k fb)) v)

/-- It is the two heads' attention. -/
theorem blockOne_arr (q k v f : ℕ → ℕ → EReal) (a b : ℕ) :
    blockOne hi hc hn h1 h0 hr hs (arr _ _ _ q) (arr _ _ _ k) (arr _ _ _ v) (arr _ _ _ fun _ j => f a j) (arr _ _ _ fun _ j => f b j)
      = arr 512 128 .f32 (pair q k v f a b 0) := by
  unfold blockOne
  rw [first_queries, second_queries, scores_arr, scores_arr, diag_arr, diag_arr]
  simp only [first_nt, second_nt]
  refine (congrArg₂ (pick hi hc) (headOne_arr hr hs (sc q k f a 0) v) (headOne_arr hr hs (sc q k f b 64) v)).trans ?_
  rw [pick_arr]
  unfold pair
  simp only [Nat.zero_add]

variable (w : ℕ) (hr' : (⟨2, ![512, w]⟩ : Shape).Reduces [1] ⟨1, ![512]⟩)

/-- A later block of 512 rows, both heads, w keys before its diagonal block. -/
def blockTwo (q : FVec Ideal ⟨2, ![512, 128]⟩ .bf16) (k v : FVec Ideal ⟨2, ![w, 128]⟩ .bf16)
    (k' v' : FVec Ideal ⟨2, ![512, 128]⟩ .bf16) (fa fb : FVec Ideal ⟨2, ![1, w]⟩ .f32)
    (fa' fb' : FVec Ideal ⟨2, ![1, 512]⟩ .f32) : FVec Ideal ⟨2, ![512, 128]⟩ .f32 :=
  pick hi hc
    (headTwo w hr' hr hs (scores w (pick hi hc (eighth q) (narrow0 hn)) k fa)
      (diag h1 h0 (scores 512 (pick hi hc (eighth q) (narrow0 hn)) k' fa')) v v')
    (headTwo w hr' hr hs (scores w (pickNot hi hc (eighth q) (narrow0 hn)) k fb)
      (diag h1 h0 (scores 512 (pickNot hi hc (eighth q) (narrow0 hn)) k' fb')) v v')

/-- It is the two heads' attention. -/
theorem blockTwo_arr (q k v f : ℕ → ℕ → EReal) (a b : ℕ) :
    blockTwo hi hc hn h1 h0 hr hs w hr' (arr _ _ _ q) (arr _ _ _ k) (arr _ _ _ v) (arr _ _ _ fun j => k (w + j))
        (arr _ _ _ fun j => v (w + j)) (arr _ _ _ fun _ j => f a j) (arr _ _ _ fun _ j => f b j)
        (arr _ _ _ fun _ j => f a (w + j)) (arr _ _ _ fun _ j => f b (w + j))
      = arr 512 128 .f32 (pair q k v f a b w) := by
  unfold blockTwo
  rw [first_queries, second_queries, scores_arr, scores_arr, scores_arr, scores_arr, diag_arr, diag_arr]
  simp only [first_nt, second_nt]
  refine (congrArg₂ (pick hi hc) (headTwo_arr w hr' hr hs (sc q k f a 0) v) (headTwo_arr w hr' hr hs (sc q k f b 64) v)).trans ?_
  rw [pick_arr]
  rfl

end Two

/-- A load of a block of an array, from row a and column b on. -/
theorem load_at {Val : EltTy → Type} {e : EltTy} {sig : RefSig} {κ : Kind} {sp : Space}
    {M : Memref sig κ sp (⟨2, ![n, m]⟩ : Shape) e} (h : M.IsWhole) (g : ℕ → ℕ → Val e) (a b k l : ℕ) (off : Fin 2 → ℕ)
    (eo : off = ![a, b]) (inb : ∀ x, off x + (![k, l] : Fin 2 → ℕ) x ≤ (⟨2, ![n, m]⟩ : Shape).size x) :
    View.readAt Val M.view (Rect.unit off ![k, l] inb).toLoadRect (h.unread fun y => g (y 0).val (y 1).val)
      = fun y => g (a + (y 0).val) (b + (y 1).val) := by
  subst eo
  funext y
  rw [h.readAt_unread]
  congr 1
  · show a + 1 * (y 0).val = a + (y 0).val
    rw [one_mul]
  · show b + 1 * (y 1).val = b + (y 1).val
    rw [one_mul]

/-- A load of rows of an array in the narrow format, from row a on. -/
theorem load_from {sig : RefSig} {κ : Kind} {sp : Space} {M : Memref sig κ sp (⟨2, ![n, m]⟩ : Shape) .bf16} (h : M.IsWhole)
    (f : ℕ → ℕ → EReal) (a k : ℕ) (inb) :
    View.readAt (Elt Ideal) M.view (Rect.unit ![a, 0] ![k, m] inb).toLoadRect (h.unread (arr n m .bf16 f))
      = arr k m .bf16 fun i => f (a + i) :=
  (load_rows (Val := Elt Ideal) (e := .bf16) h f a k inb).trans rfl

/-- A load of the first rows. -/
theorem load_first {sig : RefSig} {κ : Kind} {sp : Space} {M : Memref sig κ sp (⟨2, ![n, m]⟩ : Shape) .bf16} (h : M.IsWhole)
    (f : ℕ → ℕ → EReal) (k : ℕ) (inb) :
    View.readAt (Elt Ideal) M.view (Rect.unit ![0, 0] ![k, m] inb).toLoadRect (h.unread (arr n m .bf16 f)) = arr k m .bf16 f := by
  refine (load_from h f 0 k inb).trans ?_
  simp only [Nat.zero_add]

/-- A load of a run of row a, from column b on. -/
theorem load_run {sig : RefSig} {κ : Kind} {sp : Space} {M : Memref sig κ sp (⟨2, ![n, m]⟩ : Shape) .f32} (h : M.IsWhole)
    (f : ℕ → ℕ → EReal) (a b l : ℕ) (off : Fin 2 → ℕ) (eo : off = ![a, b]) (inb) :
    View.readAt (Elt Ideal) M.view (Rect.unit off ![1, l] inb).toLoadRect (h.unread (arr n m .f32 f))
      = arr 1 l .f32 fun _ j => f a (b + j) := by
  refine (load_at (Val := Elt Ideal) (e := .f32) h f a b 1 l off eo inb).trans (funext fun y => ?_)
  have hy : (y 0).val = 0 := Nat.lt_one_iff.mp (idx2_lt0 (n0 := 1) y)
  show f (a + (y 0).val) _ = f a _
  rw [hy]
  rfl

/-- A load of the start of row a. -/
theorem load_start {sig : RefSig} {κ : Kind} {sp : Space} {M : Memref sig κ sp (⟨2, ![n, m]⟩ : Shape) .f32} (h : M.IsWhole)
    (f : ℕ → ℕ → EReal) (a l : ℕ) (off : Fin 2 → ℕ) (eo : off = ![a, 0]) (inb) :
    View.readAt (Elt Ideal) M.view (Rect.unit off ![1, l] inb).toLoadRect (h.unread (arr n m .f32 f))
      = arr 1 l .f32 fun _ j => f a j := by
  refine (load_run h f a 0 l off eo inb).trans ?_
  simp only [Nat.zero_add]

end Ret
-- ==== Proof.FoxChunk.lean ====
module

public import proofs.«01_k».proof.Proof.Gen.FoxFwdIdeal.Value
public import proofs.«01_k».proof.Proof.FoxBlock

/-!
The forgetting-attention call, a grid point at a time: what the point's body leaves in its output block, its blocks being
arrays.
-/

@[expose] public section

set_option maxRecDepth 16384

noncomputable section

namespace Cert.FoxFwdIdeal.Chunk

open Cert.FoxFwdIdeal Cert.FoxFwdIdeal.Gen Idealize.ShloMosaic Idealize.ShloMosaic.TcCoe Idealize.ShloMosaic.ValueIdx Idealize.SL.Sem Ret

section Bodies

variable (q k' v' : FVec Ideal S512x128 .bf16) (fa' fb' : FVec Ideal S1x512 .f32)

/-- The body of the first block … -/
theorem body1 : k0_pay2 (k0_pay20 (k0_pay18 q k' fa') (k0_pay19 q k' fa') v') (k0_pay26 (k0_pay14 q) k' fb' v')
      (iota .tc S1x128 32 [1] iota_S1x128_d1_w32) k0_pay28
    = blockOne iota_S1x128_d1_w32 shapeCasts_S1x128_S1x128 bitsLt_bf16_f32 iota_S512x512_d1_w32 iota_S512x512_d0_w32
      reduces_S512x512_S512 shapeCasts_S512_S512x1 q k' v' fa' fb' := rfl

/-- … of the second … -/
theorem body2 (k v : FVec Ideal S512x128 .bf16) (fa fb : FVec Ideal S1x512 .f32) :
    k0_pay5 (k0_pay41 (k0_pay32 q k fa) (k0_pay33 q k' fa') k0_pay34 k0_pay35 v v')
      (k0_pay49 (k0_pay31 q) (k0_pay43 (k0_pay31 q) k fb) k' fb' v v')
    = blockTwo iota_S1x128_d1_w32 shapeCasts_S1x128_S1x128 bitsLt_bf16_f32 iota_S512x512_d1_w32 iota_S512x512_d0_w32
      reduces_S512x512_S512 shapeCasts_S512_S512x1 512 reduces_S512x512_S512 q k v k' v' fa fb fa' fb' := rfl

/-- … of the third … -/
theorem body3 (k v : FVec Ideal S1024x128 .bf16) (fa fb : FVec Ideal S1x1024 .f32) :
    k0_pay8 (k0_pay63 (k0_pay54 q k fa) (k0_pay55 q k' fa') k0_pay56 k0_pay57 v v')
      (k0_pay71 (k0_pay53 q) (k0_pay65 (k0_pay53 q) k fb) k' fb' v v')
    = blockTwo iota_S1x128_d1_w32 shapeCasts_S1x128_S1x128 bitsLt_bf16_f32 iota_S512x512_d1_w32 iota_S512x512_d0_w32
      reduces_S512x512_S512 shapeCasts_S512_S512x1 1024 reduces_S512x1024_S512 q k v k' v' fa fb fa' fb' := rfl

/-- … and of the fourth. -/
theorem body4 (k v : FVec Ideal S1536x128 .bf16) (fa fb : FVec Ideal S1x1536 .f32) :
    k0_pay11 (k0_pay85 (k0_pay76 q k fa) (k0_pay77 q k' fa') k0_pay78 k0_pay79 v v')
      (k0_pay93 (k0_pay75 q) (k0_pay87 (k0_pay75 q) k fb) k' fb' v v')
    = blockTwo iota_S1x128_d1_w32 shapeCasts_S1x128_S1x128 bitsLt_bf16_f32 iota_S512x512_d1_w32 iota_S512x512_d0_w32
      reduces_S512x512_S512 shapeCasts_S512_S512x1 1536 reduces_S512x1536_S512 q k v k' v' fa fb fa' fb' := rfl

end Bodies

/-! ## A grid point -/

variable (i : grid0.Coords)

/-- The row of forget sums that head r of a point's pair reads. -/
theorem row (h : ℕ) (hh : h < 8) (r : ℕ) (hr : r < 2) :
    (Scalar.indexCast (Scalar.addi (Scalar.muli 2#32 (BitVec.ofNat 32 h)) (BitVec.ofNat 32 r)) : Index).toNat = 2 * h + r := by
  interval_cases h <;> interval_cases r <;> rfl

section Point

variable (c : Dev nD) (arg2 : Memref sig .tc .vmem S512x128 .bf16) (harg2 : arg2.IsWhole)
  (arg3 : Memref sig .tc .vmem S2048x128 .bf16) (harg3 : arg3.IsWhole) (arg4 : Memref sig .tc .vmem S2048x128 .bf16)
  (harg4 : arg4.IsWhole) (arg5 : Memref sig .tc .vmem S128x2048 .f32) (harg5 : arg5.IsWhole)
  (arg6 : Memref sig .tc .vmem S512x128 .f32) (harg6 : arg6.IsWhole) (arg7 : Memref sig .tc .vmem S512x128 .f32)
  (harg7 : arg7.IsWhole) (q k v f : ℕ → ℕ → EReal)

/-- A point's queries … -/
abbrev qB : Vec Ideal S512x128 .bf16 := arr 512 128 .bf16 q
/-- … keys or values … -/
abbrev kB : Vec Ideal S2048x128 .bf16 := arr 2048 128 .bf16 k
/-- … and forget sums. -/
abbrev fB : Vec Ideal S128x2048 .f32 := arr 128 2048 .f32 f
/-- What its two heads leave, n keys before its first row. -/
abbrev oB (n : ℕ) : Vec Ideal S512x128 .f32 := arr 512 128 .f32 (pair q k v f (2 * (i 0).val + 0) (2 * (i 0).val + 1) n)

/-- The first block. -/
theorem out_A (hc0 : cond0_0 i) (hc1 : ¬cond0_1 i) (hc2 : ¬cond0_2 i) (hc3 : ¬cond0_3 i) :
    out0_A_4 c i arg2 harg2 arg3 harg3 arg4 harg4 arg5 harg5 arg6 harg6 arg7 harg7 hc0 hc1 hc2 hc3 (qB q) (kB k) (kB v) (fB f)
      = oB i q k v f 0 := by
  have hp : (i 0).val < 8 := (i 0).isLt
  unfold out0_A_4
  rw [View.read_writes_junk_eq_canon]
  delta kernelRun0_A
  dsimp only
  rw [View.canon_cons_unit_zero (by funext a; fin_cases a <;> rfl)]
  delta kernelRun0_A.sl.r_4 kernelRun0_A.sl.r_6 kernelRun0_A.sl.v93 kernelRun0_A.sl.r_2 kernelRun0_A.sl.r_3 kernelRun0_A.sl.r
  rw [body1]
  rw [load_first harg2 q 512, load_first harg3 k 512, load_first harg4 v 512,
    load_start harg5 f (2 * (i 0).val + 0) 512 (k0_off1 i 0#32)
      (congrArg (fun x => ![x, 0]) (row (i 0).val hp 0 (by decide))),
    load_start harg5 f (2 * (i 0).val + 1) 512 (k0_off1 i 1#32)
      (congrArg (fun x => ![x, 0]) (row (i 0).val hp 1 (by decide)))]
  exact blockOne_arr _ _ _ _ _ _ _ q k v f _ _

/-- The second block. -/
theorem out_B (hc0 : ¬cond0_0 i) (hc1 : cond0_1 i) (hc2 : ¬cond0_2 i) (hc3 : ¬cond0_3 i) :
    out0_B_4 c i arg2 harg2 arg3 harg3 arg4 harg4 arg5 harg5 arg6 harg6 arg7 harg7 hc0 hc1 hc2 hc3 (qB q) (kB k) (kB v) (fB f)
      = oB i q k v f 512 := by
  have hp : (i 0).val < 8 := (i 0).isLt
  unfold out0_B_4
  rw [View.read_writes_junk_eq_canon]
  delta kernelRun0_B
  dsimp only
  rw [View.canon_cons_unit_zero (by funext a; fin_cases a <;> rfl)]
  delta kernelRun0_B.sl.r_3 kernelRun0_B.sl.r_7 kernelRun0_B.sl.r kernelRun0_B.sl.r_1 kernelRun0_B.sl.r_2 kernelRun0_B.sl.r_5
  rw [body2]
  rw [load_first harg2 q 512, load_first harg3 k 512, load_first harg4 v 512, load_from harg3 k 512 512,
    load_from harg4 v 512 512,
    load_start harg5 f (2 * (i 0).val + 0) 512 (k0_off2 i 0#32)
      (congrArg (fun x => ![x, 0]) (row (i 0).val hp 0 (by decide))),
    load_start harg5 f (2 * (i 0).val + 1) 512 (k0_off2 i 1#32)
      (congrArg (fun x => ![x, 0]) (row (i 0).val hp 1 (by decide))),
    load_run harg5 f (2 * (i 0).val + 0) 512 512 (k0_off3 i 0#32)
      (congrArg (fun x => ![x, 512]) (row (i 0).val hp 0 (by decide))),
    load_run harg5 f (2 * (i 0).val + 1) 512 512 (k0_off3 i 1#32)
      (congrArg (fun x => ![x, 512]) (row (i 0).val hp 1 (by decide)))]
  exact blockTwo_arr _ _ _ _ _ _ _ 512 _ q k v f _ _

/-- The third block. -/
theorem out_C (hc0 : ¬cond0_0 i) (hc1 : ¬cond0_1 i) (hc2 : cond0_2 i) (hc3 : ¬cond0_3 i) :
    out0_C_4 c i arg2 harg2 arg3 harg3 arg4 harg4 arg5 harg5 arg6 harg6 arg7 harg7 hc0 hc1 hc2 hc3 (qB q) (kB k) (kB v) (fB f)
      = oB i q k v f 1024 := by
  have hp : (i 0).val < 8 := (i 0).isLt
  unfold out0_C_4
  rw [View.read_writes_junk_eq_canon]
  delta kernelRun0_C
  dsimp only
  rw [View.canon_cons_unit_zero (by funext a; fin_cases a <;> rfl)]
  delta kernelRun0_C.sl.r_3 kernelRun0_C.sl.r_7 kernelRun0_C.sl.r kernelRun0_C.sl.r_1 kernelRun0_C.sl.r_2 kernelRun0_C.sl.r_5
  rw [body3]
  rw [load_first harg2 q 512, load_first harg3 k 1024, load_first harg4 v 1024, load_from harg3 k 1024 512,
    load_from harg4 v 1024 512,
    load_start harg5 f (2 * (i 0).val + 0) 1024 (k0_off4 i 0#32)
      (congrArg (fun x => ![x, 0]) (row (i 0).val hp 0 (by decide))),
    load_start harg5 f (2 * (i 0).val + 1) 1024 (k0_off4 i 1#32)
      (congrArg (fun x => ![x, 0]) (row (i 0).val hp 1 (by decide))),
    load_run harg5 f (2 * (i 0).val + 0) 1024 512 (k0_off5 i 0#32)
      (congrArg (fun x => ![x, 1024]) (row (i 0).val hp 0 (by decide))),
    load_run harg5 f (2 * (i 0).val + 1) 1024 512 (k0_off5 i 1#32)
      (congrArg (fun x => ![x, 1024]) (row (i 0).val hp 1 (by decide)))]
  exact blockTwo_arr _ _ _ _ _ _ _ 1024 _ q k v f _ _

/-- The fourth block. -/
theorem out_D (hc0 : ¬cond0_0 i) (hc1 : ¬cond0_1 i) (hc2 : ¬cond0_2 i) (hc3 : cond0_3 i) :
    out0_D_4 c i arg2 harg2 arg3 harg3 arg4 harg4 arg5 harg5 arg6 harg6 arg7 harg7 hc0 hc1 hc2 hc3 (qB q) (kB k) (kB v) (fB f)
      = oB i q k v f 1536 := by
  have hp : (i 0).val < 8 := (i 0).isLt
  unfold out0_D_4
  rw [View.read_writes_junk_eq_canon]
  delta kernelRun0_D
  dsimp only
  rw [View.canon_cons_unit_zero (by funext a; fin_cases a <;> rfl)]
  delta kernelRun0_D.sl.r_3 kernelRun0_D.sl.r_7 kernelRun0_D.sl.r kernelRun0_D.sl.r_1 kernelRun0_D.sl.r_2 kernelRun0_D.sl.r_5
  rw [body4]
  rw [load_first harg2 q 512, load_first harg3 k 1536, load_first harg4 v 1536, load_from harg3 k 1536 512,
    load_from harg4 v 1536 512,
    load_start harg5 f (2 * (i 0).val + 0) 1536 (k0_off6 i 0#32)
      (congrArg (fun x => ![x, 0]) (row (i 0).val hp 0 (by decide))),
    load_start harg5 f (2 * (i 0).val + 1) 1536 (k0_off6 i 1#32)
      (congrArg (fun x => ![x, 0]) (row (i 0).val hp 1 (by decide))),
    load_run harg5 f (2 * (i 0).val + 0) 1536 512 (k0_off7 i 0#32)
      (congrArg (fun x => ![x, 1536]) (row (i 0).val hp 0 (by decide))),
    load_run harg5 f (2 * (i 0).val + 1) 1536 512 (k0_off7 i 1#32)
      (congrArg (fun x => ![x, 1536]) (row (i 0).val hp 1 (by decide)))]
  exact blockTwo_arr _ _ _ _ _ _ _ 1536 _ q k v f _ _

end Point

end Cert.FoxFwdIdeal.Chunk
-- ==== Proof.FoxValue.lean ====
module

public import proofs.«01_k».proof.Proof.FoxChunk
public import Idealize.ShloMosaic.Lib.Pipeline.ValueKit.Geometry
public import Idealize.ShloMosaic.Lib.Pipeline.ValueKit.Acc
public import Idealize.ShloMosaic.Lib.Pipeline.ReadBack

/-!
The forgetting-attention call, whole: the blocks the grid points read, and the array the call leaves.
-/

@[expose] public section

set_option maxRecDepth 16384

noncomputable section

open scoped BigOperators

namespace Ret

/-- The score of row r against key s in head h: the product of 64 columns, an eighth of it, less the key's forget sum. -/
def logit (q k f : ℕ → ℕ → EReal) (h r s : ℕ) : EReal :=
  (∑ d ∈ Finset.range 64, q r (64 * h + d) * k s (64 * h + d)) * ((1 / 8 : ℝ) : EReal) - f h s

/-- Attention, all heads side by side. -/
def attend (q k v f : ℕ → ℕ → EReal) (i j : ℕ) : EReal := att (logit q k f (j / 64) i) (fun s => v s j) (i + 1)

/-- What a grid point of pair p leaves, n rows before its first, is the attention's block. -/
theorem pair_attend (q k v f : ℕ → ℕ → EReal) (p n r d : ℕ) (hd : d < 128) :
    pair (fun i j => q (n + i) (p * 128 + j)) (fun i j => k i (p * 128 + j)) (fun i j => v i (p * 128 + j)) f (2 * p + 0) (2 * p + 1) n r d
      = attend q k v f (n + r) (p * 128 + d) := by
  unfold pair attend
  split
  · rw [show (p * 128 + d) / 64 = 2 * p + 0 by omega]
    congr 1
    funext s
    unfold sc logit
    simp only [show ∀ x, p * 128 + (0 + x) = 64 * (2 * p + 0) + x from fun x => by omega]
  · rw [show (p * 128 + d) / 64 = 2 * p + 1 by omega]
    congr 1
    funext s
    unfold sc logit
    simp only [show ∀ x, p * 128 + (64 + x) = 64 * (2 * p + 1) + x from fun x => by omega]

end Ret

namespace Cert.FoxFwdIdeal.Whole

open Cert.FoxFwdIdeal Cert.FoxFwdIdeal.Gen Cert.FoxFwdIdeal.Value Cert.FoxFwdIdeal.Chunk Idealize.ShloMosaic
  Idealize.ShloMosaic.TcCoe Idealize.ShloMosaic.ValueIdx Idealize.SL.Sem Ret

variable (m : (ℓ : Loc nD τ sig) → Buf (Elt Ideal) ℓ) (c : Dev nD) (q k v f : ℕ → ℕ → EReal)
  (hq : m ((c : Thread nD τ).loc main_arg0) = (arr 2048 1024 .bf16 q : FVec Ideal S2048x1024 .bf16))
  (hk : m ((c : Thread nD τ).loc main_arg1) = (arr 2048 1024 .bf16 k : FVec Ideal S2048x1024 .bf16))
  (hv : m ((c : Thread nD τ).loc main_arg2) = (arr 2048 1024 .bf16 v : FVec Ideal S2048x1024 .bf16))
  (hf : m ((c : Thread nD τ).loc main_arg3) = (arr 128 2048 .f32 f : FVec Ideal S128x2048 .f32))

/-- The blocks' places: pair t / 4, block of rows t % 4. -/
theorem index_0 : ∀ t : Fin cfg0.N, win0_0.index t = ![t.val % 4, t.val / 4] := by decide +kernel
@[inherit_doc index_0]
theorem index_1 : ∀ t : Fin cfg0.N, win0_1.index t = ![0, t.val / 4] := by decide +kernel
@[inherit_doc index_0]
theorem index_2 : ∀ t : Fin cfg0.N, win0_2.index t = ![0, t.val / 4] := by decide +kernel
@[inherit_doc index_0]
theorem index_3 : ∀ t : Fin cfg0.N, win0_3.index t = ![0, 0] := by decide +kernel
@[inherit_doc index_0]
theorem index_4 : ∀ t : Fin cfg0.N, win0_4.index t = ![t.val % 4, t.val / 4] := by decide +kernel
/-- The pair of a point. -/
theorem coord : ∀ t : Fin cfg0.N, ((grid0.coords t) 0).val = t.val / 4 := by decide +kernel

include hq in
/-- The queries of a point. -/
theorem blk_q (t : Fin cfg0.N) : iblk m c 0 t = (qB (fun i j => q (t.val % 4 * 512 + i) (t.val / 4 * 128 + j)) : FVec Ideal S512x128 .bf16) := by
  funext y
  blk_simp [iblk]
  rw [V_main_arg0, hq]
  unfold qB arr
  blk_simp [index_0]

include hk in
/-- The keys of a point. -/
theorem blk_k (t : Fin cfg0.N) : iblk m c 1 t = (kB (fun i j => k i (t.val / 4 * 128 + j)) : FVec Ideal S2048x128 .bf16) := by
  funext y
  blk_simp [iblk]
  rw [V_main_arg1, hk]
  unfold kB arr
  blk_simp [index_1]

include hv in
/-- The values of a point. -/
theorem blk_v (t : Fin cfg0.N) : iblk m c 2 t = (kB (fun i j => v i (t.val / 4 * 128 + j)) : FVec Ideal S2048x128 .bf16) := by
  funext y
  blk_simp [iblk]
  rw [V_main_arg2, hv]
  unfold kB arr
  blk_simp [index_2]

include hf in
/-- The forget sums of a point: all of them. -/
theorem blk_f (t : Fin cfg0.N) : iblk m c 3 t = (fB f : FVec Ideal S128x2048 .f32) := by
  funext y
  blk_simp [iblk]
  rw [V_main_arg3, hf]
  unfold fB arr
  blk_simp [index_3]

include hq hk hv hf in
/-- What a point leaves in its block. -/
theorem point (t : Fin cfg0.N) : (outsAt0 m c t.val t.isLt).1
    = (arr 512 128 .f32 (fun r d => attend q k v f (t.val % 4 * 512 + r) (t.val / 4 * 128 + d)) : FVec Ideal S512x128 .f32) := by
  have key : ∀ n, t.val % 4 * 512 = n → (oB (grid0.coords t) (fun i j => q (t.val % 4 * 512 + i) (t.val / 4 * 128 + j))
      (fun i j => k i (t.val / 4 * 128 + j)) (fun i j => v i (t.val / 4 * 128 + j)) f n : FVec Ideal ⟨2, ![512, 128]⟩ .f32)
      = arr 512 128 .f32 fun r d => attend q k v f (t.val % 4 * 512 + r) (t.val / 4 * 128 + d) := fun n e => by
    subst e
    unfold oB
    rw [coord]
    exact arr_congr fun r _ d hd => pair_attend q k v f (t.val / 4) (t.val % 4 * 512) r d hd
  have h : t.val % 4 < 4 := Nat.mod_lt _ (by decide)
  by_cases h0 : t.val % 4 = 0
  · rw [outsAt0_A m c t h0 (by omega) (by omega) (by omega), blk_q m c q hq, blk_k m c k hk, blk_v m c v hv, blk_f m c f hf, out_A]
    exact key 0 (by omega)
  by_cases h1 : t.val % 4 = 1
  · rw [outsAt0_B m c t h0 h1 (by omega) (by omega), blk_q m c q hq, blk_k m c k hk, blk_v m c v hv, blk_f m c f hf, out_B]
    exact key 512 (by omega)
  by_cases h2 : t.val % 4 = 2
  · rw [outsAt0_C m c t h0 h1 h2 (by omega), blk_q m c q hq, blk_k m c k hk, blk_v m c v hv, blk_f m c f hf, out_C]
    exact key 1024 (by omega)
  · rw [outsAt0_D m c t h0 h1 h2 (by omega), blk_q m c q hq, blk_k m c k hk, blk_v m c v hv, blk_f m c f hf, out_D]
    exact key 1536 (by omega)

include hq hk hv hf in
/-- The array the call leaves. -/
theorem result : (dats m 0 c).arrAt 4 cfg0.N = (arr 2048 1024 .f32 (attend q k v f) : FVec Ideal S2048x1024 .f32) := by
  refine (dats m 0 c).arrAt_eq_of_covers 4 _ (by decide +kernel) fun t hfl y => ?_
  blk_simp
  rw [after0_4, point m c q k v f hq hk hv hf t]
  unfold arr
  blk_simp [index_4]

end Cert.FoxFwdIdeal.Whole
-- ==== Proof.RefFox.lean ====
module

public import proofs.«01_k».proof.Proof.FoxValue
public import proofs.«01_k».proof.Proof.RefParts
public import proofs.«01_k».proof.Proof.Gen.RefFoxFwdIdeal.Read
public import Idealize.ShloMosaic.Lib.KernelVsHost

/-!
The reference's forgetting attention, entry by entry: over real queries, keys and forget sums its masked softmax is the
attention the kernel leaves.
-/

@[expose] public section

set_option maxRecDepth 16384

noncomputable section

open scoped BigOperators

namespace Cert.RefFoxFwdIdeal.Entries

open Cert.RefFoxFwdIdeal Cert.RefFoxFwdIdeal.Read Idealize.ShloMosaic Idealize.ShloMosaic.ValueIdx Ret
open Idealize.ShloMosaic.WordCmp

/-- The word of an eighth. -/
theorem eighth_word : Ideal.ofBits .f32 0x3E000000#32 = ((1 / 8 : ℝ) : EReal) := by
  simp [Ideal.ofBits, Ideal.ieee]
  rw [← EReal.coe_mul]
  norm_num

/-- A function of two numbers at equal numbers. -/
theorem congr2' (f : ℕ → ℕ → EReal) {a a' b b' : ℕ} (ha : a = a') (hb : b = b') : f a b = f a' b' := by rw [ha, hb]

variable (q k v f : ℕ → ℕ → EReal)

/-- The queries by head. -/
theorem queries (i : S2048x16x64.Idx) :
    val_main_v1 (F := Ideal) (arr 2048 1024 .bf16 q) i = q (i 0).val (64 * (i 1).val + (i 2).val) := by
  have h0 : (i 0).val < 2048 := (i 0).isLt
  have h1 : (i 1).val < 16 := (i 1).isLt
  have h2 : (i 2).val < 64 := (i 2).isLt
  rw [val_main_v1_apply, val_main_v0_apply]
  exact congr2' q (by dsimp only; omega) (by dsimp only; omega)

/-- The keys by head. -/
theorem keys (i : S2048x16x64.Idx) :
    val_main_v3 (F := Ideal) (arr 2048 1024 .bf16 k) i = k (i 0).val (64 * (i 1).val + (i 2).val) := queries k i

/-- The values by head. -/
theorem values (i : S2048x16x64.Idx) :
    val_main_v5 (F := Ideal) (arr 2048 1024 .bf16 v) i = v (i 0).val (64 * (i 1).val + (i 2).val) := queries v i

/-- The forget sums by head. -/
theorem forget (i : S16x2048.Idx) : val_main_v8 (F := Ideal) (arr 128 2048 .f32 f) i = f (i 0).val (i 1).val := by
  rw [val_main_v8_apply, val_main_v7_apply, val_main_v6_apply]
  exact congr2' f rfl rfl

/-- The scores, before the mask: the kernel's, moved by the row's own forget sum. -/
theorem scored (i : S16x2048x2048.Idx) :
    val_main_v17 (F := Ideal) (arr 2048 1024 .bf16 q) (arr 2048 1024 .bf16 k) (arr 128 2048 .f32 f) i
      = logit q k f (i 0).val (i 1).val (i 2).val + f (i 0).val (i 1).val := by
  rw [val_main_v17_apply, val_main_v14_apply, val_main_v11_apply, val_main_v9_apply, val_main_v10_apply, val_main_cst_apply,
    val_main_v13_apply, val_main_v12_apply, val_main_v16_apply, val_main_v15_apply, forget, forget]
  have e : ∑ x : Fin 64, val_main_v1 (F := Ideal) (arr 2048 1024 .bf16 q) (lidx_main_v9 i x)
        * val_main_v3 (F := Ideal) (arr 2048 1024 .bf16 k) (ridx_main_v9 i x)
      = ∑ d ∈ Finset.range 64, q (i 1).val (64 * (i 0).val + d) * k (i 2).val (64 * (i 0).val + d) :=
    (Finset.sum_congr rfl fun x _ => by rw [queries, keys]).trans
      (sum_fin (fun d => q (i 1).val (64 * (i 0).val + d) * k (i 2).val (64 * (i 0).val + d)) 64)
  rw [e]
  show _ * Ideal.ofBits .f32 0x3E000000#32 + f (i 0).val (i 1).val - f (i 0).val (i 2).val = _
  rw [eighth_word]
  unfold logit
  rw [sub_eq_add_neg, sub_eq_add_neg]
  exact add_right_comm _ _ _

/-- The scores under the causal mask. -/
theorem masked (i : S16x2048x2048.Idx) :
    val_main_v25 (F := Ideal) (arr 2048 1024 .bf16 q) (arr 2048 1024 .bf16 k) (arr 128 2048 .f32 f) i
      = if (i 2).val ≤ (i 1).val then logit q k f (i 0).val (i 1).val (i 2).val + f (i 0).val (i 1).val else ⊥ := by
  have h1 : (i 1).val < 2048 := (i 1).isLt
  have h2 : (i 2).val < 2048 := (i 2).isLt
  rw [val_main_v25_apply, val_main_call0_v1_apply, val_main_call0_v2_apply, val_main_v24_apply, val_main_v22_apply,
    val_main_v23_apply, val_main_v19_apply, val_main_v21_apply, val_main_v18_apply, val_main_v20_apply, scored]
  show (if IntOp.cmpi .sle (BitVec.ofNat 32 (i 2).val) (BitVec.ofNat 32 (i 1).val) = 1#1 then _ else Ideal.ofBits .f32 0xFF800000#32) = _
  rw [word_bot, cmpi_sle_eq, toInt_ofNat_of_lt (by omega), toInt_ofNat_of_lt (by omega)]
  simp only [ofBool_decide_eq_one_iff, Nat.cast_le]

/-- The rows' greatest scores. -/
theorem greatest (h : S16x2048x2048.ReducesTo [2] S16x2048) (hu : 0 < S_.numel) (x : FVec Ideal S16x2048x2048 .f32) (i : S16x2048.Idx) (S : ℕ → EReal)
    (hS : ∀ j : Fin 2048, x (idx_main_v33 i j) = S j.val) :
    Host.reduce FloatOps.maximumf x (val_main_cst_1 (F := Ideal)) h hu i = top S 2048 := by
  have h' : S16x2048x2048.Reduces [2] S16x2048 := by decide
  unfold val_main_cst_1
  refine (congrFun (hostReduce_maximumf_eq_multiReduction x 0xFF800000#32 _ _ h' (.inl rfl) rfl) i).trans
    ((Ideal.multiReduction_maximumf_single _ _ h' _ _ _).trans ?_)
  refine (congrArg (fun b => Finset.fold max b _ _) word_bot).trans ?_
  refine Eq.trans ?_ (fin_sup S 2048)
  show Finset.sup (Finset.univ : Finset (Fin 2048)) _ = _
  refine Finset.sup_congr rfl fun j _ => ?_
  refine Eq.trans ?_ (hS j)
  exact congrArg x (funext fun a => Fin.ext (by match a with | ⟨0, _⟩ => rfl | ⟨1, _⟩ => rfl | ⟨2, _⟩ => rfl))

section
variable (i : S16x64x2048.Idx)

/-- A row's scores under the mask. -/
def masks (h r j : ℕ) : EReal := if j ≤ r then logit q k f h r j + f h r else ⊥

/-- A row's weights. -/
theorem weight (i : S16x2048x2048.Idx) :
    val_main_v32 (F := Ideal) (arr 2048 1024 .bf16 q) (arr 2048 1024 .bf16 k) (arr 128 2048 .f32 f) i
      = wt (masks q k f (i 0).val (i 1).val) (top (masks q k f (i 0).val (i 1).val) 2048) (i 2).val := by
  rw [val_main_v32_apply, val_main_v31_apply, val_main_v30_apply, val_main_v29_apply, val_main_v28_apply, val_main_v27_apply,
    val_main_cst_2_apply, masked]
  unfold val_main_v26
  rw [greatest _ _ _ _ (masks q k f (i 0).val (i 1).val) fun j => masked q k f _]
  show Ideal.exp (_ - max (Ideal.ofBits .f32 0xFF800000#32) _) = _
  rw [word_bot, bot_sup_eq]
  rfl

/-- The rows' weights over their sum. -/
theorem share (i : S16x2048x2048.Idx) :
    val_main_v36 (F := Ideal) (arr 2048 1024 .bf16 q) (arr 2048 1024 .bf16 k) (arr 128 2048 .f32 f) i
      = Ideal.div (wt (masks q k f (i 0).val (i 1).val) (top (masks q k f (i 0).val (i 1).val) 2048) (i 2).val)
          (0 + ∑ j ∈ Finset.range 2048, wt (masks q k f (i 0).val (i 1).val) (top (masks q k f (i 0).val (i 1).val) 2048) j) := by
  rw [val_main_v36_apply, val_main_v35_apply, val_main_v34_apply, val_main_v33_apply, weight, val_main_cst_3_apply,
    ← sum_fin, ← Ideal.ofBits_zero_f32]
  exact congrArg (fun z => Ideal.div _ (_ + z)) (Finset.sum_congr rfl fun j _ => weight q k f _)

/-- Attention, by head. -/
theorem mixed (kq kk kf : ℕ → ℕ → ℝ) (hq : ∀ a b, q a b = (kq a b : EReal)) (hk : ∀ a b, k a b = (kk a b : EReal))
    (hf : ∀ a b, a < 16 → f a b = (kf a b : EReal)) :
    val_main_v37 (F := Ideal) (arr 2048 1024 .bf16 q) (arr 2048 1024 .bf16 k) (arr 2048 1024 .bf16 v) (arr 128 2048 .f32 f) i
      = att (logit q k f (i 0).val (i 2).val) (fun s => v s (64 * (i 0).val + (i 1).val)) ((i 2).val + 1) := by
  have h0 : (i 0).val < 16 := (i 0).isLt
  have h2 : (i 2).val < 2048 := (i 2).isLt
  have hl : ∀ s, logit q k f (i 0).val (i 2).val s
      = (((∑ d ∈ Finset.range 64, kq (i 2).val (64 * (i 0).val + d) * kk s (64 * (i 0).val + d)) * (1 / 8) - kf (i 0).val s : ℝ) : EReal) := fun s => by
    unfold logit
    simp only [hq, hk, hf _ _ h0]
    rw [← sum_fin (fun d => (kq (i 2).val (64 * (i 0).val + d) : EReal) * (kk s (64 * (i 0).val + d) : EReal)),
      sum_elem 64 (fun d => (kq (i 2).val (64 * (i 0).val + d.val) : EReal)) (fun d => (kk s (64 * (i 0).val + d.val) : EReal))
        (fun d => kq (i 2).val (64 * (i 0).val + d)) (fun d => kk s (64 * (i 0).val + d)) (fun _ => rfl) (fun _ => rfl),
      ← EReal.coe_mul, ← EReal.coe_sub]
  rw [val_main_v37_apply]
  refine Eq.trans ?_ (att_terms _ (fun s => v s (64 * (i 0).val + (i 1).val)) _ (kf (i 0).val (i 2).val) h2 (fun s _ => hl s)
    (masks q k f (i 0).val (i 2).val) fun j => by unfold masks; rw [hf _ _ h0])
  refine Eq.trans (Finset.sum_congr rfl fun j _ => ?_) (sum_fin (fun j => v j (64 * (i 0).val + (i 1).val)
    * Ideal.div (wt (masks q k f (i 0).val (i 2).val) (top (masks q k f (i 0).val (i 2).val) 2048) j)
      (0 + ∑ s ∈ Finset.range 2048, wt (masks q k f (i 0).val (i 2).val) (top (masks q k f (i 0).val (i 2).val) 2048) s)) 2048)
  rw [values, share]

end

/-- The reference's array. -/
theorem result (kq kk kf : ℕ → ℕ → ℝ) (hq : ∀ a b, q a b = (kq a b : EReal)) (hk : ∀ a b, k a b = (kk a b : EReal))
    (hf : ∀ a b, a < 16 → f a b = (kf a b : EReal)) :
    val_main_v39 (F := Ideal) (arr 2048 1024 .bf16 q) (arr 2048 1024 .bf16 k) (arr 2048 1024 .bf16 v) (arr 128 2048 .f32 f)
      = (arr 2048 1024 .f32 (attend q k v f) : FVec Ideal S2048x1024 .f32) := by
  funext i
  have h0 : (i 0).val < 2048 := (i 0).isLt
  have h1 : (i 1).val < 1024 := (i 1).isLt
  have e0 : ((i 0).val * 1024 + (i 1).val) / 1024 = (i 0).val := by omega
  have e1 : ((i 0).val * 1024 + (i 1).val) / 64 % 16 = (i 1).val / 64 := by omega
  have e2 : 64 * (((i 0).val * 1024 + (i 1).val) / 64 % 16) + ((i 0).val * 1024 + (i 1).val) % 64 = (i 1).val := by omega
  rw [val_main_v39_apply, val_main_v38_apply, mixed q k v f _ kq kk kf hq hk hf]
  dsimp only
  rw [e2, e0, e1]
  rfl

end Cert.RefFoxFwdIdeal.Entries
-- ==== Proof.FoxClaims.lean ====
module

public import proofs.«01_k».proof.Defs
public import proofs.«01_k».proof.Proof.Gen.FoxFwd.Frame
public import proofs.«01_k».proof.Proof.Gen.Pre_finite_fox_fwd
public import proofs.«01_k».proof.Proof.FoxValue
public import proofs.«01_k».proof.Proof.RefFox
public import proofs.«01_k».proof.Proof.Finite
public import Idealize.ShloMosaic.Lib.Quiescent

/-!
The claims about the forward forgetting attention.
-/

@[expose] public section

set_option maxRecDepth 16384

noncomputable section

namespace Cert.Proof.FoxClaims

open Idealize.ShloMosaic Idealize.ShloMosaic.TcCoe Idealize.ShloMosaic.ValueIdx Idealize.SL.Sem Ret

/-- The kernel's frame at the machine's own numbers. -/
theorem frame_p : Cert.quiescent_FoxFwd := fun m g _ => Cert.FoxFwd.Gen.frame m g

/-- The idealized kernel's frame. -/
theorem frame_pi : Cert.quiescent_FoxFwdIdeal := fun m g _ => Cert.FoxFwdIdeal.Gen.frame m g
@[inherit_doc frame_pi]
theorem frame_pi_pre : Cert.quiescent_FoxFwdIdeal_pre_finite_fox_fwd := fun m g _ => Cert.FoxFwdIdeal.Gen.frame m g

/-- The reference's frame. -/
theorem frame_r : Cert.quiescent_RefFoxFwdIdeal := fun m g _ =>
  (θ_run Cert.RefFoxFwdIdeal.defs _ _).mono (fun r h => ⟨fun c => (h c).2, sem_eq_zero_of_no_sems (by decide) r.2⟩)
    (Cert.RefFoxFwdIdeal.Value.run m g)
@[inherit_doc frame_r]
theorem frame_r_pre : Cert.quiescent_RefFoxFwdIdeal_pre_finite_fox_fwd := fun m g _ => frame_r m g trivial

/-- No constant is renamed. -/
theorem preserves : Cert.preserves_FoxFwd_FoxFwdIdeal := trivial

/-- The test of one wide array: what passes it holds real numbers. -/
theorem finite_wide {n m : ℕ} (x : FVec Ideal ⟨2, ![n, m]⟩ .f32) (init : (⟨0, ![]⟩ : Shape).Idx → BitVec 1)
    (hb : (⟨0, ![]⟩ : Shape).BroadcastsInDim ⟨2, ![n, m]⟩ ![])
    (hr : (⟨2, ![n, m]⟩ : Shape).ReducesTo [0, 1] ⟨0, ![]⟩) (hu : 0 < (⟨0, ![]⟩ : Shape).numel) (j : (⟨0, ![]⟩ : Shape).Idx)
    (h : Host.reduce IntOp.andi (cmpf .olt (Host.absf x)
      (broadcastInDim ⟨2, ![n, m]⟩ ![] hb (constant ⟨0, ![]⟩ .f32 0x7F800000#32))) init hr hu j = 1#1) :
    ∃ f : ℕ → ℕ → ℝ, ∀ y, x y = ((f (y 0).val (y 1).val : ℝ) : EReal) :=
  exists_mat x fun y => real_of_abs _ (Host.reduce_andi_all _ _ hr hu j h y)

/-- Arguments that pass the precondition hold real numbers: the queries, the keys, the forget sums of the sixteen heads. -/
theorem reals (x0 x1 x2 : FVec Ideal ⟨2, ![2048, 1024]⟩ .bf16) (x3 : FVec Ideal ⟨2, ![128, 2048]⟩ .f32)
    (h : Cert.Pre_finite_fox_fwd.fn (F := Ideal) x0 x1 x2 x3 = fun _ => 1#1) :
    ∃ (q k f : ℕ → ℕ → ℝ) (g : ℕ → ℕ → EReal), x0 = arr 2048 1024 .bf16 (fun i j => (q i j : EReal))
      ∧ x1 = arr 2048 1024 .bf16 (fun i j => (k i j : EReal)) ∧ x3 = arr 128 2048 .f32 g
      ∧ ∀ a b, a < 16 → g a b = (f a b : EReal) := by
  have e := congrFun h (fun a => a.elim0)
  obtain ⟨e01, e2⟩ := IntOp.andi_eq_one.mp e
  obtain ⟨e0, e1⟩ := IntOp.andi_eq_one.mp e01
  obtain ⟨q, hq⟩ := finite_mat _ _ _ _ _ _ _ e0
  obtain ⟨k, hk⟩ := finite_mat _ _ _ _ _ _ _ e1
  obtain ⟨f, hf⟩ := finite_wide _ _ _ _ _ _ e2
  obtain ⟨g, rfl⟩ := exists_arr x3
  refine ⟨q, k, f, fun a b => if a < 16 then (f a b : EReal) else g a b, funext hq, funext hk, eq_arr fun i j => ?_,
    fun a b ha => if_pos ha⟩
  by_cases hi : i.val < 16
  · rw [if_pos hi]
    refine Eq.trans (Eq.symm ?_) (hf (ix2 ⟨i.val, hi⟩ j))
    refine extractStridedSlice_apply ![0, 0] _ _ _ (ix2 i j) fun a => ?_
    fin_cases a
    · exact (Nat.zero_add _).symm
    · exact (Nat.zero_add _).symm
  · rw [if_neg hi]
    rfl

/-- The kernel and the reference end with equal attention. -/
theorem algebraic : Cert.algebraic_FoxFwdIdeal_RefFoxFwdIdeal_pre_finite_fox_fwd := by
  intro m g m' g' hpre hagree
  refine ⟨fun c => (Cert.FoxFwdIdeal.Gen.dats m 0 c).arrAt 4 _,
    (θ_run Cert.FoxFwdIdeal.defs _ _).mono (fun r h c => ⟨(h c).1, (h c).2.2⟩) (Cert.FoxFwdIdeal.Value.run_blocks m g),
    (θ_run Cert.RefFoxFwdIdeal.defs _ _).mono (fun r h c => ⟨(h c).1.trans ?_, (h c).2⟩) (Cert.RefFoxFwdIdeal.Value.run m' g')⟩
  obtain ⟨q, k, f, s, hq, hk, hs, hf⟩ := reals _ _ _ _ (hpre c)
  obtain ⟨v, hv⟩ := exists_arr (n := 2048) (m := 1024) (φ := .bf16) (m ((c.tc : Thread Cert.FoxFwdIdeal.nD Cert.FoxFwdIdeal.τ).loc Cert.FoxFwdIdeal.main_arg2))
  obtain ⟨a0, a1, a2, a3⟩ := hagree c
  rw [Cert.RefFoxFwdIdeal.Read.val_main_v39_eq, a0, a1, a2, a3]
  refine Eq.trans ?_ (Cert.FoxFwdIdeal.Whole.result m c _ _ v s hq hk hv hs).symm
  rw [hq, hk, hv, hs]
  exact Cert.RefFoxFwdIdeal.Entries.result _ _ v s q k f (fun _ _ => rfl) (fun _ _ => rfl) hf

end Cert.Proof.FoxClaims
-- ==== Proof.Mixer.lean ====
module

public import proofs.«01_k».proof.Proof.FoxBlock

/-!
The modulated norm of a layer's rows, and what follows a mixer's or an MLP's product, the residual with the gate of the modulation: on
extended reals, entry by entry, and as a kernel's block of rows makes them.
-/

@[expose] public section

set_option maxRecDepth 16384

noncomputable section

open scoped BigOperators

namespace Ret

open Idealize.ShloMosaic Idealize.ShloMosaic.ValueIdx Idealize.SL.Sem

/-- The modulation at a column: its raw row plus its bias. -/
def ada (s t : ℕ → ℕ → EReal) (j : ℕ) : EReal := s 0 j + t 0 j

/-- The residual: the rows plus the gated product; r is the column where the modulation's gate starts. -/
def resid (r : ℕ) (p x s t : ℕ → ℕ → EReal) (i j : ℕ) : EReal := x i j + ada s t (r + j) * p i j

/-- The modulated norm of rows y, with gains g: a and b are the columns where the modulation's shift and scale start. -/
def normed (a b : ℕ) (y s t : ℕ → ℕ → EReal) (g : ℕ → EReal) (i j : ℕ) : EReal :=
  y i j * Ideal.rsqrt (Ideal.div (∑ d ∈ Finset.range 1024, y i d * y i d) (Ideal.ofBits .f32 0x44800000#32)
      + Ideal.ofBits .f32 0x358637BD#32) * g j * (Ideal.ofBits .f32 0x3F800000#32 + ada s t (b + j)) + ada s t (a + j)

/-- A block cut out of an array. -/
theorem slice_arr {n m n' m' : ℕ} {φ : FTy} (a b : ℕ) (f : ℕ → ℕ → EReal) (h) :
    extractStridedSlice (⟨2, ![n', m']⟩ : Shape) ![a, b] (arr n m φ f) h = arr n' m' φ fun i j => f (a + i) (b + j) := by
  have h0 : a + n' ≤ n := h.2 0
  have h1 : b + m' ≤ m := h.2 1
  refine eq_arr fun i j => extractStridedSlice_apply ![a, b] _ h (ix2 i j)
    (ix2 ⟨a + i.val, by omega⟩ ⟨b + j.val, by omega⟩) fun k => ?_
  fin_cases k <;> rfl

section Block
variable {n w a b r : ℕ} (hs2 : (⟨2, ![1, w]⟩ : Shape).Slices ![0, r] ⟨2, ![1, 1024]⟩)
  (hs3 : (⟨2, ![1, w]⟩ : Shape).Slices ![0, a] ⟨2, ![1, 1024]⟩)
  (hs4 : (⟨2, ![1, w]⟩ : Shape).Slices ![0, b] ⟨2, ![1, 1024]⟩)
  (hb : (⟨2, ![1, 1024]⟩ : Shape).Broadcasts ⟨2, ![n, 1024]⟩)
  (hc : (⟨2, ![n, 1]⟩ : Shape).Broadcasts ⟨2, ![n, 1024]⟩)
  (hr : (⟨2, ![n, 1024]⟩ : Shape).Reduces [1] ⟨1, ![n]⟩)
  (hk : (⟨1, ![n]⟩ : Shape).ShapeCasts ⟨2, ![n, 1]⟩)

/-- A block's residual. -/
def blockResid (p x : FVec Ideal ⟨2, ![n, 1024]⟩ .f32) (s t : FVec Ideal ⟨2, ![1, w]⟩ .f32) : FVec Ideal ⟨2, ![n, 1024]⟩ .f32 :=
  addf x (mulf (broadcastTo ⟨2, ![n, 1024]⟩ (extractStridedSlice ⟨2, ![1, 1024]⟩ ![0, r] (addf s t) hs2) hb) p)

/-- A block's modulated norm, of its residual y and its layer's gains g. -/
def blockNorm (y : FVec Ideal ⟨2, ![n, 1024]⟩ .f32) (s t : FVec Ideal ⟨2, ![1, w]⟩ .f32) (g : FVec Ideal ⟨2, ![1, 1024]⟩ .f32) :
    FVec Ideal ⟨2, ![n, 1024]⟩ .f32 :=
  addf (mulf (mulf (mulf y (broadcastTo ⟨2, ![n, 1024]⟩ (rsqrt (addf (divf (rowSum n 1024 hr hk (mulf y y))
      (broadcast ⟨2, ![n, 1]⟩ (Scalar.ofBits .f32 0x44800000#32))) (broadcast ⟨2, ![n, 1]⟩ (Scalar.ofBits .f32 0x358637BD#32)))) hc))
    (broadcastTo ⟨2, ![n, 1024]⟩ g hb))
    (broadcastTo ⟨2, ![n, 1024]⟩ (addf (broadcast ⟨2, ![1, 1024]⟩ (Scalar.ofBits .f32 0x3F800000#32))
      (extractStridedSlice ⟨2, ![1, 1024]⟩ ![0, b] (addf s t) hs4)) hb))
    (broadcastTo ⟨2, ![n, 1024]⟩ (extractStridedSlice ⟨2, ![1, 1024]⟩ ![0, a] (addf s t) hs3) hb)

/-- The residual of arrays. -/
theorem blockResid_arr (p x s t : ℕ → ℕ → EReal) :
    blockResid hs2 hb (arr _ _ _ p) (arr _ _ _ x) (arr _ _ _ s) (arr _ _ _ t) = arr n 1024 .f32 (resid r p x s t) := by
  unfold blockResid
  have e : addf (arr 1 w .f32 s) (arr 1 w .f32 t) = arr 1 w .f32 fun i j => s i j + t i j := rfl
  rw [e, slice_arr, row_arr]
  rfl

/-- The modulated norm of arrays. -/
theorem blockNorm_arr (y s t g : ℕ → ℕ → EReal) :
    blockNorm hs3 hs4 hb hc hr hk (arr _ _ _ y) (arr _ _ _ s) (arr _ _ _ t) (arr _ _ _ g)
      = arr n 1024 .f32 (normed a b y s t (g 0)) := by
  unfold blockNorm
  have e : addf (arr 1 w .f32 s) (arr 1 w .f32 t) = arr 1 w .f32 fun i j => s i j + t i j := rfl
  have ey : mulf (arr n 1024 .f32 y) (arr n 1024 .f32 y) = arr n 1024 .f32 fun i j => y i j * y i j := rfl
  have e4 : ∀ f, addf (broadcast ⟨2, ![1, 1024]⟩ (Scalar.ofBits .f32 0x3F800000#32)) (arr 1 1024 .f32 f)
      = arr 1 1024 .f32 fun i j => Ideal.ofBits .f32 0x3F800000#32 + f i j := fun _ => rfl
  have en : ∀ f, rsqrt (addf (divf (arr n 1 .f32 f) (broadcast ⟨2, ![n, 1]⟩ (Scalar.ofBits .f32 0x44800000#32)))
        (broadcast ⟨2, ![n, 1]⟩ (Scalar.ofBits .f32 0x358637BD#32)))
      = arr n 1 .f32 fun i j => Ideal.rsqrt (Ideal.div (f i j) (Ideal.ofBits .f32 0x44800000#32) + Ideal.ofBits .f32 0x358637BD#32) :=
    fun _ => rfl
  rw [e, ey, slice_arr, slice_arr, e4, rowSum_arr, en, col_arr, row_arr, row_arr, row_arr]
  rfl

end Block

end Ret
-- ==== Proof.RetMix.lean ====
module

public import proofs.«01_k».proof.Defs
public import proofs.«01_k».proof.Proof.Gen.RetMix.Frame
public import proofs.«01_k».proof.Proof.Gen.RetMixIdeal.Value
public import proofs.«01_k».proof.Proof.Gen.RefRetMixIdeal.Read
public import proofs.«01_k».proof.Proof.Mixer
public import Idealize.ShloMosaic.Lib.Quiescent
public import Idealize.ShloMosaic.Lib.Pipeline.ValueKit.Geometry
public import Idealize.ShloMosaic.Lib.Pipeline.ValueKit.Acc

/-!
The projection out of the retention with what follows it: the residual, and the modulated norm that enters the MLP.
-/

@[expose] public section

set_option maxRecDepth 16384

noncomputable section

open scoped BigOperators

namespace Cert.Proof.RetMix

open Idealize.ShloMosaic Idealize.ShloMosaic.TcCoe Idealize.ShloMosaic.ValueIdx Idealize.SL.Sem Ret

section Kernel
open Cert.RetMixIdeal Cert.RetMixIdeal.Gen Cert.RetMixIdeal.Value

variable (m : (ℓ : Loc nD τ sig) → Buf (Elt Ideal) ℓ) (c : Dev nD) (a w x s t g : ℕ → ℕ → EReal)
  (ha : m ((c : Thread nD τ).loc main_arg0) = (arr 2048 2048 .bf16 a : FVec Ideal S2048x2048 .bf16))
  (hw : m ((c : Thread nD τ).loc main_arg1) = (arr 2048 1024 .bf16 w : FVec Ideal S2048x1024 .bf16))
  (hx : m ((c : Thread nD τ).loc main_arg2) = (arr 2048 1024 .f32 x : FVec Ideal S2048x1024 .f32))
  (hs : m ((c : Thread nD τ).loc main_arg3) = (arr 1 6144 .f32 s : FVec Ideal S1x6144 .f32))
  (ht : m ((c : Thread nD τ).loc main_arg4) = (arr 1 6144 .f32 t : FVec Ideal S1x6144 .f32))
  (hg : m ((c : Thread nD τ).loc main_arg5) = (arr 2 1024 .f32 g : FVec Ideal S2x1024 .f32))

/-- The blocks' places. -/
theorem index_0 : ∀ t : Fin cfg0.N, win0_0.index t = ![t.val, 0] := by decide +kernel
@[inherit_doc index_0]
theorem index_1 : ∀ t : Fin cfg0.N, win0_1.index t = ![0, 0, 0] := by decide +kernel
@[inherit_doc index_0]
theorem index_2 : ∀ t : Fin cfg0.N, win0_2.index t = ![t.val, 0] := by decide +kernel
@[inherit_doc index_0]
theorem index_3 : ∀ t : Fin cfg0.N, win0_3.index t = ![0, 0] := by decide +kernel
@[inherit_doc index_0]
theorem index_4 : ∀ t : Fin cfg0.N, win0_4.index t = ![0, 0] := by decide +kernel
@[inherit_doc index_0]
theorem index_5 : ∀ t : Fin cfg0.N, win0_5.index t = ![0, 0] := by decide +kernel
@[inherit_doc index_0]
theorem index_6 : ∀ t : Fin cfg0.N, win0_6.index t = ![t.val, 0] := by decide +kernel
@[inherit_doc index_0]
theorem index_7 : ∀ t : Fin cfg0.N, win0_7.index t = ![t.val, 0] := by decide +kernel
@[inherit_doc index_0]
theorem index_8 : ∀ t : Fin cfg0.N, win0_8.index t = ![t.val, 0] := by decide +kernel

include ha in
/-- A block of the mixer's rows. -/
theorem blk_a (u : Fin cfg0.N) : iblk m c 0 u = (arr 512 2048 .bf16 (fun i j => a (u.val * 512 + i) j) : FVec Ideal S512x2048 .bf16) := by
  funext y
  blk_simp [iblk]
  rw [V_main_arg0, ha]
  unfold arr
  blk_simp [index_0]

include hw in
/-- The weights as the kernel holds them, a one-array stack. -/
theorem entry : V m c main_v0 = (arr3 1 2048 1024 .bf16 (fun _ => w) : FVec Ideal S1x2048x1024 .bf16) := by
  refine Eq.trans ?_ ((congrArg (broadcastInDim S1x2048x1024 ![1, 2] bcast_S2048x1024_S1x2048x1024_1_2) hw).trans (broadcast_arr w _))
  unfold_abbrev_sides
  after_results

include hw in
/-- The weights, whole. -/
theorem blk_w (u : Fin cfg0.N) : iblk m c 1 u = (arr3 1 2048 1024 .bf16 (fun _ => w) : FVec Ideal S1x2048x1024 .bf16) := by
  funext y
  blk_simp [iblk]
  rw [entry m c w hw]
  unfold arr3
  blk_simp [index_1]

include hx in
/-- A block of the rows that enter the layer. -/
theorem blk_x (u : Fin cfg0.N) : iblk m c 2 u = (arr 512 1024 .f32 (fun i j => x (u.val * 512 + i) j) : FVec Ideal S512x1024 .f32) := by
  funext y
  blk_simp [iblk]
  rw [V_main_arg2, hx]
  unfold arr
  blk_simp [index_2]

include hs in
/-- The modulation, its bias and the gains, whole. -/
theorem blk_s (u : Fin cfg0.N) : iblk m c 3 u = (arr 1 6144 .f32 s : FVec Ideal S1x6144 .f32) := by
  funext y
  blk_simp [iblk]
  rw [V_main_arg3, hs]
  unfold arr
  blk_simp [index_3]

include ht in
@[inherit_doc blk_s]
theorem blk_t (u : Fin cfg0.N) : iblk m c 4 u = (arr 1 6144 .f32 t : FVec Ideal S1x6144 .f32) := by
  funext y
  blk_simp [iblk]
  rw [V_main_arg4, ht]
  unfold arr
  blk_simp [index_4]

include hg in
@[inherit_doc blk_s]
theorem blk_g (u : Fin cfg0.N) : iblk m c 5 u = (arr 2 1024 .f32 g : FVec Ideal S2x1024 .f32) := by
  funext y
  blk_simp [iblk]
  rw [V_main_arg5, hg]
  unfold arr
  blk_simp [index_5]

/-- The body's product. -/
theorem pay_mix (a' : ℕ → ℕ → EReal) :
    k0_pay2 (F := Ideal) (arr 512 2048 .bf16 a') (arr3 1 2048 1024 .bf16 fun _ => w) = arr 512 1024 .f32 (nn 2048 a' w) := by
  unfold k0_pay2
  dsimp only
  exact body_nn (M := 512) (K := 2048) (N := 1024) a' w shapeCasts_S1x2048x1024_S2048x1024

/-- The body's residual. -/
theorem pay_resid (a' x' : ℕ → ℕ → EReal) :
    k0_pay4 (F := Ideal) (arr 512 2048 .bf16 a') (arr3 1 2048 1024 .bf16 fun _ => w) (arr 512 1024 .f32 x') (arr 1 6144 .f32 s) (arr 1 6144 .f32 t)
      = arr 512 1024 .f32 (resid 2048 (nn 2048 a' w) x' s t) := by
  unfold k0_pay4
  rw [pay_mix]
  exact blockResid_arr slices_S1x6144_o0_2048_S1x1024 broadcasts_S1x1024_S512x1024 _ _ _ _

/-- The body's modulated norm. -/
theorem pay_norm (a' x' : ℕ → ℕ → EReal) :
    k0_pay1 (F := Ideal) (k0_pay5 (arr 512 2048 .bf16 a') (arr3 1 2048 1024 .bf16 fun _ => w) (arr 512 1024 .f32 x') (arr 1 6144 .f32 s)
        (arr 1 6144 .f32 t) (arr 2 1024 .f32 g))
      = arr 512 1024 .bf16 (normed 3072 4096 (resid 2048 (nn 2048 a' w) x' s t) s t (g 0)) := by
  unfold k0_pay1 k0_pay5
  rw [pay_resid]
  refine congrArg (fun z => truncf .bf16 z bitsLt_bf16_f32) (Eq.trans ?_ (blockNorm_arr slices_S1x6144_o0_3072_S1x1024
    slices_S1x6144_o0_4096_S1x1024 broadcasts_S1x1024_S512x1024 broadcasts_S512x1_S512x1024 reduces_S512x1024_S512
    shapeCasts_S512_S512x1 (resid 2048 (nn 2048 a' w) x' s t) s t fun _ => g 0))
  refine congrArg (blockNorm slices_S1x6144_o0_3072_S1x1024 slices_S1x6144_o0_4096_S1x1024 broadcasts_S1x1024_S512x1024
    broadcasts_S512x1_S512x1024 reduces_S512x1024_S512 shapeCasts_S512_S512x1 _ _ _) ((slice_arr 0 0 g slices_S2x1024_o0_0_S1x1024).trans ?_)
  refine arr_congr fun i hi j _ => ?_
  obtain rfl := Nat.lt_one_iff.mp hi
  exact congrArg (g 0) (Nat.zero_add j)

include ha hw in
/-- The product that the call leaves. -/
theorem result_mix : (dats m 0 c).arrAt 6 cfg0.N = (arr 2048 1024 .f32 (nn 2048 a w) : FVec Ideal S2048x1024 .f32) := by
  refine (dats m 0 c).arrAt_eq_of_covers 6 _ (by decide +kernel) fun u hf y => ?_
  blk_simp
  rw [after0_6]
  frame_out
  rw [blk_a m c a ha, blk_w m c w hw, pay_mix]
  unfold arr
  blk_simp [index_6]
  rfl

include ha hw hx hs ht in
/-- The residual that the call leaves. -/
theorem result_resid : (dats m 0 c).arrAt 7 cfg0.N = (arr 2048 1024 .f32 (resid 2048 (nn 2048 a w) x s t) : FVec Ideal S2048x1024 .f32) := by
  refine (dats m 0 c).arrAt_eq_of_covers 7 _ (by decide +kernel) fun u hf y => ?_
  blk_simp
  rw [after0_7]
  frame_out
  rw [blk_a m c a ha, blk_w m c w hw, blk_x m c x hx, blk_s m c s hs, blk_t m c t ht, pay_resid]
  unfold arr
  blk_simp [index_7]
  rfl

include ha hw hx hs ht hg in
/-- The modulated norm that the call leaves. -/
theorem result_norm : (dats m 0 c).arrAt 8 cfg0.N
    = (arr 2048 1024 .bf16 (normed 3072 4096 (resid 2048 (nn 2048 a w) x s t) s t (g 0)) : FVec Ideal S2048x1024 .bf16) := by
  refine (dats m 0 c).arrAt_eq_of_covers 8 _ (by decide +kernel) fun u hf y => ?_
  blk_simp
  rw [after0_8]
  frame_out
  rw [blk_a m c a ha, blk_w m c w hw, blk_x m c x hx, blk_s m c s hs, blk_t m c t ht, blk_g m c g hg, pay_norm]
  unfold arr
  blk_simp [index_8]
  rfl

end Kernel

section Reference
open Cert.RefRetMixIdeal Cert.RefRetMixIdeal.Gen Cert.RefRetMixIdeal.Read

variable (a w x s t g : ℕ → ℕ → EReal)

/-- The reference's product. -/
theorem reference_mix : val_main_v11 (F := Ideal) (arr 2048 2048 .bf16 a) (arr 2048 1024 .bf16 w) = arr 2048 1024 .f32 (nn 2048 a w) :=
  funext fun y => congrFun (host_nn (M := 2048) (K := 2048) (N := 1024) a w) y

/-- The reference's modulation at a column. -/
theorem modulation (i : S6144.Idx) :
    val_main_v2 (F := Ideal) (arr 1 6144 .f32 s) (arr 1 6144 .f32 t) i = ada s t (i 0).val := by
  have h : (i 0).val < 6144 := (i 0).isLt
  rw [val_main_v2_apply, val_main_v0_apply, val_main_v1_apply]
  show ada s t ((i 0).val % 6144) = _
  rw [Nat.mod_eq_of_lt h]

/-- The reference's residual. -/
theorem reference_resid : val_main_v15 (F := Ideal) (arr 2048 2048 .bf16 a) (arr 2048 1024 .bf16 w) (arr 2048 1024 .f32 x) (arr 1 6144 .f32 s)
    (arr 1 6144 .f32 t) = arr 2048 1024 .f32 (resid 2048 (nn 2048 a w) x s t) := by
  refine eq_arr fun i j => ?_
  rw [val_main_v15_apply, val_main_v14_apply, val_main_v13_apply, val_main_v12_apply, val_main_v5_apply, modulation, reference_mix]
  rfl

/-- The reference's modulated norm. -/
theorem reference_norm : val_main_v39 (F := Ideal) (arr 2048 2048 .bf16 a) (arr 2048 1024 .bf16 w) (arr 2048 1024 .f32 x) (arr 1 6144 .f32 s)
    (arr 1 6144 .f32 t) (arr 2 1024 .f32 g) = arr 2048 1024 .bf16 (normed 3072 4096 (resid 2048 (nn 2048 a w) x s t) s t (g 0)) := by
  refine eq_arr fun i j => ?_
  have hz : Ideal.ofBits .f32 0x00000000#32 = 0 := Ideal.ofBits_zero_f32
  unfold normed
  rw [← zero_add (∑ d ∈ Finset.range 1024, _), ← hz]
  rw [val_main_v39_apply, val_main_v38_apply, val_main_v37_apply, val_main_v36_apply, val_main_v6_apply, modulation,
    val_main_v35_apply, val_main_v34_apply, val_main_v33_apply, val_main_v32_apply, val_main_cst_2_apply, val_main_v31_apply,
    val_main_v7_apply, modulation, val_main_v30_apply, val_main_v29_apply, val_main_v28_apply, val_main_v17_apply, val_main_v16_apply,
    val_main_v27_apply, val_main_v26_apply, val_main_v25_apply, val_main_v24_apply, val_main_v23_apply, val_main_cst_1_apply,
    val_main_v22_apply, val_main_v21_apply, val_main_cst_0_apply, val_main_v20_apply, val_main_v19_apply, val_main_cst_apply]
  have e : ∀ k : Fin 1024, val_main_v18 (F := Ideal) (arr 2048 2048 .bf16 a) (arr 2048 1024 .bf16 w) (arr 2048 1024 .f32 x) (arr 1 6144 .f32 s)
      (arr 1 6144 .f32 t) (idx_main_v19 (idx_main_v20 (idx_main_v26 (ix2 i j))) k)
      = (fun d => resid 2048 (nn 2048 a w) x s t i.val d * resid 2048 (nn 2048 a w) x s t i.val d) k.val := fun k => by
    rw [val_main_v18_apply, reference_resid]
    rfl
  rw [(Finset.sum_congr rfl fun k _ => e k).trans (sum_fin (fun d => resid 2048 (nn 2048 a w) x s t i.val d * resid 2048 (nn 2048 a w) x s t i.val d) 1024),
    reference_resid]
  have hj : j.val % 1024 = j.val := Nat.mod_eq_of_lt j.isLt
  show _ * _ * g _ (j.val % 1024) * _ + _ = _
  rw [hj]
  rfl

end Reference

section Claims
open Cert.RetMixIdeal

/-- The kernel's frame at the machine's own numbers. -/
theorem frame_p : Cert.quiescent_RetMix := fun m g _ => Cert.RetMix.Gen.frame m g

/-- The idealized kernel's frame. -/
theorem frame_pi : Cert.quiescent_RetMixIdeal := fun m g _ => Cert.RetMixIdeal.Gen.frame m g

/-- The reference's frame. -/
theorem frame_r : Cert.quiescent_RefRetMixIdeal := fun m g _ =>
  (θ_run Cert.RefRetMixIdeal.defs _ _).mono (fun r h => ⟨fun c => (h c).2.2.2, sem_eq_zero_of_no_sems (by decide) r.2⟩)
    (Cert.RefRetMixIdeal.Value.run m g)

/-- The idealized kernel is the kernel's own text. -/
theorem preserves : Cert.preserves_RetMix_RetMixIdeal := trivial

/-- The kernel and the reference end with equal arrays. -/
theorem algebraic : Cert.algebraic_RetMixIdeal_RefRetMixIdeal := by
  intro m g m' g' _ hagree
  refine ⟨fun c => (Cert.RetMixIdeal.Gen.dats m 0 c).arrAt 6 _, fun c => (Cert.RetMixIdeal.Gen.dats m 0 c).arrAt 7 _,
    fun c => (Cert.RetMixIdeal.Gen.dats m 0 c).arrAt 8 _, Cert.RetMixIdeal.Value.run_blocks m g,
    (θ_run Cert.RefRetMixIdeal.defs _ _).mono (fun r h c => ⟨(h c).1.trans ?_, (h c).2.1.trans ?_, (h c).2.2.1.trans ?_, (h c).2.2.2⟩)
      (Cert.RefRetMixIdeal.Value.run m' g')⟩
  all_goals
    obtain ⟨a0, a1, a2, a3, a4, a5⟩ := hagree c
    obtain ⟨a, ha⟩ := exists_arr (n := 2048) (m := 2048) (φ := .bf16) (m ((c.tc : Thread nD τ).loc main_arg0))
    obtain ⟨w, hw⟩ := exists_arr (n := 2048) (m := 1024) (φ := .bf16) (m ((c.tc : Thread nD τ).loc main_arg1))
    obtain ⟨x, hx⟩ := exists_arr (n := 2048) (m := 1024) (φ := .f32) (m ((c.tc : Thread nD τ).loc main_arg2))
    obtain ⟨s, hs⟩ := exists_arr (n := 1) (m := 6144) (φ := .f32) (m ((c.tc : Thread nD τ).loc main_arg3))
    obtain ⟨t, ht⟩ := exists_arr (n := 1) (m := 6144) (φ := .f32) (m ((c.tc : Thread nD τ).loc main_arg4))
    obtain ⟨g, hg⟩ := exists_arr (n := 2) (m := 1024) (φ := .f32) (m ((c.tc : Thread nD τ).loc main_arg5))
  · rw [Cert.RefRetMixIdeal.Read.val_main_v11_eq, a0, a1, ha, hw]
    exact (reference_mix a w).trans (result_mix m c a w ha hw).symm
  · rw [Cert.RefRetMixIdeal.Read.val_main_v15_eq, a0, a1, a2, a3, a4, ha, hw, hx, hs, ht]
    exact (reference_resid a w x s t).trans (result_resid m c a w x s t ha hw hx hs ht).symm
  · rw [Cert.RefRetMixIdeal.Read.val_main_v39_eq, a0, a1, a2, a3, a4, a5, ha, hw, hx, hs, ht, hg]
    exact (reference_norm a w x s t g).trans (result_norm m c a w x s t g ha hw hx hs ht hg).symm

end Claims

end Cert.Proof.RetMix
-- ==== Proof.FoxMix.lean ====
module

public import proofs.«01_k».proof.Defs
public import proofs.«01_k».proof.Proof.Gen.FoxMix.Frame
public import proofs.«01_k».proof.Proof.Gen.FoxMixIdeal.Value
public import proofs.«01_k».proof.Proof.Gen.RefFoxMixIdeal.Read
public import proofs.«01_k».proof.Proof.Mixer
public import Idealize.ShloMosaic.Lib.Quiescent
public import Idealize.ShloMosaic.Lib.Pipeline.ValueKit.Geometry
public import Idealize.ShloMosaic.Lib.Pipeline.ValueKit.Acc

/-!
The projection out of the attention with what follows it: the residual, and the modulated norm that enters the MLP.
-/

@[expose] public section

set_option maxRecDepth 16384

noncomputable section

open scoped BigOperators

namespace Cert.Proof.FoxMix

open Idealize.ShloMosaic Idealize.ShloMosaic.TcCoe Idealize.ShloMosaic.ValueIdx Idealize.SL.Sem Ret

section Kernel
open Cert.FoxMixIdeal Cert.FoxMixIdeal.Gen Cert.FoxMixIdeal.Value

variable (m : (ℓ : Loc nD τ sig) → Buf (Elt Ideal) ℓ) (c : Dev nD) (a w x s t g : ℕ → ℕ → EReal)
  (ha : m ((c : Thread nD τ).loc main_arg0) = (arr 2048 1024 .bf16 a : FVec Ideal S2048x1024 .bf16))
  (hw : m ((c : Thread nD τ).loc main_arg1) = (arr 1024 1024 .bf16 w : FVec Ideal S1024x1024 .bf16))
  (hx : m ((c : Thread nD τ).loc main_arg2) = (arr 2048 1024 .f32 x : FVec Ideal S2048x1024 .f32))
  (hs : m ((c : Thread nD τ).loc main_arg3) = (arr 1 6144 .f32 s : FVec Ideal S1x6144 .f32))
  (ht : m ((c : Thread nD τ).loc main_arg4) = (arr 1 6144 .f32 t : FVec Ideal S1x6144 .f32))
  (hg : m ((c : Thread nD τ).loc main_arg5) = (arr 2 1024 .f32 g : FVec Ideal S2x1024 .f32))

/-- The blocks' places. -/
theorem index_0 : ∀ t : Fin cfg0.N, win0_0.index t = ![t.val, 0] := by decide +kernel
@[inherit_doc index_0]
theorem index_1 : ∀ t : Fin cfg0.N, win0_1.index t = ![0, 0, 0] := by decide +kernel
@[inherit_doc index_0]
theorem index_2 : ∀ t : Fin cfg0.N, win0_2.index t = ![t.val, 0] := by decide +kernel
@[inherit_doc index_0]
theorem index_3 : ∀ t : Fin cfg0.N, win0_3.index t = ![0, 0] := by decide +kernel
@[inherit_doc index_0]
theorem index_4 : ∀ t : Fin cfg0.N, win0_4.index t = ![0, 0] := by decide +kernel
@[inherit_doc index_0]
theorem index_5 : ∀ t : Fin cfg0.N, win0_5.index t = ![0, 0] := by decide +kernel
@[inherit_doc index_0]
theorem index_6 : ∀ t : Fin cfg0.N, win0_6.index t = ![t.val, 0] := by decide +kernel
@[inherit_doc index_0]
theorem index_7 : ∀ t : Fin cfg0.N, win0_7.index t = ![t.val, 0] := by decide +kernel
@[inherit_doc index_0]
theorem index_8 : ∀ t : Fin cfg0.N, win0_8.index t = ![t.val, 0] := by decide +kernel

include ha in
/-- A block of the mixer's rows. -/
theorem blk_a (u : Fin cfg0.N) : iblk m c 0 u = (arr 512 1024 .bf16 (fun i j => a (u.val * 512 + i) j) : FVec Ideal S512x1024 .bf16) := by
  funext y
  blk_simp [iblk]
  rw [V_main_arg0, ha]
  unfold arr
  blk_simp [index_0]

include hw in
/-- The weights as the kernel holds them, a one-array stack. -/
theorem entry : V m c main_v0 = (arr3 1 1024 1024 .bf16 (fun _ => w) : FVec Ideal S1x1024x1024 .bf16) := by
  refine Eq.trans ?_ ((congrArg (broadcastInDim S1x1024x1024 ![1, 2] bcast_S1024x1024_S1x1024x1024_1_2) hw).trans (broadcast_arr w _))
  unfold_abbrev_sides
  after_results

include hw in
/-- The weights, whole. -/
theorem blk_w (u : Fin cfg0.N) : iblk m c 1 u = (arr3 1 1024 1024 .bf16 (fun _ => w) : FVec Ideal S1x1024x1024 .bf16) := by
  funext y
  blk_simp [iblk]
  rw [entry m c w hw]
  unfold arr3
  blk_simp [index_1]

include hx in
/-- A block of the rows that enter the layer. -/
theorem blk_x (u : Fin cfg0.N) : iblk m c 2 u = (arr 512 1024 .f32 (fun i j => x (u.val * 512 + i) j) : FVec Ideal S512x1024 .f32) := by
  funext y
  blk_simp [iblk]
  rw [V_main_arg2, hx]
  unfold arr
  blk_simp [index_2]

include hs in
/-- The modulation, its bias and the gains, whole. -/
theorem blk_s (u : Fin cfg0.N) : iblk m c 3 u = (arr 1 6144 .f32 s : FVec Ideal S1x6144 .f32) := by
  funext y
  blk_simp [iblk]
  rw [V_main_arg3, hs]
  unfold arr
  blk_simp [index_3]

include ht in
@[inherit_doc blk_s]
theorem blk_t (u : Fin cfg0.N) : iblk m c 4 u = (arr 1 6144 .f32 t : FVec Ideal S1x6144 .f32) := by
  funext y
  blk_simp [iblk]
  rw [V_main_arg4, ht]
  unfold arr
  blk_simp [index_4]

include hg in
@[inherit_doc blk_s]
theorem blk_g (u : Fin cfg0.N) : iblk m c 5 u = (arr 2 1024 .f32 g : FVec Ideal S2x1024 .f32) := by
  funext y
  blk_simp [iblk]
  rw [V_main_arg5, hg]
  unfold arr
  blk_simp [index_5]

/-- The body's product. -/
theorem pay_mix (a' : ℕ → ℕ → EReal) :
    k0_pay2 (F := Ideal) (arr 512 1024 .bf16 a') (arr3 1 1024 1024 .bf16 fun _ => w) = arr 512 1024 .f32 (nn 1024 a' w) := by
  unfold k0_pay2
  dsimp only
  exact body_nn (M := 512) (K := 1024) (N := 1024) a' w shapeCasts_S1x1024x1024_S1024x1024

/-- The body's residual. -/
theorem pay_resid (a' x' : ℕ → ℕ → EReal) :
    k0_pay4 (F := Ideal) (arr 512 1024 .bf16 a') (arr3 1 1024 1024 .bf16 fun _ => w) (arr 512 1024 .f32 x') (arr 1 6144 .f32 s) (arr 1 6144 .f32 t)
      = arr 512 1024 .f32 (resid 2048 (nn 1024 a' w) x' s t) := by
  unfold k0_pay4
  rw [pay_mix]
  exact blockResid_arr slices_S1x6144_o0_2048_S1x1024 broadcasts_S1x1024_S512x1024 _ _ _ _

/-- The body's modulated norm. -/
theorem pay_norm (a' x' : ℕ → ℕ → EReal) :
    k0_pay1 (F := Ideal) (k0_pay5 (arr 512 1024 .bf16 a') (arr3 1 1024 1024 .bf16 fun _ => w) (arr 512 1024 .f32 x') (arr 1 6144 .f32 s)
        (arr 1 6144 .f32 t) (arr 2 1024 .f32 g))
      = arr 512 1024 .bf16 (normed 3072 4096 (resid 2048 (nn 1024 a' w) x' s t) s t (g 1)) := by
  unfold k0_pay1 k0_pay5
  rw [pay_resid]
  refine congrArg (fun z => truncf .bf16 z bitsLt_bf16_f32) (Eq.trans ?_ (blockNorm_arr slices_S1x6144_o0_3072_S1x1024
    slices_S1x6144_o0_4096_S1x1024 broadcasts_S1x1024_S512x1024 broadcasts_S512x1_S512x1024 reduces_S512x1024_S512
    shapeCasts_S512_S512x1 (resid 2048 (nn 1024 a' w) x' s t) s t fun _ => g 1))
  refine congrArg (blockNorm slices_S1x6144_o0_3072_S1x1024 slices_S1x6144_o0_4096_S1x1024 broadcasts_S1x1024_S512x1024
    broadcasts_S512x1_S512x1024 reduces_S512x1024_S512 shapeCasts_S512_S512x1 _ _ _) ((slice_arr 1 0 g slices_S2x1024_o1_0_S1x1024).trans ?_)
  refine arr_congr fun i hi j _ => ?_
  obtain rfl := Nat.lt_one_iff.mp hi
  exact congrArg (g 1) (Nat.zero_add j)

include ha hw in
/-- The product that the call leaves. -/
theorem result_mix : (dats m 0 c).arrAt 6 cfg0.N = (arr 2048 1024 .f32 (nn 1024 a w) : FVec Ideal S2048x1024 .f32) := by
  refine (dats m 0 c).arrAt_eq_of_covers 6 _ (by decide +kernel) fun u hf y => ?_
  blk_simp
  rw [after0_6]
  frame_out
  rw [blk_a m c a ha, blk_w m c w hw, pay_mix]
  unfold arr
  blk_simp [index_6]
  rfl

include ha hw hx hs ht in
/-- The residual that the call leaves. -/
theorem result_resid : (dats m 0 c).arrAt 7 cfg0.N = (arr 2048 1024 .f32 (resid 2048 (nn 1024 a w) x s t) : FVec Ideal S2048x1024 .f32) := by
  refine (dats m 0 c).arrAt_eq_of_covers 7 _ (by decide +kernel) fun u hf y => ?_
  blk_simp
  rw [after0_7]
  frame_out
  rw [blk_a m c a ha, blk_w m c w hw, blk_x m c x hx, blk_s m c s hs, blk_t m c t ht, pay_resid]
  unfold arr
  blk_simp [index_7]
  rfl

include ha hw hx hs ht hg in
/-- The modulated norm that the call leaves. -/
theorem result_norm : (dats m 0 c).arrAt 8 cfg0.N
    = (arr 2048 1024 .bf16 (normed 3072 4096 (resid 2048 (nn 1024 a w) x s t) s t (g 1)) : FVec Ideal S2048x1024 .bf16) := by
  refine (dats m 0 c).arrAt_eq_of_covers 8 _ (by decide +kernel) fun u hf y => ?_
  blk_simp
  rw [after0_8]
  frame_out
  rw [blk_a m c a ha, blk_w m c w hw, blk_x m c x hx, blk_s m c s hs, blk_t m c t ht, blk_g m c g hg, pay_norm]
  unfold arr
  blk_simp [index_8]
  rfl

end Kernel

section Reference
open Cert.RefFoxMixIdeal Cert.RefFoxMixIdeal.Gen Cert.RefFoxMixIdeal.Read

variable (a w x s t g : ℕ → ℕ → EReal)

/-- The reference's product. -/
theorem reference_mix : val_main_v11 (F := Ideal) (arr 2048 1024 .bf16 a) (arr 1024 1024 .bf16 w) = arr 2048 1024 .f32 (nn 1024 a w) :=
  funext fun y => congrFun (host_nn (M := 2048) (K := 1024) (N := 1024) a w) y

/-- The reference's modulation at a column. -/
theorem modulation (i : S6144.Idx) :
    val_main_v2 (F := Ideal) (arr 1 6144 .f32 s) (arr 1 6144 .f32 t) i = ada s t (i 0).val := by
  have h : (i 0).val < 6144 := (i 0).isLt
  rw [val_main_v2_apply, val_main_v0_apply, val_main_v1_apply]
  show ada s t ((i 0).val % 6144) = _
  rw [Nat.mod_eq_of_lt h]

/-- The reference's residual. -/
theorem reference_resid : val_main_v15 (F := Ideal) (arr 2048 1024 .bf16 a) (arr 1024 1024 .bf16 w) (arr 2048 1024 .f32 x) (arr 1 6144 .f32 s)
    (arr 1 6144 .f32 t) = arr 2048 1024 .f32 (resid 2048 (nn 1024 a w) x s t) := by
  refine eq_arr fun i j => ?_
  rw [val_main_v15_apply, val_main_v14_apply, val_main_v13_apply, val_main_v12_apply, val_main_v5_apply, modulation, reference_mix]
  rfl

/-- The reference's modulated norm. -/
theorem reference_norm : val_main_v39 (F := Ideal) (arr 2048 1024 .bf16 a) (arr 1024 1024 .bf16 w) (arr 2048 1024 .f32 x) (arr 1 6144 .f32 s)
    (arr 1 6144 .f32 t) (arr 2 1024 .f32 g) = arr 2048 1024 .bf16 (normed 3072 4096 (resid 2048 (nn 1024 a w) x s t) s t (g 1)) := by
  refine eq_arr fun i j => ?_
  have hz : Ideal.ofBits .f32 0x00000000#32 = 0 := Ideal.ofBits_zero_f32
  unfold normed
  rw [← zero_add (∑ d ∈ Finset.range 1024, _), ← hz]
  rw [val_main_v39_apply, val_main_v38_apply, val_main_v37_apply, val_main_v36_apply, val_main_v6_apply, modulation,
    val_main_v35_apply, val_main_v34_apply, val_main_v33_apply, val_main_v32_apply, val_main_cst_2_apply, val_main_v31_apply,
    val_main_v7_apply, modulation, val_main_v30_apply, val_main_v29_apply, val_main_v28_apply, val_main_v17_apply, val_main_v16_apply,
    val_main_v27_apply, val_main_v26_apply, val_main_v25_apply, val_main_v24_apply, val_main_v23_apply, val_main_cst_1_apply,
    val_main_v22_apply, val_main_v21_apply, val_main_cst_0_apply, val_main_v20_apply, val_main_v19_apply, val_main_cst_apply]
  have e : ∀ k : Fin 1024, val_main_v18 (F := Ideal) (arr 2048 1024 .bf16 a) (arr 1024 1024 .bf16 w) (arr 2048 1024 .f32 x) (arr 1 6144 .f32 s)
      (arr 1 6144 .f32 t) (idx_main_v19 (idx_main_v20 (idx_main_v26 (ix2 i j))) k)
      = (fun d => resid 2048 (nn 1024 a w) x s t i.val d * resid 2048 (nn 1024 a w) x s t i.val d) k.val := fun k => by
    rw [val_main_v18_apply, reference_resid]
    rfl
  rw [(Finset.sum_congr rfl fun k _ => e k).trans (sum_fin (fun d => resid 2048 (nn 1024 a w) x s t i.val d * resid 2048 (nn 1024 a w) x s t i.val d) 1024),
    reference_resid]
  have hj : j.val % 1024 = j.val := Nat.mod_eq_of_lt j.isLt
  show _ * _ * g _ (j.val % 1024) * _ + _ = _
  rw [hj]
  rfl

end Reference

section Claims
open Cert.FoxMixIdeal

/-- The kernel's frame at the machine's own numbers. -/
theorem frame_p : Cert.quiescent_FoxMix := fun m g _ => Cert.FoxMix.Gen.frame m g

/-- The idealized kernel's frame. -/
theorem frame_pi : Cert.quiescent_FoxMixIdeal := fun m g _ => Cert.FoxMixIdeal.Gen.frame m g

/-- The reference's frame. -/
theorem frame_r : Cert.quiescent_RefFoxMixIdeal := fun m g _ =>
  (θ_run Cert.RefFoxMixIdeal.defs _ _).mono (fun r h => ⟨fun c => (h c).2.2.2, sem_eq_zero_of_no_sems (by decide) r.2⟩)
    (Cert.RefFoxMixIdeal.Value.run m g)

/-- The idealized kernel is the kernel's own text. -/
theorem preserves : Cert.preserves_FoxMix_FoxMixIdeal := trivial

/-- The kernel and the reference end with equal arrays. -/
theorem algebraic : Cert.algebraic_FoxMixIdeal_RefFoxMixIdeal := by
  intro m g m' g' _ hagree
  refine ⟨fun c => (Cert.FoxMixIdeal.Gen.dats m 0 c).arrAt 6 _, fun c => (Cert.FoxMixIdeal.Gen.dats m 0 c).arrAt 7 _,
    fun c => (Cert.FoxMixIdeal.Gen.dats m 0 c).arrAt 8 _, Cert.FoxMixIdeal.Value.run_blocks m g,
    (θ_run Cert.RefFoxMixIdeal.defs _ _).mono (fun r h c => ⟨(h c).1.trans ?_, (h c).2.1.trans ?_, (h c).2.2.1.trans ?_, (h c).2.2.2⟩)
      (Cert.RefFoxMixIdeal.Value.run m' g')⟩
  all_goals
    obtain ⟨a0, a1, a2, a3, a4, a5⟩ := hagree c
    obtain ⟨a, ha⟩ := exists_arr (n := 2048) (m := 1024) (φ := .bf16) (m ((c.tc : Thread nD τ).loc main_arg0))
    obtain ⟨w, hw⟩ := exists_arr (n := 1024) (m := 1024) (φ := .bf16) (m ((c.tc : Thread nD τ).loc main_arg1))
    obtain ⟨x, hx⟩ := exists_arr (n := 2048) (m := 1024) (φ := .f32) (m ((c.tc : Thread nD τ).loc main_arg2))
    obtain ⟨s, hs⟩ := exists_arr (n := 1) (m := 6144) (φ := .f32) (m ((c.tc : Thread nD τ).loc main_arg3))
    obtain ⟨t, ht⟩ := exists_arr (n := 1) (m := 6144) (φ := .f32) (m ((c.tc : Thread nD τ).loc main_arg4))
    obtain ⟨g, hg⟩ := exists_arr (n := 2) (m := 1024) (φ := .f32) (m ((c.tc : Thread nD τ).loc main_arg5))
  · rw [Cert.RefFoxMixIdeal.Read.val_main_v11_eq, a0, a1, ha, hw]
    exact (reference_mix a w).trans (result_mix m c a w ha hw).symm
  · rw [Cert.RefFoxMixIdeal.Read.val_main_v15_eq, a0, a1, a2, a3, a4, ha, hw, hx, hs, ht]
    exact (reference_resid a w x s t).trans (result_resid m c a w x s t ha hw hx hs ht).symm
  · rw [Cert.RefFoxMixIdeal.Read.val_main_v39_eq, a0, a1, a2, a3, a4, a5, ha, hw, hx, hs, ht, hg]
    exact (reference_norm a w x s t g).trans (result_norm m c a w x s t g ha hw hx hs ht hg).symm

end Claims

end Cert.Proof.FoxMix
-- ==== Proof.FoxGate.lean ====
module

public import proofs.«01_k».proof.Defs
public import proofs.«01_k».proof.Proof.Gen.FoxGate.Frame
public import proofs.«01_k».proof.Proof.Gen.FoxGateIdeal.Value
public import proofs.«01_k».proof.Proof.Gen.RefFoxGateIdeal.Read
public import proofs.«01_k».proof.Proof.RefParts
public import proofs.«01_k».proof.Proof.Arr
public import Idealize.ShloMosaic.Lib.Quiescent
public import Idealize.ShloMosaic.Lib.Pipeline.ValueKit.Geometry
public import Idealize.ShloMosaic.Lib.Pipeline.ValueKit.Acc

/-!
The gate after the attention: the sigmoid of the gate times the attention's rows.
-/

@[expose] public section

set_option maxRecDepth 16384

noncomputable section

open scoped BigOperators

namespace Cert.Proof.FoxGate

open Idealize.ShloMosaic Idealize.ShloMosaic.TcCoe Idealize.ShloMosaic.ValueIdx Idealize.SL.Sem Ret

section Claims
open Cert.FoxGateIdeal

/-- The kernel's frame at the machine's own numbers. -/
theorem frame_p : Cert.quiescent_FoxGate := fun m g _ => Cert.FoxGate.Gen.frame m g

/-- The idealized kernel's frame. -/
theorem frame_pi : Cert.quiescent_FoxGateIdeal := fun m g _ => Cert.FoxGateIdeal.Gen.frame m g

/-- The reference's frame. -/
theorem frame_r : Cert.quiescent_RefFoxGateIdeal := fun m g _ =>
  (θ_run Cert.RefFoxGateIdeal.defs _ _).mono (fun r h => ⟨fun c => (h c).2, sem_eq_zero_of_no_sems (by decide) r.2⟩)
    (Cert.RefFoxGateIdeal.Value.run m g)

/-- The idealized kernel is the kernel's own text. -/
theorem preserves : Cert.preserves_FoxGate_FoxGateIdeal := trivial

/-- The kernel and the reference end with equal arrays. -/
theorem algebraic : Cert.algebraic_FoxGateIdeal_RefFoxGateIdeal := by
  intro m g m' g' _ hagree
  refine ⟨_, Cert.FoxGateIdeal.Value.run m g, (θ_run Cert.RefFoxGateIdeal.defs _ _).mono (fun r h c => ⟨(h c).1.trans ?_, (h c).2⟩)
    (Cert.RefFoxGateIdeal.Value.run m' g')⟩
  obtain ⟨a0, a1⟩ := hagree c
  obtain ⟨o, ho⟩ := exists_arr (n := 2048) (m := 2048) (φ := .f32) (m ((c.tc : Thread nD τ).loc main_arg0))
  obtain ⟨y, hy⟩ := exists_arr (n := 2048) (m := 1024) (φ := .f32) (m ((c.tc : Thread nD τ).loc main_arg1))
  rw [Cert.RefFoxGateIdeal.Read.val_main_v9_eq, a0, a1, ho, hy]
  funext i
  rw [Cert.RefFoxGateIdeal.Read.val_main_v9_apply, Cert.RefFoxGateIdeal.Read.val_main_v8_apply, Cert.RefFoxGateIdeal.Read.val_main_v7_apply,
    Cert.RefFoxGateIdeal.Read.val_main_v6_apply, Cert.RefFoxGateIdeal.Read.val_main_cst_0_apply, Cert.RefFoxGateIdeal.Read.val_main_v5_apply,
    Cert.RefFoxGateIdeal.Read.val_main_v4_apply, Cert.RefFoxGateIdeal.Read.val_main_cst_apply, Cert.RefFoxGateIdeal.Read.val_main_v3_apply,
    Cert.RefFoxGateIdeal.Read.val_main_v2_apply, Cert.RefFoxGateIdeal.Read.val_main_v1_apply]
  have h1 : Ideal.ofBits .f32 0x3F800000#32 = 1 := ofBits_one
  show Ideal.div (Ideal.ofBits .f32 0x3F800000#32) (Ideal.ofBits .f32 0x3F800000#32 + Ideal.exp (-o (i 0).val (1024 + (i 1).val))) * _
    = Ideal.div 1 (1 + Ideal.exp (-o (i 0).val ((i 1).val + 1024))) * _
  rw [h1, Nat.add_comm 1024]

end Claims

end Cert.Proof.FoxGate
-- ==== Proof.ModMix.lean ====
module

public import proofs.«01_k».proof.Defs
public import proofs.«01_k».proof.Proof.Gen.ModMix.Frame
public import proofs.«01_k».proof.Proof.Gen.ModMixIdeal.Value
public import proofs.«01_k».proof.Proof.Gen.RefModMixIdeal.Read
public import proofs.«01_k».proof.Proof.Mixer
public import Idealize.ShloMosaic.Lib.Quiescent
public import Idealize.ShloMosaic.Lib.Pipeline.ValueKit.Geometry
public import Idealize.ShloMosaic.Lib.Pipeline.ValueKit.Acc

/-!
The modulated norm of the rows that enter the first layer's mixer.
-/

@[expose] public section

set_option maxRecDepth 16384

noncomputable section

open scoped BigOperators

namespace Cert.Proof.ModMix

open Idealize.ShloMosaic Idealize.ShloMosaic.TcCoe Idealize.ShloMosaic.ValueIdx Idealize.SL.Sem Ret

section Kernel
open Cert.ModMixIdeal Cert.ModMixIdeal.Gen Cert.ModMixIdeal.Value

variable (m : (ℓ : Loc nD τ sig) → Buf (Elt Ideal) ℓ) (c : Dev nD) (x s t g : ℕ → ℕ → EReal)
  (hx : m ((c : Thread nD τ).loc main_arg0) = (arr 2048 1024 .f32 x : FVec Ideal S2048x1024 .f32))
  (hs : m ((c : Thread nD τ).loc main_arg1) = (arr 1 6144 .f32 s : FVec Ideal S1x6144 .f32))
  (ht : m ((c : Thread nD τ).loc main_arg2) = (arr 1 6144 .f32 t : FVec Ideal S1x6144 .f32))
  (hg : m ((c : Thread nD τ).loc main_arg3) = (arr 2 1024 .f32 g : FVec Ideal S2x1024 .f32))

/-- The blocks' places. -/
theorem index_0 : ∀ t : Fin cfg0.N, win0_0.index t = ![t.val, 0] := by decide +kernel
@[inherit_doc index_0]
theorem index_1 : ∀ t : Fin cfg0.N, win0_1.index t = ![0, 0] := by decide +kernel
@[inherit_doc index_0]
theorem index_2 : ∀ t : Fin cfg0.N, win0_2.index t = ![0, 0] := by decide +kernel
@[inherit_doc index_0]
theorem index_3 : ∀ t : Fin cfg0.N, win0_3.index t = ![0, 0] := by decide +kernel
@[inherit_doc index_0]
theorem index_4 : ∀ t : Fin cfg0.N, win0_4.index t = ![t.val, 0] := by decide +kernel

include hx in
/-- A block of the rows. -/
theorem blk_x (u : Fin cfg0.N) : iblk m c 0 u = (arr 1024 1024 .f32 (fun i j => x (u.val * 1024 + i) j) : FVec Ideal S1024x1024 .f32) := by
  funext y
  blk_simp [iblk]
  rw [V_main_arg0, hx]
  unfold arr
  blk_simp [index_0]

include hs in
/-- The modulation, whole. -/
theorem blk_s (u : Fin cfg0.N) : iblk m c 1 u = (arr 1 6144 .f32 s : FVec Ideal S1x6144 .f32) := by
  funext y
  blk_simp [iblk]
  rw [V_main_arg1, hs]
  unfold arr
  blk_simp [index_1]

include ht in
/-- The modulation's bias, whole. -/
theorem blk_t (u : Fin cfg0.N) : iblk m c 2 u = (arr 1 6144 .f32 t : FVec Ideal S1x6144 .f32) := by
  funext y
  blk_simp [iblk]
  rw [V_main_arg2, ht]
  unfold arr
  blk_simp [index_2]

include hg in
/-- The gains, whole. -/
theorem blk_g (u : Fin cfg0.N) : iblk m c 3 u = (arr 2 1024 .f32 g : FVec Ideal S2x1024 .f32) := by
  funext y
  blk_simp [iblk]
  rw [V_main_arg3, hg]
  unfold arr
  blk_simp [index_3]

/-- The body's modulated norm. -/
theorem pay_norm (x' : ℕ → ℕ → EReal) :
    k0_pay1 (F := Ideal) (arr 1024 1024 .f32 x') (arr 1 6144 .f32 s) (arr 1 6144 .f32 t) (arr 2 1024 .f32 g)
      = arr 1024 1024 .bf16 (normed 0 1024 x' s t (g 0)) := by
  unfold k0_pay1
  refine congrArg (fun z => truncf .bf16 z bitsLt_bf16_f32) (Eq.trans ?_ (blockNorm_arr slices_S1x6144_o0_0_S1x1024
    slices_S1x6144_o0_1024_S1x1024 broadcasts_S1x1024_S1024x1024 broadcasts_S1024x1_S1024x1024 reduces_S1024x1024_S1024
    shapeCasts_S1024_S1024x1 x' s t fun _ => g 0))
  refine congrArg (blockNorm slices_S1x6144_o0_0_S1x1024 slices_S1x6144_o0_1024_S1x1024 broadcasts_S1x1024_S1024x1024
    broadcasts_S1024x1_S1024x1024 reduces_S1024x1024_S1024 shapeCasts_S1024_S1024x1 _ _ _)
    ((slice_arr 0 0 g slices_S2x1024_o0_0_S1x1024).trans ?_)
  refine arr_congr fun i hi j _ => ?_
  obtain rfl := Nat.lt_one_iff.mp hi
  exact congrArg (g 0) (Nat.zero_add j)

include hx hs ht hg in
/-- The modulated norm that the call leaves. -/
theorem result_norm : (dats m 0 c).arrAt 4 cfg0.N = (arr 2048 1024 .bf16 (normed 0 1024 x s t (g 0)) : FVec Ideal S2048x1024 .bf16) := by
  refine (dats m 0 c).arrAt_eq_of_covers 4 _ (by decide +kernel) fun u hf y => ?_
  blk_simp
  rw [after0_4]
  frame_out
  rw [blk_x m c x hx, blk_s m c s hs, blk_t m c t ht, blk_g m c g hg, pay_norm]
  unfold arr
  blk_simp [index_4]
  rfl

end Kernel

section Reference
open Cert.RefModMixIdeal Cert.RefModMixIdeal.Gen Cert.RefModMixIdeal.Read

variable (x s t g : ℕ → ℕ → EReal)

/-- The reference's modulation at a column. -/
theorem modulation (i : S6144.Idx) :
    val_main_v2 (F := Ideal) (arr 1 6144 .f32 s) (arr 1 6144 .f32 t) i = ada s t (i 0).val := by
  have h : (i 0).val < 6144 := (i 0).isLt
  rw [val_main_v2_apply, val_main_v0_apply, val_main_v1_apply]
  show ada s t ((i 0).val % 6144) = _
  rw [Nat.mod_eq_of_lt h]

/-- The reference's modulated norm. -/
theorem reference_norm : val_main_v32 (F := Ideal) (arr 2048 1024 .f32 x) (arr 1 6144 .f32 s) (arr 1 6144 .f32 t) (arr 2 1024 .f32 g)
    = arr 2048 1024 .bf16 (normed 0 1024 x s t (g 0)) := by
  refine eq_arr fun i j => ?_
  have hz : Ideal.ofBits .f32 0x00000000#32 = 0 := Ideal.ofBits_zero_f32
  unfold normed
  rw [← zero_add (∑ d ∈ Finset.range 1024, _), ← hz]
  rw [val_main_v32_apply, val_main_v31_apply, val_main_v30_apply, val_main_v29_apply, val_main_v3_apply, modulation,
    val_main_v28_apply, val_main_v27_apply, val_main_v26_apply, val_main_v25_apply, val_main_cst_2_apply, val_main_v24_apply,
    val_main_v4_apply, modulation, val_main_v23_apply, val_main_v22_apply, val_main_v21_apply, val_main_v10_apply, val_main_v9_apply,
    val_main_v20_apply, val_main_v19_apply, val_main_v18_apply, val_main_v17_apply, val_main_v16_apply, val_main_cst_1_apply,
    val_main_v15_apply, val_main_v14_apply, val_main_cst_0_apply, val_main_v13_apply, val_main_v12_apply, val_main_cst_apply]
  have e : ∀ k : Fin 1024, val_main_v11 (F := Ideal) (arr 2048 1024 .f32 x) (idx_main_v12 (idx_main_v13 (idx_main_v19 (ix2 i j))) k)
      = (fun d => x i.val d * x i.val d) k.val := fun _ => rfl
  rw [(Finset.sum_congr rfl fun k _ => e k).trans (sum_fin (fun d => x i.val d * x i.val d) 1024)]
  have hj : j.val % 1024 = j.val := Nat.mod_eq_of_lt j.isLt
  show _ * _ * g _ (j.val % 1024) * _ + _ = _
  rw [hj, Nat.zero_add j.val]
  rfl

end Reference

section Claims
open Cert.ModMixIdeal

/-- The kernel's frame at the machine's own numbers. -/
theorem frame_p : Cert.quiescent_ModMix := fun m g _ => Cert.ModMix.Gen.frame m g

/-- The idealized kernel's frame. -/
theorem frame_pi : Cert.quiescent_ModMixIdeal := fun m g _ => Cert.ModMixIdeal.Gen.frame m g

/-- The reference's frame. -/
theorem frame_r : Cert.quiescent_RefModMixIdeal := fun m g _ =>
  (θ_run Cert.RefModMixIdeal.defs _ _).mono (fun r h => ⟨fun c => (h c).2, sem_eq_zero_of_no_sems (by decide) r.2⟩)
    (Cert.RefModMixIdeal.Value.run m g)

/-- The idealized kernel is the kernel's own text. -/
theorem preserves : Cert.preserves_ModMix_ModMixIdeal := trivial

/-- The kernel and the reference end with equal arrays. -/
theorem algebraic : Cert.algebraic_ModMixIdeal_RefModMixIdeal := by
  intro m g m' g' _ hagree
  refine ⟨fun c => (Cert.ModMixIdeal.Gen.dats m 0 c).arrAt 4 _, Cert.ModMixIdeal.Value.run_blocks m g,
    (θ_run Cert.RefModMixIdeal.defs _ _).mono (fun r h c => ⟨(h c).1.trans ?_, (h c).2⟩) (Cert.RefModMixIdeal.Value.run m' g')⟩
  obtain ⟨a0, a1, a2, a3⟩ := hagree c
  obtain ⟨x, hx⟩ := exists_arr (n := 2048) (m := 1024) (φ := .f32) (m ((c.tc : Thread nD τ).loc main_arg0))
  obtain ⟨s, hs⟩ := exists_arr (n := 1) (m := 6144) (φ := .f32) (m ((c.tc : Thread nD τ).loc main_arg1))
  obtain ⟨t, ht⟩ := exists_arr (n := 1) (m := 6144) (φ := .f32) (m ((c.tc : Thread nD τ).loc main_arg2))
  obtain ⟨g, hg⟩ := exists_arr (n := 2) (m := 1024) (φ := .f32) (m ((c.tc : Thread nD τ).loc main_arg3))
  rw [Cert.RefModMixIdeal.Read.val_main_v32_eq, a0, a1, a2, a3, hx, hs, ht, hg]
  exact (reference_norm x s t g).trans (result_norm m c x s t g hx hs ht hg).symm

end Claims

end Cert.Proof.ModMix
-- ==== Proof.Rope.lean ====
module

public import proofs.«01_k».proof.Defs
public import proofs.«01_k».proof.Proof.Gen.Rope.Frame
public import proofs.«01_k».proof.Proof.Gen.RopeIdeal.Value
public import proofs.«01_k».proof.Proof.Gen.RefRopeIdeal.Read
public import proofs.«01_k».proof.Proof.Mixer
public import proofs.«01_k».proof.Proof.RefParts
public import Idealize.ShloMosaic.Lib.Quiescent
public import Idealize.ShloMosaic.Lib.Pipeline.ValueKit.Geometry
public import Idealize.ShloMosaic.Lib.Pipeline.ValueKit.Acc

/-!
The rotation of queries and keys by their positions: each head's two halves of 128 columns turn into one another by the
cosine and the sine of the row, and the keys are scaled by a constant.
-/

@[expose] public section

set_option maxRecDepth 16384

noncomputable section

namespace Cert.Proof.Rope

open Idealize.ShloMosaic Idealize.ShloMosaic.TcCoe Idealize.ShloMosaic.ValueIdx Idealize.SL.Sem Ret

/-- The rotated entry of row i and column j, in heads of 256 columns. -/
def rot (q c s : ℕ → ℕ → EReal) (i j : ℕ) : EReal :=
  if j % 256 < 128 then q i j * c i (j % 256) - q i (j + 128) * s i (j % 256)
  else q i (j - 128) * s i (j % 256 - 128) + q i j * c i (j % 256 - 128)

/-- The keys' scale. -/
def keyScale : EReal := Ideal.ofBits .f32 0x3D800000#32

section Columns
variable (q c s : ℕ → ℕ → EReal)

/-- An entry of a head's first half. -/
theorem rot_low {i a j : ℕ} (ha : a % 256 = 0) (hj : j < 128) :
    rot q c s i (a + j) = q i (a + j) * c i j - q i (a + 128 + j) * s i j := by
  have e : (a + j) % 256 = j := by omega
  have e' : a + j + 128 = a + 128 + j := by omega
  rw [rot, e, if_pos hj, e']

/-- An entry of a head's second half. -/
theorem rot_high {i a j : ℕ} (ha : a % 256 = 0) (hj : j < 128) :
    rot q c s i (a + 128 + j) = q i (a + j) * s i j + q i (a + 128 + j) * c i j := by
  have e : (a + 128 + j) % 256 = 128 + j := by omega
  have e' : a + 128 + j - 128 = a + j := by omega
  have e'' : 128 + j - 128 = j := by omega
  rw [rot, e, if_neg (by omega), e', e'']

end Columns

section Block
variable {n : ℕ}

/-- One piece of eight side by side. -/
theorem piece_apply (xs : List ((s : Shape) × (s.Idx → EReal))) (h : Shape.Concatenates (xs.map (·.1)) ⟨2, ![n, 1024]⟩ 1)
    (F : ℕ → ℕ → EReal) (k : ℕ) (hk : k < xs.length) (p : ℕ)
    (hx : xs[k] = ⟨(⟨2, ![n, 128]⟩ : Shape), (arr n 128 .f32 fun i j => F i (p + j) : FVec Ideal ⟨2, ![n, 128]⟩ .f32)⟩)
    (hp : (((xs.take k).map (·.1)).map fun s => if h : s.rank = 2 then s.size ((1 : Fin 2).cast h.symm) else 0).sum = p)
    (i : Fin n) (j : Fin 1024) (lo : p ≤ j.val) (hi : j.val < p + 128) :
    concatenate ⟨2, ![n, 1024]⟩ 1 xs h (ix2 i j) = F i.val j.val := by
  have hd : p + (j.val - p) = j.val := by omega
  refine (concatenate_apply_piece (t := ⟨2, ![n, 1024]⟩) 1 xs h (ix2 i j) k hk _ _ hx rfl p hp
    (ix2 i ⟨j.val - p, by omega⟩) (fun b hb => ?_) hd).trans ?_
  · fin_cases b
    · rfl
    · exact absurd rfl hb
  · show F i.val (p + (j.val - p)) = _
    rw [hd]

/-- Eight pieces of 128 columns side by side. -/
theorem eight {F : ℕ → ℕ → EReal} {x0 x1 x2 x3 x4 x5 x6 x7 : FVec Ideal ⟨2, ![n, 128]⟩ .f32}
    (h : Shape.Concatenates [⟨2, ![n, 128]⟩, ⟨2, ![n, 128]⟩, ⟨2, ![n, 128]⟩, ⟨2, ![n, 128]⟩, ⟨2, ![n, 128]⟩, ⟨2, ![n, 128]⟩,
      ⟨2, ![n, 128]⟩, ⟨2, ![n, 128]⟩] ⟨2, ![n, 1024]⟩ 1)
    (h0 : x0 = arr n 128 .f32 fun i j => F i (0 + j))
    (h1 : x1 = arr n 128 .f32 fun i j => F i (128 + j))
    (h2 : x2 = arr n 128 .f32 fun i j => F i (256 + j))
    (h3 : x3 = arr n 128 .f32 fun i j => F i (384 + j))
    (h4 : x4 = arr n 128 .f32 fun i j => F i (512 + j))
    (h5 : x5 = arr n 128 .f32 fun i j => F i (640 + j))
    (h6 : x6 = arr n 128 .f32 fun i j => F i (768 + j))
    (h7 : x7 = arr n 128 .f32 fun i j => F i (896 + j)) :
    concatenate ⟨2, ![n, 1024]⟩ 1 [⟨⟨2, ![n, 128]⟩, x0⟩, ⟨⟨2, ![n, 128]⟩, x1⟩, ⟨⟨2, ![n, 128]⟩, x2⟩, ⟨⟨2, ![n, 128]⟩, x3⟩,
      ⟨⟨2, ![n, 128]⟩, x4⟩, ⟨⟨2, ![n, 128]⟩, x5⟩, ⟨⟨2, ![n, 128]⟩, x6⟩, ⟨⟨2, ![n, 128]⟩, x7⟩] h = arr n 1024 .f32 F := by
  subst h0 h1 h2 h3 h4 h5 h6 h7
  refine eq_arr fun i j => ?_
  have hj : j.val < 1024 := j.isLt
  have hq : j.val / 128 = 0 ∨ j.val / 128 = 1 ∨ j.val / 128 = 2 ∨ j.val / 128 = 3 ∨ j.val / 128 = 4 ∨ j.val / 128 = 5 ∨ j.val / 128 = 6 ∨ j.val / 128 = 7 := by omega
  rcases hq with e | e | e | e | e | e | e | e
  · exact piece_apply _ _ F 0 (by simp) 0 (by rfl) (by rfl) i j (by omega) (by omega)
  · exact piece_apply _ _ F 1 (by simp) 128 (by rfl) (by rfl) i j (by omega) (by omega)
  · exact piece_apply _ _ F 2 (by simp) 256 (by rfl) (by rfl) i j (by omega) (by omega)
  · exact piece_apply _ _ F 3 (by simp) 384 (by rfl) (by rfl) i j (by omega) (by omega)
  · exact piece_apply _ _ F 4 (by simp) 512 (by rfl) (by rfl) i j (by omega) (by omega)
  · exact piece_apply _ _ F 5 (by simp) 640 (by rfl) (by rfl) i j (by omega) (by omega)
  · exact piece_apply _ _ F 6 (by simp) 768 (by rfl) (by rfl) i j (by omega) (by omega)
  · exact piece_apply _ _ F 7 (by simp) 896 (by rfl) (by rfl) i j (by omega) (by omega)

section Halves
variable (q c s : ℕ → ℕ → EReal)

/-- A head's first half, as the body computes it. -/
theorem low_arr (a b : ℕ) (ha : a % 256 = 0) (hb : b = a + 128) (h) (h1) (h2) :
    subf (mulf (extractStridedSlice ⟨2, ![n, 128]⟩ ![0, a] (extf .f32 (arr n 1024 .bf16 q : FVec Ideal ⟨2, ![n, 1024]⟩ .bf16) h) h1) (arr n 128 .f32 c))
      (mulf (mulf (broadcast ⟨2, ![n, 128]⟩ (Scalar.ofBits .f32 0x3F800000#32))
        (extractStridedSlice ⟨2, ![n, 128]⟩ ![0, b] (extf .f32 (arr n 1024 .bf16 q : FVec Ideal ⟨2, ![n, 1024]⟩ .bf16) h) h2)) (arr n 128 .f32 s))
      = arr n 128 .f32 fun i j => rot q c s i (a + j) := by
  subst hb
  have e (o : ℕ) (h') : extractStridedSlice ⟨2, ![n, 128]⟩ ![0, o] (extf .f32 (arr n 1024 .bf16 q : FVec Ideal ⟨2, ![n, 1024]⟩ .bf16) h) h'
      = arr n 128 .f32 fun i j => q (0 + i) (o + j) := slice_arr (φ := .f32) 0 o q h'
  have h1 : Ideal.ofBits .f32 0x3F800000#32 = 1 := ofBits_one
  rw [e, e]
  refine eq_arr fun i j => ?_
  show q (0 + i.val) (a + j.val) * c i.val j.val
    - Ideal.ofBits .f32 0x3F800000#32 * q (0 + i.val) (a + 128 + j.val) * s i.val j.val = rot q c s i.val (a + j.val)
  rw [h1, one_mul, Nat.zero_add, rot_low q c s ha j.isLt]

/-- A head's second half, as the body computes it. -/
theorem high_arr (a b : ℕ) (ha : a % 256 = 0) (hb : b = a + 128) (h) (h1) (h2) :
    addf (mulf (mulf (broadcast ⟨2, ![n, 128]⟩ (Scalar.ofBits .f32 0x3F800000#32))
        (extractStridedSlice ⟨2, ![n, 128]⟩ ![0, a] (extf .f32 (arr n 1024 .bf16 q : FVec Ideal ⟨2, ![n, 1024]⟩ .bf16) h) h1)) (arr n 128 .f32 s))
      (mulf (extractStridedSlice ⟨2, ![n, 128]⟩ ![0, b] (extf .f32 (arr n 1024 .bf16 q : FVec Ideal ⟨2, ![n, 1024]⟩ .bf16) h) h2) (arr n 128 .f32 c))
      = arr n 128 .f32 fun i j => rot q c s i (b + j) := by
  subst hb
  have e (o : ℕ) (h') : extractStridedSlice ⟨2, ![n, 128]⟩ ![0, o] (extf .f32 (arr n 1024 .bf16 q : FVec Ideal ⟨2, ![n, 1024]⟩ .bf16) h) h'
      = arr n 128 .f32 fun i j => q (0 + i) (o + j) := slice_arr (φ := .f32) 0 o q h'
  have h1 : Ideal.ofBits .f32 0x3F800000#32 = 1 := ofBits_one
  rw [e, e]
  refine eq_arr fun i j => ?_
  show Ideal.ofBits .f32 0x3F800000#32 * q (0 + i.val) (a + j.val) * s i.val j.val
    + q (0 + i.val) (a + 128 + j.val) * c i.val j.val = rot q c s i.val (a + 128 + j.val)
  rw [h1, one_mul, Nat.zero_add, rot_high q c s ha j.isLt]

end Halves
end Block

section Kernel
open Cert.RopeIdeal Cert.RopeIdeal.Gen Cert.RopeIdeal.Value

section Pay
variable (q c s : ℕ → ℕ → EReal)

/-- The body's rotated queries. -/
theorem pay_q : k0_pay1 (F := Ideal) (k0_pay19 (arr 1024 128 .f32 c : FVec Ideal S1024x128 .f32) (arr 1024 128 .f32 s : FVec Ideal S1024x128 .f32) (k0_pay6 (arr 1024 1024 .bf16 q : FVec Ideal S1024x1024 .bf16) (arr 1024 128 .f32 c : FVec Ideal S1024x128 .f32) (arr 1024 128 .f32 s : FVec Ideal S1024x128 .f32)) (k0_pay7 (arr 1024 1024 .bf16 q : FVec Ideal S1024x1024 .bf16) (arr 1024 128 .f32 c : FVec Ideal S1024x128 .f32) (arr 1024 128 .f32 s : FVec Ideal S1024x128 .f32)) (k0_pay10 (arr 1024 1024 .bf16 q : FVec Ideal S1024x1024 .bf16) (arr 1024 128 .f32 c : FVec Ideal S1024x128 .f32) (arr 1024 128 .f32 s : FVec Ideal S1024x128 .f32)) (k0_pay11 (arr 1024 1024 .bf16 q : FVec Ideal S1024x1024 .bf16) (arr 1024 128 .f32 c : FVec Ideal S1024x128 .f32) (arr 1024 128 .f32 s : FVec Ideal S1024x128 .f32)) (k0_pay14 (arr 1024 1024 .bf16 q : FVec Ideal S1024x1024 .bf16) (arr 1024 128 .f32 c : FVec Ideal S1024x128 .f32) (arr 1024 128 .f32 s : FVec Ideal S1024x128 .f32)) (k0_pay15 (arr 1024 1024 .bf16 q : FVec Ideal S1024x1024 .bf16) (arr 1024 128 .f32 c : FVec Ideal S1024x128 .f32) (arr 1024 128 .f32 s : FVec Ideal S1024x128 .f32)) (k0_pay16 (arr 1024 1024 .bf16 q : FVec Ideal S1024x1024 .bf16)) (k0_pay17 (arr 1024 1024 .bf16 q : FVec Ideal S1024x1024 .bf16))
    (k0_pay18 (arr 1024 1024 .bf16 q : FVec Ideal S1024x1024 .bf16) (arr 1024 128 .f32 c : FVec Ideal S1024x128 .f32)) (Scalar.ofBits .f32 0x3F800000#32)) = arr 1024 1024 .bf16 (rot q c s) :=
  congrArg (fun z => truncf .bf16 z bitsLt_bf16_f32) (eight concatenates_S1024x128_S1024x128_S1024x128_S1024x128_S1024x128_S1024x128_S1024x128_S1024x128_S1024x1024_d1
    (low_arr q c s 0 128 rfl rfl bitsLt_bf16_f32 slices_S1024x1024_o0_0_S1024x128 slices_S1024x1024_o0_128_S1024x128) (high_arr q c s 0 128 rfl rfl bitsLt_bf16_f32 slices_S1024x1024_o0_0_S1024x128 slices_S1024x1024_o0_128_S1024x128)
    (low_arr q c s 256 384 rfl rfl bitsLt_bf16_f32 slices_S1024x1024_o0_256_S1024x128 slices_S1024x1024_o0_384_S1024x128) (high_arr q c s 256 384 rfl rfl bitsLt_bf16_f32 slices_S1024x1024_o0_256_S1024x128 slices_S1024x1024_o0_384_S1024x128)
    (low_arr q c s 512 640 rfl rfl bitsLt_bf16_f32 slices_S1024x1024_o0_512_S1024x128 slices_S1024x1024_o0_640_S1024x128) (high_arr q c s 512 640 rfl rfl bitsLt_bf16_f32 slices_S1024x1024_o0_512_S1024x128 slices_S1024x1024_o0_640_S1024x128)
    (low_arr q c s 768 896 rfl rfl bitsLt_bf16_f32 slices_S1024x1024_o0_768_S1024x128 slices_S1024x1024_o0_896_S1024x128) (high_arr q c s 768 896 rfl rfl bitsLt_bf16_f32 slices_S1024x1024_o0_768_S1024x128 slices_S1024x1024_o0_896_S1024x128))

/-- The body's rotated and scaled keys. -/
theorem pay_k : k0_pay2 (F := Ideal) (arr 1024 128 .f32 c : FVec Ideal S1024x128 .f32) (arr 1024 128 .f32 s : FVec Ideal S1024x128 .f32) (k0_pay23 (arr 1024 1024 .bf16 q : FVec Ideal S1024x1024 .bf16) (arr 1024 128 .f32 c : FVec Ideal S1024x128 .f32) (arr 1024 128 .f32 s : FVec Ideal S1024x128 .f32)) (k0_pay24 (arr 1024 1024 .bf16 q : FVec Ideal S1024x1024 .bf16) (arr 1024 128 .f32 c : FVec Ideal S1024x128 .f32) (arr 1024 128 .f32 s : FVec Ideal S1024x128 .f32)) (k0_pay27 (arr 1024 1024 .bf16 q : FVec Ideal S1024x1024 .bf16) (arr 1024 128 .f32 c : FVec Ideal S1024x128 .f32) (arr 1024 128 .f32 s : FVec Ideal S1024x128 .f32)) (k0_pay28 (arr 1024 1024 .bf16 q : FVec Ideal S1024x1024 .bf16) (arr 1024 128 .f32 c : FVec Ideal S1024x128 .f32) (arr 1024 128 .f32 s : FVec Ideal S1024x128 .f32)) (k0_pay31 (arr 1024 1024 .bf16 q : FVec Ideal S1024x1024 .bf16) (arr 1024 128 .f32 c : FVec Ideal S1024x128 .f32) (arr 1024 128 .f32 s : FVec Ideal S1024x128 .f32)) (k0_pay32 (arr 1024 1024 .bf16 q : FVec Ideal S1024x1024 .bf16) (arr 1024 128 .f32 c : FVec Ideal S1024x128 .f32) (arr 1024 128 .f32 s : FVec Ideal S1024x128 .f32)) (k0_pay33 (arr 1024 1024 .bf16 q : FVec Ideal S1024x1024 .bf16)) (k0_pay34 (arr 1024 1024 .bf16 q : FVec Ideal S1024x1024 .bf16))
    (k0_pay35 (arr 1024 1024 .bf16 q : FVec Ideal S1024x1024 .bf16) (arr 1024 128 .f32 c : FVec Ideal S1024x128 .f32)) (k0_pay36 (arr 1024 1024 .bf16 q : FVec Ideal S1024x1024 .bf16)) = arr 1024 1024 .bf16 (fun i j => rot q c s i j * keyScale) :=
  congrArg (fun z => truncf .bf16 (mulf z (broadcast S1024x1024 (Scalar.ofBits .f32 0x3D800000#32))) bitsLt_bf16_f32) (eight concatenates_S1024x128_S1024x128_S1024x128_S1024x128_S1024x128_S1024x128_S1024x128_S1024x128_S1024x1024_d1
    (low_arr q c s 0 128 rfl rfl bitsLt_bf16_f32 slices_S1024x1024_o0_0_S1024x128 slices_S1024x1024_o0_128_S1024x128) (high_arr q c s 0 128 rfl rfl bitsLt_bf16_f32 slices_S1024x1024_o0_0_S1024x128 slices_S1024x1024_o0_128_S1024x128)
    (low_arr q c s 256 384 rfl rfl bitsLt_bf16_f32 slices_S1024x1024_o0_256_S1024x128 slices_S1024x1024_o0_384_S1024x128) (high_arr q c s 256 384 rfl rfl bitsLt_bf16_f32 slices_S1024x1024_o0_256_S1024x128 slices_S1024x1024_o0_384_S1024x128)
    (low_arr q c s 512 640 rfl rfl bitsLt_bf16_f32 slices_S1024x1024_o0_512_S1024x128 slices_S1024x1024_o0_640_S1024x128) (high_arr q c s 512 640 rfl rfl bitsLt_bf16_f32 slices_S1024x1024_o0_512_S1024x128 slices_S1024x1024_o0_640_S1024x128)
    (low_arr q c s 768 896 rfl rfl bitsLt_bf16_f32 slices_S1024x1024_o0_768_S1024x128 slices_S1024x1024_o0_896_S1024x128) (high_arr q c s 768 896 rfl rfl bitsLt_bf16_f32 slices_S1024x1024_o0_768_S1024x128 slices_S1024x1024_o0_896_S1024x128))

end Pay

variable (m : (ℓ : Loc nD τ sig) → Buf (Elt Ideal) ℓ) (d : Dev nD) (p c s : ℕ → ℕ → EReal)
  (hp : m ((d : Thread nD τ).loc main_arg0) = (arr 2048 6144 .bf16 p : FVec Ideal S2048x6144 .bf16))
  (hc : m ((d : Thread nD τ).loc main_arg1) = (arr 2048 128 .f32 c : FVec Ideal S2048x128 .f32))
  (hs : m ((d : Thread nD τ).loc main_arg2) = (arr 2048 128 .f32 s : FVec Ideal S2048x128 .f32))

/-- The blocks' places. -/
theorem index_0 : ∀ t : Fin cfg0.N, win0_0.index t = ![t.val, 0] := by decide +kernel
@[inherit_doc index_0]
theorem index_1 : ∀ t : Fin cfg0.N, win0_1.index t = ![t.val, 1] := by decide +kernel
@[inherit_doc index_0]
theorem index_2 : ∀ t : Fin cfg0.N, win0_2.index t = ![t.val, 0] := by decide +kernel
@[inherit_doc index_0]
theorem index_3 : ∀ t : Fin cfg0.N, win0_3.index t = ![t.val, 0] := by decide +kernel
@[inherit_doc index_0]
theorem index_4 : ∀ t : Fin cfg0.N, win0_4.index t = ![t.val, 0] := by decide +kernel
@[inherit_doc index_0]
theorem index_5 : ∀ t : Fin cfg0.N, win0_5.index t = ![t.val, 0] := by decide +kernel

include hp in
/-- A block of the queries. -/
theorem blk_q (u : Fin cfg0.N) : iblk m d 0 u = (arr 1024 1024 .bf16 (fun i j => p (u.val * 1024 + i) j) : FVec Ideal S1024x1024 .bf16) := by
  funext y
  blk_simp [iblk]
  rw [V_main_arg0, hp]
  unfold arr
  blk_simp [index_0]

include hp in
/-- A block of the keys. -/
theorem blk_k (u : Fin cfg0.N) : iblk m d 1 u = (arr 1024 1024 .bf16 (fun i j => p (u.val * 1024 + i) (1024 + j)) : FVec Ideal S1024x1024 .bf16) := by
  funext y
  blk_simp [iblk]
  rw [V_main_arg0, hp]
  unfold arr
  blk_simp [index_1]

include hc in
/-- A block of the cosines. -/
theorem blk_c (u : Fin cfg0.N) : iblk m d 2 u = (arr 1024 128 .f32 (fun i j => c (u.val * 1024 + i) j) : FVec Ideal S1024x128 .f32) := by
  funext y
  blk_simp [iblk]
  rw [V_main_arg1, hc]
  unfold arr
  blk_simp [index_2]

include hs in
/-- A block of the sines. -/
theorem blk_s (u : Fin cfg0.N) : iblk m d 3 u = (arr 1024 128 .f32 (fun i j => s (u.val * 1024 + i) j) : FVec Ideal S1024x128 .f32) := by
  funext y
  blk_simp [iblk]
  rw [V_main_arg2, hs]
  unfold arr
  blk_simp [index_3]

include hp hc hs in
/-- The rotated queries that the call leaves. -/
theorem result_q : (dats m 0 d).arrAt 4 cfg0.N = (arr 2048 1024 .bf16 (rot p c s) : FVec Ideal S2048x1024 .bf16) := by
  refine (dats m 0 d).arrAt_eq_of_covers 4 _ (by decide +kernel) fun u hf y => ?_
  blk_simp
  rw [after0_4]
  frame_out
  rw [blk_q m d p hp, blk_c m d c hc, blk_s m d s hs, pay_q]
  unfold arr
  blk_simp [index_4]
  rfl

include hp hc hs in
/-- The rotated keys that the call leaves. -/
theorem result_k : (dats m 0 d).arrAt 5 cfg0.N = (arr 2048 1024 .bf16 (fun i j => rot (fun i j => p i (1024 + j)) c s i j * keyScale) : FVec Ideal S2048x1024 .bf16) := by
  refine (dats m 0 d).arrAt_eq_of_covers 5 _ (by decide +kernel) fun u hf y => ?_
  blk_simp
  rw [after0_5]
  frame_out
  rw [blk_k m d p hp, blk_c m d c hc, blk_s m d s hs, pay_k]
  unfold arr
  blk_simp [index_5]
  rfl

end Kernel

section Reference
open Cert.RefRopeIdeal Cert.RefRopeIdeal.Gen Cert.RefRopeIdeal.Read

/-- A split row's entry, in a head's first half. -/
theorem split_low (q c s : ℕ → ℕ → EReal) {x y z : ℕ} (hy : y < 4) (hz : z < 128) :
    q (((x * 4 + y) * 256 + z) / 1024) (((x * 4 + y) * 256 + z) % 1024) * c x z
      - q (((x * 4 + y) * 256 + (128 + z)) / 1024) (((x * 4 + y) * 256 + (128 + z)) % 1024) * s x z = rot q c s x (256 * y + z) := by
  have e0 : ((x * 4 + y) * 256 + z) / 1024 = x := by omega
  have e1 : ((x * 4 + y) * 256 + z) % 1024 = 256 * y + z := by omega
  have e2 : ((x * 4 + y) * 256 + (128 + z)) / 1024 = x := by omega
  have e3 : ((x * 4 + y) * 256 + (128 + z)) % 1024 = 256 * y + 128 + z := by omega
  rw [e0, e1, e2, e3, rot_low q c s (by omega) hz]

/-- A split row's entry, in a head's second half. -/
theorem split_high (q c s : ℕ → ℕ → EReal) {x y z : ℕ} (hy : y < 4) (hz : z < 128) :
    q (((x * 4 + y) * 256 + z) / 1024) (((x * 4 + y) * 256 + z) % 1024) * s x z
      + q (((x * 4 + y) * 256 + (128 + z)) / 1024) (((x * 4 + y) * 256 + (128 + z)) % 1024) * c x z = rot q c s x (256 * y + 128 + z) := by
  have e0 : ((x * 4 + y) * 256 + z) / 1024 = x := by omega
  have e1 : ((x * 4 + y) * 256 + z) % 1024 = 256 * y + z := by omega
  have e2 : ((x * 4 + y) * 256 + (128 + z)) / 1024 = x := by omega
  have e3 : ((x * 4 + y) * 256 + (128 + z)) % 1024 = 256 * y + 128 + z := by omega
  rw [e0, e1, e2, e3, rot_high q c s (by omega) hz]

/-- Two halves of each head side by side. -/
theorem heads (f : ℕ → ℕ → EReal) (x y : FVec Ideal S2048x4x128 .f32) (h)
    (hx : ∀ i, x i = f (i 0).val (256 * (i 1).val + (i 2).val)) (hy : ∀ i, y i = f (i 0).val (256 * (i 1).val + 128 + (i 2).val))
    (i : S2048x4x256.Idx) :
    concatenate S2048x4x256 2 [⟨S2048x4x128, x⟩, ⟨S2048x4x128, y⟩] h i = f (i 0).val (256 * (i 1).val + (i 2).val) := by
  have h2 : (i 2).val < 256 := (i 2).isLt
  by_cases hl : (i 2).val < 128
  · refine (concatenate_pair_apply_left (t := S2048x4x256) 2 x y h i rfl (fun a => match a with
      | ⟨0, _⟩ => ⟨(i 0).val, (i 0).isLt⟩
      | ⟨1, _⟩ => ⟨(i 1).val, (i 1).isLt⟩
      | ⟨2, _⟩ => ⟨(i 2).val, hl⟩ : S2048x4x128.Idx) fun b => ?_).trans (hx _)
    fin_cases b <;> rfl
  · have hd : 128 + ((i 2).val - 128) = (i 2).val := by omega
    refine (concatenate_apply_piece (t := S2048x4x256) 2 [⟨S2048x4x128, x⟩, ⟨S2048x4x128, y⟩] h i 1 (by simp) S2048x4x128 y rfl rfl
      128 rfl (fun a => match a with
      | ⟨0, _⟩ => ⟨(i 0).val, (i 0).isLt⟩
      | ⟨1, _⟩ => ⟨(i 1).val, (i 1).isLt⟩
      | ⟨2, _⟩ => ⟨(i 2).val - 128, by show _ < 128; omega⟩ : S2048x4x128.Idx) (fun b hb => ?_) hd).trans ((hy _).trans ?_)
    · fin_cases b
      · rfl
      · rfl
      · exact absurd rfl hb
    · show f (i 0).val (256 * (i 1).val + 128 + ((i 2).val - 128)) = _
      congr 1
      omega

variable (p c s : ℕ → ℕ → EReal)

/-- The reference's rotated queries, a head's first half. -/
theorem low_queries (i : S2048x4x128.Idx) : val_main_v14 (F := Ideal) (arr 2048 6144 .bf16 p) (arr 2048 128 .f32 c) (arr 2048 128 .f32 s) i = rot (p) c s (i 0).val (256 * (i 1).val + (i 2).val) := by
  rw [val_main_v14_apply, val_main_v11_apply, val_main_v6_apply, val_main_v2_apply, val_main_v1_apply, val_main_v0_apply, val_main_v10_apply, val_main_v8_apply, val_main_v13_apply, val_main_v7_apply, val_main_v2_apply, val_main_v1_apply, val_main_v0_apply, val_main_v12_apply, val_main_v9_apply]
  exact split_low (p) c s (i 1).isLt (i 2).isLt

/-- The reference's rotated queries, a head's second half. -/
theorem high_queries (i : S2048x4x128.Idx) : val_main_v19 (F := Ideal) (arr 2048 6144 .bf16 p) (arr 2048 128 .f32 c) (arr 2048 128 .f32 s) i = rot (p) c s (i 0).val (256 * (i 1).val + 128 + (i 2).val) := by
  rw [val_main_v19_apply, val_main_v16_apply, val_main_v6_apply, val_main_v2_apply, val_main_v1_apply, val_main_v0_apply, val_main_v15_apply, val_main_v9_apply, val_main_v18_apply, val_main_v7_apply, val_main_v2_apply, val_main_v1_apply, val_main_v0_apply, val_main_v17_apply, val_main_v8_apply]
  exact split_high (p) c s (i 1).isLt (i 2).isLt

/-- The reference's rotated queries. -/
theorem reference_queries : val_main_v39 (F := Ideal) (arr 2048 6144 .bf16 p) (arr 2048 128 .f32 c) (arr 2048 128 .f32 s) = arr 2048 1024 .bf16 (rot p c s) := by
  refine eq_arr fun i j => ?_
  have hi : i.val < 2048 := i.isLt
  have hj : j.val < 1024 := j.isLt
  have e0 : (i.val * 1024 + j.val) / 1024 = i.val := by omega
  have e1 : 256 * ((i.val * 1024 + j.val) / 256 % 4) + (i.val * 1024 + j.val) % 256 = j.val := by omega
  rw [val_main_v39_apply, val_main_v38_apply]
  unfold val_main_v20
  rw [heads (rot (p) c s) _ _ _ (low_queries p c s) (high_queries p c s)]
  show rot _ c s ((i.val * 1024 + j.val) / 1024) (256 * ((i.val * 1024 + j.val) / 256 % 4) + (i.val * 1024 + j.val) % 256) = _
  rw [e0, e1]

/-- The reference's rotated keys, a head's first half. -/
theorem low_keys (i : S2048x4x128.Idx) : val_main_v29 (F := Ideal) (arr 2048 6144 .bf16 p) (arr 2048 128 .f32 c) (arr 2048 128 .f32 s) i = rot (fun i j => p i (1024 + j)) c s (i 0).val (256 * (i 1).val + (i 2).val) := by
  rw [val_main_v29_apply, val_main_v26_apply, val_main_v21_apply, val_main_v5_apply, val_main_v4_apply, val_main_v3_apply, val_main_v25_apply, val_main_v23_apply, val_main_v28_apply, val_main_v22_apply, val_main_v5_apply, val_main_v4_apply, val_main_v3_apply, val_main_v27_apply, val_main_v24_apply]
  exact split_low (fun i j => p i (1024 + j)) c s (i 1).isLt (i 2).isLt

/-- The reference's rotated keys, a head's second half. -/
theorem high_keys (i : S2048x4x128.Idx) : val_main_v34 (F := Ideal) (arr 2048 6144 .bf16 p) (arr 2048 128 .f32 c) (arr 2048 128 .f32 s) i = rot (fun i j => p i (1024 + j)) c s (i 0).val (256 * (i 1).val + 128 + (i 2).val) := by
  rw [val_main_v34_apply, val_main_v31_apply, val_main_v21_apply, val_main_v5_apply, val_main_v4_apply, val_main_v3_apply, val_main_v30_apply, val_main_v24_apply, val_main_v33_apply, val_main_v22_apply, val_main_v5_apply, val_main_v4_apply, val_main_v3_apply, val_main_v32_apply, val_main_v23_apply]
  exact split_high (fun i j => p i (1024 + j)) c s (i 1).isLt (i 2).isLt

/-- The reference's rotated keys. -/
theorem reference_keys : val_main_v41 (F := Ideal) (arr 2048 6144 .bf16 p) (arr 2048 128 .f32 c) (arr 2048 128 .f32 s) = arr 2048 1024 .bf16 (fun i j => rot (fun i j => p i (1024 + j)) c s i j * keyScale) := by
  refine eq_arr fun i j => ?_
  have hi : i.val < 2048 := i.isLt
  have hj : j.val < 1024 := j.isLt
  have e0 : (i.val * 1024 + j.val) / 1024 = i.val := by omega
  have e1 : 256 * ((i.val * 1024 + j.val) / 256 % 4) + (i.val * 1024 + j.val) % 256 = j.val := by omega
  rw [val_main_v41_apply, val_main_v40_apply, val_main_v37_apply, val_main_v36_apply, val_main_cst_apply]
  unfold val_main_v35
  rw [heads (rot (fun i j => p i (1024 + j)) c s) _ _ _ (low_keys p c s) (high_keys p c s)]
  show rot _ c s ((i.val * 1024 + j.val) / 1024) (256 * ((i.val * 1024 + j.val) / 256 % 4) + (i.val * 1024 + j.val) % 256) * keyScale = _
  rw [e0, e1]

end Reference

section Claims
open Cert.RopeIdeal

/-- The kernel's frame at the machine's own numbers. -/
theorem frame_p : Cert.quiescent_Rope := fun m g _ => Cert.Rope.Gen.frame m g

/-- The idealized kernel's frame. -/
theorem frame_pi : Cert.quiescent_RopeIdeal := fun m g _ => Cert.RopeIdeal.Gen.frame m g

/-- The reference's frame. -/
theorem frame_r : Cert.quiescent_RefRopeIdeal := fun m g _ =>
  (θ_run Cert.RefRopeIdeal.defs _ _).mono (fun r h => ⟨fun c => (h c).2.2, sem_eq_zero_of_no_sems (by decide) r.2⟩)
    (Cert.RefRopeIdeal.Value.run m g)

/-- The idealized kernel is the kernel's own text. -/
theorem preserves : Cert.preserves_Rope_RopeIdeal := trivial

/-- The kernel and the reference end with equal arrays. -/
theorem algebraic : Cert.algebraic_RopeIdeal_RefRopeIdeal := by
  intro m g m' g' _ hagree
  refine ⟨fun d => (Cert.RopeIdeal.Gen.dats m 0 d).arrAt 4 _, fun d => (Cert.RopeIdeal.Gen.dats m 0 d).arrAt 5 _,
    Cert.RopeIdeal.Value.run_blocks m g, (θ_run Cert.RefRopeIdeal.defs _ _).mono
      (fun r h d => ⟨(h d).1.trans ?_, (h d).2.1.trans ?_, (h d).2.2⟩) (Cert.RefRopeIdeal.Value.run m' g')⟩
  all_goals
    obtain ⟨a0, a1, a2⟩ := hagree d
    obtain ⟨p, hp⟩ := exists_arr (n := 2048) (m := 6144) (φ := .bf16) (m ((d.tc : Thread nD τ).loc main_arg0))
    obtain ⟨c, hc⟩ := exists_arr (n := 2048) (m := 128) (φ := .f32) (m ((d.tc : Thread nD τ).loc main_arg1))
    obtain ⟨s, hs⟩ := exists_arr (n := 2048) (m := 128) (φ := .f32) (m ((d.tc : Thread nD τ).loc main_arg2))
  · rw [Cert.RefRopeIdeal.Read.val_main_v39_eq, a0, a1, a2, hp, hc, hs]
    exact (reference_queries p c s).trans (result_q m d p c s hp hc hs).symm
  · rw [Cert.RefRopeIdeal.Read.val_main_v41_eq, a0, a1, a2, hp, hc, hs]
    exact (reference_keys p c s).trans (result_k m d p c s hp hc hs).symm

end Claims

end Cert.Proof.Rope
-- ==== Proof.RetGate.lean ====
module

public import proofs.«01_k».proof.Defs
public import proofs.«01_k».proof.Proof.Gen.RetGate.Frame
public import proofs.«01_k».proof.Proof.Gen.RetGateIdeal.Value
public import proofs.«01_k».proof.Proof.Gen.RefRetGateIdeal.Read
public import proofs.«01_k».proof.Proof.Mixer
public import proofs.«01_k».proof.Proof.RefParts
public import Idealize.ShloMosaic.Lib.Quiescent
public import Idealize.ShloMosaic.Lib.Pipeline.ValueKit.Geometry
public import Idealize.ShloMosaic.Lib.Pipeline.ValueKit.Acc

/-!
The gate after the retention: each head's rows normed, times the gate's rows and their sigmoid.
-/

@[expose] public section

set_option maxRecDepth 16384

noncomputable section

open scoped BigOperators

namespace Cert.Proof.RetGate

open Idealize.ShloMosaic Idealize.ShloMosaic.TcCoe Idealize.ShloMosaic.ValueIdx Idealize.SL.Sem Ret

/-- The per-head norm of rows y, in heads of 512 columns, with gains g. -/
def headNorm (y g : ℕ → ℕ → EReal) (i j : ℕ) : EReal :=
  y i j * Ideal.rsqrt (Ideal.div (∑ d ∈ Finset.range 512, y i (j / 512 * 512 + d) * y i (j / 512 * 512 + d)) (Ideal.ofBits .f32 0x44000000#32)
    + Ideal.ofBits .f32 0x358637BD#32) * g 0 j

/-- The gate: the gate's rows times their sigmoid, times the normed rows. -/
def gated (y q g : ℕ → ℕ → EReal) (i j : ℕ) : EReal := q i j * Ideal.logistic (q i j) * headNorm y g i j

section Block
variable {n : ℕ} (hr : (⟨2, ![n, 512]⟩ : Shape).Reduces [1] ⟨1, ![n]⟩) (hk : (⟨1, ![n]⟩ : Shape).ShapeCasts ⟨2, ![n, 1]⟩)
  (hc : (⟨2, ![n, 1]⟩ : Shape).Broadcasts ⟨2, ![n, 512]⟩) (hb : (⟨2, ![1, 512]⟩ : Shape).Broadcasts ⟨2, ![n, 512]⟩)

/-- One piece of four side by side. -/
theorem piece_apply (xs : List ((s : Shape) × (s.Idx → EReal))) (h : Shape.Concatenates (xs.map (·.1)) ⟨2, ![n, 2048]⟩ 1)
    (F : ℕ → ℕ → EReal) (k : ℕ) (hk : k < xs.length) (p : ℕ)
    (hx : xs[k] = ⟨(⟨2, ![n, 512]⟩ : Shape), (arr n 512 .f32 fun i j => F i (p + j) : FVec Ideal ⟨2, ![n, 512]⟩ .f32)⟩)
    (hp : (((xs.take k).map (·.1)).map fun s => if h : s.rank = 2 then s.size ((1 : Fin 2).cast h.symm) else 0).sum = p)
    (i : Fin n) (j : Fin 2048) (lo : p ≤ j.val) (hi : j.val < p + 512) :
    concatenate ⟨2, ![n, 2048]⟩ 1 xs h (ix2 i j) = F i.val j.val := by
  have hd : p + (j.val - p) = j.val := by omega
  refine (concatenate_apply_piece (t := ⟨2, ![n, 2048]⟩) 1 xs h (ix2 i j) k hk _ _ hx rfl p hp
    (ix2 i ⟨j.val - p, by omega⟩) (fun b hb => ?_) hd).trans ?_
  · fin_cases b
    · rfl
    · exact absurd rfl hb
  · show F i.val (p + (j.val - p)) = _
    rw [hd]

/-- Four pieces of 512 columns side by side. -/
theorem four {F : ℕ → ℕ → EReal} {x0 x1 x2 x3 : FVec Ideal ⟨2, ![n, 512]⟩ .f32}
    (h : Shape.Concatenates [⟨2, ![n, 512]⟩, ⟨2, ![n, 512]⟩, ⟨2, ![n, 512]⟩, ⟨2, ![n, 512]⟩] ⟨2, ![n, 2048]⟩ 1)
    (h0 : x0 = arr n 512 .f32 fun i j => F i (0 + j))
    (h1 : x1 = arr n 512 .f32 fun i j => F i (512 + j))
    (h2 : x2 = arr n 512 .f32 fun i j => F i (1024 + j))
    (h3 : x3 = arr n 512 .f32 fun i j => F i (1536 + j)) :
    concatenate ⟨2, ![n, 2048]⟩ 1 [⟨⟨2, ![n, 512]⟩, x0⟩, ⟨⟨2, ![n, 512]⟩, x1⟩, ⟨⟨2, ![n, 512]⟩, x2⟩, ⟨⟨2, ![n, 512]⟩, x3⟩] h
      = arr n 2048 .f32 F := by
  subst h0 h1 h2 h3
  refine eq_arr fun i j => ?_
  have hj : j.val < 2048 := j.isLt
  have hq : j.val / 512 = 0 ∨ j.val / 512 = 1 ∨ j.val / 512 = 2 ∨ j.val / 512 = 3 := by omega
  rcases hq with e | e | e | e
  · exact piece_apply _ _ F 0 (by simp) 0 (by rfl) (by rfl) i j (by omega) (by omega)
  · exact piece_apply _ _ F 1 (by simp) 512 (by rfl) (by rfl) i j (by omega) (by omega)
  · exact piece_apply _ _ F 2 (by simp) 1024 (by rfl) (by rfl) i j (by omega) (by omega)
  · exact piece_apply _ _ F 3 (by simp) 1536 (by rfl) (by rfl) i j (by omega) (by omega)

/-- A head's norm, as the body computes it. -/
def blockHead (y : FVec Ideal ⟨2, ![n, 512]⟩ .f32) (g : FVec Ideal ⟨2, ![1, 512]⟩ .f32) : FVec Ideal ⟨2, ![n, 512]⟩ .f32 :=
  mulf (mulf y (broadcastTo ⟨2, ![n, 512]⟩ (rsqrt (addf (divf (rowSum n 512 hr hk (mulf y y))
      (broadcast ⟨2, ![n, 1]⟩ (Scalar.ofBits .f32 0x44000000#32))) (broadcast ⟨2, ![n, 1]⟩ (Scalar.ofBits .f32 0x358637BD#32)))) hc))
    (broadcastTo ⟨2, ![n, 512]⟩ g hb)

/-- A head's norm, of arrays cut at column o. -/
theorem head_arr (o : ℕ) (ho : o % 512 = 0) (h1) (h2) (y g : ℕ → ℕ → EReal) :
    blockHead hr hk hc hb (extractStridedSlice ⟨2, ![n, 512]⟩ ![0, o] (arr n 2048 .f32 y) h1)
      (extractStridedSlice ⟨2, ![1, 512]⟩ ![0, o] (arr 1 2048 .f32 g) h2) = arr n 512 .f32 fun i j => headNorm y g i (o + j) := by
  have ey : ∀ f : ℕ → ℕ → EReal, mulf (arr n 512 .f32 f) (arr n 512 .f32 f) = arr n 512 .f32 fun i j => f i j * f i j := fun _ => rfl
  have en : ∀ f, rsqrt (addf (divf (arr n 1 .f32 f) (broadcast ⟨2, ![n, 1]⟩ (Scalar.ofBits .f32 0x44000000#32)))
        (broadcast ⟨2, ![n, 1]⟩ (Scalar.ofBits .f32 0x358637BD#32)))
      = arr n 1 .f32 fun i j => Ideal.rsqrt (Ideal.div (f i j) (Ideal.ofBits .f32 0x44000000#32) + Ideal.ofBits .f32 0x358637BD#32) :=
    fun _ => rfl
  unfold blockHead
  rw [slice_arr, slice_arr, ey, rowSum_arr, en, col_arr, row_arr]
  refine eq_arr fun i j => ?_
  have e : (o + j.val) / 512 * 512 = o := by
    have := j.isLt
    omega
  unfold headNorm
  rw [e]
  show y (0 + i.val) (o + j.val) * Ideal.rsqrt (Ideal.div (∑ d ∈ Finset.range 512, y (0 + i.val) (o + d) * y (0 + i.val) (o + d)) _ + _)
    * g (0 + 0) (o + j.val) = _
  rw [Nat.zero_add]

end Block

section Kernel
open Cert.RetGateIdeal Cert.RetGateIdeal.Gen Cert.RetGateIdeal.Value

/-- The body's gate. -/
theorem pay_gate (y q g : ℕ → ℕ → EReal) : k0_pay1 (F := Ideal) (arr 512 2048 .f32 y : FVec Ideal S512x2048 .f32) (arr 1 2048 .f32 g : FVec Ideal S1x2048 .f32) (k0_pay2 (arr 512 2048 .bf16 q : FVec Ideal S512x2048 .bf16)) (k0_pay3 (arr 512 2048 .f32 y : FVec Ideal S512x2048 .f32) (arr 1 2048 .f32 g : FVec Ideal S1x2048 .f32))
    (k0_pay4 (arr 512 2048 .f32 y : FVec Ideal S512x2048 .f32) (arr 1 2048 .f32 g : FVec Ideal S1x2048 .f32)) (k0_pay5 (arr 512 2048 .f32 y : FVec Ideal S512x2048 .f32)) (k0_pay6 (arr 512 2048 .f32 y : FVec Ideal S512x2048 .f32)) = arr 512 2048 .bf16 (gated y q g) :=
  congrArg (fun z : FVec Ideal ⟨2, ![512, 2048]⟩ .f32 => truncf .bf16 (mulf (k0_pay2 (F := Ideal) (arr 512 2048 .bf16 q : FVec Ideal S512x2048 .bf16)) z) bitsLt_bf16_f32)
    (four concatenates_S512x512_S512x512_S512x512_S512x512_S512x2048_d1
    (head_arr reduces_S512x512_S512 shapeCasts_S512_S512x1 broadcasts_S512x1_S512x512 broadcasts_S1x512_S512x512 0 rfl
      slices_S512x2048_o0_0_S512x512 slices_S1x2048_o0_0_S1x512 y g)
    (head_arr reduces_S512x512_S512 shapeCasts_S512_S512x1 broadcasts_S512x1_S512x512 broadcasts_S1x512_S512x512 512 rfl
      slices_S512x2048_o0_512_S512x512 slices_S1x2048_o0_512_S1x512 y g)
    (head_arr reduces_S512x512_S512 shapeCasts_S512_S512x1 broadcasts_S512x1_S512x512 broadcasts_S1x512_S512x512 1024 rfl
      slices_S512x2048_o0_1024_S512x512 slices_S1x2048_o0_1024_S1x512 y g)
    (head_arr reduces_S512x512_S512 shapeCasts_S512_S512x1 broadcasts_S512x1_S512x512 broadcasts_S1x512_S512x512 1536 rfl
      slices_S512x2048_o0_1536_S512x512 slices_S1x2048_o0_1536_S1x512 y g))

variable (m : (ℓ : Loc nD τ sig) → Buf (Elt Ideal) ℓ) (c : Dev nD) (y p g : ℕ → ℕ → EReal)
  (hy : m ((c : Thread nD τ).loc main_arg0) = (arr 2048 2048 .f32 y : FVec Ideal S2048x2048 .f32))
  (hp : m ((c : Thread nD τ).loc main_arg1) = (arr 2048 6144 .bf16 p : FVec Ideal S2048x6144 .bf16))
  (hg : m ((c : Thread nD τ).loc main_arg2) = (arr 1 2048 .f32 g : FVec Ideal S1x2048 .f32))

/-- The blocks' places. -/
theorem index_0 : ∀ t : Fin cfg0.N, win0_0.index t = ![t.val, 0] := by decide +kernel
@[inherit_doc index_0]
theorem index_1 : ∀ t : Fin cfg0.N, win0_1.index t = ![t.val, 2] := by decide +kernel
@[inherit_doc index_0]
theorem index_2 : ∀ t : Fin cfg0.N, win0_2.index t = ![0, 0] := by decide +kernel
@[inherit_doc index_0]
theorem index_3 : ∀ t : Fin cfg0.N, win0_3.index t = ![t.val, 0] := by decide +kernel

include hy in
/-- A block of the retention's rows. -/
theorem blk_y (u : Fin cfg0.N) : iblk m c 0 u = (arr 512 2048 .f32 (fun i j => y (u.val * 512 + i) j) : FVec Ideal S512x2048 .f32) := by
  funext z
  blk_simp [iblk]
  rw [V_main_arg0, hy]
  unfold arr
  blk_simp [index_0]

include hp in
/-- A block of the gate's rows. -/
theorem blk_q (u : Fin cfg0.N) : iblk m c 1 u = (arr 512 2048 .bf16 (fun i j => p (u.val * 512 + i) (4096 + j)) : FVec Ideal S512x2048 .bf16) := by
  funext z
  blk_simp [iblk]
  rw [V_main_arg1, hp]
  unfold arr
  blk_simp [index_1]

include hg in
/-- The gains, whole. -/
theorem blk_g (u : Fin cfg0.N) : iblk m c 2 u = (arr 1 2048 .f32 g : FVec Ideal S1x2048 .f32) := by
  funext z
  blk_simp [iblk]
  rw [V_main_arg2, hg]
  unfold arr
  blk_simp [index_2]

include hy hp hg in
/-- The gated rows that the call leaves. -/
theorem result : (dats m 0 c).arrAt 3 cfg0.N
    = (arr 2048 2048 .bf16 (gated y (fun i j => p i (4096 + j)) g) : FVec Ideal S2048x2048 .bf16) := by
  refine (dats m 0 c).arrAt_eq_of_covers 3 _ (by decide +kernel) fun u hf z => ?_
  blk_simp
  rw [after0_3]
  frame_out
  rw [blk_y m c y hy, blk_q m c p hp, blk_g m c g hg, pay_gate]
  unfold arr
  blk_simp [index_3]
  rfl

end Kernel

section Reference
open Cert.RefRetGateIdeal Cert.RefRetGateIdeal.Gen Cert.RefRetGateIdeal.Read

variable (y p g : ℕ → ℕ → EReal)

/-- The reference's gated rows. -/
theorem reference : val_main_v20 (F := Ideal) (arr 2048 2048 .f32 y) (arr 2048 6144 .bf16 p) (arr 1 2048 .f32 g)
    = arr 2048 2048 .bf16 (gated y (fun i j => p i (4096 + j)) g) := by
  refine eq_arr fun i j => ?_
  have hi : i.val < 2048 := i.isLt
  have hj : j.val < 2048 := j.isLt
  have hz : Ideal.ofBits .f32 0x00000000#32 = 0 := Ideal.ofBits_zero_f32
  have h1 : Ideal.ofBits .f32 0x3F800000#32 = 1 := ofBits_one
  have e0 : ∀ k < 512, (((i.val * 2048 + j.val) / 2048 * 4 + (i.val * 2048 + j.val) / 512 % 4) * 512 + k) / 2048 = i.val := by omega
  have e1 : ∀ k < 512, (((i.val * 2048 + j.val) / 2048 * 4 + (i.val * 2048 + j.val) / 512 % 4) * 512 + k) % 2048 = j.val / 512 * 512 + k := by omega
  have e2 : j.val / 512 * 512 + (i.val * 2048 + j.val) % 512 = j.val := by omega
  have e3 : ((i.val * 2048 + j.val) / 512 % 4 * 512 + (i.val * 2048 + j.val) % 512) % 2048 = j.val := by omega
  have hm : (i.val * 2048 + j.val) % 512 < 512 := Nat.mod_lt _ (by omega)
  unfold gated headNorm
  rw [← zero_add (∑ d ∈ Finset.range 512, _), ← hz]
  rw [val_main_v20_apply, val_main_v19_apply, val_main_v18_apply, val_main_call0_v5_apply, val_main_call0_v4_apply,
    val_main_call0_cst_0_apply, val_main_call0_v3_apply, val_main_call0_v2_apply, val_main_call0_cst_apply, val_main_call0_v1_apply,
    val_main_call0_v0_apply, val_main_v1_apply, val_main_v0_apply, val_main_v17_apply, val_main_v16_apply, val_main_v15_apply,
    val_main_v14_apply, val_main_v3_apply, val_main_v13_apply, val_main_v12_apply, val_main_v11_apply, val_main_v10_apply,
    val_main_v9_apply, val_main_cst_1_apply, val_main_v8_apply, val_main_v7_apply, val_main_cst_0_apply, val_main_v6_apply,
    val_main_v5_apply, val_main_cst_apply, val_main_v2_apply]
  have e : ∀ k : Fin 512, val_main_v4 (F := Ideal) (arr 2048 2048 .f32 y) (idx_main_v5 (idx_main_v6 (idx_main_v12 (idx_main_v17 (ix2 i j)))) k)
      = (fun d => y i.val (j.val / 512 * 512 + d) * y i.val (j.val / 512 * 512 + d)) k.val := fun k => by
    rw [val_main_v4_apply, val_main_v2_apply]
    show y ((((i.val * 2048 + j.val) / 2048 * 4 + (i.val * 2048 + j.val) / 512 % 4) * 512 + k.val) / 2048)
        ((((i.val * 2048 + j.val) / 2048 * 4 + (i.val * 2048 + j.val) / 512 % 4) * 512 + k.val) % 2048)
      * y ((((i.val * 2048 + j.val) / 2048 * 4 + (i.val * 2048 + j.val) / 512 % 4) * 512 + k.val) / 2048)
        ((((i.val * 2048 + j.val) / 2048 * 4 + (i.val * 2048 + j.val) / 512 % 4) * 512 + k.val) % 2048) = _
    rw [e0 k.val k.isLt, e1 k.val k.isLt]
  rw [(Finset.sum_congr rfl fun k _ => e k).trans
    (sum_fin (fun d => y i.val (j.val / 512 * 512 + d) * y i.val (j.val / 512 * 512 + d)) 512)]
  show p i.val (4096 + j.val) * Ideal.div (Ideal.ofBits .f32 0x3F800000#32) (Ideal.ofBits .f32 0x3F800000#32 + Ideal.exp (-p i.val (4096 + j.val)))
      * (y ((((i.val * 2048 + j.val) / 2048 * 4 + (i.val * 2048 + j.val) / 512 % 4) * 512 + (i.val * 2048 + j.val) % 512) / 2048)
          ((((i.val * 2048 + j.val) / 2048 * 4 + (i.val * 2048 + j.val) / 512 % 4) * 512 + (i.val * 2048 + j.val) % 512) % 2048) * _
        * g 0 (((i.val * 2048 + j.val) / 512 % 4 * 512 + (i.val * 2048 + j.val) % 512) % 2048)) = _
  rw [h1, e0 _ hm, e1 _ hm, e2, e3]
  rfl

end Reference

section Claims
open Cert.RetGateIdeal

/-- The kernel's frame at the machine's own numbers. -/
theorem frame_p : Cert.quiescent_RetGate := fun m g _ => Cert.RetGate.Gen.frame m g

/-- The idealized kernel's frame. -/
theorem frame_pi : Cert.quiescent_RetGateIdeal := fun m g _ => Cert.RetGateIdeal.Gen.frame m g

/-- The reference's frame. -/
theorem frame_r : Cert.quiescent_RefRetGateIdeal := fun m g _ =>
  (θ_run Cert.RefRetGateIdeal.defs _ _).mono (fun r h => ⟨fun c => (h c).2, sem_eq_zero_of_no_sems (by decide) r.2⟩)
    (Cert.RefRetGateIdeal.Value.run m g)

/-- The idealized kernel is the kernel's own text. -/
theorem preserves : Cert.preserves_RetGate_RetGateIdeal := trivial

/-- The kernel and the reference end with equal arrays. -/
theorem algebraic : Cert.algebraic_RetGateIdeal_RefRetGateIdeal := by
  intro m g m' g' _ hagree
  refine ⟨fun c => (Cert.RetGateIdeal.Gen.dats m 0 c).arrAt 3 _, Cert.RetGateIdeal.Value.run_blocks m g,
    (θ_run Cert.RefRetGateIdeal.defs _ _).mono (fun r h c => ⟨(h c).1.trans ?_, (h c).2⟩) (Cert.RefRetGateIdeal.Value.run m' g')⟩
  obtain ⟨a0, a1, a2⟩ := hagree c
  obtain ⟨y, hy⟩ := exists_arr (n := 2048) (m := 2048) (φ := .f32) (m ((c.tc : Thread nD τ).loc main_arg0))
  obtain ⟨p, hp⟩ := exists_arr (n := 2048) (m := 6144) (φ := .bf16) (m ((c.tc : Thread nD τ).loc main_arg1))
  obtain ⟨g, hg⟩ := exists_arr (n := 1) (m := 2048) (φ := .f32) (m ((c.tc : Thread nD τ).loc main_arg2))
  rw [Cert.RefRetGateIdeal.Read.val_main_v20_eq, a0, a1, a2, hy, hp, hg]
  exact (reference y p g).trans (result m c y p g hy hp hg).symm

end Claims

end Cert.Proof.RetGate
-- ==== Proof.ResMlp.lean ====
module

public import proofs.«01_k».proof.Defs
public import proofs.«01_k».proof.Proof.Gen.ResMlp.Frame
public import proofs.«01_k».proof.Proof.Gen.ResMlpIdeal.Value
public import proofs.«01_k».proof.Proof.Gen.RefResMlpIdeal.Read
public import proofs.«01_k».proof.Proof.Mixer
public import proofs.«01_k».proof.Proof.RefParts
public import Idealize.ShloMosaic.Lib.Quiescent
public import Idealize.ShloMosaic.Lib.Pipeline.ValueKit.Geometry
public import Idealize.ShloMosaic.Lib.Pipeline.ValueKit.Acc

/-!
What follows the first layer's MLP: the residual, and the modulated norms of its rows for the shared keys and values and for
the next layer's mixer.
-/

@[expose] public section

set_option maxRecDepth 16384

noncomputable section

open scoped BigOperators

namespace Cert.Proof.ResMlp

open Idealize.ShloMosaic Idealize.ShloMosaic.TcCoe Idealize.ShloMosaic.ValueIdx Idealize.SL.Sem Ret

section Kernel
open Cert.ResMlpIdeal Cert.ResMlpIdeal.Gen Cert.ResMlpIdeal.Value

variable (m : (ℓ : Loc nD τ sig) → Buf (Elt Ideal) ℓ) (c : Dev nD) (x p s t s1 t1 u v g e : ℕ → ℕ → EReal)
  (hx : m ((c : Thread nD τ).loc main_arg0) = (arr 2048 1024 .f32 x : FVec Ideal S2048x1024 .f32))
  (hp : m ((c : Thread nD τ).loc main_arg1) = (arr 2048 1024 .f32 p : FVec Ideal S2048x1024 .f32))
  (hs : m ((c : Thread nD τ).loc main_arg2) = (arr 1 6144 .f32 s : FVec Ideal S1x6144 .f32))
  (ht : m ((c : Thread nD τ).loc main_arg3) = (arr 1 6144 .f32 t : FVec Ideal S1x6144 .f32))
  (hs1 : m ((c : Thread nD τ).loc main_arg4) = (arr 1 6144 .f32 s1 : FVec Ideal S1x6144 .f32))
  (ht1 : m ((c : Thread nD τ).loc main_arg5) = (arr 1 6144 .f32 t1 : FVec Ideal S1x6144 .f32))
  (hu : m ((c : Thread nD τ).loc main_arg6) = (arr 1 2048 .f32 u : FVec Ideal S1x2048 .f32))
  (hv : m ((c : Thread nD τ).loc main_arg7) = (arr 1 2048 .f32 v : FVec Ideal S1x2048 .f32))
  (hg : m ((c : Thread nD τ).loc main_arg8) = (arr 2 1024 .f32 g : FVec Ideal S2x1024 .f32))
  (he : m ((c : Thread nD τ).loc main_arg9) = (arr 1 1024 .f32 e : FVec Ideal S1x1024 .f32))

/-- The blocks' places. -/
theorem index_0 : ∀ t : Fin cfg0.N, win0_0.index t = ![t.val, 0] := by decide +kernel
@[inherit_doc index_0]
theorem index_1 : ∀ t : Fin cfg0.N, win0_1.index t = ![t.val, 0] := by decide +kernel
@[inherit_doc index_0]
theorem index_2 : ∀ t : Fin cfg0.N, win0_2.index t = ![0, 0] := by decide +kernel
@[inherit_doc index_0]
theorem index_3 : ∀ t : Fin cfg0.N, win0_3.index t = ![0, 0] := by decide +kernel
@[inherit_doc index_0]
theorem index_4 : ∀ t : Fin cfg0.N, win0_4.index t = ![0, 0] := by decide +kernel
@[inherit_doc index_0]
theorem index_5 : ∀ t : Fin cfg0.N, win0_5.index t = ![0, 0] := by decide +kernel
@[inherit_doc index_0]
theorem index_6 : ∀ t : Fin cfg0.N, win0_6.index t = ![0, 0] := by decide +kernel
@[inherit_doc index_0]
theorem index_7 : ∀ t : Fin cfg0.N, win0_7.index t = ![0, 0] := by decide +kernel
@[inherit_doc index_0]
theorem index_8 : ∀ t : Fin cfg0.N, win0_8.index t = ![0, 0] := by decide +kernel
@[inherit_doc index_0]
theorem index_9 : ∀ t : Fin cfg0.N, win0_9.index t = ![0, 0] := by decide +kernel
@[inherit_doc index_0]
theorem index_10 : ∀ t : Fin cfg0.N, win0_10.index t = ![t.val, 0] := by decide +kernel
@[inherit_doc index_0]
theorem index_11 : ∀ t : Fin cfg0.N, win0_11.index t = ![t.val, 0] := by decide +kernel
@[inherit_doc index_0]
theorem index_12 : ∀ t : Fin cfg0.N, win0_12.index t = ![t.val, 0] := by decide +kernel

include hx in
/-- A block of the rows that the residual adds to. -/
theorem blk_x (k : Fin cfg0.N) : iblk m c 0 k = (arr 512 1024 .f32 (fun i j => x (k.val * 512 + i) j) : FVec Ideal S512x1024 .f32) := by
  funext z
  blk_simp [iblk]
  rw [V_main_arg0, hx]
  unfold arr
  blk_simp [index_0]

include hp in
/-- A block of the product. -/
theorem blk_p (k : Fin cfg0.N) : iblk m c 1 k = (arr 512 1024 .f32 (fun i j => p (k.val * 512 + i) j) : FVec Ideal S512x1024 .f32) := by
  funext z
  blk_simp [iblk]
  rw [V_main_arg1, hp]
  unfold arr
  blk_simp [index_1]

include hs in
/-- The modulations, their biases and the gains, whole. -/
theorem blk_s (k : Fin cfg0.N) : iblk m c 2 k = (arr 1 6144 .f32 s : FVec Ideal S1x6144 .f32) := by
  funext z
  blk_simp [iblk]
  rw [V_main_arg2, hs]
  unfold arr
  blk_simp [index_2]

include ht in
@[inherit_doc blk_s]
theorem blk_t (k : Fin cfg0.N) : iblk m c 3 k = (arr 1 6144 .f32 t : FVec Ideal S1x6144 .f32) := by
  funext z
  blk_simp [iblk]
  rw [V_main_arg3, ht]
  unfold arr
  blk_simp [index_3]

include hs1 in
@[inherit_doc blk_s]
theorem blk_s1 (k : Fin cfg0.N) : iblk m c 4 k = (arr 1 6144 .f32 s1 : FVec Ideal S1x6144 .f32) := by
  funext z
  blk_simp [iblk]
  rw [V_main_arg4, hs1]
  unfold arr
  blk_simp [index_4]

include ht1 in
@[inherit_doc blk_s]
theorem blk_t1 (k : Fin cfg0.N) : iblk m c 5 k = (arr 1 6144 .f32 t1 : FVec Ideal S1x6144 .f32) := by
  funext z
  blk_simp [iblk]
  rw [V_main_arg5, ht1]
  unfold arr
  blk_simp [index_5]

include hu in
@[inherit_doc blk_s]
theorem blk_u (k : Fin cfg0.N) : iblk m c 6 k = (arr 1 2048 .f32 u : FVec Ideal S1x2048 .f32) := by
  funext z
  blk_simp [iblk]
  rw [V_main_arg6, hu]
  unfold arr
  blk_simp [index_6]

include hv in
@[inherit_doc blk_s]
theorem blk_v (k : Fin cfg0.N) : iblk m c 7 k = (arr 1 2048 .f32 v : FVec Ideal S1x2048 .f32) := by
  funext z
  blk_simp [iblk]
  rw [V_main_arg7, hv]
  unfold arr
  blk_simp [index_7]

include hg in
@[inherit_doc blk_s]
theorem blk_g (k : Fin cfg0.N) : iblk m c 8 k = (arr 2 1024 .f32 g : FVec Ideal S2x1024 .f32) := by
  funext z
  blk_simp [iblk]
  rw [V_main_arg8, hg]
  unfold arr
  blk_simp [index_8]

include he in
@[inherit_doc blk_s]
theorem blk_e (k : Fin cfg0.N) : iblk m c 9 k = (arr 1 1024 .f32 e : FVec Ideal S1x1024 .f32) := by
  funext z
  blk_simp [iblk]
  rw [V_main_arg9, he]
  unfold arr
  blk_simp [index_9]

/-- The body's residual. -/
theorem pay_resid (x' p' : ℕ → ℕ → EReal) : k0_pay3 (F := Ideal) (arr 512 1024 .f32 x') (arr 512 1024 .f32 p') (arr 1 6144 .f32 s) (arr 1 6144 .f32 t) = arr 512 1024 .f32 (resid 5120 p' x' s t) := by
  unfold k0_pay3
  exact blockResid_arr slices_S1x6144_o0_5120_S1x1024 broadcasts_S1x1024_S512x1024 _ _ _ _

/-- The body's modulated norm for the shared keys and values. -/
theorem pay_kv (x' p' : ℕ → ℕ → EReal) : k0_pay1 (F := Ideal) (k0_pay8 (arr 1 2048 .f32 u) (arr 1 2048 .f32 v))
    (k0_pay9 (arr 512 1024 .f32 x') (arr 512 1024 .f32 p') (arr 1 6144 .f32 s) (arr 1 6144 .f32 t) (arr 1 1024 .f32 e)) (k0_pay10 (arr 1 2048 .f32 u) (arr 1 2048 .f32 v))
      = arr 512 1024 .bf16 (normed 0 1024 (resid 5120 p' x' s t) u v (e 0)) := by
  unfold k0_pay1 k0_pay9
  rw [pay_resid]
  exact congrArg (fun z => truncf .bf16 z bitsLt_bf16_f32) (blockNorm_arr slices_S1x2048_o0_0_S1x1024 slices_S1x2048_o0_1024_S1x1024
    broadcasts_S1x1024_S512x1024 broadcasts_S512x1_S512x1024 reduces_S512x1024_S512 shapeCasts_S512_S512x1 (resid 5120 p' x' s t) u v e)

/-- The body's modulated norm for the next layer's mixer. -/
theorem pay_mix (y : ℕ → ℕ → EReal) : k0_pay2 (F := Ideal) (arr 2 1024 .f32 g) (arr 512 1024 .f32 y)
    (k0_pay5 (arr 1 6144 .f32 s1) (arr 1 6144 .f32 t1)) (k0_pay6 (arr 1 6144 .f32 s1) (arr 1 6144 .f32 t1))
      = arr 512 1024 .bf16 (normed 0 1024 y s1 t1 (g 1)) := by
  unfold k0_pay2
  refine congrArg (fun z => truncf .bf16 z bitsLt_bf16_f32) (Eq.trans ?_ (blockNorm_arr slices_S1x6144_o0_0_S1x1024
    slices_S1x6144_o0_1024_S1x1024 broadcasts_S1x1024_S512x1024 broadcasts_S512x1_S512x1024 reduces_S512x1024_S512
    shapeCasts_S512_S512x1 y s1 t1 fun _ => g 1))
  refine congrArg (blockNorm slices_S1x6144_o0_0_S1x1024 slices_S1x6144_o0_1024_S1x1024 broadcasts_S1x1024_S512x1024
    broadcasts_S512x1_S512x1024 reduces_S512x1024_S512 shapeCasts_S512_S512x1 _ _ _)
    ((slice_arr 1 0 g slices_S2x1024_o1_0_S1x1024).trans ?_)
  refine arr_congr fun i hi j _ => ?_
  obtain rfl := Nat.lt_one_iff.mp hi
  exact congrArg (g 1) (Nat.zero_add j)

include hx hp hs ht in
/-- The residual that the call leaves. -/
theorem result_resid : (dats m 0 c).arrAt 10 cfg0.N = (arr 2048 1024 .f32 (resid 5120 p x s t) : FVec Ideal S2048x1024 .f32) := by
  refine (dats m 0 c).arrAt_eq_of_covers 10 _ (by decide +kernel) fun k hf z => ?_
  blk_simp
  rw [after0_10]
  unfold out0_10 k0_pay11
  frame_out
  rw [blk_x m c x hx, blk_p m c p hp, blk_s m c s hs, blk_t m c t ht, pay_resid]
  unfold arr
  blk_simp [index_10]
  rfl

include hx hp hs ht hu hv he in
/-- The modulated norm for the shared keys and values that the call leaves. -/
theorem result_kv : (dats m 0 c).arrAt 11 cfg0.N = (arr 2048 1024 .bf16 (normed 0 1024 (resid 5120 p x s t) u v (e 0)) : FVec Ideal S2048x1024 .bf16) := by
  refine (dats m 0 c).arrAt_eq_of_covers 11 _ (by decide +kernel) fun k hf z => ?_
  blk_simp
  rw [after0_11]
  unfold out0_11
  frame_out
  rw [blk_x m c x hx, blk_p m c p hp, blk_s m c s hs, blk_t m c t ht, blk_u m c u hu, blk_v m c v hv, blk_e m c e he, pay_kv]
  unfold arr
  blk_simp [index_11]
  rfl

include hx hp hs ht hs1 ht1 hg in
/-- The modulated norm for the next layer's mixer that the call leaves. -/
theorem result_mix : (dats m 0 c).arrAt 12 cfg0.N = (arr 2048 1024 .bf16 (normed 0 1024 (resid 5120 p x s t) s1 t1 (g 1)) : FVec Ideal S2048x1024 .bf16) := by
  refine (dats m 0 c).arrAt_eq_of_covers 12 _ (by decide +kernel) fun k hf z => ?_
  blk_simp
  rw [after0_12]
  unfold out0_12 k0_pay11
  frame_out
  rw [blk_x m c x hx, blk_p m c p hp, blk_s m c s hs, blk_t m c t ht, blk_s1 m c s1 hs1, blk_t1 m c t1 ht1, blk_g m c g hg, pay_resid, pay_mix]
  unfold arr
  blk_simp [index_12]
  rfl

end Kernel

section Reference
open Cert.RefResMlpIdeal Cert.RefResMlpIdeal.Gen Cert.RefResMlpIdeal.Read

variable (x p s t s1 t1 u v g e : ℕ → ℕ → EReal)

/-- The reference's modulations at a column. -/
theorem modulation (i : S6144.Idx) : val_main_v2 (F := Ideal) (arr 1 6144 .f32 s) (arr 1 6144 .f32 t) i = ada s t (i 0).val := by
  have h : (i 0).val < 6144 := (i 0).isLt
  rw [val_main_v2_apply, val_main_v0_apply, val_main_v1_apply]
  show ada s t ((i 0).val % 6144) = _
  rw [Nat.mod_eq_of_lt h]

@[inherit_doc modulation]
theorem modulation_next (i : S6144.Idx) : val_main_v20 (F := Ideal) (arr 1 6144 .f32 s1) (arr 1 6144 .f32 t1) i = ada s1 t1 (i 0).val := by
  have h : (i 0).val < 6144 := (i 0).isLt
  rw [val_main_v20_apply, val_main_v18_apply, val_main_v19_apply]
  show ada s1 t1 ((i 0).val % 6144) = _
  rw [Nat.mod_eq_of_lt h]

@[inherit_doc modulation]
theorem modulation_kv (i : S2048.Idx) : val_main_v15 (F := Ideal) (arr 1 2048 .f32 u) (arr 1 2048 .f32 v) i = ada u v (i 0).val := by
  have h : (i 0).val < 2048 := (i 0).isLt
  rw [val_main_v15_apply, val_main_v13_apply, val_main_v14_apply]
  show ada u v ((i 0).val % 2048) = _
  rw [Nat.mod_eq_of_lt h]

/-- The reference's residual. -/
theorem reference_resid : val_main_v12 (F := Ideal) (arr 2048 1024 .f32 x) (arr 2048 1024 .f32 p) (arr 1 6144 .f32 s) (arr 1 6144 .f32 t) = arr 2048 1024 .f32 (resid 5120 p x s t) := by
  refine eq_arr fun i j => ?_
  rw [val_main_v12_apply, val_main_v11_apply, val_main_v10_apply, val_main_v9_apply, val_main_v8_apply, modulation]
  rfl

/-- The reference's modulated norm for the shared keys and values. -/
theorem reference_kv : val_main_v49 (F := Ideal) (arr 2048 1024 .f32 x) (arr 2048 1024 .f32 p) (arr 1 6144 .f32 s) (arr 1 6144 .f32 t) (arr 1 2048 .f32 u) (arr 1 2048 .f32 v) (arr 1 1024 .f32 e)
    = arr 2048 1024 .bf16 (normed 0 1024 (resid 5120 p x s t) u v (e 0)) := by
  refine eq_arr fun i j => ?_
  have hz : Ideal.ofBits .f32 0x00000000#32 = 0 := Ideal.ofBits_zero_f32
  unfold normed
  rw [← zero_add (∑ d ∈ Finset.range 1024, _), ← hz]
  rw [val_main_v49_apply, val_main_v48_apply, val_main_v47_apply, val_main_v46_apply, val_main_v16_apply, modulation_kv, val_main_v45_apply, val_main_v44_apply, val_main_v43_apply, val_main_v42_apply, val_main_cst_2_apply, val_main_v41_apply, val_main_v17_apply, modulation_kv, val_main_v40_apply, val_main_v39_apply, val_main_v38_apply, val_main_v27_apply, val_main_v37_apply, val_main_v36_apply, val_main_v35_apply, val_main_v34_apply, val_main_v33_apply, val_main_cst_1_apply, val_main_v32_apply, val_main_v31_apply, val_main_cst_0_apply, val_main_v30_apply, val_main_v29_apply, val_main_cst_apply]
  have e' : ∀ k : Fin 1024, val_main_v28 (F := Ideal) (arr 2048 1024 .f32 x) (arr 2048 1024 .f32 p) (arr 1 6144 .f32 s) (arr 1 6144 .f32 t) (idx_main_v29 (idx_main_v30 (idx_main_v36 (ix2 i j))) k)
      = (fun d => resid 5120 p x s t i.val d * resid 5120 p x s t i.val d) k.val := fun k => by
    rw [val_main_v28_apply, reference_resid]
    rfl
  rw [(Finset.sum_congr rfl fun k _ => e' k).trans (sum_fin (fun d => resid 5120 p x s t i.val d * resid 5120 p x s t i.val d) 1024), reference_resid]
  have hj : j.val % 1024 = j.val := Nat.mod_eq_of_lt j.isLt
  show _ * _ * e _ (j.val % 1024) * _ + _ = _
  rw [hj, Nat.zero_add j.val]
  rfl

/-- The reference's modulated norm for the next layer's mixer. -/
theorem reference_mix : val_main_v73 (F := Ideal) (arr 2048 1024 .f32 x) (arr 2048 1024 .f32 p) (arr 1 6144 .f32 s) (arr 1 6144 .f32 t) (arr 1 6144 .f32 s1) (arr 1 6144 .f32 t1) (arr 2 1024 .f32 g)
    = arr 2048 1024 .bf16 (normed 0 1024 (resid 5120 p x s t) s1 t1 (g 1)) := by
  refine eq_arr fun i j => ?_
  have hz : Ideal.ofBits .f32 0x00000000#32 = 0 := Ideal.ofBits_zero_f32
  unfold normed
  rw [← zero_add (∑ d ∈ Finset.range 1024, _), ← hz]
  rw [val_main_v73_apply, val_main_v72_apply, val_main_v71_apply, val_main_v70_apply, val_main_v21_apply, modulation_next, val_main_v69_apply, val_main_v68_apply, val_main_v67_apply, val_main_v66_apply, val_main_cst_6_apply, val_main_v65_apply, val_main_v22_apply, modulation_next, val_main_v64_apply, val_main_v63_apply, val_main_v62_apply, val_main_v51_apply, val_main_v50_apply, val_main_v61_apply, val_main_v60_apply, val_main_v59_apply, val_main_v58_apply, val_main_v57_apply, val_main_cst_5_apply, val_main_v56_apply, val_main_v55_apply, val_main_cst_4_apply, val_main_v54_apply, val_main_v53_apply, val_main_cst_3_apply]
  have e' : ∀ k : Fin 1024, val_main_v52 (F := Ideal) (arr 2048 1024 .f32 x) (arr 2048 1024 .f32 p) (arr 1 6144 .f32 s) (arr 1 6144 .f32 t) (idx_main_v53 (idx_main_v54 (idx_main_v60 (ix2 i j))) k)
      = (fun d => resid 5120 p x s t i.val d * resid 5120 p x s t i.val d) k.val := fun k => by
    rw [val_main_v52_apply, reference_resid]
    rfl
  rw [(Finset.sum_congr rfl fun k _ => e' k).trans (sum_fin (fun d => resid 5120 p x s t i.val d * resid 5120 p x s t i.val d) 1024), reference_resid]
  have hj : j.val % 1024 = j.val := Nat.mod_eq_of_lt j.isLt
  show _ * _ * g _ (j.val % 1024) * _ + _ = _
  rw [hj, Nat.zero_add j.val]
  rfl

end Reference

section Claims
open Cert.ResMlpIdeal

/-- The kernel's frame at the machine's own numbers. -/
theorem frame_p : Cert.quiescent_ResMlp := fun m g _ => Cert.ResMlp.Gen.frame m g

/-- The idealized kernel's frame. -/
theorem frame_pi : Cert.quiescent_ResMlpIdeal := fun m g _ => Cert.ResMlpIdeal.Gen.frame m g

/-- The reference's frame. -/
theorem frame_r : Cert.quiescent_RefResMlpIdeal := fun m g _ =>
  (θ_run Cert.RefResMlpIdeal.defs _ _).mono (fun r h => ⟨fun c => (h c).2.2.2, sem_eq_zero_of_no_sems (by decide) r.2⟩)
    (Cert.RefResMlpIdeal.Value.run m g)

/-- The idealized kernel is the kernel's own text. -/
theorem preserves : Cert.preserves_ResMlp_ResMlpIdeal := trivial

set_option maxHeartbeats 1000000 in
/-- The kernel and the reference end with equal arrays. -/
theorem algebraic : Cert.algebraic_ResMlpIdeal_RefResMlpIdeal := by
  intro m g m' g' _ hagree
  refine ⟨fun c => (Cert.ResMlpIdeal.Gen.dats m 0 c).arrAt 10 _, fun c => (Cert.ResMlpIdeal.Gen.dats m 0 c).arrAt 11 _,
    fun c => (Cert.ResMlpIdeal.Gen.dats m 0 c).arrAt 12 _, Cert.ResMlpIdeal.Value.run_blocks m g,
    (θ_run Cert.RefResMlpIdeal.defs _ _).mono (fun r h c => ⟨(h c).1.trans ?_, (h c).2.1.trans ?_, (h c).2.2.1.trans ?_, (h c).2.2.2⟩)
      (Cert.RefResMlpIdeal.Value.run m' g')⟩
  all_goals
    obtain ⟨a0, a1, a2, a3, a4, a5, a6, a7, a8, a9⟩ := hagree c
    obtain ⟨x, hx⟩ := exists_arr (n := 2048) (m := 1024) (φ := .f32) (m ((c.tc : Thread nD τ).loc main_arg0))
    obtain ⟨p, hp⟩ := exists_arr (n := 2048) (m := 1024) (φ := .f32) (m ((c.tc : Thread nD τ).loc main_arg1))
    obtain ⟨s, hs⟩ := exists_arr (n := 1) (m := 6144) (φ := .f32) (m ((c.tc : Thread nD τ).loc main_arg2))
    obtain ⟨t, ht⟩ := exists_arr (n := 1) (m := 6144) (φ := .f32) (m ((c.tc : Thread nD τ).loc main_arg3))
    obtain ⟨s1, hs1⟩ := exists_arr (n := 1) (m := 6144) (φ := .f32) (m ((c.tc : Thread nD τ).loc main_arg4))
    obtain ⟨t1, ht1⟩ := exists_arr (n := 1) (m := 6144) (φ := .f32) (m ((c.tc : Thread nD τ).loc main_arg5))
    obtain ⟨u, hu⟩ := exists_arr (n := 1) (m := 2048) (φ := .f32) (m ((c.tc : Thread nD τ).loc main_arg6))
    obtain ⟨v, hv⟩ := exists_arr (n := 1) (m := 2048) (φ := .f32) (m ((c.tc : Thread nD τ).loc main_arg7))
    obtain ⟨g, hg⟩ := exists_arr (n := 2) (m := 1024) (φ := .f32) (m ((c.tc : Thread nD τ).loc main_arg8))
    obtain ⟨e, he⟩ := exists_arr (n := 1) (m := 1024) (φ := .f32) (m ((c.tc : Thread nD τ).loc main_arg9))
  · rw [Cert.RefResMlpIdeal.Read.val_main_v12_eq, a0, a1, a2, a3, hx, hp, hs, ht]
    exact (reference_resid x p s t).trans (result_resid m c x p s t hx hp hs ht).symm
  · rw [Cert.RefResMlpIdeal.Read.val_main_v49_eq, a0, a1, a2, a3, a6, a7, a9, hx, hp, hs, ht, hu, hv, he]
    exact (reference_kv x p s t u v e).trans (result_kv m c x p s t u v e hx hp hs ht hu hv he).symm
  · rw [Cert.RefResMlpIdeal.Read.val_main_v73_eq, a0, a1, a2, a3, a4, a5, a8, hx, hp, hs, ht, hs1, ht1, hg]
    exact (reference_mix x p s t s1 t1 g).trans (result_mix m c x p s t s1 t1 g hx hp hs ht hs1 ht1 hg).symm

end Claims

end Cert.Proof.ResMlp
-- ==== Proof.lean ====
/- The claim: the forward retention and its backward calls, of q and of k and v, the forward forgetting attention, the MLP's six
   calls, the calls of the projections, those out of the mixers with the residual and the modulated norm that follow, the
   modulated norm before the first mixer, the rotation of queries and keys, the gates after the retention and the attention, and
   the residual after the first MLP with the modulated norms of its rows. Each kernel runs to
   its end with its arguments unchanged and every semaphore at zero, its idealization keeps its constants, and it leaves the
   reference's arrays, the retention's and the attention's over finite arguments. -/
module

public import proofs.«01_k».proof.Defs
public import proofs.«01_k».proof.Proof.Gen.Dq
public import proofs.«01_k».proof.Proof.Gen.Dq.Skeleton
public import proofs.«01_k».proof.Proof.Gen.Dq.Launch
public import proofs.«01_k».proof.Proof.Gen.Dq.Points
public import proofs.«01_k».proof.Proof.Gen.Dq.Frame
public import proofs.«01_k».proof.Proof.Gen.DqIdeal
public import proofs.«01_k».proof.Proof.Gen.DqIdeal.Skeleton
public import proofs.«01_k».proof.Proof.Gen.DqIdeal.Launch
public import proofs.«01_k».proof.Proof.Gen.DqIdeal.Points
public import proofs.«01_k».proof.Proof.Gen.DqIdeal.Frame
public import proofs.«01_k».proof.Proof.Gen.RefDqIdeal
public import proofs.«01_k».proof.Proof.Gen.RefDqIdeal.Run
public import proofs.«01_k».proof.Proof.Gen.RefDqIdeal.Read
public import proofs.«01_k».proof.Proof.Gen.Dkv
public import proofs.«01_k».proof.Proof.Gen.Dkv.Skeleton
public import proofs.«01_k».proof.Proof.Gen.Dkv.Launch
public import proofs.«01_k».proof.Proof.Gen.Dkv.Points
public import proofs.«01_k».proof.Proof.Gen.Dkv.Frame
public import proofs.«01_k».proof.Proof.Gen.DkvIdeal
public import proofs.«01_k».proof.Proof.Gen.DkvIdeal.Skeleton
public import proofs.«01_k».proof.Proof.Gen.DkvIdeal.Launch
public import proofs.«01_k».proof.Proof.Gen.DkvIdeal.Points
public import proofs.«01_k».proof.Proof.Gen.DkvIdeal.Frame
public import proofs.«01_k».proof.Proof.Gen.RefDkvIdeal
public import proofs.«01_k».proof.Proof.Gen.RefDkvIdeal.Run
public import proofs.«01_k».proof.Proof.Gen.RefDkvIdeal.Read
public import proofs.«01_k».proof.Proof.Gen.MlpOutDx
public import proofs.«01_k».proof.Proof.Gen.MlpOutDx.Skeleton
public import proofs.«01_k».proof.Proof.Gen.MlpOutDx.Launch
public import proofs.«01_k».proof.Proof.Gen.MlpOutDx.Points
public import proofs.«01_k».proof.Proof.Gen.MlpOutDx.Frame
public import proofs.«01_k».proof.Proof.Gen.MlpOutDxIdeal
public import proofs.«01_k».proof.Proof.Gen.MlpOutDxIdeal.Skeleton
public import proofs.«01_k».proof.Proof.Gen.MlpOutDxIdeal.Launch
public import proofs.«01_k».proof.Proof.Gen.MlpOutDxIdeal.Points
public import proofs.«01_k».proof.Proof.Gen.MlpOutDxIdeal.Frame
public import proofs.«01_k».proof.Proof.Gen.RefMlpOutDxIdeal
public import proofs.«01_k».proof.Proof.Gen.RefMlpOutDxIdeal.Run
public import proofs.«01_k».proof.Proof.Gen.RefMlpOutDxIdeal.Read
public import proofs.«01_k».proof.Proof.Gen.MlpOutDxIdeal.Value
public import proofs.«01_k».proof.Proof.Gen.MlpOutDw
public import proofs.«01_k».proof.Proof.Gen.MlpOutDw.Skeleton
public import proofs.«01_k».proof.Proof.Gen.MlpOutDw.Launch
public import proofs.«01_k».proof.Proof.Gen.MlpOutDw.Points
public import proofs.«01_k».proof.Proof.Gen.MlpOutDw.Frame
public import proofs.«01_k».proof.Proof.Gen.MlpOutDwIdeal
public import proofs.«01_k».proof.Proof.Gen.MlpOutDwIdeal.Skeleton
public import proofs.«01_k».proof.Proof.Gen.MlpOutDwIdeal.Launch
public import proofs.«01_k».proof.Proof.Gen.MlpOutDwIdeal.Points
public import proofs.«01_k».proof.Proof.Gen.MlpOutDwIdeal.Frame
public import proofs.«01_k».proof.Proof.Gen.RefMlpOutDwIdeal
public import proofs.«01_k».proof.Proof.Gen.RefMlpOutDwIdeal.Run
public import proofs.«01_k».proof.Proof.Gen.RefMlpOutDwIdeal.Read
public import proofs.«01_k».proof.Proof.Gen.MlpOutDwIdeal.Value
public import proofs.«01_k».proof.Proof.Gen.MlpInDx
public import proofs.«01_k».proof.Proof.Gen.MlpInDx.Skeleton
public import proofs.«01_k».proof.Proof.Gen.MlpInDx.Launch
public import proofs.«01_k».proof.Proof.Gen.MlpInDx.Points
public import proofs.«01_k».proof.Proof.Gen.MlpInDx.Frame
public import proofs.«01_k».proof.Proof.Gen.MlpInDxIdeal
public import proofs.«01_k».proof.Proof.Gen.MlpInDxIdeal.Skeleton
public import proofs.«01_k».proof.Proof.Gen.MlpInDxIdeal.Launch
public import proofs.«01_k».proof.Proof.Gen.MlpInDxIdeal.Points
public import proofs.«01_k».proof.Proof.Gen.MlpInDxIdeal.Frame
public import proofs.«01_k».proof.Proof.Gen.RefMlpInDxIdeal
public import proofs.«01_k».proof.Proof.Gen.RefMlpInDxIdeal.Run
public import proofs.«01_k».proof.Proof.Gen.RefMlpInDxIdeal.Read
public import proofs.«01_k».proof.Proof.Gen.MlpInDxIdeal.Value
public import proofs.«01_k».proof.Proof.Gen.MlpInDw
public import proofs.«01_k».proof.Proof.Gen.MlpInDw.Skeleton
public import proofs.«01_k».proof.Proof.Gen.MlpInDw.Launch
public import proofs.«01_k».proof.Proof.Gen.MlpInDw.Points
public import proofs.«01_k».proof.Proof.Gen.MlpInDw.Frame
public import proofs.«01_k».proof.Proof.Gen.MlpInDwIdeal
public import proofs.«01_k».proof.Proof.Gen.MlpInDwIdeal.Skeleton
public import proofs.«01_k».proof.Proof.Gen.MlpInDwIdeal.Launch
public import proofs.«01_k».proof.Proof.Gen.MlpInDwIdeal.Points
public import proofs.«01_k».proof.Proof.Gen.MlpInDwIdeal.Frame
public import proofs.«01_k».proof.Proof.Gen.RefMlpInDwIdeal
public import proofs.«01_k».proof.Proof.Gen.RefMlpInDwIdeal.Run
public import proofs.«01_k».proof.Proof.Gen.RefMlpInDwIdeal.Read
public import proofs.«01_k».proof.Proof.Gen.MlpInDwIdeal.Value
public import proofs.«01_k».proof.Proof.Gen.MlpIn
public import proofs.«01_k».proof.Proof.Gen.MlpIn.Skeleton
public import proofs.«01_k».proof.Proof.Gen.MlpIn.Launch
public import proofs.«01_k».proof.Proof.Gen.MlpIn.Points
public import proofs.«01_k».proof.Proof.Gen.MlpIn.Frame
public import proofs.«01_k».proof.Proof.Gen.MlpInIdeal
public import proofs.«01_k».proof.Proof.Gen.MlpInIdeal.Skeleton
public import proofs.«01_k».proof.Proof.Gen.MlpInIdeal.Launch
public import proofs.«01_k».proof.Proof.Gen.MlpInIdeal.Points
public import proofs.«01_k».proof.Proof.Gen.MlpInIdeal.Frame
public import proofs.«01_k».proof.Proof.Gen.RefMlpInIdeal
public import proofs.«01_k».proof.Proof.Gen.RefMlpInIdeal.Run
public import proofs.«01_k».proof.Proof.Gen.RefMlpInIdeal.Read
public import proofs.«01_k».proof.Proof.Gen.MlpInIdeal.Value
public import proofs.«01_k».proof.Proof.Gen.MlpOut
public import proofs.«01_k».proof.Proof.Gen.MlpOut.Skeleton
public import proofs.«01_k».proof.Proof.Gen.MlpOut.Launch
public import proofs.«01_k».proof.Proof.Gen.MlpOut.Points
public import proofs.«01_k».proof.Proof.Gen.MlpOut.Frame
public import proofs.«01_k».proof.Proof.Gen.MlpOutIdeal
public import proofs.«01_k».proof.Proof.Gen.MlpOutIdeal.Skeleton
public import proofs.«01_k».proof.Proof.Gen.MlpOutIdeal.Launch
public import proofs.«01_k».proof.Proof.Gen.MlpOutIdeal.Points
public import proofs.«01_k».proof.Proof.Gen.MlpOutIdeal.Frame
public import proofs.«01_k».proof.Proof.Gen.RefMlpOutIdeal
public import proofs.«01_k».proof.Proof.Gen.RefMlpOutIdeal.Run
public import proofs.«01_k».proof.Proof.Gen.RefMlpOutIdeal.Read
public import proofs.«01_k».proof.Proof.Gen.MlpOutIdeal.Value
public import proofs.«01_k».proof.Proof.Gen.DqIdeal.Value
public import proofs.«01_k».proof.Proof.Gen.DkvIdeal.Value
public import proofs.«01_k».proof.Proof.Gen.Pre_finite_dq
public import proofs.«01_k».proof.Proof.Gen.Pre_finite_dkv
public import Idealize.ShloMosaic.Adequacy
public import Idealize.ShloMosaic.Init
public import proofs.«01_k».proof.Proof.DqClaims
public import proofs.«01_k».proof.Proof.MlpOutDx
public import proofs.«01_k».proof.Proof.MlpOutDw
public import proofs.«01_k».proof.Proof.MlpInDx
public import proofs.«01_k».proof.Proof.MlpInDw
public import proofs.«01_k».proof.Proof.MlpIn
public import proofs.«01_k».proof.Proof.MlpOut
public import proofs.«01_k».proof.Proof.RetIn
public import proofs.«01_k».proof.Proof.RetOut
public import proofs.«01_k».proof.Proof.FoxIn
public import proofs.«01_k».proof.Proof.FoxOut
public import proofs.«01_k».proof.Proof.KvIn
public import proofs.«01_k».proof.Proof.DkvClaims
public import proofs.«01_k».proof.Proof.RetClaims
public import proofs.«01_k».proof.Proof.FoxClaims
public import proofs.«01_k».proof.Proof.RetMix
public import proofs.«01_k».proof.Proof.FoxMix
public import proofs.«01_k».proof.Proof.FoxGate
public import proofs.«01_k».proof.Proof.ModMix
public import proofs.«01_k».proof.Proof.Rope
public import proofs.«01_k».proof.Proof.RetGate
public import proofs.«01_k».proof.Proof.ResMlp

@[expose] public section

noncomputable section

namespace Cert.Proof

open Idealize.ShloMosaic Idealize.SL.Sem

/-- Every claim of the certificate. -/
theorem claim : Cert.Claim :=
  ⟨Cert.Dq.Gen.facts, Cert.DqIdeal.Gen.facts, Cert.RefDqIdeal.Gen.facts, Cert.Dkv.Gen.facts,
    Cert.DkvIdeal.Gen.facts, Cert.RefDkvIdeal.Gen.facts, Cert.MlpOutDx.Gen.facts, Cert.MlpOutDxIdeal.Gen.facts,
    Cert.RefMlpOutDxIdeal.Gen.facts, Cert.MlpOutDw.Gen.facts, Cert.MlpOutDwIdeal.Gen.facts,
    Cert.RefMlpOutDwIdeal.Gen.facts, Cert.MlpInDx.Gen.facts, Cert.MlpInDxIdeal.Gen.facts,
    Cert.RefMlpInDxIdeal.Gen.facts, Cert.MlpInDw.Gen.facts, Cert.MlpInDwIdeal.Gen.facts,
    Cert.RefMlpInDwIdeal.Gen.facts, Cert.MlpIn.Gen.facts, Cert.MlpInIdeal.Gen.facts, Cert.RefMlpInIdeal.Gen.facts,
    Cert.MlpOut.Gen.facts, Cert.MlpOutIdeal.Gen.facts, Cert.RefMlpOutIdeal.Gen.facts, Cert.RetProjDx.Gen.facts,
    Cert.RetProjDxIdeal.Gen.facts, Cert.RefRetProjDxIdeal.Gen.facts, Cert.RetProjDw.Gen.facts,
    Cert.RetProjDwIdeal.Gen.facts, Cert.RefRetProjDwIdeal.Gen.facts, Cert.RetOutDx.Gen.facts,
    Cert.RetOutDxIdeal.Gen.facts, Cert.RefRetOutDxIdeal.Gen.facts, Cert.RetOutDw.Gen.facts,
    Cert.RetOutDwIdeal.Gen.facts, Cert.RefRetOutDwIdeal.Gen.facts, Cert.FoxProjDx.Gen.facts,
    Cert.FoxProjDxIdeal.Gen.facts, Cert.RefFoxProjDxIdeal.Gen.facts, Cert.FoxProjDw.Gen.facts,
    Cert.FoxProjDwIdeal.Gen.facts, Cert.RefFoxProjDwIdeal.Gen.facts, Cert.FoxOutDx.Gen.facts,
    Cert.FoxOutDxIdeal.Gen.facts, Cert.RefFoxOutDxIdeal.Gen.facts, Cert.FoxOutDw.Gen.facts,
    Cert.FoxOutDwIdeal.Gen.facts, Cert.RefFoxOutDwIdeal.Gen.facts, Cert.KvProjDx.Gen.facts,
    Cert.KvProjDxIdeal.Gen.facts, Cert.RefKvProjDxIdeal.Gen.facts, Cert.KvProjDw.Gen.facts,
    Cert.KvProjDwIdeal.Gen.facts, Cert.RefKvProjDwIdeal.Gen.facts, Cert.RetProj.Gen.facts,
    Cert.RetProjIdeal.Gen.facts, Cert.RefRetProjIdeal.Gen.facts, Cert.FoxProj.Gen.facts,
    Cert.FoxProjIdeal.Gen.facts, Cert.RefFoxProjIdeal.Gen.facts, Cert.KvProj.Gen.facts, Cert.KvProjIdeal.Gen.facts,
    Cert.RefKvProjIdeal.Gen.facts, Cert.RetFwd.Gen.facts, Cert.RetFwdIdeal.Gen.facts, Cert.RefRetFwdIdeal.Gen.facts,
    Cert.FoxFwd.Gen.facts, Cert.FoxFwdIdeal.Gen.facts, Cert.RefFoxFwdIdeal.Gen.facts,
    Cert.RetMix.Gen.facts, Cert.RetMixIdeal.Gen.facts, Cert.RefRetMixIdeal.Gen.facts, Cert.FoxMix.Gen.facts,
    Cert.FoxMixIdeal.Gen.facts, Cert.RefFoxMixIdeal.Gen.facts,
    Cert.FoxGate.Gen.facts, Cert.FoxGateIdeal.Gen.facts, Cert.RefFoxGateIdeal.Gen.facts,
    Cert.ModMix.Gen.facts, Cert.ModMixIdeal.Gen.facts, Cert.RefModMixIdeal.Gen.facts,
    Cert.Rope.Gen.facts, Cert.RopeIdeal.Gen.facts, Cert.RefRopeIdeal.Gen.facts,
    Cert.RetGate.Gen.facts, Cert.RetGateIdeal.Gen.facts, Cert.RefRetGateIdeal.Gen.facts,
    Cert.ResMlp.Gen.facts, Cert.ResMlpIdeal.Gen.facts, Cert.RefResMlpIdeal.Gen.facts, Cert.Pre_finite_dq.Gen.facts,
    Cert.Pre_finite_dkv.Gen.facts, Cert.Pre_finite_ret_fwd.Gen.facts, Cert.Pre_finite_fox_fwd.Gen.facts,
    DqClaims.frame_p, DqClaims.frame_pi, DqClaims.frame_pi_pre, DqClaims.frame_r, DqClaims.frame_r_pre,
    DkvClaims.frame_p, DkvClaims.frame_pi, DkvClaims.frame_pi_pre, DkvClaims.frame_r, DkvClaims.frame_r_pre,
    MlpOutDx.frame_p, MlpOutDx.frame_pi, MlpOutDx.frame_r, MlpOutDw.frame_p, MlpOutDw.frame_pi, MlpOutDw.frame_r,
    MlpInDx.frame_p, MlpInDx.frame_pi, MlpInDx.frame_r, MlpInDw.frame_p, MlpInDw.frame_pi, MlpInDw.frame_r,
    MlpIn.frame_p, MlpIn.frame_pi, MlpIn.frame_r, MlpOut.frame_p, MlpOut.frame_pi, MlpOut.frame_r,
    RetProjDx.frame_p, RetProjDx.frame_pi, RetProjDx.frame_r, RetProjDw.frame_p, RetProjDw.frame_pi,
    RetProjDw.frame_r, RetOutDx.frame_p, RetOutDx.frame_pi, RetOutDx.frame_r, RetOutDw.frame_p, RetOutDw.frame_pi,
    RetOutDw.frame_r, FoxProjDx.frame_p, FoxProjDx.frame_pi, FoxProjDx.frame_r, FoxProjDw.frame_p,
    FoxProjDw.frame_pi, FoxProjDw.frame_r, FoxOutDx.frame_p, FoxOutDx.frame_pi, FoxOutDx.frame_r, FoxOutDw.frame_p,
    FoxOutDw.frame_pi, FoxOutDw.frame_r, KvProjDx.frame_p, KvProjDx.frame_pi, KvProjDx.frame_r, KvProjDw.frame_p,
    KvProjDw.frame_pi, KvProjDw.frame_r, RetProj.frame_p, RetProj.frame_pi, RetProj.frame_r, FoxProj.frame_p,
    FoxProj.frame_pi, FoxProj.frame_r, KvProj.frame_p, KvProj.frame_pi, KvProj.frame_r,
    RetClaims.frame_p, RetClaims.frame_pi, RetClaims.frame_pi_pre, RetClaims.frame_r, RetClaims.frame_r_pre,
    FoxClaims.frame_p, FoxClaims.frame_pi, FoxClaims.frame_pi_pre, FoxClaims.frame_r, FoxClaims.frame_r_pre,
    RetMix.frame_p, RetMix.frame_pi, RetMix.frame_r, FoxMix.frame_p, FoxMix.frame_pi, FoxMix.frame_r,
    FoxGate.frame_p, FoxGate.frame_pi, FoxGate.frame_r,
    ModMix.frame_p, ModMix.frame_pi, ModMix.frame_r,
    Rope.frame_p, Rope.frame_pi, Rope.frame_r,
    RetGate.frame_p, RetGate.frame_pi, RetGate.frame_r,
    ResMlp.frame_p, ResMlp.frame_pi, ResMlp.frame_r,
    DqClaims.preserves, DqClaims.algebraic, DkvClaims.preserves, DkvClaims.algebraic, MlpOutDx.preserves,
    MlpOutDx.algebraic, MlpOutDw.preserves, MlpOutDw.algebraic, MlpInDx.preserves, MlpInDx.algebraic,
    MlpInDw.preserves, MlpInDw.algebraic, MlpIn.preserves, MlpIn.algebraic, MlpOut.preserves, MlpOut.algebraic,
    RetProjDx.preserves, RetProjDx.algebraic, RetProjDw.preserves, RetProjDw.algebraic, RetOutDx.preserves,
    RetOutDx.algebraic, RetOutDw.preserves, RetOutDw.algebraic, FoxProjDx.preserves, FoxProjDx.algebraic,
    FoxProjDw.preserves, FoxProjDw.algebraic, FoxOutDx.preserves, FoxOutDx.algebraic, FoxOutDw.preserves,
    FoxOutDw.algebraic, KvProjDx.preserves, KvProjDx.algebraic, KvProjDw.preserves, KvProjDw.algebraic,
    RetProj.preserves, RetProj.algebraic, FoxProj.preserves, FoxProj.algebraic, KvProj.preserves, KvProj.algebraic,
    RetClaims.preserves, RetClaims.algebraic, FoxClaims.preserves, FoxClaims.algebraic,
    RetMix.preserves, RetMix.algebraic, FoxMix.preserves, FoxMix.algebraic, FoxGate.preserves, FoxGate.algebraic,
    ModMix.preserves, ModMix.algebraic, Rope.preserves, Rope.algebraic,
    RetGate.preserves, RetGate.algebraic, ResMlp.preserves, ResMlp.algebraic⟩

end Cert.Proof

end
